-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_precondition [hPre_precondition : Cert.Pre_precondition.Facts] (m : (ℓ : Loc Cert.KernelIdeal.nD Cert.KernelIdeal.τ Cert.KernelIdeal.sig) → Buf (Elt Ideal) ℓ) : Prop :=
  ∀ c : Dev Cert.KernelIdeal.nD,
    (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_precondition.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_precondition [hPre_precondition : Cert.Pre_precondition.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_precondition.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_ssd_finite [hPre_ssd_finite : Cert.Pre_ssd_finite.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_ssd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).1 = (fun _ => 1#1)
    ∧ (Cert.Pre_ssd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.1 = (fun _ => 1#1)
    ∧ (Cert.Pre_ssd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.1 = (fun _ => 1#1)
    ∧ (Cert.Pre_ssd_finite.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))).2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_ssd_finite [hPre_ssd_finite : Cert.Pre_ssd_finite.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_ssd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).1 = (fun _ => 1#1)
    ∧ (Cert.Pre_ssd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.1 = (fun _ => 1#1)
    ∧ (Cert.Pre_ssd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.1 = (fun _ => 1#1)
    ∧ (Cert.Pre_ssd_finite.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))).2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Reference34Ideal (m : (ℓ : Loc Cert.Reference34Ideal.nD Cert.Reference34Ideal.τ Cert.Reference34Ideal.sig) → Buf (Elt Ideal) ℓ) : Prop :=
  True

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Reference35Ideal (m : (ℓ : Loc Cert.Reference35Ideal.nD Cert.Reference35Ideal.τ Cert.Reference35Ideal.sig) → Buf (Elt Ideal) ℓ) : Prop :=
  True

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Reference37Ideal (m : (ℓ : Loc Cert.Reference37Ideal.nD Cert.Reference37Ideal.τ Cert.Reference37Ideal.sig) → Buf (Elt Ideal) ℓ) : Prop :=
  True

def Pre_Kernel38 (m : (ℓ : Loc Cert.Kernel38.nD Cert.Kernel38.τ Cert.Kernel38.sig) → Buf (Elt Bits) ℓ) : Prop :=
  True

def Pre_Kernel38Ideal (m : (ℓ : Loc Cert.Kernel38Ideal.nD Cert.Kernel38Ideal.τ Cert.Kernel38Ideal.sig) → Buf (Elt Ideal) ℓ) : Prop :=
  True

def Pre_Reference38Ideal (m : (ℓ : Loc Cert.Reference38Ideal.nD Cert.Reference38Ideal.τ Cert.Reference38Ideal.sig) → Buf (Elt Ideal) ℓ) : Prop :=
  True

def Pre_Kernel39 (m : (ℓ : Loc Cert.Kernel39.nD Cert.Kernel39.τ Cert.Kernel39.sig) → Buf (Elt Bits) ℓ) : Prop :=
  True

def Pre_Kernel39Ideal (m : (ℓ : Loc Cert.Kernel39Ideal.nD Cert.Kernel39Ideal.τ Cert.Kernel39Ideal.sig) → Buf (Elt Ideal) ℓ) : Prop :=
  True

def Pre_Reference39Ideal (m : (ℓ : Loc Cert.Reference39Ideal.nD Cert.Reference39Ideal.τ Cert.Reference39Ideal.sig) → Buf (Elt Ideal) ℓ) : Prop :=
  True

def Pre_Kernel40 (m : (ℓ : Loc Cert.Kernel40.nD Cert.Kernel40.τ Cert.Kernel40.sig) → Buf (Elt Bits) ℓ) : Prop :=
  True

def Pre_Kernel40Ideal (m : (ℓ : Loc Cert.Kernel40Ideal.nD Cert.Kernel40Ideal.τ Cert.Kernel40Ideal.sig) → Buf (Elt Ideal) ℓ) : Prop :=
  True

def Pre_Reference40Ideal (m : (ℓ : Loc Cert.Reference40Ideal.nD Cert.Reference40Ideal.τ Cert.Reference40Ideal.sig) → Buf (Elt Ideal) ℓ) : Prop :=
  True

def Pre_Kernel41 (m : (ℓ : Loc Cert.Kernel41.nD Cert.Kernel41.τ Cert.Kernel41.sig) → Buf (Elt Bits) ℓ) : Prop :=
  True

def Pre_Kernel41Ideal (m : (ℓ : Loc Cert.Kernel41Ideal.nD Cert.Kernel41Ideal.τ Cert.Kernel41Ideal.sig) → Buf (Elt Ideal) ℓ) : Prop :=
  True

def Pre_Reference41Ideal (m : (ℓ : Loc Cert.Reference41Ideal.nD Cert.Reference41Ideal.τ Cert.Reference41Ideal.sig) → Buf (Elt Ideal) ℓ) : Prop :=
  True

def Pre_Kernel42 (m : (ℓ : Loc Cert.Kernel42.nD Cert.Kernel42.τ Cert.Kernel42.sig) → Buf (Elt Bits) ℓ) : Prop :=
  True

def Pre_Kernel42Ideal (m : (ℓ : Loc Cert.Kernel42Ideal.nD Cert.Kernel42Ideal.τ Cert.Kernel42Ideal.sig) → Buf (Elt Ideal) ℓ) : Prop :=
  True

def Pre_Reference42Ideal (m : (ℓ : Loc Cert.Reference42Ideal.nD Cert.Reference42Ideal.τ Cert.Reference42Ideal.sig) → Buf (Elt Ideal) ℓ) : Prop :=
  True

def Pre_Kernel43 (m : (ℓ : Loc Cert.Kernel43.nD Cert.Kernel43.τ Cert.Kernel43.sig) → Buf (Elt Bits) ℓ) : Prop :=
  True

def Pre_Kernel43Ideal (m : (ℓ : Loc Cert.Kernel43Ideal.nD Cert.Kernel43Ideal.τ Cert.Kernel43Ideal.sig) → Buf (Elt Ideal) ℓ) : Prop :=
  True

def Pre_Reference43Ideal (m : (ℓ : Loc Cert.Reference43Ideal.nD Cert.Reference43Ideal.τ Cert.Reference43Ideal.sig) → Buf (Elt Ideal) ℓ) : Prop :=
  True

def Pre_Kernel44 (m : (ℓ : Loc Cert.Kernel44.nD Cert.Kernel44.τ Cert.Kernel44.sig) → Buf (Elt Bits) ℓ) : Prop :=
  True

def Pre_Kernel44Ideal (m : (ℓ : Loc Cert.Kernel44Ideal.nD Cert.Kernel44Ideal.τ Cert.Kernel44Ideal.sig) → Buf (Elt Ideal) ℓ) : Prop :=
  True

def Pre_Reference44Ideal (m : (ℓ : Loc Cert.Reference44Ideal.nD Cert.Reference44Ideal.τ Cert.Reference44Ideal.sig) → Buf (Elt Ideal) ℓ) : Prop :=
  True

def Pre_Kernel45 (m : (ℓ : Loc Cert.Kernel45.nD Cert.Kernel45.τ Cert.Kernel45.sig) → Buf (Elt Bits) ℓ) : Prop :=
  True

def Pre_Kernel45Ideal (m : (ℓ : Loc Cert.Kernel45Ideal.nD Cert.Kernel45Ideal.τ Cert.Kernel45Ideal.sig) → Buf (Elt Ideal) ℓ) : Prop :=
  True

def Pre_Reference45Ideal (m : (ℓ : Loc Cert.Reference45Ideal.nD Cert.Reference45Ideal.τ Cert.Reference45Ideal.sig) → Buf (Elt Ideal) ℓ) : Prop :=
  True

def Pre_Kernel46 (m : (ℓ : Loc Cert.Kernel46.nD Cert.Kernel46.τ Cert.Kernel46.sig) → Buf (Elt Bits) ℓ) : Prop :=
  True

def Pre_Kernel46Ideal (m : (ℓ : Loc Cert.Kernel46Ideal.nD Cert.Kernel46Ideal.τ Cert.Kernel46Ideal.sig) → Buf (Elt Ideal) ℓ) : Prop :=
  True

def Pre_Reference46Ideal (m : (ℓ : Loc Cert.Reference46Ideal.nD Cert.Reference46Ideal.τ Cert.Reference46Ideal.sig) → Buf (Elt Ideal) ℓ) : Prop :=
  True

def Pre_Kernel47 (m : (ℓ : Loc Cert.Kernel47.nD Cert.Kernel47.τ Cert.Kernel47.sig) → Buf (Elt Bits) ℓ) : Prop :=
  True

def Pre_Kernel47Ideal (m : (ℓ : Loc Cert.Kernel47Ideal.nD Cert.Kernel47Ideal.τ Cert.Kernel47Ideal.sig) → Buf (Elt Ideal) ℓ) : Prop :=
  True

def Pre_Kernel47Ideal_conv_finite [hPre_conv_finite : Cert.Pre_conv_finite.Facts] (m : (ℓ : Loc Cert.Kernel47Ideal.nD Cert.Kernel47Ideal.τ Cert.Kernel47Ideal.sig) → Buf (Elt Ideal) ℓ) : Prop :=
  ∀ c : Dev Cert.Kernel47Ideal.nD,
    (Cert.Pre_conv_finite.fn (F := Ideal) (m ((c.tc : Thread Cert.Kernel47Ideal.nD Cert.Kernel47Ideal.τ).loc Cert.Kernel47Ideal.main_arg0)) (m ((c.tc : Thread Cert.Kernel47Ideal.nD Cert.Kernel47Ideal.τ).loc Cert.Kernel47Ideal.main_arg1)) (m ((c.tc : Thread Cert.Kernel47Ideal.nD Cert.Kernel47Ideal.τ).loc Cert.Kernel47Ideal.main_arg2)) (m ((c.tc : Thread Cert.Kernel47Ideal.nD Cert.Kernel47Ideal.τ).loc Cert.Kernel47Ideal.main_arg3))) = (fun _ => 1#1)

def Pre_Reference47Ideal (m : (ℓ : Loc Cert.Reference47Ideal.nD Cert.Reference47Ideal.τ Cert.Reference47Ideal.sig) → Buf (Elt Ideal) ℓ) : Prop :=
  True

def Pre_Reference47Ideal_conv_finite [hPre_conv_finite : Cert.Pre_conv_finite.Facts] (m : (ℓ : Loc Cert.Reference47Ideal.nD Cert.Reference47Ideal.τ Cert.Reference47Ideal.sig) → Buf (Elt Ideal) ℓ) : Prop :=
  ∀ c : Dev Cert.Reference47Ideal.nD,
    (Cert.Pre_conv_finite.fn (F := Ideal) (m ((c.tc : Thread Cert.Reference47Ideal.nD Cert.Reference47Ideal.τ).loc Cert.Reference47Ideal.main_arg0)) (m ((c.tc : Thread Cert.Reference47Ideal.nD Cert.Reference47Ideal.τ).loc Cert.Reference47Ideal.main_arg1)) (m ((c.tc : Thread Cert.Reference47Ideal.nD Cert.Reference47Ideal.τ).loc Cert.Reference47Ideal.main_arg2)) (m ((c.tc : Thread Cert.Reference47Ideal.nD Cert.Reference47Ideal.τ).loc Cert.Reference47Ideal.main_arg3))) = (fun _ => 1#1)

def Pre_Kernel48 (m : (ℓ : Loc Cert.Kernel48.nD Cert.Kernel48.τ Cert.Kernel48.sig) → Buf (Elt Bits) ℓ) : Prop :=
  True

def Pre_Kernel48Ideal (m : (ℓ : Loc Cert.Kernel48Ideal.nD Cert.Kernel48Ideal.τ Cert.Kernel48Ideal.sig) → Buf (Elt Ideal) ℓ) : Prop :=
  True

def Pre_Reference48Ideal (m : (ℓ : Loc Cert.Reference48Ideal.nD Cert.Reference48Ideal.τ Cert.Reference48Ideal.sig) → Buf (Elt Ideal) ℓ) : Prop :=
  True

def Pre_Kernel49 (m : (ℓ : Loc Cert.Kernel49.nD Cert.Kernel49.τ Cert.Kernel49.sig) → Buf (Elt Bits) ℓ) : Prop :=
  True

def Pre_Kernel49Ideal (m : (ℓ : Loc Cert.Kernel49Ideal.nD Cert.Kernel49Ideal.τ Cert.Kernel49Ideal.sig) → Buf (Elt Ideal) ℓ) : Prop :=
  True

def Pre_Reference49Ideal (m : (ℓ : Loc Cert.Reference49Ideal.nD Cert.Reference49Ideal.τ Cert.Reference49Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_precondition [hKernelIdeal : Cert.KernelIdeal.Facts] [hPre_precondition : Cert.Pre_precondition.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_precondition m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_precondition [hReferenceIdeal : Cert.ReferenceIdeal.Facts] [hPre_precondition : Cert.Pre_precondition.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_precondition m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_ssd_finite [hKernel6Ideal : Cert.Kernel6Ideal.Facts] [hPre_ssd_finite : Cert.Pre_ssd_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_ssd_finite m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_ssd_finite [hReference6Ideal : Cert.Reference6Ideal.Facts] [hPre_ssd_finite : Cert.Pre_ssd_finite.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_ssd_finite m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2)
      ∧ r.2.mem ((c.tc : Thread Cert.Kernel33.nD Cert.Kernel33.τ).loc Cert.Kernel33.main_arg3) = m ((c.tc : Thread Cert.Kernel33.nD Cert.Kernel33.τ).loc Cert.Kernel33.main_arg3))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
      ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2)
      ∧ r.2.mem ((c.tc : Thread Cert.Reference33Ideal.nD Cert.Reference33Ideal.τ).loc Cert.Reference33Ideal.main_arg3) = m ((c.tc : Thread Cert.Reference33Ideal.nD Cert.Reference33Ideal.τ).loc Cert.Reference33Ideal.main_arg3))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2)
      ∧ r.2.mem ((c.tc : Thread Cert.Kernel37.nD Cert.Kernel37.τ).loc Cert.Kernel37.main_arg3) = m ((c.tc : Thread Cert.Kernel37.nD Cert.Kernel37.τ).loc Cert.Kernel37.main_arg3))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
      ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2)
      ∧ r.2.mem ((c.tc : Thread Cert.Reference37Ideal.nD Cert.Reference37Ideal.τ).loc Cert.Reference37Ideal.main_arg3) = m ((c.tc : Thread Cert.Reference37Ideal.nD Cert.Reference37Ideal.τ).loc Cert.Reference37Ideal.main_arg3))
      ∧ r.2.sem = fun _ => 0)

def quiescent_Kernel38 [hKernel38 : Cert.Kernel38.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2)
      ∧ r.2.mem ((c.tc : Thread Cert.Kernel38.nD Cert.Kernel38.τ).loc Cert.Kernel38.main_arg3) = m ((c.tc : Thread Cert.Kernel38.nD Cert.Kernel38.τ).loc Cert.Kernel38.main_arg3))
      ∧ r.2.sem = fun _ => 0)

def quiescent_Kernel38Ideal [hKernel38Ideal : Cert.Kernel38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
      ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2)
      ∧ r.2.mem ((c.tc : Thread Cert.Reference38Ideal.nD Cert.Reference38Ideal.τ).loc Cert.Reference38Ideal.main_arg3) = m ((c.tc : Thread Cert.Reference38Ideal.nD Cert.Reference38Ideal.τ).loc Cert.Reference38Ideal.main_arg3))
      ∧ r.2.sem = fun _ => 0)

def quiescent_Kernel39 [hKernel39 : Cert.Kernel39.Facts] : Prop :=
  ∀ (m : (ℓ : Loc Cert.Kernel39.nD Cert.Kernel39.τ Cert.Kernel39.sig) → Buf (Elt Bits) ℓ) (g : Dev Cert.Kernel39.nD → PrngReg), Pre_Kernel39 m →
    θ_run (Cert.Kernel39.defs (F := Bits)) (onTc (τ := Cert.Kernel39.τ) (Cert.Kernel39.main (F := Bits))) ⟨m, fun _ => 0, g⟩ (fun r => (∀ c : Dev Cert.Kernel39.nD,
      r.2.mem ((c.tc : Thread Cert.Kernel39.nD Cert.Kernel39.τ).loc Cert.Kernel39.main_arg0) = m ((c.tc : Thread Cert.Kernel39.nD Cert.Kernel39.τ).loc Cert.Kernel39.main_arg0)
      ∧ r.2.mem ((c.tc : Thread Cert.Kernel39.nD Cert.Kernel39.τ).loc Cert.Kernel39.main_arg1) = m ((c.tc : Thread Cert.Kernel39.nD Cert.Kernel39.τ).loc Cert.Kernel39.main_arg1)
      ∧ r.2.mem ((c.tc : Thread Cert.Kernel39.nD Cert.Kernel39.τ).loc Cert.Kernel39.main_arg2) = m ((c.tc : Thread Cert.Kernel39.nD Cert.Kernel39.τ).loc Cert.Kernel39.main_arg2)
      ∧ r.2.mem ((c.tc : Thread Cert.Kernel39.nD Cert.Kernel39.τ).loc Cert.Kernel39.main_arg3) = m ((c.tc : Thread Cert.Kernel39.nD Cert.Kernel39.τ).loc Cert.Kernel39.main_arg3))
      ∧ r.2.sem = fun _ => 0)

def quiescent_Kernel39Ideal [hKernel39Ideal : Cert.Kernel39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg), Pre_Kernel39Ideal m →
    θ_run (Cert.Kernel39Ideal.defs (F := Ideal)) (onTc (τ := Cert.Kernel39Ideal.τ) (Cert.Kernel39Ideal.main (F := Ideal))) ⟨m, fun _ => 0, g⟩ (fun r => (∀ c : Dev Cert.Kernel39Ideal.nD,
      r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
      ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
      ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
      ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ r.2.sem = fun _ => 0)

def quiescent_Reference39Ideal [hReference39Ideal : Cert.Reference39Ideal.Facts] : Prop :=
  ∀ (m : (ℓ : Loc Cert.Reference39Ideal.nD Cert.Reference39Ideal.τ Cert.Reference39Ideal.sig) → Buf (Elt Ideal) ℓ) (g : Dev Cert.Reference39Ideal.nD → PrngReg), Pre_Reference39Ideal m →
    θ_run (Cert.Reference39Ideal.defs (F := Ideal)) (onTc (τ := Cert.Reference39Ideal.τ) (Cert.Reference39Ideal.main (F := Ideal))) ⟨m, fun _ => 0, g⟩ (fun r => (∀ c : Dev Cert.Reference39Ideal.nD,
      r.2.mem ((c.tc : Thread Cert.Reference39Ideal.nD Cert.Reference39Ideal.τ).loc Cert.Reference39Ideal.main_arg0) = m ((c.tc : Thread Cert.Reference39Ideal.nD Cert.Reference39Ideal.τ).loc Cert.Reference39Ideal.main_arg0)
      ∧ r.2.mem ((c.tc : Thread Cert.Reference39Ideal.nD Cert.Reference39Ideal.τ).loc Cert.Reference39Ideal.main_arg1) = m ((c.tc : Thread Cert.Reference39Ideal.nD Cert.Reference39Ideal.τ).loc Cert.Reference39Ideal.main_arg1)
      ∧ r.2.mem ((c.tc : Thread Cert.Reference39Ideal.nD Cert.Reference39Ideal.τ).loc Cert.Reference39Ideal.main_arg2) = m ((c.tc : Thread Cert.Reference39Ideal.nD Cert.Reference39Ideal.τ).loc Cert.Reference39Ideal.main_arg2)
      ∧ r.2.mem ((c.tc : Thread Cert.Reference39Ideal.nD Cert.Reference39Ideal.τ).loc Cert.Reference39Ideal.main_arg3) = m ((c.tc : Thread Cert.Reference39Ideal.nD Cert.Reference39Ideal.τ).loc Cert.Reference39Ideal.main_arg3))
      ∧ r.2.sem = fun _ => 0)

def quiescent_Kernel40 [hKernel40 : Cert.Kernel40.Facts] : Prop :=
  ∀ (m : (ℓ : Loc Cert.Kernel40.nD Cert.Kernel40.τ Cert.Kernel40.sig) → Buf (Elt Bits) ℓ) (g : Dev Cert.Kernel40.nD → PrngReg), Pre_Kernel40 m →
    θ_run (Cert.Kernel40.defs (F := Bits)) (onTc (τ := Cert.Kernel40.τ) (Cert.Kernel40.main (F := Bits))) ⟨m, fun _ => 0, g⟩ (fun r => (∀ c : Dev Cert.Kernel40.nD,
      r.2.mem ((c.tc : Thread Cert.Kernel40.nD Cert.Kernel40.τ).loc Cert.Kernel40.main_arg0) = m ((c.tc : Thread Cert.Kernel40.nD Cert.Kernel40.τ).loc Cert.Kernel40.main_arg0)
      ∧ r.2.mem ((c.tc : Thread Cert.Kernel40.nD Cert.Kernel40.τ).loc Cert.Kernel40.main_arg1) = m ((c.tc : Thread Cert.Kernel40.nD Cert.Kernel40.τ).loc Cert.Kernel40.main_arg1)
      ∧ r.2.mem ((c.tc : Thread Cert.Kernel40.nD Cert.Kernel40.τ).loc Cert.Kernel40.main_arg2) = m ((c.tc : Thread Cert.Kernel40.nD Cert.Kernel40.τ).loc Cert.Kernel40.main_arg2)
      ∧ r.2.mem ((c.tc : Thread Cert.Kernel40.nD Cert.Kernel40.τ).loc Cert.Kernel40.main_arg3) = m ((c.tc : Thread Cert.Kernel40.nD Cert.Kernel40.τ).loc Cert.Kernel40.main_arg3))
      ∧ r.2.sem = fun _ => 0)

def quiescent_Kernel40Ideal [hKernel40Ideal : Cert.Kernel40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg), Pre_Kernel40Ideal m →
    θ_run (Cert.Kernel40Ideal.defs (F := Ideal)) (onTc (τ := Cert.Kernel40Ideal.τ) (Cert.Kernel40Ideal.main (F := Ideal))) ⟨m, fun _ => 0, g⟩ (fun r => (∀ c : Dev Cert.Kernel40Ideal.nD,
      r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
      ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
      ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
      ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ r.2.sem = fun _ => 0)

def quiescent_Reference40Ideal [hReference40Ideal : Cert.Reference40Ideal.Facts] : Prop :=
  ∀ (m : (ℓ : Loc Cert.Reference40Ideal.nD Cert.Reference40Ideal.τ Cert.Reference40Ideal.sig) → Buf (Elt Ideal) ℓ) (g : Dev Cert.Reference40Ideal.nD → PrngReg), Pre_Reference40Ideal m →
    θ_run (Cert.Reference40Ideal.defs (F := Ideal)) (onTc (τ := Cert.Reference40Ideal.τ) (Cert.Reference40Ideal.main (F := Ideal))) ⟨m, fun _ => 0, g⟩ (fun r => (∀ c : Dev Cert.Reference40Ideal.nD,
      r.2.mem ((c.tc : Thread Cert.Reference40Ideal.nD Cert.Reference40Ideal.τ).loc Cert.Reference40Ideal.main_arg0) = m ((c.tc : Thread Cert.Reference40Ideal.nD Cert.Reference40Ideal.τ).loc Cert.Reference40Ideal.main_arg0)
      ∧ r.2.mem ((c.tc : Thread Cert.Reference40Ideal.nD Cert.Reference40Ideal.τ).loc Cert.Reference40Ideal.main_arg1) = m ((c.tc : Thread Cert.Reference40Ideal.nD Cert.Reference40Ideal.τ).loc Cert.Reference40Ideal.main_arg1)
      ∧ r.2.mem ((c.tc : Thread Cert.Reference40Ideal.nD Cert.Reference40Ideal.τ).loc Cert.Reference40Ideal.main_arg2) = m ((c.tc : Thread Cert.Reference40Ideal.nD Cert.Reference40Ideal.τ).loc Cert.Reference40Ideal.main_arg2)
      ∧ r.2.mem ((c.tc : Thread Cert.Reference40Ideal.nD Cert.Reference40Ideal.τ).loc Cert.Reference40Ideal.main_arg3) = m ((c.tc : Thread Cert.Reference40Ideal.nD Cert.Reference40Ideal.τ).loc Cert.Reference40Ideal.main_arg3))
      ∧ r.2.sem = fun _ => 0)

def quiescent_Kernel41 [hKernel41 : Cert.Kernel41.Facts] : Prop :=
  ∀ (m : (ℓ : Loc Cert.Kernel41.nD Cert.Kernel41.τ Cert.Kernel41.sig) → Buf (Elt Bits) ℓ) (g : Dev Cert.Kernel41.nD → PrngReg), Pre_Kernel41 m →
    θ_run (Cert.Kernel41.defs (F := Bits)) (onTc (τ := Cert.Kernel41.τ) (Cert.Kernel41.main (F := Bits))) ⟨m, fun _ => 0, g⟩ (fun r => (∀ c : Dev Cert.Kernel41.nD,
      r.2.mem ((c.tc : Thread Cert.Kernel41.nD Cert.Kernel41.τ).loc Cert.Kernel41.main_arg0) = m ((c.tc : Thread Cert.Kernel41.nD Cert.Kernel41.τ).loc Cert.Kernel41.main_arg0)
      ∧ r.2.mem ((c.tc : Thread Cert.Kernel41.nD Cert.Kernel41.τ).loc Cert.Kernel41.main_arg1) = m ((c.tc : Thread Cert.Kernel41.nD Cert.Kernel41.τ).loc Cert.Kernel41.main_arg1)
      ∧ r.2.mem ((c.tc : Thread Cert.Kernel41.nD Cert.Kernel41.τ).loc Cert.Kernel41.main_arg2) = m ((c.tc : Thread Cert.Kernel41.nD Cert.Kernel41.τ).loc Cert.Kernel41.main_arg2))
      ∧ r.2.sem = fun _ => 0)

def quiescent_Kernel41Ideal [hKernel41Ideal : Cert.Kernel41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg), Pre_Kernel41Ideal m →
    θ_run (Cert.Kernel41Ideal.defs (F := Ideal)) (onTc (τ := Cert.Kernel41Ideal.τ) (Cert.Kernel41Ideal.main (F := Ideal))) ⟨m, fun _ => 0, g⟩ (fun r => (∀ c : Dev Cert.Kernel41Ideal.nD,
      r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
      ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
      ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ r.2.sem = fun _ => 0)

def quiescent_Reference41Ideal [hReference41Ideal : Cert.Reference41Ideal.Facts] : Prop :=
  ∀ (m : (ℓ : Loc Cert.Reference41Ideal.nD Cert.Reference41Ideal.τ Cert.Reference41Ideal.sig) → Buf (Elt Ideal) ℓ) (g : Dev Cert.Reference41Ideal.nD → PrngReg), Pre_Reference41Ideal m →
    θ_run (Cert.Reference41Ideal.defs (F := Ideal)) (onTc (τ := Cert.Reference41Ideal.τ) (Cert.Reference41Ideal.main (F := Ideal))) ⟨m, fun _ => 0, g⟩ (fun r => (∀ c : Dev Cert.Reference41Ideal.nD,
      r.2.mem ((c.tc : Thread Cert.Reference41Ideal.nD Cert.Reference41Ideal.τ).loc Cert.Reference41Ideal.main_arg0) = m ((c.tc : Thread Cert.Reference41Ideal.nD Cert.Reference41Ideal.τ).loc Cert.Reference41Ideal.main_arg0)
      ∧ r.2.mem ((c.tc : Thread Cert.Reference41Ideal.nD Cert.Reference41Ideal.τ).loc Cert.Reference41Ideal.main_arg1) = m ((c.tc : Thread Cert.Reference41Ideal.nD Cert.Reference41Ideal.τ).loc Cert.Reference41Ideal.main_arg1)
      ∧ r.2.mem ((c.tc : Thread Cert.Reference41Ideal.nD Cert.Reference41Ideal.τ).loc Cert.Reference41Ideal.main_arg2) = m ((c.tc : Thread Cert.Reference41Ideal.nD Cert.Reference41Ideal.τ).loc Cert.Reference41Ideal.main_arg2))
      ∧ r.2.sem = fun _ => 0)

def quiescent_Kernel42 [hKernel42 : Cert.Kernel42.Facts] : Prop :=
  ∀ (m : (ℓ : Loc Cert.Kernel42.nD Cert.Kernel42.τ Cert.Kernel42.sig) → Buf (Elt Bits) ℓ) (g : Dev Cert.Kernel42.nD → PrngReg), Pre_Kernel42 m →
    θ_run (Cert.Kernel42.defs (F := Bits)) (onTc (τ := Cert.Kernel42.τ) (Cert.Kernel42.main (F := Bits))) ⟨m, fun _ => 0, g⟩ (fun r => (∀ c : Dev Cert.Kernel42.nD,
      r.2.mem ((c.tc : Thread Cert.Kernel42.nD Cert.Kernel42.τ).loc Cert.Kernel42.main_arg0) = m ((c.tc : Thread Cert.Kernel42.nD Cert.Kernel42.τ).loc Cert.Kernel42.main_arg0)
      ∧ r.2.mem ((c.tc : Thread Cert.Kernel42.nD Cert.Kernel42.τ).loc Cert.Kernel42.main_arg1) = m ((c.tc : Thread Cert.Kernel42.nD Cert.Kernel42.τ).loc Cert.Kernel42.main_arg1))
      ∧ r.2.sem = fun _ => 0)

def quiescent_Kernel42Ideal [hKernel42Ideal : Cert.Kernel42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg), Pre_Kernel42Ideal m →
    θ_run (Cert.Kernel42Ideal.defs (F := Ideal)) (onTc (τ := Cert.Kernel42Ideal.τ) (Cert.Kernel42Ideal.main (F := Ideal))) ⟨m, fun _ => 0, g⟩ (fun r => (∀ c : Dev Cert.Kernel42Ideal.nD,
      r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
      ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ r.2.sem = fun _ => 0)

def quiescent_Reference42Ideal [hReference42Ideal : Cert.Reference42Ideal.Facts] : Prop :=
  ∀ (m : (ℓ : Loc Cert.Reference42Ideal.nD Cert.Reference42Ideal.τ Cert.Reference42Ideal.sig) → Buf (Elt Ideal) ℓ) (g : Dev Cert.Reference42Ideal.nD → PrngReg), Pre_Reference42Ideal m →
    θ_run (Cert.Reference42Ideal.defs (F := Ideal)) (onTc (τ := Cert.Reference42Ideal.τ) (Cert.Reference42Ideal.main (F := Ideal))) ⟨m, fun _ => 0, g⟩ (fun r => (∀ c : Dev Cert.Reference42Ideal.nD,
      r.2.mem ((c.tc : Thread Cert.Reference42Ideal.nD Cert.Reference42Ideal.τ).loc Cert.Reference42Ideal.main_arg0) = m ((c.tc : Thread Cert.Reference42Ideal.nD Cert.Reference42Ideal.τ).loc Cert.Reference42Ideal.main_arg0)
      ∧ r.2.mem ((c.tc : Thread Cert.Reference42Ideal.nD Cert.Reference42Ideal.τ).loc Cert.Reference42Ideal.main_arg1) = m ((c.tc : Thread Cert.Reference42Ideal.nD Cert.Reference42Ideal.τ).loc Cert.Reference42Ideal.main_arg1))
      ∧ r.2.sem = fun _ => 0)

def quiescent_Kernel43 [hKernel43 : Cert.Kernel43.Facts] : Prop :=
  ∀ (m : (ℓ : Loc Cert.Kernel43.nD Cert.Kernel43.τ Cert.Kernel43.sig) → Buf (Elt Bits) ℓ) (g : Dev Cert.Kernel43.nD → PrngReg), Pre_Kernel43 m →
    θ_run (Cert.Kernel43.defs (F := Bits)) (onTc (τ := Cert.Kernel43.τ) (Cert.Kernel43.main (F := Bits))) ⟨m, fun _ => 0, g⟩ (fun r => (∀ c : Dev Cert.Kernel43.nD,
      r.2.mem ((c.tc : Thread Cert.Kernel43.nD Cert.Kernel43.τ).loc Cert.Kernel43.main_arg0) = m ((c.tc : Thread Cert.Kernel43.nD Cert.Kernel43.τ).loc Cert.Kernel43.main_arg0)
      ∧ r.2.mem ((c.tc : Thread Cert.Kernel43.nD Cert.Kernel43.τ).loc Cert.Kernel43.main_arg1) = m ((c.tc : Thread Cert.Kernel43.nD Cert.Kernel43.τ).loc Cert.Kernel43.main_arg1)
      ∧ r.2.mem ((c.tc : Thread Cert.Kernel43.nD Cert.Kernel43.τ).loc Cert.Kernel43.main_arg2) = m ((c.tc : Thread Cert.Kernel43.nD Cert.Kernel43.τ).loc Cert.Kernel43.main_arg2)
      ∧ r.2.mem ((c.tc : Thread Cert.Kernel43.nD Cert.Kernel43.τ).loc Cert.Kernel43.main_arg3) = m ((c.tc : Thread Cert.Kernel43.nD Cert.Kernel43.τ).loc Cert.Kernel43.main_arg3))
      ∧ r.2.sem = fun _ => 0)

def quiescent_Kernel43Ideal [hKernel43Ideal : Cert.Kernel43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg), Pre_Kernel43Ideal m →
    θ_run (Cert.Kernel43Ideal.defs (F := Ideal)) (onTc (τ := Cert.Kernel43Ideal.τ) (Cert.Kernel43Ideal.main (F := Ideal))) ⟨m, fun _ => 0, g⟩ (fun r => (∀ c : Dev Cert.Kernel43Ideal.nD,
      r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
      ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
      ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
      ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ r.2.sem = fun _ => 0)

def quiescent_Reference43Ideal [hReference43Ideal : Cert.Reference43Ideal.Facts] : Prop :=
  ∀ (m : (ℓ : Loc Cert.Reference43Ideal.nD Cert.Reference43Ideal.τ Cert.Reference43Ideal.sig) → Buf (Elt Ideal) ℓ) (g : Dev Cert.Reference43Ideal.nD → PrngReg), Pre_Reference43Ideal m →
    θ_run (Cert.Reference43Ideal.defs (F := Ideal)) (onTc (τ := Cert.Reference43Ideal.τ) (Cert.Reference43Ideal.main (F := Ideal))) ⟨m, fun _ => 0, g⟩ (fun r => (∀ c : Dev Cert.Reference43Ideal.nD,
      r.2.mem ((c.tc : Thread Cert.Reference43Ideal.nD Cert.Reference43Ideal.τ).loc Cert.Reference43Ideal.main_arg0) = m ((c.tc : Thread Cert.Reference43Ideal.nD Cert.Reference43Ideal.τ).loc Cert.Reference43Ideal.main_arg0)
      ∧ r.2.mem ((c.tc : Thread Cert.Reference43Ideal.nD Cert.Reference43Ideal.τ).loc Cert.Reference43Ideal.main_arg1) = m ((c.tc : Thread Cert.Reference43Ideal.nD Cert.Reference43Ideal.τ).loc Cert.Reference43Ideal.main_arg1)
      ∧ r.2.mem ((c.tc : Thread Cert.Reference43Ideal.nD Cert.Reference43Ideal.τ).loc Cert.Reference43Ideal.main_arg2) = m ((c.tc : Thread Cert.Reference43Ideal.nD Cert.Reference43Ideal.τ).loc Cert.Reference43Ideal.main_arg2)
      ∧ r.2.mem ((c.tc : Thread Cert.Reference43Ideal.nD Cert.Reference43Ideal.τ).loc Cert.Reference43Ideal.main_arg3) = m ((c.tc : Thread Cert.Reference43Ideal.nD Cert.Reference43Ideal.τ).loc Cert.Reference43Ideal.main_arg3))
      ∧ r.2.sem = fun _ => 0)

def quiescent_Kernel44 [hKernel44 : Cert.Kernel44.Facts] : Prop :=
  ∀ (m : (ℓ : Loc Cert.Kernel44.nD Cert.Kernel44.τ Cert.Kernel44.sig) → Buf (Elt Bits) ℓ) (g : Dev Cert.Kernel44.nD → PrngReg), Pre_Kernel44 m →
    θ_run (Cert.Kernel44.defs (F := Bits)) (onTc (τ := Cert.Kernel44.τ) (Cert.Kernel44.main (F := Bits))) ⟨m, fun _ => 0, g⟩ (fun r => (∀ c : Dev Cert.Kernel44.nD,
      r.2.mem ((c.tc : Thread Cert.Kernel44.nD Cert.Kernel44.τ).loc Cert.Kernel44.main_arg0) = m ((c.tc : Thread Cert.Kernel44.nD Cert.Kernel44.τ).loc Cert.Kernel44.main_arg0)
      ∧ r.2.mem ((c.tc : Thread Cert.Kernel44.nD Cert.Kernel44.τ).loc Cert.Kernel44.main_arg1) = m ((c.tc : Thread Cert.Kernel44.nD Cert.Kernel44.τ).loc Cert.Kernel44.main_arg1))
      ∧ r.2.sem = fun _ => 0)

def quiescent_Kernel44Ideal [hKernel44Ideal : Cert.Kernel44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg), Pre_Kernel44Ideal m →
    θ_run (Cert.Kernel44Ideal.defs (F := Ideal)) (onTc (τ := Cert.Kernel44Ideal.τ) (Cert.Kernel44Ideal.main (F := Ideal))) ⟨m, fun _ => 0, g⟩ (fun r => (∀ c : Dev Cert.Kernel44Ideal.nD,
      r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
      ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ r.2.sem = fun _ => 0)

def quiescent_Reference44Ideal [hReference44Ideal : Cert.Reference44Ideal.Facts] : Prop :=
  ∀ (m : (ℓ : Loc Cert.Reference44Ideal.nD Cert.Reference44Ideal.τ Cert.Reference44Ideal.sig) → Buf (Elt Ideal) ℓ) (g : Dev Cert.Reference44Ideal.nD → PrngReg), Pre_Reference44Ideal m →
    θ_run (Cert.Reference44Ideal.defs (F := Ideal)) (onTc (τ := Cert.Reference44Ideal.τ) (Cert.Reference44Ideal.main (F := Ideal))) ⟨m, fun _ => 0, g⟩ (fun r => (∀ c : Dev Cert.Reference44Ideal.nD,
      r.2.mem ((c.tc : Thread Cert.Reference44Ideal.nD Cert.Reference44Ideal.τ).loc Cert.Reference44Ideal.main_arg0) = m ((c.tc : Thread Cert.Reference44Ideal.nD Cert.Reference44Ideal.τ).loc Cert.Reference44Ideal.main_arg0)
      ∧ r.2.mem ((c.tc : Thread Cert.Reference44Ideal.nD Cert.Reference44Ideal.τ).loc Cert.Reference44Ideal.main_arg1) = m ((c.tc : Thread Cert.Reference44Ideal.nD Cert.Reference44Ideal.τ).loc Cert.Reference44Ideal.main_arg1))
      ∧ r.2.sem = fun _ => 0)

def quiescent_Kernel45 [hKernel45 : Cert.Kernel45.Facts] : Prop :=
  ∀ (m : (ℓ : Loc Cert.Kernel45.nD Cert.Kernel45.τ Cert.Kernel45.sig) → Buf (Elt Bits) ℓ) (g : Dev Cert.Kernel45.nD → PrngReg), Pre_Kernel45 m →
    θ_run (Cert.Kernel45.defs (F := Bits)) (onTc (τ := Cert.Kernel45.τ) (Cert.Kernel45.main (F := Bits))) ⟨m, fun _ => 0, g⟩ (fun r => (∀ c : Dev Cert.Kernel45.nD,
      r.2.mem ((c.tc : Thread Cert.Kernel45.nD Cert.Kernel45.τ).loc Cert.Kernel45.main_arg0) = m ((c.tc : Thread Cert.Kernel45.nD Cert.Kernel45.τ).loc Cert.Kernel45.main_arg0)
      ∧ r.2.mem ((c.tc : Thread Cert.Kernel45.nD Cert.Kernel45.τ).loc Cert.Kernel45.main_arg1) = m ((c.tc : Thread Cert.Kernel45.nD Cert.Kernel45.τ).loc Cert.Kernel45.main_arg1)
      ∧ r.2.mem ((c.tc : Thread Cert.Kernel45.nD Cert.Kernel45.τ).loc Cert.Kernel45.main_arg2) = m ((c.tc : Thread Cert.Kernel45.nD Cert.Kernel45.τ).loc Cert.Kernel45.main_arg2))
      ∧ r.2.sem = fun _ => 0)

def quiescent_Kernel45Ideal [hKernel45Ideal : Cert.Kernel45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg), Pre_Kernel45Ideal m →
    θ_run (Cert.Kernel45Ideal.defs (F := Ideal)) (onTc (τ := Cert.Kernel45Ideal.τ) (Cert.Kernel45Ideal.main (F := Ideal))) ⟨m, fun _ => 0, g⟩ (fun r => (∀ c : Dev Cert.Kernel45Ideal.nD,
      r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
      ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
      ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ r.2.sem = fun _ => 0)

def quiescent_Reference45Ideal [hReference45Ideal : Cert.Reference45Ideal.Facts] : Prop :=
  ∀ (m : (ℓ : Loc Cert.Reference45Ideal.nD Cert.Reference45Ideal.τ Cert.Reference45Ideal.sig) → Buf (Elt Ideal) ℓ) (g : Dev Cert.Reference45Ideal.nD → PrngReg), Pre_Reference45Ideal m →
    θ_run (Cert.Reference45Ideal.defs (F := Ideal)) (onTc (τ := Cert.Reference45Ideal.τ) (Cert.Reference45Ideal.main (F := Ideal))) ⟨m, fun _ => 0, g⟩ (fun r => (∀ c : Dev Cert.Reference45Ideal.nD,
      r.2.mem ((c.tc : Thread Cert.Reference45Ideal.nD Cert.Reference45Ideal.τ).loc Cert.Reference45Ideal.main_arg0) = m ((c.tc : Thread Cert.Reference45Ideal.nD Cert.Reference45Ideal.τ).loc Cert.Reference45Ideal.main_arg0)
      ∧ r.2.mem ((c.tc : Thread Cert.Reference45Ideal.nD Cert.Reference45Ideal.τ).loc Cert.Reference45Ideal.main_arg1) = m ((c.tc : Thread Cert.Reference45Ideal.nD Cert.Reference45Ideal.τ).loc Cert.Reference45Ideal.main_arg1)
      ∧ r.2.mem ((c.tc : Thread Cert.Reference45Ideal.nD Cert.Reference45Ideal.τ).loc Cert.Reference45Ideal.main_arg2) = m ((c.tc : Thread Cert.Reference45Ideal.nD Cert.Reference45Ideal.τ).loc Cert.Reference45Ideal.main_arg2))
      ∧ r.2.sem = fun _ => 0)

def quiescent_Kernel46 [hKernel46 : Cert.Kernel46.Facts] : Prop :=
  ∀ (m : (ℓ : Loc Cert.Kernel46.nD Cert.Kernel46.τ Cert.Kernel46.sig) → Buf (Elt Bits) ℓ) (g : Dev Cert.Kernel46.nD → PrngReg), Pre_Kernel46 m →
    θ_run (Cert.Kernel46.defs (F := Bits)) (onTc (τ := Cert.Kernel46.τ) (Cert.Kernel46.main (F := Bits))) ⟨m, fun _ => 0, g⟩ (fun r => (∀ c : Dev Cert.Kernel46.nD,
      r.2.mem ((c.tc : Thread Cert.Kernel46.nD Cert.Kernel46.τ).loc Cert.Kernel46.main_arg0) = m ((c.tc : Thread Cert.Kernel46.nD Cert.Kernel46.τ).loc Cert.Kernel46.main_arg0)
      ∧ r.2.mem ((c.tc : Thread Cert.Kernel46.nD Cert.Kernel46.τ).loc Cert.Kernel46.main_arg1) = m ((c.tc : Thread Cert.Kernel46.nD Cert.Kernel46.τ).loc Cert.Kernel46.main_arg1)
      ∧ r.2.mem ((c.tc : Thread Cert.Kernel46.nD Cert.Kernel46.τ).loc Cert.Kernel46.main_arg2) = m ((c.tc : Thread Cert.Kernel46.nD Cert.Kernel46.τ).loc Cert.Kernel46.main_arg2)
      ∧ r.2.mem ((c.tc : Thread Cert.Kernel46.nD Cert.Kernel46.τ).loc Cert.Kernel46.main_arg3) = m ((c.tc : Thread Cert.Kernel46.nD Cert.Kernel46.τ).loc Cert.Kernel46.main_arg3))
      ∧ r.2.sem = fun _ => 0)

def quiescent_Kernel46Ideal [hKernel46Ideal : Cert.Kernel46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg), Pre_Kernel46Ideal m →
    θ_run (Cert.Kernel46Ideal.defs (F := Ideal)) (onTc (τ := Cert.Kernel46Ideal.τ) (Cert.Kernel46Ideal.main (F := Ideal))) ⟨m, fun _ => 0, g⟩ (fun r => (∀ c : Dev Cert.Kernel46Ideal.nD,
      r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
      ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
      ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
      ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ r.2.sem = fun _ => 0)

def quiescent_Reference46Ideal [hReference46Ideal : Cert.Reference46Ideal.Facts] : Prop :=
  ∀ (m : (ℓ : Loc Cert.Reference46Ideal.nD Cert.Reference46Ideal.τ Cert.Reference46Ideal.sig) → Buf (Elt Ideal) ℓ) (g : Dev Cert.Reference46Ideal.nD → PrngReg), Pre_Reference46Ideal m →
    θ_run (Cert.Reference46Ideal.defs (F := Ideal)) (onTc (τ := Cert.Reference46Ideal.τ) (Cert.Reference46Ideal.main (F := Ideal))) ⟨m, fun _ => 0, g⟩ (fun r => (∀ c : Dev Cert.Reference46Ideal.nD,
      r.2.mem ((c.tc : Thread Cert.Reference46Ideal.nD Cert.Reference46Ideal.τ).loc Cert.Reference46Ideal.main_arg0) = m ((c.tc : Thread Cert.Reference46Ideal.nD Cert.Reference46Ideal.τ).loc Cert.Reference46Ideal.main_arg0)
      ∧ r.2.mem ((c.tc : Thread Cert.Reference46Ideal.nD Cert.Reference46Ideal.τ).loc Cert.Reference46Ideal.main_arg1) = m ((c.tc : Thread Cert.Reference46Ideal.nD Cert.Reference46Ideal.τ).loc Cert.Reference46Ideal.main_arg1)
      ∧ r.2.mem ((c.tc : Thread Cert.Reference46Ideal.nD Cert.Reference46Ideal.τ).loc Cert.Reference46Ideal.main_arg2) = m ((c.tc : Thread Cert.Reference46Ideal.nD Cert.Reference46Ideal.τ).loc Cert.Reference46Ideal.main_arg2)
      ∧ r.2.mem ((c.tc : Thread Cert.Reference46Ideal.nD Cert.Reference46Ideal.τ).loc Cert.Reference46Ideal.main_arg3) = m ((c.tc : Thread Cert.Reference46Ideal.nD Cert.Reference46Ideal.τ).loc Cert.Reference46Ideal.main_arg3))
      ∧ r.2.sem = fun _ => 0)

def quiescent_Kernel47 [hKernel47 : Cert.Kernel47.Facts] : Prop :=
  ∀ (m : (ℓ : Loc Cert.Kernel47.nD Cert.Kernel47.τ Cert.Kernel47.sig) → Buf (Elt Bits) ℓ) (g : Dev Cert.Kernel47.nD → PrngReg), Pre_Kernel47 m →
    θ_run (Cert.Kernel47.defs (F := Bits)) (onTc (τ := Cert.Kernel47.τ) (Cert.Kernel47.main (F := Bits))) ⟨m, fun _ => 0, g⟩ (fun r => (∀ c : Dev Cert.Kernel47.nD,
      r.2.mem ((c.tc : Thread Cert.Kernel47.nD Cert.Kernel47.τ).loc Cert.Kernel47.main_arg0) = m ((c.tc : Thread Cert.Kernel47.nD Cert.Kernel47.τ).loc Cert.Kernel47.main_arg0)
      ∧ r.2.mem ((c.tc : Thread Cert.Kernel47.nD Cert.Kernel47.τ).loc Cert.Kernel47.main_arg1) = m ((c.tc : Thread Cert.Kernel47.nD Cert.Kernel47.τ).loc Cert.Kernel47.main_arg1)
      ∧ r.2.mem ((c.tc : Thread Cert.Kernel47.nD Cert.Kernel47.τ).loc Cert.Kernel47.main_arg2) = m ((c.tc : Thread Cert.Kernel47.nD Cert.Kernel47.τ).loc Cert.Kernel47.main_arg2)
      ∧ r.2.mem ((c.tc : Thread Cert.Kernel47.nD Cert.Kernel47.τ).loc Cert.Kernel47.main_arg3) = m ((c.tc : Thread Cert.Kernel47.nD Cert.Kernel47.τ).loc Cert.Kernel47.main_arg3))
      ∧ r.2.sem = fun _ => 0)

def quiescent_Kernel47Ideal [hKernel47Ideal : Cert.Kernel47Ideal.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ r.2.sem = fun _ => 0)

def quiescent_Kernel47Ideal_pre_conv_finite [hKernel47Ideal : Cert.Kernel47Ideal.Facts] [hPre_conv_finite : Cert.Pre_conv_finite.Facts] : Prop :=
  ∀ (m : (ℓ : Loc Cert.Kernel47Ideal.nD Cert.Kernel47Ideal.τ Cert.Kernel47Ideal.sig) → Buf (Elt Ideal) ℓ) (g : Dev Cert.Kernel47Ideal.nD → PrngReg), Pre_Kernel47Ideal_conv_finite m →
    θ_run (Cert.Kernel47Ideal.defs (F := Ideal)) (onTc (τ := Cert.Kernel47Ideal.τ) (Cert.Kernel47Ideal.main (F := Ideal))) ⟨m, fun _ => 0, g⟩ (fun r => (∀ c : Dev Cert.Kernel47Ideal.nD,
      r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
      ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
      ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
      ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ r.2.sem = fun _ => 0)

def quiescent_Reference47Ideal [hReference47Ideal : Cert.Reference47Ideal.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3))
      ∧ r.2.sem = fun _ => 0)

def quiescent_Reference47Ideal_pre_conv_finite [hReference47Ideal : Cert.Reference47Ideal.Facts] [hPre_conv_finite : Cert.Pre_conv_finite.Facts] : Prop :=
  ∀ (m : (ℓ : Loc Cert.Reference47Ideal.nD Cert.Reference47Ideal.τ Cert.Reference47Ideal.sig) → Buf (Elt Ideal) ℓ) (g : Dev Cert.Reference47Ideal.nD → PrngReg), Pre_Reference47Ideal_conv_finite m →
    θ_run (Cert.Reference47Ideal.defs (F := Ideal)) (onTc (τ := Cert.Reference47Ideal.τ) (Cert.Reference47Ideal.main (F := Ideal))) ⟨m, fun _ => 0, g⟩ (fun r => (∀ c : Dev Cert.Reference47Ideal.nD,
      r.2.mem ((c.tc : Thread Cert.Reference47Ideal.nD Cert.Reference47Ideal.τ).loc Cert.Reference47Ideal.main_arg0) = m ((c.tc : Thread Cert.Reference47Ideal.nD Cert.Reference47Ideal.τ).loc Cert.Reference47Ideal.main_arg0)
      ∧ r.2.mem ((c.tc : Thread Cert.Reference47Ideal.nD Cert.Reference47Ideal.τ).loc Cert.Reference47Ideal.main_arg1) = m ((c.tc : Thread Cert.Reference47Ideal.nD Cert.Reference47Ideal.τ).loc Cert.Reference47Ideal.main_arg1)
      ∧ r.2.mem ((c.tc : Thread Cert.Reference47Ideal.nD Cert.Reference47Ideal.τ).loc Cert.Reference47Ideal.main_arg2) = m ((c.tc : Thread Cert.Reference47Ideal.nD Cert.Reference47Ideal.τ).loc Cert.Reference47Ideal.main_arg2)
      ∧ r.2.mem ((c.tc : Thread Cert.Reference47Ideal.nD Cert.Reference47Ideal.τ).loc Cert.Reference47Ideal.main_arg3) = m ((c.tc : Thread Cert.Reference47Ideal.nD Cert.Reference47Ideal.τ).loc Cert.Reference47Ideal.main_arg3))
      ∧ r.2.sem = fun _ => 0)

def quiescent_Kernel48 [hKernel48 : Cert.Kernel48.Facts] : Prop :=
  ∀ (m : (ℓ : Loc Cert.Kernel48.nD Cert.Kernel48.τ Cert.Kernel48.sig) → Buf (Elt Bits) ℓ) (g : Dev Cert.Kernel48.nD → PrngReg), Pre_Kernel48 m →
    θ_run (Cert.Kernel48.defs (F := Bits)) (onTc (τ := Cert.Kernel48.τ) (Cert.Kernel48.main (F := Bits))) ⟨m, fun _ => 0, g⟩ (fun r => (∀ c : Dev Cert.Kernel48.nD,
      r.2.mem ((c.tc : Thread Cert.Kernel48.nD Cert.Kernel48.τ).loc Cert.Kernel48.main_arg0) = m ((c.tc : Thread Cert.Kernel48.nD Cert.Kernel48.τ).loc Cert.Kernel48.main_arg0)
      ∧ r.2.mem ((c.tc : Thread Cert.Kernel48.nD Cert.Kernel48.τ).loc Cert.Kernel48.main_arg1) = m ((c.tc : Thread Cert.Kernel48.nD Cert.Kernel48.τ).loc Cert.Kernel48.main_arg1)
      ∧ r.2.mem ((c.tc : Thread Cert.Kernel48.nD Cert.Kernel48.τ).loc Cert.Kernel48.main_arg2) = m ((c.tc : Thread Cert.Kernel48.nD Cert.Kernel48.τ).loc Cert.Kernel48.main_arg2))
      ∧ r.2.sem = fun _ => 0)

def quiescent_Kernel48Ideal [hKernel48Ideal : Cert.Kernel48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg), Pre_Kernel48Ideal m →
    θ_run (Cert.Kernel48Ideal.defs (F := Ideal)) (onTc (τ := Cert.Kernel48Ideal.τ) (Cert.Kernel48Ideal.main (F := Ideal))) ⟨m, fun _ => 0, g⟩ (fun r => (∀ c : Dev Cert.Kernel48Ideal.nD,
      r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
      ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
      ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ r.2.sem = fun _ => 0)

def quiescent_Reference48Ideal [hReference48Ideal : Cert.Reference48Ideal.Facts] : Prop :=
  ∀ (m : (ℓ : Loc Cert.Reference48Ideal.nD Cert.Reference48Ideal.τ Cert.Reference48Ideal.sig) → Buf (Elt Ideal) ℓ) (g : Dev Cert.Reference48Ideal.nD → PrngReg), Pre_Reference48Ideal m →
    θ_run (Cert.Reference48Ideal.defs (F := Ideal)) (onTc (τ := Cert.Reference48Ideal.τ) (Cert.Reference48Ideal.main (F := Ideal))) ⟨m, fun _ => 0, g⟩ (fun r => (∀ c : Dev Cert.Reference48Ideal.nD,
      r.2.mem ((c.tc : Thread Cert.Reference48Ideal.nD Cert.Reference48Ideal.τ).loc Cert.Reference48Ideal.main_arg0) = m ((c.tc : Thread Cert.Reference48Ideal.nD Cert.Reference48Ideal.τ).loc Cert.Reference48Ideal.main_arg0)
      ∧ r.2.mem ((c.tc : Thread Cert.Reference48Ideal.nD Cert.Reference48Ideal.τ).loc Cert.Reference48Ideal.main_arg1) = m ((c.tc : Thread Cert.Reference48Ideal.nD Cert.Reference48Ideal.τ).loc Cert.Reference48Ideal.main_arg1)
      ∧ r.2.mem ((c.tc : Thread Cert.Reference48Ideal.nD Cert.Reference48Ideal.τ).loc Cert.Reference48Ideal.main_arg2) = m ((c.tc : Thread Cert.Reference48Ideal.nD Cert.Reference48Ideal.τ).loc Cert.Reference48Ideal.main_arg2))
      ∧ r.2.sem = fun _ => 0)

def quiescent_Kernel49 [hKernel49 : Cert.Kernel49.Facts] : Prop :=
  ∀ (m : (ℓ : Loc Cert.Kernel49.nD Cert.Kernel49.τ Cert.Kernel49.sig) → Buf (Elt Bits) ℓ) (g : Dev Cert.Kernel49.nD → PrngReg), Pre_Kernel49 m →
    θ_run (Cert.Kernel49.defs (F := Bits)) (onTc (τ := Cert.Kernel49.τ) (Cert.Kernel49.main (F := Bits))) ⟨m, fun _ => 0, g⟩ (fun r => (∀ c : Dev Cert.Kernel49.nD,
      r.2.mem ((c.tc : Thread Cert.Kernel49.nD Cert.Kernel49.τ).loc Cert.Kernel49.main_arg0) = m ((c.tc : Thread Cert.Kernel49.nD Cert.Kernel49.τ).loc Cert.Kernel49.main_arg0)
      ∧ r.2.mem ((c.tc : Thread Cert.Kernel49.nD Cert.Kernel49.τ).loc Cert.Kernel49.main_arg1) = m ((c.tc : Thread Cert.Kernel49.nD Cert.Kernel49.τ).loc Cert.Kernel49.main_arg1)
      ∧ r.2.mem ((c.tc : Thread Cert.Kernel49.nD Cert.Kernel49.τ).loc Cert.Kernel49.main_arg2) = m ((c.tc : Thread Cert.Kernel49.nD Cert.Kernel49.τ).loc Cert.Kernel49.main_arg2)
      ∧ r.2.mem ((c.tc : Thread Cert.Kernel49.nD Cert.Kernel49.τ).loc Cert.Kernel49.main_arg3) = m ((c.tc : Thread Cert.Kernel49.nD Cert.Kernel49.τ).loc Cert.Kernel49.main_arg3)
      ∧ r.2.mem ((c.tc : Thread Cert.Kernel49.nD Cert.Kernel49.τ).loc Cert.Kernel49.main_arg4) = m ((c.tc : Thread Cert.Kernel49.nD Cert.Kernel49.τ).loc Cert.Kernel49.main_arg4)
      ∧ r.2.mem ((c.tc : Thread Cert.Kernel49.nD Cert.Kernel49.τ).loc Cert.Kernel49.main_arg5) = m ((c.tc : Thread Cert.Kernel49.nD Cert.Kernel49.τ).loc Cert.Kernel49.main_arg5)
      ∧ r.2.mem ((c.tc : Thread Cert.Kernel49.nD Cert.Kernel49.τ).loc Cert.Kernel49.main_arg6) = m ((c.tc : Thread Cert.Kernel49.nD Cert.Kernel49.τ).loc Cert.Kernel49.main_arg6))
      ∧ r.2.sem = fun _ => 0)

def quiescent_Kernel49Ideal [hKernel49Ideal : Cert.Kernel49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg), Pre_Kernel49Ideal m →
    θ_run (Cert.Kernel49Ideal.defs (F := Ideal)) (onTc (τ := Cert.Kernel49Ideal.τ) (Cert.Kernel49Ideal.main (F := Ideal))) ⟨m, fun _ => 0, g⟩ (fun r => (∀ c : Dev Cert.Kernel49Ideal.nD,
      r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
      ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
      ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
      ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
      ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
      ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5)
      ∧ r.2.mem ((c.tc : Thread Cert.Kernel49Ideal.nD Cert.Kernel49Ideal.τ).loc Cert.Kernel49Ideal.main_arg6) = m ((c.tc : Thread Cert.Kernel49Ideal.nD Cert.Kernel49Ideal.τ).loc Cert.Kernel49Ideal.main_arg6))
      ∧ r.2.sem = fun _ => 0)

def quiescent_Reference49Ideal [hReference49Ideal : Cert.Reference49Ideal.Facts] : Prop :=
  ∀ (m : (ℓ : Loc Cert.Reference49Ideal.nD Cert.Reference49Ideal.τ Cert.Reference49Ideal.sig) → Buf (Elt Ideal) ℓ) (g : Dev Cert.Reference49Ideal.nD → PrngReg), Pre_Reference49Ideal m →
    θ_run (Cert.Reference49Ideal.defs (F := Ideal)) (onTc (τ := Cert.Reference49Ideal.τ) (Cert.Reference49Ideal.main (F := Ideal))) ⟨m, fun _ => 0, g⟩ (fun r => (∀ c : Dev Cert.Reference49Ideal.nD,
      r.2.mem ((c.tc : Thread Cert.Reference49Ideal.nD Cert.Reference49Ideal.τ).loc Cert.Reference49Ideal.main_arg0) = m ((c.tc : Thread Cert.Reference49Ideal.nD Cert.Reference49Ideal.τ).loc Cert.Reference49Ideal.main_arg0)
      ∧ r.2.mem ((c.tc : Thread Cert.Reference49Ideal.nD Cert.Reference49Ideal.τ).loc Cert.Reference49Ideal.main_arg1) = m ((c.tc : Thread Cert.Reference49Ideal.nD Cert.Reference49Ideal.τ).loc Cert.Reference49Ideal.main_arg1)
      ∧ r.2.mem ((c.tc : Thread Cert.Reference49Ideal.nD Cert.Reference49Ideal.τ).loc Cert.Reference49Ideal.main_arg2) = m ((c.tc : Thread Cert.Reference49Ideal.nD Cert.Reference49Ideal.τ).loc Cert.Reference49Ideal.main_arg2)
      ∧ r.2.mem ((c.tc : Thread Cert.Reference49Ideal.nD Cert.Reference49Ideal.τ).loc Cert.Reference49Ideal.main_arg3) = m ((c.tc : Thread Cert.Reference49Ideal.nD Cert.Reference49Ideal.τ).loc Cert.Reference49Ideal.main_arg3)
      ∧ r.2.mem ((c.tc : Thread Cert.Reference49Ideal.nD Cert.Reference49Ideal.τ).loc Cert.Reference49Ideal.main_arg4) = m ((c.tc : Thread Cert.Reference49Ideal.nD Cert.Reference49Ideal.τ).loc Cert.Reference49Ideal.main_arg4)
      ∧ r.2.mem ((c.tc : Thread Cert.Reference49Ideal.nD Cert.Reference49Ideal.τ).loc Cert.Reference49Ideal.main_arg5) = m ((c.tc : Thread Cert.Reference49Ideal.nD Cert.Reference49Ideal.τ).loc Cert.Reference49Ideal.main_arg5)
      ∧ r.2.mem ((c.tc : Thread Cert.Reference49Ideal.nD Cert.Reference49Ideal.τ).loc Cert.Reference49Ideal.main_arg6) = m ((c.tc : Thread Cert.Reference49Ideal.nD Cert.Reference49Ideal.τ).loc Cert.Reference49Ideal.main_arg6))
      ∧ r.2.sem = fun _ => 0)

def preserves_Kernel_KernelIdeal : Prop :=
  True

def algebraic_KernelIdeal_ReferenceIdeal_pre_precondition [hKernelIdeal : Cert.KernelIdeal.Facts] [hReferenceIdeal : Cert.ReferenceIdeal.Facts] [hPre_precondition : Cert.Pre_precondition.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_precondition m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal_pre_ssd_finite [hKernel6Ideal : Cert.Kernel6Ideal.Facts] [hReference6Ideal : Cert.Reference6Ideal.Facts] [hPre_ssd_finite : Cert.Pre_ssd_finite.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_ssd_finite m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v11_0)) (v1 : (c : Dev Cert.Kernel6Ideal.nD) → Buf (Elt Ideal) ((c.tc : Thread Cert.Kernel6Ideal.nD Cert.Kernel6Ideal.τ).loc Cert.Kernel6Ideal.main_v11_1)) (v2 : (c : Dev Cert.Kernel6Ideal.nD) → Buf (Elt Ideal) ((c.tc : Thread Cert.Kernel6Ideal.nD Cert.Kernel6Ideal.τ).loc Cert.Kernel6Ideal.main_v11_2)) (v3 : (c : Dev Cert.Kernel6Ideal.nD) → Buf (Elt Ideal) ((c.tc : Thread Cert.Kernel6Ideal.nD Cert.Kernel6Ideal.τ).loc Cert.Kernel6Ideal.main_v11_3)) (v4 : (c : Dev Cert.Kernel6Ideal.nD) → Buf (Elt Ideal) ((c.tc : Thread Cert.Kernel6Ideal.nD Cert.Kernel6Ideal.τ).loc Cert.Kernel6Ideal.main_v11_4)) (v5 : (c : Dev Cert.Kernel6Ideal.nD) → Buf (Elt Ideal) ((c.tc : Thread Cert.Kernel6Ideal.nD Cert.Kernel6Ideal.τ).loc Cert.Kernel6Ideal.main_v11_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v11_0) = v0 c
          ∧ r.2.mem ((c.tc : Thread Cert.Kernel6Ideal.nD Cert.Kernel6Ideal.τ).loc Cert.Kernel6Ideal.main_v11_1) = v1 c
          ∧ r.2.mem ((c.tc : Thread Cert.Kernel6Ideal.nD Cert.Kernel6Ideal.τ).loc Cert.Kernel6Ideal.main_v11_2) = v2 c
          ∧ r.2.mem ((c.tc : Thread Cert.Kernel6Ideal.nD Cert.Kernel6Ideal.τ).loc Cert.Kernel6Ideal.main_v11_3) = v3 c
          ∧ r.2.mem ((c.tc : Thread Cert.Kernel6Ideal.nD Cert.Kernel6Ideal.τ).loc Cert.Kernel6Ideal.main_v11_4) = v4 c
          ∧ r.2.mem ((c.tc : Thread Cert.Kernel6Ideal.nD Cert.Kernel6Ideal.τ).loc Cert.Kernel6Ideal.main_v11_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v96) = v0 c
          ∧ r.2.mem ((c.tc : Thread Cert.Reference6Ideal.nD Cert.Reference6Ideal.τ).loc Cert.Reference6Ideal.main_v98) = v1 c
          ∧ r.2.mem ((c.tc : Thread Cert.Reference6Ideal.nD Cert.Reference6Ideal.τ).loc Cert.Reference6Ideal.main_v100) = v2 c
          ∧ r.2.mem ((c.tc : Thread Cert.Reference6Ideal.nD Cert.Reference6Ideal.τ).loc Cert.Reference6Ideal.main_v102) = v3 c
          ∧ r.2.mem ((c.tc : Thread Cert.Reference6Ideal.nD Cert.Reference6Ideal.τ).loc Cert.Reference6Ideal.main_v103) = v4 c
          ∧ r.2.mem ((c.tc : Thread Cert.Reference6Ideal.nD Cert.Reference6Ideal.τ).loc Cert.Reference6Ideal.main_v104) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v8) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v4) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v5) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v6) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v5) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v4) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v3) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v1)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v1) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v1)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v3) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v3) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v2) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)) →
    ∃ (v0 : (c : Dev Cert.Kernel31Ideal.nD) → Buf (Elt Ideal) ((c.tc : Thread Cert.Kernel31Ideal.nD Cert.Kernel31Ideal.τ).loc Cert.Kernel31Ideal.main_v8_0)) (v1 : (c : Dev Cert.Kernel31Ideal.nD) → Buf (Elt Ideal) ((c.tc : Thread Cert.Kernel31Ideal.nD Cert.Kernel31Ideal.τ).loc Cert.Kernel31Ideal.main_v8_1)) (v2 : (c : Dev Cert.Kernel31Ideal.nD) → Buf (Elt Ideal) ((c.tc : Thread Cert.Kernel31Ideal.nD Cert.Kernel31Ideal.τ).loc Cert.Kernel31Ideal.main_v8_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v8_0) = v0 c
          ∧ r.2.mem ((c.tc : Thread Cert.Kernel31Ideal.nD Cert.Kernel31Ideal.τ).loc Cert.Kernel31Ideal.main_v8_1) = v1 c
          ∧ r.2.mem ((c.tc : Thread Cert.Kernel31Ideal.nD Cert.Kernel31Ideal.τ).loc Cert.Kernel31Ideal.main_v8_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v25) = v0 c
          ∧ r.2.mem ((c.tc : Thread Cert.Reference31Ideal.nD Cert.Reference31Ideal.τ).loc Cert.Reference31Ideal.main_v27) = v1 c
          ∧ r.2.mem ((c.tc : Thread Cert.Reference31Ideal.nD Cert.Reference31Ideal.τ).loc Cert.Reference31Ideal.main_v29) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v4_0)) (v1 : (c : Dev Cert.Kernel32Ideal.nD) → Buf (Elt Ideal) ((c.tc : Thread Cert.Kernel32Ideal.nD Cert.Kernel32Ideal.τ).loc Cert.Kernel32Ideal.main_v4_1)) (v2 : (c : Dev Cert.Kernel32Ideal.nD) → Buf (Elt Ideal) ((c.tc : Thread Cert.Kernel32Ideal.nD Cert.Kernel32Ideal.τ).loc Cert.Kernel32Ideal.main_v4_2)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v4_0) = v0 c
          ∧ r.2.mem ((c.tc : Thread Cert.Kernel32Ideal.nD Cert.Kernel32Ideal.τ).loc Cert.Kernel32Ideal.main_v4_1) = v1 c
          ∧ r.2.mem ((c.tc : Thread Cert.Kernel32Ideal.nD Cert.Kernel32Ideal.τ).loc Cert.Kernel32Ideal.main_v4_2) = v2 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v24) = v0 c
          ∧ r.2.mem ((c.tc : Thread Cert.Reference32Ideal.nD Cert.Reference32Ideal.τ).loc Cert.Reference32Ideal.main_v25) = v1 c
          ∧ r.2.mem ((c.tc : Thread Cert.Reference32Ideal.nD Cert.Reference32Ideal.τ).loc Cert.Reference32Ideal.main_v26) = v2 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)
      ∧ m' ((c.tc : Thread Cert.Reference33Ideal.nD Cert.Reference33Ideal.τ).loc Cert.Reference33Ideal.main_arg3) = m ((c.tc : Thread Cert.Kernel33Ideal.nD Cert.Kernel33Ideal.τ).loc Cert.Kernel33Ideal.main_arg3)) →
    ∃ (v0 : (c : Dev Cert.Kernel33Ideal.nD) → Buf (Elt Ideal) ((c.tc : Thread Cert.Kernel33Ideal.nD Cert.Kernel33Ideal.τ).loc Cert.Kernel33Ideal.main_v8_0)) (v1 : (c : Dev Cert.Kernel33Ideal.nD) → Buf (Elt Ideal) ((c.tc : Thread Cert.Kernel33Ideal.nD Cert.Kernel33Ideal.τ).loc Cert.Kernel33Ideal.main_v8_1)) (v2 : (c : Dev Cert.Kernel33Ideal.nD) → Buf (Elt Ideal) ((c.tc : Thread Cert.Kernel33Ideal.nD Cert.Kernel33Ideal.τ).loc Cert.Kernel33Ideal.main_v8_2)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v8_0) = v0 c
          ∧ r.2.mem ((c.tc : Thread Cert.Kernel33Ideal.nD Cert.Kernel33Ideal.τ).loc Cert.Kernel33Ideal.main_v8_1) = v1 c
          ∧ r.2.mem ((c.tc : Thread Cert.Kernel33Ideal.nD Cert.Kernel33Ideal.τ).loc Cert.Kernel33Ideal.main_v8_2) = v2 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2)
          ∧ r.2.mem ((c.tc : Thread Cert.Kernel33Ideal.nD Cert.Kernel33Ideal.τ).loc Cert.Kernel33Ideal.main_arg3) = m ((c.tc : Thread Cert.Kernel33Ideal.nD Cert.Kernel33Ideal.τ).loc Cert.Kernel33Ideal.main_arg3))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v25) = v0 c
          ∧ r.2.mem ((c.tc : Thread Cert.Reference33Ideal.nD Cert.Reference33Ideal.τ).loc Cert.Reference33Ideal.main_v27) = v1 c
          ∧ r.2.mem ((c.tc : Thread Cert.Reference33Ideal.nD Cert.Reference33Ideal.τ).loc Cert.Reference33Ideal.main_v29) = v2 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2)
          ∧ r.2.mem ((c.tc : Thread Cert.Reference33Ideal.nD Cert.Reference33Ideal.τ).loc Cert.Reference33Ideal.main_arg3) = m' ((c.tc : Thread Cert.Reference33Ideal.nD Cert.Reference33Ideal.τ).loc Cert.Reference33Ideal.main_arg3))

def preserves_Kernel34_Kernel34Ideal : Prop :=
  True

def algebraic_Kernel34Ideal_Reference34Ideal [hKernel34Ideal : Cert.Kernel34Ideal.Facts] [hReference34Ideal : Cert.Reference34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)) →
    ∃ (v0 : (c : Dev Cert.Kernel34Ideal.nD) → Buf (Elt Ideal) ((c.tc : Thread Cert.Kernel34Ideal.nD Cert.Kernel34Ideal.τ).loc Cert.Kernel34Ideal.main_v4_0)) (v1 : (c : Dev Cert.Kernel34Ideal.nD) → Buf (Elt Ideal) ((c.tc : Thread Cert.Kernel34Ideal.nD Cert.Kernel34Ideal.τ).loc Cert.Kernel34Ideal.main_v4_1)) (v2 : (c : Dev Cert.Kernel34Ideal.nD) → Buf (Elt Ideal) ((c.tc : Thread Cert.Kernel34Ideal.nD Cert.Kernel34Ideal.τ).loc Cert.Kernel34Ideal.main_v4_2)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v4_0) = v0 c
          ∧ r.2.mem ((c.tc : Thread Cert.Kernel34Ideal.nD Cert.Kernel34Ideal.τ).loc Cert.Kernel34Ideal.main_v4_1) = v1 c
          ∧ r.2.mem ((c.tc : Thread Cert.Kernel34Ideal.nD Cert.Kernel34Ideal.τ).loc Cert.Kernel34Ideal.main_v4_2) = v2 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v24) = v0 c
          ∧ r.2.mem ((c.tc : Thread Cert.Reference34Ideal.nD Cert.Reference34Ideal.τ).loc Cert.Reference34Ideal.main_v25) = v1 c
          ∧ r.2.mem ((c.tc : Thread Cert.Reference34Ideal.nD Cert.Reference34Ideal.τ).loc Cert.Reference34Ideal.main_v26) = v2 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3))

def preserves_Kernel35_Kernel35Ideal : Prop :=
  True

def algebraic_Kernel35Ideal_Reference35Ideal [hKernel35Ideal : Cert.Kernel35Ideal.Facts] [hReference35Ideal : Cert.Reference35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)) →
    ∃ (v0 : (c : Dev Cert.Kernel35Ideal.nD) → Buf (Elt Ideal) ((c.tc : Thread Cert.Kernel35Ideal.nD Cert.Kernel35Ideal.τ).loc Cert.Kernel35Ideal.main_v4_0)) (v1 : (c : Dev Cert.Kernel35Ideal.nD) → Buf (Elt Ideal) ((c.tc : Thread Cert.Kernel35Ideal.nD Cert.Kernel35Ideal.τ).loc Cert.Kernel35Ideal.main_v4_1)) (v2 : (c : Dev Cert.Kernel35Ideal.nD) → Buf (Elt Ideal) ((c.tc : Thread Cert.Kernel35Ideal.nD Cert.Kernel35Ideal.τ).loc Cert.Kernel35Ideal.main_v4_2)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v4_0) = v0 c
          ∧ r.2.mem ((c.tc : Thread Cert.Kernel35Ideal.nD Cert.Kernel35Ideal.τ).loc Cert.Kernel35Ideal.main_v4_1) = v1 c
          ∧ r.2.mem ((c.tc : Thread Cert.Kernel35Ideal.nD Cert.Kernel35Ideal.τ).loc Cert.Kernel35Ideal.main_v4_2) = v2 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v24) = v0 c
          ∧ r.2.mem ((c.tc : Thread Cert.Reference35Ideal.nD Cert.Reference35Ideal.τ).loc Cert.Reference35Ideal.main_v25) = v1 c
          ∧ r.2.mem ((c.tc : Thread Cert.Reference35Ideal.nD Cert.Reference35Ideal.τ).loc Cert.Reference35Ideal.main_v26) = v2 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)) →
    ∃ (v0 : (c : Dev Cert.Kernel36Ideal.nD) → Buf (Elt Ideal) ((c.tc : Thread Cert.Kernel36Ideal.nD Cert.Kernel36Ideal.τ).loc Cert.Kernel36Ideal.main_v4_0)) (v1 : (c : Dev Cert.Kernel36Ideal.nD) → Buf (Elt Ideal) ((c.tc : Thread Cert.Kernel36Ideal.nD Cert.Kernel36Ideal.τ).loc Cert.Kernel36Ideal.main_v4_1)) (v2 : (c : Dev Cert.Kernel36Ideal.nD) → Buf (Elt Ideal) ((c.tc : Thread Cert.Kernel36Ideal.nD Cert.Kernel36Ideal.τ).loc Cert.Kernel36Ideal.main_v4_2)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4_0) = v0 c
          ∧ r.2.mem ((c.tc : Thread Cert.Kernel36Ideal.nD Cert.Kernel36Ideal.τ).loc Cert.Kernel36Ideal.main_v4_1) = v1 c
          ∧ r.2.mem ((c.tc : Thread Cert.Kernel36Ideal.nD Cert.Kernel36Ideal.τ).loc Cert.Kernel36Ideal.main_v4_2) = v2 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v24) = v0 c
          ∧ r.2.mem ((c.tc : Thread Cert.Reference36Ideal.nD Cert.Reference36Ideal.τ).loc Cert.Reference36Ideal.main_v25) = v1 c
          ∧ r.2.mem ((c.tc : Thread Cert.Reference36Ideal.nD Cert.Reference36Ideal.τ).loc Cert.Reference36Ideal.main_v26) = v2 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3))

def preserves_Kernel37_Kernel37Ideal : Prop :=
  True

def algebraic_Kernel37Ideal_Reference37Ideal [hKernel37Ideal : Cert.Kernel37Ideal.Facts] [hReference37Ideal : Cert.Reference37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)
      ∧ m' ((c.tc : Thread Cert.Reference37Ideal.nD Cert.Reference37Ideal.τ).loc Cert.Reference37Ideal.main_arg3) = m ((c.tc : Thread Cert.Kernel37Ideal.nD Cert.Kernel37Ideal.τ).loc Cert.Kernel37Ideal.main_arg3)) →
    ∃ (v0 : (c : Dev Cert.Kernel37Ideal.nD) → Buf (Elt Ideal) ((c.tc : Thread Cert.Kernel37Ideal.nD Cert.Kernel37Ideal.τ).loc Cert.Kernel37Ideal.main_v4_0)) (v1 : (c : Dev Cert.Kernel37Ideal.nD) → Buf (Elt Ideal) ((c.tc : Thread Cert.Kernel37Ideal.nD Cert.Kernel37Ideal.τ).loc Cert.Kernel37Ideal.main_v4_1)) (v2 : (c : Dev Cert.Kernel37Ideal.nD) → Buf (Elt Ideal) ((c.tc : Thread Cert.Kernel37Ideal.nD Cert.Kernel37Ideal.τ).loc Cert.Kernel37Ideal.main_v4_2)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v4_0) = v0 c
          ∧ r.2.mem ((c.tc : Thread Cert.Kernel37Ideal.nD Cert.Kernel37Ideal.τ).loc Cert.Kernel37Ideal.main_v4_1) = v1 c
          ∧ r.2.mem ((c.tc : Thread Cert.Kernel37Ideal.nD Cert.Kernel37Ideal.τ).loc Cert.Kernel37Ideal.main_v4_2) = v2 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2)
          ∧ r.2.mem ((c.tc : Thread Cert.Kernel37Ideal.nD Cert.Kernel37Ideal.τ).loc Cert.Kernel37Ideal.main_arg3) = m ((c.tc : Thread Cert.Kernel37Ideal.nD Cert.Kernel37Ideal.τ).loc Cert.Kernel37Ideal.main_arg3))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v24) = v0 c
          ∧ r.2.mem ((c.tc : Thread Cert.Reference37Ideal.nD Cert.Reference37Ideal.τ).loc Cert.Reference37Ideal.main_v25) = v1 c
          ∧ r.2.mem ((c.tc : Thread Cert.Reference37Ideal.nD Cert.Reference37Ideal.τ).loc Cert.Reference37Ideal.main_v26) = v2 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2)
          ∧ r.2.mem ((c.tc : Thread Cert.Reference37Ideal.nD Cert.Reference37Ideal.τ).loc Cert.Reference37Ideal.main_arg3) = m' ((c.tc : Thread Cert.Reference37Ideal.nD Cert.Reference37Ideal.τ).loc Cert.Reference37Ideal.main_arg3))

def preserves_Kernel38_Kernel38Ideal : Prop :=
  True

def algebraic_Kernel38Ideal_Reference38Ideal [hKernel38Ideal : Cert.Kernel38Ideal.Facts] [hReference38Ideal : Cert.Reference38Ideal.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)
      ∧ m' ((c.tc : Thread Cert.Reference38Ideal.nD Cert.Reference38Ideal.τ).loc Cert.Reference38Ideal.main_arg3) = m ((c.tc : Thread Cert.Kernel38Ideal.nD Cert.Kernel38Ideal.τ).loc Cert.Kernel38Ideal.main_arg3)) →
    ∃ (v0 : (c : Dev Cert.Kernel38Ideal.nD) → Buf (Elt Ideal) ((c.tc : Thread Cert.Kernel38Ideal.nD Cert.Kernel38Ideal.τ).loc Cert.Kernel38Ideal.main_v4_0)) (v1 : (c : Dev Cert.Kernel38Ideal.nD) → Buf (Elt Ideal) ((c.tc : Thread Cert.Kernel38Ideal.nD Cert.Kernel38Ideal.τ).loc Cert.Kernel38Ideal.main_v4_1)) (v2 : (c : Dev Cert.Kernel38Ideal.nD) → Buf (Elt Ideal) ((c.tc : Thread Cert.Kernel38Ideal.nD Cert.Kernel38Ideal.τ).loc Cert.Kernel38Ideal.main_v4_2)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v4_0) = v0 c
          ∧ r.2.mem ((c.tc : Thread Cert.Kernel38Ideal.nD Cert.Kernel38Ideal.τ).loc Cert.Kernel38Ideal.main_v4_1) = v1 c
          ∧ r.2.mem ((c.tc : Thread Cert.Kernel38Ideal.nD Cert.Kernel38Ideal.τ).loc Cert.Kernel38Ideal.main_v4_2) = v2 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2)
          ∧ r.2.mem ((c.tc : Thread Cert.Kernel38Ideal.nD Cert.Kernel38Ideal.τ).loc Cert.Kernel38Ideal.main_arg3) = m ((c.tc : Thread Cert.Kernel38Ideal.nD Cert.Kernel38Ideal.τ).loc Cert.Kernel38Ideal.main_arg3))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v24) = v0 c
          ∧ r.2.mem ((c.tc : Thread Cert.Reference38Ideal.nD Cert.Reference38Ideal.τ).loc Cert.Reference38Ideal.main_v25) = v1 c
          ∧ r.2.mem ((c.tc : Thread Cert.Reference38Ideal.nD Cert.Reference38Ideal.τ).loc Cert.Reference38Ideal.main_v26) = v2 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2)
          ∧ r.2.mem ((c.tc : Thread Cert.Reference38Ideal.nD Cert.Reference38Ideal.τ).loc Cert.Reference38Ideal.main_arg3) = m' ((c.tc : Thread Cert.Reference38Ideal.nD Cert.Reference38Ideal.τ).loc Cert.Reference38Ideal.main_arg3))

def preserves_Kernel39_Kernel39Ideal : Prop :=
  True

def algebraic_Kernel39Ideal_Reference39Ideal [hKernel39Ideal : Cert.Kernel39Ideal.Facts] [hReference39Ideal : Cert.Reference39Ideal.Facts] : Prop :=
  ∀ (m : (ℓ : Loc Cert.Kernel39Ideal.nD Cert.Kernel39Ideal.τ Cert.Kernel39Ideal.sig) → Buf (Elt Ideal) ℓ) (g : Dev Cert.Kernel39Ideal.nD → PrngReg)
    (m' : (ℓ : Loc Cert.Reference39Ideal.nD Cert.Reference39Ideal.τ Cert.Reference39Ideal.sig) → Buf (Elt Ideal) ℓ) (g' : Dev Cert.Reference39Ideal.nD → PrngReg), Pre_Kernel39Ideal m →
    (∀ c : Dev Cert.Kernel39Ideal.nD,
      m' ((c.tc : Thread Cert.Reference39Ideal.nD Cert.Reference39Ideal.τ).loc Cert.Reference39Ideal.main_arg0) = m ((c.tc : Thread Cert.Kernel39Ideal.nD Cert.Kernel39Ideal.τ).loc Cert.Kernel39Ideal.main_arg0)
      ∧ m' ((c.tc : Thread Cert.Reference39Ideal.nD Cert.Reference39Ideal.τ).loc Cert.Reference39Ideal.main_arg1) = m ((c.tc : Thread Cert.Kernel39Ideal.nD Cert.Kernel39Ideal.τ).loc Cert.Kernel39Ideal.main_arg1)
      ∧ m' ((c.tc : Thread Cert.Reference39Ideal.nD Cert.Reference39Ideal.τ).loc Cert.Reference39Ideal.main_arg2) = m ((c.tc : Thread Cert.Kernel39Ideal.nD Cert.Kernel39Ideal.τ).loc Cert.Kernel39Ideal.main_arg2)
      ∧ m' ((c.tc : Thread Cert.Reference39Ideal.nD Cert.Reference39Ideal.τ).loc Cert.Reference39Ideal.main_arg3) = m ((c.tc : Thread Cert.Kernel39Ideal.nD Cert.Kernel39Ideal.τ).loc Cert.Kernel39Ideal.main_arg3)) →
    ∃ (v0 : (c : Dev Cert.Kernel39Ideal.nD) → Buf (Elt Ideal) ((c.tc : Thread Cert.Kernel39Ideal.nD Cert.Kernel39Ideal.τ).loc Cert.Kernel39Ideal.main_v1_0)) (v1 : (c : Dev Cert.Kernel39Ideal.nD) → Buf (Elt Ideal) ((c.tc : Thread Cert.Kernel39Ideal.nD Cert.Kernel39Ideal.τ).loc Cert.Kernel39Ideal.main_v1_1)),
      θ_run (Cert.Kernel39Ideal.defs (F := Ideal)) (onTc (τ := Cert.Kernel39Ideal.τ) (Cert.Kernel39Ideal.main (F := Ideal))) ⟨m, fun _ => 0, g⟩ (fun r => ∀ c : Dev Cert.Kernel39Ideal.nD,
          r.2.mem ((c.tc : Thread Cert.Kernel39Ideal.nD Cert.Kernel39Ideal.τ).loc Cert.Kernel39Ideal.main_v1_0) = v0 c
          ∧ r.2.mem ((c.tc : Thread Cert.Kernel39Ideal.nD Cert.Kernel39Ideal.τ).loc Cert.Kernel39Ideal.main_v1_1) = v1 c
          ∧ r.2.mem ((c.tc : Thread Cert.Kernel39Ideal.nD Cert.Kernel39Ideal.τ).loc Cert.Kernel39Ideal.main_arg0) = m ((c.tc : Thread Cert.Kernel39Ideal.nD Cert.Kernel39Ideal.τ).loc Cert.Kernel39Ideal.main_arg0)
          ∧ r.2.mem ((c.tc : Thread Cert.Kernel39Ideal.nD Cert.Kernel39Ideal.τ).loc Cert.Kernel39Ideal.main_arg1) = m ((c.tc : Thread Cert.Kernel39Ideal.nD Cert.Kernel39Ideal.τ).loc Cert.Kernel39Ideal.main_arg1)
          ∧ r.2.mem ((c.tc : Thread Cert.Kernel39Ideal.nD Cert.Kernel39Ideal.τ).loc Cert.Kernel39Ideal.main_arg2) = m ((c.tc : Thread Cert.Kernel39Ideal.nD Cert.Kernel39Ideal.τ).loc Cert.Kernel39Ideal.main_arg2)
          ∧ r.2.mem ((c.tc : Thread Cert.Kernel39Ideal.nD Cert.Kernel39Ideal.τ).loc Cert.Kernel39Ideal.main_arg3) = m ((c.tc : Thread Cert.Kernel39Ideal.nD Cert.Kernel39Ideal.τ).loc Cert.Kernel39Ideal.main_arg3))
      ∧ θ_run (Cert.Reference39Ideal.defs (F := Ideal)) (onTc (τ := Cert.Reference39Ideal.τ) (Cert.Reference39Ideal.main (F := Ideal))) ⟨m', fun _ => 0, g'⟩ (fun r => ∀ c : Dev Cert.Reference39Ideal.nD,
          r.2.mem ((c.tc : Thread Cert.Reference39Ideal.nD Cert.Reference39Ideal.τ).loc Cert.Reference39Ideal.main_v36) = v0 c
          ∧ r.2.mem ((c.tc : Thread Cert.Reference39Ideal.nD Cert.Reference39Ideal.τ).loc Cert.Reference39Ideal.main_v37) = v1 c
          ∧ r.2.mem ((c.tc : Thread Cert.Reference39Ideal.nD Cert.Reference39Ideal.τ).loc Cert.Reference39Ideal.main_arg0) = m' ((c.tc : Thread Cert.Reference39Ideal.nD Cert.Reference39Ideal.τ).loc Cert.Reference39Ideal.main_arg0)
          ∧ r.2.mem ((c.tc : Thread Cert.Reference39Ideal.nD Cert.Reference39Ideal.τ).loc Cert.Reference39Ideal.main_arg1) = m' ((c.tc : Thread Cert.Reference39Ideal.nD Cert.Reference39Ideal.τ).loc Cert.Reference39Ideal.main_arg1)
          ∧ r.2.mem ((c.tc : Thread Cert.Reference39Ideal.nD Cert.Reference39Ideal.τ).loc Cert.Reference39Ideal.main_arg2) = m' ((c.tc : Thread Cert.Reference39Ideal.nD Cert.Reference39Ideal.τ).loc Cert.Reference39Ideal.main_arg2)
          ∧ r.2.mem ((c.tc : Thread Cert.Reference39Ideal.nD Cert.Reference39Ideal.τ).loc Cert.Reference39Ideal.main_arg3) = m' ((c.tc : Thread Cert.Reference39Ideal.nD Cert.Reference39Ideal.τ).loc Cert.Reference39Ideal.main_arg3))

def preserves_Kernel40_Kernel40Ideal : Prop :=
  True

def algebraic_Kernel40Ideal_Reference40Ideal [hKernel40Ideal : Cert.Kernel40Ideal.Facts] [hReference40Ideal : Cert.Reference40Ideal.Facts] : Prop :=
  ∀ (m : (ℓ : Loc Cert.Kernel40Ideal.nD Cert.Kernel40Ideal.τ Cert.Kernel40Ideal.sig) → Buf (Elt Ideal) ℓ) (g : Dev Cert.Kernel40Ideal.nD → PrngReg)
    (m' : (ℓ : Loc Cert.Reference40Ideal.nD Cert.Reference40Ideal.τ Cert.Reference40Ideal.sig) → Buf (Elt Ideal) ℓ) (g' : Dev Cert.Reference40Ideal.nD → PrngReg), Pre_Kernel40Ideal m →
    (∀ c : Dev Cert.Kernel40Ideal.nD,
      m' ((c.tc : Thread Cert.Reference40Ideal.nD Cert.Reference40Ideal.τ).loc Cert.Reference40Ideal.main_arg0) = m ((c.tc : Thread Cert.Kernel40Ideal.nD Cert.Kernel40Ideal.τ).loc Cert.Kernel40Ideal.main_arg0)
      ∧ m' ((c.tc : Thread Cert.Reference40Ideal.nD Cert.Reference40Ideal.τ).loc Cert.Reference40Ideal.main_arg1) = m ((c.tc : Thread Cert.Kernel40Ideal.nD Cert.Kernel40Ideal.τ).loc Cert.Kernel40Ideal.main_arg1)
      ∧ m' ((c.tc : Thread Cert.Reference40Ideal.nD Cert.Reference40Ideal.τ).loc Cert.Reference40Ideal.main_arg2) = m ((c.tc : Thread Cert.Kernel40Ideal.nD Cert.Kernel40Ideal.τ).loc Cert.Kernel40Ideal.main_arg2)
      ∧ m' ((c.tc : Thread Cert.Reference40Ideal.nD Cert.Reference40Ideal.τ).loc Cert.Reference40Ideal.main_arg3) = m ((c.tc : Thread Cert.Kernel40Ideal.nD Cert.Kernel40Ideal.τ).loc Cert.Kernel40Ideal.main_arg3)) →
    ∃ (v0 : (c : Dev Cert.Kernel40Ideal.nD) → Buf (Elt Ideal) ((c.tc : Thread Cert.Kernel40Ideal.nD Cert.Kernel40Ideal.τ).loc Cert.Kernel40Ideal.main_v1_0)) (v1 : (c : Dev Cert.Kernel40Ideal.nD) → Buf (Elt Ideal) ((c.tc : Thread Cert.Kernel40Ideal.nD Cert.Kernel40Ideal.τ).loc Cert.Kernel40Ideal.main_v1_1)) (v2 : (c : Dev Cert.Kernel40Ideal.nD) → Buf (Elt Ideal) ((c.tc : Thread Cert.Kernel40Ideal.nD Cert.Kernel40Ideal.τ).loc Cert.Kernel40Ideal.main_v1_2)),
      θ_run (Cert.Kernel40Ideal.defs (F := Ideal)) (onTc (τ := Cert.Kernel40Ideal.τ) (Cert.Kernel40Ideal.main (F := Ideal))) ⟨m, fun _ => 0, g⟩ (fun r => ∀ c : Dev Cert.Kernel40Ideal.nD,
          r.2.mem ((c.tc : Thread Cert.Kernel40Ideal.nD Cert.Kernel40Ideal.τ).loc Cert.Kernel40Ideal.main_v1_0) = v0 c
          ∧ r.2.mem ((c.tc : Thread Cert.Kernel40Ideal.nD Cert.Kernel40Ideal.τ).loc Cert.Kernel40Ideal.main_v1_1) = v1 c
          ∧ r.2.mem ((c.tc : Thread Cert.Kernel40Ideal.nD Cert.Kernel40Ideal.τ).loc Cert.Kernel40Ideal.main_v1_2) = v2 c
          ∧ r.2.mem ((c.tc : Thread Cert.Kernel40Ideal.nD Cert.Kernel40Ideal.τ).loc Cert.Kernel40Ideal.main_arg0) = m ((c.tc : Thread Cert.Kernel40Ideal.nD Cert.Kernel40Ideal.τ).loc Cert.Kernel40Ideal.main_arg0)
          ∧ r.2.mem ((c.tc : Thread Cert.Kernel40Ideal.nD Cert.Kernel40Ideal.τ).loc Cert.Kernel40Ideal.main_arg1) = m ((c.tc : Thread Cert.Kernel40Ideal.nD Cert.Kernel40Ideal.τ).loc Cert.Kernel40Ideal.main_arg1)
          ∧ r.2.mem ((c.tc : Thread Cert.Kernel40Ideal.nD Cert.Kernel40Ideal.τ).loc Cert.Kernel40Ideal.main_arg2) = m ((c.tc : Thread Cert.Kernel40Ideal.nD Cert.Kernel40Ideal.τ).loc Cert.Kernel40Ideal.main_arg2)
          ∧ r.2.mem ((c.tc : Thread Cert.Kernel40Ideal.nD Cert.Kernel40Ideal.τ).loc Cert.Kernel40Ideal.main_arg3) = m ((c.tc : Thread Cert.Kernel40Ideal.nD Cert.Kernel40Ideal.τ).loc Cert.Kernel40Ideal.main_arg3))
      ∧ θ_run (Cert.Reference40Ideal.defs (F := Ideal)) (onTc (τ := Cert.Reference40Ideal.τ) (Cert.Reference40Ideal.main (F := Ideal))) ⟨m', fun _ => 0, g'⟩ (fun r => ∀ c : Dev Cert.Reference40Ideal.nD,
          r.2.mem ((c.tc : Thread Cert.Reference40Ideal.nD Cert.Reference40Ideal.τ).loc Cert.Reference40Ideal.main_v49) = v0 c
          ∧ r.2.mem ((c.tc : Thread Cert.Reference40Ideal.nD Cert.Reference40Ideal.τ).loc Cert.Reference40Ideal.main_v50) = v1 c
          ∧ r.2.mem ((c.tc : Thread Cert.Reference40Ideal.nD Cert.Reference40Ideal.τ).loc Cert.Reference40Ideal.main_v51) = v2 c
          ∧ r.2.mem ((c.tc : Thread Cert.Reference40Ideal.nD Cert.Reference40Ideal.τ).loc Cert.Reference40Ideal.main_arg0) = m' ((c.tc : Thread Cert.Reference40Ideal.nD Cert.Reference40Ideal.τ).loc Cert.Reference40Ideal.main_arg0)
          ∧ r.2.mem ((c.tc : Thread Cert.Reference40Ideal.nD Cert.Reference40Ideal.τ).loc Cert.Reference40Ideal.main_arg1) = m' ((c.tc : Thread Cert.Reference40Ideal.nD Cert.Reference40Ideal.τ).loc Cert.Reference40Ideal.main_arg1)
          ∧ r.2.mem ((c.tc : Thread Cert.Reference40Ideal.nD Cert.Reference40Ideal.τ).loc Cert.Reference40Ideal.main_arg2) = m' ((c.tc : Thread Cert.Reference40Ideal.nD Cert.Reference40Ideal.τ).loc Cert.Reference40Ideal.main_arg2)
          ∧ r.2.mem ((c.tc : Thread Cert.Reference40Ideal.nD Cert.Reference40Ideal.τ).loc Cert.Reference40Ideal.main_arg3) = m' ((c.tc : Thread Cert.Reference40Ideal.nD Cert.Reference40Ideal.τ).loc Cert.Reference40Ideal.main_arg3))

def preserves_Kernel41_Kernel41Ideal : Prop :=
  True

def algebraic_Kernel41Ideal_Reference41Ideal [hKernel41Ideal : Cert.Kernel41Ideal.Facts] [hReference41Ideal : Cert.Reference41Ideal.Facts] : Prop :=
  ∀ (m : (ℓ : Loc Cert.Kernel41Ideal.nD Cert.Kernel41Ideal.τ Cert.Kernel41Ideal.sig) → Buf (Elt Ideal) ℓ) (g : Dev Cert.Kernel41Ideal.nD → PrngReg)
    (m' : (ℓ : Loc Cert.Reference41Ideal.nD Cert.Reference41Ideal.τ Cert.Reference41Ideal.sig) → Buf (Elt Ideal) ℓ) (g' : Dev Cert.Reference41Ideal.nD → PrngReg), Pre_Kernel41Ideal m →
    (∀ c : Dev Cert.Kernel41Ideal.nD,
      m' ((c.tc : Thread Cert.Reference41Ideal.nD Cert.Reference41Ideal.τ).loc Cert.Reference41Ideal.main_arg0) = m ((c.tc : Thread Cert.Kernel41Ideal.nD Cert.Kernel41Ideal.τ).loc Cert.Kernel41Ideal.main_arg0)
      ∧ m' ((c.tc : Thread Cert.Reference41Ideal.nD Cert.Reference41Ideal.τ).loc Cert.Reference41Ideal.main_arg1) = m ((c.tc : Thread Cert.Kernel41Ideal.nD Cert.Kernel41Ideal.τ).loc Cert.Kernel41Ideal.main_arg1)
      ∧ m' ((c.tc : Thread Cert.Reference41Ideal.nD Cert.Reference41Ideal.τ).loc Cert.Reference41Ideal.main_arg2) = m ((c.tc : Thread Cert.Kernel41Ideal.nD Cert.Kernel41Ideal.τ).loc Cert.Kernel41Ideal.main_arg2)) →
    ∃ (v0 : (c : Dev Cert.Kernel41Ideal.nD) → Buf (Elt Ideal) ((c.tc : Thread Cert.Kernel41Ideal.nD Cert.Kernel41Ideal.τ).loc Cert.Kernel41Ideal.main_v1_0)) (v1 : (c : Dev Cert.Kernel41Ideal.nD) → Buf (Elt Ideal) ((c.tc : Thread Cert.Kernel41Ideal.nD Cert.Kernel41Ideal.τ).loc Cert.Kernel41Ideal.main_v1_1)) (v2 : (c : Dev Cert.Kernel41Ideal.nD) → Buf (Elt Ideal) ((c.tc : Thread Cert.Kernel41Ideal.nD Cert.Kernel41Ideal.τ).loc Cert.Kernel41Ideal.main_v1_2)),
      θ_run (Cert.Kernel41Ideal.defs (F := Ideal)) (onTc (τ := Cert.Kernel41Ideal.τ) (Cert.Kernel41Ideal.main (F := Ideal))) ⟨m, fun _ => 0, g⟩ (fun r => ∀ c : Dev Cert.Kernel41Ideal.nD,
          r.2.mem ((c.tc : Thread Cert.Kernel41Ideal.nD Cert.Kernel41Ideal.τ).loc Cert.Kernel41Ideal.main_v1_0) = v0 c
          ∧ r.2.mem ((c.tc : Thread Cert.Kernel41Ideal.nD Cert.Kernel41Ideal.τ).loc Cert.Kernel41Ideal.main_v1_1) = v1 c
          ∧ r.2.mem ((c.tc : Thread Cert.Kernel41Ideal.nD Cert.Kernel41Ideal.τ).loc Cert.Kernel41Ideal.main_v1_2) = v2 c
          ∧ r.2.mem ((c.tc : Thread Cert.Kernel41Ideal.nD Cert.Kernel41Ideal.τ).loc Cert.Kernel41Ideal.main_arg0) = m ((c.tc : Thread Cert.Kernel41Ideal.nD Cert.Kernel41Ideal.τ).loc Cert.Kernel41Ideal.main_arg0)
          ∧ r.2.mem ((c.tc : Thread Cert.Kernel41Ideal.nD Cert.Kernel41Ideal.τ).loc Cert.Kernel41Ideal.main_arg1) = m ((c.tc : Thread Cert.Kernel41Ideal.nD Cert.Kernel41Ideal.τ).loc Cert.Kernel41Ideal.main_arg1)
          ∧ r.2.mem ((c.tc : Thread Cert.Kernel41Ideal.nD Cert.Kernel41Ideal.τ).loc Cert.Kernel41Ideal.main_arg2) = m ((c.tc : Thread Cert.Kernel41Ideal.nD Cert.Kernel41Ideal.τ).loc Cert.Kernel41Ideal.main_arg2))
      ∧ θ_run (Cert.Reference41Ideal.defs (F := Ideal)) (onTc (τ := Cert.Reference41Ideal.τ) (Cert.Reference41Ideal.main (F := Ideal))) ⟨m', fun _ => 0, g'⟩ (fun r => ∀ c : Dev Cert.Reference41Ideal.nD,
          r.2.mem ((c.tc : Thread Cert.Reference41Ideal.nD Cert.Reference41Ideal.τ).loc Cert.Reference41Ideal.main_v50) = v0 c
          ∧ r.2.mem ((c.tc : Thread Cert.Reference41Ideal.nD Cert.Reference41Ideal.τ).loc Cert.Reference41Ideal.main_v51) = v1 c
          ∧ r.2.mem ((c.tc : Thread Cert.Reference41Ideal.nD Cert.Reference41Ideal.τ).loc Cert.Reference41Ideal.main_v52) = v2 c
          ∧ r.2.mem ((c.tc : Thread Cert.Reference41Ideal.nD Cert.Reference41Ideal.τ).loc Cert.Reference41Ideal.main_arg0) = m' ((c.tc : Thread Cert.Reference41Ideal.nD Cert.Reference41Ideal.τ).loc Cert.Reference41Ideal.main_arg0)
          ∧ r.2.mem ((c.tc : Thread Cert.Reference41Ideal.nD Cert.Reference41Ideal.τ).loc Cert.Reference41Ideal.main_arg1) = m' ((c.tc : Thread Cert.Reference41Ideal.nD Cert.Reference41Ideal.τ).loc Cert.Reference41Ideal.main_arg1)
          ∧ r.2.mem ((c.tc : Thread Cert.Reference41Ideal.nD Cert.Reference41Ideal.τ).loc Cert.Reference41Ideal.main_arg2) = m' ((c.tc : Thread Cert.Reference41Ideal.nD Cert.Reference41Ideal.τ).loc Cert.Reference41Ideal.main_arg2))

def preserves_Kernel42_Kernel42Ideal : Prop :=
  True

def algebraic_Kernel42Ideal_Reference42Ideal [hKernel42Ideal : Cert.Kernel42Ideal.Facts] [hReference42Ideal : Cert.Reference42Ideal.Facts] : Prop :=
  ∀ (m : (ℓ : Loc Cert.Kernel42Ideal.nD Cert.Kernel42Ideal.τ Cert.Kernel42Ideal.sig) → Buf (Elt Ideal) ℓ) (g : Dev Cert.Kernel42Ideal.nD → PrngReg)
    (m' : (ℓ : Loc Cert.Reference42Ideal.nD Cert.Reference42Ideal.τ Cert.Reference42Ideal.sig) → Buf (Elt Ideal) ℓ) (g' : Dev Cert.Reference42Ideal.nD → PrngReg), Pre_Kernel42Ideal m →
    (∀ c : Dev Cert.Kernel42Ideal.nD,
      m' ((c.tc : Thread Cert.Reference42Ideal.nD Cert.Reference42Ideal.τ).loc Cert.Reference42Ideal.main_arg0) = m ((c.tc : Thread Cert.Kernel42Ideal.nD Cert.Kernel42Ideal.τ).loc Cert.Kernel42Ideal.main_arg0)
      ∧ m' ((c.tc : Thread Cert.Reference42Ideal.nD Cert.Reference42Ideal.τ).loc Cert.Reference42Ideal.main_arg1) = m ((c.tc : Thread Cert.Kernel42Ideal.nD Cert.Kernel42Ideal.τ).loc Cert.Kernel42Ideal.main_arg1)) →
    ∃ (v0 : (c : Dev Cert.Kernel42Ideal.nD) → Buf (Elt Ideal) ((c.tc : Thread Cert.Kernel42Ideal.nD Cert.Kernel42Ideal.τ).loc Cert.Kernel42Ideal.main_v1)),
      θ_run (Cert.Kernel42Ideal.defs (F := Ideal)) (onTc (τ := Cert.Kernel42Ideal.τ) (Cert.Kernel42Ideal.main (F := Ideal))) ⟨m, fun _ => 0, g⟩ (fun r => ∀ c : Dev Cert.Kernel42Ideal.nD,
          r.2.mem ((c.tc : Thread Cert.Kernel42Ideal.nD Cert.Kernel42Ideal.τ).loc Cert.Kernel42Ideal.main_v1) = v0 c
          ∧ r.2.mem ((c.tc : Thread Cert.Kernel42Ideal.nD Cert.Kernel42Ideal.τ).loc Cert.Kernel42Ideal.main_arg0) = m ((c.tc : Thread Cert.Kernel42Ideal.nD Cert.Kernel42Ideal.τ).loc Cert.Kernel42Ideal.main_arg0)
          ∧ r.2.mem ((c.tc : Thread Cert.Kernel42Ideal.nD Cert.Kernel42Ideal.τ).loc Cert.Kernel42Ideal.main_arg1) = m ((c.tc : Thread Cert.Kernel42Ideal.nD Cert.Kernel42Ideal.τ).loc Cert.Kernel42Ideal.main_arg1))
      ∧ θ_run (Cert.Reference42Ideal.defs (F := Ideal)) (onTc (τ := Cert.Reference42Ideal.τ) (Cert.Reference42Ideal.main (F := Ideal))) ⟨m', fun _ => 0, g'⟩ (fun r => ∀ c : Dev Cert.Reference42Ideal.nD,
          r.2.mem ((c.tc : Thread Cert.Reference42Ideal.nD Cert.Reference42Ideal.τ).loc Cert.Reference42Ideal.main_v13) = v0 c
          ∧ r.2.mem ((c.tc : Thread Cert.Reference42Ideal.nD Cert.Reference42Ideal.τ).loc Cert.Reference42Ideal.main_arg0) = m' ((c.tc : Thread Cert.Reference42Ideal.nD Cert.Reference42Ideal.τ).loc Cert.Reference42Ideal.main_arg0)
          ∧ r.2.mem ((c.tc : Thread Cert.Reference42Ideal.nD Cert.Reference42Ideal.τ).loc Cert.Reference42Ideal.main_arg1) = m' ((c.tc : Thread Cert.Reference42Ideal.nD Cert.Reference42Ideal.τ).loc Cert.Reference42Ideal.main_arg1))

def preserves_Kernel43_Kernel43Ideal : Prop :=
  True

def algebraic_Kernel43Ideal_Reference43Ideal [hKernel43Ideal : Cert.Kernel43Ideal.Facts] [hReference43Ideal : Cert.Reference43Ideal.Facts] : Prop :=
  ∀ (m : (ℓ : Loc Cert.Kernel43Ideal.nD Cert.Kernel43Ideal.τ Cert.Kernel43Ideal.sig) → Buf (Elt Ideal) ℓ) (g : Dev Cert.Kernel43Ideal.nD → PrngReg)
    (m' : (ℓ : Loc Cert.Reference43Ideal.nD Cert.Reference43Ideal.τ Cert.Reference43Ideal.sig) → Buf (Elt Ideal) ℓ) (g' : Dev Cert.Reference43Ideal.nD → PrngReg), Pre_Kernel43Ideal m →
    (∀ c : Dev Cert.Kernel43Ideal.nD,
      m' ((c.tc : Thread Cert.Reference43Ideal.nD Cert.Reference43Ideal.τ).loc Cert.Reference43Ideal.main_arg0) = m ((c.tc : Thread Cert.Kernel43Ideal.nD Cert.Kernel43Ideal.τ).loc Cert.Kernel43Ideal.main_arg0)
      ∧ m' ((c.tc : Thread Cert.Reference43Ideal.nD Cert.Reference43Ideal.τ).loc Cert.Reference43Ideal.main_arg1) = m ((c.tc : Thread Cert.Kernel43Ideal.nD Cert.Kernel43Ideal.τ).loc Cert.Kernel43Ideal.main_arg1)
      ∧ m' ((c.tc : Thread Cert.Reference43Ideal.nD Cert.Reference43Ideal.τ).loc Cert.Reference43Ideal.main_arg2) = m ((c.tc : Thread Cert.Kernel43Ideal.nD Cert.Kernel43Ideal.τ).loc Cert.Kernel43Ideal.main_arg2)
      ∧ m' ((c.tc : Thread Cert.Reference43Ideal.nD Cert.Reference43Ideal.τ).loc Cert.Reference43Ideal.main_arg3) = m ((c.tc : Thread Cert.Kernel43Ideal.nD Cert.Kernel43Ideal.τ).loc Cert.Kernel43Ideal.main_arg3)) →
    ∃ (v0 : (c : Dev Cert.Kernel43Ideal.nD) → Buf (Elt Ideal) ((c.tc : Thread Cert.Kernel43Ideal.nD Cert.Kernel43Ideal.τ).loc Cert.Kernel43Ideal.main_v1)),
      θ_run (Cert.Kernel43Ideal.defs (F := Ideal)) (onTc (τ := Cert.Kernel43Ideal.τ) (Cert.Kernel43Ideal.main (F := Ideal))) ⟨m, fun _ => 0, g⟩ (fun r => ∀ c : Dev Cert.Kernel43Ideal.nD,
          r.2.mem ((c.tc : Thread Cert.Kernel43Ideal.nD Cert.Kernel43Ideal.τ).loc Cert.Kernel43Ideal.main_v1) = v0 c
          ∧ r.2.mem ((c.tc : Thread Cert.Kernel43Ideal.nD Cert.Kernel43Ideal.τ).loc Cert.Kernel43Ideal.main_arg0) = m ((c.tc : Thread Cert.Kernel43Ideal.nD Cert.Kernel43Ideal.τ).loc Cert.Kernel43Ideal.main_arg0)
          ∧ r.2.mem ((c.tc : Thread Cert.Kernel43Ideal.nD Cert.Kernel43Ideal.τ).loc Cert.Kernel43Ideal.main_arg1) = m ((c.tc : Thread Cert.Kernel43Ideal.nD Cert.Kernel43Ideal.τ).loc Cert.Kernel43Ideal.main_arg1)
          ∧ r.2.mem ((c.tc : Thread Cert.Kernel43Ideal.nD Cert.Kernel43Ideal.τ).loc Cert.Kernel43Ideal.main_arg2) = m ((c.tc : Thread Cert.Kernel43Ideal.nD Cert.Kernel43Ideal.τ).loc Cert.Kernel43Ideal.main_arg2)
          ∧ r.2.mem ((c.tc : Thread Cert.Kernel43Ideal.nD Cert.Kernel43Ideal.τ).loc Cert.Kernel43Ideal.main_arg3) = m ((c.tc : Thread Cert.Kernel43Ideal.nD Cert.Kernel43Ideal.τ).loc Cert.Kernel43Ideal.main_arg3))
      ∧ θ_run (Cert.Reference43Ideal.defs (F := Ideal)) (onTc (τ := Cert.Reference43Ideal.τ) (Cert.Reference43Ideal.main (F := Ideal))) ⟨m', fun _ => 0, g'⟩ (fun r => ∀ c : Dev Cert.Reference43Ideal.nD,
          r.2.mem ((c.tc : Thread Cert.Reference43Ideal.nD Cert.Reference43Ideal.τ).loc Cert.Reference43Ideal.main_v20) = v0 c
          ∧ r.2.mem ((c.tc : Thread Cert.Reference43Ideal.nD Cert.Reference43Ideal.τ).loc Cert.Reference43Ideal.main_arg0) = m' ((c.tc : Thread Cert.Reference43Ideal.nD Cert.Reference43Ideal.τ).loc Cert.Reference43Ideal.main_arg0)
          ∧ r.2.mem ((c.tc : Thread Cert.Reference43Ideal.nD Cert.Reference43Ideal.τ).loc Cert.Reference43Ideal.main_arg1) = m' ((c.tc : Thread Cert.Reference43Ideal.nD Cert.Reference43Ideal.τ).loc Cert.Reference43Ideal.main_arg1)
          ∧ r.2.mem ((c.tc : Thread Cert.Reference43Ideal.nD Cert.Reference43Ideal.τ).loc Cert.Reference43Ideal.main_arg2) = m' ((c.tc : Thread Cert.Reference43Ideal.nD Cert.Reference43Ideal.τ).loc Cert.Reference43Ideal.main_arg2)
          ∧ r.2.mem ((c.tc : Thread Cert.Reference43Ideal.nD Cert.Reference43Ideal.τ).loc Cert.Reference43Ideal.main_arg3) = m' ((c.tc : Thread Cert.Reference43Ideal.nD Cert.Reference43Ideal.τ).loc Cert.Reference43Ideal.main_arg3))

def preserves_Kernel44_Kernel44Ideal : Prop :=
  True

def algebraic_Kernel44Ideal_Reference44Ideal [hKernel44Ideal : Cert.Kernel44Ideal.Facts] [hReference44Ideal : Cert.Reference44Ideal.Facts] : Prop :=
  ∀ (m : (ℓ : Loc Cert.Kernel44Ideal.nD Cert.Kernel44Ideal.τ Cert.Kernel44Ideal.sig) → Buf (Elt Ideal) ℓ) (g : Dev Cert.Kernel44Ideal.nD → PrngReg)
    (m' : (ℓ : Loc Cert.Reference44Ideal.nD Cert.Reference44Ideal.τ Cert.Reference44Ideal.sig) → Buf (Elt Ideal) ℓ) (g' : Dev Cert.Reference44Ideal.nD → PrngReg), Pre_Kernel44Ideal m →
    (∀ c : Dev Cert.Kernel44Ideal.nD,
      m' ((c.tc : Thread Cert.Reference44Ideal.nD Cert.Reference44Ideal.τ).loc Cert.Reference44Ideal.main_arg0) = m ((c.tc : Thread Cert.Kernel44Ideal.nD Cert.Kernel44Ideal.τ).loc Cert.Kernel44Ideal.main_arg0)
      ∧ m' ((c.tc : Thread Cert.Reference44Ideal.nD Cert.Reference44Ideal.τ).loc Cert.Reference44Ideal.main_arg1) = m ((c.tc : Thread Cert.Kernel44Ideal.nD Cert.Kernel44Ideal.τ).loc Cert.Kernel44Ideal.main_arg1)) →
    ∃ (v0 : (c : Dev Cert.Kernel44Ideal.nD) → Buf (Elt Ideal) ((c.tc : Thread Cert.Kernel44Ideal.nD Cert.Kernel44Ideal.τ).loc Cert.Kernel44Ideal.main_v0)),
      θ_run (Cert.Kernel44Ideal.defs (F := Ideal)) (onTc (τ := Cert.Kernel44Ideal.τ) (Cert.Kernel44Ideal.main (F := Ideal))) ⟨m, fun _ => 0, g⟩ (fun r => ∀ c : Dev Cert.Kernel44Ideal.nD,
          r.2.mem ((c.tc : Thread Cert.Kernel44Ideal.nD Cert.Kernel44Ideal.τ).loc Cert.Kernel44Ideal.main_v0) = v0 c
          ∧ r.2.mem ((c.tc : Thread Cert.Kernel44Ideal.nD Cert.Kernel44Ideal.τ).loc Cert.Kernel44Ideal.main_arg0) = m ((c.tc : Thread Cert.Kernel44Ideal.nD Cert.Kernel44Ideal.τ).loc Cert.Kernel44Ideal.main_arg0)
          ∧ r.2.mem ((c.tc : Thread Cert.Kernel44Ideal.nD Cert.Kernel44Ideal.τ).loc Cert.Kernel44Ideal.main_arg1) = m ((c.tc : Thread Cert.Kernel44Ideal.nD Cert.Kernel44Ideal.τ).loc Cert.Kernel44Ideal.main_arg1))
      ∧ θ_run (Cert.Reference44Ideal.defs (F := Ideal)) (onTc (τ := Cert.Reference44Ideal.τ) (Cert.Reference44Ideal.main (F := Ideal))) ⟨m', fun _ => 0, g'⟩ (fun r => ∀ c : Dev Cert.Reference44Ideal.nD,
          r.2.mem ((c.tc : Thread Cert.Reference44Ideal.nD Cert.Reference44Ideal.τ).loc Cert.Reference44Ideal.main_v1) = v0 c
          ∧ r.2.mem ((c.tc : Thread Cert.Reference44Ideal.nD Cert.Reference44Ideal.τ).loc Cert.Reference44Ideal.main_arg0) = m' ((c.tc : Thread Cert.Reference44Ideal.nD Cert.Reference44Ideal.τ).loc Cert.Reference44Ideal.main_arg0)
          ∧ r.2.mem ((c.tc : Thread Cert.Reference44Ideal.nD Cert.Reference44Ideal.τ).loc Cert.Reference44Ideal.main_arg1) = m' ((c.tc : Thread Cert.Reference44Ideal.nD Cert.Reference44Ideal.τ).loc Cert.Reference44Ideal.main_arg1))

def preserves_Kernel45_Kernel45Ideal : Prop :=
  True

def algebraic_Kernel45Ideal_Reference45Ideal [hKernel45Ideal : Cert.Kernel45Ideal.Facts] [hReference45Ideal : Cert.Reference45Ideal.Facts] : Prop :=
  ∀ (m : (ℓ : Loc Cert.Kernel45Ideal.nD Cert.Kernel45Ideal.τ Cert.Kernel45Ideal.sig) → Buf (Elt Ideal) ℓ) (g : Dev Cert.Kernel45Ideal.nD → PrngReg)
    (m' : (ℓ : Loc Cert.Reference45Ideal.nD Cert.Reference45Ideal.τ Cert.Reference45Ideal.sig) → Buf (Elt Ideal) ℓ) (g' : Dev Cert.Reference45Ideal.nD → PrngReg), Pre_Kernel45Ideal m →
    (∀ c : Dev Cert.Kernel45Ideal.nD,
      m' ((c.tc : Thread Cert.Reference45Ideal.nD Cert.Reference45Ideal.τ).loc Cert.Reference45Ideal.main_arg0) = m ((c.tc : Thread Cert.Kernel45Ideal.nD Cert.Kernel45Ideal.τ).loc Cert.Kernel45Ideal.main_arg0)
      ∧ m' ((c.tc : Thread Cert.Reference45Ideal.nD Cert.Reference45Ideal.τ).loc Cert.Reference45Ideal.main_arg1) = m ((c.tc : Thread Cert.Kernel45Ideal.nD Cert.Kernel45Ideal.τ).loc Cert.Kernel45Ideal.main_arg1)
      ∧ m' ((c.tc : Thread Cert.Reference45Ideal.nD Cert.Reference45Ideal.τ).loc Cert.Reference45Ideal.main_arg2) = m ((c.tc : Thread Cert.Kernel45Ideal.nD Cert.Kernel45Ideal.τ).loc Cert.Kernel45Ideal.main_arg2)) →
    ∃ (v0 : (c : Dev Cert.Kernel45Ideal.nD) → Buf (Elt Ideal) ((c.tc : Thread Cert.Kernel45Ideal.nD Cert.Kernel45Ideal.τ).loc Cert.Kernel45Ideal.main_v0)),
      θ_run (Cert.Kernel45Ideal.defs (F := Ideal)) (onTc (τ := Cert.Kernel45Ideal.τ) (Cert.Kernel45Ideal.main (F := Ideal))) ⟨m, fun _ => 0, g⟩ (fun r => ∀ c : Dev Cert.Kernel45Ideal.nD,
          r.2.mem ((c.tc : Thread Cert.Kernel45Ideal.nD Cert.Kernel45Ideal.τ).loc Cert.Kernel45Ideal.main_v0) = v0 c
          ∧ r.2.mem ((c.tc : Thread Cert.Kernel45Ideal.nD Cert.Kernel45Ideal.τ).loc Cert.Kernel45Ideal.main_arg0) = m ((c.tc : Thread Cert.Kernel45Ideal.nD Cert.Kernel45Ideal.τ).loc Cert.Kernel45Ideal.main_arg0)
          ∧ r.2.mem ((c.tc : Thread Cert.Kernel45Ideal.nD Cert.Kernel45Ideal.τ).loc Cert.Kernel45Ideal.main_arg1) = m ((c.tc : Thread Cert.Kernel45Ideal.nD Cert.Kernel45Ideal.τ).loc Cert.Kernel45Ideal.main_arg1)
          ∧ r.2.mem ((c.tc : Thread Cert.Kernel45Ideal.nD Cert.Kernel45Ideal.τ).loc Cert.Kernel45Ideal.main_arg2) = m ((c.tc : Thread Cert.Kernel45Ideal.nD Cert.Kernel45Ideal.τ).loc Cert.Kernel45Ideal.main_arg2))
      ∧ θ_run (Cert.Reference45Ideal.defs (F := Ideal)) (onTc (τ := Cert.Reference45Ideal.τ) (Cert.Reference45Ideal.main (F := Ideal))) ⟨m', fun _ => 0, g'⟩ (fun r => ∀ c : Dev Cert.Reference45Ideal.nD,
          r.2.mem ((c.tc : Thread Cert.Reference45Ideal.nD Cert.Reference45Ideal.τ).loc Cert.Reference45Ideal.main_v4) = v0 c
          ∧ r.2.mem ((c.tc : Thread Cert.Reference45Ideal.nD Cert.Reference45Ideal.τ).loc Cert.Reference45Ideal.main_arg0) = m' ((c.tc : Thread Cert.Reference45Ideal.nD Cert.Reference45Ideal.τ).loc Cert.Reference45Ideal.main_arg0)
          ∧ r.2.mem ((c.tc : Thread Cert.Reference45Ideal.nD Cert.Reference45Ideal.τ).loc Cert.Reference45Ideal.main_arg1) = m' ((c.tc : Thread Cert.Reference45Ideal.nD Cert.Reference45Ideal.τ).loc Cert.Reference45Ideal.main_arg1)
          ∧ r.2.mem ((c.tc : Thread Cert.Reference45Ideal.nD Cert.Reference45Ideal.τ).loc Cert.Reference45Ideal.main_arg2) = m' ((c.tc : Thread Cert.Reference45Ideal.nD Cert.Reference45Ideal.τ).loc Cert.Reference45Ideal.main_arg2))

def preserves_Kernel46_Kernel46Ideal : Prop :=
  True

def algebraic_Kernel46Ideal_Reference46Ideal [hKernel46Ideal : Cert.Kernel46Ideal.Facts] [hReference46Ideal : Cert.Reference46Ideal.Facts] : Prop :=
  ∀ (m : (ℓ : Loc Cert.Kernel46Ideal.nD Cert.Kernel46Ideal.τ Cert.Kernel46Ideal.sig) → Buf (Elt Ideal) ℓ) (g : Dev Cert.Kernel46Ideal.nD → PrngReg)
    (m' : (ℓ : Loc Cert.Reference46Ideal.nD Cert.Reference46Ideal.τ Cert.Reference46Ideal.sig) → Buf (Elt Ideal) ℓ) (g' : Dev Cert.Reference46Ideal.nD → PrngReg), Pre_Kernel46Ideal m →
    (∀ c : Dev Cert.Kernel46Ideal.nD,
      m' ((c.tc : Thread Cert.Reference46Ideal.nD Cert.Reference46Ideal.τ).loc Cert.Reference46Ideal.main_arg0) = m ((c.tc : Thread Cert.Kernel46Ideal.nD Cert.Kernel46Ideal.τ).loc Cert.Kernel46Ideal.main_arg0)
      ∧ m' ((c.tc : Thread Cert.Reference46Ideal.nD Cert.Reference46Ideal.τ).loc Cert.Reference46Ideal.main_arg1) = m ((c.tc : Thread Cert.Kernel46Ideal.nD Cert.Kernel46Ideal.τ).loc Cert.Kernel46Ideal.main_arg1)
      ∧ m' ((c.tc : Thread Cert.Reference46Ideal.nD Cert.Reference46Ideal.τ).loc Cert.Reference46Ideal.main_arg2) = m ((c.tc : Thread Cert.Kernel46Ideal.nD Cert.Kernel46Ideal.τ).loc Cert.Kernel46Ideal.main_arg2)
      ∧ m' ((c.tc : Thread Cert.Reference46Ideal.nD Cert.Reference46Ideal.τ).loc Cert.Reference46Ideal.main_arg3) = m ((c.tc : Thread Cert.Kernel46Ideal.nD Cert.Kernel46Ideal.τ).loc Cert.Kernel46Ideal.main_arg3)) →
    ∃ (v0 : (c : Dev Cert.Kernel46Ideal.nD) → Buf (Elt Ideal) ((c.tc : Thread Cert.Kernel46Ideal.nD Cert.Kernel46Ideal.τ).loc Cert.Kernel46Ideal.main_v0)),
      θ_run (Cert.Kernel46Ideal.defs (F := Ideal)) (onTc (τ := Cert.Kernel46Ideal.τ) (Cert.Kernel46Ideal.main (F := Ideal))) ⟨m, fun _ => 0, g⟩ (fun r => ∀ c : Dev Cert.Kernel46Ideal.nD,
          r.2.mem ((c.tc : Thread Cert.Kernel46Ideal.nD Cert.Kernel46Ideal.τ).loc Cert.Kernel46Ideal.main_v0) = v0 c
          ∧ r.2.mem ((c.tc : Thread Cert.Kernel46Ideal.nD Cert.Kernel46Ideal.τ).loc Cert.Kernel46Ideal.main_arg0) = m ((c.tc : Thread Cert.Kernel46Ideal.nD Cert.Kernel46Ideal.τ).loc Cert.Kernel46Ideal.main_arg0)
          ∧ r.2.mem ((c.tc : Thread Cert.Kernel46Ideal.nD Cert.Kernel46Ideal.τ).loc Cert.Kernel46Ideal.main_arg1) = m ((c.tc : Thread Cert.Kernel46Ideal.nD Cert.Kernel46Ideal.τ).loc Cert.Kernel46Ideal.main_arg1)
          ∧ r.2.mem ((c.tc : Thread Cert.Kernel46Ideal.nD Cert.Kernel46Ideal.τ).loc Cert.Kernel46Ideal.main_arg2) = m ((c.tc : Thread Cert.Kernel46Ideal.nD Cert.Kernel46Ideal.τ).loc Cert.Kernel46Ideal.main_arg2)
          ∧ r.2.mem ((c.tc : Thread Cert.Kernel46Ideal.nD Cert.Kernel46Ideal.τ).loc Cert.Kernel46Ideal.main_arg3) = m ((c.tc : Thread Cert.Kernel46Ideal.nD Cert.Kernel46Ideal.τ).loc Cert.Kernel46Ideal.main_arg3))
      ∧ θ_run (Cert.Reference46Ideal.defs (F := Ideal)) (onTc (τ := Cert.Reference46Ideal.τ) (Cert.Reference46Ideal.main (F := Ideal))) ⟨m', fun _ => 0, g'⟩ (fun r => ∀ c : Dev Cert.Reference46Ideal.nD,
          r.2.mem ((c.tc : Thread Cert.Reference46Ideal.nD Cert.Reference46Ideal.τ).loc Cert.Reference46Ideal.main_v54) = v0 c
          ∧ r.2.mem ((c.tc : Thread Cert.Reference46Ideal.nD Cert.Reference46Ideal.τ).loc Cert.Reference46Ideal.main_arg0) = m' ((c.tc : Thread Cert.Reference46Ideal.nD Cert.Reference46Ideal.τ).loc Cert.Reference46Ideal.main_arg0)
          ∧ r.2.mem ((c.tc : Thread Cert.Reference46Ideal.nD Cert.Reference46Ideal.τ).loc Cert.Reference46Ideal.main_arg1) = m' ((c.tc : Thread Cert.Reference46Ideal.nD Cert.Reference46Ideal.τ).loc Cert.Reference46Ideal.main_arg1)
          ∧ r.2.mem ((c.tc : Thread Cert.Reference46Ideal.nD Cert.Reference46Ideal.τ).loc Cert.Reference46Ideal.main_arg2) = m' ((c.tc : Thread Cert.Reference46Ideal.nD Cert.Reference46Ideal.τ).loc Cert.Reference46Ideal.main_arg2)
          ∧ r.2.mem ((c.tc : Thread Cert.Reference46Ideal.nD Cert.Reference46Ideal.τ).loc Cert.Reference46Ideal.main_arg3) = m' ((c.tc : Thread Cert.Reference46Ideal.nD Cert.Reference46Ideal.τ).loc Cert.Reference46Ideal.main_arg3))

def preserves_Kernel47_Kernel47Ideal : Prop :=
  True

def algebraic_Kernel47Ideal_Reference47Ideal_pre_conv_finite [hKernel47Ideal : Cert.Kernel47Ideal.Facts] [hReference47Ideal : Cert.Reference47Ideal.Facts] [hPre_conv_finite : Cert.Pre_conv_finite.Facts] : Prop :=
  ∀ (m : (ℓ : Loc Cert.Kernel47Ideal.nD Cert.Kernel47Ideal.τ Cert.Kernel47Ideal.sig) → Buf (Elt Ideal) ℓ) (g : Dev Cert.Kernel47Ideal.nD → PrngReg)
    (m' : (ℓ : Loc Cert.Reference47Ideal.nD Cert.Reference47Ideal.τ Cert.Reference47Ideal.sig) → Buf (Elt Ideal) ℓ) (g' : Dev Cert.Reference47Ideal.nD → PrngReg), Pre_Kernel47Ideal_conv_finite m →
    (∀ c : Dev Cert.Kernel47Ideal.nD,
      m' ((c.tc : Thread Cert.Reference47Ideal.nD Cert.Reference47Ideal.τ).loc Cert.Reference47Ideal.main_arg0) = m ((c.tc : Thread Cert.Kernel47Ideal.nD Cert.Kernel47Ideal.τ).loc Cert.Kernel47Ideal.main_arg0)
      ∧ m' ((c.tc : Thread Cert.Reference47Ideal.nD Cert.Reference47Ideal.τ).loc Cert.Reference47Ideal.main_arg1) = m ((c.tc : Thread Cert.Kernel47Ideal.nD Cert.Kernel47Ideal.τ).loc Cert.Kernel47Ideal.main_arg1)
      ∧ m' ((c.tc : Thread Cert.Reference47Ideal.nD Cert.Reference47Ideal.τ).loc Cert.Reference47Ideal.main_arg2) = m ((c.tc : Thread Cert.Kernel47Ideal.nD Cert.Kernel47Ideal.τ).loc Cert.Kernel47Ideal.main_arg2)
      ∧ m' ((c.tc : Thread Cert.Reference47Ideal.nD Cert.Reference47Ideal.τ).loc Cert.Reference47Ideal.main_arg3) = m ((c.tc : Thread Cert.Kernel47Ideal.nD Cert.Kernel47Ideal.τ).loc Cert.Kernel47Ideal.main_arg3)) →
    ∃ (v0 : (c : Dev Cert.Kernel47Ideal.nD) → Buf (Elt Ideal) ((c.tc : Thread Cert.Kernel47Ideal.nD Cert.Kernel47Ideal.τ).loc Cert.Kernel47Ideal.main_v1_0)) (v1 : (c : Dev Cert.Kernel47Ideal.nD) → Buf (Elt Ideal) ((c.tc : Thread Cert.Kernel47Ideal.nD Cert.Kernel47Ideal.τ).loc Cert.Kernel47Ideal.main_v1_1)) (v2 : (c : Dev Cert.Kernel47Ideal.nD) → Buf (Elt Ideal) ((c.tc : Thread Cert.Kernel47Ideal.nD Cert.Kernel47Ideal.τ).loc Cert.Kernel47Ideal.main_v1_2)),
      θ_run (Cert.Kernel47Ideal.defs (F := Ideal)) (onTc (τ := Cert.Kernel47Ideal.τ) (Cert.Kernel47Ideal.main (F := Ideal))) ⟨m, fun _ => 0, g⟩ (fun r => ∀ c : Dev Cert.Kernel47Ideal.nD,
          r.2.mem ((c.tc : Thread Cert.Kernel47Ideal.nD Cert.Kernel47Ideal.τ).loc Cert.Kernel47Ideal.main_v1_0) = v0 c
          ∧ r.2.mem ((c.tc : Thread Cert.Kernel47Ideal.nD Cert.Kernel47Ideal.τ).loc Cert.Kernel47Ideal.main_v1_1) = v1 c
          ∧ r.2.mem ((c.tc : Thread Cert.Kernel47Ideal.nD Cert.Kernel47Ideal.τ).loc Cert.Kernel47Ideal.main_v1_2) = v2 c
          ∧ r.2.mem ((c.tc : Thread Cert.Kernel47Ideal.nD Cert.Kernel47Ideal.τ).loc Cert.Kernel47Ideal.main_arg0) = m ((c.tc : Thread Cert.Kernel47Ideal.nD Cert.Kernel47Ideal.τ).loc Cert.Kernel47Ideal.main_arg0)
          ∧ r.2.mem ((c.tc : Thread Cert.Kernel47Ideal.nD Cert.Kernel47Ideal.τ).loc Cert.Kernel47Ideal.main_arg1) = m ((c.tc : Thread Cert.Kernel47Ideal.nD Cert.Kernel47Ideal.τ).loc Cert.Kernel47Ideal.main_arg1)
          ∧ r.2.mem ((c.tc : Thread Cert.Kernel47Ideal.nD Cert.Kernel47Ideal.τ).loc Cert.Kernel47Ideal.main_arg2) = m ((c.tc : Thread Cert.Kernel47Ideal.nD Cert.Kernel47Ideal.τ).loc Cert.Kernel47Ideal.main_arg2)
          ∧ r.2.mem ((c.tc : Thread Cert.Kernel47Ideal.nD Cert.Kernel47Ideal.τ).loc Cert.Kernel47Ideal.main_arg3) = m ((c.tc : Thread Cert.Kernel47Ideal.nD Cert.Kernel47Ideal.τ).loc Cert.Kernel47Ideal.main_arg3))
      ∧ θ_run (Cert.Reference47Ideal.defs (F := Ideal)) (onTc (τ := Cert.Reference47Ideal.τ) (Cert.Reference47Ideal.main (F := Ideal))) ⟨m', fun _ => 0, g'⟩ (fun r => ∀ c : Dev Cert.Reference47Ideal.nD,
          r.2.mem ((c.tc : Thread Cert.Reference47Ideal.nD Cert.Reference47Ideal.τ).loc Cert.Reference47Ideal.main_v35) = v0 c
          ∧ r.2.mem ((c.tc : Thread Cert.Reference47Ideal.nD Cert.Reference47Ideal.τ).loc Cert.Reference47Ideal.main_v65) = v1 c
          ∧ r.2.mem ((c.tc : Thread Cert.Reference47Ideal.nD Cert.Reference47Ideal.τ).loc Cert.Reference47Ideal.main_v66) = v2 c
          ∧ r.2.mem ((c.tc : Thread Cert.Reference47Ideal.nD Cert.Reference47Ideal.τ).loc Cert.Reference47Ideal.main_arg0) = m' ((c.tc : Thread Cert.Reference47Ideal.nD Cert.Reference47Ideal.τ).loc Cert.Reference47Ideal.main_arg0)
          ∧ r.2.mem ((c.tc : Thread Cert.Reference47Ideal.nD Cert.Reference47Ideal.τ).loc Cert.Reference47Ideal.main_arg1) = m' ((c.tc : Thread Cert.Reference47Ideal.nD Cert.Reference47Ideal.τ).loc Cert.Reference47Ideal.main_arg1)
          ∧ r.2.mem ((c.tc : Thread Cert.Reference47Ideal.nD Cert.Reference47Ideal.τ).loc Cert.Reference47Ideal.main_arg2) = m' ((c.tc : Thread Cert.Reference47Ideal.nD Cert.Reference47Ideal.τ).loc Cert.Reference47Ideal.main_arg2)
          ∧ r.2.mem ((c.tc : Thread Cert.Reference47Ideal.nD Cert.Reference47Ideal.τ).loc Cert.Reference47Ideal.main_arg3) = m' ((c.tc : Thread Cert.Reference47Ideal.nD Cert.Reference47Ideal.τ).loc Cert.Reference47Ideal.main_arg3))

def preserves_Kernel48_Kernel48Ideal : Prop :=
  True

def algebraic_Kernel48Ideal_Reference48Ideal [hKernel48Ideal : Cert.Kernel48Ideal.Facts] [hReference48Ideal : Cert.Reference48Ideal.Facts] : Prop :=
  ∀ (m : (ℓ : Loc Cert.Kernel48Ideal.nD Cert.Kernel48Ideal.τ Cert.Kernel48Ideal.sig) → Buf (Elt Ideal) ℓ) (g : Dev Cert.Kernel48Ideal.nD → PrngReg)
    (m' : (ℓ : Loc Cert.Reference48Ideal.nD Cert.Reference48Ideal.τ Cert.Reference48Ideal.sig) → Buf (Elt Ideal) ℓ) (g' : Dev Cert.Reference48Ideal.nD → PrngReg), Pre_Kernel48Ideal m →
    (∀ c : Dev Cert.Kernel48Ideal.nD,
      m' ((c.tc : Thread Cert.Reference48Ideal.nD Cert.Reference48Ideal.τ).loc Cert.Reference48Ideal.main_arg0) = m ((c.tc : Thread Cert.Kernel48Ideal.nD Cert.Kernel48Ideal.τ).loc Cert.Kernel48Ideal.main_arg0)
      ∧ m' ((c.tc : Thread Cert.Reference48Ideal.nD Cert.Reference48Ideal.τ).loc Cert.Reference48Ideal.main_arg1) = m ((c.tc : Thread Cert.Kernel48Ideal.nD Cert.Kernel48Ideal.τ).loc Cert.Kernel48Ideal.main_arg1)
      ∧ m' ((c.tc : Thread Cert.Reference48Ideal.nD Cert.Reference48Ideal.τ).loc Cert.Reference48Ideal.main_arg2) = m ((c.tc : Thread Cert.Kernel48Ideal.nD Cert.Kernel48Ideal.τ).loc Cert.Kernel48Ideal.main_arg2)) →
    ∃ (v0 : (c : Dev Cert.Kernel48Ideal.nD) → Buf (Elt Ideal) ((c.tc : Thread Cert.Kernel48Ideal.nD Cert.Kernel48Ideal.τ).loc Cert.Kernel48Ideal.main_v1)),
      θ_run (Cert.Kernel48Ideal.defs (F := Ideal)) (onTc (τ := Cert.Kernel48Ideal.τ) (Cert.Kernel48Ideal.main (F := Ideal))) ⟨m, fun _ => 0, g⟩ (fun r => ∀ c : Dev Cert.Kernel48Ideal.nD,
          r.2.mem ((c.tc : Thread Cert.Kernel48Ideal.nD Cert.Kernel48Ideal.τ).loc Cert.Kernel48Ideal.main_v1) = v0 c
          ∧ r.2.mem ((c.tc : Thread Cert.Kernel48Ideal.nD Cert.Kernel48Ideal.τ).loc Cert.Kernel48Ideal.main_arg0) = m ((c.tc : Thread Cert.Kernel48Ideal.nD Cert.Kernel48Ideal.τ).loc Cert.Kernel48Ideal.main_arg0)
          ∧ r.2.mem ((c.tc : Thread Cert.Kernel48Ideal.nD Cert.Kernel48Ideal.τ).loc Cert.Kernel48Ideal.main_arg1) = m ((c.tc : Thread Cert.Kernel48Ideal.nD Cert.Kernel48Ideal.τ).loc Cert.Kernel48Ideal.main_arg1)
          ∧ r.2.mem ((c.tc : Thread Cert.Kernel48Ideal.nD Cert.Kernel48Ideal.τ).loc Cert.Kernel48Ideal.main_arg2) = m ((c.tc : Thread Cert.Kernel48Ideal.nD Cert.Kernel48Ideal.τ).loc Cert.Kernel48Ideal.main_arg2))
      ∧ θ_run (Cert.Reference48Ideal.defs (F := Ideal)) (onTc (τ := Cert.Reference48Ideal.τ) (Cert.Reference48Ideal.main (F := Ideal))) ⟨m', fun _ => 0, g'⟩ (fun r => ∀ c : Dev Cert.Reference48Ideal.nD,
          r.2.mem ((c.tc : Thread Cert.Reference48Ideal.nD Cert.Reference48Ideal.τ).loc Cert.Reference48Ideal.main_v34) = v0 c
          ∧ r.2.mem ((c.tc : Thread Cert.Reference48Ideal.nD Cert.Reference48Ideal.τ).loc Cert.Reference48Ideal.main_arg0) = m' ((c.tc : Thread Cert.Reference48Ideal.nD Cert.Reference48Ideal.τ).loc Cert.Reference48Ideal.main_arg0)
          ∧ r.2.mem ((c.tc : Thread Cert.Reference48Ideal.nD Cert.Reference48Ideal.τ).loc Cert.Reference48Ideal.main_arg1) = m' ((c.tc : Thread Cert.Reference48Ideal.nD Cert.Reference48Ideal.τ).loc Cert.Reference48Ideal.main_arg1)
          ∧ r.2.mem ((c.tc : Thread Cert.Reference48Ideal.nD Cert.Reference48Ideal.τ).loc Cert.Reference48Ideal.main_arg2) = m' ((c.tc : Thread Cert.Reference48Ideal.nD Cert.Reference48Ideal.τ).loc Cert.Reference48Ideal.main_arg2))

def preserves_Kernel49_Kernel49Ideal : Prop :=
  True

def algebraic_Kernel49Ideal_Reference49Ideal [hKernel49Ideal : Cert.Kernel49Ideal.Facts] [hReference49Ideal : Cert.Reference49Ideal.Facts] : Prop :=
  ∀ (m : (ℓ : Loc Cert.Kernel49Ideal.nD Cert.Kernel49Ideal.τ Cert.Kernel49Ideal.sig) → Buf (Elt Ideal) ℓ) (g : Dev Cert.Kernel49Ideal.nD → PrngReg)
    (m' : (ℓ : Loc Cert.Reference49Ideal.nD Cert.Reference49Ideal.τ Cert.Reference49Ideal.sig) → Buf (Elt Ideal) ℓ) (g' : Dev Cert.Reference49Ideal.nD → PrngReg), Pre_Kernel49Ideal m →
    (∀ c : Dev Cert.Kernel49Ideal.nD,
      m' ((c.tc : Thread Cert.Reference49Ideal.nD Cert.Reference49Ideal.τ).loc Cert.Reference49Ideal.main_arg0) = m ((c.tc : Thread Cert.Kernel49Ideal.nD Cert.Kernel49Ideal.τ).loc Cert.Kernel49Ideal.main_arg0)
      ∧ m' ((c.tc : Thread Cert.Reference49Ideal.nD Cert.Reference49Ideal.τ).loc Cert.Reference49Ideal.main_arg1) = m ((c.tc : Thread Cert.Kernel49Ideal.nD Cert.Kernel49Ideal.τ).loc Cert.Kernel49Ideal.main_arg1)
      ∧ m' ((c.tc : Thread Cert.Reference49Ideal.nD Cert.Reference49Ideal.τ).loc Cert.Reference49Ideal.main_arg2) = m ((c.tc : Thread Cert.Kernel49Ideal.nD Cert.Kernel49Ideal.τ).loc Cert.Kernel49Ideal.main_arg2)
      ∧ m' ((c.tc : Thread Cert.Reference49Ideal.nD Cert.Reference49Ideal.τ).loc Cert.Reference49Ideal.main_arg3) = m ((c.tc : Thread Cert.Kernel49Ideal.nD Cert.Kernel49Ideal.τ).loc Cert.Kernel49Ideal.main_arg3)
      ∧ m' ((c.tc : Thread Cert.Reference49Ideal.nD Cert.Reference49Ideal.τ).loc Cert.Reference49Ideal.main_arg4) = m ((c.tc : Thread Cert.Kernel49Ideal.nD Cert.Kernel49Ideal.τ).loc Cert.Kernel49Ideal.main_arg4)
      ∧ m' ((c.tc : Thread Cert.Reference49Ideal.nD Cert.Reference49Ideal.τ).loc Cert.Reference49Ideal.main_arg5) = m ((c.tc : Thread Cert.Kernel49Ideal.nD Cert.Kernel49Ideal.τ).loc Cert.Kernel49Ideal.main_arg5)
      ∧ m' ((c.tc : Thread Cert.Reference49Ideal.nD Cert.Reference49Ideal.τ).loc Cert.Reference49Ideal.main_arg6) = m ((c.tc : Thread Cert.Kernel49Ideal.nD Cert.Kernel49Ideal.τ).loc Cert.Kernel49Ideal.main_arg6)) →
    ∃ (v0 : (c : Dev Cert.Kernel49Ideal.nD) → Buf (Elt Ideal) ((c.tc : Thread Cert.Kernel49Ideal.nD Cert.Kernel49Ideal.τ).loc Cert.Kernel49Ideal.main_v2)),
      θ_run (Cert.Kernel49Ideal.defs (F := Ideal)) (onTc (τ := Cert.Kernel49Ideal.τ) (Cert.Kernel49Ideal.main (F := Ideal))) ⟨m, fun _ => 0, g⟩ (fun r => ∀ c : Dev Cert.Kernel49Ideal.nD,
          r.2.mem ((c.tc : Thread Cert.Kernel49Ideal.nD Cert.Kernel49Ideal.τ).loc Cert.Kernel49Ideal.main_v2) = v0 c
          ∧ r.2.mem ((c.tc : Thread Cert.Kernel49Ideal.nD Cert.Kernel49Ideal.τ).loc Cert.Kernel49Ideal.main_arg0) = m ((c.tc : Thread Cert.Kernel49Ideal.nD Cert.Kernel49Ideal.τ).loc Cert.Kernel49Ideal.main_arg0)
          ∧ r.2.mem ((c.tc : Thread Cert.Kernel49Ideal.nD Cert.Kernel49Ideal.τ).loc Cert.Kernel49Ideal.main_arg1) = m ((c.tc : Thread Cert.Kernel49Ideal.nD Cert.Kernel49Ideal.τ).loc Cert.Kernel49Ideal.main_arg1)
          ∧ r.2.mem ((c.tc : Thread Cert.Kernel49Ideal.nD Cert.Kernel49Ideal.τ).loc Cert.Kernel49Ideal.main_arg2) = m ((c.tc : Thread Cert.Kernel49Ideal.nD Cert.Kernel49Ideal.τ).loc Cert.Kernel49Ideal.main_arg2)
          ∧ r.2.mem ((c.tc : Thread Cert.Kernel49Ideal.nD Cert.Kernel49Ideal.τ).loc Cert.Kernel49Ideal.main_arg3) = m ((c.tc : Thread Cert.Kernel49Ideal.nD Cert.Kernel49Ideal.τ).loc Cert.Kernel49Ideal.main_arg3)
          ∧ r.2.mem ((c.tc : Thread Cert.Kernel49Ideal.nD Cert.Kernel49Ideal.τ).loc Cert.Kernel49Ideal.main_arg4) = m ((c.tc : Thread Cert.Kernel49Ideal.nD Cert.Kernel49Ideal.τ).loc Cert.Kernel49Ideal.main_arg4)
          ∧ r.2.mem ((c.tc : Thread Cert.Kernel49Ideal.nD Cert.Kernel49Ideal.τ).loc Cert.Kernel49Ideal.main_arg5) = m ((c.tc : Thread Cert.Kernel49Ideal.nD Cert.Kernel49Ideal.τ).loc Cert.Kernel49Ideal.main_arg5)
          ∧ r.2.mem ((c.tc : Thread Cert.Kernel49Ideal.nD Cert.Kernel49Ideal.τ).loc Cert.Kernel49Ideal.main_arg6) = m ((c.tc : Thread Cert.Kernel49Ideal.nD Cert.Kernel49Ideal.τ).loc Cert.Kernel49Ideal.main_arg6))
      ∧ θ_run (Cert.Reference49Ideal.defs (F := Ideal)) (onTc (τ := Cert.Reference49Ideal.τ) (Cert.Reference49Ideal.main (F := Ideal))) ⟨m', fun _ => 0, g'⟩ (fun r => ∀ c : Dev Cert.Reference49Ideal.nD,
          r.2.mem ((c.tc : Thread Cert.Reference49Ideal.nD Cert.Reference49Ideal.τ).loc Cert.Reference49Ideal.main_v39) = v0 c
          ∧ r.2.mem ((c.tc : Thread Cert.Reference49Ideal.nD Cert.Reference49Ideal.τ).loc Cert.Reference49Ideal.main_arg0) = m' ((c.tc : Thread Cert.Reference49Ideal.nD Cert.Reference49Ideal.τ).loc Cert.Reference49Ideal.main_arg0)
          ∧ r.2.mem ((c.tc : Thread Cert.Reference49Ideal.nD Cert.Reference49Ideal.τ).loc Cert.Reference49Ideal.main_arg1) = m' ((c.tc : Thread Cert.Reference49Ideal.nD Cert.Reference49Ideal.τ).loc Cert.Reference49Ideal.main_arg1)
          ∧ r.2.mem ((c.tc : Thread Cert.Reference49Ideal.nD Cert.Reference49Ideal.τ).loc Cert.Reference49Ideal.main_arg2) = m' ((c.tc : Thread Cert.Reference49Ideal.nD Cert.Reference49Ideal.τ).loc Cert.Reference49Ideal.main_arg2)
          ∧ r.2.mem ((c.tc : Thread Cert.Reference49Ideal.nD Cert.Reference49Ideal.τ).loc Cert.Reference49Ideal.main_arg3) = m' ((c.tc : Thread Cert.Reference49Ideal.nD Cert.Reference49Ideal.τ).loc Cert.Reference49Ideal.main_arg3)
          ∧ r.2.mem ((c.tc : Thread Cert.Reference49Ideal.nD Cert.Reference49Ideal.τ).loc Cert.Reference49Ideal.main_arg4) = m' ((c.tc : Thread Cert.Reference49Ideal.nD Cert.Reference49Ideal.τ).loc Cert.Reference49Ideal.main_arg4)
          ∧ r.2.mem ((c.tc : Thread Cert.Reference49Ideal.nD Cert.Reference49Ideal.τ).loc Cert.Reference49Ideal.main_arg5) = m' ((c.tc : Thread Cert.Reference49Ideal.nD Cert.Reference49Ideal.τ).loc Cert.Reference49Ideal.main_arg5)
          ∧ r.2.mem ((c.tc : Thread Cert.Reference49Ideal.nD Cert.Reference49Ideal.τ).loc Cert.Reference49Ideal.main_arg6) = m' ((c.tc : Thread Cert.Reference49Ideal.nD Cert.Reference49Ideal.τ).loc Cert.Reference49Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hKernel39 : Cert.Kernel39.Facts) (hKernel39Ideal : Cert.Kernel39Ideal.Facts) (hReference39Ideal : Cert.Reference39Ideal.Facts) (hKernel40 : Cert.Kernel40.Facts) (hKernel40Ideal : Cert.Kernel40Ideal.Facts) (hReference40Ideal : Cert.Reference40Ideal.Facts) (hKernel41 : Cert.Kernel41.Facts) (hKernel41Ideal : Cert.Kernel41Ideal.Facts) (hReference41Ideal : Cert.Reference41Ideal.Facts) (hKernel42 : Cert.Kernel42.Facts) (hKernel42Ideal : Cert.Kernel42Ideal.Facts) (hReference42Ideal : Cert.Reference42Ideal.Facts) (hKernel43 : Cert.Kernel43.Facts) (hKernel43Ideal : Cert.Kernel43Ideal.Facts) (hReference43Ideal : Cert.Reference43Ideal.Facts) (hKernel44 : Cert.Kernel44.Facts) (hKernel44Ideal : Cert.Kernel44Ideal.Facts) (hReference44Ideal : Cert.Reference44Ideal.Facts) (hKernel45 : Cert.Kernel45.Facts) (hKernel45Ideal : Cert.Kernel45Ideal.Facts) (hReference45Ideal : Cert.Reference45Ideal.Facts) (hKernel46 : Cert.Kernel46.Facts) (hKernel46Ideal : Cert.Kernel46Ideal.Facts) (hReference46Ideal : Cert.Reference46Ideal.Facts) (hKernel47 : Cert.Kernel47.Facts) (hKernel47Ideal : Cert.Kernel47Ideal.Facts) (hReference47Ideal : Cert.Reference47Ideal.Facts) (hKernel48 : Cert.Kernel48.Facts) (hKernel48Ideal : Cert.Kernel48Ideal.Facts) (hReference48Ideal : Cert.Reference48Ideal.Facts) (hKernel49 : Cert.Kernel49.Facts) (hKernel49Ideal : Cert.Kernel49Ideal.Facts) (hReference49Ideal : Cert.Reference49Ideal.Facts) (hPre_precondition : Cert.Pre_precondition.Facts) (hPre_ssd_finite : Cert.Pre_ssd_finite.Facts) (hPre_conv_finite : Cert.Pre_conv_finite.Facts),
    quiescent_Kernel (hKernel := hKernel)
    ∧ quiescent_KernelIdeal (hKernelIdeal := hKernelIdeal)
    ∧ quiescent_KernelIdeal_pre_precondition (hKernelIdeal := hKernelIdeal) (hPre_precondition := hPre_precondition)
    ∧ quiescent_ReferenceIdeal (hReferenceIdeal := hReferenceIdeal)
    ∧ quiescent_ReferenceIdeal_pre_precondition (hReferenceIdeal := hReferenceIdeal) (hPre_precondition := hPre_precondition)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_ssd_finite (hKernel6Ideal := hKernel6Ideal) (hPre_ssd_finite := hPre_ssd_finite)
    ∧ quiescent_Reference6Ideal (hReference6Ideal := hReference6Ideal)
    ∧ quiescent_Reference6Ideal_pre_ssd_finite (hReference6Ideal := hReference6Ideal) (hPre_ssd_finite := hPre_ssd_finite)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Reference34Ideal (hReference34Ideal := hReference34Ideal)
    ∧ quiescent_Kernel35 (hKernel35 := hKernel35)
    ∧ quiescent_Kernel35Ideal (hKernel35Ideal := hKernel35Ideal)
    ∧ quiescent_Reference35Ideal (hReference35Ideal := hReference35Ideal)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Reference37Ideal (hReference37Ideal := hReference37Ideal)
    ∧ quiescent_Kernel38 (hKernel38 := hKernel38)
    ∧ quiescent_Kernel38Ideal (hKernel38Ideal := hKernel38Ideal)
    ∧ quiescent_Reference38Ideal (hReference38Ideal := hReference38Ideal)
    ∧ quiescent_Kernel39 (hKernel39 := hKernel39)
    ∧ quiescent_Kernel39Ideal (hKernel39Ideal := hKernel39Ideal)
    ∧ quiescent_Reference39Ideal (hReference39Ideal := hReference39Ideal)
    ∧ quiescent_Kernel40 (hKernel40 := hKernel40)
    ∧ quiescent_Kernel40Ideal (hKernel40Ideal := hKernel40Ideal)
    ∧ quiescent_Reference40Ideal (hReference40Ideal := hReference40Ideal)
    ∧ quiescent_Kernel41 (hKernel41 := hKernel41)
    ∧ quiescent_Kernel41Ideal (hKernel41Ideal := hKernel41Ideal)
    ∧ quiescent_Reference41Ideal (hReference41Ideal := hReference41Ideal)
    ∧ quiescent_Kernel42 (hKernel42 := hKernel42)
    ∧ quiescent_Kernel42Ideal (hKernel42Ideal := hKernel42Ideal)
    ∧ quiescent_Reference42Ideal (hReference42Ideal := hReference42Ideal)
    ∧ quiescent_Kernel43 (hKernel43 := hKernel43)
    ∧ quiescent_Kernel43Ideal (hKernel43Ideal := hKernel43Ideal)
    ∧ quiescent_Reference43Ideal (hReference43Ideal := hReference43Ideal)
    ∧ quiescent_Kernel44 (hKernel44 := hKernel44)
    ∧ quiescent_Kernel44Ideal (hKernel44Ideal := hKernel44Ideal)
    ∧ quiescent_Reference44Ideal (hReference44Ideal := hReference44Ideal)
    ∧ quiescent_Kernel45 (hKernel45 := hKernel45)
    ∧ quiescent_Kernel45Ideal (hKernel45Ideal := hKernel45Ideal)
    ∧ quiescent_Reference45Ideal (hReference45Ideal := hReference45Ideal)
    ∧ quiescent_Kernel46 (hKernel46 := hKernel46)
    ∧ quiescent_Kernel46Ideal (hKernel46Ideal := hKernel46Ideal)
    ∧ quiescent_Reference46Ideal (hReference46Ideal := hReference46Ideal)
    ∧ quiescent_Kernel47 (hKernel47 := hKernel47)
    ∧ quiescent_Kernel47Ideal (hKernel47Ideal := hKernel47Ideal)
    ∧ quiescent_Kernel47Ideal_pre_conv_finite (hKernel47Ideal := hKernel47Ideal) (hPre_conv_finite := hPre_conv_finite)
    ∧ quiescent_Reference47Ideal (hReference47Ideal := hReference47Ideal)
    ∧ quiescent_Reference47Ideal_pre_conv_finite (hReference47Ideal := hReference47Ideal) (hPre_conv_finite := hPre_conv_finite)
    ∧ quiescent_Kernel48 (hKernel48 := hKernel48)
    ∧ quiescent_Kernel48Ideal (hKernel48Ideal := hKernel48Ideal)
    ∧ quiescent_Reference48Ideal (hReference48Ideal := hReference48Ideal)
    ∧ quiescent_Kernel49 (hKernel49 := hKernel49)
    ∧ quiescent_Kernel49Ideal (hKernel49Ideal := hKernel49Ideal)
    ∧ quiescent_Reference49Ideal (hReference49Ideal := hReference49Ideal)
    ∧ preserves_Kernel_KernelIdeal
    ∧ algebraic_KernelIdeal_ReferenceIdeal_pre_precondition (hKernelIdeal := hKernelIdeal) (hReferenceIdeal := hReferenceIdeal) (hPre_precondition := hPre_precondition)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_ssd_finite (hKernel6Ideal := hKernel6Ideal) (hReference6Ideal := hReference6Ideal) (hPre_ssd_finite := hPre_ssd_finite)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal (hKernel34Ideal := hKernel34Ideal) (hReference34Ideal := hReference34Ideal)
    ∧ preserves_Kernel35_Kernel35Ideal
    ∧ algebraic_Kernel35Ideal_Reference35Ideal (hKernel35Ideal := hKernel35Ideal) (hReference35Ideal := hReference35Ideal)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal (hKernel37Ideal := hKernel37Ideal) (hReference37Ideal := hReference37Ideal)
    ∧ preserves_Kernel38_Kernel38Ideal
    ∧ algebraic_Kernel38Ideal_Reference38Ideal (hKernel38Ideal := hKernel38Ideal) (hReference38Ideal := hReference38Ideal)
    ∧ preserves_Kernel39_Kernel39Ideal
    ∧ algebraic_Kernel39Ideal_Reference39Ideal (hKernel39Ideal := hKernel39Ideal) (hReference39Ideal := hReference39Ideal)
    ∧ preserves_Kernel40_Kernel40Ideal
    ∧ algebraic_Kernel40Ideal_Reference40Ideal (hKernel40Ideal := hKernel40Ideal) (hReference40Ideal := hReference40Ideal)
    ∧ preserves_Kernel41_Kernel41Ideal
    ∧ algebraic_Kernel41Ideal_Reference41Ideal (hKernel41Ideal := hKernel41Ideal) (hReference41Ideal := hReference41Ideal)
    ∧ preserves_Kernel42_Kernel42Ideal
    ∧ algebraic_Kernel42Ideal_Reference42Ideal (hKernel42Ideal := hKernel42Ideal) (hReference42Ideal := hReference42Ideal)
    ∧ preserves_Kernel43_Kernel43Ideal
    ∧ algebraic_Kernel43Ideal_Reference43Ideal (hKernel43Ideal := hKernel43Ideal) (hReference43Ideal := hReference43Ideal)
    ∧ preserves_Kernel44_Kernel44Ideal
    ∧ algebraic_Kernel44Ideal_Reference44Ideal (hKernel44Ideal := hKernel44Ideal) (hReference44Ideal := hReference44Ideal)
    ∧ preserves_Kernel45_Kernel45Ideal
    ∧ algebraic_Kernel45Ideal_Reference45Ideal (hKernel45Ideal := hKernel45Ideal) (hReference45Ideal := hReference45Ideal)
    ∧ preserves_Kernel46_Kernel46Ideal
    ∧ algebraic_Kernel46Ideal_Reference46Ideal (hKernel46Ideal := hKernel46Ideal) (hReference46Ideal := hReference46Ideal)
    ∧ preserves_Kernel47_Kernel47Ideal
    ∧ algebraic_Kernel47Ideal_Reference47Ideal_pre_conv_finite (hKernel47Ideal := hKernel47Ideal) (hReference47Ideal := hReference47Ideal) (hPre_conv_finite := hPre_conv_finite)
    ∧ preserves_Kernel48_Kernel48Ideal
    ∧ algebraic_Kernel48Ideal_Reference48Ideal (hKernel48Ideal := hKernel48Ideal) (hReference48Ideal := hReference48Ideal)
    ∧ preserves_Kernel49_Kernel49Ideal
    ∧ algebraic_Kernel49Ideal_Reference49Ideal (hKernel49Ideal := hKernel49Ideal) (hReference49Ideal := hReference49Ideal)
-- ==== Pre_conv_finite.lean ====
abbrev S8192x3072 : Shape := ⟨2, ![8192, 3072]⟩
abbrev S4x3072 : Shape := ⟨2, ![4, 3072]⟩
abbrev S3072 : Shape := ⟨1, ![3072]⟩
abbrev S_ : Shape := ⟨0, ![]⟩

class Facts : Prop where
  bcast_S_S8192x3072 : S_.BroadcastsInDim S8192x3072 (![] : Fin 0 → Fin S8192x3072.rank)

variable [Facts]

def fn {F : FTy → Type} [FloatOps F] (main_arg0 : FVec F S8192x3072 .f32) (main_arg1 : FVec F S4x3072 .f32) (main_arg2 : FVec F S3072 .f32) (main_arg3 : FVec F S8192x3072 .f32) : IVec S8192x3072 1 :=
  let main_v0 : FVec F S8192x3072 .f32 := Host.absf main_arg3
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  main_v2
-- ==== Pre_precondition.lean ====
abbrev S2x8192x2752 : Shape := ⟨3, ![2, 8192, 2752]⟩
abbrev S2x2x8192x2752 : Shape := ⟨4, ![2, 2, 8192, 2752]⟩
abbrev S_ : Shape := ⟨0, ![]⟩
abbrev S1x2x8192x2752 : Shape := ⟨4, ![1, 2, 8192, 2752]⟩

class Facts : Prop where
  bitsLt_bf16_f32 : FTy.bits .bf16 < FTy.bits .f32
  bcast_S_S2x8192x2752 : S_.BroadcastsInDim S2x8192x2752 (![] : Fin 0 → Fin S2x8192x2752.rank)
  slices_S2x2x8192x2752_S1x2x8192x2752_1_0_0_0 : S2x2x8192x2752.Slices ![1, 0, 0, 0] S1x2x8192x2752
  shapeCasts_S1x2x8192x2752_S2x8192x2752 : S1x2x8192x2752.ShapeCasts S2x8192x2752

variable [Facts]

def fn {F : FTy → Type} [FloatOps F] (main_arg0 : FVec F S2x8192x2752 .bf16) (main_arg1 : FVec F S2x2x8192x2752 .bf16) : IVec S2x8192x2752 1 × IVec S2x8192x2752 1 :=
  let main_v0 : FVec F S2x8192x2752 .f32 := (extf .f32 · bitsLt_bf16_f32) main_arg0
  let main_v1 : FVec F S2x8192x2752 .f32 := Host.absf main_v0
  let main_cst : FVec F S_ .f32 := constant S_ .f32 0x7F800000#32
  let main_v2 : FVec F S2x8192x2752 .f32 := broadcastInDim S2x8192x2752 ![] bcast_S_S2x8192x2752 main_cst
  let main_v3 : IVec S2x8192x2752 1 := cmpf .olt main_v1 main_v2
  let main_v4 : FVec F S1x2x8192x2752 .bf16 := (extractStridedSlice S1x2x8192x2752 ![1, 0, 0, 0] · slices_S2x2x8192x2752_S1x2x8192x2752_1_0_0_0) main_arg1
  let main_v5 : FVec F S2x8192x2752 .bf16 := shapeCast S2x8192x2752 main_v4 shapeCasts_S1x2x8192x2752_S2x8192x2752
  let main_v6 : FVec F S2x8192x2752 .f32 := (extf .f32 · bitsLt_bf16_f32) main_v5
  let main_v7 : FVec F S2x8192x2752 .f32 := Host.absf main_v6
  let main_cst_0 : FVec F S_ .f32 := constant S_ .f32 0x7F800000#32
  let main_v8 : FVec F S2x8192x2752 .f32 := broadcastInDim S2x8192x2752 ![] bcast_S_S2x8192x2752 main_cst_0
  let main_v9 : IVec S2x8192x2752 1 := cmpf .olt main_v7 main_v8
  (main_v3, main_v9)
-- ==== Pre_ssd_finite.lean ====
abbrev S8192x3072 : Shape := ⟨2, ![8192, 3072]⟩
abbrev S8192x32 : Shape := ⟨2, ![8192, 32]⟩
abbrev S32 : Shape := ⟨1, ![32]⟩
abbrev S8192x2048 : Shape := ⟨2, ![8192, 2048]⟩
abbrev S_ : Shape := ⟨0, ![]⟩

class Facts : Prop where
  bcast_S_S8192x3072 : S_.BroadcastsInDim S8192x3072 (![] : Fin 0 → Fin S8192x3072.rank)
  bcast_S_S8192x32 : S_.BroadcastsInDim S8192x32 (![] : Fin 0 → Fin S8192x32.rank)
  bcast_S_S32 : S_.BroadcastsInDim S32 (![] : Fin 0 → Fin S32.rank)
  bcast_S_S8192x2048 : S_.BroadcastsInDim S8192x2048 (![] : Fin 0 → Fin S8192x2048.rank)

variable [Facts]

def fn {F : FTy → Type} [FloatOps F] (main_arg0 : FVec F S8192x3072 .f32) (main_arg1 : FVec F S8192x32 .f32) (main_arg2 : FVec F S32 .f32) (main_arg3 : FVec F S32 .f32) (main_arg4 : FVec F S8192x2048 .f32) : IVec S8192x3072 1 × IVec S8192x32 1 × IVec S32 1 × IVec S8192x2048 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_v3 : FVec F S8192x32 .f32 := Host.absf main_arg1
  let main_cst_0 : FVec F S_ .f32 := constant S_ .f32 0x7F800000#32
  let main_v4 : FVec F S8192x32 .f32 := broadcastInDim S8192x32 ![] bcast_S_S8192x32 main_cst_0
  let main_v5 : IVec S8192x32 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S8192x2048 .f32 := Host.absf main_arg4
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  (main_v2, main_v5, main_v8, main_v11)
-- ==== Kernel.lean ====
abbrev S2x8192x2752 : Shape := ⟨3, ![2, 8192, 2752]⟩
abbrev S2x2x8192x2752 : Shape := ⟨4, ![2, 2, 8192, 2752]⟩
abbrev S1x256x2752 : Shape := ⟨3, ![1, 256, 2752]⟩
abbrev S2x1x256x2752 : Shape := ⟨4, ![2, 1, 256, 2752]⟩
abbrev S256x2752 : Shape := ⟨2, ![256, 2752]⟩
abbrev S1x1x256x2752 : Shape := ⟨4, ![1, 1, 256, 2752]⟩

abbrev nBuf : Space → Nat
  | .hbm => 3
  | .vmem => 6
  | .smem => 0
  | _ => 0

abbrev bufTy : (tb : Table) → Fin (tcTables nBuf tb) → BufTy
  | .hbm, ⟨0, _⟩ => ⟨S2x8192x2752, .bf16⟩
  | .hbm, ⟨1, _⟩ => ⟨S2x2x8192x2752, .bf16⟩
  | .hbm, ⟨2, _⟩ => ⟨S2x2x8192x2752, .bf16⟩
  | .local _ .vmem, ⟨0, _⟩ => ⟨S1x256x2752, .bf16⟩
  | .local _ .vmem, ⟨1, _⟩ => ⟨S1x256x2752, .bf16⟩
  | .local _ .vmem, ⟨2, _⟩ => ⟨S2x1x256x2752, .bf16⟩
  | .local _ .vmem, ⟨3, _⟩ => ⟨S2x1x256x2752, .bf16⟩
  | .local _ .vmem, ⟨4, _⟩ => ⟨S2x1x256x2752, .bf16⟩
  | .local _ .vmem, ⟨5, _⟩ => ⟨S2x1x256x2752, .bf16⟩
  | _, _ => ⟨S2x8192x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x256x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x256x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x256x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S2x8192x2752 : Shape := ⟨3, ![2, 8192, 2752]⟩
abbrev S2x2x8192x2752 : Shape := ⟨4, ![2, 2, 8192, 2752]⟩
abbrev S1x2x8192x2752 : Shape := ⟨4, ![1, 2, 8192, 2752]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2x8192x2752, .bf16⟩
  | .hbm, ⟨1, _⟩ => ⟨S2x2x8192x2752, .bf16⟩
  | .hbm, ⟨2, _⟩ => ⟨S1x2x8192x2752, .bf16⟩
  | .hbm, ⟨3, _⟩ => ⟨S2x8192x2752, .bf16⟩
  | .hbm, ⟨4, _⟩ => ⟨S2x8192x2752, .f32⟩
  | .hbm, ⟨5, _⟩ => ⟨S1x2x8192x2752, .bf16⟩
  | .hbm, ⟨6, _⟩ => ⟨S2x8192x2752, .bf16⟩
  | .hbm, ⟨7, _⟩ => ⟨S2x8192x2752, .f32⟩
  | .hbm, ⟨8, _⟩ => ⟨S2x8192x2752, .f32⟩
  | .hbm, ⟨9, _⟩ => ⟨S2x8192x2752, .f32⟩
  | .hbm, ⟨10, _⟩ => ⟨S_, .f32⟩
  | .hbm, ⟨11, _⟩ => ⟨S2x8192x2752, .f32⟩
  | .hbm, ⟨12, _⟩ => ⟨S2x8192x2752, .f32⟩
  | .hbm, ⟨13, _⟩ => ⟨S_, .f32⟩
  | .hbm, ⟨14, _⟩ => ⟨S2x8192x2752, .f32⟩
  | .hbm, ⟨15, _⟩ => ⟨S2x8192x2752, .f32⟩
  | .hbm, ⟨16, _⟩ => ⟨S_, .f32⟩
  | .hbm, ⟨17, _⟩ => ⟨S2x8192x2752, .f32⟩
  | .hbm, ⟨18, _⟩ => ⟨S2x8192x2752, .f32⟩
  | .hbm, ⟨19, _⟩ => ⟨S2x8192x2752, .f32⟩
  | .hbm, ⟨20, _⟩ => ⟨S2x8192x2752, .f32⟩
  | .hbm, ⟨21, _⟩ => ⟨S2x8192x2752, .f32⟩
  | .hbm, ⟨22, _⟩ => ⟨S2x8192x2752, .f32⟩
  | .hbm, ⟨23, _⟩ => ⟨S2x8192x2752, .f32⟩
  | .hbm, ⟨24, _⟩ => ⟨S2x8192x2752, .f32⟩
  | .hbm, ⟨25, _⟩ => ⟨S2x8192x2752, .f32⟩
  | .hbm, ⟨26, _⟩ => ⟨S2x8192x2752, .f32⟩
  | .hbm, ⟨27, _⟩ => ⟨S2x8192x2752, .f32⟩
  | .hbm, ⟨28, _⟩ => ⟨S2x8192x2752, .f32⟩
  | .hbm, ⟨29, _⟩ => ⟨S1x2x8192x2752, .f32⟩
  | .hbm, ⟨30, _⟩ => ⟨S1x2x8192x2752, .f32⟩
  | .hbm, ⟨31, _⟩ => ⟨S2x2x8192x2752, .f32⟩
  | .hbm, ⟨32, _⟩ => ⟨S2x2x8192x2752, .bf16⟩
  | _, _ => ⟨S2x8192x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v6_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v6_1 : Ref sig .tc := ⟨.hbm, 19, rfl⟩
abbrev main_v6_0 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Kernel2.lean ====
abbrev S8192x2048 : Shape := ⟨2, ![8192, 2048]⟩
abbrev S8192x5504 : Shape := ⟨2, ![8192, 5504]⟩
abbrev S2x5504x2048 : Shape := ⟨3, ![2, 5504, 2048]⟩
abbrev S2x2x2752x2048 : Shape := ⟨4, ![2, 2, 2752, 2048]⟩
abbrev S2x8192x2752 : Shape := ⟨3, ![2, 8192, 2752]⟩
abbrev S1024x1024 : Shape := ⟨2, ![1024, 1024]⟩
abbrev S1x1x2752x1024 : Shape := ⟨4, ![1, 1, 2752, 1024]⟩
abbrev S1x1024x2752 : Shape := ⟨3, ![1, 1024, 2752]⟩
abbrev S1024x2752 : Shape := ⟨2, ![1024, 2752]⟩
abbrev S2752x1024 : Shape := ⟨2, ![2752, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x5504, .bf16⟩
  | .hbm, ⟨2, _⟩ => ⟨S2x5504x2048, .bf16⟩
  | .hbm, ⟨3, _⟩ => ⟨S2x2x2752x2048, .bf16⟩
  | .hbm, ⟨4, _⟩ => ⟨S2x8192x2752, .bf16⟩
  | .local _ .vmem, ⟨0, _⟩ => ⟨S1024x1024, .f32⟩
  | .local _ .vmem, ⟨1, _⟩ => ⟨S1024x1024, .f32⟩
  | .local _ .vmem, ⟨2, _⟩ => ⟨S1x1x2752x1024, .bf16⟩
  | .local _ .vmem, ⟨3, _⟩ => ⟨S1x1x2752x1024, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, c0_i32_0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8192x2048 : Shape := ⟨2, ![8192, 2048]⟩
abbrev S8192x5504 : Shape := ⟨2, ![8192, 5504]⟩
abbrev S2x5504x2048 : Shape := ⟨3, ![2, 5504, 2048]⟩
abbrev S1x5504x2048 : Shape := ⟨3, ![1, 5504, 2048]⟩
abbrev S5504x2048 : Shape := ⟨2, ![5504, 2048]⟩
abbrev S_ : Shape := ⟨0, ![]⟩
abbrev S8192x2x2752 : Shape := ⟨3, ![8192, 2, 2752]⟩
abbrev S2x8192x2752 : Shape := ⟨3, ![2, 8192, 2752]⟩

abbrev nBuf : Space → Nat
  | .hbm => 18
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x5504, .bf16⟩
  | .hbm, ⟨2, _⟩ => ⟨S2x5504x2048, .bf16⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S8192x5504, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x5504, .f32⟩
  | .hbm, ⟨15, _⟩ => ⟨S8192x2x2752, .f32⟩
  | .hbm, ⟨16, _⟩ => ⟨S2x8192x2752, .f32⟩
  | .hbm, ⟨17, _⟩ => ⟨S2x8192x2752, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel3.lean ====
abbrev S8192x5504 : Shape := ⟨2, ![8192, 5504]⟩
abbrev S8192x2048 : Shape := ⟨2, ![8192, 2048]⟩
abbrev S2x5504x2048 : Shape := ⟨3, ![2, 5504, 2048]⟩
abbrev S8192x2x2752 : Shape := ⟨3, ![8192, 2, 2752]⟩
abbrev S2x8192x2752 : Shape := ⟨3, ![2, 8192, 2752]⟩
abbrev S2x2752x2048 : Shape := ⟨3, ![2, 2752, 2048]⟩
abbrev S1x1024x2752 : Shape := ⟨3, ![1, 1024, 2752]⟩
abbrev S1024x512 : Shape := ⟨2, ![1024, 512]⟩
abbrev S1x2752x512 : Shape := ⟨3, ![1, 2752, 512]⟩
abbrev S2752x512 : Shape := ⟨2, ![2752, 512]⟩
abbrev S1024x2752 : Shape := ⟨2, ![1024, 2752]⟩

abbrev nBuf : Space → Nat
  | .hbm => 6
  | .vmem => 7
  | .smem => 0
  | _ => 0

abbrev bufTy : (tb : Table) → Fin (tcTables nBuf tb) → BufTy
  | .hbm, ⟨0, _⟩ => ⟨S8192x5504, .bf16⟩
  | .hbm, ⟨1, _⟩ => ⟨S8192x2048, .f32⟩
  | .hbm, ⟨2, _⟩ => ⟨S2x5504x2048, .bf16⟩
  | .hbm, ⟨3, _⟩ => ⟨S8192x2x2752, .bf16⟩
  | .hbm, ⟨4, _⟩ => ⟨S2x8192x2752, .bf16⟩
  | .hbm, ⟨5, _⟩ => ⟨S2x2752x2048, .f32⟩
  | .local _ .vmem, ⟨0, _⟩ => ⟨S1x1024x2752, .bf16⟩
  | .local _ .vmem, ⟨1, _⟩ => ⟨S1x1024x2752, .bf16⟩
  | .local _ .vmem, ⟨2, _⟩ => ⟨S1024x512, .f32⟩
  | .local _ .vmem, ⟨3, _⟩ => ⟨S1024x512, .f32⟩
  | .local _ .vmem, ⟨4, _⟩ => ⟨S1x2752x512, .f32⟩
  | .local _ .vmem, ⟨5, _⟩ => ⟨S1x2752x512, .f32⟩
  | .local _ .vmem, ⟨6, _⟩ => ⟨S2752x512, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2752x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5504 : Shape := ⟨2, ![8192, 5504]⟩
abbrev S8192x2048 : Shape := ⟨2, ![8192, 2048]⟩
abbrev S2x5504x2048 : Shape := ⟨3, ![2, 5504, 2048]⟩
abbrev S1x5504x2048 : Shape := ⟨3, ![1, 5504, 2048]⟩
abbrev S5504x2048 : Shape := ⟨2, ![5504, 2048]⟩
abbrev S_ : Shape := ⟨0, ![]⟩
abbrev S2048x5504 : Shape := ⟨2, ![2048, 5504]⟩
abbrev S2x2752x2048 : Shape := ⟨3, ![2, 2752, 2048]⟩

abbrev nBuf : Space → Nat
  | .hbm => 17
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S8192x2048, .f32⟩
  | .hbm, ⟨2, _⟩ => ⟨S2x5504x2048, .bf16⟩
  | .hbm, ⟨3, _⟩ => ⟨S8192x5504, .f32⟩
  | .hbm, ⟨4, _⟩ => ⟨S1x5504x2048, .bf16⟩
  | .hbm, ⟨5, _⟩ => ⟨S5504x2048, .bf16⟩
  | .hbm, ⟨6, _⟩ => ⟨S5504x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S2048x5504, .f32⟩
  | .hbm, ⟨15, _⟩ => ⟨S5504x2048, .f32⟩
  | .hbm, ⟨16, _⟩ => ⟨S2x2752x2048, .f32⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S8192x11008 : Shape := ⟨2, ![8192, 11008]⟩
abbrev S8192x2048 : Shape := ⟨2, ![8192, 2048]⟩
abbrev S2x2048x11008 : Shape := ⟨3, ![2, 2048, 11008]⟩
abbrev S8192x4x2752 : Shape := ⟨3, ![8192, 4, 2752]⟩
abbrev S4x8192x2752 : Shape := ⟨3, ![4, 8192, 2752]⟩
abbrev S2x2048x4x2752 : Shape := ⟨4, ![2, 2048, 4, 2752]⟩
abbrev S2x4x2048x2752 : Shape := ⟨4, ![2, 4, 2048, 2752]⟩
abbrev S1x1024x2752 : Shape := ⟨3, ![1, 1024, 2752]⟩
abbrev S1x1x1024x2752 : Shape := ⟨4, ![1, 1, 1024, 2752]⟩
abbrev S1024x1024 : Shape := ⟨2, ![1024, 1024]⟩
abbrev S1024x2752 : Shape := ⟨2, ![1024, 2752]⟩

abbrev nBuf : Space → Nat
  | .hbm => 8
  | .vmem => 7
  | .smem => 0
  | _ => 0

abbrev bufTy : (tb : Table) → Fin (tcTables nBuf tb) → BufTy
  | .hbm, ⟨0, _⟩ => ⟨S8192x11008, .bf16⟩
  | .hbm, ⟨1, _⟩ => ⟨S8192x2048, .bf16⟩
  | .hbm, ⟨2, _⟩ => ⟨S2x2048x11008, .bf16⟩
  | .hbm, ⟨3, _⟩ => ⟨S8192x4x2752, .bf16⟩
  | .hbm, ⟨4, _⟩ => ⟨S4x8192x2752, .bf16⟩
  | .hbm, ⟨5, _⟩ => ⟨S2x2048x4x2752, .bf16⟩
  | .hbm, ⟨6, _⟩ => ⟨S2x4x2048x2752, .bf16⟩
  | .hbm, ⟨7, _⟩ => ⟨S8192x2048, .f32⟩
  | .local _ .vmem, ⟨0, _⟩ => ⟨S1x1024x2752, .bf16⟩
  | .local _ .vmem, ⟨1, _⟩ => ⟨S1x1024x2752, .bf16⟩
  | .local _ .vmem, ⟨2, _⟩ => ⟨S1x1x1024x2752, .bf16⟩
  | .local _ .vmem, ⟨3, _⟩ => ⟨S1x1x1024x2752, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x11008 : Shape := ⟨2, ![8192, 11008]⟩
abbrev S8192x2048 : Shape := ⟨2, ![8192, 2048]⟩
abbrev S2x2048x11008 : Shape := ⟨3, ![2, 2048, 11008]⟩
abbrev S1x2048x11008 : Shape := ⟨3, ![1, 2048, 11008]⟩
abbrev S2048x11008 : Shape := ⟨2, ![2048, 11008]⟩

abbrev nBuf : Space → Nat
  | .hbm => 10
  | .vmem => 0
  | .smem => 0
  | _ => 0

abbrev bufTy : (tb : Table) → Fin (tcTables nBuf tb) → BufTy
  | .hbm, ⟨0, _⟩ => ⟨S8192x11008, .bf16⟩
  | .hbm, ⟨1, _⟩ => ⟨S8192x2048, .bf16⟩
  | .hbm, ⟨2, _⟩ => ⟨S2x2048x11008, .bf16⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S8192x2048, .f32⟩
  | .hbm, ⟨7, _⟩ => ⟨S8192x11008, .f32⟩
  | .hbm, ⟨8, _⟩ => ⟨S8192x11008, .f32⟩
  | .hbm, ⟨9, _⟩ => ⟨S8192x2048, .f32⟩
  | _, _ => ⟨S8192x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S8192x2048 : Shape := ⟨2, ![8192, 2048]⟩
abbrev S8192x11008 : Shape := ⟨2, ![8192, 11008]⟩
abbrev S2x2048x11008 : Shape := ⟨3, ![2, 2048, 11008]⟩
abbrev S8192x4x2752 : Shape := ⟨3, ![8192, 4, 2752]⟩
abbrev S4x8192x2752 : Shape := ⟨3, ![4, 8192, 2752]⟩
abbrev S4x2048x2752 : Shape := ⟨3, ![4, 2048, 2752]⟩
abbrev S1024x512 : Shape := ⟨2, ![1024, 512]⟩
abbrev S1x1024x2752 : Shape := ⟨3, ![1, 1024, 2752]⟩
abbrev S1x512x2752 : Shape := ⟨3, ![1, 512, 2752]⟩
abbrev S512x2752 : Shape := ⟨2, ![512, 2752]⟩
abbrev S1024x2752 : Shape := ⟨2, ![1024, 2752]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x11008, .bf16⟩
  | .hbm, ⟨2, _⟩ => ⟨S2x2048x11008, .bf16⟩
  | .hbm, ⟨3, _⟩ => ⟨S8192x4x2752, .bf16⟩
  | .hbm, ⟨4, _⟩ => ⟨S4x8192x2752, .bf16⟩
  | .hbm, ⟨5, _⟩ => ⟨S4x2048x2752, .f32⟩
  | .local _ .vmem, ⟨0, _⟩ => ⟨S1024x512, .bf16⟩
  | .local _ .vmem, ⟨1, _⟩ => ⟨S1024x512, .bf16⟩
  | .local _ .vmem, ⟨2, _⟩ => ⟨S1x1024x2752, .bf16⟩
  | .local _ .vmem, ⟨3, _⟩ => ⟨S1x1024x2752, .bf16⟩
  | .local _ .vmem, ⟨4, _⟩ => ⟨S1x512x2752, .f32⟩
  | .local _ .vmem, ⟨5, _⟩ => ⟨S1x512x2752, .f32⟩
  | .local _ .vmem, ⟨6, _⟩ => ⟨S512x2752, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x2752 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2048 : Shape := ⟨2, ![8192, 2048]⟩
abbrev S8192x11008 : Shape := ⟨2, ![8192, 11008]⟩
abbrev S2x2048x11008 : Shape := ⟨3, ![2, 2048, 11008]⟩
abbrev S1x2048x11008 : Shape := ⟨3, ![1, 2048, 11008]⟩
abbrev S2048x11008 : Shape := ⟨2, ![2048, 11008]⟩
abbrev S11008x2048 : Shape := ⟨2, ![11008, 2048]⟩
abbrev S2048x4x2752 : Shape := ⟨3, ![2048, 4, 2752]⟩
abbrev S4x2048x2752 : Shape := ⟨3, ![4, 2048, 2752]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x11008, .bf16⟩
  | .hbm, ⟨2, _⟩ => ⟨S2x2048x11008, .bf16⟩
  | .hbm, ⟨3, _⟩ => ⟨S8192x2048, .f32⟩
  | .hbm, ⟨4, _⟩ => ⟨S1x2048x11008, .bf16⟩
  | .hbm, ⟨5, _⟩ => ⟨S2048x11008, .bf16⟩
  | .hbm, ⟨6, _⟩ => ⟨S2048x11008, .f32⟩
  | .hbm, ⟨7, _⟩ => ⟨S8192x11008, .f32⟩
  | .hbm, ⟨8, _⟩ => ⟨S8192x11008, .f32⟩
  | .hbm, ⟨9, _⟩ => ⟨S11008x2048, .f32⟩
  | .hbm, ⟨10, _⟩ => ⟨S2048x11008, .f32⟩
  | .hbm, ⟨11, _⟩ => ⟨S2048x4x2752, .f32⟩
  | .hbm, ⟨12, _⟩ => ⟨S4x2048x2752, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S8192x3072 : Shape := ⟨2, ![8192, 3072]⟩
abbrev S8192x32 : Shape := ⟨2, ![8192, 32]⟩
abbrev S32 : Shape := ⟨1, ![32]⟩
abbrev S8192x2048 : Shape := ⟨2, ![8192, 2048]⟩
abbrev S32x8192 : Shape := ⟨2, ![32, 8192]⟩
abbrev S32x128x1x64 : Shape := ⟨4, ![32, 128, 1, 64]⟩
abbrev S32x8192x1 : Shape := ⟨3, ![32, 8192, 1]⟩
abbrev S32x1x1 : Shape := ⟨3, ![32, 1, 1]⟩
abbrev S8192x32x64 : Shape := ⟨3, ![8192, 32, 64]⟩
abbrev S32x8192x64 : Shape := ⟨3, ![32, 8192, 64]⟩
abbrev S4x8192x128 : Shape := ⟨3, ![4, 8192, 128]⟩
abbrev S8x64x64 : Shape := ⟨3, ![8, 64, 64]⟩
abbrev S64x128 : Shape := ⟨2, ![64, 128]⟩
abbrev S8x64x1 : Shape := ⟨3, ![8, 64, 1]⟩
abbrev S8x1x1x64 : Shape := ⟨4, ![8, 1, 1, 64]⟩
abbrev S8x1x1 : Shape := ⟨3, ![8, 1, 1]⟩
abbrev S1x64x128 : Shape := ⟨3, ![1, 64, 128]⟩
abbrev S8x1x64 : Shape := ⟨3, ![8, 1, 64]⟩
abbrev S64x64 : Shape := ⟨2, ![64, 64]⟩
abbrev S1x64x64 : Shape := ⟨3, ![1, 64, 64]⟩
abbrev S8x64 : Shape := ⟨2, ![8, 64]⟩
abbrev S8x1 : Shape := ⟨2, ![8, 1]⟩

abbrev nBuf : Space → Nat
  | .hbm => 22
  | .vmem => 28
  | .smem => 0
  | _ => 0

abbrev bufTy : (tb : Table) → Fin (tcTables nBuf tb) → BufTy
  | .hbm, ⟨0, _⟩ => ⟨S8192x3072, .f32⟩
  | .hbm, ⟨1, _⟩ => ⟨S8192x32, .f32⟩
  | .hbm, ⟨2, _⟩ => ⟨S32, .f32⟩
  | .hbm, ⟨3, _⟩ => ⟨S32, .f32⟩
  | .hbm, ⟨4, _⟩ => ⟨S8192x2048, .f32⟩
  | .hbm, ⟨5, _⟩ => ⟨S32x8192, .f32⟩
  | .hbm, ⟨6, _⟩ => ⟨S32x128x1x64, .f32⟩
  | .hbm, ⟨7, _⟩ => ⟨S32x8192, .f32⟩
  | .hbm, ⟨8, _⟩ => ⟨S32x8192x1, .f32⟩
  | .hbm, ⟨9, _⟩ => ⟨S32x1x1, .f32⟩
  | .hbm, ⟨10, _⟩ => ⟨S32x1x1, .f32⟩
  | .hbm, ⟨11, _⟩ => ⟨S8192x2048, .f32⟩
  | .hbm, ⟨12, _⟩ => ⟨S8192x32x64, .f32⟩
  | .hbm, ⟨13, _⟩ => ⟨S32x8192x64, .f32⟩
  | .hbm, ⟨14, _⟩ => ⟨S8192x32x64, .f32⟩
  | .hbm, ⟨15, _⟩ => ⟨S32x8192x64, .f32⟩
  | .hbm, ⟨16, _⟩ => ⟨S32x8192x64, .f32⟩
  | .hbm, ⟨17, _⟩ => ⟨S32x8192x1, .f32⟩
  | .hbm, ⟨18, _⟩ => ⟨S4x8192x128, .f32⟩
  | .hbm, ⟨19, _⟩ => ⟨S4x8192x128, .f32⟩
  | .hbm, ⟨20, _⟩ => ⟨S32x1x1, .f32⟩
  | .hbm, ⟨21, _⟩ => ⟨S32x1x1, .f32⟩
  | .local _ .vmem, ⟨0, _⟩ => ⟨S8x64x64, .f32⟩
  | .local _ .vmem, ⟨1, _⟩ => ⟨S8x64x64, .f32⟩
  | .local _ .vmem, ⟨2, _⟩ => ⟨S64x128, .f32⟩
  | .local _ .vmem, ⟨3, _⟩ => ⟨S64x128, .f32⟩
  | .local _ .vmem, ⟨4, _⟩ => ⟨S64x128, .f32⟩
  | .local _ .vmem, ⟨5, _⟩ => ⟨S64x128, .f32⟩
  | .local _ .vmem, ⟨6, _⟩ => ⟨S8x64x1, .f32⟩
  | .local _ .vmem, ⟨7, _⟩ => ⟨S8x64x1, .f32⟩
  | .local _ .vmem, ⟨8, _⟩ => ⟨S8x1x1x64, .f32⟩
  | .local _ .vmem, ⟨9, _⟩ => ⟨S8x1x1x64, .f32⟩
  | .local _ .vmem, ⟨10, _⟩ => ⟨S8x1x1, .f32⟩
  | .local _ .vmem, ⟨11, _⟩ => ⟨S8x1x1, .f32⟩
  | .local _ .vmem, ⟨12, _⟩ => ⟨S8x1x1, .f32⟩
  | .local _ .vmem, ⟨13, _⟩ => ⟨S8x1x1, .f32⟩
  | .local _ .vmem, ⟨14, _⟩ => ⟨S8x64x64, .f32⟩
  | .local _ .vmem, ⟨15, _⟩ => ⟨S8x64x64, .f32⟩
  | .local _ .vmem, ⟨16, _⟩ => ⟨S8x64x64, .f32⟩
  | .local _ .vmem, ⟨17, _⟩ => ⟨S8x64x64, .f32⟩
  | .local _ .vmem, ⟨18, _⟩ => ⟨S8x64x1, .f32⟩
  | .local _ .vmem, ⟨19, _⟩ => ⟨S8x64x1, .f32⟩
  | .local _ .vmem, ⟨20, _⟩ => ⟨S1x64x128, .f32⟩
  | .local _ .vmem, ⟨21, _⟩ => ⟨S1x64x128, .f32⟩
  | .local _ .vmem, ⟨22, _⟩ => ⟨S1x64x128, .f32⟩
  | .local _ .vmem, ⟨23, _⟩ => ⟨S1x64x128, .f32⟩
  | .local _ .vmem, ⟨24, _⟩ => ⟨S8x1x1, .f32⟩
  | .local _ .vmem, ⟨25, _⟩ => ⟨S8x1x1, .f32⟩
  | .local _ .vmem, ⟨26, _⟩ => ⟨S8x1x1, .f32⟩
  | .local _ .vmem, ⟨27, _⟩ => ⟨S8x1x1, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev main_v11_3 : Ref sig .tc := ⟨.hbm, 19, rfl⟩
abbrev main_v11_4 : Ref sig .tc := ⟨.hbm, 20, rfl⟩
abbrev main_v11_5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![4, 128], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v145 : BitVec 32 := Scalar.extui v0
  let c0_i32_57 : BitVec 32 := 0#32
  let v146 : BitVec 1 := Scalar.cmpi .ne v145 c0_i32_57
  v146

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v147 : BitVec 1 := Scalar.xori v0 v_true
  let v148 : BitVec 32 := Scalar.extui v147
  let c0_i32_58 : BitVec 32 := 0#32
  let v149 : BitVec 1 := Scalar.cmpi .ne v148 c0_i32_58
  v149

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  ![arg1.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x64x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x64x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x64x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S8x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S8x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference6Ideal.lean ====
abbrev S8192x3072 : Shape := ⟨2, ![8192, 3072]⟩
abbrev S8192x32 : Shape := ⟨2, ![8192, 32]⟩
abbrev S32 : Shape := ⟨1, ![32]⟩
abbrev S8192x2048 : Shape := ⟨2, ![8192, 2048]⟩
abbrev S8192x512 : Shape := ⟨2, ![8192, 512]⟩
abbrev S128x64x4x8x64 : Shape := ⟨5, ![128, 64, 4, 8, 64]⟩
abbrev S128x64x4x128 : Shape := ⟨4, ![128, 64, 4, 128]⟩
abbrev S128x64x4x8 : Shape := ⟨4, ![128, 64, 4, 8]⟩
abbrev S4x8 : Shape := ⟨2, ![4, 8]⟩
abbrev S1x1x4x8 : Shape := ⟨4, ![1, 1, 4, 8]⟩
abbrev S_ : Shape := ⟨0, ![]⟩
abbrev S128x64x4x8x1 : Shape := ⟨5, ![128, 64, 4, 8, 1]⟩
abbrev S128x4x8x64 : Shape := ⟨4, ![128, 4, 8, 64]⟩
abbrev S64x64 : Shape := ⟨2, ![64, 64]⟩
abbrev S128x4x8x64x1 : Shape := ⟨5, ![128, 4, 8, 64, 1]⟩
abbrev S128x4x8x1x64 : Shape := ⟨5, ![128, 4, 8, 1, 64]⟩
abbrev S128x4x8x64x64 : Shape := ⟨5, ![128, 4, 8, 64, 64]⟩
abbrev S128x4x64x64 : Shape := ⟨4, ![128, 4, 64, 64]⟩
abbrev S128x4x1x64x64 : Shape := ⟨5, ![128, 4, 1, 64, 64]⟩
abbrev S4x8x1 : Shape := ⟨3, ![4, 8, 1]⟩
abbrev S1x1x4x8x1 : Shape := ⟨5, ![1, 1, 4, 8, 1]⟩
abbrev S128x4x64x128 : Shape := ⟨4, ![128, 4, 64, 128]⟩
abbrev S8192x32x64 : Shape := ⟨3, ![8192, 32, 64]⟩
abbrev S32x8192x64 : Shape := ⟨3, ![32, 8192, 64]⟩
abbrev S32x8192 : Shape := ⟨2, ![32, 8192]⟩
abbrev S32x8192x1 : Shape := ⟨3, ![32, 8192, 1]⟩
abbrev S8192x4x128 : Shape := ⟨3, ![8192, 4, 128]⟩
abbrev S4x8192x128 : Shape := ⟨3, ![4, 8192, 128]⟩
abbrev S32x1x1 : Shape := ⟨3, ![32, 1, 1]⟩

abbrev nBuf : Space → Nat
  | .hbm => 143
  | .vmem => 0
  | .smem => 0
  | _ => 0

abbrev hbmTy0_0 (i : Nat) : BufTy := match i % 128 with
  | 0 => ⟨S8192x3072, .f32⟩
  | 1 => ⟨S8192x32, .f32⟩
  | 2 => ⟨S32, .f32⟩
  | 3 => ⟨S32, .f32⟩
  | 4 => ⟨S8192x2048, .f32⟩
  | 5 => ⟨S8192x2048, .f32⟩
  | 6 => ⟨S8192x512, .f32⟩
  | 7 => ⟨S8192x512, .f32⟩
  | 8 => ⟨S128x64x4x8x64, .f32⟩
  | 9 => ⟨S128x64x4x128, .f32⟩
  | 10 => ⟨S128x64x4x128, .f32⟩
  | 11 => ⟨S128x64x4x8, .f32⟩
  | 12 => ⟨S32, .f32⟩
  | 13 => ⟨S4x8, .f32⟩
  | 14 => ⟨S4x8, .f32⟩
  | 15 => ⟨S1x1x4x8, .f32⟩
  | 16 => ⟨S128x64x4x8, .f32⟩
  | 17 => ⟨S128x64x4x8, .f32⟩
  | 18 => ⟨S_, .f32⟩
  | 19 => ⟨S_, .f32⟩
  | 20 => ⟨S128x64x4x8, .f32⟩
  | 21 => ⟨S128x64x4x8x1, .f32⟩
  | 22 => ⟨S128x64x4x8x64, .f32⟩
  | 23 => ⟨S128x64x4x8x64, .f32⟩
  | 24 => ⟨S128x4x8x64, .f32⟩
  | 25 => ⟨S_, .i1⟩
  | 26 => ⟨S64x64, .i1⟩
  | 27 => ⟨S64x64, .i32⟩
  | 28 => ⟨S_, .i32⟩
  | 29 => ⟨S64x64, .i32⟩
  | 30 => ⟨S64x64, .i32⟩
  | 31 => ⟨S64x64, .i32⟩
  | 32 => ⟨S64x64, .i1⟩
  | 33 => ⟨S_, .i1⟩
  | 34 => ⟨S64x64, .i1⟩
  | 35 => ⟨S64x64, .i1⟩
  | 36 => ⟨S128x4x8x64x1, .f32⟩
  | 37 => ⟨S128x4x8x1x64, .f32⟩
  | 38 => ⟨S128x4x8x64x64, .f32⟩
  | 39 => ⟨S128x4x8x64x64, .f32⟩
  | 40 => ⟨S128x4x8x64x64, .f32⟩
  | 41 => ⟨S_, .f32⟩
  | 42 => ⟨S_, .f32⟩
  | 43 => ⟨S128x4x8x64x64, .i1⟩
  | 44 => ⟨S128x4x8x64x64, .f32⟩
  | 45 => ⟨S128x4x8x64x64, .f32⟩
  | 46 => ⟨S_, .f32⟩
  | 47 => ⟨S128x4x8x64x64, .f32⟩
  | 48 => ⟨S128x4x8x64x64, .f32⟩
  | 49 => ⟨S128x4x64x64, .f32⟩
  | 50 => ⟨S128x4x1x64x64, .f32⟩
  | 51 => ⟨S128x4x8x64x64, .f32⟩
  | 52 => ⟨S128x4x8x64x64, .f32⟩
  | 53 => ⟨S128x4x8x64x64, .f32⟩
  | 54 => ⟨S128x64x4x8x64, .f32⟩
  | 55 => ⟨S4x8x1, .f32⟩
  | 56 => ⟨S1x1x4x8x1, .f32⟩
  | 57 => ⟨S128x64x4x8x64, .f32⟩
  | 58 => ⟨S128x64x4x8x64, .f32⟩
  | 59 => ⟨S128x64x4x8x64, .f32⟩
  | 60 => ⟨S8192x2048, .f32⟩
  | 61 => ⟨S128x64x4x8x64, .f32⟩
  | 62 => ⟨S128x64x4x8x64, .f32⟩
  | 63 => ⟨S_, .f32⟩
  | 64 => ⟨S4x8, .f32⟩
  | 65 => ⟨S1x1x4x8x1, .f32⟩
  | 66 => ⟨S128x64x4x8x64, .f32⟩
  | 67 => ⟨S128x64x4x8x64, .f32⟩
  | 68 => ⟨S_, .f32⟩
  | 69 => ⟨S4x8, .f32⟩
  | 70 => ⟨S4x8x1, .f32⟩
  | 71 => ⟨S32, .f32⟩
  | 72 => ⟨S128x4x8x64x64, .f32⟩
  | 73 => ⟨S128x4x8x64x64, .f32⟩
  | 74 => ⟨S128x4x8x64x64, .f32⟩
  | 75 => ⟨S128x64x4x8x64, .f32⟩
  | 76 => ⟨S128x4x8x64x64, .f32⟩
  | 77 => ⟨S128x4x8x64x64, .f32⟩
  | 78 => ⟨S128x4x8x64x64, .f32⟩
  | 79 => ⟨S_, .f32⟩
  | 80 => ⟨S128x4x64x64, .f32⟩
  | 81 => ⟨S128x4x1x64x64, .f32⟩
  | 82 => ⟨S_, .f32⟩
  | 83 => ⟨S128x4x64x64, .f32⟩
  | 84 => ⟨S128x4x64x128, .f32⟩
  | 85 => ⟨S128x64x4x128, .f32⟩
  | 86 => ⟨S128x4x64x128, .f32⟩
  | 87 => ⟨S128x64x4x128, .f32⟩
  | 88 => ⟨S128x4x8x64x64, .f32⟩
  | 89 => ⟨S_, .f32⟩
  | 90 => ⟨S128x4x8x64x64, .f32⟩
  | 91 => ⟨S128x4x8x64x64, .f32⟩
  | 92 => ⟨S_, .f32⟩
  | 93 => ⟨S128x4x8x64, .f32⟩
  | 94 => ⟨S128x4x8x64x1, .f32⟩
  | 95 => ⟨S128x4x8x64x64, .f32⟩
  | 96 => ⟨S_, .f32⟩
  | 97 => ⟨S128x4x8x64, .f32⟩
  | 98 => ⟨S128x4x8x1x64, .f32⟩
  | 99 => ⟨S_, .f32⟩
  | 100 => ⟨S128x4x8x64, .f32⟩
  | 101 => ⟨S_, .f32⟩
  | 102 => ⟨S128x4x8x64, .f32⟩
  | 103 => ⟨S128x4x8x64, .f32⟩
  | 104 => ⟨S128x64x4x8, .f32⟩
  | 105 => ⟨S128x64x4x8x64, .f32⟩
  | 106 => ⟨S_, .f32⟩
  | 107 => ⟨S128x64x4x8, .f32⟩
  | 108 => ⟨S128x64x4x8x1, .f32⟩
  | 109 => ⟨S128x64x4x8x64, .f32⟩
  | 110 => ⟨S128x64x4x8x64, .f32⟩
  | 111 => ⟨S128x64x4x8x64, .f32⟩
  | 112 => ⟨S_, .f32⟩
  | 113 => ⟨S128x64x4x8, .f32⟩
  | 114 => ⟨S_, .f32⟩
  | 115 => ⟨S_, .f32⟩
  | 116 => ⟨S128x64x4x8, .f32⟩
  | 117 => ⟨S128x64x4x8, .f32⟩
  | 118 => ⟨S_, .f32⟩
  | 119 => ⟨S4x8, .f32⟩
  | 120 => ⟨S1x1x4x8, .f32⟩
  | 121 => ⟨S128x64x4x8, .f32⟩
  | 122 => ⟨S128x64x4x8, .f32⟩
  | 123 => ⟨S128x64x4x8, .f32⟩
  | 124 => ⟨S_, .f32⟩
  | 125 => ⟨S4x8, .f32⟩
  | 126 => ⟨S4x8, .f32⟩
  | 127 => ⟨S32, .f32⟩
  | _ => ⟨S8192x3072, .f32⟩

abbrev hbmTy0_1 (i : Nat) : BufTy := match i % 128 with
  | 0 => ⟨S32, .f32⟩
  | 1 => ⟨S8192x32, .f32⟩
  | 2 => ⟨S8192x512, .f32⟩
  | 3 => ⟨S8192x512, .f32⟩
  | 4 => ⟨S8192x2048, .f32⟩
  | 5 => ⟨S8192x32x64, .f32⟩
  | 6 => ⟨S32x8192x64, .f32⟩
  | 7 => ⟨S32x8192, .f32⟩
  | 8 => ⟨S32x8192x1, .f32⟩
  | 9 => ⟨S8192x4x128, .f32⟩
  | 10 => ⟨S4x8192x128, .f32⟩
  | 11 => ⟨S8192x4x128, .f32⟩
  | 12 => ⟨S4x8192x128, .f32⟩
  | 13 => ⟨S32x1x1, .f32⟩
  | 14 => ⟨S32x1x1, .f32⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_call0_cst : Ref sig .tc := ⟨.hbm, 18, rfl⟩
abbrev main_call0_call0_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c : Ref sig .tc := ⟨.hbm, 25, rfl⟩
abbrev main_v18 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_0 : Ref sig .tc := ⟨.hbm, 33, rfl⟩
abbrev main_call1_v5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst : Ref sig .tc := ⟨.hbm, 41, rfl⟩
abbrev main_call2_v0 : Ref sig .tc := ⟨.hbm, 42, rfl⟩
abbrev main_v25_1 : Ref sig .tc := ⟨.hbm, 43, rfl⟩
abbrev main_call2_v2 : Ref sig .tc := ⟨.hbm, 44, rfl⟩
abbrev main_v25_0 : Ref sig .tc := ⟨.hbm, 45, rfl⟩
abbrev main_call2_cst : Ref sig .tc := ⟨.hbm, 46, rfl⟩
abbrev main_v25_2 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_0 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_1 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_2 : Ref sig .tc := ⟨.hbm, 79, rfl⟩
abbrev main_v55 : Ref sig .tc := ⟨.hbm, 80, rfl⟩
abbrev main_v56 : Ref sig .tc := ⟨.hbm, 81, rfl⟩
abbrev main_cst_3 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_call3_cst : Ref sig .tc := ⟨.hbm, 89, rfl⟩
abbrev main_call3_v0 : Ref sig .tc := ⟨.hbm, 90, rfl⟩
abbrev main_v63 : Ref sig .tc := ⟨.hbm, 91, rfl⟩
abbrev main_cst_4 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_cst_5 : Ref sig .tc := ⟨.hbm, 96, rfl⟩
abbrev main_v67 : Ref sig .tc := ⟨.hbm, 97, rfl⟩
abbrev main_v68 : Ref sig .tc := ⟨.hbm, 98, rfl⟩
abbrev main_cst_6 : Ref sig .tc := ⟨.hbm, 99, rfl⟩
abbrev main_v69 : Ref sig .tc := ⟨.hbm, 100, rfl⟩
abbrev main_cst_7 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_8 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_9 : Ref sig .tc := ⟨.hbm, 112, rfl⟩
abbrev main_v79 : Ref sig .tc := ⟨.hbm, 113, rfl⟩
abbrev main_call4_call0_cst : Ref sig .tc := ⟨.hbm, 114, rfl⟩
abbrev main_call4_call0_v0 : Ref sig .tc := ⟨.hbm, 115, rfl⟩
abbrev main_v80 : Ref sig .tc := ⟨.hbm, 116, rfl⟩
abbrev main_v81 : Ref sig .tc := ⟨.hbm, 117, rfl⟩
abbrev main_cst_10 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_cst_11 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩

abbrev nD : Nat := 1
abbrev τ : Topo := Topo.v7x

variable {F : FTy → Type} [FloatOps F]
-- ==== Kernel7.lean ====
abbrev S8192x2048 : Shape := ⟨2, ![8192, 2048]⟩
abbrev S2x2048x11008 : Shape := ⟨3, ![2, 2048, 11008]⟩
abbrev S2x2048x4x2752 : Shape := ⟨4, ![2, 2048, 4, 2752]⟩
abbrev S2x4x2048x2752 : Shape := ⟨4, ![2, 4, 2048, 2752]⟩
abbrev S4x8192x2752 : Shape := ⟨3, ![4, 8192, 2752]⟩
abbrev S1024x1024 : Shape := ⟨2, ![1024, 1024]⟩
abbrev S1x1x1024x2752 : Shape := ⟨4, ![1, 1, 1024, 2752]⟩
abbrev S1x1024x2752 : Shape := ⟨3, ![1, 1024, 2752]⟩
abbrev S1024x2752 : Shape := ⟨2, ![1024, 2752]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x2048x11008, .bf16⟩
  | .hbm, ⟨2, _⟩ => ⟨S2x2048x4x2752, .bf16⟩
  | .hbm, ⟨3, _⟩ => ⟨S2x4x2048x2752, .bf16⟩
  | .hbm, ⟨4, _⟩ => ⟨S4x8192x2752, .bf16⟩
  | .local _ .vmem, ⟨0, _⟩ => ⟨S1024x1024, .bf16⟩
  | .local _ .vmem, ⟨1, _⟩ => ⟨S1024x1024, .bf16⟩
  | .local _ .vmem, ⟨2, _⟩ => ⟨S1x1x1024x2752, .bf16⟩
  | .local _ .vmem, ⟨3, _⟩ => ⟨S1x1x1024x2752, .bf16⟩
  | .local _ .vmem, ⟨4, _⟩ => ⟨S1x1024x2752, .bf16⟩
  | .local _ .vmem, ⟨5, _⟩ => ⟨S1x1024x2752, .bf16⟩
  | .local _ .vmem, ⟨6, _⟩ => ⟨S1024x2752, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg1.toNat, arg2.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x1024x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x2752 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2048 : Shape := ⟨2, ![8192, 2048]⟩
abbrev S2x2048x11008 : Shape := ⟨3, ![2, 2048, 11008]⟩
abbrev S1x2048x11008 : Shape := ⟨3, ![1, 2048, 11008]⟩
abbrev S2048x11008 : Shape := ⟨2, ![2048, 11008]⟩
abbrev S8192x11008 : Shape := ⟨2, ![8192, 11008]⟩
abbrev S8192x4x2752 : Shape := ⟨3, ![8192, 4, 2752]⟩
abbrev S4x8192x2752 : Shape := ⟨3, ![4, 8192, 2752]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x2048x11008, .bf16⟩
  | .hbm, ⟨2, _⟩ => ⟨S8192x2048, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S8192x11008, .f32⟩
  | .hbm, ⟨7, _⟩ => ⟨S8192x4x2752, .f32⟩
  | .hbm, ⟨8, _⟩ => ⟨S4x8192x2752, .f32⟩
  | .hbm, ⟨9, _⟩ => ⟨S4x8192x2752, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel8.lean ====
abbrev S2x2x8192x2752 : Shape := ⟨4, ![2, 2, 8192, 2752]⟩
abbrev S2x8192x2752 : Shape := ⟨3, ![2, 8192, 2752]⟩
abbrev S2x1x256x2752 : Shape := ⟨4, ![2, 1, 256, 2752]⟩
abbrev S1x256x2752 : Shape := ⟨3, ![1, 256, 2752]⟩
abbrev S1x1x256x2752 : Shape := ⟨4, ![1, 1, 256, 2752]⟩
abbrev S256x2752 : Shape := ⟨2, ![256, 2752]⟩

abbrev nBuf : Space → Nat
  | .hbm => 2
  | .vmem => 4
  | .smem => 0
  | _ => 0

abbrev bufTy : (tb : Table) → Fin (tcTables nBuf tb) → BufTy
  | .hbm, ⟨0, _⟩ => ⟨S2x2x8192x2752, .bf16⟩
  | .hbm, ⟨1, _⟩ => ⟨S2x8192x2752, .bf16⟩
  | .local _ .vmem, ⟨0, _⟩ => ⟨S2x1x256x2752, .bf16⟩
  | .local _ .vmem, ⟨1, _⟩ => ⟨S2x1x256x2752, .bf16⟩
  | .local _ .vmem, ⟨2, _⟩ => ⟨S1x256x2752, .bf16⟩
  | .local _ .vmem, ⟨3, _⟩ => ⟨S1x256x2752, .bf16⟩
  | _, _ => ⟨S2x2x8192x2752, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x1x256x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x2752 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== Reference8Ideal.lean ====
abbrev S2x2x8192x2752 : Shape := ⟨4, ![2, 2, 8192, 2752]⟩
abbrev S1x2x8192x2752 : Shape := ⟨4, ![1, 2, 8192, 2752]⟩
abbrev S2x8192x2752 : Shape := ⟨3, ![2, 8192, 2752]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2x2x8192x2752, .bf16⟩
  | .hbm, ⟨1, _⟩ => ⟨S1x2x8192x2752, .bf16⟩
  | .hbm, ⟨2, _⟩ => ⟨S2x8192x2752, .bf16⟩
  | .hbm, ⟨3, _⟩ => ⟨S2x8192x2752, .f32⟩
  | .hbm, ⟨4, _⟩ => ⟨S1x2x8192x2752, .bf16⟩
  | .hbm, ⟨5, _⟩ => ⟨S2x8192x2752, .bf16⟩
  | .hbm, ⟨6, _⟩ => ⟨S2x8192x2752, .f32⟩
  | .hbm, ⟨7, _⟩ => ⟨S2x8192x2752, .f32⟩
  | .hbm, ⟨8, _⟩ => ⟨S2x8192x2752, .f32⟩
  | .hbm, ⟨9, _⟩ => ⟨S_, .f32⟩
  | .hbm, ⟨10, _⟩ => ⟨S2x8192x2752, .f32⟩
  | .hbm, ⟨11, _⟩ => ⟨S2x8192x2752, .f32⟩
  | .hbm, ⟨12, _⟩ => ⟨S_, .f32⟩
  | .hbm, ⟨13, _⟩ => ⟨S2x8192x2752, .f32⟩
  | .hbm, ⟨14, _⟩ => ⟨S2x8192x2752, .f32⟩
  | .hbm, ⟨15, _⟩ => ⟨S2x8192x2752, .f32⟩
  | .hbm, ⟨16, _⟩ => ⟨S2x8192x2752, .f32⟩
  | .hbm, ⟨17, _⟩ => ⟨S2x8192x2752, .bf16⟩
  | _, _ => ⟨S2x2x8192x2752, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Kernel9.lean ====
abbrev S8192x5504 : Shape := ⟨2, ![8192, 5504]⟩
abbrev S2x5504x2048 : Shape := ⟨3, ![2, 5504, 2048]⟩
abbrev S8192x2048 : Shape := ⟨2, ![8192, 2048]⟩
abbrev S8192x2x2752 : Shape := ⟨3, ![8192, 2, 2752]⟩
abbrev S2x8192x2752 : Shape := ⟨3, ![2, 8192, 2752]⟩
abbrev S2x2x2752x2048 : Shape := ⟨4, ![2, 2, 2752, 2048]⟩
abbrev S1x1024x2752 : Shape := ⟨3, ![1, 1024, 2752]⟩
abbrev S1x1x2752x1024 : Shape := ⟨4, ![1, 1, 2752, 1024]⟩
abbrev S1024x1024 : Shape := ⟨2, ![1024, 1024]⟩
abbrev S1024x2752 : Shape := ⟨2, ![1024, 2752]⟩
abbrev S2752x1024 : Shape := ⟨2, ![2752, 1024]⟩

abbrev nBuf : Space → Nat
  | .hbm => 7
  | .vmem => 9
  | .smem => 0
  | _ => 0

abbrev bufTy : (tb : Table) → Fin (tcTables nBuf tb) → BufTy
  | .hbm, ⟨0, _⟩ => ⟨S8192x5504, .bf16⟩
  | .hbm, ⟨1, _⟩ => ⟨S2x5504x2048, .bf16⟩
  | .hbm, ⟨2, _⟩ => ⟨S8192x2048, .f32⟩
  | .hbm, ⟨3, _⟩ => ⟨S8192x2x2752, .bf16⟩
  | .hbm, ⟨4, _⟩ => ⟨S2x8192x2752, .bf16⟩
  | .hbm, ⟨5, _⟩ => ⟨S2x2x2752x2048, .bf16⟩
  | .hbm, ⟨6, _⟩ => ⟨S8192x2048, .f32⟩
  | .local _ .vmem, ⟨0, _⟩ => ⟨S1x1024x2752, .bf16⟩
  | .local _ .vmem, ⟨1, _⟩ => ⟨S1x1024x2752, .bf16⟩
  | .local _ .vmem, ⟨2, _⟩ => ⟨S1x1x2752x1024, .bf16⟩
  | .local _ .vmem, ⟨3, _⟩ => ⟨S1x1x2752x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_11 : BitVec 32 := 0#32
  let v15 : BitVec 1 := Scalar.cmpi .ne v14 c0_i32_11
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg2.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2752 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x2752x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S8192x5504 : Shape := ⟨2, ![8192, 5504]⟩
abbrev S2x5504x2048 : Shape := ⟨3, ![2, 5504, 2048]⟩
abbrev S8192x2048 : Shape := ⟨2, ![8192, 2048]⟩
abbrev S1x5504x2048 : Shape := ⟨3, ![1, 5504, 2048]⟩
abbrev S5504x2048 : Shape := ⟨2, ![5504, 2048]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x5504, .bf16⟩
  | .hbm, ⟨1, _⟩ => ⟨S2x5504x2048, .bf16⟩
  | .hbm, ⟨2, _⟩ => ⟨S8192x2048, .f32⟩
  | .hbm, ⟨3, _⟩ => ⟨S8192x5504, .f32⟩
  | .hbm, ⟨4, _⟩ => ⟨S1x5504x2048, .bf16⟩
  | .hbm, ⟨5, _⟩ => ⟨S5504x2048, .bf16⟩
  | .hbm, ⟨6, _⟩ => ⟨S5504x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S8192x2048, .f32⟩
  | _, _ => ⟨S8192x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel10.lean ====
abbrev S8192x6144 : Shape := ⟨2, ![8192, 6144]⟩
abbrev S8192x2048 : Shape := ⟨2, ![8192, 2048]⟩
abbrev S2048x6160 : Shape := ⟨2, ![2048, 6160]⟩
abbrev S2048x6144 : Shape := ⟨2, ![2048, 6144]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S2048x6160, .bf16⟩
  | .hbm, ⟨3, _⟩ => ⟨S8192x2048, .f32⟩
  | .hbm, ⟨4, _⟩ => ⟨S2048x6144, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v12 : BitVec 1 := Scalar.cmpi .eq arg2 c2_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference10Ideal.lean ====
abbrev S8192x6144 : Shape := ⟨2, ![8192, 6144]⟩
abbrev S8192x2048 : Shape := ⟨2, ![8192, 2048]⟩
abbrev S2048x6160 : Shape := ⟨2, ![2048, 6160]⟩
abbrev S2048x6144 : Shape := ⟨2, ![2048, 6144]⟩

abbrev nBuf : Space → Nat
  | .hbm => 11
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S8192x2048, .bf16⟩
  | .hbm, ⟨2, _⟩ => ⟨S2048x6160, .bf16⟩
  | .hbm, ⟨3, _⟩ => ⟨S8192x2048, .f32⟩
  | .hbm, ⟨4, _⟩ => ⟨S2048x6144, .bf16⟩
  | .hbm, ⟨5, _⟩ => ⟨S2048x6144, .f32⟩
  | .hbm, ⟨6, _⟩ => ⟨S8192x2048, .f32⟩
  | .hbm, ⟨7, _⟩ => ⟨S8192x6144, .f32⟩
  | .hbm, ⟨8, _⟩ => ⟨S8192x6144, .f32⟩
  | .hbm, ⟨9, _⟩ => ⟨S8192x2048, .f32⟩
  | .hbm, ⟨10, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel11.lean ====
abbrev S8192x2048 : Shape := ⟨2, ![8192, 2048]⟩
abbrev S8192x6144 : Shape := ⟨2, ![8192, 6144]⟩
abbrev S2048x6160 : Shape := ⟨2, ![2048, 6160]⟩
abbrev S2048x6144 : Shape := ⟨2, ![2048, 6144]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6160, .bf16⟩
  | .hbm, ⟨3, _⟩ => ⟨S2048x6144, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 6, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S8192x6144 : Shape := ⟨2, ![8192, 6144]⟩
abbrev S2048x6160 : Shape := ⟨2, ![2048, 6160]⟩
abbrev S2048x6144 : Shape := ⟨2, ![2048, 6144]⟩
abbrev S6144x2048 : Shape := ⟨2, ![6144, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6160, .bf16⟩
  | .hbm, ⟨3, _⟩ => ⟨S8192x2048, .f32⟩
  | .hbm, ⟨4, _⟩ => ⟨S2048x6144, .bf16⟩
  | .hbm, ⟨5, _⟩ => ⟨S2048x6144, .f32⟩
  | .hbm, ⟨6, _⟩ => ⟨S8192x6144, .f32⟩
  | .hbm, ⟨7, _⟩ => ⟨S8192x6144, .f32⟩
  | .hbm, ⟨8, _⟩ => ⟨S6144x2048, .f32⟩
  | .hbm, ⟨9, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .bf16⟩
  | .hbm, ⟨2, _⟩ => ⟨S2048x2048, .bf16⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S2048x2048, .f32⟩
  | .hbm, ⟨7, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel14.lean ====
abbrev S8192x2048 : Shape := ⟨2, ![8192, 2048]⟩
abbrev S8192x4096 : Shape := ⟨2, ![8192, 4096]⟩
abbrev S4096x2048 : Shape := ⟨2, ![4096, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4096x2048, .bf16⟩
  | .hbm, ⟨3, _⟩ => ⟨S8192x4096, .f32⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x4096 : Shape := ⟨2, ![8192, 4096]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x4096, .bf16⟩
  | .hbm, ⟨2, _⟩ => ⟨S4096x2048, .bf16⟩
  | .hbm, ⟨3, _⟩ => ⟨S4096x2048, .f32⟩
  | .hbm, ⟨4, _⟩ => ⟨S8192x4096, .f32⟩
  | .hbm, ⟨5, _⟩ => ⟨S8192x2048, .f32⟩
  | .hbm, ⟨6, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x4096 : Shape := ⟨2, ![8192, 4096]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S4096x2048, .bf16⟩
  | .hbm, ⟨3, _⟩ => ⟨S4096x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x4096 : Shape := ⟨2, ![8192, 4096]⟩
abbrev S8192x2048 : Shape := ⟨2, ![8192, 2048]⟩
abbrev S4096x2048 : Shape := ⟨2, ![4096, 2048]⟩
abbrev S2048x4096 : Shape := ⟨2, ![2048, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x2048, .f32⟩
  | .hbm, ⟨2, _⟩ => ⟨S4096x2048, .bf16⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S2048x4096, .f32⟩
  | .hbm, ⟨7, _⟩ => ⟨S4096x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S8192x2048 : Shape := ⟨2, ![8192, 2048]⟩
abbrev S2048x13344 : Shape := ⟨2, ![2048, 13344]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x13344, .bf16⟩
  | .hbm, ⟨3, _⟩ => ⟨S2048x2048, .bf16⟩
  | .hbm, ⟨4, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x13344 : Shape := ⟨2, ![2048, 13344]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x13344, .bf16⟩
  | .hbm, ⟨3, _⟩ => ⟨S2048x2048, .bf16⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel17.lean ====
abbrev S8192x2048 : Shape := ⟨2, ![8192, 2048]⟩
abbrev S2048x13344 : Shape := ⟨2, ![2048, 13344]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x13344, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x13344 : Shape := ⟨2, ![2048, 13344]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x13344, .bf16⟩
  | .hbm, ⟨3, _⟩ => ⟨S8192x2048, .f32⟩
  | .hbm, ⟨4, _⟩ => ⟨S2048x2048, .bf16⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S8192x3072 : Shape := ⟨2, ![8192, 3072]⟩
abbrev S8192x2048 : Shape := ⟨2, ![8192, 2048]⟩
abbrev S2048x13344 : Shape := ⟨2, ![2048, 13344]⟩
abbrev S2048x3072 : Shape := ⟨2, ![2048, 3072]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x3072, .f32⟩
  | .hbm, ⟨1, _⟩ => ⟨S8192x2048, .bf16⟩
  | .hbm, ⟨2, _⟩ => ⟨S2048x13344, .bf16⟩
  | .hbm, ⟨3, _⟩ => ⟨S8192x2048, .f32⟩
  | .hbm, ⟨4, _⟩ => ⟨S2048x3072, .bf16⟩
  | .hbm, ⟨5, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S8192x3072 : Shape := ⟨2, ![8192, 3072]⟩
abbrev S8192x2048 : Shape := ⟨2, ![8192, 2048]⟩
abbrev S2048x13344 : Shape := ⟨2, ![2048, 13344]⟩
abbrev S2048x3072 : Shape := ⟨2, ![2048, 3072]⟩

abbrev nBuf : Space → Nat
  | .hbm => 10
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x2048, .bf16⟩
  | .hbm, ⟨2, _⟩ => ⟨S2048x13344, .bf16⟩
  | .hbm, ⟨3, _⟩ => ⟨S8192x2048, .f32⟩
  | .hbm, ⟨4, _⟩ => ⟨S2048x3072, .bf16⟩
  | .hbm, ⟨5, _⟩ => ⟨S2048x3072, .f32⟩
  | .hbm, ⟨6, _⟩ => ⟨S8192x2048, .f32⟩
  | .hbm, ⟨7, _⟩ => ⟨S8192x3072, .f32⟩
  | .hbm, ⟨8, _⟩ => ⟨S8192x2048, .f32⟩
  | .hbm, ⟨9, _⟩ => ⟨S8192x2048, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel19.lean ====
abbrev S8192x2048 : Shape := ⟨2, ![8192, 2048]⟩
abbrev S8192x3072 : Shape := ⟨2, ![8192, 3072]⟩
abbrev S2048x13344 : Shape := ⟨2, ![2048, 13344]⟩
abbrev S2048x3072 : Shape := ⟨2, ![2048, 3072]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .f32⟩
  | .hbm, ⟨2, _⟩ => ⟨S2048x13344, .bf16⟩
  | .hbm, ⟨3, _⟩ => ⟨S2048x3072, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S8192x3072 : Shape := ⟨2, ![8192, 3072]⟩
abbrev S2048x13344 : Shape := ⟨2, ![2048, 13344]⟩
abbrev S2048x3072 : Shape := ⟨2, ![2048, 3072]⟩
abbrev S3072x2048 : Shape := ⟨2, ![3072, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x3072, .f32⟩
  | .hbm, ⟨2, _⟩ => ⟨S2048x13344, .bf16⟩
  | .hbm, ⟨3, _⟩ => ⟨S8192x2048, .f32⟩
  | .hbm, ⟨4, _⟩ => ⟨S2048x3072, .bf16⟩
  | .hbm, ⟨5, _⟩ => ⟨S2048x3072, .f32⟩
  | .hbm, ⟨6, _⟩ => ⟨S8192x3072, .f32⟩
  | .hbm, ⟨7, _⟩ => ⟨S3072x2048, .f32⟩
  | .hbm, ⟨8, _⟩ => ⟨S2048x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel20.lean ====
abbrev S8192x8192 : Shape := ⟨2, ![8192, 8192]⟩
abbrev S8192x2048 : Shape := ⟨2, ![8192, 2048]⟩
abbrev S2048x13344 : Shape := ⟨2, ![2048, 13344]⟩
abbrev S2048x8192 : Shape := ⟨2, ![2048, 8192]⟩
abbrev S1024x2048 : Shape := ⟨2, ![1024, 2048]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S2048x13344, .bf16⟩
  | .hbm, ⟨3, _⟩ => ⟨S8192x2048, .f32⟩
  | .hbm, ⟨4, _⟩ => ⟨S2048x8192, .bf16⟩
  | .hbm, ⟨5, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference20Ideal.lean ====
abbrev S8192x8192 : Shape := ⟨2, ![8192, 8192]⟩
abbrev S8192x2048 : Shape := ⟨2, ![8192, 2048]⟩
abbrev S2048x13344 : Shape := ⟨2, ![2048, 13344]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x2048, .bf16⟩
  | .hbm, ⟨2, _⟩ => ⟨S2048x13344, .bf16⟩
  | .hbm, ⟨3, _⟩ => ⟨S8192x2048, .f32⟩
  | .hbm, ⟨4, _⟩ => ⟨S2048x8192, .bf16⟩
  | .hbm, ⟨5, _⟩ => ⟨S2048x8192, .f32⟩
  | .hbm, ⟨6, _⟩ => ⟨S8192x2048, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel21.lean ====
abbrev S8192x2048 : Shape := ⟨2, ![8192, 2048]⟩
abbrev S8192x8192 : Shape := ⟨2, ![8192, 8192]⟩
abbrev S2048x13344 : Shape := ⟨2, ![2048, 13344]⟩
abbrev S2048x8192 : Shape := ⟨2, ![2048, 8192]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x13344, .bf16⟩
  | .hbm, ⟨3, _⟩ => ⟨S2048x8192, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x2048 : Shape := ⟨2, ![8192, 2048]⟩
abbrev S8192x8192 : Shape := ⟨2, ![8192, 8192]⟩
abbrev S2048x13344 : Shape := ⟨2, ![2048, 13344]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x8192, .bf16⟩
  | .hbm, ⟨2, _⟩ => ⟨S2048x13344, .bf16⟩
  | .hbm, ⟨3, _⟩ => ⟨S8192x2048, .f32⟩
  | .hbm, ⟨4, _⟩ => ⟨S2048x8192, .bf16⟩
  | .hbm, ⟨5, _⟩ => ⟨S2048x8192, .f32⟩
  | .hbm, ⟨6, _⟩ => ⟨S8192x8192, .f32⟩
  | .hbm, ⟨7, _⟩ => ⟨S8192x8192, .f32⟩
  | .hbm, ⟨8, _⟩ => ⟨S8192x2048, .f32⟩
  | .hbm, ⟨9, _⟩ => ⟨S2048x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x2048 : Shape := ⟨2, ![8192, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S2048x2048, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2048 : Shape := ⟨2, ![8192, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .bf16⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel24.lean ====
abbrev S8192x2048 : Shape := ⟨2, ![8192, 2048]⟩
abbrev S2048x6160 : Shape := ⟨2, ![2048, 6160]⟩
abbrev S2048x6144 : Shape := ⟨2, ![2048, 6144]⟩
abbrev S8192x6144 : Shape := ⟨2, ![8192, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .bf16⟩
  | .hbm, ⟨2, _⟩ => ⟨S2048x6144, .bf16⟩
  | .hbm, ⟨3, _⟩ => ⟨S8192x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 6, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference24Ideal.lean ====
abbrev S8192x2048 : Shape := ⟨2, ![8192, 2048]⟩
abbrev S2048x6160 : Shape := ⟨2, ![2048, 6160]⟩
abbrev S2048x6144 : Shape := ⟨2, ![2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6160, .bf16⟩
  | .hbm, ⟨2, _⟩ => ⟨S8192x2048, .f32⟩
  | .hbm, ⟨3, _⟩ => ⟨S2048x6144, .bf16⟩
  | .hbm, ⟨4, _⟩ => ⟨S2048x6144, .f32⟩
  | .hbm, ⟨5, _⟩ => ⟨S8192x6144, .f32⟩
  | .hbm, ⟨6, _⟩ => ⟨S8192x6144, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel25.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference25Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel26.lean ====
abbrev S8192x2048 : Shape := ⟨2, ![8192, 2048]⟩
abbrev S2048x13344 : Shape := ⟨2, ![2048, 13344]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x13344, .bf16⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S8192x2048 : Shape := ⟨2, ![8192, 2048]⟩
abbrev S2048x13344 : Shape := ⟨2, ![2048, 13344]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13344, .bf16⟩
  | .hbm, ⟨2, _⟩ => ⟨S8192x2048, .f32⟩
  | .hbm, ⟨3, _⟩ => ⟨S2048x2048, .bf16⟩
  | .hbm, ⟨4, _⟩ => ⟨S2048x2048, .f32⟩
  | .hbm, ⟨5, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel27.lean ====
abbrev S8192x2048 : Shape := ⟨2, ![8192, 2048]⟩
abbrev S2048x13344 : Shape := ⟨2, ![2048, 13344]⟩
abbrev S2048x3072 : Shape := ⟨2, ![2048, 3072]⟩
abbrev S8192x3072 : Shape := ⟨2, ![8192, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x13344, .bf16⟩
  | .hbm, ⟨2, _⟩ => ⟨S2048x3072, .bf16⟩
  | .hbm, ⟨3, _⟩ => ⟨S8192x3072, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S8192x2048 : Shape := ⟨2, ![8192, 2048]⟩
abbrev S2048x13344 : Shape := ⟨2, ![2048, 13344]⟩
abbrev S2048x3072 : Shape := ⟨2, ![2048, 3072]⟩
abbrev S8192x3072 : Shape := ⟨2, ![8192, 3072]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13344, .bf16⟩
  | .hbm, ⟨2, _⟩ => ⟨S8192x2048, .f32⟩
  | .hbm, ⟨3, _⟩ => ⟨S2048x3072, .bf16⟩
  | .hbm, ⟨4, _⟩ => ⟨S2048x3072, .f32⟩
  | .hbm, ⟨5, _⟩ => ⟨S8192x3072, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S8192x2048 : Shape := ⟨2, ![8192, 2048]⟩
abbrev S2048x13344 : Shape := ⟨2, ![2048, 13344]⟩
abbrev S2048x8192 : Shape := ⟨2, ![2048, 8192]⟩
abbrev S8192x8192 : Shape := ⟨2, ![8192, 8192]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x13344, .bf16⟩
  | .hbm, ⟨2, _⟩ => ⟨S2048x8192, .bf16⟩
  | .hbm, ⟨3, _⟩ => ⟨S8192x8192, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference28Ideal.lean ====
abbrev S8192x2048 : Shape := ⟨2, ![8192, 2048]⟩
abbrev S2048x13344 : Shape := ⟨2, ![2048, 13344]⟩
abbrev S2048x8192 : Shape := ⟨2, ![2048, 8192]⟩
abbrev S8192x8192 : Shape := ⟨2, ![8192, 8192]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x13344, .bf16⟩
  | .hbm, ⟨2, _⟩ => ⟨S8192x2048, .f32⟩
  | .hbm, ⟨3, _⟩ => ⟨S2048x8192, .bf16⟩
  | .hbm, ⟨4, _⟩ => ⟨S2048x8192, .f32⟩
  | .hbm, ⟨5, _⟩ => ⟨S8192x8192, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel29.lean ====
abbrev S8192x4096 : Shape := ⟨2, ![8192, 4096]⟩
abbrev S4096x2048 : Shape := ⟨2, ![4096, 2048]⟩
abbrev S8192x2048 : Shape := ⟨2, ![8192, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference29Ideal.lean ====
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x2048, .bf16⟩
  | .hbm, ⟨2, _⟩ => ⟨S8192x2048, .f32⟩
  | .hbm, ⟨3, _⟩ => ⟨S8192x4096, .f32⟩
  | .hbm, ⟨4, _⟩ => ⟨S4096x2048, .f32⟩
  | .hbm, ⟨5, _⟩ => ⟨S8192x2048, .f32⟩
  | .hbm, ⟨6, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel30.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel31.lean ====
abbrev S2x2048x2752 : Shape := ⟨3, ![2, 2048, 2752]⟩
abbrev S2x2752x2048 : Shape := ⟨3, ![2, 2752, 2048]⟩
abbrev S5504x2048 : Shape := ⟨2, ![5504, 2048]⟩
abbrev S128x2048 : Shape := ⟨2, ![128, 2048]⟩

abbrev nBuf : Space → Nat
  | .hbm => 15
  | .vmem => 14
  | .smem => 0
  | _ => 0

abbrev bufTy : (tb : Table) → Fin (tcTables nBuf tb) → BufTy
  | .hbm, ⟨0, _⟩ => ⟨S2x2048x2752, .f32⟩
  | .hbm, ⟨1, _⟩ => ⟨S2x2048x2752, .f32⟩
  | .hbm, ⟨2, _⟩ => ⟨S2x2048x2752, .f32⟩
  | .hbm, ⟨3, _⟩ => ⟨S2x2048x2752, .f32⟩
  | .hbm, ⟨4, _⟩ => ⟨S2x2752x2048, .f32⟩
  | .hbm, ⟨5, _⟩ => ⟨S5504x2048, .f32⟩
  | .hbm, ⟨6, _⟩ => ⟨S2x2752x2048, .f32⟩
  | .hbm, ⟨7, _⟩ => ⟨S5504x2048, .f32⟩
  | .hbm, ⟨8, _⟩ => ⟨S2x2752x2048, .f32⟩
  | .hbm, ⟨9, _⟩ => ⟨S5504x2048, .f32⟩
  | .hbm, ⟨10, _⟩ => ⟨S2x2752x2048, .f32⟩
  | .hbm, ⟨11, _⟩ => ⟨S5504x2048, .f32⟩
  | .hbm, ⟨12, _⟩ => ⟨S5504x2048, .f32⟩
  | .hbm, ⟨13, _⟩ => ⟨S5504x2048, .f32⟩
  | .hbm, ⟨14, _⟩ => ⟨S5504x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x2048x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel31Ideal.lean ====
abbrev S2x2048x2752 : Shape := ⟨3, ![2, 2048, 2752]⟩
abbrev S2x2752x2048 : Shape := ⟨3, ![2, 2752, 2048]⟩
abbrev S5504x2048 : Shape := ⟨2, ![5504, 2048]⟩
abbrev S128x2048 : Shape := ⟨2, ![128, 2048]⟩

abbrev nBuf : Space → Nat
  | .hbm => 15
  | .vmem => 14
  | .smem => 0
  | _ => 0

abbrev bufTy : (tb : Table) → Fin (tcTables nBuf tb) → BufTy
  | .hbm, ⟨0, _⟩ => ⟨S2x2048x2752, .f32⟩
  | .hbm, ⟨1, _⟩ => ⟨S2x2048x2752, .f32⟩
  | .hbm, ⟨2, _⟩ => ⟨S2x2048x2752, .f32⟩
  | .hbm, ⟨3, _⟩ => ⟨S2x2048x2752, .f32⟩
  | .hbm, ⟨4, _⟩ => ⟨S2x2752x2048, .f32⟩
  | .hbm, ⟨5, _⟩ => ⟨S5504x2048, .f32⟩
  | .hbm, ⟨6, _⟩ => ⟨S2x2752x2048, .f32⟩
  | .hbm, ⟨7, _⟩ => ⟨S5504x2048, .f32⟩
  | .hbm, ⟨8, _⟩ => ⟨S2x2752x2048, .f32⟩
  | .hbm, ⟨9, _⟩ => ⟨S5504x2048, .f32⟩
  | .hbm, ⟨10, _⟩ => ⟨S2x2752x2048, .f32⟩
  | .hbm, ⟨11, _⟩ => ⟨S5504x2048, .f32⟩
  | .hbm, ⟨12, _⟩ => ⟨S5504x2048, .f32⟩
  | .hbm, ⟨13, _⟩ => ⟨S5504x2048, .f32⟩
  | .hbm, ⟨14, _⟩ => ⟨S5504x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x2048x2752, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference31Ideal.lean ====
abbrev S2x2048x2752 : Shape := ⟨3, ![2, 2048, 2752]⟩
abbrev S_ : Shape := ⟨0, ![]⟩
abbrev S2x2752x2048 : Shape := ⟨3, ![2, 2752, 2048]⟩
abbrev S5504x2048 : Shape := ⟨2, ![5504, 2048]⟩

abbrev nBuf : Space → Nat
  | .hbm => 43
  | .vmem => 0
  | .smem => 0
  | _ => 0

abbrev bufTy : (tb : Table) → Fin (tcTables nBuf tb) → BufTy
  | .hbm, ⟨0, _⟩ => ⟨S2x2048x2752, .f32⟩
  | .hbm, ⟨1, _⟩ => ⟨S2x2048x2752, .f32⟩
  | .hbm, ⟨2, _⟩ => ⟨S2x2048x2752, .f32⟩
  | .hbm, ⟨3, _⟩ => ⟨S2x2048x2752, .f32⟩
  | .hbm, ⟨4, _⟩ => ⟨S_, .f32⟩
  | .hbm, ⟨5, _⟩ => ⟨S2x2048x2752, .f32⟩
  | .hbm, ⟨6, _⟩ => ⟨S2x2048x2752, .f32⟩
  | .hbm, ⟨7, _⟩ => ⟨S_, .f32⟩
  | .hbm, ⟨8, _⟩ => ⟨S2x2048x2752, .f32⟩
  | .hbm, ⟨9, _⟩ => ⟨S2x2048x2752, .f32⟩
  | .hbm, ⟨10, _⟩ => ⟨S2x2048x2752, .f32⟩
  | .hbm, ⟨11, _⟩ => ⟨S_, .f32⟩
  | .hbm, ⟨12, _⟩ => ⟨S2x2048x2752, .f32⟩
  | .hbm, ⟨13, _⟩ => ⟨S2x2048x2752, .f32⟩
  | .hbm, ⟨14, _⟩ => ⟨S2x2048x2752, .f32⟩
  | .hbm, ⟨15, _⟩ => ⟨S_, .f32⟩
  | .hbm, ⟨16, _⟩ => ⟨S2x2048x2752, .f32⟩
  | .hbm, ⟨17, _⟩ => ⟨S2x2048x2752, .f32⟩
  | .hbm, ⟨18, _⟩ => ⟨S2x2048x2752, .f32⟩
  | .hbm, ⟨19, _⟩ => ⟨S_, .f32⟩
  | .hbm, ⟨20, _⟩ => ⟨S2x2048x2752, .f32⟩
  | .hbm, ⟨21, _⟩ => ⟨S2x2048x2752, .f32⟩
  | .hbm, ⟨22, _⟩ => ⟨S_, .f32⟩
  | .hbm, ⟨23, _⟩ => ⟨S2x2048x2752, .f32⟩
  | .hbm, ⟨24, _⟩ => ⟨S2x2048x2752, .f32⟩
  | .hbm, ⟨25, _⟩ => ⟨S2x2048x2752, .f32⟩
  | .hbm, ⟨26, _⟩ => ⟨S_, .f32⟩
  | .hbm, ⟨27, _⟩ => ⟨S2x2048x2752, .f32⟩
  | .hbm, ⟨28, _⟩ => ⟨S2x2048x2752, .f32⟩
  | .hbm, ⟨29, _⟩ => ⟨S2x2048x2752, .f32⟩
  | .hbm, ⟨30, _⟩ => ⟨S_, .f32⟩
  | .hbm, ⟨31, _⟩ => ⟨S2x2048x2752, .f32⟩
  | .hbm, ⟨32, _⟩ => ⟨S2x2048x2752, .f32⟩
  | .hbm, ⟨33, _⟩ => ⟨S2x2048x2752, .f32⟩
  | .hbm, ⟨34, _⟩ => ⟨S_, .f32⟩
  | .hbm, ⟨35, _⟩ => ⟨S2x2048x2752, .f32⟩
  | .hbm, ⟨36, _⟩ => ⟨S2x2048x2752, .f32⟩
  | .hbm, ⟨37, _⟩ => ⟨S2x2752x2048, .f32⟩
  | .hbm, ⟨38, _⟩ => ⟨S5504x2048, .f32⟩
  | .hbm, ⟨39, _⟩ => ⟨S2x2752x2048, .f32⟩
  | .hbm, ⟨40, _⟩ => ⟨S5504x2048, .f32⟩
  | .hbm, ⟨41, _⟩ => ⟨S2x2752x2048, .f32⟩
  | .hbm, ⟨42, _⟩ => ⟨S5504x2048, .f32⟩
  | _, _ => ⟨S2x2048x2752, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel32.lean ====
abbrev S2x1376x2048 : Shape := ⟨3, ![2, 1376, 2048]⟩
abbrev S2752x2048 : Shape := ⟨2, ![2752, 2048]⟩
abbrev S64x2048 : Shape := ⟨2, ![64, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1376x2048, .f32⟩
  | .hbm, ⟨1, _⟩ => ⟨S2x1376x2048, .f32⟩
  | .hbm, ⟨2, _⟩ => ⟨S2x1376x2048, .f32⟩
  | .hbm, ⟨3, _⟩ => ⟨S2x1376x2048, .f32⟩
  | .hbm, ⟨4, _⟩ => ⟨S2752x2048, .f32⟩
  | .hbm, ⟨5, _⟩ => ⟨S2752x2048, .f32⟩
  | .hbm, ⟨6, _⟩ => ⟨S2752x2048, .f32⟩
  | .hbm, ⟨7, _⟩ => ⟨S2752x2048, .f32⟩
  | .hbm, ⟨8, _⟩ => ⟨S2752x2048, .f32⟩
  | .hbm, ⟨9, _⟩ => ⟨S2752x2048, .f32⟩
  | .hbm, ⟨10, _⟩ => ⟨S2752x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S2x1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel32Ideal.lean ====
abbrev S2x1376x2048 : Shape := ⟨3, ![2, 1376, 2048]⟩
abbrev S2752x2048 : Shape := ⟨2, ![2752, 2048]⟩
abbrev S64x2048 : Shape := ⟨2, ![64, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x1376x2048, .f32⟩
  | .hbm, ⟨1, _⟩ => ⟨S2x1376x2048, .f32⟩
  | .hbm, ⟨2, _⟩ => ⟨S2x1376x2048, .f32⟩
  | .hbm, ⟨3, _⟩ => ⟨S2x1376x2048, .f32⟩
  | .hbm, ⟨4, _⟩ => ⟨S2752x2048, .f32⟩
  | .hbm, ⟨5, _⟩ => ⟨S2752x2048, .f32⟩
  | .hbm, ⟨6, _⟩ => ⟨S2752x2048, .f32⟩
  | .hbm, ⟨7, _⟩ => ⟨S2752x2048, .f32⟩
  | .hbm, ⟨8, _⟩ => ⟨S2752x2048, .f32⟩
  | .hbm, ⟨9, _⟩ => ⟨S2752x2048, .f32⟩
  | .hbm, ⟨10, _⟩ => ⟨S2752x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | _, _ => ⟨S2x1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference32Ideal.lean ====
abbrev S2x1376x2048 : Shape := ⟨3, ![2, 1376, 2048]⟩
abbrev S_ : Shape := ⟨0, ![]⟩
abbrev S2752x2048 : Shape := ⟨2, ![2752, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x1376x2048, .f32⟩
  | .hbm, ⟨1, _⟩ => ⟨S2x1376x2048, .f32⟩
  | .hbm, ⟨2, _⟩ => ⟨S2x1376x2048, .f32⟩
  | .hbm, ⟨3, _⟩ => ⟨S2x1376x2048, .f32⟩
  | .hbm, ⟨4, _⟩ => ⟨S_, .f32⟩
  | .hbm, ⟨5, _⟩ => ⟨S2x1376x2048, .f32⟩
  | .hbm, ⟨6, _⟩ => ⟨S2x1376x2048, .f32⟩
  | .hbm, ⟨7, _⟩ => ⟨S_, .f32⟩
  | .hbm, ⟨8, _⟩ => ⟨S2x1376x2048, .f32⟩
  | .hbm, ⟨9, _⟩ => ⟨S2x1376x2048, .f32⟩
  | .hbm, ⟨10, _⟩ => ⟨S2x1376x2048, .f32⟩
  | .hbm, ⟨11, _⟩ => ⟨S_, .f32⟩
  | .hbm, ⟨12, _⟩ => ⟨S2x1376x2048, .f32⟩
  | .hbm, ⟨13, _⟩ => ⟨S2x1376x2048, .f32⟩
  | .hbm, ⟨14, _⟩ => ⟨S2x1376x2048, .f32⟩
  | .hbm, ⟨15, _⟩ => ⟨S_, .f32⟩
  | .hbm, ⟨16, _⟩ => ⟨S2x1376x2048, .f32⟩
  | .hbm, ⟨17, _⟩ => ⟨S2x1376x2048, .f32⟩
  | .hbm, ⟨18, _⟩ => ⟨S2x1376x2048, .f32⟩
  | .hbm, ⟨19, _⟩ => ⟨S_, .f32⟩
  | .hbm, ⟨20, _⟩ => ⟨S2x1376x2048, .f32⟩
  | .hbm, ⟨21, _⟩ => ⟨S2x1376x2048, .f32⟩
  | .hbm, ⟨22, _⟩ => ⟨S_, .f32⟩
  | .hbm, ⟨23, _⟩ => ⟨S2x1376x2048, .f32⟩
  | .hbm, ⟨24, _⟩ => ⟨S2x1376x2048, .f32⟩
  | .hbm, ⟨25, _⟩ => ⟨S2x1376x2048, .f32⟩
  | .hbm, ⟨26, _⟩ => ⟨S_, .f32⟩
  | .hbm, ⟨27, _⟩ => ⟨S2x1376x2048, .f32⟩
  | .hbm, ⟨28, _⟩ => ⟨S2x1376x2048, .f32⟩
  | .hbm, ⟨29, _⟩ => ⟨S2x1376x2048, .f32⟩
  | .hbm, ⟨30, _⟩ => ⟨S_, .f32⟩
  | .hbm, ⟨31, _⟩ => ⟨S2x1376x2048, .f32⟩
  | .hbm, ⟨32, _⟩ => ⟨S2x1376x2048, .f32⟩
  | .hbm, ⟨33, _⟩ => ⟨S2x1376x2048, .f32⟩
  | .hbm, ⟨34, _⟩ => ⟨S_, .f32⟩
  | .hbm, ⟨35, _⟩ => ⟨S2x1376x2048, .f32⟩
  | .hbm, ⟨36, _⟩ => ⟨S2x1376x2048, .f32⟩
  | .hbm, ⟨37, _⟩ => ⟨S2752x2048, .f32⟩
  | .hbm, ⟨38, _⟩ => ⟨S2752x2048, .f32⟩
  | .hbm, ⟨39, _⟩ => ⟨S2752x2048, .f32⟩
  | _, _ => ⟨S2x1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel33.lean ====
abbrev S1x2048x3336 : Shape := ⟨3, ![1, 2048, 3336]⟩
abbrev S1x3336x2048 : Shape := ⟨3, ![1, 3336, 2048]⟩
abbrev S3336x2048 : Shape := ⟨2, ![3336, 2048]⟩
abbrev S3336x128 : Shape := ⟨2, ![3336, 128]⟩

abbrev nBuf : Space → Nat
  | .hbm => 15
  | .vmem => 14
  | .smem => 0
  | _ => 0

abbrev bufTy : (tb : Table) → Fin (tcTables nBuf tb) → BufTy
  | .hbm, ⟨0, _⟩ => ⟨S1x2048x3336, .f32⟩
  | .hbm, ⟨1, _⟩ => ⟨S1x2048x3336, .f32⟩
  | .hbm, ⟨2, _⟩ => ⟨S1x2048x3336, .f32⟩
  | .hbm, ⟨3, _⟩ => ⟨S1x2048x3336, .f32⟩
  | .hbm, ⟨4, _⟩ => ⟨S1x3336x2048, .f32⟩
  | .hbm, ⟨5, _⟩ => ⟨S3336x2048, .f32⟩
  | .hbm, ⟨6, _⟩ => ⟨S1x3336x2048, .f32⟩
  | .hbm, ⟨7, _⟩ => ⟨S3336x2048, .f32⟩
  | .hbm, ⟨8, _⟩ => ⟨S1x3336x2048, .f32⟩
  | .hbm, ⟨9, _⟩ => ⟨S3336x2048, .f32⟩
  | .hbm, ⟨10, _⟩ => ⟨S1x3336x2048, .f32⟩
  | .hbm, ⟨11, _⟩ => ⟨S3336x2048, .f32⟩
  | .hbm, ⟨12, _⟩ => ⟨S3336x2048, .f32⟩
  | .hbm, ⟨13, _⟩ => ⟨S3336x2048, .f32⟩
  | .hbm, ⟨14, _⟩ => ⟨S3336x2048, .f32⟩
  | .local _ .vmem, ⟨0, _⟩ => ⟨S3336x128, .f32⟩
  | .local _ .vmem, ⟨1, _⟩ => ⟨S3336x128, .f32⟩
  | .local _ .vmem, ⟨2, _⟩ => ⟨S3336x128, .f32⟩
  | .local _ .vmem, ⟨3, _⟩ => ⟨S3336x128, .f32⟩
  | .local _ .vmem, ⟨4, _⟩ => ⟨S3336x128, .f32⟩
  | .local _ .vmem, ⟨5, _⟩ => ⟨S3336x128, .f32⟩
  | .local _ .vmem, ⟨6, _⟩ => ⟨S3336x128, .f32⟩
  | .local _ .vmem, ⟨7, _⟩ => ⟨S3336x128, .f32⟩
  | .local _ .vmem, ⟨8, _⟩ => ⟨S3336x128, .f32⟩
  | .local _ .vmem, ⟨9, _⟩ => ⟨S3336x128, .f32⟩
  | .local _ .vmem, ⟨10, _⟩ => ⟨S3336x128, .f32⟩
  | .local _ .vmem, ⟨11, _⟩ => ⟨S3336x128, .f32⟩
  | .local _ .vmem, ⟨12, _⟩ => ⟨S3336x128, .f32⟩
  | .local _ .vmem, ⟨13, _⟩ => ⟨S3336x128, .f32⟩
  | _, _ => ⟨S1x2048x3336, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3336x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3336x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3336x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3336x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3336x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3336x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3336x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference33Ideal.lean ====
abbrev S1x2048x3336 : Shape := ⟨3, ![1, 2048, 3336]⟩
abbrev S_ : Shape := ⟨0, ![]⟩
abbrev S1x3336x2048 : Shape := ⟨3, ![1, 3336, 2048]⟩
abbrev S3336x2048 : Shape := ⟨2, ![3336, 2048]⟩

abbrev nBuf : Space → Nat
  | .hbm => 43
  | .vmem => 0
  | .smem => 0
  | _ => 0

abbrev bufTy : (tb : Table) → Fin (tcTables nBuf tb) → BufTy
  | .hbm, ⟨0, _⟩ => ⟨S1x2048x3336, .f32⟩
  | .hbm, ⟨1, _⟩ => ⟨S1x2048x3336, .f32⟩
  | .hbm, ⟨2, _⟩ => ⟨S1x2048x3336, .f32⟩
  | .hbm, ⟨3, _⟩ => ⟨S1x2048x3336, .f32⟩
  | .hbm, ⟨4, _⟩ => ⟨S_, .f32⟩
  | .hbm, ⟨5, _⟩ => ⟨S1x2048x3336, .f32⟩
  | .hbm, ⟨6, _⟩ => ⟨S1x2048x3336, .f32⟩
  | .hbm, ⟨7, _⟩ => ⟨S_, .f32⟩
  | .hbm, ⟨8, _⟩ => ⟨S1x2048x3336, .f32⟩
  | .hbm, ⟨9, _⟩ => ⟨S1x2048x3336, .f32⟩
  | .hbm, ⟨10, _⟩ => ⟨S1x2048x3336, .f32⟩
  | .hbm, ⟨11, _⟩ => ⟨S_, .f32⟩
  | .hbm, ⟨12, _⟩ => ⟨S1x2048x3336, .f32⟩
  | .hbm, ⟨13, _⟩ => ⟨S1x2048x3336, .f32⟩
  | .hbm, ⟨14, _⟩ => ⟨S1x2048x3336, .f32⟩
  | .hbm, ⟨15, _⟩ => ⟨S_, .f32⟩
  | .hbm, ⟨16, _⟩ => ⟨S1x2048x3336, .f32⟩
  | .hbm, ⟨17, _⟩ => ⟨S1x2048x3336, .f32⟩
  | .hbm, ⟨18, _⟩ => ⟨S1x2048x3336, .f32⟩
  | .hbm, ⟨19, _⟩ => ⟨S_, .f32⟩
  | .hbm, ⟨20, _⟩ => ⟨S1x2048x3336, .f32⟩
  | .hbm, ⟨21, _⟩ => ⟨S1x2048x3336, .f32⟩
  | .hbm, ⟨22, _⟩ => ⟨S_, .f32⟩
  | .hbm, ⟨23, _⟩ => ⟨S1x2048x3336, .f32⟩
  | .hbm, ⟨24, _⟩ => ⟨S1x2048x3336, .f32⟩
  | .hbm, ⟨25, _⟩ => ⟨S1x2048x3336, .f32⟩
  | .hbm, ⟨26, _⟩ => ⟨S_, .f32⟩
  | .hbm, ⟨27, _⟩ => ⟨S1x2048x3336, .f32⟩
  | .hbm, ⟨28, _⟩ => ⟨S1x2048x3336, .f32⟩
  | .hbm, ⟨29, _⟩ => ⟨S1x2048x3336, .f32⟩
  | .hbm, ⟨30, _⟩ => ⟨S_, .f32⟩
  | .hbm, ⟨31, _⟩ => ⟨S1x2048x3336, .f32⟩
  | .hbm, ⟨32, _⟩ => ⟨S1x2048x3336, .f32⟩
  | .hbm, ⟨33, _⟩ => ⟨S1x2048x3336, .f32⟩
  | .hbm, ⟨34, _⟩ => ⟨S_, .f32⟩
  | .hbm, ⟨35, _⟩ => ⟨S1x2048x3336, .f32⟩
  | .hbm, ⟨36, _⟩ => ⟨S1x2048x3336, .f32⟩
  | .hbm, ⟨37, _⟩ => ⟨S1x3336x2048, .f32⟩
  | .hbm, ⟨38, _⟩ => ⟨S3336x2048, .f32⟩
  | .hbm, ⟨39, _⟩ => ⟨S1x3336x2048, .f32⟩
  | .hbm, ⟨40, _⟩ => ⟨S3336x2048, .f32⟩
  | .hbm, ⟨41, _⟩ => ⟨S1x3336x2048, .f32⟩
  | .hbm, ⟨42, _⟩ => ⟨S3336x2048, .f32⟩
  | _, _ => ⟨S1x2048x3336, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== Kernel34.lean ====
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel34Ideal.lean ====
abbrev S1x1024x2048 : Shape := ⟨3, ![1, 1024, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference34Ideal.lean ====
abbrev S1x1024x2048 : Shape := ⟨3, ![1, 1024, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x2048, .f32⟩
  | .hbm, ⟨1, _⟩ => ⟨S1x1024x2048, .f32⟩
  | .hbm, ⟨2, _⟩ => ⟨S1x1024x2048, .f32⟩
  | .hbm, ⟨3, _⟩ => ⟨S1x1024x2048, .f32⟩
  | .hbm, ⟨4, _⟩ => ⟨S_, .f32⟩
  | .hbm, ⟨5, _⟩ => ⟨S1x1024x2048, .f32⟩
  | .hbm, ⟨6, _⟩ => ⟨S1x1024x2048, .f32⟩
  | .hbm, ⟨7, _⟩ => ⟨S_, .f32⟩
  | .hbm, ⟨8, _⟩ => ⟨S1x1024x2048, .f32⟩
  | .hbm, ⟨9, _⟩ => ⟨S1x1024x2048, .f32⟩
  | .hbm, ⟨10, _⟩ => ⟨S1x1024x2048, .f32⟩
  | .hbm, ⟨11, _⟩ => ⟨S_, .f32⟩
  | .hbm, ⟨12, _⟩ => ⟨S1x1024x2048, .f32⟩
  | .hbm, ⟨13, _⟩ => ⟨S1x1024x2048, .f32⟩
  | .hbm, ⟨14, _⟩ => ⟨S1x1024x2048, .f32⟩
  | .hbm, ⟨15, _⟩ => ⟨S_, .f32⟩
  | .hbm, ⟨16, _⟩ => ⟨S1x1024x2048, .f32⟩
  | .hbm, ⟨17, _⟩ => ⟨S1x1024x2048, .f32⟩
  | .hbm, ⟨18, _⟩ => ⟨S1x1024x2048, .f32⟩
  | .hbm, ⟨19, _⟩ => ⟨S_, .f32⟩
  | .hbm, ⟨20, _⟩ => ⟨S1x1024x2048, .f32⟩
  | .hbm, ⟨21, _⟩ => ⟨S1x1024x2048, .f32⟩
  | .hbm, ⟨22, _⟩ => ⟨S_, .f32⟩
  | .hbm, ⟨23, _⟩ => ⟨S1x1024x2048, .f32⟩
  | .hbm, ⟨24, _⟩ => ⟨S1x1024x2048, .f32⟩
  | .hbm, ⟨25, _⟩ => ⟨S1x1024x2048, .f32⟩
  | .hbm, ⟨26, _⟩ => ⟨S_, .f32⟩
  | .hbm, ⟨27, _⟩ => ⟨S1x1024x2048, .f32⟩
  | .hbm, ⟨28, _⟩ => ⟨S1x1024x2048, .f32⟩
  | .hbm, ⟨29, _⟩ => ⟨S1x1024x2048, .f32⟩
  | .hbm, ⟨30, _⟩ => ⟨S_, .f32⟩
  | .hbm, ⟨31, _⟩ => ⟨S1x1024x2048, .f32⟩
  | .hbm, ⟨32, _⟩ => ⟨S1x1024x2048, .f32⟩
  | .hbm, ⟨33, _⟩ => ⟨S1x1024x2048, .f32⟩
  | .hbm, ⟨34, _⟩ => ⟨S_, .f32⟩
  | .hbm, ⟨35, _⟩ => ⟨S1x1024x2048, .f32⟩
  | .hbm, ⟨36, _⟩ => ⟨S1x1024x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S1x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel35.lean ====
abbrev S1x2048x1540 : Shape := ⟨3, ![1, 2048, 1540]⟩
abbrev S2048x1540 : Shape := ⟨2, ![2048, 1540]⟩
abbrev S128x1540 : Shape := ⟨2, ![128, 1540]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S2048x1540, .f32⟩
  | .hbm, ⟨9, _⟩ => ⟨S2048x1540, .f32⟩
  | .hbm, ⟨10, _⟩ => ⟨S2048x1540, .f32⟩
  | .local _ .vmem, ⟨0, _⟩ => ⟨S128x1540, .f32⟩
  | .local _ .vmem, ⟨1, _⟩ => ⟨S128x1540, .f32⟩
  | .local _ .vmem, ⟨2, _⟩ => ⟨S128x1540, .f32⟩
  | .local _ .vmem, ⟨3, _⟩ => ⟨S128x1540, .f32⟩
  | .local _ .vmem, ⟨4, _⟩ => ⟨S128x1540, .f32⟩
  | .local _ .vmem, ⟨5, _⟩ => ⟨S128x1540, .f32⟩
  | .local _ .vmem, ⟨6, _⟩ => ⟨S128x1540, .f32⟩
  | .local _ .vmem, ⟨7, _⟩ => ⟨S128x1540, .f32⟩
  | .local _ .vmem, ⟨8, _⟩ => ⟨S128x1540, .f32⟩
  | .local _ .vmem, ⟨9, _⟩ => ⟨S128x1540, .f32⟩
  | .local _ .vmem, ⟨10, _⟩ => ⟨S128x1540, .f32⟩
  | .local _ .vmem, ⟨11, _⟩ => ⟨S128x1540, .f32⟩
  | .local _ .vmem, ⟨12, _⟩ => ⟨S128x1540, .f32⟩
  | .local _ .vmem, ⟨13, _⟩ => ⟨S128x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel35Ideal.lean ====
abbrev S1x2048x1540 : Shape := ⟨3, ![1, 2048, 1540]⟩
abbrev S2048x1540 : Shape := ⟨2, ![2048, 1540]⟩
abbrev S128x1540 : Shape := ⟨2, ![128, 1540]⟩

abbrev nBuf : Space → Nat
  | .hbm => 11
  | .vmem => 14
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S2048x1540, .f32⟩
  | .hbm, ⟨5, _⟩ => ⟨S2048x1540, .f32⟩
  | .hbm, ⟨6, _⟩ => ⟨S2048x1540, .f32⟩
  | .hbm, ⟨7, _⟩ => ⟨S2048x1540, .f32⟩
  | .hbm, ⟨8, _⟩ => ⟨S2048x1540, .f32⟩
  | .hbm, ⟨9, _⟩ => ⟨S2048x1540, .f32⟩
  | .hbm, ⟨10, _⟩ => ⟨S2048x1540, .f32⟩
  | .local _ .vmem, ⟨0, _⟩ => ⟨S128x1540, .f32⟩
  | .local _ .vmem, ⟨1, _⟩ => ⟨S128x1540, .f32⟩
  | .local _ .vmem, ⟨2, _⟩ => ⟨S128x1540, .f32⟩
  | .local _ .vmem, ⟨3, _⟩ => ⟨S128x1540, .f32⟩
  | .local _ .vmem, ⟨4, _⟩ => ⟨S128x1540, .f32⟩
  | .local _ .vmem, ⟨5, _⟩ => ⟨S128x1540, .f32⟩
  | .local _ .vmem, ⟨6, _⟩ => ⟨S128x1540, .f32⟩
  | .local _ .vmem, ⟨7, _⟩ => ⟨S128x1540, .f32⟩
  | .local _ .vmem, ⟨8, _⟩ => ⟨S128x1540, .f32⟩
  | .local _ .vmem, ⟨9, _⟩ => ⟨S128x1540, .f32⟩
  | .local _ .vmem, ⟨10, _⟩ => ⟨S128x1540, .f32⟩
  | .local _ .vmem, ⟨11, _⟩ => ⟨S128x1540, .f32⟩
  | .local _ .vmem, ⟨12, _⟩ => ⟨S128x1540, .f32⟩
  | .local _ .vmem, ⟨13, _⟩ => ⟨S128x1540, .f32⟩
  | _, _ => ⟨S1x2048x1540, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1540 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1540 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1540 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1540 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1540 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1540 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1540 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference35Ideal.lean ====
abbrev S1x2048x1540 : Shape := ⟨3, ![1, 2048, 1540]⟩
abbrev S_ : Shape := ⟨0, ![]⟩
abbrev S2048x1540 : Shape := ⟨2, ![2048, 1540]⟩

abbrev nBuf : Space → Nat
  | .hbm => 40
  | .vmem => 0
  | .smem => 0
  | _ => 0

abbrev bufTy : (tb : Table) → Fin (tcTables nBuf tb) → BufTy
  | .hbm, ⟨0, _⟩ => ⟨S1x2048x1540, .f32⟩
  | .hbm, ⟨1, _⟩ => ⟨S1x2048x1540, .f32⟩
  | .hbm, ⟨2, _⟩ => ⟨S1x2048x1540, .f32⟩
  | .hbm, ⟨3, _⟩ => ⟨S1x2048x1540, .f32⟩
  | .hbm, ⟨4, _⟩ => ⟨S_, .f32⟩
  | .hbm, ⟨5, _⟩ => ⟨S1x2048x1540, .f32⟩
  | .hbm, ⟨6, _⟩ => ⟨S1x2048x1540, .f32⟩
  | .hbm, ⟨7, _⟩ => ⟨S_, .f32⟩
  | .hbm, ⟨8, _⟩ => ⟨S1x2048x1540, .f32⟩
  | .hbm, ⟨9, _⟩ => ⟨S1x2048x1540, .f32⟩
  | .hbm, ⟨10, _⟩ => ⟨S1x2048x1540, .f32⟩
  | .hbm, ⟨11, _⟩ => ⟨S_, .f32⟩
  | .hbm, ⟨12, _⟩ => ⟨S1x2048x1540, .f32⟩
  | .hbm, ⟨13, _⟩ => ⟨S1x2048x1540, .f32⟩
  | .hbm, ⟨14, _⟩ => ⟨S1x2048x1540, .f32⟩
  | .hbm, ⟨15, _⟩ => ⟨S_, .f32⟩
  | .hbm, ⟨16, _⟩ => ⟨S1x2048x1540, .f32⟩
  | .hbm, ⟨17, _⟩ => ⟨S1x2048x1540, .f32⟩
  | .hbm, ⟨18, _⟩ => ⟨S1x2048x1540, .f32⟩
  | .hbm, ⟨19, _⟩ => ⟨S_, .f32⟩
  | .hbm, ⟨20, _⟩ => ⟨S1x2048x1540, .f32⟩
  | .hbm, ⟨21, _⟩ => ⟨S1x2048x1540, .f32⟩
  | .hbm, ⟨22, _⟩ => ⟨S_, .f32⟩
  | .hbm, ⟨23, _⟩ => ⟨S1x2048x1540, .f32⟩
  | .hbm, ⟨24, _⟩ => ⟨S1x2048x1540, .f32⟩
  | .hbm, ⟨25, _⟩ => ⟨S1x2048x1540, .f32⟩
  | .hbm, ⟨26, _⟩ => ⟨S_, .f32⟩
  | .hbm, ⟨27, _⟩ => ⟨S1x2048x1540, .f32⟩
  | .hbm, ⟨28, _⟩ => ⟨S1x2048x1540, .f32⟩
  | .hbm, ⟨29, _⟩ => ⟨S1x2048x1540, .f32⟩
  | .hbm, ⟨30, _⟩ => ⟨S_, .f32⟩
  | .hbm, ⟨31, _⟩ => ⟨S1x2048x1540, .f32⟩
  | .hbm, ⟨32, _⟩ => ⟨S1x2048x1540, .f32⟩
  | .hbm, ⟨33, _⟩ => ⟨S1x2048x1540, .f32⟩
  | .hbm, ⟨34, _⟩ => ⟨S_, .f32⟩
  | .hbm, ⟨35, _⟩ => ⟨S1x2048x1540, .f32⟩
  | .hbm, ⟨36, _⟩ => ⟨S1x2048x1540, .f32⟩
  | .hbm, ⟨37, _⟩ => ⟨S2048x1540, .f32⟩
  | .hbm, ⟨38, _⟩ => ⟨S2048x1540, .f32⟩
  | .hbm, ⟨39, _⟩ => ⟨S2048x1540, .f32⟩
  | _, _ => ⟨S1x2048x1540, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel36.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel36Ideal.lean ====
abbrev S1x512x2048 : Shape := ⟨3, ![1, 512, 2048]⟩
abbrev S512x2048 : Shape := ⟨2, ![512, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .hbm, ⟨9, _⟩ => ⟨S512x2048, .f32⟩
  | .hbm, ⟨10, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S1x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference36Ideal.lean ====
abbrev S1x512x2048 : Shape := ⟨3, ![1, 512, 2048]⟩
abbrev S_ : Shape := ⟨0, ![]⟩
abbrev S512x2048 : Shape := ⟨2, ![512, 2048]⟩

abbrev nBuf : Space → Nat
  | .hbm => 40
  | .vmem => 0
  | .smem => 0
  | _ => 0

abbrev bufTy : (tb : Table) → Fin (tcTables nBuf tb) → BufTy
  | .hbm, ⟨0, _⟩ => ⟨S1x512x2048, .f32⟩
  | .hbm, ⟨1, _⟩ => ⟨S1x512x2048, .f32⟩
  | .hbm, ⟨2, _⟩ => ⟨S1x512x2048, .f32⟩
  | .hbm, ⟨3, _⟩ => ⟨S1x512x2048, .f32⟩
  | .hbm, ⟨4, _⟩ => ⟨S_, .f32⟩
  | .hbm, ⟨5, _⟩ => ⟨S1x512x2048, .f32⟩
  | .hbm, ⟨6, _⟩ => ⟨S1x512x2048, .f32⟩
  | .hbm, ⟨7, _⟩ => ⟨S_, .f32⟩
  | .hbm, ⟨8, _⟩ => ⟨S1x512x2048, .f32⟩
  | .hbm, ⟨9, _⟩ => ⟨S1x512x2048, .f32⟩
  | .hbm, ⟨10, _⟩ => ⟨S1x512x2048, .f32⟩
  | .hbm, ⟨11, _⟩ => ⟨S_, .f32⟩
  | .hbm, ⟨12, _⟩ => ⟨S1x512x2048, .f32⟩
  | .hbm, ⟨13, _⟩ => ⟨S1x512x2048, .f32⟩
  | .hbm, ⟨14, _⟩ => ⟨S1x512x2048, .f32⟩
  | .hbm, ⟨15, _⟩ => ⟨S_, .f32⟩
  | .hbm, ⟨16, _⟩ => ⟨S1x512x2048, .f32⟩
  | .hbm, ⟨17, _⟩ => ⟨S1x512x2048, .f32⟩
  | .hbm, ⟨18, _⟩ => ⟨S1x512x2048, .f32⟩
  | .hbm, ⟨19, _⟩ => ⟨S_, .f32⟩
  | .hbm, ⟨20, _⟩ => ⟨S1x512x2048, .f32⟩
  | .hbm, ⟨21, _⟩ => ⟨S1x512x2048, .f32⟩
  | .hbm, ⟨22, _⟩ => ⟨S_, .f32⟩
  | .hbm, ⟨23, _⟩ => ⟨S1x512x2048, .f32⟩
  | .hbm, ⟨24, _⟩ => ⟨S1x512x2048, .f32⟩
  | .hbm, ⟨25, _⟩ => ⟨S1x512x2048, .f32⟩
  | .hbm, ⟨26, _⟩ => ⟨S_, .f32⟩
  | .hbm, ⟨27, _⟩ => ⟨S1x512x2048, .f32⟩
  | .hbm, ⟨28, _⟩ => ⟨S1x512x2048, .f32⟩
  | .hbm, ⟨29, _⟩ => ⟨S1x512x2048, .f32⟩
  | .hbm, ⟨30, _⟩ => ⟨S_, .f32⟩
  | .hbm, ⟨31, _⟩ => ⟨S1x512x2048, .f32⟩
  | .hbm, ⟨32, _⟩ => ⟨S1x512x2048, .f32⟩
  | .hbm, ⟨33, _⟩ => ⟨S1x512x2048, .f32⟩
  | .hbm, ⟨34, _⟩ => ⟨S_, .f32⟩
  | .hbm, ⟨35, _⟩ => ⟨S1x512x2048, .f32⟩
  | .hbm, ⟨36, _⟩ => ⟨S1x512x2048, .f32⟩
  | .hbm, ⟨37, _⟩ => ⟨S512x2048, .f32⟩
  | .hbm, ⟨38, _⟩ => ⟨S512x2048, .f32⟩
  | .hbm, ⟨39, _⟩ => ⟨S512x2048, .f32⟩
  | _, _ => ⟨S1x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel37.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel37Ideal.lean ====
abbrev S2x512x2048 : Shape := ⟨3, ![2, 512, 2048]⟩
abbrev S1024x2048 : Shape := ⟨2, ![1024, 2048]⟩
abbrev S128x2048 : Shape := ⟨2, ![128, 2048]⟩

abbrev nBuf : Space → Nat
  | .hbm => 11
  | .vmem => 14
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .hbm, ⟨10, _⟩ => ⟨S1024x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | _, _ => ⟨S2x512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference37Ideal.lean ====
abbrev S2x512x2048 : Shape := ⟨3, ![2, 512, 2048]⟩
abbrev S_ : Shape := ⟨0, ![]⟩
abbrev S1024x2048 : Shape := ⟨2, ![1024, 2048]⟩

abbrev nBuf : Space → Nat
  | .hbm => 40
  | .vmem => 0
  | .smem => 0
  | _ => 0

abbrev bufTy : (tb : Table) → Fin (tcTables nBuf tb) → BufTy
  | .hbm, ⟨0, _⟩ => ⟨S2x512x2048, .f32⟩
  | .hbm, ⟨1, _⟩ => ⟨S2x512x2048, .f32⟩
  | .hbm, ⟨2, _⟩ => ⟨S2x512x2048, .f32⟩
  | .hbm, ⟨3, _⟩ => ⟨S2x512x2048, .f32⟩
  | .hbm, ⟨4, _⟩ => ⟨S_, .f32⟩
  | .hbm, ⟨5, _⟩ => ⟨S2x512x2048, .f32⟩
  | .hbm, ⟨6, _⟩ => ⟨S2x512x2048, .f32⟩
  | .hbm, ⟨7, _⟩ => ⟨S_, .f32⟩
  | .hbm, ⟨8, _⟩ => ⟨S2x512x2048, .f32⟩
  | .hbm, ⟨9, _⟩ => ⟨S2x512x2048, .f32⟩
  | .hbm, ⟨10, _⟩ => ⟨S2x512x2048, .f32⟩
  | .hbm, ⟨11, _⟩ => ⟨S_, .f32⟩
  | .hbm, ⟨12, _⟩ => ⟨S2x512x2048, .f32⟩
  | .hbm, ⟨13, _⟩ => ⟨S2x512x2048, .f32⟩
  | .hbm, ⟨14, _⟩ => ⟨S2x512x2048, .f32⟩
  | .hbm, ⟨15, _⟩ => ⟨S_, .f32⟩
  | .hbm, ⟨16, _⟩ => ⟨S2x512x2048, .f32⟩
  | .hbm, ⟨17, _⟩ => ⟨S2x512x2048, .f32⟩
  | .hbm, ⟨18, _⟩ => ⟨S2x512x2048, .f32⟩
  | .hbm, ⟨19, _⟩ => ⟨S_, .f32⟩
  | .hbm, ⟨20, _⟩ => ⟨S2x512x2048, .f32⟩
  | .hbm, ⟨21, _⟩ => ⟨S2x512x2048, .f32⟩
  | .hbm, ⟨22, _⟩ => ⟨S_, .f32⟩
  | .hbm, ⟨23, _⟩ => ⟨S2x512x2048, .f32⟩
  | .hbm, ⟨24, _⟩ => ⟨S2x512x2048, .f32⟩
  | .hbm, ⟨25, _⟩ => ⟨S2x512x2048, .f32⟩
  | .hbm, ⟨26, _⟩ => ⟨S_, .f32⟩
  | .hbm, ⟨27, _⟩ => ⟨S2x512x2048, .f32⟩
  | .hbm, ⟨28, _⟩ => ⟨S2x512x2048, .f32⟩
  | .hbm, ⟨29, _⟩ => ⟨S2x512x2048, .f32⟩
  | .hbm, ⟨30, _⟩ => ⟨S_, .f32⟩
  | .hbm, ⟨31, _⟩ => ⟨S2x512x2048, .f32⟩
  | .hbm, ⟨32, _⟩ => ⟨S2x512x2048, .f32⟩
  | .hbm, ⟨33, _⟩ => ⟨S2x512x2048, .f32⟩
  | .hbm, ⟨34, _⟩ => ⟨S_, .f32⟩
  | .hbm, ⟨35, _⟩ => ⟨S2x512x2048, .f32⟩
  | .hbm, ⟨36, _⟩ => ⟨S2x512x2048, .f32⟩
  | .hbm, ⟨37, _⟩ => ⟨S1024x2048, .f32⟩
  | .hbm, ⟨38, _⟩ => ⟨S1024x2048, .f32⟩
  | .hbm, ⟨39, _⟩ => ⟨S1024x2048, .f32⟩
  | _, _ => ⟨S2x512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel38.lean ====
abbrev S2x256x512 : Shape := ⟨3, ![2, 256, 512]⟩
abbrev S512x512 : Shape := ⟨2, ![512, 512]⟩
abbrev S256x512 : Shape := ⟨2, ![256, 512]⟩

abbrev nBuf : Space → Nat
  | .hbm => 11
  | .vmem => 14
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S512x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S2x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference38Ideal.lean ====
abbrev S2x256x512 : Shape := ⟨3, ![2, 256, 512]⟩
abbrev S_ : Shape := ⟨0, ![]⟩
abbrev S512x512 : Shape := ⟨2, ![512, 512]⟩

abbrev nBuf : Space → Nat
  | .hbm => 40
  | .vmem => 0
  | .smem => 0
  | _ => 0

abbrev bufTy : (tb : Table) → Fin (tcTables nBuf tb) → BufTy
  | .hbm, ⟨0, _⟩ => ⟨S2x256x512, .f32⟩
  | .hbm, ⟨1, _⟩ => ⟨S2x256x512, .f32⟩
  | .hbm, ⟨2, _⟩ => ⟨S2x256x512, .f32⟩
  | .hbm, ⟨3, _⟩ => ⟨S2x256x512, .f32⟩
  | .hbm, ⟨4, _⟩ => ⟨S_, .f32⟩
  | .hbm, ⟨5, _⟩ => ⟨S2x256x512, .f32⟩
  | .hbm, ⟨6, _⟩ => ⟨S2x256x512, .f32⟩
  | .hbm, ⟨7, _⟩ => ⟨S_, .f32⟩
  | .hbm, ⟨8, _⟩ => ⟨S2x256x512, .f32⟩
  | .hbm, ⟨9, _⟩ => ⟨S2x256x512, .f32⟩
  | .hbm, ⟨10, _⟩ => ⟨S2x256x512, .f32⟩
  | .hbm, ⟨11, _⟩ => ⟨S_, .f32⟩
  | .hbm, ⟨12, _⟩ => ⟨S2x256x512, .f32⟩
  | .hbm, ⟨13, _⟩ => ⟨S2x256x512, .f32⟩
  | .hbm, ⟨14, _⟩ => ⟨S2x256x512, .f32⟩
  | .hbm, ⟨15, _⟩ => ⟨S_, .f32⟩
  | .hbm, ⟨16, _⟩ => ⟨S2x256x512, .f32⟩
  | .hbm, ⟨17, _⟩ => ⟨S2x256x512, .f32⟩
  | .hbm, ⟨18, _⟩ => ⟨S2x256x512, .f32⟩
  | .hbm, ⟨19, _⟩ => ⟨S_, .f32⟩
  | .hbm, ⟨20, _⟩ => ⟨S2x256x512, .f32⟩
  | .hbm, ⟨21, _⟩ => ⟨S2x256x512, .f32⟩
  | .hbm, ⟨22, _⟩ => ⟨S_, .f32⟩
  | .hbm, ⟨23, _⟩ => ⟨S2x256x512, .f32⟩
  | .hbm, ⟨24, _⟩ => ⟨S2x256x512, .f32⟩
  | .hbm, ⟨25, _⟩ => ⟨S2x256x512, .f32⟩
  | .hbm, ⟨26, _⟩ => ⟨S_, .f32⟩
  | .hbm, ⟨27, _⟩ => ⟨S2x256x512, .f32⟩
  | .hbm, ⟨28, _⟩ => ⟨S2x256x512, .f32⟩
  | .hbm, ⟨29, _⟩ => ⟨S2x256x512, .f32⟩
  | .hbm, ⟨30, _⟩ => ⟨S_, .f32⟩
  | .hbm, ⟨31, _⟩ => ⟨S2x256x512, .f32⟩
  | .hbm, ⟨32, _⟩ => ⟨S2x256x512, .f32⟩
  | .hbm, ⟨33, _⟩ => ⟨S2x256x512, .f32⟩
  | .hbm, ⟨34, _⟩ => ⟨S_, .f32⟩
  | .hbm, ⟨35, _⟩ => ⟨S2x256x512, .f32⟩
  | .hbm, ⟨36, _⟩ => ⟨S2x256x512, .f32⟩
  | .hbm, ⟨37, _⟩ => ⟨S512x512, .f32⟩
  | .hbm, ⟨38, _⟩ => ⟨S512x512, .f32⟩
  | .hbm, ⟨39, _⟩ => ⟨S512x512, .f32⟩
  | _, _ => ⟨S2x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel39.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_14 : BitVec 32 := 0#32
  let v34 : BitVec 1 := Scalar.cmpi .ne v33 c0_i32_14
  v34

def k0_cond2 (i : grid0.Coords) : BitVec 1 :=
  let arg0 : BitVec 32 := BitVec.ofNat 32 (i 0).val
  let c0_i32 : BitVec 32 := 0#32
  let v32 : BitVec 1 := Scalar.cmpi .eq arg0 c0_i32
  let v_true : BitVec 1 := 1#1
  let v35 : BitVec 1 := Scalar.xori v32 v_true
  let v36 : BitVec 32 := Scalar.extui v35
  let c0_i32_15 : BitVec 32 := 0#32
  let v37 : BitVec 1 := Scalar.cmpi .ne v36 c0_i32_15
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference39Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== Kernel40.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .bf16⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v59 : BitVec 1 := Scalar.cmpi .eq arg0 c0_i32
  let v60 : BitVec 32 := Scalar.extui v59
  let c0_i32_23 : BitVec 32 := 0#32
  let v61 : BitVec 1 := Scalar.cmpi .ne v60 c0_i32_23
  v61

def k0_cond2 (i : grid0.Coords) : BitVec 1 :=
  let arg0 : BitVec 32 := BitVec.ofNat 32 (i 0).val
  let c0_i32 : BitVec 32 := 0#32
  let v59 : BitVec 1 := Scalar.cmpi .eq arg0 c0_i32
  let v_true : BitVec 1 := 1#1
  let v62 : BitVec 1 := Scalar.xori v59 v_true
  let v63 : BitVec 32 := Scalar.extui v62
  let c0_i32_24 : BitVec 32 := 0#32
  let v64 : BitVec 1 := Scalar.cmpi .ne v63 c0_i32_24
  v64

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference40Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x2048, .f32⟩
  | .hbm, ⟨53, _⟩ => ⟨S8192x2048, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x2048, .f32⟩
  | .hbm, ⟨61, _⟩ => ⟨S8192x2048, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .bf16⟩
  | .hbm, ⟨66, _⟩ => ⟨S8192x2048, .bf16⟩
  | .hbm, ⟨67, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩

abbrev nD : Nat := 1
abbrev τ : Topo := Topo.v7x

variable {F : FTy → Type} [FloatOps F]
-- ==== Kernel41.lean ====
abbrev S8192x2048 : Shape := ⟨2, ![8192, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S8192x2048, .f32⟩
  | .hbm, ⟨5, _⟩ => ⟨S1x2048, .f32⟩
  | .hbm, ⟨6, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S1x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v56 : BitVec 1 := Scalar.cmpi .eq arg0 c0_i32
  let v57 : BitVec 32 := Scalar.extui v56
  let c0_i32_20 : BitVec 32 := 0#32
  let v58 : BitVec 1 := Scalar.cmpi .ne v57 c0_i32_20
  v58

def k0_cond2 (i : grid0.Coords) : BitVec 1 :=
  let arg0 : BitVec 32 := BitVec.ofNat 32 (i 0).val
  let c0_i32 : BitVec 32 := 0#32
  let v56 : BitVec 1 := Scalar.cmpi .eq arg0 c0_i32
  let v_true : BitVec 1 := 1#1
  let v59 : BitVec 1 := Scalar.xori v56 v_true
  let v60 : BitVec 32 := Scalar.extui v59
  let c0_i32_21 : BitVec 32 := 0#32
  let v61 : BitVec 1 := Scalar.cmpi .ne v60 c0_i32_21
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference41Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x128 : Shape := ⟨2, ![1, 128]⟩

abbrev nBuf : Space → Nat
  | .hbm => 73
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S1x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S2048, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x2048, .f32⟩
  | .hbm, ⟨59, _⟩ => ⟨S8192x2048, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x2048, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S1x2048, .f32⟩
  | .hbm, ⟨72, _⟩ => ⟨S1x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Kernel42.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S1x2048, .f32⟩
  | .hbm, ⟨3, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference42Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S1x2048, .f32⟩
  | .hbm, ⟨16, _⟩ => ⟨S8192x2048, .f32⟩
  | .hbm, ⟨17, _⟩ => ⟨S8192x2048, .f32⟩
  | .hbm, ⟨18, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel43.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S1x2048, .f32⟩
  | .hbm, ⟨5, _⟩ => ⟨S8192x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference43Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel44.lean ====
abbrev S8192x256 : Shape := ⟨2, ![8192, 256]⟩
abbrev S256x2048 : Shape := ⟨2, ![256, 2048]⟩
abbrev S8192x2048 : Shape := ⟨2, ![8192, 2048]⟩
abbrev S1024x256 : Shape := ⟨2, ![1024, 256]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S256x2048, .bf16⟩
  | .hbm, ⟨2, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S256x1024, .bf16⟩
  | .local _ .vmem, ⟨3, _⟩ => ⟨S256x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference44Ideal.lean ====
abbrev S8192x256 : Shape := ⟨2, ![8192, 256]⟩
abbrev S256x2048 : Shape := ⟨2, ![256, 2048]⟩
abbrev S8192x2048 : Shape := ⟨2, ![8192, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S256x2048, .bf16⟩
  | .hbm, ⟨2, _⟩ => ⟨S256x2048, .f32⟩
  | .hbm, ⟨3, _⟩ => ⟨S8192x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel45.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S256x2048, .bf16⟩
  | .hbm, ⟨3, _⟩ => ⟨S256x2048, .f32⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference45Ideal.lean ====
abbrev S8192x256 : Shape := ⟨2, ![8192, 256]⟩
abbrev S8192x2048 : Shape := ⟨2, ![8192, 2048]⟩
abbrev S256x2048 : Shape := ⟨2, ![256, 2048]⟩
abbrev S2048x256 : Shape := ⟨2, ![2048, 256]⟩

abbrev nBuf : Space → Nat
  | .hbm => 8
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x2048, .bf16⟩
  | .hbm, ⟨2, _⟩ => ⟨S256x2048, .bf16⟩
  | .hbm, ⟨3, _⟩ => ⟨S256x2048, .f32⟩
  | .hbm, ⟨4, _⟩ => ⟨S8192x2048, .f32⟩
  | .hbm, ⟨5, _⟩ => ⟨S8192x2048, .f32⟩
  | .hbm, ⟨6, _⟩ => ⟨S2048x256, .f32⟩
  | .hbm, ⟨7, _⟩ => ⟨S256x2048, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel46.lean ====
abbrev S8192x3072 : Shape := ⟨2, ![8192, 3072]⟩
abbrev S4x3072 : Shape := ⟨2, ![4, 3072]⟩
abbrev S3072 : Shape := ⟨1, ![3072]⟩
abbrev S256x3072 : Shape := ⟨2, ![256, 3072]⟩
abbrev S1x3072 : Shape := ⟨2, ![1, 3072]⟩

abbrev nBuf : Space → Nat
  | .hbm => 5
  | .vmem => 6
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S4x3072, .f32⟩
  | .hbm, ⟨3, _⟩ => ⟨S3072, .f32⟩
  | .hbm, ⟨4, _⟩ => ⟨S8192x3072, .bf16⟩
  | .local _ .vmem, ⟨0, _⟩ => ⟨S256x3072, .f32⟩
  | .local _ .vmem, ⟨1, _⟩ => ⟨S256x3072, .f32⟩
  | .local _ .vmem, ⟨2, _⟩ => ⟨S4x3072, .f32⟩
  | .local _ .vmem, ⟨3, _⟩ => ⟨S256x3072, .bf16⟩
  | .local _ .vmem, ⟨4, _⟩ => ⟨S256x3072, .bf16⟩
  | .local _ .vmem, ⟨5, _⟩ => ⟨S256x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference46Ideal.lean ====
abbrev S8192x3072 : Shape := ⟨2, ![8192, 3072]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩

abbrev nBuf : Space → Nat
  | .hbm => 66
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S4x3072, .f32⟩
  | .hbm, ⟨3, _⟩ => ⟨S3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S_, .f32⟩
  | .hbm, ⟨8, _⟩ => ⟨S3x3072, .f32⟩
  | .hbm, ⟨9, _⟩ => ⟨S8192x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S1x3072, .f32⟩
  | .hbm, ⟨20, _⟩ => ⟨S3072, .f32⟩
  | .hbm, ⟨21, _⟩ => ⟨S1x3072, .f32⟩
  | .hbm, ⟨22, _⟩ => ⟨S8192x3072, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S1x3072, .f32⟩
  | .hbm, ⟨27, _⟩ => ⟨S3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S8192x3072, .f32⟩
  | .hbm, ⟨33, _⟩ => ⟨S1x3072, .f32⟩
  | .hbm, ⟨34, _⟩ => ⟨S3072, .f32⟩
  | .hbm, ⟨35, _⟩ => ⟨S1x3072, .f32⟩
  | .hbm, ⟨36, _⟩ => ⟨S8192x3072, .f32⟩
  | .hbm, ⟨37, _⟩ => ⟨S8192x3072, .f32⟩
  | .hbm, ⟨38, _⟩ => ⟨S8192x3072, .f32⟩
  | .hbm, ⟨39, _⟩ => ⟨S1x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S8192x3072, .f32⟩
  | .hbm, ⟨46, _⟩ => ⟨S_, .f32⟩
  | .hbm, ⟨47, _⟩ => ⟨S8195x3072, .f32⟩
  | .hbm, ⟨48, _⟩ => ⟨S8192x3072, .f32⟩
  | .hbm, ⟨49, _⟩ => ⟨S8192x3072, .f32⟩
  | .hbm, ⟨50, _⟩ => ⟨S_, .f32⟩
  | .hbm, ⟨51, _⟩ => ⟨S8195x3072, .f32⟩
  | .hbm, ⟨52, _⟩ => ⟨S8195x3072, .f32⟩
  | .hbm, ⟨53, _⟩ => ⟨S8192x3072, .f32⟩
  | .hbm, ⟨54, _⟩ => ⟨S8192x3072, .f32⟩
  | .hbm, ⟨55, _⟩ => ⟨S_, .f32⟩
  | .hbm, ⟨56, _⟩ => ⟨S8195x3072, .f32⟩
  | .hbm, ⟨57, _⟩ => ⟨S8195x3072, .f32⟩
  | .hbm, ⟨58, _⟩ => ⟨S8192x3072, .f32⟩
  | .hbm, ⟨59, _⟩ => ⟨S8192x3072, .f32⟩
  | .hbm, ⟨60, _⟩ => ⟨S_, .f32⟩
  | .hbm, ⟨61, _⟩ => ⟨S8195x3072, .f32⟩
  | .hbm, ⟨62, _⟩ => ⟨S8195x3072, .f32⟩
  | .hbm, ⟨63, _⟩ => ⟨S3x3072, .f32⟩
  | .hbm, ⟨64, _⟩ => ⟨S8192x3072, .f32⟩
  | .hbm, ⟨65, _⟩ => ⟨S8192x3072, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_cst_4 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_5 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩

abbrev nD : Nat := 1
abbrev τ : Topo := Topo.v7x

variable {F : FTy → Type} [FloatOps F]
-- ==== Kernel47.lean ====
abbrev S8192x3072 : Shape := ⟨2, ![8192, 3072]⟩
abbrev S4x3072 : Shape := ⟨2, ![4, 3072]⟩
abbrev S3072 : Shape := ⟨1, ![3072]⟩
abbrev S1x3072 : Shape := ⟨2, ![1, 3072]⟩
abbrev S256x3072 : Shape := ⟨2, ![256, 3072]⟩

abbrev nBuf : Space → Nat
  | .hbm => 8
  | .vmem => 11
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S3072, .f32⟩
  | .hbm, ⟨3, _⟩ => ⟨S8192x3072, .f32⟩
  | .hbm, ⟨4, _⟩ => ⟨S1x3072, .f32⟩
  | .hbm, ⟨5, _⟩ => ⟨S8192x3072, .f32⟩
  | .hbm, ⟨6, _⟩ => ⟨S4x3072, .f32⟩
  | .hbm, ⟨7, _⟩ => ⟨S1x3072, .f32⟩
  | .local _ .vmem, ⟨0, _⟩ => ⟨S256x3072, .f32⟩
  | .local _ .vmem, ⟨1, _⟩ => ⟨S256x3072, .f32⟩
  | .local _ .vmem, ⟨2, _⟩ => ⟨S4x3072, .f32⟩
  | .local _ .vmem, ⟨3, _⟩ => ⟨S1x3072, .f32⟩
  | .local _ .vmem, ⟨4, _⟩ => ⟨S256x3072, .f32⟩
  | .local _ .vmem, ⟨5, _⟩ => ⟨S256x3072, .f32⟩
  | .local _ .vmem, ⟨6, _⟩ => ⟨S256x3072, .f32⟩
  | .local _ .vmem, ⟨7, _⟩ => ⟨S256x3072, .f32⟩
  | .local _ .vmem, ⟨8, _⟩ => ⟨S4x3072, .f32⟩
  | .local _ .vmem, ⟨9, _⟩ => ⟨S1x3072, .f32⟩
  | .local _ .vmem, ⟨10, _⟩ => ⟨S256x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v92 : BitVec 32 := Scalar.extui v0
  let c0_i32_36 : BitVec 32 := 0#32
  let v93 : BitVec 1 := Scalar.cmpi .ne v92 c0_i32_36
  v93

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v94 : BitVec 1 := Scalar.xori v0 v_true
  let v95 : BitVec 32 := Scalar.extui v94
  let c0_i32_37 : BitVec 32 := 0#32
  let v96 : BitVec 1 := Scalar.cmpi .ne v95 c0_i32_37
  v96

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference47Ideal.lean ====
abbrev S8192x3072 : Shape := ⟨2, ![8192, 3072]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩

abbrev nBuf : Space → Nat
  | .hbm => 102
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S3072, .f32⟩
  | .hbm, ⟨3, _⟩ => ⟨S8192x3072, .f32⟩
  | .hbm, ⟨4, _⟩ => ⟨S_, .f32⟩
  | .hbm, ⟨5, _⟩ => ⟨S3x3072, .f32⟩
  | .hbm, ⟨6, _⟩ => ⟨S8195x3072, .f32⟩
  | .hbm, ⟨7, _⟩ => ⟨S8192x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S8192x3072, .f32⟩
  | .hbm, ⟨12, _⟩ => ⟨S8192x3072, .f32⟩
  | .hbm, ⟨13, _⟩ => ⟨S_, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S8192x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S1x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S8192x3072, .f32⟩
  | .hbm, ⟨42, _⟩ => ⟨S_, .f32⟩
  | .hbm, ⟨43, _⟩ => ⟨S8192x3072, .f32⟩
  | .hbm, ⟨44, _⟩ => ⟨S8192x3072, .f32⟩
  | .hbm, ⟨45, _⟩ => ⟨S_, .f32⟩
  | .hbm, ⟨46, _⟩ => ⟨S8192x3072, .f32⟩
  | .hbm, ⟨47, _⟩ => ⟨S8192x3072, .f32⟩
  | .hbm, ⟨48, _⟩ => ⟨S_, .f32⟩
  | .hbm, ⟨49, _⟩ => ⟨S8192x3072, .f32⟩
  | .hbm, ⟨50, _⟩ => ⟨S8192x3072, .f32⟩
  | .hbm, ⟨51, _⟩ => ⟨S8192x3072, .f32⟩
  | .hbm, ⟨52, _⟩ => ⟨S8192x3072, .f32⟩
  | .hbm, ⟨53, _⟩ => ⟨S8192x3072, .f32⟩
  | .hbm, ⟨54, _⟩ => ⟨S8192x3072, .f32⟩
  | .hbm, ⟨55, _⟩ => ⟨S8192x3072, .f32⟩
  | .hbm, ⟨56, _⟩ => ⟨S8192x3072, .f32⟩
  | .hbm, ⟨57, _⟩ => ⟨S_, .f32⟩
  | .hbm, ⟨58, _⟩ => ⟨S3072, .f32⟩
  | .hbm, ⟨59, _⟩ => ⟨S1x3072, .f32⟩
  | .hbm, ⟨60, _⟩ => ⟨S_, .f32⟩
  | .hbm, ⟨61, _⟩ => ⟨S3072, .f32⟩
  | .hbm, ⟨62, _⟩ => ⟨S8192x3072, .f32⟩
  | .hbm, ⟨63, _⟩ => ⟨S_, .f32⟩
  | .hbm, ⟨64, _⟩ => ⟨S3072, .f32⟩
  | .hbm, ⟨65, _⟩ => ⟨S1x3072, .f32⟩
  | .hbm, ⟨66, _⟩ => ⟨S_, .f32⟩
  | .hbm, ⟨67, _⟩ => ⟨S3072, .f32⟩
  | .hbm, ⟨68, _⟩ => ⟨S1x3072, .f32⟩
  | .hbm, ⟨69, _⟩ => ⟨S_, .f32⟩
  | .hbm, ⟨70, _⟩ => ⟨S4x3072, .f32⟩
  | .hbm, ⟨71, _⟩ => ⟨S8192x3072, .f32⟩
  | .hbm, ⟨72, _⟩ => ⟨S_, .f32⟩
  | .hbm, ⟨73, _⟩ => ⟨S3072, .f32⟩
  | .hbm, ⟨74, _⟩ => ⟨S1x3072, .f32⟩
  | .hbm, ⟨75, _⟩ => ⟨S_, .f32⟩
  | .hbm, ⟨76, _⟩ => ⟨S3072, .f32⟩
  | .hbm, ⟨77, _⟩ => ⟨S1x3072, .f32⟩
  | .hbm, ⟨78, _⟩ => ⟨S_, .f32⟩
  | .hbm, ⟨79, _⟩ => ⟨S4x3072, .f32⟩
  | .hbm, ⟨80, _⟩ => ⟨S4x3072, .f32⟩
  | .hbm, ⟨81, _⟩ => ⟨S8192x3072, .f32⟩
  | .hbm, ⟨82, _⟩ => ⟨S_, .f32⟩
  | .hbm, ⟨83, _⟩ => ⟨S3072, .f32⟩
  | .hbm, ⟨84, _⟩ => ⟨S1x3072, .f32⟩
  | .hbm, ⟨85, _⟩ => ⟨S_, .f32⟩
  | .hbm, ⟨86, _⟩ => ⟨S3072, .f32⟩
  | .hbm, ⟨87, _⟩ => ⟨S1x3072, .f32⟩
  | .hbm, ⟨88, _⟩ => ⟨S_, .f32⟩
  | .hbm, ⟨89, _⟩ => ⟨S4x3072, .f32⟩
  | .hbm, ⟨90, _⟩ => ⟨S4x3072, .f32⟩
  | .hbm, ⟨91, _⟩ => ⟨S8192x3072, .f32⟩
  | .hbm, ⟨92, _⟩ => ⟨S_, .f32⟩
  | .hbm, ⟨93, _⟩ => ⟨S3072, .f32⟩
  | .hbm, ⟨94, _⟩ => ⟨S1x3072, .f32⟩
  | .hbm, ⟨95, _⟩ => ⟨S_, .f32⟩
  | .hbm, ⟨96, _⟩ => ⟨S3072, .f32⟩
  | .hbm, ⟨97, _⟩ => ⟨S1x3072, .f32⟩
  | .hbm, ⟨98, _⟩ => ⟨S_, .f32⟩
  | .hbm, ⟨99, _⟩ => ⟨S4x3072, .f32⟩
  | .hbm, ⟨100, _⟩ => ⟨S4x3072, .f32⟩
  | .hbm, ⟨101, _⟩ => ⟨S1x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_v34_2 : Ref sig .tc := ⟨.hbm, 47, rfl⟩
abbrev main_call0_cst_1 : Ref sig .tc := ⟨.hbm, 48, rfl⟩
abbrev main_call0_v6 : Ref sig .tc := ⟨.hbm, 49, rfl⟩
abbrev main_call0_v7 : Ref sig .tc := ⟨.hbm, 50, rfl⟩
abbrev main_v34_1 : Ref sig .tc := ⟨.hbm, 51, rfl⟩
abbrev main_v34_0 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_cst_1 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_v39 : Ref sig .tc := ⟨.hbm, 62, rfl⟩
abbrev main_cst_3 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_cst_5 : Ref sig .tc := ⟨.hbm, 69, rfl⟩
abbrev main_v44 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_cst_10 : Ref sig .tc := ⟨.hbm, 85, rfl⟩
abbrev main_v55 : Ref sig .tc := ⟨.hbm, 86, rfl⟩
abbrev main_v56 : Ref sig .tc := ⟨.hbm, 87, rfl⟩
abbrev main_cst_11 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_12 : Ref sig .tc := ⟨.hbm, 92, rfl⟩
abbrev main_v60 : Ref sig .tc := ⟨.hbm, 93, rfl⟩
abbrev main_v61 : Ref sig .tc := ⟨.hbm, 94, rfl⟩
abbrev main_cst_13 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩

abbrev nD : Nat := 1
abbrev τ : Topo := Topo.v7x

variable {F : FTy → Type} [FloatOps F]
-- ==== Kernel48.lean ====
abbrev S8192x3072 : Shape := ⟨2, ![8192, 3072]⟩
abbrev S4x3072 : Shape := ⟨2, ![4, 3072]⟩
abbrev S3072 : Shape := ⟨1, ![3072]⟩
abbrev S1x3072 : Shape := ⟨2, ![1, 3072]⟩
abbrev S256x3072 : Shape := ⟨2, ![256, 3072]⟩

abbrev nBuf : Space → Nat
  | .hbm => 5
  | .vmem => 7
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S3072, .f32⟩
  | .hbm, ⟨3, _⟩ => ⟨S1x3072, .f32⟩
  | .hbm, ⟨4, _⟩ => ⟨S8192x3072, .f32⟩
  | .local _ .vmem, ⟨0, _⟩ => ⟨S256x3072, .f32⟩
  | .local _ .vmem, ⟨1, _⟩ => ⟨S256x3072, .f32⟩
  | .local _ .vmem, ⟨2, _⟩ => ⟨S4x3072, .f32⟩
  | .local _ .vmem, ⟨3, _⟩ => ⟨S1x3072, .f32⟩
  | .local _ .vmem, ⟨4, _⟩ => ⟨S256x3072, .f32⟩
  | .local _ .vmem, ⟨5, _⟩ => ⟨S256x3072, .f32⟩
  | .local _ .vmem, ⟨6, _⟩ => ⟨S256x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference48Ideal.lean ====
abbrev S8192x3072 : Shape := ⟨2, ![8192, 3072]⟩
abbrev S4x3072 : Shape := ⟨2, ![4, 3072]⟩
abbrev S3072 : Shape := ⟨1, ![3072]⟩
abbrev S_ : Shape := ⟨0, ![]⟩
abbrev S3x3072 : Shape := ⟨2, ![3, 3072]⟩
abbrev S8195x3072 : Shape := ⟨2, ![8195, 3072]⟩
abbrev S1x3072 : Shape := ⟨2, ![1, 3072]⟩

abbrev nBuf : Space → Nat
  | .hbm => 48
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S4x3072, .f32⟩
  | .hbm, ⟨2, _⟩ => ⟨S3072, .f32⟩
  | .hbm, ⟨3, _⟩ => ⟨S_, .f32⟩
  | .hbm, ⟨4, _⟩ => ⟨S3x3072, .f32⟩
  | .hbm, ⟨5, _⟩ => ⟨S8195x3072, .f32⟩
  | .hbm, ⟨6, _⟩ => ⟨S8192x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S8192x3072, .f32⟩
  | .hbm, ⟨11, _⟩ => ⟨S8192x3072, .f32⟩
  | .hbm, ⟨12, _⟩ => ⟨S_, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S1x3072, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S8192x3072, .f32⟩
  | .hbm, ⟨41, _⟩ => ⟨S_, .f32⟩
  | .hbm, ⟨42, _⟩ => ⟨S8192x3072, .f32⟩
  | .hbm, ⟨43, _⟩ => ⟨S8192x3072, .f32⟩
  | .hbm, ⟨44, _⟩ => ⟨S_, .f32⟩
  | .hbm, ⟨45, _⟩ => ⟨S8192x3072, .f32⟩
  | .hbm, ⟨46, _⟩ => ⟨S8192x3072, .f32⟩
  | .hbm, ⟨47, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel49.lean ====
abbrev S8192x2048 : Shape := ⟨2, ![8192, 2048]⟩
abbrev S8192x8192 : Shape := ⟨2, ![8192, 8192]⟩
abbrev S2048 : Shape := ⟨1, ![2048]⟩
abbrev S1x2048 : Shape := ⟨2, ![1, 2048]⟩
abbrev S8192x4096 : Shape := ⟨2, ![8192, 4096]⟩
abbrev S128x2048 : Shape := ⟨2, ![128, 2048]⟩
abbrev S128x4096 : Shape := ⟨2, ![128, 4096]⟩
abbrev S128x512 : Shape := ⟨2, ![128, 512]⟩
abbrev S1x512 : Shape := ⟨2, ![1, 512]⟩
abbrev S128 : Shape := ⟨1, ![128]⟩
abbrev S128x1 : Shape := ⟨2, ![128, 1]⟩
abbrev S128x128 : Shape := ⟨2, ![128, 128]⟩
abbrev S1x128 : Shape := ⟨2, ![1, 128]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x4096, .bf16⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S1x2048, .f32⟩
  | .local _ .vmem, ⟨11, _⟩ => ⟨S1x2048, .f32⟩
  | .local _ .vmem, ⟨12, _⟩ => ⟨S128x4096, .bf16⟩
  | .local _ .vmem, ⟨13, _⟩ => ⟨S128x4096, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference49Ideal.lean ====
abbrev S8192x2048 : Shape := ⟨2, ![8192, 2048]⟩
abbrev S8192x8192 : Shape := ⟨2, ![8192, 8192]⟩
abbrev S2048 : Shape := ⟨1, ![2048]⟩
abbrev S_ : Shape := ⟨0, ![]⟩
abbrev S8192x4x512 : Shape := ⟨3, ![8192, 4, 512]⟩
abbrev S4x512 : Shape := ⟨2, ![4, 512]⟩
abbrev S8192x4 : Shape := ⟨2, ![8192, 4]⟩
abbrev S8192x4x1 : Shape := ⟨3, ![8192, 4, 1]⟩
abbrev S1x4x512 : Shape := ⟨3, ![1, 4, 512]⟩
abbrev S8192x16x128 : Shape := ⟨3, ![8192, 16, 128]⟩
abbrev S16x128 : Shape := ⟨2, ![16, 128]⟩
abbrev S8192x16 : Shape := ⟨2, ![8192, 16]⟩
abbrev S8192x16x1 : Shape := ⟨3, ![8192, 16, 1]⟩
abbrev S1x16x128 : Shape := ⟨3, ![1, 16, 128]⟩
abbrev S8192x4096 : Shape := ⟨2, ![8192, 4096]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S2048, .f32⟩
  | .hbm, ⟨6, _⟩ => ⟨S2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x4x512, .f32⟩
  | .hbm, ⟨20, _⟩ => ⟨S4x512, .f32⟩
  | .hbm, ⟨21, _⟩ => ⟨S8192x4x512, .f32⟩
  | .hbm, ⟨22, _⟩ => ⟨S_, .f32⟩
  | .hbm, ⟨23, _⟩ => ⟨S8192x4, .f32⟩
  | .hbm, ⟨24, _⟩ => ⟨S8192x4x1, .f32⟩
  | .hbm, ⟨25, _⟩ => ⟨S_, .f32⟩
  | .hbm, ⟨26, _⟩ => ⟨S8192x4x1, .f32⟩
  | .hbm, ⟨27, _⟩ => ⟨S8192x4x1, .f32⟩
  | .hbm, ⟨28, _⟩ => ⟨S_, .f32⟩
  | .hbm, ⟨29, _⟩ => ⟨S8192x4x1, .f32⟩
  | .hbm, ⟨30, _⟩ => ⟨S8192x4x1, .f32⟩
  | .hbm, ⟨31, _⟩ => ⟨S8192x4x1, .f32⟩
  | .hbm, ⟨32, _⟩ => ⟨S8192x4x512, .f32⟩
  | .hbm, ⟨33, _⟩ => ⟨S8192x4x512, .f32⟩
  | .hbm, ⟨34, _⟩ => ⟨S1x4x512, .f32⟩
  | .hbm, ⟨35, _⟩ => ⟨S8192x4x512, .f32⟩
  | .hbm, ⟨36, _⟩ => ⟨S8192x4x512, .f32⟩
  | .hbm, ⟨37, _⟩ => ⟨S8192x2048, .f32⟩
  | .hbm, ⟨38, _⟩ => ⟨S8192x16x128, .f32⟩
  | .hbm, ⟨39, _⟩ => ⟨S16x128, .f32⟩
  | .hbm, ⟨40, _⟩ => ⟨S8192x16x128, .f32⟩
  | .hbm, ⟨41, _⟩ => ⟨S_, .f32⟩
  | .hbm, ⟨42, _⟩ => ⟨S8192x16, .f32⟩
  | .hbm, ⟨43, _⟩ => ⟨S8192x16x1, .f32⟩
  | .hbm, ⟨44, _⟩ => ⟨S_, .f32⟩
  | .hbm, ⟨45, _⟩ => ⟨S8192x16x1, .f32⟩
  | .hbm, ⟨46, _⟩ => ⟨S8192x16x1, .f32⟩
  | .hbm, ⟨47, _⟩ => ⟨S_, .f32⟩
  | .hbm, ⟨48, _⟩ => ⟨S8192x16x1, .f32⟩
  | .hbm, ⟨49, _⟩ => ⟨S8192x16x1, .f32⟩
  | .hbm, ⟨50, _⟩ => ⟨S8192x16x1, .f32⟩
  | .hbm, ⟨51, _⟩ => ⟨S8192x16x128, .f32⟩
  | .hbm, ⟨52, _⟩ => ⟨S8192x16x128, .f32⟩
  | .hbm, ⟨53, _⟩ => ⟨S1x16x128, .f32⟩
  | .hbm, ⟨54, _⟩ => ⟨S8192x16x128, .f32⟩
  | .hbm, ⟨55, _⟩ => ⟨S8192x16x128, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S_, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x4096, .f32⟩
  | .hbm, ⟨68, _⟩ => ⟨S8192x4096, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_2 : Ref sig .tc := ⟨.hbm, 41, rfl⟩
abbrev main_v23 : Ref sig .tc := ⟨.hbm, 42, rfl⟩
abbrev main_v24 : Ref sig .tc := ⟨.hbm, 43, rfl⟩
abbrev main_cst_3 : Ref sig .tc := ⟨.hbm, 44, rfl⟩
abbrev main_v25 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_call1_v0 : Ref sig .tc := ⟨.hbm, 57, rfl⟩
abbrev main_call1_v1 : Ref sig .tc := ⟨.hbm, 58, rfl⟩
abbrev main_call1_cst : Ref sig .tc := ⟨.hbm, 59, rfl⟩
abbrev main_call1_v2 : Ref sig .tc := ⟨.hbm, 60, rfl⟩
abbrev main_call1_v3 : Ref sig .tc := ⟨.hbm, 61, rfl⟩
abbrev main_call1_cst_0 : Ref sig .tc := ⟨.hbm, 62, rfl⟩
abbrev main_call1_v4 : Ref sig .tc := ⟨.hbm, 63, rfl⟩
abbrev main_call1_v5 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩

abbrev nD : Nat := 1
abbrev τ : Topo := Topo.v7x

variable {F : FTy → Type} [FloatOps F]
-- ==== Proof.SsdSpec.lean ====
module

public import Idealize.ShloMosaic.Lib.Pointwise
public import Idealize.ShloMosaic.Lib.WordCmp
public import Idealize.ShloMosaic.Lib.KernelVsHost

@[expose] public section

noncomputable section

open Idealize.ShloMosaic

/-! The gradients of the state-space mixer within one chunk of 64 tokens, for one head: `D` the step sizes, `a` the head's decay rate,
    `X` the input, `Y` the incoming gradient, `B` and `C` the group's state vectors. -/
namespace Cert.Ssd

variable (D : Fin 64 → EReal) (a : EReal) (X Y : Fin 64 → Fin 64 → EReal) (B C : Fin 64 → Fin 128 → EReal)

/-- The running sum of the decay exponents. -/
def cum (l : Fin 64) : EReal := ∑ s : Fin 64, if (s : ℕ) ≤ l then D s * a else 0

/-- The decay from token `s` to a later token `l`; zero from a later to an earlier one. -/
def dec (l s : Fin 64) : EReal := Ideal.exp (if (s : ℕ) ≤ l then cum D a l - cum D a s else ⊥)

/-- The product of the states of two tokens. -/
def cb (l s : Fin 64) : EReal := ∑ n : Fin 128, C l n * B s n

/-- The gradient of the mixing weight of two tokens. -/
def dw (l s : Fin 64) : EReal := ∑ p : Fin 64, Y l p * (X s p * D s)

/-- The gradient of the input times its step size. -/
def dxd (s p : Fin 64) : EReal := ∑ l : Fin 64, cb B C l s * dec D a l s * Y l p

/-- The gradient of the exponent of the decay between two tokens. -/
def e (l s : Fin 64) : EReal := dw D X Y l s * dec D a l s * cb B C l s

/-- The gradient of the running sum. -/
def dcum (t : Fin 64) : EReal := ∑ s : Fin 64, e D a X Y B C t s - ∑ l : Fin 64, e D a X Y B C l t

/-- The gradient of the decay exponents. -/
def dda (l : Fin 64) : EReal := ∑ t : Fin 64, if (l : ℕ) ≤ t then dcum D a X Y B C t else 0

/-- A real number among the extended reals. -/
def IsReal (x : EReal) : Prop := ∃ r : ℝ, x = (r : EReal)

theorem IsReal.mul {x y : EReal} : IsReal x → IsReal y → IsReal (x * y) := by
  rintro ⟨p, rfl⟩ ⟨q, rfl⟩; exact ⟨p * q, (EReal.coe_mul p q).symm⟩

theorem IsReal.add {x y : EReal} : IsReal x → IsReal y → IsReal (x + y) := by
  rintro ⟨p, rfl⟩ ⟨q, rfl⟩; exact ⟨p + q, (EReal.coe_add p q).symm⟩

theorem IsReal.neg {x : EReal} : IsReal x → IsReal (-x) := by
  rintro ⟨p, rfl⟩; exact ⟨-p, (EReal.coe_neg p).symm⟩

theorem IsReal.sub {x y : EReal} (hx : IsReal x) (hy : IsReal y) : IsReal (x - y) := hx.add hy.neg

theorem IsReal.zero : IsReal 0 := ⟨0, EReal.coe_zero.symm⟩

theorem IsReal.exp {x : EReal} : IsReal x → IsReal (Ideal.exp x) := by
  rintro ⟨p, rfl⟩; exact ⟨Real.exp p, Ideal.exp_coe p⟩

theorem IsReal.sum {ι : Type} (s : Finset ι) {f : ι → EReal} (h : ∀ i, IsReal (f i)) : IsReal (∑ i ∈ s, f i) :=
  Finset.sum_induction f IsReal (fun _ _ => IsReal.add) IsReal.zero fun i _ => h i

/-- A sum of real numbers, taken among the extended reals. -/
theorem coe_sum {ι : Type} (s : Finset ι) (g : ι → ℝ) : ∑ i ∈ s, (g i : EReal) = ((∑ i ∈ s, g i : ℝ) : EReal) := by
  classical
  induction s using Finset.induction_on with
  | empty => simp
  | insert i s hi ih => rw [Finset.sum_insert hi, Finset.sum_insert hi, ih, EReal.coe_add]

/-- Negation passes through a sum of real numbers. -/
theorem neg_sum {ι : Type} (s : Finset ι) {f : ι → EReal} (h : ∀ i, IsReal (f i)) : ∑ i ∈ s, -f i = -∑ i ∈ s, f i := by
  choose g hg using h
  simp only [hg, ← EReal.coe_neg, coe_sum, Finset.sum_neg_distrib]

/-- A factor passes through a sum of real numbers. -/
theorem sum_mul {ι : Type} (s : Finset ι) {f : ι → EReal} (h : ∀ i, IsReal (f i)) {b : EReal} (hb : IsReal b) :
    ∑ i ∈ s, f i * b = (∑ i ∈ s, f i) * b := by
  choose g hg using h
  obtain ⟨r, rfl⟩ := hb
  simp only [hg, ← EReal.coe_mul, coe_sum, Finset.sum_mul]

variable {D a X Y B C}

theorem cum_real (hD : ∀ l, IsReal (D l)) (ha : IsReal a) (l : Fin 64) : IsReal (cum D a l) :=
  IsReal.sum _ fun s => by split; exacts [(hD s).mul ha, IsReal.zero]

theorem dec_real (hD : ∀ l, IsReal (D l)) (ha : IsReal a) (l s : Fin 64) : IsReal (dec D a l s) := by
  unfold dec
  split
  · exact ((cum_real hD ha l).sub (cum_real hD ha s)).exp
  · exact ⟨0, by rw [Ideal.exp_bot, EReal.coe_zero]⟩

/-- Where the arguments are real numbers so is the gradient of the exponent of the decay. -/
theorem e_real (hD : ∀ l, IsReal (D l)) (ha : IsReal a) (hX : ∀ s p, IsReal (X s p)) (hY : ∀ s p, IsReal (Y s p))
    (hB : ∀ s n, IsReal (B s n)) (hC : ∀ s n, IsReal (C s n)) (l s : Fin 64) : IsReal (e D a X Y B C l s) :=
  ((IsReal.sum _ fun p => (hY l p).mul ((hX s p).mul (hD s))).mul (dec_real hD ha l s)).mul
    (IsReal.sum _ fun n => (hC l n).mul (hB s n))

/-- Where the arguments are real numbers so is the gradient of the decay exponents. -/
theorem dda_real (h : ∀ l s, IsReal (e D a X Y B C l s)) (l : Fin 64) : IsReal (dda D a X Y B C l) :=
  IsReal.sum _ fun t => by
    split
    · exact (IsReal.sum _ fun s => h t s).sub (IsReal.sum _ fun s => h s t)
    · exact IsReal.zero

/-- The gradient of the decay between two tokens is zero from a later to an earlier one. -/
theorem e_mask (l s : Fin 64) : (if (s : ℕ) ≤ l then cb B C l s * dw D X Y l s * dec D a l s else 0) = e D a X Y B C l s := by
  unfold e
  split
  · rw [mul_comm (cb B C l s), mul_right_comm]
  · next h => rw [show dec D a l s = 0 from by unfold dec; rw [if_neg h, Ideal.exp_bot], mul_zero, zero_mul]

/-- The window sum of `cumsum` is the sum over the tokens up to this one. -/
theorem sum_window (f : Fin 64 → EReal) (l : Fin 64) :
    (∑ w : Fin 64, if h : 63 ≤ (l : ℕ) + w then f ⟨l + w - 63, by omega⟩ else 0) = ∑ s : Fin 64, if (s : ℕ) ≤ l then f s else 0 := by
  refine Fintype.sum_equiv (Equiv.addRight (l + 1)) _ _ fun w => ?_
  have hv : ((w + (l + 1) : Fin 64) : ℕ) = (w + (l + 1)) % 64 := by simp [Fin.val_add]
  simp only [Equiv.coe_addRight, hv]
  by_cases h : 63 ≤ (l : ℕ) + w
  · rw [dif_pos h, if_pos (by omega)]
    exact congrArg f (Fin.ext (by rw [hv]; show (l : ℕ) + w - 63 = _; omega))
  · rw [dif_neg h, if_neg (by omega)]

/-- The window sum of the reversed `cumsum` is the sum over the tokens from this one. -/
theorem sum_window_rev (f : Fin 64 → EReal) (l : Fin 64) :
    (∑ w : Fin 64, if h : (l : ℕ) + w < 64 then f ⟨l + w, h⟩ else 0) = ∑ s : Fin 64, if (l : ℕ) ≤ s then f s else 0 := by
  refine Fintype.sum_equiv (Equiv.addRight l) _ _ fun w => ?_
  have hv : ((w + l : Fin 64) : ℕ) = (w + l) % 64 := by simp [Fin.val_add]
  simp only [Equiv.coe_addRight, hv]
  by_cases h : (l : ℕ) + w < 64
  · rw [dif_pos h, if_pos (by omega)]
    exact congrArg f (Fin.ext (by rw [hv]; show (l : ℕ) + w = _; omega))
  · rw [dif_neg h, if_neg (by omega)]

/-- A selection by the comparison of two token numbers. -/
theorem select_le (l s : Fin 64) (x y : EReal) :
    Scalar.select (IntOp.cmpi .sge (BitVec.ofNat 32 (l : ℕ)) (BitVec.ofNat 32 (s : ℕ))) x y = if (s : ℕ) ≤ l then x else y := by
  rw [WordCmp.cmpi_sge_ofNat (by have := l.isLt; norm_num; omega) (by have := s.isLt; norm_num; omega), WordCmp.select_ofBool]
  simp only [decide_eq_true_eq]

/-- The constant −∞. -/
theorem ninf : Ideal.ofBits .f32 4286578688#32 = ⊥ := by simp [Ideal.ofBits, Ideal.ieee]

end Cert.Ssd

end
-- ==== Proof.SsdKernel.lean ====
module

public import proofs.«01_k».proof.Proof.Gen.Kernel6Ideal.Skeleton
public import proofs.«01_k».proof.Proof.SsdSpec
public import Idealize.ShloMosaic.Lib.Pointwise
public import Idealize.ShloMosaic.Lib.WordCmp

@[expose] public section

set_option maxRecDepth 16384

noncomputable section

open Idealize.ShloMosaic Idealize.ShloMosaic.TcCoe

namespace Cert.Kernel6Ideal.Ssd

open Cert.Kernel6Ideal Cert.Kernel6Ideal.Gen Cert.Ssd

/-- The decay rate of a head. -/
abbrev rate (al : FVec Ideal S8x1x1 .f32) (h : Fin 8) : EReal := -Ideal.exp (al (ix3 h 0 0))
/-- The step sizes of a head. -/
abbrev steps (d : FVec Ideal S8x64x1 .f32) (h : Fin 8) (l : Fin 64) : EReal := d (ix3 h l 0)
/-- The rows of a head's block. -/
abbrev rows (x : FVec Ideal S8x64x64 .f32) (h : Fin 8) (l p : Fin 64) : EReal := x (ix3 h l p)
/-- The state vectors of a chunk. -/
abbrev states (b : FVec Ideal S64x128 .f32) (l : Fin 64) (n : Fin 128) : EReal := b (ix2 l n)

/-- The decay rate, as computed. -/
theorem rate_apply (al : FVec Ideal S8x1x1 .f32) (h : Fin 8) : (k0_pay7 (F := Ideal) al (ix3 h 0 0) : EReal) = rate al h := by
  pointwise [k0_pay7, zero_sub]

/-- The running sums down the rows. -/
theorem cumc_apply (al : FVec Ideal S8x1x1 .f32) (r : FVec Ideal S8x1x1x64 .f32) (h : Fin 8) (l : Fin 64) :
    (k0_pay9 (F := Ideal) al r (ix3 h l 0) : EReal) = cum (fun s => r (ix4 h 0 0 s)) (rate al h) l := by
  unfold cum
  pointwise [k0_pay9, k0_pay7, zero_sub, select_le]

/-- The running sums along the columns. -/
theorem cumr_apply (al : FVec Ideal S8x1x1 .f32) (d : FVec Ideal S8x64x1 .f32) (h : Fin 8) (s : Fin 64) :
    (k0_pay10 (F := Ideal) al d (ix3 h 0 s) : EReal) = cum (steps d h) (rate al h) s := by
  unfold cum
  pointwise [k0_pay10, k0_pay7, k0_pay8, zero_sub, select_le]

/-- The decay between two tokens. -/
theorem dec_apply (u : FVec Ideal S8x64x1 .f32) (v : FVec Ideal S8x1x64 .f32) (h : Fin 8) (l s : Fin 64) :
    (k0_pay12 (F := Ideal) u v k0_pay11 (ix3 h l s) : EReal) = Ideal.exp (if (s : ℕ) ≤ l then u (ix3 h l 0) - v (ix3 h 0 s) else ⊥) := by
  pointwise [k0_pay12, k0_pay11, select_le, ninf]

/-- The decay between two tokens, transposed. -/
theorem dect_apply (u : FVec Ideal S8x64x1 .f32) (v : FVec Ideal S8x1x64 .f32) (h : Fin 8) (l s : Fin 64) :
    (k0_pay14 (F := Ideal) u v (ix3 h s l) : EReal) = Ideal.exp (if (s : ℕ) ≤ l then v (ix3 h 0 l) - u (ix3 h s 0) else ⊥) := by
  pointwise [k0_pay14, k0_pay13, select_le, ninf]

/-- The product of the states. -/
theorem cb_apply (b c : FVec Ideal S64x128 .f32) (l s : Fin 64) :
    (k0_pay17 (F := Ideal) b c (ix2 l s) : EReal) = cb (states b) (states c) l s := by
  unfold cb
  pointwise [k0_pay17, k0_pay16, k0_pay15]

/-- The product of the states, transposed. -/
theorem cbt_apply (b c : FVec Ideal S64x128 .f32) (l s : Fin 64) :
    (k0_pay18 (F := Ideal) b c (ix2 s l) : EReal) = cb (states b) (states c) l s := by
  unfold cb
  pointwise [k0_pay18, k0_pay16, k0_pay15]
  exact Finset.sum_congr rfl fun _ _ => mul_comm _ _

/-- The gradient of the mixing weights. -/
theorem dw_apply (d : FVec Ideal S8x64x1 .f32) (x y : FVec Ideal S8x64x64 .f32) (h : Fin 8) (l s : Fin 64) :
    (k0_pay22 (F := Ideal) (k0_pay8 d) x y (ix3 h l s) : EReal) = dw (steps d h) (rows x h) (rows y h) l s := by
  unfold dw
  pointwise [k0_pay22, k0_pay21, k0_pay20, k0_pay19, k0_pay8]

/-- The gradient of the mixing weights, transposed. -/
theorem dwt_apply (d : FVec Ideal S8x64x1 .f32) (x y : FVec Ideal S8x64x64 .f32) (h : Fin 8) (l s : Fin 64) :
    (k0_pay23 (F := Ideal) (k0_pay8 d) x y (ix3 h s l) : EReal) = dw (steps d h) (rows x h) (rows y h) l s := by
  unfold dw
  pointwise [k0_pay23, k0_pay21, k0_pay20, k0_pay19, k0_pay8]
  exact Finset.sum_congr rfl fun _ _ => mul_comm _ _

/-- The zero that every product starts from. -/
abbrev zeros : FVec Ideal S8x64x64 .f32 := constant S8x64x64 .f32 0x00000000#32

/-- The gradient of the input times its step size, from the mixing weights. -/
theorem dxd_apply (w y : FVec Ideal S8x64x64 .bf16) (h : Fin 8) (s p : Fin 64) :
    (k0_pay26 (F := Ideal) w y zeros (ix3 h s p) : EReal) = ∑ l : Fin 64, w (ix3 h s l) * y (ix3 h l p) := by
  pointwise [k0_pay26, zeros]

/-- The mixing weights, transposed. -/
theorem w_apply (u : FVec Ideal S8x64x1 .f32) (v : FVec Ideal S8x1x64 .f32) (b c : FVec Ideal S64x128 .f32) (h : Fin 8) (s l : Fin 64) :
    (k0_pay24 (F := Ideal) u v b c (ix3 h s l) : EReal) = k0_pay18 (F := Ideal) b c (ix2 s l) * k0_pay14 (F := Ideal) u v (ix3 h s l) := by
  pointwise [k0_pay24]

/-- The incoming gradient, as the product reads it. -/
theorem y_apply (y : FVec Ideal S8x64x64 .f32) (h : Fin 8) (l p : Fin 64) : (k0_pay25 (F := Ideal) y (ix3 h l p) : EReal) = y (ix3 h l p) := by
  pointwise [k0_pay25, k0_pay20]

/-- The gradient of the input, from that of the input times its step size. -/
theorem dx_of (d : FVec Ideal S8x64x1 .f32) (y : FVec Ideal S8x64x64 .f32) (w z : FVec Ideal S8x64x64 .bf16) (ds : FVec Ideal S8x1x1 .f32)
    (h : Fin 8) (s p : Fin 64) :
    (k0_pay27 (F := Ideal) (k0_pay8 d) (k0_pay20 y) w z zeros ds (ix3 h s p) : EReal)
      = y (ix3 h s p) * ds (ix3 h 0 0) + k0_pay26 (F := Ideal) w z zeros (ix3 h s p) * d (ix3 h s 0) := by
  pointwise [k0_pay27, k0_pay8, k0_pay20]

/-- The gradient of `C`. -/
theorem dc_of (m w : FVec Ideal S8x64x64 .f32) (b : FVec Ideal S64x128 .bf16) (l : Fin 64) (n : Fin 128) :
    (k0_pay28 (F := Ideal) m b w (ix3 0 l n) : EReal) = ∑ s : Fin 64, (∑ h : Fin 8, w (ix3 h l s) * m (ix3 h l s)) * b (ix2 s n) := by
  pointwise [k0_pay28]

/-- The gradient of `B`. -/
theorem db_of (m w : FVec Ideal S8x64x64 .f32) (c : FVec Ideal S64x128 .bf16) (s : Fin 64) (n : Fin 128) :
    (k0_pay29 (F := Ideal) m c w (ix3 0 s n) : EReal) = ∑ l : Fin 64, (∑ h : Fin 8, w (ix3 h s l) * m (ix3 h s l)) * c (ix2 l n) := by
  pointwise [k0_pay29]

/-- The gradient of the running sums. -/
theorem dcum_of (m n w v : FVec Ideal S8x64x64 .f32) (g f : FVec Ideal S64x64 .f32) (h : Fin 8) (t : Fin 64) :
    (k0_pay30 (F := Ideal) m n g f w v (ix3 h 0 t) : EReal)
      = ∑ s : Fin 64, v (ix3 h s t) * n (ix3 h s t) * f (ix2 s t) - ∑ l : Fin 64, w (ix3 h l t) * m (ix3 h l t) * g (ix2 l t) := by
  pointwise [k0_pay30]

/-- The gradient of the decay exponents, from that of the running sums. -/
theorem dda_of (k : FVec Ideal S8x1x64 .f32) (h : Fin 8) (l : Fin 64) :
    (k0_pay1 (F := Ideal) k (Scalar.ofBits .f32 0x00000000#32) (k0_pay31 k0_pay13) (ix3 h l 0) : EReal)
      = ∑ t : Fin 64, if (l : ℕ) ≤ t then (k (ix3 h 0 t) : EReal) else 0 := by
  pointwise [k0_pay1, k0_pay31, k0_pay13, select_le]

/-- The gradient of the step sizes, from that of the decay exponents. -/
theorem ddt_of (a : FVec Ideal S8x1x1 .f32) (x z : FVec Ideal S8x64x64 .f32) (k : FVec Ideal S8x1x64 .f32) (o : Ideal .f32) (q : IVec S8x64x64 1)
    (h : Fin 8) (l : Fin 64) :
    (k0_pay2 (F := Ideal) a x z k o q (ix3 h l 0) : EReal)
      = ∑ p : Fin 64, z (ix3 h l p) * x (ix3 h l p) + k0_pay1 (F := Ideal) k o q (ix3 h l 0) * a (ix3 h 0 0) := by
  pointwise [k0_pay2]

/-- A chunk's part of the gradient of the decay rate. -/
theorem dal_of (a : FVec Ideal S8x1x1 .f32) (d : FVec Ideal S8x64x1 .f32) (k : FVec Ideal S8x1x64 .f32) (o : Ideal .f32) (q : IVec S8x64x64 1) (h : Fin 8) :
    (k0_pay3 (F := Ideal) a (k0_pay8 d) k o q (ix3 h 0 0) : EReal)
      = (∑ l : Fin 64, k0_pay1 (F := Ideal) k o q (ix3 h l 0) * d (ix3 h l 0)) * a (ix3 h 0 0) := by
  pointwise [k0_pay3, k0_pay8]

/-- A chunk's part of the gradient of `D`. -/
theorem dds_of (x y : FVec Ideal S8x64x64 .f32) (h : Fin 8) :
    (k0_pay4 (F := Ideal) (k0_pay19 x) (k0_pay20 y) (ix3 h 0 0) : EReal) = ∑ l : Fin 64, ∑ p : Fin 64, y (ix3 h l p) * x (ix3 h l p) := by
  pointwise [k0_pay4, k0_pay19, k0_pay20]

/-- What one more chunk adds to the gradient of the decay rate. -/
theorem dal_step (a : FVec Ideal S8x1x1 .f32) (d : FVec Ideal S8x64x1 .f32) (k : FVec Ideal S8x1x64 .f32) (o : Ideal .f32) (q : IVec S8x64x64 1)
    (acc : FVec Ideal S8x1x1 .f32) (j : S8x1x1.Idx) :
    (k0_pay5 (F := Ideal) a d k o q acc j : EReal) = acc j + k0_pay3 (F := Ideal) a d k o q j := by
  pointwise [k0_pay5]

/-- What one more chunk adds to the gradient of `D`. -/
theorem dds_step (x y : FVec Ideal S8x64x64 .f32) (acc : FVec Ideal S8x1x1 .f32) (j : S8x1x1.Idx) :
    (k0_pay6 (F := Ideal) x y acc j : EReal) = acc j + k0_pay4 (F := Ideal) x y j := by
  pointwise [k0_pay6]

/-! The same over one point's blocks, the step sizes given once as columns and once as rows. -/

variable (x y : FVec Ideal S8x64x64 .f32) (b c : FVec Ideal S64x128 .f32) (d : FVec Ideal S8x64x1 .f32) (r : FVec Ideal S8x1x1x64 .f32)
  (al ds : FVec Ideal S8x1x1 .f32) (hr : ∀ h s, (r (ix4 h 0 0 s) : EReal) = d (ix3 h s 0))

include hr

theorem dec_eq (h : Fin 8) (l s : Fin 64) :
    (k0_pay12 (F := Ideal) (k0_pay9 al r) (k0_pay10 al d) k0_pay11 (ix3 h l s) : EReal) = dec (steps d h) (rate al h) l s := by
  rw [dec_apply, cumc_apply, cumr_apply, show (fun s => (r (ix4 h 0 0 s) : EReal)) = steps d h from funext (hr h)]
  rfl

theorem dect_eq (h : Fin 8) (l s : Fin 64) :
    (k0_pay14 (F := Ideal) (k0_pay9 al r) (k0_pay10 al d) (ix3 h s l) : EReal) = dec (steps d h) (rate al h) l s := by
  rw [dect_apply, cumc_apply, cumr_apply, show (fun s => (r (ix4 h 0 0 s) : EReal)) = steps d h from funext (hr h)]
  rfl

theorem dxd_eq (h : Fin 8) (s p : Fin 64) :
    (k0_pay26 (F := Ideal) (k0_pay24 (k0_pay9 al r) (k0_pay10 al d) b c) (k0_pay25 y) zeros (ix3 h s p) : EReal)
      = dxd (steps d h) (rate al h) (rows y h) (states b) (states c) s p := by
  rw [dxd_apply]
  exact Finset.sum_congr rfl fun l _ => by rw [w_apply, y_apply, cbt_apply, dect_eq d r al hr]

/-- The gradient of the input. -/
theorem dx_eq (h : Fin 8) (s p : Fin 64) :
    (k0_pay27 (F := Ideal) (k0_pay8 d) (k0_pay20 y) (k0_pay24 (k0_pay9 al r) (k0_pay10 al d) b c) (k0_pay25 y) zeros ds (ix3 h s p) : EReal)
      = y (ix3 h s p) * ds (ix3 h 0 0) + dxd (steps d h) (rate al h) (rows y h) (states b) (states c) s p * d (ix3 h s 0) := by
  rw [dx_of, dxd_eq y b c d r al hr]

/-- The gradient of `C`. -/
theorem dc_eq (l : Fin 64) (n : Fin 128) :
    (k0_pay28 (F := Ideal) (k0_pay12 (k0_pay9 al r) (k0_pay10 al d) k0_pay11) (k0_pay15 b) (k0_pay22 (k0_pay8 d) x y) (ix3 0 l n) : EReal)
      = ∑ s : Fin 64, (∑ h : Fin 8, dw (steps d h) (rows x h) (rows y h) l s * dec (steps d h) (rate al h) l s) * b (ix2 s n) := by
  rw [dc_of]
  exact Finset.sum_congr rfl fun s _ => congrArg₂ _ (Finset.sum_congr rfl fun h _ => by rw [dw_apply, dec_eq d r al hr]) (by pointwise [k0_pay15])

/-- The gradient of `B`. -/
theorem db_eq (s : Fin 64) (n : Fin 128) :
    (k0_pay29 (F := Ideal) (k0_pay14 (k0_pay9 al r) (k0_pay10 al d)) (k0_pay16 c) (k0_pay23 (k0_pay8 d) x y) (ix3 0 s n) : EReal)
      = ∑ l : Fin 64, (∑ h : Fin 8, dw (steps d h) (rows x h) (rows y h) l s * dec (steps d h) (rate al h) l s) * c (ix2 l n) := by
  rw [db_of]
  exact Finset.sum_congr rfl fun l _ => congrArg₂ _ (Finset.sum_congr rfl fun h _ => by rw [dwt_apply, dect_eq d r al hr]) (by pointwise [k0_pay16])

/-- A point's gradient of the running sums. -/
abbrev dcums : FVec Ideal S8x1x64 .f32 :=
  k0_pay30 (F := Ideal) (k0_pay12 (k0_pay9 al r) (k0_pay10 al d) k0_pay11) (k0_pay14 (k0_pay9 al r) (k0_pay10 al d)) (k0_pay17 b c) (k0_pay18 b c)
    (k0_pay22 (k0_pay8 d) x y) (k0_pay23 (k0_pay8 d) x y)

theorem dcum_eq (h : Fin 8) (t : Fin 64) :
    (dcums x y b c d r al (ix3 h 0 t) : EReal) = dcum (steps d h) (rate al h) (rows x h) (rows y h) (states b) (states c) t := by
  refine (dcum_of _ _ _ _ _ _ _ _).trans ?_
  refine congrArg₂ _ (Finset.sum_congr rfl fun s _ => ?_) (Finset.sum_congr rfl fun l _ => ?_)
  · rw [dwt_apply, dect_eq d r al hr, cbt_apply]; rfl
  · rw [dw_apply, dec_eq d r al hr, cb_apply]; rfl

/-- A point's gradient of the decay exponents. -/
theorem dda_eq (h : Fin 8) (l : Fin 64) :
    (k0_pay1 (F := Ideal) (dcums x y b c d r al) (Scalar.ofBits .f32 0x00000000#32) (k0_pay31 k0_pay13) (ix3 h l 0) : EReal)
      = dda (steps d h) (rate al h) (rows x h) (rows y h) (states b) (states c) l := by
  rw [dda_of]
  exact Finset.sum_congr rfl fun t _ => by rw [dcum_eq x y b c d r al hr]

/-- The gradient of the step sizes. -/
theorem ddt_eq (h : Fin 8) (l : Fin 64) :
    (k0_pay2 (F := Ideal) (k0_pay7 al) (k0_pay19 x) (k0_pay26 (k0_pay24 (k0_pay9 al r) (k0_pay10 al d) b c) (k0_pay25 y) zeros)
        (dcums x y b c d r al) (Scalar.ofBits .f32 0x00000000#32) (k0_pay31 k0_pay13) (ix3 h l 0) : EReal)
      = ∑ p : Fin 64, dxd (steps d h) (rate al h) (rows y h) (states b) (states c) l p * x (ix3 h l p)
        + dda (steps d h) (rate al h) (rows x h) (rows y h) (states b) (states c) l * rate al h := by
  rw [ddt_of, dda_eq x y b c d r al hr, rate_apply]
  exact congrArg (· + _) (Finset.sum_congr rfl fun p _ => by rw [dxd_eq y b c d r al hr]; exact congrArg _ (by pointwise [k0_pay19]))

/-- A chunk's part of the gradient of the decay rate. -/
theorem dal_eq (h : Fin 8) :
    (k0_pay3 (F := Ideal) (k0_pay7 al) (k0_pay8 d) (dcums x y b c d r al) (Scalar.ofBits .f32 0x00000000#32) (k0_pay31 k0_pay13) (ix3 h 0 0) : EReal)
      = (∑ l : Fin 64, dda (steps d h) (rate al h) (rows x h) (rows y h) (states b) (states c) l * d (ix3 h l 0)) * rate al h := by
  rw [dal_of, rate_apply]
  exact congrArg (· * _) (Finset.sum_congr rfl fun l _ => by rw [dda_eq x y b c d r al hr])

end Cert.Kernel6Ideal.Ssd

end
-- ==== Proof.SsdRef.lean ====
module

public import proofs.«01_k».proof.Proof.Gen.Reference6Ideal.Read
public import proofs.«01_k».proof.Proof.SsdSpec
public import Idealize.ShloMosaic.Lib.Pointwise

@[expose] public section

set_option maxRecDepth 16384

noncomputable section

open Idealize.ShloMosaic Idealize.ShloMosaic.TcCoe

namespace Cert.Reference6Ideal.Ssd

open Cert.Reference6Ideal Cert.Reference6Ideal.Read Cert.Ssd

/-- Token `l` of chunk `k`. -/
abbrev tok (k : Fin 128) (l : Fin 64) : Fin 8192 := ⟨(k : ℕ) * 64 + l, by omega⟩
/-- Head `j` of group `g`. -/
abbrev head (g : Fin 4) (j : Fin 8) : Fin 32 := ⟨(g : ℕ) * 8 + j, by omega⟩
/-- Column `p` of head `j` of group `g`. -/
abbrev col (g : Fin 4) (j : Fin 8) (p : Fin 64) : Fin 2048 := ⟨(g : ℕ) * 512 + j * 64 + p, by omega⟩

/-- The step sizes of a chunk's head. -/
abbrev steps (d : FVec Ideal S8192x32 .f32) (k : Fin 128) (g : Fin 4) (j : Fin 8) (l : Fin 64) : EReal := d (ix2 (tok k l) (head g j))
/-- The decay rate of a head. -/
abbrev rate (al : FVec Ideal S32 .f32) (g : Fin 4) (j : Fin 8) : EReal := -Ideal.exp (al (ix1 (head g j)))
/-- The input of a chunk's head. -/
abbrev xs (x : FVec Ideal S8192x3072 .f32) (k : Fin 128) (g : Fin 4) (j : Fin 8) (l p : Fin 64) : EReal :=
  x (ix2 (tok k l) ⟨(g : ℕ) * 512 + j * 64 + p, by omega⟩)
/-- The incoming gradient of a chunk's head. -/
abbrev ys (y : FVec Ideal S8192x2048 .f32) (k : Fin 128) (g : Fin 4) (j : Fin 8) (l p : Fin 64) : EReal := y (ix2 (tok k l) (col g j p))
/-- The vectors `B` of a chunk's group. -/
abbrev bs (x : FVec Ideal S8192x3072 .f32) (k : Fin 128) (g : Fin 4) (l : Fin 64) (n : Fin 128) : EReal :=
  x (ix2 (tok k l) ⟨2048 + ((g : ℕ) * 128 + n), by omega⟩)
/-- The vectors `C` of a chunk's group. -/
abbrev cs (x : FVec Ideal S8192x3072 .f32) (k : Fin 128) (g : Fin 4) (l : Fin 64) (n : Fin 128) : EReal :=
  x (ix2 (tok k l) ⟨2560 + ((g : ℕ) * 128 + n), by omega⟩)

/-- A left fold of additions is a sum. -/
theorem foldl_add {ι : Type} (l : List ι) (f : ι → EReal) (v : EReal) : l.foldl (fun r n => r + f n) v = v + (l.map f).sum := by
  induction l generalizing v with
  | nil => simp
  | cons n l ih => rw [List.foldl_cons, ih, List.map_cons, List.sum_cons, add_assoc]

/-- The windows of one column of 64. -/
abbrev W : Shape := ⟨4, ![1, 64, 1, 1]⟩

/-- The positions of a window are the numbers below 64. -/
def winEquiv : W.Idx ≃ Fin 64 where
  toFun i := i 1
  invFun w := ix4 0 w 0 0
  left_inv i := by
    funext a
    fin_cases a
    · exact (Fin.fin_one_eq_zero (i 0)).symm
    · rfl
    · exact (Fin.fin_one_eq_zero (i 2)).symm
    · exact (Fin.fin_one_eq_zero (i 3)).symm
  right_inv w := rfl

/-- A window sum down the second axis, from zero. -/
theorem window_apply (lo hi : ℕ) (x : FVec Ideal S128x64x4x8 .f32) (v : FVec Ideal S_ .f32) (hv : ∀ i, (v i : EReal) = 0)
    (h : S128x64x4x8.ReduceWindows ![1, 64, 1, 1] ![1, 1, 1, 1] ![0, lo, 0, 0] ![0, hi, 0, 0] S128x64x4x8) (hu : 0 < S_.numel)
    (k : Fin 128) (l : Fin 64) (g : Fin 4) (j : Fin 8) :
    (Host.reduceWindowAdd (F := Ideal) ![1, 64, 1, 1] ![1, 1, 1, 1] ![0, lo, 0, 0] ![0, hi, 0, 0] x v h hu (ix4 k l g j) : EReal)
      = ∑ w : Fin 64, if hin : lo ≤ (l : ℕ) + w ∧ (l : ℕ) + w - lo < 64 then (x (ix4 k ⟨l + w - lo, hin.2⟩ g j) : EReal) else 0 := by
  have e0 : (v (Shape.Idx.first hu) : EReal) = 0 := hv _
  show (Ideal.hostReduceWindowAdd ![1, 64, 1, 1] ![1, 1, 1, 1] ![0, lo, 0, 0] ![0, hi, 0, 0] h x (v (Shape.Idx.first hu)) (ix4 k l g j) : EReal) = _
  unfold Ideal.hostReduceWindowAdd Host.reduceWindow
  rw [e0]
  refine (foldl_add _ _ _).trans ?_
  rw [zero_add, ← Fin.sum_univ_def]
  refine (Fintype.sum_equiv (W.rowMajor.symm.trans winEquiv) _
    (fun w : Fin 64 => if hin : lo ≤ (l : ℕ) + w ∧ (l : ℕ) + w - lo < 64 then (x (ix4 k ⟨l + w - lo, hin.2⟩ g j) : EReal) else 0) fun n => ?_)
  have e1 : (W.rowMajor.symm.trans winEquiv) n = W.rowMajor.symm n 1 := rfl
  rw [e1]
  have h0 : (W.rowMajor.symm n 0 : ℕ) = 0 := by have := (W.rowMajor.symm n 0).isLt; change _ < 1 at this; omega
  have h2 : (W.rowMajor.symm n 2 : ℕ) = 0 := by have := (W.rowMajor.symm n 2).isLt; change _ < 1 at this; omega
  have h3 : (W.rowMajor.symm n 3 : ℕ) = 0 := by have := (W.rowMajor.symm n 3).isLt; change _ < 1 at this; omega
  have hk := k.isLt
  have hg := g.isLt
  have hj := j.isLt
  by_cases hin : lo ≤ (l : ℕ) + (W.rowMajor.symm n 1 : ℕ) ∧ (l : ℕ) + (W.rowMajor.symm n 1 : ℕ) - lo < 64
  · rw [dif_pos hin, dif_pos]
    · refine congrArg x (funext fun a => Fin.ext ?_)
      fin_cases a
      · show (k : ℕ) * 1 + (W.rowMajor.symm n 0 : ℕ) - 0 = k
        omega
      · show (l : ℕ) * 1 + (W.rowMajor.symm n 1 : ℕ) - lo = (l : ℕ) + (W.rowMajor.symm n 1 : ℕ) - lo
        omega
      · show (g : ℕ) * 1 + (W.rowMajor.symm n 2 : ℕ) - 0 = g
        omega
      · show (j : ℕ) * 1 + (W.rowMajor.symm n 3 : ℕ) - 0 = j
        omega
    · intro a
      fin_cases a
      · show 0 ≤ (k : ℕ) * 1 + (W.rowMajor.symm n 0 : ℕ) ∧ (k : ℕ) * 1 + (W.rowMajor.symm n 0 : ℕ) - 0 < 128
        omega
      · show lo ≤ (l : ℕ) * 1 + (W.rowMajor.symm n 1 : ℕ) ∧ (l : ℕ) * 1 + (W.rowMajor.symm n 1 : ℕ) - lo < 64
        omega
      · show 0 ≤ (g : ℕ) * 1 + (W.rowMajor.symm n 2 : ℕ) ∧ (g : ℕ) * 1 + (W.rowMajor.symm n 2 : ℕ) - 0 < 4
        omega
      · show 0 ≤ (j : ℕ) * 1 + (W.rowMajor.symm n 3 : ℕ) ∧ (j : ℕ) * 1 + (W.rowMajor.symm n 3 : ℕ) - 0 < 8
        omega
  · rw [dif_neg hin, dif_neg]
    intro h
    have h' : lo ≤ (l : ℕ) * 1 + (W.rowMajor.symm n 1 : ℕ) ∧ (l : ℕ) * 1 + (W.rowMajor.symm n 1 : ℕ) - lo < 64 := h 1
    exact hin (by omega)

/-- The running sum down the second axis. -/
theorem window_front (x : FVec Ideal S128x64x4x8 .f32) (v : FVec Ideal S_ .f32) (hv : ∀ i, (v i : EReal) = 0)
    (h : S128x64x4x8.ReduceWindows ![1, 64, 1, 1] ![1, 1, 1, 1] ![0, 63, 0, 0] ![0, 0, 0, 0] S128x64x4x8) (hu : 0 < S_.numel)
    (k : Fin 128) (l : Fin 64) (g : Fin 4) (j : Fin 8) :
    (Host.reduceWindowAdd (F := Ideal) ![1, 64, 1, 1] ![1, 1, 1, 1] ![0, 63, 0, 0] ![0, 0, 0, 0] x v h hu (ix4 k l g j) : EReal)
      = ∑ s : Fin 64, if (s : ℕ) ≤ l then (x (ix4 k s g j) : EReal) else 0 := by
  refine (window_apply 63 0 x v hv h hu k l g j).trans ((Finset.sum_congr rfl fun w _ => ?_).trans (sum_window (fun s => x (ix4 k s g j)) l))
  by_cases hw : 63 ≤ (l : ℕ) + w
  · rw [dif_pos hw, dif_pos ⟨hw, by omega⟩]
  · rw [dif_neg hw, dif_neg fun h => hw h.1]

/-- The running sum up the second axis. -/
theorem window_back (x : FVec Ideal S128x64x4x8 .f32) (v : FVec Ideal S_ .f32) (hv : ∀ i, (v i : EReal) = 0)
    (h : S128x64x4x8.ReduceWindows ![1, 64, 1, 1] ![1, 1, 1, 1] ![0, 0, 0, 0] ![0, 63, 0, 0] S128x64x4x8) (hu : 0 < S_.numel)
    (k : Fin 128) (l : Fin 64) (g : Fin 4) (j : Fin 8) :
    (Host.reduceWindowAdd (F := Ideal) ![1, 64, 1, 1] ![1, 1, 1, 1] ![0, 0, 0, 0] ![0, 63, 0, 0] x v h hu (ix4 k l g j) : EReal)
      = ∑ s : Fin 64, if (l : ℕ) ≤ s then (x (ix4 k s g j) : EReal) else 0 := by
  refine (window_apply 0 63 x v hv h hu k l g j).trans ((Finset.sum_congr rfl fun w _ => ?_).trans (sum_window_rev (fun s => x (ix4 k s g j)) l))
  by_cases hw : (l : ℕ) + w < 64
  · rw [dif_pos hw, dif_pos ⟨Nat.zero_le _, hw⟩]; rfl
  · rw [dif_neg hw, dif_neg fun h => hw h.2]

/-- A sum over chunks, tokens and columns. -/
theorem reduce_014 {n0 n1 n2 n3 n4 : ℕ} (h : (⟨5, ![n0, n1, n2, n3, n4]⟩ : Shape).ReducesTo [0, 1, 4] ⟨2, ![n2, n3]⟩)
    (v : (⟨5, ![n0, n1, n2, n3, n4]⟩ : Shape).Idx → EReal) (init : EReal) (g : Fin n2) (j : Fin n3) :
    Ideal.hostReduceAdd h v init (ix2 g j) = init + ∑ k : Fin n0, ∑ l : Fin n1, ∑ p : Fin n4, v (ix5 k l g j p) := by
  refine congrArg (init + ·) ((Finset.sum_filter_eq_sum_of_fiber _ (fun q : Fin n0 × Fin n1 × Fin n4 => ix5 q.1 q.2.1 g j q.2.2)
    (fun _ _ e => Prod.ext (congrFun e 0) (Prod.ext (congrFun e 1) (congrFun e 4))) (fun i => ?_) v).trans ?_)
  · constructor
    · intro e
      refine ⟨(i 0, i 1, i 4), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
      | ⟨4, _⟩ => rfl
    · rintro ⟨q, rfl⟩
      funext b
      apply Fin.ext
      match b with
      | ⟨0, _⟩ => rfl
      | ⟨1, _⟩ => rfl
  · simp only [Fintype.sum_prod_type]

/-- A sum over chunks and tokens. -/
theorem reduce_01 {n0 n1 n2 n3 : ℕ} (h : (⟨4, ![n0, n1, n2, n3]⟩ : Shape).ReducesTo [0, 1] ⟨2, ![n2, n3]⟩)
    (v : (⟨4, ![n0, n1, n2, n3]⟩ : Shape).Idx → EReal) (init : EReal) (g : Fin n2) (j : Fin n3) :
    Ideal.hostReduceAdd h v init (ix2 g j) = init + ∑ k : Fin n0, ∑ l : Fin n1, v (ix4 k l g j) := by
  refine congrArg (init + ·) ((Finset.sum_filter_eq_sum_of_fiber _ (fun q : Fin n0 × Fin n1 => ix4 q.1 q.2 g j)
    (fun _ _ e => Prod.ext (congrFun e 0) (congrFun e 1)) (fun i => ?_) v).trans ?_)
  · constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
      | ⟨3, _⟩ => exact (congrArg Fin.val (congrFun e 1)).symm
    · rintro ⟨q, rfl⟩
      funext b
      apply Fin.ext
      match b with
      | ⟨0, _⟩ => rfl
      | ⟨1, _⟩ => rfl
  · simp only [Fintype.sum_prod_type]

/-- A head's group and place in it. -/
theorem head_split (g : Fin 4) (j : Fin 8) (h : ((g : ℕ) * 8 + j) / 8 < 4) (h' : ((g : ℕ) * 8 + j) % 8 < 8) :
    (ix2 (⟨((g : ℕ) * 8 + j) / 8, h⟩ : Fin 4) (⟨((g : ℕ) * 8 + j) % 8, h'⟩ : Fin 8)) = ix2 g j := by
  have e1 : (⟨((g : ℕ) * 8 + j) / 8, h⟩ : Fin 4) = g := Fin.ext (by show ((g : ℕ) * 8 + j) / 8 = g; omega)
  have e2 : (⟨((g : ℕ) * 8 + j) % 8, h'⟩ : Fin 8) = j := Fin.ext (by show ((g : ℕ) * 8 + j) % 8 = j; omega)
  rw [e1, e2]

variable (x0 : FVec Ideal S8192x3072 .f32) (x1 : FVec Ideal S8192x32 .f32) (x2 x3 : FVec Ideal S32 .f32) (x4 : FVec Ideal S8192x2048 .f32)
  (k : Fin 128) (g : Fin 4) (j : Fin 8)

/-- The input by chunk and head. -/
theorem x_apply (l p : Fin 64) : (val_main_v3 (F := Ideal) x0 (ix5 k l g j p) : EReal) = xs x0 k g j l p := by
  pointwise [val_main_v3, val_main_v0]

theorem b_apply (l : Fin 64) (n : Fin 128) : (val_main_v4 (F := Ideal) x0 (ix4 k l g n) : EReal) = bs x0 k g l n := by
  pointwise [val_main_v4, val_main_v1]

theorem c_apply (l : Fin 64) (n : Fin 128) : (val_main_v5 (F := Ideal) x0 (ix4 k l g n) : EReal) = cs x0 k g l n := by
  pointwise [val_main_v5, val_main_v2]

theorem d_apply (l : Fin 64) : (val_main_v6 (F := Ideal) x1 (ix4 k l g j) : EReal) = steps x1 k g j l := by
  pointwise [val_main_v6]

theorem y_apply (l p : Fin 64) : (val_main_v39 (F := Ideal) x4 (ix5 k l g j p) : EReal) = ys x4 k g j l p := by
  pointwise [val_main_v39]

/-- The decay rate. -/
theorem rate_apply : (val_main_v9 (F := Ideal) x2 (ix2 g j) : EReal) = rate x2 g j := by
  pointwise [val_main_v9, val_main_v8, val_main_v7]

/-- The decay exponents. -/
theorem da_apply (l : Fin 64) : (val_main_v12 (F := Ideal) x1 x2 (ix4 k l g j) : EReal) = steps x1 k g j l * rate x2 g j := by
  rw [← d_apply, ← rate_apply]
  pointwise [val_main_v12, val_main_v11, val_main_v10]

/-- The running sums of the decay exponents. -/
theorem cum_apply (l : Fin 64) : (val_main_v13 (F := Ideal) x1 x2 (ix4 k l g j) : EReal) = cum (steps x1 k g j) (rate x2 g j) l := by
  unfold val_main_v13
  refine (window_front _ _ (fun i => by pointwise [val_main_call0_call0_v0, val_main_call0_call0_cst]) _ _ k l g j).trans ?_
  exact Finset.sum_congr rfl fun s _ => by rw [da_apply]

/-- The mask of the tokens at or before another. -/
theorem mask_apply (l s : Fin 64) (u v : EReal) :
    Scalar.select (val_main_v19 (F := Ideal) (ix2 l s)) u v = if (s : ℕ) ≤ l then u else v := by
  have e : (val_main_v19 (F := Ideal) (ix2 l s) : BitVec 1)
      = Scalar.select (IntOp.cmpi .sge (BitVec.ofNat 32 (l : ℕ) + 0#32) (BitVec.ofNat 32 (s : ℕ))) 1#1 0#1 := rfl
  rw [e, BitVec.add_zero, ← select_le l s u v]
  unfold Scalar.select
  split <;> simp_all

/-- The exponent of the decay, minus infinity from a later to an earlier token. -/
theorem dec_apply (l s : Fin 64) : (val_main_v26 (F := Ideal) x1 x2 (ix5 k g j l s) : EReal) = dec (steps x1 k g j) (rate x2 g j) l s := by
  unfold dec
  rw [← cum_apply, ← cum_apply, ← mask_apply, ← ninf]
  pointwise [val_main_v26, val_main_v25_0, val_main_v25_1, val_main_v24, val_main_v23, val_main_v22, val_main_v21, val_main_v20, val_main_v17, val_main_call2_v2, val_main_call2_v0, val_main_cst]
  rfl

theorem xdt_apply (l p : Fin 64) : (val_main_v16 (F := Ideal) x0 x1 (ix5 k l g j p) : EReal) = xs x0 k g j l p * steps x1 k g j l := by
  rw [← x_apply, ← d_apply]
  pointwise [val_main_v16, val_main_v15, val_main_v14]

theorem cb_apply (l s : Fin 64) : (val_main_v27 (F := Ideal) x0 (ix4 k g l s) : EReal) = cb (bs x0 k g) (cs x0 k g) l s := by
  unfold cb
  pointwise [val_main_v27]
  exact Finset.sum_congr rfl fun _ _ => by rw [b_apply, c_apply]

theorem dw_apply (l s : Fin 64) : (val_main_v49 (F := Ideal) x0 x1 x4 (ix5 k g j l s) : EReal)
    = dw (steps x1 k g j) (xs x0 k g j) (ys x4 k g j) l s := by
  unfold dw
  pointwise [val_main_v49, val_main_v48]
  exact Finset.sum_congr rfl fun _ _ => by rw [xdt_apply, y_apply]

theorem dxd_apply (s p : Fin 64) : (val_main_v50 (F := Ideal) x0 x1 x2 x4 (ix5 k g j p s) : EReal)
    = dxd (steps x1 k g j) (rate x2 g j) (ys x4 k g j) (bs x0 k g) (cs x0 k g) s p := by
  unfold dxd
  pointwise [val_main_v50, val_main_v48, val_main_v30, val_main_v29, val_main_v28]
  exact Finset.sum_congr rfl fun _ _ => by rw [cb_apply, dec_apply, y_apply, mul_comm]

/-- The gradient of the input. -/
theorem dx_apply (l p : Fin 64) : (val_main_v78 (F := Ideal) x0 x1 x2 x3 x4 (ix5 k l g j p) : EReal)
    = ys x4 k g j l p * x3 (ix1 (head g j))
      + dxd (steps x1 k g j) (rate x2 g j) (ys x4 k g j) (bs x0 k g) (cs x0 k g) l p * steps x1 k g j l := by
  rw [← dxd_apply, ← y_apply, ← d_apply]
  pointwise [val_main_v78, val_main_v77, val_main_v76, val_main_v51, val_main_v44, val_main_v43, val_main_v34, val_main_v33, val_main_v14]

/-- The gradient of the product of the states of two tokens, over a group's heads. -/
theorem dcb_apply (l s : Fin 64) : (val_main_v57 (F := Ideal) x0 x1 x2 x4 (ix4 k g l s) : EReal)
    = ∑ j : Fin 8, dw (steps x1 k g j) (xs x0 k g j) (ys x4 k g j) l s * dec (steps x1 k g j) (rate x2 g j) l s := by
  pointwise [val_main_v57, val_main_v56, val_main_v55, val_main_v54, val_main_cst_2, val_main_cst_3]
  refine (Fintype.sum_unique _).trans (Finset.sum_congr rfl fun _ _ => by rw [dw_apply, dec_apply])

theorem db_apply (s : Fin 64) (n : Fin 128) : (val_main_v59 (F := Ideal) x0 x1 x2 x4 (ix4 k s g n) : EReal)
    = ∑ l : Fin 64, (∑ j : Fin 8, dw (steps x1 k g j) (xs x0 k g j) (ys x4 k g j) l s * dec (steps x1 k g j) (rate x2 g j) l s) * cs x0 k g l n := by
  pointwise [val_main_v59, val_main_v58]
  exact Finset.sum_congr rfl fun _ _ => by rw [dcb_apply, c_apply]

theorem dc_apply (l : Fin 64) (n : Fin 128) : (val_main_v61 (F := Ideal) x0 x1 x2 x4 (ix4 k l g n) : EReal)
    = ∑ s : Fin 64, (∑ j : Fin 8, dw (steps x1 k g j) (xs x0 k g j) (ys x4 k g j) l s * dec (steps x1 k g j) (rate x2 g j) l s) * bs x0 k g s n := by
  pointwise [val_main_v61, val_main_v60]
  exact Finset.sum_congr rfl fun _ _ => by rw [dcb_apply, b_apply]

/-- The gradient of the exponent of the decay. -/
theorem e_apply (l s : Fin 64) : (val_main_v63 (F := Ideal) x0 x1 x2 x4 (ix5 k g j l s) : EReal)
    = e (steps x1 k g j) (rate x2 g j) (xs x0 k g j) (ys x4 k g j) (bs x0 k g) (cs x0 k g) l s := by
  rw [← e_mask, ← mask_apply, ← cb_apply, ← dw_apply, ← dec_apply]
  pointwise [val_main_v63, val_main_v62, val_main_v53, val_main_v52, val_main_v28, val_main_v25_1, val_main_call3_v0, val_main_call3_cst]

/-- The gradient of the skip weights, summed over chunks, tokens and columns. -/
theorem dds_sum : (val_main_v41 (F := Ideal) x0 x4 (ix2 g j) : EReal)
    = ∑ k : Fin 128, ∑ l : Fin 64, ∑ p : Fin 64, xs x0 k g j l p * ys x4 k g j l p := by
  refine (reduce_014 _ _ _ g j).trans ?_
  rw [show (val_main_cst_0 (F := Ideal) (Shape.Idx.first Gen.h_S_) : EReal) = 0 from by pointwise [val_main_cst_0], zero_add]
  refine Finset.sum_congr rfl fun k _ => Finset.sum_congr rfl fun l _ => Finset.sum_congr rfl fun p _ => ?_
  rw [← x_apply, ← y_apply]
  pointwise [val_main_v40]

/-- The gradient of the skip weight. -/
theorem dds_apply : (val_main_v104 (F := Ideal) x0 x4 (ix3 (head g j) 0 0) : EReal)
    = ∑ k : Fin 128, ∑ l : Fin 64, ∑ p : Fin 64, xs x0 k g j l p * ys x4 k g j l p := by
  rw [← dds_sum]
  have e : (val_main_v45 (F := Ideal) x0 x4 (ix2 g j) : EReal) = val_main_v41 (F := Ideal) x0 x4 (ix2 g j) := by
    refine (reduce_014 _ _ _ g j).trans ?_
    rw [show (val_main_cst_1 (F := Ideal) (Shape.Idx.first Gen.h_S_) : EReal) = 0 from by pointwise [val_main_cst_1], zero_add,
      Fintype.sum_unique, Fintype.sum_unique, Fintype.sum_unique]
    pointwise [val_main_v42]
  rw [← e]
  pointwise [val_main_v104, val_main_v47, val_main_v46]
  rw [head_split]

section Real

variable (h0 : ∀ i, IsReal (x0 i)) (h1 : ∀ i, IsReal (x1 i)) (h2 : ∀ i, IsReal (x2 i)) (h4 : ∀ i, IsReal (x4 i))
include h0 h1 h2 h4

/-- The gradient of the running sums. -/
theorem dcum_apply (t : Fin 64) : (val_main_v72 (F := Ideal) x0 x1 x2 x4 (ix4 k t g j) : EReal)
      = dcum (steps x1 k g j) (rate x2 g j) (xs x0 k g j) (ys x4 k g j) (bs x0 k g) (cs x0 k g) t := by
  unfold dcum
  rw [sub_eq_add_neg, ← neg_sum _ (fun l => e_real (fun _ => h1 _) (h2 _).exp.neg (fun _ _ => h0 _) (fun _ _ => h4 _) (fun _ _ => h0 _) (fun _ _ => h0 _) l t), add_comm]
  pointwise [val_main_v72, val_main_v71, val_main_v70, val_main_v69, val_main_v68, val_main_v67, val_main_v66, val_main_v65, val_main_v64, val_main_cst_4, val_main_cst_5, val_main_cst_6, val_main_cst_7]
  exact congrArg₂ _ ((Fintype.sum_unique (ι := Fin 1) _).trans (Finset.sum_congr rfl fun l _ => by rw [e_apply]))
    ((Fintype.sum_unique (ι := Fin 1) _).trans (Finset.sum_congr rfl fun s _ => by rw [e_apply]))

/-- The gradient of the decay exponents. -/
theorem dda_apply (l : Fin 64) : (val_main_v80 (F := Ideal) x0 x1 x2 x4 (ix4 k l g j) : EReal)
      = dda (steps x1 k g j) (rate x2 g j) (xs x0 k g j) (ys x4 k g j) (bs x0 k g) (cs x0 k g) l := by
  unfold val_main_v80
  refine (window_back _ _ (fun i => by pointwise [val_main_call4_call0_v0, val_main_call4_call0_cst]) _ _ k l g j).trans ?_
  exact Finset.sum_congr rfl fun t _ => by rw [dcum_apply x0 x1 x2 x4 k g j h0 h1 h2 h4]

/-- The gradient of the step sizes. -/
theorem ddt_apply (l : Fin 64) : (val_main_v86 (F := Ideal) x0 x1 x2 x4 (ix4 k l g j) : EReal)
      = ∑ p : Fin 64, dxd (steps x1 k g j) (rate x2 g j) (ys x4 k g j) (bs x0 k g) (cs x0 k g) l p * xs x0 k g j l p
        + dda (steps x1 k g j) (rate x2 g j) (xs x0 k g j) (ys x4 k g j) (bs x0 k g) (cs x0 k g) l * rate x2 g j := by
  rw [← dda_apply x0 x1 x2 x4 k g j h0 h1 h2 h4]
  pointwise [val_main_v86, val_main_v85, val_main_v84, val_main_v79, val_main_v75, val_main_v74, val_main_v73, val_main_v51, val_main_v10, val_main_cst_8, val_main_cst_9]
  rw [Fintype.sum_unique]
  exact congrArg₂ _ (Finset.sum_congr rfl fun p _ => by rw [x_apply, dxd_apply, mul_comm]) (by rw [rate_apply])

/-- The sum of the gradients of the decay exponents against the step sizes. -/
theorem dal_sum : (val_main_v87 (F := Ideal) x0 x1 x2 x4 (ix2 g j) : EReal)
    = ∑ k : Fin 128, ∑ l : Fin 64, dda (steps x1 k g j) (rate x2 g j) (xs x0 k g j) (ys x4 k g j) (bs x0 k g) (cs x0 k g) l * steps x1 k g j l := by
  have e : (val_main_v82 (F := Ideal) x0 x1 x2 x4 (ix2 g j) : EReal)
      = ∑ k : Fin 128, ∑ l : Fin 64, dda (steps x1 k g j) (rate x2 g j) (xs x0 k g j) (ys x4 k g j) (bs x0 k g) (cs x0 k g) l * steps x1 k g j l := by
    refine (reduce_01 _ _ _ g j).trans ?_
    rw [show (val_main_cst_10 (F := Ideal) (Shape.Idx.first Gen.h_S_) : EReal) = 0 from by pointwise [val_main_cst_10], zero_add]
    refine Finset.sum_congr rfl fun k _ => Finset.sum_congr rfl fun l _ => ?_
    rw [← dda_apply x0 x1 x2 x4 k g j h0 h1 h2 h4, ← d_apply, mul_comm]
    pointwise [val_main_v81]
  rw [← e]
  refine (reduce_01 _ _ _ g j).trans ?_
  rw [show (val_main_cst_11 (F := Ideal) (Shape.Idx.first Gen.h_S_) : EReal) = 0 from by pointwise [val_main_cst_11], zero_add,
    Fintype.sum_unique, Fintype.sum_unique]
  pointwise [val_main_v83]

/-- The gradient of the logarithm of the decay rate. -/
theorem dal_apply : (val_main_v103 (F := Ideal) x0 x1 x2 x4 (ix3 (head g j) 0 0) : EReal)
    = ∑ k : Fin 128, (∑ l : Fin 64, dda (steps x1 k g j) (rate x2 g j) (xs x0 k g j) (ys x4 k g j) (bs x0 k g) (cs x0 k g) l * steps x1 k g j l)
        * rate x2 g j := by
  have hr : ∀ k, IsReal (∑ l : Fin 64, dda (steps x1 k g j) (rate x2 g j) (xs x0 k g j) (ys x4 k g j) (bs x0 k g) (cs x0 k g) l * steps x1 k g j l) :=
    fun k => .sum _ fun l => (dda_real (fun l s => e_real (fun _ => h1 _) (h2 _).exp.neg (fun _ _ => h0 _) (fun _ _ => h4 _) (fun _ _ => h0 _) (fun _ _ => h0 _) l s) l).mul (h1 _)
  rw [sum_mul _ hr (h2 _).exp.neg, ← dal_sum x0 x1 x2 x4 g j h0 h1 h2 h4, mul_neg, ← EReal.neg_mul]
  pointwise [val_main_v103, val_main_v90, val_main_v89, val_main_v88, val_main_v7]
  rw [head_split]

end Real

/-! The results, as the call lays them out. -/

theorem dx_out (l p : Fin 64) : (val_main_v96 (F := Ideal) x0 x1 x2 x3 x4 (ix3 (head g j) (tok k l) p) : EReal)
    = val_main_v78 (F := Ideal) x0 x1 x2 x3 x4 (ix5 k l g j p) := by
  pointwise [val_main_v96, val_main_v95, val_main_v94]

theorem ddt_out (l : Fin 64) : (val_main_v98 (F := Ideal) x0 x1 x2 x4 (ix3 (head g j) (tok k l) 0) : EReal)
    = val_main_v86 (F := Ideal) x0 x1 x2 x4 (ix4 k l g j) := by
  pointwise [val_main_v98, val_main_v97, val_main_v91]

theorem db_out (l : Fin 64) (n : Fin 128) : (val_main_v100 (F := Ideal) x0 x1 x2 x4 (ix3 g (tok k l) n) : EReal)
    = val_main_v59 (F := Ideal) x0 x1 x2 x4 (ix4 k l g n) := by
  pointwise [val_main_v100, val_main_v99, val_main_v93]

theorem dc_out (l : Fin 64) (n : Fin 128) : (val_main_v102 (F := Ideal) x0 x1 x2 x4 (ix3 g (tok k l) n) : EReal)
    = val_main_v61 (F := Ideal) x0 x1 x2 x4 (ix4 k l g n) := by
  pointwise [val_main_v102, val_main_v101, val_main_v92]

end Cert.Reference6Ideal.Ssd

end
-- ==== Proof.Gate.lean ====
module

public import proofs.«01_k».proof.Proof.Gen.KernelIdeal.Value
public import proofs.«01_k».proof.Proof.Gen.ReferenceIdeal.Read
public import proofs.«01_k».proof.Defs
public import proofs.«01_k».proof.Proof.Gen.Pre_precondition
public import Idealize.ShloMosaic.Lib.KernelVsHost
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Gate

/-- The logistic function. -/
abbrev sigm (g : EReal) : EReal := Ideal.div 1 (1 + Ideal.exp (-g))

/-- The logistic function of a real number is a real number. -/
theorem sigm_coe (g : ℝ) : sigm (g : EReal) = ((1 + Real.exp (-g))⁻¹ : ℝ) := by
  have h : (1 + Real.exp (-g)) ≠ 0 := by positivity
  show Ideal.div 1 (1 + Ideal.exp (-(g : EReal))) = _
  rw [← EReal.coe_neg, Ideal.exp_coe, ← EReal.coe_one, ← EReal.coe_add, Ideal.div_coe h, EReal.coe_one, one_mul, one_div]

theorem sigm_top : sigm ⊤ = 1 := by
  show Ideal.div 1 (1 + Ideal.exp (-⊤)) = 1
  rw [EReal.neg_top, Ideal.exp_bot, add_zero, ← EReal.coe_one, Ideal.div_coe one_ne_zero]
  simp

theorem sigm_bot : sigm ⊥ = 0 := by
  show Ideal.div 1 (1 + Ideal.exp (-⊥)) = 0
  rw [EReal.neg_bot, Ideal.exp_top, ← EReal.coe_one, EReal.coe_add_top]
  simp [Ideal.div]

/-- The derivative of the gate `g * sigm g` times a finite number: in one product, as the kernel has it, and by the product rule,
    at every extended real `g`. -/
theorem gate_eq (c : ℝ) (g : EReal) :
    (c : EReal) * (sigm g * (1 + g * (1 - sigm g))) = c * sigm g + g * c * (sigm g * (1 - sigm g)) := by
  induction g with
  | bot => rw [sigm_bot]; simp
  | top => rw [sigm_top, show (1 : EReal) - 1 = 0 from by rw [← EReal.coe_one, ← EReal.coe_sub, sub_self, EReal.coe_zero]]; simp
  | coe g =>
    rw [sigm_coe, ← EReal.coe_one]
    norm_cast
    ring

/-- The same at equal arguments, the factor written as a product of finite numbers. -/
theorem gate_congr {A U G a u g : EReal} {p q : ℝ} (hp : A = p) (hq : U = q) (ha : a = A) (hu : u = U) (hg : g = G) :
    a * u * (sigm g * (1 + g * (1 - sigm g))) = A * U * sigm G + G * (A * U) * (sigm G * (1 - sigm G)) := by
  subst ha hu hg
  rw [hp, hq, ← EReal.coe_mul]
  exact gate_eq _ _

/-- The product of the gate with its factor, at equal arguments. -/
theorem up_congr {A G a g : EReal} (ha : a = A) (hg : g = G) : a * (g * sigm g) = G * sigm G * A := by
  subst ha hg
  exact mul_comm _ _

end Cert.Gate

namespace Cert.KernelIdeal.Gate

open Cert.KernelIdeal Cert.KernelIdeal.Gen

variable (m : (ℓ : Loc nD τ sig) → Buf (Elt Ideal) ℓ)

/-- The reference's term, over the activation's gradient and the saved gate and up-projection. -/
abbrev REF (A : FVec Ideal S2x8192x2752 .bf16) (U : FVec Ideal S2x2x8192x2752 .bf16) : FVec Ideal S2x2x8192x2752 .bf16 :=
  Cert.ReferenceIdeal.Read.val_main_v15 (F := Ideal) A U

/-- The first stored piece at an index: the gradient with respect to the gate. -/
theorem gate_apply (a : FVec Ideal S1x256x2752 .bf16) (g u : FVec Ideal S1x1x256x2752 .bf16) (r : Fin 256) (n : Fin 2752) :
    (k0_pay4 (F := Ideal) a g u (ix4 0 0 r n) : EReal) = a (ix3 0 r n) * u (ix4 0 0 r n)
      * (Cert.Gate.sigm (g (ix4 0 0 r n)) * (1 + g (ix4 0 0 r n) * (1 - Cert.Gate.sigm (g (ix4 0 0 r n))))) := by
  pointwise [k0_pay4, k0_pay3, k0_pay2, zero_sub]

/-- The second stored piece at an index: the gradient with respect to the up-projection. -/
theorem up_apply (a : FVec Ideal S1x256x2752 .bf16) (g : FVec Ideal S1x1x256x2752 .bf16) (r : Fin 256) (n : Fin 2752) :
    (k0_pay1 (F := Ideal) (k0_pay2 a) (k0_pay3 g) (k0_pay5 g) k0_pay6 (ix4 0 0 r n) : EReal)
      = a (ix3 0 r n) * (g (ix4 0 0 r n) * Cert.Gate.sigm (g (ix4 0 0 r n))) := by
  pointwise [k0_pay1, k0_pay2, k0_pay3, k0_pay5, k0_pay6, zero_sub]

/-- The reference's first part at an index. -/
theorem ref_gate (A : FVec Ideal S2x8192x2752 .bf16) (U : FVec Ideal S2x2x8192x2752 .bf16) (s : Fin 2) (r : Fin 8192) (n : Fin 2752) :
    (REF A U (ix4 0 s r n) : EReal) = A (ix3 s r n) * U (ix4 1 s r n) * Cert.Gate.sigm (U (ix4 0 s r n))
      + U (ix4 0 s r n) * (A (ix3 s r n) * U (ix4 1 s r n)) * (Cert.Gate.sigm (U (ix4 0 s r n)) * (1 - Cert.Gate.sigm (U (ix4 0 s r n)))) := by
  pointwise [REF, Cert.ReferenceIdeal.Read.val_main_v15, Cert.ReferenceIdeal.Read.val_main_v14, Cert.ReferenceIdeal.Read.val_main_v13, Cert.ReferenceIdeal.Read.val_main_v12,
    Cert.ReferenceIdeal.Read.val_main_v11, Cert.ReferenceIdeal.Read.val_main_call1_v2, Cert.ReferenceIdeal.Read.val_main_call1_v1, Cert.ReferenceIdeal.Read.val_main_call1_v0,
    Cert.ReferenceIdeal.Read.val_main_v10, Cert.ReferenceIdeal.Read.val_main_v9, Cert.ReferenceIdeal.Read.val_main_v8, Cert.ReferenceIdeal.Read.val_main_v6_0,
    Cert.ReferenceIdeal.Read.val_main_v6_1, Cert.ReferenceIdeal.Read.val_main_v6_2, Cert.ReferenceIdeal.Read.val_main_v5, Cert.ReferenceIdeal.Read.val_main_v4,
    Cert.ReferenceIdeal.Read.val_main_v3, Cert.ReferenceIdeal.Read.val_main_v2, Cert.ReferenceIdeal.Read.val_main_v1, Cert.ReferenceIdeal.Read.val_main_v0,
    Cert.ReferenceIdeal.Read.val_main_call0_v0, Cert.ReferenceIdeal.Read.val_main_call0_v1, Cert.ReferenceIdeal.Read.val_main_call0_v2, Cert.ReferenceIdeal.Read.val_main_call0_v3,
    Cert.ReferenceIdeal.Read.val_main_call0_v4, Cert.ReferenceIdeal.Read.val_main_call0_v6, Cert.ReferenceIdeal.Read.val_main_call0_v7, Cert.ReferenceIdeal.Read.val_main_call0_cst,
    Cert.ReferenceIdeal.Read.val_main_call0_cst_0, Cert.ReferenceIdeal.Read.val_main_call0_cst_1]

/-- The reference's second part at an index. -/
theorem ref_up (A : FVec Ideal S2x8192x2752 .bf16) (U : FVec Ideal S2x2x8192x2752 .bf16) (s : Fin 2) (r : Fin 8192) (n : Fin 2752) :
    (REF A U (ix4 1 s r n) : EReal) = U (ix4 0 s r n) * Cert.Gate.sigm (U (ix4 0 s r n)) * A (ix3 s r n) := by
  pointwise [REF, Cert.ReferenceIdeal.Read.val_main_v15, Cert.ReferenceIdeal.Read.val_main_v14, Cert.ReferenceIdeal.Read.val_main_v13, Cert.ReferenceIdeal.Read.val_main_v12,
    Cert.ReferenceIdeal.Read.val_main_v11, Cert.ReferenceIdeal.Read.val_main_call1_v2, Cert.ReferenceIdeal.Read.val_main_call1_v1, Cert.ReferenceIdeal.Read.val_main_call1_v0,
    Cert.ReferenceIdeal.Read.val_main_v10, Cert.ReferenceIdeal.Read.val_main_v9, Cert.ReferenceIdeal.Read.val_main_v8, Cert.ReferenceIdeal.Read.val_main_v6_0,
    Cert.ReferenceIdeal.Read.val_main_v6_1, Cert.ReferenceIdeal.Read.val_main_v6_2, Cert.ReferenceIdeal.Read.val_main_v5, Cert.ReferenceIdeal.Read.val_main_v4,
    Cert.ReferenceIdeal.Read.val_main_v3, Cert.ReferenceIdeal.Read.val_main_v2, Cert.ReferenceIdeal.Read.val_main_v1, Cert.ReferenceIdeal.Read.val_main_v0,
    Cert.ReferenceIdeal.Read.val_main_call0_v0, Cert.ReferenceIdeal.Read.val_main_call0_v1, Cert.ReferenceIdeal.Read.val_main_call0_v2, Cert.ReferenceIdeal.Read.val_main_call0_v3,
    Cert.ReferenceIdeal.Read.val_main_call0_v4, Cert.ReferenceIdeal.Read.val_main_call0_v6, Cert.ReferenceIdeal.Read.val_main_call0_v7, Cert.ReferenceIdeal.Read.val_main_call0_cst,
    Cert.ReferenceIdeal.Read.val_main_call0_cst_0, Cert.ReferenceIdeal.Read.val_main_call0_cst_1]

/-- The blocks of every grid point. -/
theorem idx : ∀ t : Fin cfg0.N, win0_0.index t = ![t.val / 32, t.val % 32, 0] ∧ win0_1.index t = ![0, t.val / 32, t.val % 32, 0]
    ∧ win0_2.index t = ![0, t.val / 32, t.val % 32, 0] := (by decide +kernel : ∀ t : Fin grid0.N, _)

/-- The activation's gradient. -/
abbrev da (c : Dev nD) : FVec Ideal S2x8192x2752 .bf16 := m ((c : Thread nD τ).loc main_arg0)
/-- The saved gate and up-projection. -/
abbrev u4 (c : Dev nD) : FVec Ideal S2x2x8192x2752 .bf16 := m ((c : Thread nD τ).loc main_arg1)

/-- A value whose absolute value is below +∞ is a real number. -/
theorem finite_of (x : Ideal .f32) (h : FloatOps.cmpf .olt (FloatOps.hostAbsf x) (FloatOps.ofBits (F := Ideal) .f32 0x7F800000#32) = 1#1) :
    ∃ r : ℝ, (x : EReal) = r := by
  rw [← Ideal.xori_weird_eq_hostAbsf_olt_inf] at h
  change IntOp.xori (BitVec.ofBool (decide ((x : EReal) = ⊤ ∨ (x : EReal) = ⊥))) 1#1 = 1#1 at h
  by_cases hx : (x : EReal) = ⊤ ∨ (x : EReal) = ⊥
  · simp [hx, IntOp.xori] at h
  · push Not at hx
    exact ⟨(x : EReal).toReal, (EReal.coe_toReal hx.1 hx.2).symm⟩

/-- The precondition's first half: the activation's gradient is finite. -/
theorem da_finite (h : Cert.Pre_KernelIdeal_precondition m) (c : Dev nD) (i : S2x8192x2752.Idx) : ∃ x : ℝ, da m c i = (x : EReal) :=
  finite_of _ (congrFun (h c).1 i)

/-- The precondition's second half: the up-projection is finite. -/
theorem u4_finite (h : Cert.Pre_KernelIdeal_precondition m) (c : Dev nD) (s : Fin 2) (r : Fin 8192) (n : Fin 2752) :
    ∃ x : ℝ, u4 m c (ix4 1 s r n) = (x : EReal) := by
  obtain ⟨x, hx⟩ := finite_of _ (congrFun (h c).2 (ix3 s r n))
  refine ⟨x, Eq.trans ?_ hx⟩
  symm
  pointwise

/-- The array after the run is the reference's term, where the activation's gradient and the up-projection are finite. -/
theorem final (c : Dev nD) (ha : ∀ i, ∃ x : ℝ, da m c i = (x : EReal)) (hu : ∀ s r n, ∃ x : ℝ, u4 m c (ix4 1 s r n) = (x : EReal)) :
    (dats m 0 c).arrAt 2 (cfgs 0).N = REF (da m c) (u4 m c) := by
  refine (dats m 0 c).arrAt_eq_of_covers 2 _ (by decide +kernel) fun t _ y => ?_
  have ht : t.val < 64 := lt_of_lt_of_eq t.isLt (show cfg0.N = 64 from N_0)
  obtain_idx i : S2x2x8192x2752 := [(y 0 : ℕ), t.val / 32, t.val % 32 * 256 + (y 2 : ℕ), (y 3 : ℕ)] with hi
  blk_simp
  rw [after0_2]
  refine Eq.trans (b := REF (da m c) (u4 m c) i) ?_ (congrArg (REF (da m c) (u4 m c)) (by blk_ext [idx t]))
  unfold out0_2
  canon_tiles x h
  · have ei : i = ix4 1 ⟨t.val / 32, by omega⟩ ⟨t.val % 32 * 256 + (x 2).val, by omega⟩ (x 3) := by blk_ext
    have ex : x = ix4 0 0 (x 2) (x 3) := by blk_ext
    rw [ei]
    refine (congrArg _ ex).trans ((up_apply _ _ _ _).trans ((Cert.Gate.up_congr ?_ ?_).trans (ref_up _ _ _ _ _).symm))
    · blk_point [iblk, V, idx t]
    · blk_point [iblk, V, idx t]
  · have ei : i = ix4 0 ⟨t.val / 32, by omega⟩ ⟨t.val % 32 * 256 + (x 2).val, by omega⟩ (x 3) := by blk_ext
    have ex : x = ix4 0 0 (x 2) (x 3) := by blk_ext
    rw [ei]
    obtain ⟨p, hp⟩ := ha (ix3 ⟨t.val / 32, by omega⟩ ⟨t.val % 32 * 256 + (x 2).val, by omega⟩ (x 3))
    obtain ⟨q, hq⟩ := hu ⟨t.val / 32, by omega⟩ ⟨t.val % 32 * 256 + (x 2).val, by omega⟩ (x 3)
    refine (congrArg _ ex).trans ((gate_apply _ _ _ _ _).trans ((Cert.Gate.gate_congr hp hq ?_ ?_ ?_).trans (ref_gate _ _ _ _ _).symm))
    · blk_point [iblk, V, idx t]
    · blk_point [iblk, V, idx t]
    · blk_point [iblk, V, idx t]

end Cert.KernelIdeal.Gate

end
-- ==== Proof.Ssd.lean ====
module

public import proofs.«01_k».proof.Proof.Gen.Kernel6Ideal.Value
public import proofs.«01_k».proof.Proof.SsdKernel
public import proofs.«01_k».proof.Proof.SsdRef
public import proofs.«01_k».proof.Proof.Gen.Pre_ssd_finite
public import proofs.«01_k».proof.Proof.Gate
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel6Ideal.Ssd

open Cert.Kernel6Ideal Cert.Kernel6Ideal.Gen Cert.Ssd
open Cert.Reference6Ideal.Ssd (tok head col xs ys bs cs)

variable (m : (ℓ : Loc nD τ sig) → Buf (Elt Ideal) ℓ)

/-- The mixer's input with its state vectors. -/
abbrev xbc (c : Dev nD) : FVec Ideal S8192x3072 .f32 := m ((c : Thread nD τ).loc main_arg0)
/-- The step sizes. -/
abbrev dt (c : Dev nD) : FVec Ideal S8192x32 .f32 := m ((c : Thread nD τ).loc main_arg1)
/-- The logarithms of the decay rates. -/
abbrev alog (c : Dev nD) : FVec Ideal S32 .f32 := m ((c : Thread nD τ).loc main_arg2)
/-- The skip weights. -/
abbrev skip (c : Dev nD) : FVec Ideal S32 .f32 := m ((c : Thread nD τ).loc main_arg3)
/-- The incoming gradient. -/
abbrev dy (c : Dev nD) : FVec Ideal S8192x2048 .f32 := m ((c : Thread nD τ).loc main_arg4)

/-! What the host prepares, at an index. -/

theorem x_host (c : Dev nD) (k : Fin 128) (g : Fin 4) (j : Fin 8) (l p : Fin 64) :
    ((show FVec Ideal S32x8192x64 .f32 from V m c main_v8) (ix3 (head g j) (tok k l) p) : EReal) = xs (xbc m c) k g j l p := by
  entry_read
  pointwise
  blk_point

theorem y_host (c : Dev nD) (k : Fin 128) (g : Fin 4) (j : Fin 8) (l p : Fin 64) :
    ((show FVec Ideal S32x8192x64 .f32 from V m c main_v10) (ix3 (head g j) (tok k l) p) : EReal) = ys (dy m c) k g j l p := by
  entry_read
  pointwise
  blk_point

theorem dtc_host (c : Dev nD) (k : Fin 128) (g : Fin 4) (j : Fin 8) (l : Fin 64) :
    ((show FVec Ideal S32x8192x1 .f32 from V m c main_v3) (ix3 (head g j) (tok k l) 0) : EReal) = Cert.Reference6Ideal.Ssd.steps (dt m c) k g j l := by
  entry_read
  pointwise

theorem dtr_host (c : Dev nD) (k : Fin 128) (g : Fin 4) (j : Fin 8) (l : Fin 64) :
    ((show FVec Ideal S32x128x1x64 .f32 from V m c main_v1) (ix4 (head g j) k 0 l) : EReal) = Cert.Reference6Ideal.Ssd.steps (dt m c) k g j l := by
  entry_read
  pointwise

theorem al_host (c : Dev nD) (g : Fin 4) (j : Fin 8) :
    ((show FVec Ideal S32x1x1 .f32 from V m c main_v4) (ix3 (head g j) 0 0) : EReal) = alog m c (ix1 (head g j)) := by
  entry_read
  pointwise

theorem ds_host (c : Dev nD) (g : Fin 4) (j : Fin 8) :
    ((show FVec Ideal S32x1x1 .f32 from V m c main_v5) (ix3 (head g j) 0 0) : EReal) = skip m c (ix1 (head g j)) := by
  entry_read
  pointwise

/-- The blocks of every grid point: a group of eight heads and a chunk of 64 tokens. -/
theorem idx : ∀ t : Fin cfg0.N, win0_0.index t = ![t.val / 128, t.val % 128, 0] ∧ win0_1.index t = ![t.val % 128, 16 + t.val / 128]
    ∧ win0_2.index t = ![t.val % 128, 20 + t.val / 128] ∧ win0_3.index t = ![t.val / 128, t.val % 128, 0]
    ∧ win0_4.index t = ![t.val / 128, t.val % 128, 0, 0] ∧ win0_5.index t = ![t.val / 128, 0, 0] ∧ win0_6.index t = ![t.val / 128, 0, 0]
    ∧ win0_7.index t = ![t.val / 128, t.val % 128, 0] ∧ win0_8.index t = ![t.val / 128, t.val % 128, 0]
    ∧ win0_9.index t = ![t.val / 128, t.val % 128, 0] ∧ win0_10.index t = ![t.val / 128, t.val % 128, 0]
    ∧ win0_11.index t = ![t.val / 128, t.val % 128, 0] ∧ win0_12.index t = ![t.val / 128, 0, 0]
    ∧ win0_13.index t = ![t.val / 128, 0, 0] := (by decide +kernel : ∀ t : Fin grid0.N, _)

/-- A point's chunk. -/
abbrev chunk (t : Fin cfg0.N) : Fin 128 := ⟨t.val % 128, Nat.mod_lt _ (by norm_num)⟩
/-- A point's group of heads. -/
abbrev group (t : Fin cfg0.N) : Fin 4 := ⟨t.val / 128, by have := lt_of_lt_of_eq t.isLt (show cfg0.N = 512 from N_0); omega⟩

/-! A point's blocks. -/

abbrev xB (c : Dev nD) (t : Fin cfg0.N) : FVec Ideal S8x64x64 .f32 := iblk m c 0 t
abbrev bB (c : Dev nD) (t : Fin cfg0.N) : FVec Ideal S64x128 .f32 := iblk m c 1 t
abbrev cB (c : Dev nD) (t : Fin cfg0.N) : FVec Ideal S64x128 .f32 := iblk m c 2 t
abbrev dB (c : Dev nD) (t : Fin cfg0.N) : FVec Ideal S8x64x1 .f32 := iblk m c 3 t
abbrev rB (c : Dev nD) (t : Fin cfg0.N) : FVec Ideal S8x1x1x64 .f32 := iblk m c 4 t
abbrev aB (c : Dev nD) (t : Fin cfg0.N) : FVec Ideal S8x1x1 .f32 := iblk m c 5 t
abbrev sB (c : Dev nD) (t : Fin cfg0.N) : FVec Ideal S8x1x1 .f32 := iblk m c 6 t
abbrev yB (c : Dev nD) (t : Fin cfg0.N) : FVec Ideal S8x64x64 .f32 := iblk m c 7 t

theorem x_blk (c : Dev nD) (t : Fin cfg0.N) (j : Fin 8) (l p : Fin 64) : (xB m c t (ix3 j l p) : EReal) = xs (xbc m c) (chunk t) (group t) j l p := by
  rw [← x_host]
  blk_point [iblk, idx t]

theorem b_blk (c : Dev nD) (t : Fin cfg0.N) (l : Fin 64) (n : Fin 128) : (bB m c t (ix2 l n) : EReal) = bs (xbc m c) (chunk t) (group t) l n := by
  blk_point [iblk, V, idx t]

theorem c_blk (c : Dev nD) (t : Fin cfg0.N) (l : Fin 64) (n : Fin 128) : (cB m c t (ix2 l n) : EReal) = cs (xbc m c) (chunk t) (group t) l n := by
  blk_point [iblk, V, idx t]

theorem d_blk (c : Dev nD) (t : Fin cfg0.N) (j : Fin 8) (l : Fin 64) :
    (dB m c t (ix3 j l 0) : EReal) = Cert.Reference6Ideal.Ssd.steps (dt m c) (chunk t) (group t) j l := by
  rw [← dtc_host]
  blk_point [iblk, idx t]

theorem r_blk (c : Dev nD) (t : Fin cfg0.N) (j : Fin 8) (l : Fin 64) :
    (rB m c t (ix4 j 0 0 l) : EReal) = Cert.Reference6Ideal.Ssd.steps (dt m c) (chunk t) (group t) j l := by
  rw [← dtr_host]
  blk_point [iblk, idx t]

theorem a_blk (c : Dev nD) (t : Fin cfg0.N) (j : Fin 8) : (aB m c t (ix3 j 0 0) : EReal) = alog m c (ix1 (head (group t) j)) := by
  rw [← al_host]
  blk_point [iblk, idx t]

theorem s_blk (c : Dev nD) (t : Fin cfg0.N) (j : Fin 8) : (sB m c t (ix3 j 0 0) : EReal) = skip m c (ix1 (head (group t) j)) := by
  rw [← ds_host]
  blk_point [iblk, idx t]

theorem y_blk (c : Dev nD) (t : Fin cfg0.N) (j : Fin 8) (l p : Fin 64) : (yB m c t (ix3 j l p) : EReal) = ys (dy m c) (chunk t) (group t) j l p := by
  rw [← y_host]
  blk_point [iblk, idx t]

theorem hr (c : Dev nD) (t : Fin cfg0.N) (h : Fin 8) (s : Fin 64) : (rB m c t (ix4 h 0 0 s) : EReal) = dB m c t (ix3 h s 0) :=
  (r_blk m c t h s).trans (d_blk m c t h s).symm

theorem steps_eq (c : Dev nD) (t : Fin cfg0.N) (j : Fin 8) : steps (dB m c t) j = Cert.Reference6Ideal.Ssd.steps (dt m c) (chunk t) (group t) j :=
  funext (d_blk m c t j)
theorem rate_eq (c : Dev nD) (t : Fin cfg0.N) (j : Fin 8) : rate (aB m c t) j = Cert.Reference6Ideal.Ssd.rate (alog m c) (group t) j :=
  congrArg (fun x => -Ideal.exp x) (a_blk m c t j)
theorem x_eq (c : Dev nD) (t : Fin cfg0.N) (j : Fin 8) : rows (xB m c t) j = xs (xbc m c) (chunk t) (group t) j :=
  funext fun l => funext (x_blk m c t j l)
theorem y_eq (c : Dev nD) (t : Fin cfg0.N) (j : Fin 8) : rows (yB m c t) j = ys (dy m c) (chunk t) (group t) j :=
  funext fun l => funext (y_blk m c t j l)
theorem b_eq (c : Dev nD) (t : Fin cfg0.N) : states (bB m c t) = bs (xbc m c) (chunk t) (group t) :=
  funext fun l => funext (b_blk m c t l)
theorem c_eq (c : Dev nD) (t : Fin cfg0.N) : states (cB m c t) = cs (xbc m c) (chunk t) (group t) :=
  funext fun l => funext (c_blk m c t l)

/-! What a point stores. -/

theorem dx_pt (c : Dev nD) (t : Fin cfg0.N) (j : Fin 8) (l p : Fin 64) : ((outsAt0 m c t.val t.isLt).1 (ix3 j l p) : EReal)
    = Cert.Reference6Ideal.Read.val_main_v96 (F := Ideal) (xbc m c) (dt m c) (alog m c) (skip m c) (dy m c) (ix3 (head (group t) j) (tok (chunk t) l) p) := by
  rw [Cert.Reference6Ideal.Ssd.dx_out, Cert.Reference6Ideal.Ssd.dx_apply, ← steps_eq m c t j, ← rate_eq, ← y_eq, ← b_eq, ← c_eq, ← s_blk]
  by_cases h : t.val % 128 = 0
  · rw [outsAt0_A m c t h (by omega)]; frame_out; exact dx_eq _ _ _ _ _ _ _ (hr m c t) j l p
  · rw [outsAt0_B m c t h (by omega)]; frame_out; exact dx_eq _ _ _ _ _ _ _ (hr m c t) j l p

theorem db_pt (c : Dev nD) (t : Fin cfg0.N) (l : Fin 64) (n : Fin 128) : ((outsAt0 m c t.val t.isLt).2.2.1 (ix3 0 l n) : EReal)
    = Cert.Reference6Ideal.Read.val_main_v100 (F := Ideal) (xbc m c) (dt m c) (alog m c) (dy m c) (ix3 (group t) (tok (chunk t) l) n) := by
  rw [Cert.Reference6Ideal.Ssd.db_out, Cert.Reference6Ideal.Ssd.db_apply]
  simp only [← steps_eq m c t, ← rate_eq m c t, ← x_eq m c t, ← y_eq m c t, ← c_blk m c t]
  by_cases h : t.val % 128 = 0
  · rw [outsAt0_A m c t h (by omega)]; frame_out; exact db_eq _ _ _ _ _ _ (hr m c t) l n
  · rw [outsAt0_B m c t h (by omega)]; frame_out; exact db_eq _ _ _ _ _ _ (hr m c t) l n

theorem dc_pt (c : Dev nD) (t : Fin cfg0.N) (l : Fin 64) (n : Fin 128) : ((outsAt0 m c t.val t.isLt).2.2.2.1 (ix3 0 l n) : EReal)
    = Cert.Reference6Ideal.Read.val_main_v102 (F := Ideal) (xbc m c) (dt m c) (alog m c) (dy m c) (ix3 (group t) (tok (chunk t) l) n) := by
  rw [Cert.Reference6Ideal.Ssd.dc_out, Cert.Reference6Ideal.Ssd.dc_apply]
  simp only [← steps_eq m c t, ← rate_eq m c t, ← x_eq m c t, ← y_eq m c t, ← b_blk m c t]
  by_cases h : t.val % 128 = 0
  · rw [outsAt0_A m c t h (by omega)]; frame_out; exact dc_eq _ _ _ _ _ _ (hr m c t) l n
  · rw [outsAt0_B m c t h (by omega)]; frame_out; exact dc_eq _ _ _ _ _ _ (hr m c t) l n

/-- The chunk of a point of a group's run. -/
theorem chunk_run (t : Fin cfg0.N) (s : Fin 128) (h : 128 * (t.val / 128) + s.val < cfg0.N) : chunk ⟨128 * (t.val / 128) + s.val, h⟩ = s :=
  Fin.ext (by show (128 * (t.val / 128) + s.val) % 128 = s.val; omega)
/-- The group of a point of a group's run. -/
theorem group_run (t : Fin cfg0.N) (s : Fin 128) (h : 128 * (t.val / 128) + s.val < cfg0.N) : group ⟨128 * (t.val / 128) + s.val, h⟩ = group t :=
  Fin.ext (by show (128 * (t.val / 128) + s.val) / 128 = t.val / 128; omega)

/-- What a chunk adds to the gradient of the decay rates. -/
abbrev dalB (c : Dev nD) (t : Fin cfg0.N) : FVec Ideal S8x1x1 .f32 :=
  k0_pay3 (F := Ideal) (k0_pay7 (aB m c t)) (k0_pay8 (dB m c t)) (dcums (xB m c t) (yB m c t) (bB m c t) (cB m c t) (dB m c t) (rB m c t) (aB m c t))
    (Scalar.ofBits .f32 0x00000000#32) (k0_pay31 k0_pay13)

/-- What a chunk adds to the gradient of the skip weights. -/
abbrev ddsB (c : Dev nD) (t : Fin cfg0.N) : FVec Ideal S8x1x1 .f32 := k0_pay4 (F := Ideal) (k0_pay19 (xB m c t)) (k0_pay20 (yB m c t))

theorem dds_pt (c : Dev nD) (t : Fin cfg0.N) (ht : t.val % 128 = 127) (j : Fin 8) : ((outsAt0 m c t.val t.isLt).2.2.2.2.2 (ix3 j 0 0) : EReal)
    = Cert.Reference6Ideal.Read.val_main_v104 (F := Ideal) (xbc m c) (dy m c) (ix3 (head (group t) j) 0 0) := by
  rw [Cert.Reference6Ideal.Ssd.dds_apply]
  refine (Pipeline.eq_sum_fin_of_reset_step_apply_of_flush (fun n h => (outsAt0 m c n h).2.2.2.2.2) 128 (fun _ => (0 : EReal)) (ddsB m c)
    (fun t h j => by rw [outsAt0_A m c t h (by omega)]; frame_out; exact (zero_add _).symm)
    (fun t h j => by rw [outsAt0_B m c t h (by omega)]; frame_out; exact dds_step _ _ _ j)
    t ht _).trans ?_
  rw [zero_add]
  refine Finset.sum_congr rfl fun s _ => ?_
  refine (dds_of _ _ j).trans (Finset.sum_congr rfl fun l _ => Finset.sum_congr rfl fun p _ => ?_)
  rw [x_blk, y_blk, chunk_run t s, group_run t s, mul_comm]

section Real

variable (c : Dev nD) (h0 : ∀ i, IsReal (xbc m c i)) (h1 : ∀ i, IsReal (dt m c i)) (h2 : ∀ i, IsReal (alog m c i)) (h4 : ∀ i, IsReal (dy m c i))
include h0 h1 h2 h4

theorem ddt_pt (t : Fin cfg0.N) (j : Fin 8) (l : Fin 64) : ((outsAt0 m c t.val t.isLt).2.1 (ix3 j l 0) : EReal)
    = Cert.Reference6Ideal.Read.val_main_v98 (F := Ideal) (xbc m c) (dt m c) (alog m c) (dy m c) (ix3 (head (group t) j) (tok (chunk t) l) 0) := by
  rw [Cert.Reference6Ideal.Ssd.ddt_out, Cert.Reference6Ideal.Ssd.ddt_apply _ _ _ _ _ _ _ h0 h1 h2 h4]
  rw [← steps_eq m c t, ← rate_eq m c t, ← x_eq m c t, ← y_eq m c t, ← b_eq m c t, ← c_eq m c t]
  by_cases h : t.val % 128 = 0
  · rw [outsAt0_A m c t h (by omega)]; frame_out; exact ddt_eq _ _ _ _ _ _ _ (hr m c t) j l
  · rw [outsAt0_B m c t h (by omega)]; frame_out; exact ddt_eq _ _ _ _ _ _ _ (hr m c t) j l

theorem dal_pt (t : Fin cfg0.N) (ht : t.val % 128 = 127) (j : Fin 8) : ((outsAt0 m c t.val t.isLt).2.2.2.2.1 (ix3 j 0 0) : EReal)
    = Cert.Reference6Ideal.Read.val_main_v103 (F := Ideal) (xbc m c) (dt m c) (alog m c) (dy m c) (ix3 (head (group t) j) 0 0) := by
  rw [Cert.Reference6Ideal.Ssd.dal_apply _ _ _ _ _ _ h0 h1 h2 h4]
  refine (Pipeline.eq_sum_fin_of_reset_step_apply_of_flush (fun n h => (outsAt0 m c n h).2.2.2.2.1) 128 (fun _ => (0 : EReal)) (dalB m c)
    (fun t h j => by rw [outsAt0_A m c t h (by omega)]; frame_out; exact (zero_add _).symm)
    (fun t h j => by rw [outsAt0_B m c t h (by omega)]; frame_out; exact dal_step _ _ _ _ _ _ j)
    t ht _).trans ?_
  rw [zero_add]
  refine Finset.sum_congr rfl fun s _ => ?_
  refine (dal_eq _ _ _ _ _ _ _ (hr m c _) j).trans ?_
  rw [steps_eq, rate_eq, x_eq, y_eq, b_eq, c_eq, chunk_run t s, group_run t s]
  exact congrArg (· * _) (Finset.sum_congr rfl fun l _ => by rw [d_blk, chunk_run t s, group_run t s])

/-- The gradient of the step sizes, as the reference has it. -/
theorem ddt_final : (dats m 0 c).arrAt 9 (cfgs 0).N = Cert.Reference6Ideal.Read.val_main_v98 (F := Ideal) (xbc m c) (dt m c) (alog m c) (dy m c) := by
  refine (dats m 0 c).arrAt_eq_of_covers 9 _ (by decide +kernel) fun t _ y => ?_
  have ey : y = ix3 (y 0) (y 1) 0 := by blk_ext
  blk_simp
  rw [after0_9]
  refine (congrArg _ ey).trans ((ddt_pt m c h0 h1 h2 h4 t (y 0) (y 1)).trans (congrArg _ ?_))
  blk_ext [idx t]

/-- The gradient of the logarithms of the decay rates, as the reference has it. -/
theorem dal_final : (dats m 0 c).arrAt 12 (cfgs 0).N = Cert.Reference6Ideal.Read.val_main_v103 (F := Ideal) (xbc m c) (dt m c) (alog m c) (dy m c) := by
  refine (dats m 0 c).arrAt_eq_of_covers 12 _ (by decide +kernel) fun t hf y => ?_
  have ey : y = ix3 (y 0) 0 0 := by blk_ext
  blk_simp
  rw [after0_12]
  refine (congrArg _ ey).trans ((dal_pt m c h0 h1 h2 h4 t ((flush0_12 t).mp hf) (y 0)).trans (congrArg _ ?_))
  blk_ext [idx t]

end Real

/-- The gradient of the input, as the reference has it. -/
theorem dx_final (c : Dev nD) : (dats m 0 c).arrAt 8 (cfgs 0).N
    = Cert.Reference6Ideal.Read.val_main_v96 (F := Ideal) (xbc m c) (dt m c) (alog m c) (skip m c) (dy m c) := by
  refine (dats m 0 c).arrAt_eq_of_covers 8 _ (by decide +kernel) fun t _ y => ?_
  have ey : y = ix3 (y 0) (y 1) (y 2) := by blk_ext
  blk_simp
  rw [after0_8]
  refine (congrArg _ ey).trans ((dx_pt m c t (y 0) (y 1) (y 2)).trans (congrArg _ ?_))
  blk_ext [idx t]

/-- The gradient of `B`, as the reference has it. -/
theorem db_final (c : Dev nD) : (dats m 0 c).arrAt 10 (cfgs 0).N
    = Cert.Reference6Ideal.Read.val_main_v100 (F := Ideal) (xbc m c) (dt m c) (alog m c) (dy m c) := by
  refine (dats m 0 c).arrAt_eq_of_covers 10 _ (by decide +kernel) fun t _ y => ?_
  have ey : y = ix3 0 (y 1) (y 2) := by blk_ext
  blk_simp
  rw [after0_10]
  refine (congrArg _ ey).trans ((db_pt m c t (y 1) (y 2)).trans (congrArg _ ?_))
  blk_ext [idx t]

/-- The gradient of `C`, as the reference has it. -/
theorem dc_final (c : Dev nD) : (dats m 0 c).arrAt 11 (cfgs 0).N
    = Cert.Reference6Ideal.Read.val_main_v102 (F := Ideal) (xbc m c) (dt m c) (alog m c) (dy m c) := by
  refine (dats m 0 c).arrAt_eq_of_covers 11 _ (by decide +kernel) fun t _ y => ?_
  have ey : y = ix3 0 (y 1) (y 2) := by blk_ext
  blk_simp
  rw [after0_11]
  refine (congrArg _ ey).trans ((dc_pt m c t (y 1) (y 2)).trans (congrArg _ ?_))
  blk_ext [idx t]

/-- The gradient of the skip weights, as the reference has it. -/
theorem dds_final (c : Dev nD) : (dats m 0 c).arrAt 13 (cfgs 0).N = Cert.Reference6Ideal.Read.val_main_v104 (F := Ideal) (xbc m c) (dy m c) := by
  refine (dats m 0 c).arrAt_eq_of_covers 13 _ (by decide +kernel) fun t hf y => ?_
  have ey : y = ix3 (y 0) 0 0 := by blk_ext
  blk_simp
  rw [after0_13]
  refine (congrArg _ ey).trans ((dds_pt m c t ((flush0_13 t).mp hf) (y 0)).trans (congrArg _ ?_))
  blk_ext [idx t]

/-- The precondition: the input, the step sizes, the logarithms of the decay rates and the incoming gradient are finite. -/
theorem finite (h : Cert.Pre_Kernel6Ideal_ssd_finite m) (c : Dev nD) :
    (∀ i, IsReal (xbc m c i)) ∧ (∀ i, IsReal (dt m c i)) ∧ (∀ i, IsReal (alog m c i)) ∧ (∀ i, IsReal (dy m c i)) :=
  ⟨fun i => Cert.KernelIdeal.Gate.finite_of _ (congrFun (h c).1 i), fun i => Cert.KernelIdeal.Gate.finite_of _ (congrFun (h c).2.1 i),
    fun i => Cert.KernelIdeal.Gate.finite_of _ (congrFun (h c).2.2.1 i), fun i => Cert.KernelIdeal.Gate.finite_of _ (congrFun (h c).2.2.2 i)⟩

end Cert.Kernel6Ideal.Ssd

end
-- ==== Proof.SsdRun.lean ====
module

public import proofs.«01_k».proof.Proof.Gen.Reference6Ideal
public import proofs.«01_k».proof.Proof.Gen.Reference6Ideal.Run
public import proofs.«01_k».proof.Proof.Gen.Reference6Ideal.Read
public import proofs.«01_k».proof.Proof.Ssd
public import Idealize.ShloMosaic.Lib.Claim

@[expose] public section

set_option maxRecDepth 16384
set_option maxHeartbeats 4000000

noncomputable section

open Idealize.ShloMosaic Idealize.ShloMosaic.TcCoe Idealize.SL.Sem

namespace Cert.Kernel6Ideal.Ssd

open Cert.Kernel6Ideal Cert.Kernel6Ideal.Gen
open Cert.Reference6Ideal.Read (val_main_v96 val_main_v98 val_main_v100 val_main_v102 val_main_v103 val_main_v104)

/-- The six arrays after a run of the kernel are the reference's, where the arguments are finite; the arguments stay as they were. -/
theorem kernel_run (m : (ℓ : Loc nD τ sig) → Buf (Elt Ideal) ℓ) (g : Dev nD → PrngReg) (hpre : Cert.Pre_Kernel6Ideal_ssd_finite m) :
    θ_run (defs (F := Ideal)) (onTc (τ := τ) (main (F := Ideal))) ⟨m, fun _ => 0, g⟩ (fun r => ∀ c : Dev nD,
      r.2.mem ((c.tc : Thread nD τ).loc main_v11_0) = val_main_v96 (F := Ideal) (xbc m c) (dt m c) (alog m c) (skip m c) (dy m c)
      ∧ r.2.mem ((c.tc : Thread nD τ).loc main_v11_1) = val_main_v98 (F := Ideal) (xbc m c) (dt m c) (alog m c) (dy m c)
      ∧ r.2.mem ((c.tc : Thread nD τ).loc main_v11_2) = val_main_v100 (F := Ideal) (xbc m c) (dt m c) (alog m c) (dy m c)
      ∧ r.2.mem ((c.tc : Thread nD τ).loc main_v11_3) = val_main_v102 (F := Ideal) (xbc m c) (dt m c) (alog m c) (dy m c)
      ∧ r.2.mem ((c.tc : Thread nD τ).loc main_v11_4) = val_main_v103 (F := Ideal) (xbc m c) (dt m c) (alog m c) (dy m c)
      ∧ r.2.mem ((c.tc : Thread nD τ).loc main_v11_5) = val_main_v104 (F := Ideal) (xbc m c) (dy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hf := finite m hpre
  run_from run_main m g
  · exact dx_final m c
  · exact ddt_final m c (hf c).1 (hf c).2.1 (hf c).2.2.1 (hf c).2.2.2
  · exact db_final m c
  · exact dc_final m c
  · exact dal_final m c (hf c).1 (hf c).2.1 (hf c).2.2.1 (hf c).2.2.2
  · exact dds_final m c

end Cert.Kernel6Ideal.Ssd

namespace Cert.Reference6Ideal.Ssd

open Cert.Reference6Ideal
open Cert.Reference6Ideal.Read (val_main_v96 val_main_v98 val_main_v100 val_main_v102 val_main_v103 val_main_v104)

/-- The six arrays of the reference after its run, as terms in its arguments; the arguments stay as they were. -/
theorem reference_run (m : (ℓ : Loc nD τ sig) → Buf (Elt Ideal) ℓ) (g : Dev nD → PrngReg)
    (x0 : Dev nD → FVec Ideal S8192x3072 .f32) (x1 : Dev nD → FVec Ideal S8192x32 .f32) (x2 x3 : Dev nD → FVec Ideal S32 .f32)
    (x4 : Dev nD → FVec Ideal S8192x2048 .f32)
    (h : ∀ c : Dev nD, m ((c.tc : Thread nD τ).loc main_arg0) = x0 c ∧ m ((c.tc : Thread nD τ).loc main_arg1) = x1 c
      ∧ m ((c.tc : Thread nD τ).loc main_arg2) = x2 c ∧ m ((c.tc : Thread nD τ).loc main_arg3) = x3 c ∧ m ((c.tc : Thread nD τ).loc main_arg4) = x4 c) :
    θ_run (defs (F := Ideal)) (onTc (τ := τ) (main (F := Ideal))) ⟨m, fun _ => 0, g⟩ (fun r => ∀ c : Dev nD,
      r.2.mem ((c.tc : Thread nD τ).loc main_v96) = val_main_v96 (F := Ideal) (x0 c) (x1 c) (x2 c) (x3 c) (x4 c)
      ∧ r.2.mem ((c.tc : Thread nD τ).loc main_v98) = val_main_v98 (F := Ideal) (x0 c) (x1 c) (x2 c) (x4 c)
      ∧ r.2.mem ((c.tc : Thread nD τ).loc main_v100) = val_main_v100 (F := Ideal) (x0 c) (x1 c) (x2 c) (x4 c)
      ∧ r.2.mem ((c.tc : Thread nD τ).loc main_v102) = val_main_v102 (F := Ideal) (x0 c) (x1 c) (x2 c) (x4 c)
      ∧ r.2.mem ((c.tc : Thread nD τ).loc main_v103) = val_main_v103 (F := Ideal) (x0 c) (x1 c) (x2 c) (x4 c)
      ∧ r.2.mem ((c.tc : Thread nD τ).loc main_v104) = val_main_v104 (F := Ideal) (x0 c) (x4 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r hr c => ?_) (Cert.Reference6Ideal.Value.run (F := Ideal) m g)
  obtain ⟨r0, r1, r2, r3, r4, r5, ra⟩ := hr c
  obtain ⟨e0, e1, e2, e3, e4⟩ := h c
  refine ⟨?_, ?_, ?_, ?_, ?_, ?_, ra⟩
  · rw [← e0, ← e1, ← e2, ← e3, ← e4]; exact r0.trans (Read.val_main_v96_eq _ _ _ _ _)
  · rw [← e0, ← e1, ← e2, ← e4]; exact r1.trans (Read.val_main_v98_eq m c)
  · rw [← e0, ← e1, ← e2, ← e4]; exact r2.trans (Read.val_main_v100_eq _ _ _ _)
  · rw [← e0, ← e1, ← e2, ← e4]; exact r3.trans (Read.val_main_v102_eq _ _ _ _)
  · rw [← e0, ← e1, ← e2, ← e4]; exact r4.trans (Read.val_main_v103_eq m c)
  · rw [← e0, ← e4]; exact r5.trans (Read.val_main_v104_eq _ _)

end Cert.Reference6Ideal.Ssd

end
-- ==== Proof.FfnIn.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.Product

open Cert.Kernel7Ideal Cert.Kernel7Ideal.Gen

variable (m : (ℓ : Loc nD τ sig) → Buf (Elt Ideal) ℓ)

/-- The fill that starts an accumulation is zero. -/
theorem zero_apply (j : S1024x2752.Idx) : k0_pay1 (F := Ideal) j = 0 := by pointwise [k0_pay1]

/-- One step adds the product of the two blocks. -/
theorem step_apply (acc : FVec Ideal S1024x2752 .f32) (x : FVec Ideal S1024x1024 .bf16) (w : FVec Ideal S1x1x1024x2752 .bf16) (j : S1024x2752.Idx) :
    k0_pay2 acc x w j = acc j + ∑ k : Fin 1024, x (ix2 (j 0) k) * w (ix4 0 0 k (j 1)) := by
  pointwise [k0_pay2]

/-- What is written back is the accumulated block. -/
theorem out_apply (acc : FVec Ideal S1024x2752 .f32) (j : S1x1024x2752.Idx) :
    (k0_pay3 (F := Ideal) acc j : EReal) = acc (ix2 (j 1) (j 2)) := by
  pointwise [k0_pay3]

/-- The blocks of every grid point. -/
theorem idx : ∀ t : Fin cfg0.N, win0_0.index t = ![t.val / 8, t.val % 2] ∧ win0_1.index t = ![0, t.val / 2 % 4, t.val % 2, 0]
    ∧ win0_2.index t = ![t.val / 2 % 4, t.val / 8, 0] := (by decide +kernel : ∀ t : Fin grid0.N, _)

/-- The reference's term, over the normalised input and the stacked weights. -/
abbrev REF (X : FVec Ideal S8192x2048 .bf16) (W : FVec Ideal S2x2048x11008 .bf16) : FVec Ideal S4x8192x2752 .bf16 :=
  Cert.Reference7Ideal.Read.val_main_v7 (F := Ideal) X W

/-- The reference's term at an index: one sum over the model's axis. -/
theorem ref_apply (X : FVec Ideal S8192x2048 .bf16) (W : FVec Ideal S2x2048x11008 .bf16) (s : Fin 4) (r : Fin 8192) (n : Fin 2752)
    (h : s.val * 2752 + n.val < 11008) :
    (REF X W (ix3 s r n) : EReal) = ∑ k : Fin 2048, X (ix2 r k) * W (ix3 0 k ⟨s.val * 2752 + n.val, h⟩) := by
  pointwise [REF, Cert.Reference7Ideal.Read.val_main_v7, Cert.Reference7Ideal.Read.val_main_v6, Cert.Reference7Ideal.Read.val_main_v5, Cert.Reference7Ideal.Read.val_main_v4, Cert.Reference7Ideal.Read.val_main_v3, Cert.Reference7Ideal.Read.val_main_v2, Cert.Reference7Ideal.Read.val_main_v1, Cert.Reference7Ideal.Read.val_main_v0]

/-- The normalised input. -/
abbrev hn (c : Dev nD) : FVec Ideal S8192x2048 .bf16 := m ((c : Thread nD τ).loc main_arg0)
/-- The stacked up-projections. -/
abbrev wIn (c : Dev nD) : FVec Ideal S2x2048x11008 .bf16 := m ((c : Thread nD τ).loc main_arg1)

theorem row_lt (t : Fin cfg0.N) (r : Fin 1024) : t.val / 8 * 1024 + r.val < 8192 := by
  have := lt_of_lt_of_eq t.isLt (show cfg0.N = 64 from N_0); omega
theorem col_lt (a : ℕ) (n : Fin 2752) : a / 2 % 4 * 2752 + n.val < 11008 := by omega

/-- What a point that writes back leaves in the accumulator: the two products of its run, added. -/
theorem acc_eq (c : Dev nD) (t : Fin cfg0.N) (ht : t.val % 2 = 1) (r : Fin 1024) (n : Fin 2752) :
    ((outsAt0 m c t.val t.isLt).2 (ix2 r n) : EReal) = ∑ k : Fin 2048, hn m c (ix2 ⟨_, row_lt t r⟩ k) * wIn m c (ix3 0 k ⟨_, col_lt t.val n⟩) := by
  refine (Pipeline.eq_sum_fin_of_reset_step_apply_of_flush (fun n h => (outsAt0 m c n h).2) 2 (fun _ => (0 : EReal)) _
    (fun t h j => by rw [outsAt0_A m c t h (by omega)]; frame_out; rw [step_apply, zero_apply])
    (fun t h j => by rw [outsAt0_B m c t h (by omega)]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 2 (cfgs 0).N = REF (hn m c) (wIn m c) := by
  refine (dats m 0 c).arrAt_eq_of_covers 2 _ (by decide +kernel) fun t hf y => ?_
  have ht := (flush0_2 t).mp hf
  blk_simp
  rw [after0_2, show (outsAt0 m c t.val t.isLt).1 = k0_pay3 (outsAt0 m c t.val t.isLt).2 from by
    rw [outsAt0_B m c t (by omega) ht]; frame_out]
  refine ((out_apply _ _).trans (acc_eq m c t ht (y 1) (y 2))).trans
    ((ref_apply _ _ ⟨t.val / 2 % 4, by omega⟩ ⟨_, row_lt t (y 1)⟩ (y 2) (col_lt t.val (y 2))).symm.trans (congrArg (REF (hn m c) (wIn m c)) ?_))
  blk_ext [idx t]

end Cert.Kernel7Ideal.Product

end
-- ==== Proof.FfnAct.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.Act

open Cert.Kernel8Ideal Cert.Kernel8Ideal.Gen

variable (m : (ℓ : Loc nD τ sig) → Buf (Elt Ideal) ℓ)

/-- The reference's term, over the stacked projections. -/
abbrev REF (U : FVec Ideal S2x2x8192x2752 .bf16) : FVec Ideal S2x8192x2752 .bf16 := Cert.Reference8Ideal.Read.val_main_v8 (F := Ideal) U

/-- The reference's term at an index: the gate's sigmoid-weighted value times the up-projection. -/
theorem ref_apply (U : FVec Ideal S2x2x8192x2752 .bf16) (s : Fin 2) (r : Fin 8192) (n : Fin 2752) :
    (REF U (ix3 s r n) : EReal) = U (ix4 0 s r n) * Ideal.div (Ideal.ofBits .f32 0x3F800000#32) (Ideal.ofBits .f32 0x3F800000#32 + Ideal.exp (-U (ix4 0 s r n))) * U (ix4 1 s r n) := by
  pointwise [REF, Cert.Reference8Ideal.Read.val_main_v8, Cert.Reference8Ideal.Read.val_main_v7, Cert.Reference8Ideal.Read.val_main_v6, Cert.Reference8Ideal.Read.val_main_call0_v5, Cert.Reference8Ideal.Read.val_main_call0_v4, Cert.Reference8Ideal.Read.val_main_call0_cst_0, Cert.Reference8Ideal.Read.val_main_call0_v3, Cert.Reference8Ideal.Read.val_main_call0_v2, Cert.Reference8Ideal.Read.val_main_call0_cst, Cert.Reference8Ideal.Read.val_main_call0_v1, Cert.Reference8Ideal.Read.val_main_call0_v0, Cert.Reference8Ideal.Read.val_main_v5, Cert.Reference8Ideal.Read.val_main_v4, Cert.Reference8Ideal.Read.val_main_v3, Cert.Reference8Ideal.Read.val_main_v2, Cert.Reference8Ideal.Read.val_main_v1, Cert.Reference8Ideal.Read.val_main_v0]

/-- What a point stores, at an index: the same term of its two blocks. -/
theorem out_apply (g u : FVec Ideal S1x1x256x2752 .bf16) (j : S1x256x2752.Idx) :
    (k0_pay1 (F := Ideal) g u j : EReal) = g (ix4 0 0 (j 1) (j 2)) * Ideal.div (Ideal.ofBits .f32 0x3F800000#32) (Ideal.ofBits .f32 0x3F800000#32 + Ideal.exp (-g (ix4 0 0 (j 1) (j 2)))) * u (ix4 0 0 (j 1) (j 2)) := by
  pointwise [k0_pay1, zero_sub]

/-- The blocks of every grid point. -/
theorem idx : ∀ t : Fin cfg0.N, win0_0.index t = ![0, t.val / 32, t.val % 32, 0] ∧ win0_1.index t = ![t.val / 32, t.val % 32, 0] :=
  (by decide +kernel : ∀ t : Fin grid0.N, _)

/-- The stacked projections: gate and up. -/
abbrev u4 (c : Dev nD) : FVec Ideal S2x2x8192x2752 .bf16 := m ((c : Thread nD τ).loc main_arg0)

/-- The array after the run is the reference's term. -/
theorem final (c : Dev nD) : (dats m 0 c).arrAt 1 (cfgs 0).N = REF (u4 m c) := by
  refine (dats m 0 c).arrAt_eq_of_covers 1 _ (by decide +kernel) fun t _ y => ?_
  have ht : t.val < 64 := lt_of_lt_of_eq t.isLt (show cfg0.N = 64 from N_0)
  obtain_idx i : S2x8192x2752 := [t.val / 32, t.val % 32 * 256 + (y 1 : ℕ), (y 2 : ℕ)] with hi
  blk_simp
  rw [after0_1]
  refine Eq.trans (b := REF (u4 m c) i) ?_ (congrArg (REF (u4 m c)) (by blk_ext [idx t]))
  unfold out0_1
  canon_tiles x h
  have ei : i = ix3 ⟨t.val / 32, by omega⟩ ⟨t.val % 32 * 256 + (x 1).val, by omega⟩ (x 2) := by blk_ext
  rw [ei]
  refine (out_apply _ _ _).trans (Eq.trans ?_ (ref_apply _ _ _ _).symm)
  refine congrArg₂ (· * ·) (congrArg (fun a : EReal => a * Ideal.div (Ideal.ofBits .f32 0x3F800000#32) (Ideal.ofBits .f32 0x3F800000#32 + Ideal.exp (-a))) ?_) ?_
  · blk_point [iblk, V, idx t]
  · blk_point [iblk, V, idx t]

end Cert.Kernel8Ideal.Act

end
-- ==== Proof.FfnOut.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.Product

open Cert.Kernel9Ideal Cert.Kernel9Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks. -/
theorem step_apply (acc : FVec Ideal S1024x1024 .f32) (a : FVec Ideal S1x1024x2752 .bf16) (w : FVec Ideal S1x1x2752x1024 .bf16) (j : S1024x1024.Idx) :
    k0_pay2 acc a w j = acc j + ∑ k : Fin 2752, a (ix3 0 (j 0) k) * w (ix4 0 0 k (j 1)) := by
  pointwise [k0_pay2]

/-- What is written back: the accumulated block, halved, and the residual. -/
theorem out_apply (acc h : FVec Ideal S1024x1024 .f32) (j : S1024x1024.Idx) :
    (k0_pay3 (F := Ideal) acc h j : EReal) = acc j * Ideal.ofBits .f32 0x3F000000#32 + h j := by
  pointwise [k0_pay3]

/-- The blocks of every grid point. -/
theorem idx : ∀ t : Fin cfg0.N, win0_0.index t = ![t.val % 2, t.val / 4, 0] ∧ win0_1.index t = ![0, t.val % 2, 0, t.val / 2 % 2]
    ∧ win0_2.index t = ![t.val / 4, t.val / 2 % 2] ∧ win0_3.index t = ![t.val / 4, t.val / 2 % 2] := (by decide +kernel : ∀ t : Fin grid0.N, _)

/-- The reference's term, over the activation, the stacked weights and the residual. -/
abbrev REF (A : FVec Ideal S8192x5504 .bf16) (W : FVec Ideal S2x5504x2048 .bf16) (H : FVec Ideal S8192x2048 .f32) : FVec Ideal S8192x2048 .f32 :=
  Cert.Reference9Ideal.Read.val_main_v7 (F := Ideal) A W H

/-- The reference's term at an index: the residual and half of one sum over the activation's columns. -/
theorem ref_apply (A : FVec Ideal S8192x5504 .bf16) (W : FVec Ideal S2x5504x2048 .bf16) (H : FVec Ideal S8192x2048 .f32) (r : Fin 8192) (q : Fin 2048) :
    (REF A W H (ix2 r q) : EReal) = H (ix2 r q) + Ideal.ofBits .f32 0x3F000000#32 * ∑ k : Fin 5504, A (ix2 r k) * W (ix3 0 k q) := by
  pointwise [REF, Cert.Reference9Ideal.Read.val_main_v7, Cert.Reference9Ideal.Read.val_main_v6, Cert.Reference9Ideal.Read.val_main_v5, Cert.Reference9Ideal.Read.val_main_cst, Cert.Reference9Ideal.Read.val_main_v4, Cert.Reference9Ideal.Read.val_main_v3, Cert.Reference9Ideal.Read.val_main_v2, Cert.Reference9Ideal.Read.val_main_v1, Cert.Reference9Ideal.Read.val_main_v0]

/-- The activation. -/
abbrev act (c : Dev nD) : FVec Ideal S8192x5504 .bf16 := m ((c : Thread nD τ).loc main_arg0)
/-- The stacked down-projections. -/
abbrev wOut (c : Dev nD) : FVec Ideal S2x5504x2048 .bf16 := m ((c : Thread nD τ).loc main_arg1)
/-- The residual. -/
abbrev res (c : Dev nD) : FVec Ideal S8192x2048 .f32 := m ((c : Thread nD τ).loc main_arg2)

theorem row_lt (t : Fin cfg0.N) (r : Fin 1024) : t.val / 4 * 1024 + r.val < 8192 := by
  have := lt_of_lt_of_eq t.isLt (show cfg0.N = 32 from N_0); omega
theorem out_lt (a : ℕ) (q : Fin 1024) : a / 2 % 2 * 1024 + q.val < 2048 := by omega

/-- What a point that writes back leaves in the accumulator: the two products of its run, added. -/
theorem acc_eq (c : Dev nD) (t : Fin cfg0.N) (ht : t.val % 2 = 1) (r : Fin 1024) (q : Fin 1024) :
    ((outsAt0 m c t.val t.isLt).2 (ix2 r q) : EReal) = ∑ k : Fin 5504, act m c (ix2 ⟨_, row_lt t r⟩ k) * wOut m c (ix3 0 k ⟨_, out_lt t.val q⟩) := by
  refine (Pipeline.eq_sum_fin_of_reset_step_apply_of_flush (fun n h => (outsAt0 m c n h).2) 2 (fun _ => (0 : EReal)) _
    (fun t h j => by rw [outsAt0_A m c t h (by omega)]; frame_out; rw [step_apply, zero_apply])
    (fun t h j => by rw [outsAt0_B m c t h (by omega)]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 3 (cfgs 0).N = REF (act m c) (wOut m c) (res m c) := by
  refine (dats m 0 c).arrAt_eq_of_covers 3 _ (by decide +kernel) fun t hf y => ?_
  have ht := (flush0_3 t).mp hf
  blk_simp
  rw [after0_3, show (outsAt0 m c t.val t.isLt).1 = k0_pay3 (outsAt0 m c t.val t.isLt).2 (iblk m c 2 t) from by
    rw [outsAt0_B m c t (by omega) ht]; frame_out]
  refine (out_apply _ _ _).trans (((add_comm _ _).trans (congrArg₂ (· + ·) ?_
    ((mul_comm _ _).trans (congrArg (Ideal.ofBits .f32 0x3F000000#32 * ·) ((congrArg _ (eq_ix2 y)).trans (acc_eq m c t ht (y 0) (y 1))))))).trans
    ((ref_apply _ _ _ ⟨_, row_lt t (y 0)⟩ ⟨_, out_lt t.val (y 1)⟩).symm.trans (congrArg (REF (act m c) (wOut m c) (res m c)) ?_)))
  · blk_point [iblk, V, idx t]
  · blk_ext [idx t]

end Cert.Kernel9Ideal.Product

end
-- ==== Proof.FoxDhn.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel10Ideal.Product

open Cert.Kernel10Ideal Cert.Kernel10Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their columns. -/
theorem step_apply (acc : FVec Ideal S1024x1024 .f32) (d : FVec Ideal S1024x2048 .bf16) (w : FVec Ideal S1024x2048 .bf16) (j : S1024x1024.Idx) :
    k0_pay2 acc d w j = acc j + ∑ k : Fin 2048, d (ix2 (j 0) k) * w (ix2 (j 1) k) := by
  pointwise [k0_pay2]

/-- What is written back: the accumulated block and the gradient carried in. -/
theorem out_apply (acc h : FVec Ideal S1024x1024 .f32) (j : S1024x1024.Idx) : (k0_pay3 (F := Ideal) acc h j : EReal) = acc j + h j := by
  pointwise [k0_pay3]

/-- The blocks of every grid point. -/
theorem idx : ∀ t : Fin cfg0.N, win0_0.index t = ![t.val / 6, t.val % 3] ∧ win0_1.index t = ![t.val / 3 % 2, t.val % 3]
    ∧ win0_2.index t = ![t.val / 6, t.val / 3 % 2] ∧ win0_3.index t = ![t.val / 6, t.val / 3 % 2] := (by decide +kernel : ∀ t : Fin grid0.N, _)

/-- The reference's term: the gradient of the attention's input through q, k and v, added to the part carried in. -/
abbrev REF (D : FVec Ideal S8192x6144 .bf16) (W : FVec Ideal S2048x6160 .bf16) (H : FVec Ideal S8192x2048 .f32) : FVec Ideal S8192x2048 .f32 :=
  Cert.Reference10Ideal.Read.val_main_v6 (F := Ideal) D W H

/-- The reference's term at an index: the gradient carried in and one sum over the part's columns. -/
theorem ref_apply (D : FVec Ideal S8192x6144 .bf16) (W : FVec Ideal S2048x6160 .bf16) (H : FVec Ideal S8192x2048 .f32) (r : Fin 8192) (q : Fin 2048) :
    (REF D W H (ix2 r q) : EReal) = H (ix2 r q) + ∑ k : Fin 6144, D (ix2 r k) * W (ix2 q ⟨k.val, by omega⟩) := by
  pointwise [REF, Cert.Reference10Ideal.Read.val_main_v6, Cert.Reference10Ideal.Read.val_main_v5, Cert.Reference10Ideal.Read.val_main_v4, Cert.Reference10Ideal.Read.val_main_v3, Cert.Reference10Ideal.Read.val_main_v2, Cert.Reference10Ideal.Read.val_main_v1, Cert.Reference10Ideal.Read.val_main_v0]

/-- The gradient of q, k and v, side by side. -/
abbrev grad (c : Dev nD) : FVec Ideal S8192x6144 .bf16 := m ((c : Thread nD τ).loc main_arg0)
/-- The projection's weights. -/
abbrev wIn (c : Dev nD) : FVec Ideal S2048x6160 .bf16 := m ((c : Thread nD τ).loc main_arg2)
/-- The gradient carried in. -/
abbrev res (c : Dev nD) : FVec Ideal S8192x2048 .f32 := m ((c : Thread nD τ).loc main_arg3)

theorem row_lt (t : Fin cfg0.N) (r : Fin 1024) : t.val / 6 * 1024 + r.val < 8192 := by
  have := lt_of_lt_of_eq t.isLt (show cfg0.N = 48 from N_0); omega
theorem out_lt (a : ℕ) (q : Fin 1024) : a / 3 % 2 * 1024 + q.val < 2048 := by omega

/-- What a point that writes back leaves in the accumulator: the three products of its run, added. -/
theorem acc_eq (c : Dev nD) (t : Fin cfg0.N) (ht : t.val % 3 = 2) (r q : Fin 1024) :
    ((outsAt0 m c t.val t.isLt).2 (ix2 r q) : EReal)
      = ∑ k : Fin 6144, grad m c (ix2 ⟨_, row_lt t r⟩ k) * wIn m c (ix2 ⟨_, out_lt t.val q⟩ ⟨k.val, by omega⟩) := by
  refine (Pipeline.eq_sum_fin_of_reset_step_apply_of_flush (fun n h => (outsAt0 m c n h).2) 3 (fun _ => (0 : EReal))
    (fun t j => ∑ k : Fin 2048, (show FVec Ideal S1024x2048 .bf16 from iblk m c 0 t) (ix2 (j 0) k) * (show FVec Ideal S1024x2048 .bf16 from iblk m c 1 t) (ix2 (j 1) k))
    (fun t h j => by rw [outsAt0_A m c t h (by omega)]; frame_out; rw [step_apply, zero_apply])
    (fun t h j => by
      by_cases h1 : t.val % 3 = 2
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 3 (cfgs 0).N = REF (grad m c) (wIn m c) (res m c) := by
  refine (dats m 0 c).arrAt_eq_of_covers 3 _ (by decide +kernel) fun t hf y => ?_
  have ht := (flush0_3 t).mp hf
  blk_simp
  rw [after0_3, show (outsAt0 m c t.val t.isLt).1 = k0_pay3 (outsAt0 m c t.val t.isLt).2 (iblk m c 2 t) from by
    rw [outsAt0_C m c t (by omega) ht]; frame_out]
  refine (out_apply _ _ _).trans (((add_comm _ _).trans (congrArg₂ (· + ·) ?_ ((congrArg _ (eq_ix2 y)).trans (acc_eq m c t ht (y 0) (y 1))))).trans
    ((ref_apply _ _ _ ⟨_, row_lt t (y 0)⟩ ⟨_, out_lt t.val (y 1)⟩).symm.trans (congrArg (REF (grad m c) (wIn m c) (res m c)) ?_)))
  · blk_point [iblk, V, idx t]
  · blk_ext [idx t]

end Cert.Kernel10Ideal.Product

end
-- ==== Proof.FoxDWqkv.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel11Ideal.Product

open Cert.Kernel11Ideal Cert.Kernel11Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .bf16) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 24] ∧ win0_1.index t = ![t.val % 4, t.val / 4 % 6]
    ∧ win0_2.index t = ![t.val / 24, t.val / 4 % 6] := (by decide +kernel : ∀ t : Fin grid0.N, _)

/-- The reference's term: the gradient of the projections to q, k and v. -/
abbrev REF (A : FVec Ideal S8192x2048 .bf16) (B : FVec Ideal S8192x6144 .bf16) : FVec Ideal S2048x6144 .f32 :=
  Cert.Reference11Ideal.Read.val_main_v6 (F := Ideal) A B

/-- The reference's term at an index: one sum over the tokens. -/
theorem ref_apply (A : FVec Ideal S8192x2048 .bf16) (B : FVec Ideal S8192x6144 .bf16) (p : Fin 2048) (q : Fin 6144) :
    (REF A B (ix2 p q) : EReal) = ∑ k : Fin 8192, B (ix2 k q) * A (ix2 k p) := by
  pointwise [REF, Cert.Reference11Ideal.Read.val_main_v6, Cert.Reference11Ideal.Read.val_main_v5, Cert.Reference11Ideal.Read.val_main_v4, Cert.Reference11Ideal.Read.val_main_v3, Cert.Reference11Ideal.Read.val_main_v2, Cert.Reference11Ideal.Read.val_main_v1, Cert.Reference11Ideal.Read.val_main_v0]

/-- The normalised input. -/
abbrev lhs (c : Dev nD) : FVec Ideal S8192x2048 .bf16 := m ((c : Thread nD τ).loc main_arg0)
/-- The gradient of q, k and v, side by side. -/
abbrev rhs (c : Dev nD) : FVec Ideal S8192x6144 .bf16 := m ((c : Thread nD τ).loc main_arg1)

theorem row_lt (t : Fin cfg0.N) (p : Fin 1024) : t.val / 24 * 1024 + p.val < 2048 := by
  have := lt_of_lt_of_eq t.isLt (show cfg0.N = 48 from N_0); omega
theorem col_lt (a : ℕ) (q : Fin 1024) : a / 4 % 6 * 1024 + q.val < 6144 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .bf16 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel11Ideal.Product

end
-- ==== Proof.FoxDo.lean ====
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel12Ideal.Product

open Cert.Kernel12Ideal Cert.Kernel12Ideal.Gen

variable (m : (ℓ : Loc nD τ sig) → Buf (Elt Ideal) ℓ)

/-- What a point stores, at an index: the product of its two blocks, contracted over their columns. -/
theorem out_apply (d : FVec Ideal S1024x2048 .f32) (w : FVec Ideal S1024x2048 .bf16) (j : S1024x1024.Idx) :
    (k0_pay3 (F := Ideal) (k0_pay2 (F := Ideal) (k0_pay1 (F := Ideal)) d w) j : EReal) = ∑ k : Fin 2048, d (ix2 (j 0) k) * w (ix2 (j 1) k) := by
  pointwise [k0_pay3, k0_pay2, k0_pay1]

/-- The blocks of every grid point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- The reference's term: the gradient of the heads' outputs. -/
abbrev REF (D : FVec Ideal S8192x2048 .f32) (W : FVec Ideal S2048x2048 .bf16) : FVec Ideal S8192x2048 .bf16 :=
  Cert.Reference12Ideal.Read.val_main_v4 (F := Ideal) D W

/-- The reference's term at an index: one sum over the gradient's columns. -/
theorem ref_apply (D : FVec Ideal S8192x2048 .f32) (W : FVec Ideal S2048x2048 .bf16) (r : Fin 8192) (q : Fin 2048) :
    (REF D W (ix2 r q) : EReal) = ∑ k : Fin 2048, D (ix2 r k) * W (ix2 q k) := by
  pointwise [REF, Cert.Reference12Ideal.Read.val_main_v4, Cert.Reference12Ideal.Read.val_main_v3, Cert.Reference12Ideal.Read.val_main_v2, Cert.Reference12Ideal.Read.val_main_v1, Cert.Reference12Ideal.Read.val_main_v0]

/-- The gradient of the output. -/
abbrev grad (c : Dev nD) : FVec Ideal S8192x2048 .f32 := m ((c : Thread nD τ).loc main_arg0)
/-- The projection's weights. -/
abbrev weights (c : Dev nD) : FVec Ideal S2048x2048 .bf16 := m ((c : Thread nD τ).loc main_arg2)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks. -/
theorem outs_eq (c : Dev nD) (t : Fin cfg0.N) : outsAt0 m c t = k0_pay3 (F := Ideal) (k0_pay2 (F := Ideal) (k0_pay1 (F := Ideal)) (iblk m c 0 t) (iblk m c 1 t)) := by
  unfold outsAt0; frame_out

/-- The array after the run is the reference's term. -/
theorem final (c : Dev nD) : (dats m 0 c).arrAt 2 (cfgs 0).N = REF (grad m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (grad m c) (weights m c)) ?_))
  · blk_point [iblk, V, idx t]
  · blk_ext [idx t]

end Cert.Kernel12Ideal.Product

end
-- ==== Proof.FoxDWout.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel13Ideal.Product

open Cert.Kernel13Ideal Cert.Kernel13Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .f32) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The reference's term: the gradient of the attention's output projection. -/
abbrev REF (A : FVec Ideal S8192x2048 .bf16) (B : FVec Ideal S8192x2048 .f32) : FVec Ideal S2048x2048 .f32 :=
  Cert.Reference13Ideal.Read.val_main_v4 (F := Ideal) A B

/-- The reference's term at an index: one sum over the tokens. -/
theorem ref_apply (A : FVec Ideal S8192x2048 .bf16) (B : FVec Ideal S8192x2048 .f32) (p : Fin 2048) (q : Fin 2048) :
    (REF A B (ix2 p q) : EReal) = ∑ k : Fin 8192, B (ix2 k q) * A (ix2 k p) := by
  pointwise [REF, Cert.Reference13Ideal.Read.val_main_v4, Cert.Reference13Ideal.Read.val_main_v3, Cert.Reference13Ideal.Read.val_main_v2, Cert.Reference13Ideal.Read.val_main_v1, Cert.Reference13Ideal.Read.val_main_v0]

/-- The heads' outputs. -/
abbrev lhs (c : Dev nD) : FVec Ideal S8192x2048 .bf16 := m ((c : Thread nD τ).loc main_arg0)
/-- The gradient of the output. -/
abbrev rhs (c : Dev nD) : FVec Ideal S8192x2048 .f32 := m ((c : Thread nD τ).loc main_arg1)

theorem row_lt (t : Fin cfg0.N) (p : Fin 1024) : t.val / 8 * 1024 + p.val < 2048 := by
  have := lt_of_lt_of_eq t.isLt (show cfg0.N = 16 from N_0); omega
theorem col_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .f32 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel13Ideal.Product

end
-- ==== Proof.MixDcat.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel14Ideal.Product

open Cert.Kernel14Ideal Cert.Kernel14Ideal.Gen

variable (m : (ℓ : Loc nD τ sig) → Buf (Elt Ideal) ℓ)

/-- What a point stores, at an index: the product of its two blocks, contracted over their columns. -/
theorem out_apply (d : FVec Ideal S1024x2048 .f32) (w : FVec Ideal S1024x2048 .bf16) (j : S1024x1024.Idx) :
    (k0_pay2 (F := Ideal) (k0_pay1 (F := Ideal)) d w j : EReal) = ∑ k : Fin 2048, d (ix2 (j 0) k) * w (ix2 (j 1) k) := by
  pointwise [k0_pay2, k0_pay1]

/-- The blocks of every grid point. -/
theorem idx : ∀ t : Fin cfg0.N, win0_0.index t = ![t.val / 4, 0] ∧ win0_1.index t = ![t.val % 4, 0]
    ∧ win0_2.index t = ![t.val / 4, t.val % 4] := (by decide +kernel : ∀ t : Fin grid0.N, _)

/-- The reference's term: the gradient of the mixer's two halves. -/
abbrev REF (D : FVec Ideal S8192x2048 .f32) (W : FVec Ideal S4096x2048 .bf16) : FVec Ideal S8192x4096 .f32 :=
  Cert.Reference14Ideal.Read.val_main_v3 (F := Ideal) D W

/-- The reference's term at an index: one sum over the gradient's columns. -/
theorem ref_apply (D : FVec Ideal S8192x2048 .f32) (W : FVec Ideal S4096x2048 .bf16) (r : Fin 8192) (q : Fin 4096) :
    (REF D W (ix2 r q) : EReal) = ∑ k : Fin 2048, D (ix2 r k) * W (ix2 q k) := by
  pointwise [REF, Cert.Reference14Ideal.Read.val_main_v3, Cert.Reference14Ideal.Read.val_main_v2, Cert.Reference14Ideal.Read.val_main_v1, Cert.Reference14Ideal.Read.val_main_v0]

/-- The gradient of the output. -/
abbrev grad (c : Dev nD) : FVec Ideal S8192x2048 .f32 := m ((c : Thread nD τ).loc main_arg0)
/-- The projection's weights. -/
abbrev weights (c : Dev nD) : FVec Ideal S4096x2048 .bf16 := m ((c : Thread nD τ).loc main_arg2)

theorem row_lt (t : Fin cfg0.N) (r : Fin 1024) : t.val / 4 * 1024 + r.val < 8192 := by
  have := lt_of_lt_of_eq t.isLt (show cfg0.N = 32 from N_0); omega
theorem out_lt (a : ℕ) (q : Fin 1024) : a % 4 * 1024 + q.val < 4096 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (grad m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (grad m c) (weights m c)) ?_))
  · blk_point [iblk, V, idx t]
  · blk_ext [idx t]

end Cert.Kernel14Ideal.Product

end
-- ==== Proof.MixDWout.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel15Ideal.Product

open Cert.Kernel15Ideal Cert.Kernel15Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .f32) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The reference's term: the gradient of the mixer's output projection. -/
abbrev REF (A : FVec Ideal S8192x4096 .bf16) (B : FVec Ideal S8192x2048 .f32) : FVec Ideal S4096x2048 .f32 :=
  Cert.Reference15Ideal.Read.val_main_v4 (F := Ideal) A B

/-- The reference's term at an index: one sum over the tokens. -/
theorem ref_apply (A : FVec Ideal S8192x4096 .bf16) (B : FVec Ideal S8192x2048 .f32) (p : Fin 4096) (q : Fin 2048) :
    (REF A B (ix2 p q) : EReal) = ∑ k : Fin 8192, B (ix2 k q) * A (ix2 k p) := by
  pointwise [REF, Cert.Reference15Ideal.Read.val_main_v4, Cert.Reference15Ideal.Read.val_main_v3, Cert.Reference15Ideal.Read.val_main_v2, Cert.Reference15Ideal.Read.val_main_v1, Cert.Reference15Ideal.Read.val_main_v0]

/-- The mixer's two halves, side by side. -/
abbrev lhs (c : Dev nD) : FVec Ideal S8192x4096 .bf16 := m ((c : Thread nD τ).loc main_arg0)
/-- The gradient of the output. -/
abbrev rhs (c : Dev nD) : FVec Ideal S8192x2048 .f32 := m ((c : Thread nD τ).loc main_arg1)

theorem row_lt (t : Fin cfg0.N) (p : Fin 1024) : t.val / 8 * 1024 + p.val < 4096 := by
  have := lt_of_lt_of_eq t.isLt (show cfg0.N = 32 from N_0); omega
theorem col_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .f32 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel15Ideal.Product

end
-- ==== Proof.MixDhnZ.lean ====
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel16Ideal.Product

open Cert.Kernel16Ideal Cert.Kernel16Ideal.Gen

variable (m : (ℓ : Loc nD τ sig) → Buf (Elt Ideal) ℓ)

/-- What a point stores, at an index: the product of its two blocks, contracted over their columns. -/
theorem out_apply (d : FVec Ideal S1024x2048 .bf16) (w : FVec Ideal S1024x2048 .bf16) (j : S1024x1024.Idx) :
    (k0_pay2 (F := Ideal) (k0_pay1 (F := Ideal)) d w j : EReal) = ∑ k : Fin 2048, d (ix2 (j 0) k) * w (ix2 (j 1) k) := by
  pointwise [k0_pay2, k0_pay1]

/-- The blocks of every grid point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- The reference's term: the gradient of the mixer's input through the gate z. -/
abbrev REF (D : FVec Ideal S8192x2048 .bf16) (W : FVec Ideal S2048x13344 .bf16) : FVec Ideal S8192x2048 .f32 :=
  Cert.Reference16Ideal.Read.val_main_v5 (F := Ideal) D W

/-- The reference's term at an index: one sum over the gradient's columns. -/
theorem ref_apply (D : FVec Ideal S8192x2048 .bf16) (W : FVec Ideal S2048x13344 .bf16) (r : Fin 8192) (q : Fin 2048) :
    (REF D W (ix2 r q) : EReal) = ∑ k : Fin 2048, D (ix2 r k) * W (ix2 q ⟨k.val, by omega⟩) := by
  pointwise [REF, Cert.Reference16Ideal.Read.val_main_v5, Cert.Reference16Ideal.Read.val_main_v4, Cert.Reference16Ideal.Read.val_main_v3, Cert.Reference16Ideal.Read.val_main_v2, Cert.Reference16Ideal.Read.val_main_v1, Cert.Reference16Ideal.Read.val_main_v0]

/-- The gradient of the gate z. -/
abbrev grad (c : Dev nD) : FVec Ideal S8192x2048 .bf16 := m ((c : Thread nD τ).loc main_arg0)
/-- The projection's weights. -/
abbrev weights (c : Dev nD) : FVec Ideal S2048x13344 .bf16 := m ((c : Thread nD τ).loc main_arg2)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (grad m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (grad m c) (weights m c)) ?_))
  · blk_point [iblk, V, idx t]
  · blk_ext [idx t]

end Cert.Kernel16Ideal.Product

end
-- ==== Proof.MixDWz.lean ====
module

public import proofs.«01_k».proof.Proof.Gen.Kernel17Ideal.Value
public import proofs.«01_k».proof.Proof.Gen.Reference17Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel17Ideal.Product

open Cert.Kernel17Ideal Cert.Kernel17Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .bf16) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The reference's term: the gradient of the projection to the gate z. -/
abbrev REF (A : FVec Ideal S8192x2048 .bf16) (B : FVec Ideal S8192x2048 .bf16) : FVec Ideal S2048x2048 .f32 :=
  Cert.Reference17Ideal.Read.val_main_v6 (F := Ideal) A B

/-- The reference's term at an index: one sum over the tokens. -/
theorem ref_apply (A : FVec Ideal S8192x2048 .bf16) (B : FVec Ideal S8192x2048 .bf16) (p : Fin 2048) (q : Fin 2048) :
    (REF A B (ix2 p q) : EReal) = ∑ k : Fin 8192, B (ix2 k q) * A (ix2 k p) := by
  pointwise [REF, Cert.Reference17Ideal.Read.val_main_v6, Cert.Reference17Ideal.Read.val_main_v5, Cert.Reference17Ideal.Read.val_main_v4, Cert.Reference17Ideal.Read.val_main_v3, Cert.Reference17Ideal.Read.val_main_v2, Cert.Reference17Ideal.Read.val_main_v1, Cert.Reference17Ideal.Read.val_main_v0]

/-- The normalised input. -/
abbrev lhs (c : Dev nD) : FVec Ideal S8192x2048 .bf16 := m ((c : Thread nD τ).loc main_arg0)
/-- The gradient of the gate z. -/
abbrev rhs (c : Dev nD) : FVec Ideal S8192x2048 .bf16 := m ((c : Thread nD τ).loc main_arg1)

theorem row_lt (t : Fin cfg0.N) (p : Fin 1024) : t.val / 8 * 1024 + p.val < 2048 := by
  have := lt_of_lt_of_eq t.isLt (show cfg0.N = 16 from N_0); omega
theorem col_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .bf16 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel17Ideal.Product

end
-- ==== Proof.MixDhnXbc.lean ====
module

public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel18Ideal.Product

open Cert.Kernel18Ideal Cert.Kernel18Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their columns. -/
theorem step_apply (acc : FVec Ideal S1024x1024 .f32) (d : FVec Ideal S1024x1024 .f32) (w : FVec Ideal S1024x1024 .bf16) (j : S1024x1024.Idx) :
    k0_pay2 acc d w j = acc j + ∑ k : Fin 1024, d (ix2 (j 0) k) * w (ix2 (j 1) k) := by
  pointwise [k0_pay2]

/-- What is written back: the accumulated block and the gradient carried in. -/
theorem out_apply (acc h : FVec Ideal S1024x1024 .f32) (j : S1024x1024.Idx) : (k0_pay3 (F := Ideal) acc h j : EReal) = acc j + h j := by
  pointwise [k0_pay3]

/-- The blocks of every grid point. -/
theorem idx : ∀ t : Fin cfg0.N, win0_0.index t = ![t.val / 6, t.val % 3] ∧ win0_1.index t = ![t.val / 3 % 2, t.val % 3]
    ∧ win0_2.index t = ![t.val / 6, t.val / 3 % 2] ∧ win0_3.index t = ![t.val / 6, t.val / 3 % 2] := (by decide +kernel : ∀ t : Fin grid0.N, _)

/-- The reference's term: the gradient of the mixer's input through the convolution's columns, added to the part carried in. -/
abbrev REF (D : FVec Ideal S8192x3072 .f32) (W : FVec Ideal S2048x13344 .bf16) (H : FVec Ideal S8192x2048 .f32) : FVec Ideal S8192x2048 .f32 :=
  Cert.Reference18Ideal.Read.val_main_v5 (F := Ideal) D W H

/-- The reference's term at an index: the gradient carried in and one sum over the part's columns. -/
theorem ref_apply (D : FVec Ideal S8192x3072 .f32) (W : FVec Ideal S2048x13344 .bf16) (H : FVec Ideal S8192x2048 .f32) (r : Fin 8192) (q : Fin 2048) :
    (REF D W H (ix2 r q) : EReal) = H (ix2 r q) + ∑ k : Fin 3072, D (ix2 r k) * W (ix2 q ⟨2048 + k.val, by omega⟩) := by
  pointwise [REF, Cert.Reference18Ideal.Read.val_main_v5, Cert.Reference18Ideal.Read.val_main_v4, Cert.Reference18Ideal.Read.val_main_v3, Cert.Reference18Ideal.Read.val_main_v2, Cert.Reference18Ideal.Read.val_main_v1, Cert.Reference18Ideal.Read.val_main_v0]

/-- The gradient of the convolution's input. -/
abbrev grad (c : Dev nD) : FVec Ideal S8192x3072 .f32 := m ((c : Thread nD τ).loc main_arg0)
/-- The projection's weights. -/
abbrev wIn (c : Dev nD) : FVec Ideal S2048x13344 .bf16 := m ((c : Thread nD τ).loc main_arg2)
/-- The gradient carried in. -/
abbrev res (c : Dev nD) : FVec Ideal S8192x2048 .f32 := m ((c : Thread nD τ).loc main_arg3)

theorem row_lt (t : Fin cfg0.N) (r : Fin 1024) : t.val / 6 * 1024 + r.val < 8192 := by
  have := lt_of_lt_of_eq t.isLt (show cfg0.N = 48 from N_0); omega
theorem out_lt (a : ℕ) (q : Fin 1024) : a / 3 % 2 * 1024 + q.val < 2048 := by omega

/-- What a point that writes back leaves in the accumulator: the three products of its run, added. -/
theorem acc_eq (c : Dev nD) (t : Fin cfg0.N) (ht : t.val % 3 = 2) (r q : Fin 1024) :
    ((outsAt0 m c t.val t.isLt).2 (ix2 r q) : EReal)
      = ∑ k : Fin 3072, grad m c (ix2 ⟨_, row_lt t r⟩ k) * wIn m c (ix2 ⟨_, out_lt t.val q⟩ ⟨2048 + k.val, by omega⟩) := by
  refine (Pipeline.eq_sum_fin_of_reset_step_apply_of_flush (fun n h => (outsAt0 m c n h).2) 3 (fun _ => (0 : EReal))
    (fun t j => ∑ k : Fin 1024, (show FVec Ideal S1024x1024 .f32 from iblk m c 0 t) (ix2 (j 0) k) * (show FVec Ideal S1024x1024 .bf16 from iblk m c 1 t) (ix2 (j 1) k))
    (fun t h j => by rw [outsAt0_A m c t h (by omega)]; frame_out; rw [step_apply, zero_apply])
    (fun t h j => by
      by_cases h1 : t.val % 3 = 2
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 3 (cfgs 0).N = REF (grad m c) (wIn m c) (res m c) := by
  refine (dats m 0 c).arrAt_eq_of_covers 3 _ (by decide +kernel) fun t hf y => ?_
  have ht := (flush0_3 t).mp hf
  blk_simp
  rw [after0_3, show (outsAt0 m c t.val t.isLt).1 = k0_pay3 (outsAt0 m c t.val t.isLt).2 (iblk m c 2 t) from by
    rw [outsAt0_C m c t (by omega) ht]; frame_out]
  refine (out_apply _ _ _).trans (((add_comm _ _).trans (congrArg₂ (· + ·) ?_ ((congrArg _ (eq_ix2 y)).trans (acc_eq m c t ht (y 0) (y 1))))).trans
    ((ref_apply _ _ _ ⟨_, row_lt t (y 0)⟩ ⟨_, out_lt t.val (y 1)⟩).symm.trans (congrArg (REF (grad m c) (wIn m c) (res m c)) ?_)))
  · blk_point [iblk, V, idx t]
  · blk_ext [idx t]

end Cert.Kernel18Ideal.Product

end
-- ==== Proof.MixDWxbc.lean ====
module

public import proofs.«01_k».proof.Proof.Gen.Kernel19Ideal.Value
public import proofs.«01_k».proof.Proof.Gen.Reference19Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel19Ideal.Product

open Cert.Kernel19Ideal Cert.Kernel19Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .f32) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 12] ∧ win0_1.index t = ![t.val % 4, t.val / 4 % 3]
    ∧ win0_2.index t = ![t.val / 12, t.val / 4 % 3] := (by decide +kernel : ∀ t : Fin grid0.N, _)

/-- The reference's term: the gradient of the projection to the convolution's input. -/
abbrev REF (A : FVec Ideal S8192x2048 .bf16) (B : FVec Ideal S8192x3072 .f32) : FVec Ideal S2048x3072 .f32 :=
  Cert.Reference19Ideal.Read.val_main_v5 (F := Ideal) A B

/-- The reference's term at an index: one sum over the tokens. -/
theorem ref_apply (A : FVec Ideal S8192x2048 .bf16) (B : FVec Ideal S8192x3072 .f32) (p : Fin 2048) (q : Fin 3072) :
    (REF A B (ix2 p q) : EReal) = ∑ k : Fin 8192, B (ix2 k q) * A (ix2 k p) := by
  pointwise [REF, Cert.Reference19Ideal.Read.val_main_v5, Cert.Reference19Ideal.Read.val_main_v4, Cert.Reference19Ideal.Read.val_main_v3, Cert.Reference19Ideal.Read.val_main_v2, Cert.Reference19Ideal.Read.val_main_v1, Cert.Reference19Ideal.Read.val_main_v0]

/-- The normalised input. -/
abbrev lhs (c : Dev nD) : FVec Ideal S8192x2048 .bf16 := m ((c : Thread nD τ).loc main_arg0)
/-- The gradient of the convolution's input. -/
abbrev rhs (c : Dev nD) : FVec Ideal S8192x3072 .f32 := m ((c : Thread nD τ).loc main_arg1)

theorem row_lt (t : Fin cfg0.N) (p : Fin 1024) : t.val / 12 * 1024 + p.val < 2048 := by
  have := lt_of_lt_of_eq t.isLt (show cfg0.N = 24 from N_0); omega
theorem col_lt (a : ℕ) (q : Fin 1024) : a / 4 % 3 * 1024 + q.val < 3072 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .f32 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel19Ideal.Product

end
-- ==== Proof.MixDhnQfvg.lean ====
module

public import proofs.«01_k».proof.Proof.Gen.Kernel20Ideal.Value
public import proofs.«01_k».proof.Proof.Gen.Reference20Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel20Ideal.Product

open Cert.Kernel20Ideal Cert.Kernel20Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their columns. -/
theorem step_apply (acc : FVec Ideal S1024x1024 .f32) (d : FVec Ideal S1024x2048 .bf16) (w : FVec Ideal S1024x2048 .bf16) (j : S1024x1024.Idx) :
    k0_pay2 acc d w j = acc j + ∑ k : Fin 2048, d (ix2 (j 0) k) * w (ix2 (j 1) k) := by
  pointwise [k0_pay2]

/-- What is written back: the accumulated block and the gradient carried in. -/
theorem out_apply (acc h : FVec Ideal S1024x1024 .f32) (j : S1024x1024.Idx) : (k0_pay3 (F := Ideal) acc h j : EReal) = acc j + h j := by
  pointwise [k0_pay3]

/-- The blocks of every grid point. -/
theorem idx : ∀ t : Fin cfg0.N, win0_0.index t = ![t.val / 8, t.val % 4] ∧ win0_1.index t = ![t.val / 4 % 2, t.val % 4]
    ∧ win0_2.index t = ![t.val / 8, t.val / 4 % 2] ∧ win0_3.index t = ![t.val / 8, t.val / 4 % 2] := (by decide +kernel : ∀ t : Fin grid0.N, _)

/-- The reference's term: the gradient of the mixer's input through q, f, v and g, added to the part carried in. -/
abbrev REF (D : FVec Ideal S8192x8192 .bf16) (W : FVec Ideal S2048x13344 .bf16) (H : FVec Ideal S8192x2048 .f32) : FVec Ideal S8192x2048 .f32 :=
  Cert.Reference20Ideal.Read.val_main_v6 (F := Ideal) D W H

/-- The reference's term at an index: the gradient carried in and one sum over the part's columns. -/
theorem ref_apply (D : FVec Ideal S8192x8192 .bf16) (W : FVec Ideal S2048x13344 .bf16) (H : FVec Ideal S8192x2048 .f32) (r : Fin 8192) (q : Fin 2048) :
    (REF D W H (ix2 r q) : EReal) = H (ix2 r q) + ∑ k : Fin 8192, D (ix2 r k) * W (ix2 q ⟨5152 + k.val, by omega⟩) := by
  pointwise [REF, Cert.Reference20Ideal.Read.val_main_v6, Cert.Reference20Ideal.Read.val_main_v5, Cert.Reference20Ideal.Read.val_main_v4, Cert.Reference20Ideal.Read.val_main_v3, Cert.Reference20Ideal.Read.val_main_v2, Cert.Reference20Ideal.Read.val_main_v1, Cert.Reference20Ideal.Read.val_main_v0]

/-- The gradient of q, f, v and g, side by side. -/
abbrev grad (c : Dev nD) : FVec Ideal S8192x8192 .bf16 := m ((c : Thread nD τ).loc main_arg0)
/-- The projection's weights. -/
abbrev wIn (c : Dev nD) : FVec Ideal S2048x13344 .bf16 := m ((c : Thread nD τ).loc main_arg2)
/-- The gradient carried in. -/
abbrev res (c : Dev nD) : FVec Ideal S8192x2048 .f32 := m ((c : Thread nD τ).loc main_arg3)

theorem row_lt (t : Fin cfg0.N) (r : Fin 1024) : t.val / 8 * 1024 + r.val < 8192 := by
  have := lt_of_lt_of_eq t.isLt (show cfg0.N = 64 from N_0); omega
theorem out_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (r q : Fin 1024) :
    ((outsAt0 m c t.val t.isLt).2 (ix2 r q) : EReal)
      = ∑ k : Fin 8192, grad m c (ix2 ⟨_, row_lt t r⟩ k) * wIn m c (ix2 ⟨_, out_lt t.val q⟩ ⟨5152 + k.val, by omega⟩) := by
  refine (Pipeline.eq_sum_fin_of_reset_step_apply_of_flush (fun n h => (outsAt0 m c n h).2) 4 (fun _ => (0 : EReal))
    (fun t j => ∑ k : Fin 2048, (show FVec Ideal S1024x2048 .bf16 from iblk m c 0 t) (ix2 (j 0) k) * (show FVec Ideal S1024x2048 .bf16 from iblk m c 1 t) (ix2 (j 1) k))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 3 (cfgs 0).N = REF (grad m c) (wIn m c) (res m c) := by
  refine (dats m 0 c).arrAt_eq_of_covers 3 _ (by decide +kernel) fun t hf y => ?_
  have ht := (flush0_3 t).mp hf
  blk_simp
  rw [after0_3, show (outsAt0 m c t.val t.isLt).1 = k0_pay3 (outsAt0 m c t.val t.isLt).2 (iblk m c 2 t) from by
    rw [outsAt0_C m c t (by omega) ht]; frame_out]
  refine (out_apply _ _ _).trans (((add_comm _ _).trans (congrArg₂ (· + ·) ?_ ((congrArg _ (eq_ix2 y)).trans (acc_eq m c t ht (y 0) (y 1))))).trans
    ((ref_apply _ _ _ ⟨_, row_lt t (y 0)⟩ ⟨_, out_lt t.val (y 1)⟩).symm.trans (congrArg (REF (grad m c) (wIn m c) (res m c)) ?_)))
  · blk_point [iblk, V, idx t]
  · blk_ext [idx t]

end Cert.Kernel20Ideal.Product

end
-- ==== Proof.MixDWqfvg.lean ====
module

public import proofs.«01_k».proof.Proof.Gen.Kernel21Ideal.Value
public import proofs.«01_k».proof.Proof.Gen.Reference21Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel21Ideal.Product

open Cert.Kernel21Ideal Cert.Kernel21Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .bf16) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 32] ∧ win0_1.index t = ![t.val % 4, t.val / 4 % 8]
    ∧ win0_2.index t = ![t.val / 32, t.val / 4 % 8] := (by decide +kernel : ∀ t : Fin grid0.N, _)

/-- The reference's term: the gradient of the projections to q, f, v and g. -/
abbrev REF (A : FVec Ideal S8192x2048 .bf16) (B : FVec Ideal S8192x8192 .bf16) : FVec Ideal S2048x8192 .f32 :=
  Cert.Reference21Ideal.Read.val_main_v6 (F := Ideal) A B

/-- The reference's term at an index: one sum over the tokens. -/
theorem ref_apply (A : FVec Ideal S8192x2048 .bf16) (B : FVec Ideal S8192x8192 .bf16) (p : Fin 2048) (q : Fin 8192) :
    (REF A B (ix2 p q) : EReal) = ∑ k : Fin 8192, B (ix2 k q) * A (ix2 k p) := by
  pointwise [REF, Cert.Reference21Ideal.Read.val_main_v6, Cert.Reference21Ideal.Read.val_main_v5, Cert.Reference21Ideal.Read.val_main_v4, Cert.Reference21Ideal.Read.val_main_v3, Cert.Reference21Ideal.Read.val_main_v2, Cert.Reference21Ideal.Read.val_main_v1, Cert.Reference21Ideal.Read.val_main_v0]

/-- The normalised input. -/
abbrev lhs (c : Dev nD) : FVec Ideal S8192x2048 .bf16 := m ((c : Thread nD τ).loc main_arg0)
/-- The gradient of q, f, v and g, side by side. -/
abbrev rhs (c : Dev nD) : FVec Ideal S8192x8192 .bf16 := m ((c : Thread nD τ).loc main_arg1)

theorem row_lt (t : Fin cfg0.N) (p : Fin 1024) : t.val / 32 * 1024 + p.val < 2048 := by
  have := lt_of_lt_of_eq t.isLt (show cfg0.N = 64 from N_0); omega
theorem col_lt (a : ℕ) (q : Fin 1024) : a / 4 % 8 * 1024 + q.val < 8192 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .bf16 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel21Ideal.Product

end
-- ==== Proof.PleDhn.lean ====
module

public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel22Ideal.Product

open Cert.Kernel22Ideal Cert.Kernel22Ideal.Gen

variable (m : (ℓ : Loc nD τ sig) → Buf (Elt Ideal) ℓ)

/-- What a point stores, at an index: the product of its two blocks, contracted over their columns. -/
theorem out_apply (d : FVec Ideal S1024x2048 .bf16) (w : FVec Ideal S1024x2048 .bf16) (j : S1024x1024.Idx) :
    (k0_pay2 (F := Ideal) (k0_pay1 (F := Ideal)) d w j : EReal) = ∑ k : Fin 2048, d (ix2 (j 0) k) * w (ix2 (j 1) k) := by
  pointwise [k0_pay2, k0_pay1]

/-- The blocks of every grid point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

/-- The reference's term: the gradient of the normalised input through the gate. -/
abbrev REF (D : FVec Ideal S8192x2048 .bf16) (W : FVec Ideal S2048x2048 .bf16) : FVec Ideal S8192x2048 .f32 :=
  Cert.Reference22Ideal.Read.val_main_v4 (F := Ideal) D W

/-- The reference's term at an index: one sum over the gradient's columns. -/
theorem ref_apply (D : FVec Ideal S8192x2048 .bf16) (W : FVec Ideal S2048x2048 .bf16) (r : Fin 8192) (q : Fin 2048) :
    (REF D W (ix2 r q) : EReal) = ∑ k : Fin 2048, D (ix2 r k) * W (ix2 q k) := by
  pointwise [REF, Cert.Reference22Ideal.Read.val_main_v4, Cert.Reference22Ideal.Read.val_main_v3, Cert.Reference22Ideal.Read.val_main_v2, Cert.Reference22Ideal.Read.val_main_v1, Cert.Reference22Ideal.Read.val_main_v0]

/-- The gradient of the gate's argument. -/
abbrev grad (c : Dev nD) : FVec Ideal S8192x2048 .bf16 := m ((c : Thread nD τ).loc main_arg0)
/-- The projection's weights. -/
abbrev weights (c : Dev nD) : FVec Ideal S2048x2048 .bf16 := m ((c : Thread nD τ).loc main_arg2)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (grad m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (grad m c) (weights m c)) ?_))
  · blk_point [iblk, V, idx t]
  · blk_ext [idx t]

end Cert.Kernel22Ideal.Product

end
-- ==== Proof.PleDWgate.lean ====
module

public import proofs.«01_k».proof.Proof.Gen.Kernel23Ideal.Value
public import proofs.«01_k».proof.Proof.Gen.Reference23Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel23Ideal.Product

open Cert.Kernel23Ideal Cert.Kernel23Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their 2048 tokens. -/
theorem step_apply (acc : FVec Ideal S1024x1024 .f32) (a : FVec Ideal S2048x1024 .bf16) (b : FVec Ideal S2048x1024 .bf16) (j : S1024x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The reference's term: the gradient of the gate's projection. -/
abbrev REF (A : FVec Ideal S8192x2048 .bf16) (B : FVec Ideal S8192x2048 .bf16) : FVec Ideal S2048x2048 .f32 :=
  Cert.Reference23Ideal.Read.val_main_v5 (F := Ideal) A B

/-- The reference's term at an index: one sum over the tokens. -/
theorem ref_apply (A : FVec Ideal S8192x2048 .bf16) (B : FVec Ideal S8192x2048 .bf16) (p : Fin 2048) (q : Fin 2048) :
    (REF A B (ix2 p q) : EReal) = ∑ k : Fin 8192, B (ix2 k q) * A (ix2 k p) := by
  pointwise [REF, Cert.Reference23Ideal.Read.val_main_v5, Cert.Reference23Ideal.Read.val_main_v4, Cert.Reference23Ideal.Read.val_main_v3, Cert.Reference23Ideal.Read.val_main_v2, Cert.Reference23Ideal.Read.val_main_v1, Cert.Reference23Ideal.Read.val_main_v0]

/-- The normalised input. -/
abbrev lhs (c : Dev nD) : FVec Ideal S8192x2048 .bf16 := m ((c : Thread nD τ).loc main_arg0)
/-- The gradient of the gate's argument. -/
abbrev rhs (c : Dev nD) : FVec Ideal S8192x2048 .bf16 := m ((c : Thread nD τ).loc main_arg1)

theorem row_lt (t : Fin cfg0.N) (p : Fin 1024) : t.val / 8 * 1024 + p.val < 2048 := by
  have := lt_of_lt_of_eq t.isLt (show cfg0.N = 16 from N_0); omega
theorem col_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (p q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x1024 .bf16 from iblk m c 0 t) (ix2 k (j 0)) * (show FVec Ideal S2048x1024 .bf16 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel23Ideal.Product

end
-- ==== Proof.FoxQkv.lean ====
module

public import proofs.«01_k».proof.Proof.Gen.Kernel24Ideal.Value
public import proofs.«01_k».proof.Proof.Gen.Reference24Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel24Ideal.Product

open Cert.Kernel24Ideal Cert.Kernel24Ideal.Gen

variable (m : (ℓ : Loc nD τ sig) → Buf (Elt Ideal) ℓ)

/-- What a point stores, at an index: the product of its two blocks. -/
theorem out_apply (x : FVec Ideal S1024x2048 .bf16) (w : FVec Ideal S2048x1024 .bf16) (j : S1024x1024.Idx) :
    (k0_pay3 (F := Ideal) (k0_pay2 (F := Ideal) (k0_pay1 (F := Ideal)) x w) j : EReal) = ∑ k : Fin 2048, x (ix2 (j 0) k) * w (ix2 k (j 1)) := by
  pointwise [k0_pay3, k0_pay2, k0_pay1]

/-- The blocks of every grid point. -/
theorem idx : ∀ t : Fin cfg0.N, win0_0.index t = ![t.val / 6, 0] ∧ win0_1.index t = ![0, t.val % 6]
    ∧ win0_2.index t = ![t.val / 6, t.val % 6] := (by decide +kernel : ∀ t : Fin grid0.N, _)

/-- The reference's term: the projections to q, k and v. -/
abbrev REF (X : FVec Ideal S8192x2048 .bf16) (W : FVec Ideal S2048x6160 .bf16) : FVec Ideal S8192x6144 .bf16 :=
  Cert.Reference24Ideal.Read.val_main_v4 (F := Ideal) X W

/-- The reference's term at an index: one sum over the input's columns. -/
theorem ref_apply (X : FVec Ideal S8192x2048 .bf16) (W : FVec Ideal S2048x6160 .bf16) (r : Fin 8192) (q : Fin 6144) :
    (REF X W (ix2 r q) : EReal) = ∑ k : Fin 2048, X (ix2 r k) * W (ix2 k ⟨q.val, by omega⟩) := by
  pointwise [REF, Cert.Reference24Ideal.Read.val_main_v4, Cert.Reference24Ideal.Read.val_main_v3, Cert.Reference24Ideal.Read.val_main_v2, Cert.Reference24Ideal.Read.val_main_v1, Cert.Reference24Ideal.Read.val_main_v0]

/-- The normalised input. -/
abbrev hn (c : Dev nD) : FVec Ideal S8192x2048 .bf16 := m ((c : Thread nD τ).loc main_arg0)
/-- The projection's weights. -/
abbrev weights (c : Dev nD) : FVec Ideal S2048x6160 .bf16 := m ((c : Thread nD τ).loc main_arg1)

theorem row_lt (t : Fin cfg0.N) (r : Fin 1024) : t.val / 6 * 1024 + r.val < 8192 := by
  have := lt_of_lt_of_eq t.isLt (show cfg0.N = 48 from N_0); omega
theorem out_lt (a : ℕ) (q : Fin 1024) : a % 6 * 1024 + q.val < 6144 := by omega

/-- What a point writes back: the product of its two blocks. -/
theorem outs_eq (c : Dev nD) (t : Fin cfg0.N) : outsAt0 m c t = k0_pay3 (F := Ideal) (k0_pay2 (F := Ideal) (k0_pay1 (F := Ideal)) (iblk m c 0 t) (iblk m c 1 t)) := by
  unfold outsAt0; frame_out

/-- The array after the run is the reference's term. -/
theorem final (c : Dev nD) : (dats m 0 c).arrAt 2 (cfgs 0).N = REF (hn m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (hn m c) (weights m c)) ?_))
  · blk_point [iblk, V, idx t]
  · blk_ext [idx t]

end Cert.Kernel24Ideal.Product

end
-- ==== Proof.FoxOut.lean ====
module

public import proofs.«01_k».proof.Proof.Gen.Kernel25Ideal.Value
public import proofs.«01_k».proof.Proof.Gen.Reference25Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel25Ideal.Product

open Cert.Kernel25Ideal Cert.Kernel25Ideal.Gen

variable (m : (ℓ : Loc nD τ sig) → Buf (Elt Ideal) ℓ)

/-- What a point stores, at an index: the product of its two blocks and the residual. -/
theorem out_apply (x : FVec Ideal S1024x2048 .bf16) (w : FVec Ideal S2048x1024 .bf16) (h : FVec Ideal S1024x1024 .f32) (j : S1024x1024.Idx) :
    (k0_pay3 (F := Ideal) (k0_pay2 (F := Ideal) (k0_pay1 (F := Ideal)) x w) h j : EReal) = (∑ k : Fin 2048, x (ix2 (j 0) k) * w (ix2 k (j 1))) + h j := by
  pointwise [k0_pay3, k0_pay2, k0_pay1]

/-- The blocks of every grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] := (by decide +kernel : ∀ t : Fin grid0.N, _)

/-- The reference's term: the attention's output, added to the residual. -/
abbrev REF (X : FVec Ideal S8192x2048 .bf16) (W : FVec Ideal S2048x2048 .bf16) (H : FVec Ideal S8192x2048 .f32) : FVec Ideal S8192x2048 .f32 :=
  Cert.Reference25Ideal.Read.val_main_v3 (F := Ideal) X W H

/-- The reference's term at an index: one sum over the input's columns. -/
theorem ref_apply (X : FVec Ideal S8192x2048 .bf16) (W : FVec Ideal S2048x2048 .bf16) (H : FVec Ideal S8192x2048 .f32) (r : Fin 8192) (q : Fin 2048) :
    (REF X W H (ix2 r q) : EReal) = H (ix2 r q) + ∑ k : Fin 2048, X (ix2 r k) * W (ix2 k q) := by
  pointwise [REF, Cert.Reference25Ideal.Read.val_main_v3, Cert.Reference25Ideal.Read.val_main_v2, Cert.Reference25Ideal.Read.val_main_v1, Cert.Reference25Ideal.Read.val_main_v0]

/-- The heads' outputs. -/
abbrev hn (c : Dev nD) : FVec Ideal S8192x2048 .bf16 := m ((c : Thread nD τ).loc main_arg0)
/-- The projection's weights. -/
abbrev weights (c : Dev nD) : FVec Ideal S2048x2048 .bf16 := m ((c : Thread nD τ).loc main_arg1)
/-- The residual. -/
abbrev res (c : Dev nD) : FVec Ideal S8192x2048 .f32 := m ((c : Thread nD τ).loc main_arg2)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks and the residual. -/
theorem outs_eq (c : Dev nD) (t : Fin cfg0.N) : outsAt0 m c t = k0_pay3 (F := Ideal) (k0_pay2 (F := Ideal) (k0_pay1 (F := Ideal)) (iblk m c 0 t) (iblk m c 1 t)) (iblk m c 2 t) := by
  unfold outsAt0; frame_out

/-- The array after the run is the reference's term. -/
theorem final (c : Dev nD) : (dats m 0 c).arrAt 3 (cfgs 0).N = REF (hn m c) (weights m c) (res m c) := by
  refine (dats m 0 c).arrAt_eq_of_covers 3 _ (by decide +kernel) fun t _ y => ?_
  blk_simp
  rw [after0_3, outs_eq]
  refine (out_apply _ _ _ _).trans (((add_comm _ _).trans (congrArg₂ (· + ·) ?_ (Finset.sum_congr rfl fun k _ => ?_))).trans
    ((ref_apply _ _ _ ⟨_, row_lt t (y 0)⟩ ⟨_, out_lt t.val (y 1)⟩).symm.trans (congrArg (REF (hn m c) (weights m c) (res m c)) ?_)))
  · blk_point [iblk, V, idx t]
  · blk_point [iblk, V, idx t]
  · blk_ext [idx t]

end Cert.Kernel25Ideal.Product

end
-- ==== Proof.MixZ.lean ====
module

public import proofs.«01_k».proof.Proof.Gen.Kernel26Ideal.Value
public import proofs.«01_k».proof.Proof.Gen.Reference26Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel26Ideal.Product

open Cert.Kernel26Ideal Cert.Kernel26Ideal.Gen

variable (m : (ℓ : Loc nD τ sig) → Buf (Elt Ideal) ℓ)

/-- What a point stores, at an index: the product of its two blocks. -/
theorem out_apply (x : FVec Ideal S1024x2048 .bf16) (w : FVec Ideal S2048x1024 .bf16) (j : S1024x1024.Idx) :
    (k0_pay2 (F := Ideal) (k0_pay1 (F := Ideal)) x w j : EReal) = ∑ k : Fin 2048, x (ix2 (j 0) k) * w (ix2 k (j 1)) := by
  pointwise [k0_pay2, k0_pay1]

/-- The blocks of every grid point. -/
theorem idx : ∀ t : Fin cfg0.N, win0_0.index t = ![t.val / 2, 0] ∧ win0_1.index t = ![0, t.val % 2]
    ∧ win0_2.index t = ![t.val / 2, t.val % 2] := (by decide +kernel : ∀ t : Fin grid0.N, _)

/-- The reference's term: the projection to the gate z. -/
abbrev REF (X : FVec Ideal S8192x2048 .bf16) (W : FVec Ideal S2048x13344 .bf16) : FVec Ideal S8192x2048 .f32 :=
  Cert.Reference26Ideal.Read.val_main_v3 (F := Ideal) X W

/-- The reference's term at an index: one sum over the input's columns. -/
theorem ref_apply (X : FVec Ideal S8192x2048 .bf16) (W : FVec Ideal S2048x13344 .bf16) (r : Fin 8192) (q : Fin 2048) :
    (REF X W (ix2 r q) : EReal) = ∑ k : Fin 2048, X (ix2 r k) * W (ix2 k ⟨q.val, by omega⟩) := by
  pointwise [REF, Cert.Reference26Ideal.Read.val_main_v3, Cert.Reference26Ideal.Read.val_main_v2, Cert.Reference26Ideal.Read.val_main_v1, Cert.Reference26Ideal.Read.val_main_v0]

/-- The normalised input. -/
abbrev hn (c : Dev nD) : FVec Ideal S8192x2048 .bf16 := m ((c : Thread nD τ).loc main_arg0)
/-- The projection's weights. -/
abbrev weights (c : Dev nD) : FVec Ideal S2048x13344 .bf16 := m ((c : Thread nD τ).loc main_arg1)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (hn m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (hn m c) (weights m c)) ?_))
  · blk_point [iblk, V, idx t]
  · blk_ext [idx t]

end Cert.Kernel26Ideal.Product

end
-- ==== Proof.MixXbc.lean ====
module

public import proofs.«01_k».proof.Proof.Gen.Kernel27Ideal.Value
public import proofs.«01_k».proof.Proof.Gen.Reference27Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel27Ideal.Product

open Cert.Kernel27Ideal Cert.Kernel27Ideal.Gen

variable (m : (ℓ : Loc nD τ sig) → Buf (Elt Ideal) ℓ)

/-- What a point stores, at an index: the product of its two blocks. -/
theorem out_apply (x : FVec Ideal S1024x2048 .bf16) (w : FVec Ideal S2048x1024 .bf16) (j : S1024x1024.Idx) :
    (k0_pay2 (F := Ideal) (k0_pay1 (F := Ideal)) x w j : EReal) = ∑ k : Fin 2048, x (ix2 (j 0) k) * w (ix2 k (j 1)) := by
  pointwise [k0_pay2, k0_pay1]

/-- The blocks of every grid point. -/
theorem idx : ∀ t : Fin cfg0.N, win0_0.index t = ![t.val / 3, 0] ∧ win0_1.index t = ![0, t.val % 3]
    ∧ win0_2.index t = ![t.val / 3, t.val % 3] := (by decide +kernel : ∀ t : Fin grid0.N, _)

/-- The reference's term: the projection to the convolution's input. -/
abbrev REF (X : FVec Ideal S8192x2048 .bf16) (W : FVec Ideal S2048x13344 .bf16) : FVec Ideal S8192x3072 .f32 :=
  Cert.Reference27Ideal.Read.val_main_v3 (F := Ideal) X W

/-- The reference's term at an index: one sum over the input's columns. -/
theorem ref_apply (X : FVec Ideal S8192x2048 .bf16) (W : FVec Ideal S2048x13344 .bf16) (r : Fin 8192) (q : Fin 3072) :
    (REF X W (ix2 r q) : EReal) = ∑ k : Fin 2048, X (ix2 r k) * W (ix2 k ⟨2048 + q.val, by omega⟩) := by
  pointwise [REF, Cert.Reference27Ideal.Read.val_main_v3, Cert.Reference27Ideal.Read.val_main_v2, Cert.Reference27Ideal.Read.val_main_v1, Cert.Reference27Ideal.Read.val_main_v0]

/-- The normalised input. -/
abbrev hn (c : Dev nD) : FVec Ideal S8192x2048 .bf16 := m ((c : Thread nD τ).loc main_arg0)
/-- The projection's weights. -/
abbrev weights (c : Dev nD) : FVec Ideal S2048x13344 .bf16 := m ((c : Thread nD τ).loc main_arg1)

theorem row_lt (t : Fin cfg0.N) (r : Fin 1024) : t.val / 3 * 1024 + r.val < 8192 := by
  have := lt_of_lt_of_eq t.isLt (show cfg0.N = 24 from N_0); omega
theorem out_lt (a : ℕ) (q : Fin 1024) : a % 3 * 1024 + q.val < 3072 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (hn m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (hn m c) (weights m c)) ?_))
  · blk_point [iblk, V, idx t]
  · blk_ext [idx t]

end Cert.Kernel27Ideal.Product

end
-- ==== Proof.MixQfvg.lean ====
module

public import proofs.«01_k».proof.Proof.Gen.Kernel28Ideal.Value
public import proofs.«01_k».proof.Proof.Gen.Reference28Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel28Ideal.Product

open Cert.Kernel28Ideal Cert.Kernel28Ideal.Gen

variable (m : (ℓ : Loc nD τ sig) → Buf (Elt Ideal) ℓ)

/-- What a point stores, at an index: the product of its two blocks. -/
theorem out_apply (x : FVec Ideal S1024x2048 .bf16) (w : FVec Ideal S2048x1024 .bf16) (j : S1024x1024.Idx) :
    (k0_pay2 (F := Ideal) (k0_pay1 (F := Ideal)) x w j : EReal) = ∑ k : Fin 2048, x (ix2 (j 0) k) * w (ix2 k (j 1)) := by
  pointwise [k0_pay2, k0_pay1]

/-- The blocks of every grid point. -/
theorem idx : ∀ t : Fin cfg0.N, win0_0.index t = ![t.val / 8, 0] ∧ win0_1.index t = ![0, t.val % 8]
    ∧ win0_2.index t = ![t.val / 8, t.val % 8] := (by decide +kernel : ∀ t : Fin grid0.N, _)

/-- The reference's term: the projections to q, f, v and g. -/
abbrev REF (X : FVec Ideal S8192x2048 .bf16) (W : FVec Ideal S2048x13344 .bf16) : FVec Ideal S8192x8192 .f32 :=
  Cert.Reference28Ideal.Read.val_main_v3 (F := Ideal) X W

/-- The reference's term at an index: one sum over the input's columns. -/
theorem ref_apply (X : FVec Ideal S8192x2048 .bf16) (W : FVec Ideal S2048x13344 .bf16) (r : Fin 8192) (q : Fin 8192) :
    (REF X W (ix2 r q) : EReal) = ∑ k : Fin 2048, X (ix2 r k) * W (ix2 k ⟨5152 + q.val, by omega⟩) := by
  pointwise [REF, Cert.Reference28Ideal.Read.val_main_v3, Cert.Reference28Ideal.Read.val_main_v2, Cert.Reference28Ideal.Read.val_main_v1, Cert.Reference28Ideal.Read.val_main_v0]

/-- The normalised input. -/
abbrev hn (c : Dev nD) : FVec Ideal S8192x2048 .bf16 := m ((c : Thread nD τ).loc main_arg0)
/-- The projection's weights. -/
abbrev weights (c : Dev nD) : FVec Ideal S2048x13344 .bf16 := m ((c : Thread nD τ).loc main_arg1)

theorem row_lt (t : Fin cfg0.N) (r : Fin 1024) : t.val / 8 * 1024 + r.val < 8192 := by
  have := lt_of_lt_of_eq t.isLt (show cfg0.N = 64 from N_0); omega
theorem out_lt (a : ℕ) (q : Fin 1024) : a % 8 * 1024 + q.val < 8192 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (hn m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (hn m c) (weights m c)) ?_))
  · blk_point [iblk, V, idx t]
  · blk_ext [idx t]

end Cert.Kernel28Ideal.Product

end
-- ==== Proof.MixOut.lean ====
module

public import proofs.«01_k».proof.Proof.Gen.Kernel29Ideal.Value
public import proofs.«01_k».proof.Proof.Gen.Reference29Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel29Ideal.Product

open Cert.Kernel29Ideal Cert.Kernel29Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over 2048 columns of the halves. -/
theorem step_apply (acc : FVec Ideal S1024x1024 .f32) (x : FVec Ideal S1024x2048 .bf16) (w : FVec Ideal S2048x1024 .bf16) (j : S1024x1024.Idx) :
    k0_pay2 acc x w j = acc j + ∑ k : Fin 2048, x (ix2 (j 0) k) * w (ix2 k (j 1)) := by
  pointwise [k0_pay2]

/-- What is written back: the accumulated block and the residual. -/
theorem out_apply (acc h : FVec Ideal S1024x1024 .f32) (j : S1024x1024.Idx) : (k0_pay3 (F := Ideal) acc h j : EReal) = acc j + h j := by
  pointwise [k0_pay3]

/-- The blocks of every grid point. -/
theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] := (by decide +kernel : ∀ t : Fin grid0.N, _)

/-- The reference's term: the mixer's output, added to the residual. -/
abbrev REF (X : FVec Ideal S8192x4096 .bf16) (W : FVec Ideal S4096x2048 .bf16) (H : FVec Ideal S8192x2048 .f32) : FVec Ideal S8192x2048 .f32 :=
  Cert.Reference29Ideal.Read.val_main_v3 (F := Ideal) X W H

/-- The reference's term at an index: the residual and one sum over the halves' columns. -/
theorem ref_apply (X : FVec Ideal S8192x4096 .bf16) (W : FVec Ideal S4096x2048 .bf16) (H : FVec Ideal S8192x2048 .f32) (r : Fin 8192) (q : Fin 2048) :
    (REF X W H (ix2 r q) : EReal) = H (ix2 r q) + ∑ k : Fin 4096, X (ix2 r k) * W (ix2 k q) := by
  pointwise [REF, Cert.Reference29Ideal.Read.val_main_v3, Cert.Reference29Ideal.Read.val_main_v2, Cert.Reference29Ideal.Read.val_main_v1, Cert.Reference29Ideal.Read.val_main_v0]

/-- The mixer's two halves, side by side. -/
abbrev halves (c : Dev nD) : FVec Ideal S8192x4096 .bf16 := m ((c : Thread nD τ).loc main_arg0)
/-- The projection's weights. -/
abbrev weights (c : Dev nD) : FVec Ideal S4096x2048 .bf16 := m ((c : Thread nD τ).loc main_arg1)
/-- The residual. -/
abbrev res (c : Dev nD) : FVec Ideal S8192x2048 .f32 := m ((c : Thread nD τ).loc main_arg2)

theorem row_lt (t : Fin cfg0.N) (r : Fin 1024) : t.val / 4 * 1024 + r.val < 8192 := by
  have := lt_of_lt_of_eq t.isLt (show cfg0.N = 32 from N_0); omega
theorem out_lt (a : ℕ) (q : Fin 1024) : a / 2 % 2 * 1024 + q.val < 2048 := by omega

/-- What a point that writes back leaves in the accumulator: the two products of its run, added. -/
theorem acc_eq (c : Dev nD) (t : Fin cfg0.N) (ht : t.val % 2 = 1) (r q : Fin 1024) :
    ((outsAt0 m c t.val t.isLt).2 (ix2 r q) : EReal)
      = ∑ k : Fin 4096, halves m c (ix2 ⟨_, row_lt t r⟩ k) * weights m c (ix2 k ⟨_, out_lt t.val q⟩) := by
  refine (Pipeline.eq_sum_fin_of_reset_step_apply_of_flush (fun n h => (outsAt0 m c n h).2) 2 (fun _ => (0 : EReal))
    (fun t j => ∑ k : Fin 2048, (show FVec Ideal S1024x2048 .bf16 from iblk m c 0 t) (ix2 (j 0) k) * (show FVec Ideal S2048x1024 .bf16 from iblk m c 1 t) (ix2 k (j 1)))
    (fun t h j => by rw [outsAt0_A m c t h (by omega)]; frame_out; rw [step_apply, zero_apply])
    (fun t h j => by rw [outsAt0_B m c t h (by omega)]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 3 (cfgs 0).N = REF (halves m c) (weights m c) (res m c) := by
  refine (dats m 0 c).arrAt_eq_of_covers 3 _ (by decide +kernel) fun t hf y => ?_
  have ht := (flush0_3 t).mp hf
  blk_simp
  rw [after0_3, show (outsAt0 m c t.val t.isLt).1 = k0_pay3 (outsAt0 m c t.val t.isLt).2 (iblk m c 2 t) from by
    rw [outsAt0_B m c t (by omega) ht]; frame_out]
  refine (out_apply _ _ _).trans (((add_comm _ _).trans (congrArg₂ (· + ·) ?_ ((congrArg _ (eq_ix2 y)).trans (acc_eq m c t ht (y 0) (y 1))))).trans
    ((ref_apply _ _ _ ⟨_, row_lt t (y 0)⟩ ⟨_, out_lt t.val (y 1)⟩).symm.trans (congrArg (REF (halves m c) (weights m c) (res m c)) ?_)))
  · blk_point [iblk, V, idx t]
  · blk_ext [idx t]

end Cert.Kernel29Ideal.Product

end
-- ==== Proof.PleGate.lean ====
module

public import proofs.«01_k».proof.Proof.Gen.Kernel30Ideal.Value
public import proofs.«01_k».proof.Proof.Gen.Reference30Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel30Ideal.Product

open Cert.Kernel30Ideal Cert.Kernel30Ideal.Gen

variable (m : (ℓ : Loc nD τ sig) → Buf (Elt Ideal) ℓ)

/-- What a point stores, at an index: the product of its two blocks. -/
theorem out_apply (x : FVec Ideal S1024x2048 .bf16) (w : FVec Ideal S2048x1024 .bf16) (j : S1024x1024.Idx) :
    (k0_pay2 (F := Ideal) (k0_pay1 (F := Ideal)) x w j : EReal) = ∑ k : Fin 2048, x (ix2 (j 0) k) * w (ix2 k (j 1)) := by
  pointwise [k0_pay2, k0_pay1]

/-- The blocks of every grid point. -/
theorem idx : ∀ t : Fin cfg0.N, win0_0.index t = ![t.val / 2, 0] ∧ win0_1.index t = ![0, t.val % 2]
    ∧ win0_2.index t = ![t.val / 2, t.val % 2] := (by decide +kernel : ∀ t : Fin grid0.N, _)

/-- The reference's term: the gate's projection. -/
abbrev REF (X : FVec Ideal S8192x2048 .bf16) (W : FVec Ideal S2048x2048 .bf16) : FVec Ideal S8192x2048 .f32 :=
  Cert.Reference30Ideal.Read.val_main_v2 (F := Ideal) X W

/-- The reference's term at an index: one sum over the input's columns. -/
theorem ref_apply (X : FVec Ideal S8192x2048 .bf16) (W : FVec Ideal S2048x2048 .bf16) (r : Fin 8192) (q : Fin 2048) :
    (REF X W (ix2 r q) : EReal) = ∑ k : Fin 2048, X (ix2 r k) * W (ix2 k q) := by
  pointwise [REF, Cert.Reference30Ideal.Read.val_main_v2, Cert.Reference30Ideal.Read.val_main_v1, Cert.Reference30Ideal.Read.val_main_v0]

/-- The normalised input. -/
abbrev hn (c : Dev nD) : FVec Ideal S8192x2048 .bf16 := m ((c : Thread nD τ).loc main_arg0)
/-- The projection's weights. -/
abbrev weights (c : Dev nD) : FVec Ideal S2048x2048 .bf16 := m ((c : Thread nD τ).loc main_arg1)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (hn m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (hn m c) (weights m c)) ?_))
  · blk_point [iblk, V, idx t]
  · blk_ext [idx t]

end Cert.Kernel30Ideal.Product

end
-- ==== Proof.AdamSpec.lean ====
module

public import Idealize.ShloMosaic.PureOps.Ideal

@[expose] public section

noncomputable section

open Idealize.ShloMosaic

namespace Cert.AdamSpec

/-- The first moment after a step, from the gradient and the moment before. -/
def mean (g m : EReal) : EReal := Ideal.ofBits .f32 0x3F666666#32 * m + Ideal.ofBits .f32 0x3DCCCCCD#32 * g

/-- The second moment after a step, from the gradient and the moment before. -/
def square (g v : EReal) : EReal := Ideal.ofBits .f32 0x3F7FBE77#32 * v + Ideal.ofBits .f32 0x3A83126F#32 * (g * g)

/-- A weight's change: the corrected first moment over the root of the corrected second, and the weight's decay, times the negative rate. -/
def delta (w g m v : EReal) : EReal :=
  Ideal.ofBits .f32 0xBA83126F#32 * (Ideal.div (Ideal.div (mean g m) (Ideal.ofBits .f32 0x3F26BD02#32))
    (Ideal.sqrt (Ideal.div (square g v) (Ideal.ofBits .f32 0x3C231ACC#32)) + Ideal.ofBits .f32 0x322BCC77#32) + Ideal.ofBits .f32 0x3C23D70A#32 * w)

theorem mean_congr {g g' m m' : EReal} (hg : g = g') (hm : m = m') : mean g m = mean g' m' := by rw [hg, hm]

theorem square_congr {g g' v v' : EReal} (hg : g = g') (hv : v = v') : square g v = square g' v' := by rw [hg, hv]

theorem delta_congr {w w' g g' m m' v v' : EReal} (hw : w = w') (hg : g = g') (hm : m = m') (hv : v = v') : delta w g m v = delta w' g' m' v' := by
  rw [hw, hg, hm, hv]

end Cert.AdamSpec

end
-- ==== Proof.AdamFfnIn.lean ====
module

public import proofs.«01_k».proof.Proof.Gen.Kernel31Ideal.Value
public import proofs.«01_k».proof.Proof.Gen.Reference31Ideal.Read
public import Idealize.ShloMosaic.Lib.Pipeline.ValueKit
public import Idealize.ShloMosaic.Lib.Pipeline.ReadBack
public import proofs.«01_k».proof.Proof.AdamSpec
public import proofs.«01_k».proof.Proof.Gen.Reference31Ideal
public import proofs.«01_k».proof.Proof.Gen.Reference31Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel31Ideal.Adam

open Cert.Kernel31Ideal Cert.Kernel31Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S2x2048x2752 .f32 := m ((c : Thread nD τ).loc main_arg0)
/-- Their gradient. -/
abbrev grad (c : Dev nD) : FVec Ideal S2x2048x2752 .f32 := m ((c : Thread nD τ).loc main_arg1)
/-- The first moments. -/
abbrev first (c : Dev nD) : FVec Ideal S2x2048x2752 .f32 := m ((c : Thread nD τ).loc main_arg2)
/-- The second moments. -/
abbrev second (c : Dev nD) : FVec Ideal S2x2048x2752 .f32 := m ((c : Thread nD τ).loc main_arg3)

theorem row_lt (t : Fin cfg0.N) (x : S128x2048.Idx) : t.val * 128 + (x 0).val < 5504 := by
  have := lt_of_lt_of_eq t.isLt (show cfg0.N = 43 from N_0); have h0 : (x 0).val < 128 := (x 0).isLt; omega
theorem col_lt (t : Fin cfg0.N) (x : S128x2048.Idx) : (x 1).val < 2048 := by
  have := lt_of_lt_of_eq t.isLt (show cfg0.N = 43 from N_0); have h1 : (x 1).val < 2048 := (x 1).isLt; omega
/-- The row, and the column, of an index of a point's block. -/
abbrev row (t : Fin cfg0.N) (x : S128x2048.Idx) : Fin 5504 := ⟨t.val * 128 + (x 0).val, row_lt t x⟩
abbrev col (t : Fin cfg0.N) (x : S128x2048.Idx) : Fin 2048 := ⟨(x 1).val, col_lt t x⟩

/-- The weights at an index of a point's block. -/
theorem weight_block (c : Dev nD) (t : Fin cfg0.N) (x : S128x2048.Idx) : (iblk m c 0 t x : EReal) = weight m c (ix3 ⟨(row t x).val / 2752, by omega⟩ (col t x) ⟨(row t x).val % 2752, by omega⟩) := by
  blk_point [iblk, V, idx t]
/-- Their gradient at an index of a point's block. -/
theorem grad_block (c : Dev nD) (t : Fin cfg0.N) (x : S128x2048.Idx) : (iblk m c 1 t x : EReal) = grad m c (ix3 ⟨(row t x).val / 2752, by omega⟩ (col t x) ⟨(row t x).val % 2752, by omega⟩) := by
  blk_point [iblk, V, idx t]
/-- The first moments at an index of a point's block. -/
theorem first_block (c : Dev nD) (t : Fin cfg0.N) (x : S128x2048.Idx) : (iblk m c 2 t x : EReal) = first m c (ix3 ⟨(row t x).val / 2752, by omega⟩ (col t x) ⟨(row t x).val % 2752, by omega⟩) := by
  blk_point [iblk, V, idx t]
/-- The second moments at an index of a point's block. -/
theorem second_block (c : Dev nD) (t : Fin cfg0.N) (x : S128x2048.Idx) : (iblk m c 3 t x : EReal) = second m c (ix3 ⟨(row t x).val / 2752, by omega⟩ (col t x) ⟨(row t x).val % 2752, by omega⟩) := by
  blk_point [iblk, V, idx t]

/-- The reference's weight's change at an index. -/
theorem step_ref (W G M V : FVec Ideal S2x2048x2752 .f32) (r : Fin 5504) (c : Fin 2048) :
    (Cert.Reference31Ideal.Read.val_main_v25 (F := Ideal) W G M V (ix2 r c) : EReal) = AdamSpec.delta (W (ix3 ⟨r.val / 2752, by omega⟩ c ⟨r.val % 2752, by omega⟩)) (G (ix3 ⟨r.val / 2752, by omega⟩ c ⟨r.val % 2752, by omega⟩)) (M (ix3 ⟨r.val / 2752, by omega⟩ c ⟨r.val % 2752, by omega⟩)) (V (ix3 ⟨r.val / 2752, by omega⟩ c ⟨r.val % 2752, by omega⟩)) := by
  unfold AdamSpec.delta AdamSpec.mean AdamSpec.square
  pointwise [Cert.Reference31Ideal.Read.val_main_v25, Cert.Reference31Ideal.Read.val_main_v24, Cert.Reference31Ideal.Read.val_main_v23, Cert.Reference31Ideal.Read.val_main_v22, Cert.Reference31Ideal.Read.val_main_v21, Cert.Reference31Ideal.Read.val_main_v20, Cert.Reference31Ideal.Read.val_main_v19, Cert.Reference31Ideal.Read.val_main_v18, Cert.Reference31Ideal.Read.val_main_v17, Cert.Reference31Ideal.Read.val_main_v16, Cert.Reference31Ideal.Read.val_main_v15, Cert.Reference31Ideal.Read.val_main_v14, Cert.Reference31Ideal.Read.val_main_v13, Cert.Reference31Ideal.Read.val_main_v12, Cert.Reference31Ideal.Read.val_main_v11, Cert.Reference31Ideal.Read.val_main_v10, Cert.Reference31Ideal.Read.val_main_v9, Cert.Reference31Ideal.Read.val_main_v8, Cert.Reference31Ideal.Read.val_main_v7, Cert.Reference31Ideal.Read.val_main_v6, Cert.Reference31Ideal.Read.val_main_v5, Cert.Reference31Ideal.Read.val_main_v4, Cert.Reference31Ideal.Read.val_main_v3, Cert.Reference31Ideal.Read.val_main_v2, Cert.Reference31Ideal.Read.val_main_v1, Cert.Reference31Ideal.Read.val_main_v0, Cert.Reference31Ideal.Read.val_main_cst, Cert.Reference31Ideal.Read.val_main_cst_0, Cert.Reference31Ideal.Read.val_main_cst_1, Cert.Reference31Ideal.Read.val_main_cst_2, Cert.Reference31Ideal.Read.val_main_cst_3, Cert.Reference31Ideal.Read.val_main_cst_4, Cert.Reference31Ideal.Read.val_main_cst_5, Cert.Reference31Ideal.Read.val_main_cst_6, Cert.Reference31Ideal.Read.val_main_cst_7]

/-- The weight's change that a point stores, at an index of its block. -/
theorem step_out (b0 b1 b2 b3 : FVec Ideal S128x2048 .f32) (j : S128x2048.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference31Ideal.Read.val_main_v25 (F := Ideal) (weight m c) (grad m c) (first m c) (second m c) := by
  refine (dats m 0 c).arrAt_eq_of_covers 4 _ (by decide +kernel) fun t _ y => ?_
  have ht : t.val < 43 := lt_of_lt_of_eq t.isLt (show cfg0.N = 43 from N_0)
  obtain_idx i : S5504x2048 := [t.val * 128 + (y 0 : ℕ), (y 1 : ℕ)] with hi
  blk_simp
  rw [after0_4]
  refine Eq.trans (b := Cert.Reference31Ideal.Read.val_main_v25 (F := Ideal) (weight m c) (grad m c) (first m c) (second m c) i) ?_ (congrArg (Cert.Reference31Ideal.Read.val_main_v25 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S2x2048x2752 .f32) (r : Fin 5504) (c : Fin 2048) :
    (Cert.Reference31Ideal.Read.val_main_v27 (F := Ideal) G M (ix2 r c) : EReal) = AdamSpec.mean (G (ix3 ⟨r.val / 2752, by omega⟩ c ⟨r.val % 2752, by omega⟩)) (M (ix3 ⟨r.val / 2752, by omega⟩ c ⟨r.val % 2752, by omega⟩)) := by
  unfold AdamSpec.mean
  pointwise [Cert.Reference31Ideal.Read.val_main_v27, Cert.Reference31Ideal.Read.val_main_v26, Cert.Reference31Ideal.Read.val_main_v4, Cert.Reference31Ideal.Read.val_main_v3, Cert.Reference31Ideal.Read.val_main_v2, Cert.Reference31Ideal.Read.val_main_v1, Cert.Reference31Ideal.Read.val_main_v0, Cert.Reference31Ideal.Read.val_main_cst, Cert.Reference31Ideal.Read.val_main_cst_0]

/-- The first moment that a point stores, at an index of its block. -/
theorem mean_out (b1 b2 : FVec Ideal S128x2048 .f32) (j : S128x2048.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference31Ideal.Read.val_main_v27 (F := Ideal) (grad m c) (first m c) := by
  refine (dats m 0 c).arrAt_eq_of_covers 5 _ (by decide +kernel) fun t _ y => ?_
  have ht : t.val < 43 := lt_of_lt_of_eq t.isLt (show cfg0.N = 43 from N_0)
  obtain_idx i : S5504x2048 := [t.val * 128 + (y 0 : ℕ), (y 1 : ℕ)] with hi
  blk_simp
  rw [after0_5]
  refine Eq.trans (b := Cert.Reference31Ideal.Read.val_main_v27 (F := Ideal) (grad m c) (first m c) i) ?_ (congrArg (Cert.Reference31Ideal.Read.val_main_v27 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S2x2048x2752 .f32) (r : Fin 5504) (c : Fin 2048) :
    (Cert.Reference31Ideal.Read.val_main_v29 (F := Ideal) G V (ix2 r c) : EReal) = AdamSpec.square (G (ix3 ⟨r.val / 2752, by omega⟩ c ⟨r.val % 2752, by omega⟩)) (V (ix3 ⟨r.val / 2752, by omega⟩ c ⟨r.val % 2752, by omega⟩)) := by
  unfold AdamSpec.square
  pointwise [Cert.Reference31Ideal.Read.val_main_v29, Cert.Reference31Ideal.Read.val_main_v28, Cert.Reference31Ideal.Read.val_main_v10, Cert.Reference31Ideal.Read.val_main_v9, Cert.Reference31Ideal.Read.val_main_v8, Cert.Reference31Ideal.Read.val_main_v7, Cert.Reference31Ideal.Read.val_main_v6, Cert.Reference31Ideal.Read.val_main_v5, Cert.Reference31Ideal.Read.val_main_cst_1, Cert.Reference31Ideal.Read.val_main_cst_2]

/-- The second moment that a point stores, at an index of its block. -/
theorem square_out (b1 b3 : FVec Ideal S128x2048 .f32) (j : S128x2048.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference31Ideal.Read.val_main_v29 (F := Ideal) (grad m c) (second m c) := by
  refine (dats m 0 c).arrAt_eq_of_covers 6 _ (by decide +kernel) fun t _ y => ?_
  have ht : t.val < 43 := lt_of_lt_of_eq t.isLt (show cfg0.N = 43 from N_0)
  obtain_idx i : S5504x2048 := [t.val * 128 + (y 0 : ℕ), (y 1 : ℕ)] with hi
  blk_simp
  rw [after0_6]
  refine Eq.trans (b := Cert.Reference31Ideal.Read.val_main_v29 (F := Ideal) (grad m c) (second m c) i) ?_ (congrArg (Cert.Reference31Ideal.Read.val_main_v29 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = Cert.Reference31Ideal.Read.val_main_v25 (F := Ideal) (weight m c) (grad m c) (first m c) (second m c)
      ∧ r.2.mem ((c.tc : Thread nD τ).loc main_v8_1) = Cert.Reference31Ideal.Read.val_main_v27 (F := Ideal) (grad m c) (first m c)
      ∧ r.2.mem ((c.tc : Thread nD τ).loc main_v8_2) = Cert.Reference31Ideal.Read.val_main_v29 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel31Ideal.Adam

namespace Cert.Reference31Ideal.Adam

open Cert.Reference31Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S2x2048x2752 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v25) = Read.val_main_v25 (F := Ideal) (x0 c) (x1 c) (x2 c) (x3 c)
      ∧ r.2.mem ((c.tc : Thread nD τ).loc main_v27) = Read.val_main_v27 (F := Ideal) (x1 c) (x2 c)
      ∧ r.2.mem ((c.tc : Thread nD τ).loc main_v29) = Read.val_main_v29 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference31Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v25_eq _ _ _ _)
  · rw [← e1, ← e2]; exact r1.trans (Read.val_main_v27_eq _ _)
  · rw [← e1, ← e3]; exact r2.trans (Read.val_main_v29_eq _ _)

end Cert.Reference31Ideal.Adam

end
-- ==== Proof.AdamFfnOut.lean ====
module

public import proofs.«01_k».proof.Proof.Gen.Kernel32Ideal.Value
public import proofs.«01_k».proof.Proof.Gen.Reference32Ideal.Read
public import Idealize.ShloMosaic.Lib.Pipeline.ValueKit
public import Idealize.ShloMosaic.Lib.Pipeline.ReadBack
public import proofs.«01_k».proof.Proof.AdamSpec
public import proofs.«01_k».proof.Proof.Gen.Reference32Ideal
public import proofs.«01_k».proof.Proof.Gen.Reference32Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel32Ideal.Adam

open Cert.Kernel32Ideal Cert.Kernel32Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S2x1376x2048 .f32 := m ((c : Thread nD τ).loc main_arg0)
/-- Their gradient. -/
abbrev grad (c : Dev nD) : FVec Ideal S2x1376x2048 .f32 := m ((c : Thread nD τ).loc main_arg1)
/-- The first moments. -/
abbrev first (c : Dev nD) : FVec Ideal S2x1376x2048 .f32 := m ((c : Thread nD τ).loc main_arg2)
/-- The second moments. -/
abbrev second (c : Dev nD) : FVec Ideal S2x1376x2048 .f32 := m ((c : Thread nD τ).loc main_arg3)

theorem row_lt (t : Fin cfg0.N) (x : S64x2048.Idx) : t.val * 64 + (x 0).val < 2752 := by
  have := lt_of_lt_of_eq t.isLt (show cfg0.N = 43 from N_0); have h0 : (x 0).val < 64 := (x 0).isLt; omega
theorem col_lt (t : Fin cfg0.N) (x : S64x2048.Idx) : (x 1).val < 2048 := by
  have := lt_of_lt_of_eq t.isLt (show cfg0.N = 43 from N_0); have h1 : (x 1).val < 2048 := (x 1).isLt; omega
/-- The row, and the column, of an index of a point's block. -/
abbrev row (t : Fin cfg0.N) (x : S64x2048.Idx) : Fin 2752 := ⟨t.val * 64 + (x 0).val, row_lt t x⟩
abbrev col (t : Fin cfg0.N) (x : S64x2048.Idx) : Fin 2048 := ⟨(x 1).val, col_lt t x⟩

/-- The weights at an index of a point's block. -/
theorem weight_block (c : Dev nD) (t : Fin cfg0.N) (x : S64x2048.Idx) : (iblk m c 0 t x : EReal) = weight m c (ix3 ⟨(row t x).val / 1376, by omega⟩ ⟨(row t x).val % 1376, by omega⟩ (col t x)) := by
  blk_point [iblk, V, idx t]
/-- Their gradient at an index of a point's block. -/
theorem grad_block (c : Dev nD) (t : Fin cfg0.N) (x : S64x2048.Idx) : (iblk m c 1 t x : EReal) = grad m c (ix3 ⟨(row t x).val / 1376, by omega⟩ ⟨(row t x).val % 1376, by omega⟩ (col t x)) := by
  blk_point [iblk, V, idx t]
/-- The first moments at an index of a point's block. -/
theorem first_block (c : Dev nD) (t : Fin cfg0.N) (x : S64x2048.Idx) : (iblk m c 2 t x : EReal) = first m c (ix3 ⟨(row t x).val / 1376, by omega⟩ ⟨(row t x).val % 1376, by omega⟩ (col t x)) := by
  blk_point [iblk, V, idx t]
/-- The second moments at an index of a point's block. -/
theorem second_block (c : Dev nD) (t : Fin cfg0.N) (x : S64x2048.Idx) : (iblk m c 3 t x : EReal) = second m c (ix3 ⟨(row t x).val / 1376, by omega⟩ ⟨(row t x).val % 1376, by omega⟩ (col t x)) := by
  blk_point [iblk, V, idx t]

/-- The reference's weight's change at an index. -/
theorem step_ref (W G M V : FVec Ideal S2x1376x2048 .f32) (r : Fin 2752) (c : Fin 2048) :
    (Cert.Reference32Ideal.Read.val_main_v24 (F := Ideal) W G M V (ix2 r c) : EReal) = AdamSpec.delta (W (ix3 ⟨r.val / 1376, by omega⟩ ⟨r.val % 1376, by omega⟩ c)) (G (ix3 ⟨r.val / 1376, by omega⟩ ⟨r.val % 1376, by omega⟩ c)) (M (ix3 ⟨r.val / 1376, by omega⟩ ⟨r.val % 1376, by omega⟩ c)) (V (ix3 ⟨r.val / 1376, by omega⟩ ⟨r.val % 1376, by omega⟩ c)) := by
  unfold AdamSpec.delta AdamSpec.mean AdamSpec.square
  pointwise [Cert.Reference32Ideal.Read.val_main_v24, Cert.Reference32Ideal.Read.val_main_v23, Cert.Reference32Ideal.Read.val_main_v22, Cert.Reference32Ideal.Read.val_main_v21, Cert.Reference32Ideal.Read.val_main_v20, Cert.Reference32Ideal.Read.val_main_v19, Cert.Reference32Ideal.Read.val_main_v18, Cert.Reference32Ideal.Read.val_main_v17, Cert.Reference32Ideal.Read.val_main_v16, Cert.Reference32Ideal.Read.val_main_v15, Cert.Reference32Ideal.Read.val_main_v14, Cert.Reference32Ideal.Read.val_main_v13, Cert.Reference32Ideal.Read.val_main_v12, Cert.Reference32Ideal.Read.val_main_v11, Cert.Reference32Ideal.Read.val_main_v10, Cert.Reference32Ideal.Read.val_main_v9, Cert.Reference32Ideal.Read.val_main_v8, Cert.Reference32Ideal.Read.val_main_v7, Cert.Reference32Ideal.Read.val_main_v6, Cert.Reference32Ideal.Read.val_main_v5, Cert.Reference32Ideal.Read.val_main_v4, Cert.Reference32Ideal.Read.val_main_v3, Cert.Reference32Ideal.Read.val_main_v2, Cert.Reference32Ideal.Read.val_main_v1, Cert.Reference32Ideal.Read.val_main_v0, Cert.Reference32Ideal.Read.val_main_cst, Cert.Reference32Ideal.Read.val_main_cst_0, Cert.Reference32Ideal.Read.val_main_cst_1, Cert.Reference32Ideal.Read.val_main_cst_2, Cert.Reference32Ideal.Read.val_main_cst_3, Cert.Reference32Ideal.Read.val_main_cst_4, Cert.Reference32Ideal.Read.val_main_cst_5, Cert.Reference32Ideal.Read.val_main_cst_6, Cert.Reference32Ideal.Read.val_main_cst_7]

/-- The weight's change that a point stores, at an index of its block. -/
theorem step_out (b0 b1 b2 b3 : FVec Ideal S64x2048 .f32) (j : S64x2048.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference32Ideal.Read.val_main_v24 (F := Ideal) (weight m c) (grad m c) (first m c) (second m c) := by
  refine (dats m 0 c).arrAt_eq_of_covers 4 _ (by decide +kernel) fun t _ y => ?_
  have ht : t.val < 43 := lt_of_lt_of_eq t.isLt (show cfg0.N = 43 from N_0)
  obtain_idx i : S2752x2048 := [t.val * 64 + (y 0 : ℕ), (y 1 : ℕ)] with hi
  blk_simp
  rw [after0_4]
  refine Eq.trans (b := Cert.Reference32Ideal.Read.val_main_v24 (F := Ideal) (weight m c) (grad m c) (first m c) (second m c) i) ?_ (congrArg (Cert.Reference32Ideal.Read.val_main_v24 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S2x1376x2048 .f32) (r : Fin 2752) (c : Fin 2048) :
    (Cert.Reference32Ideal.Read.val_main_v25 (F := Ideal) G M (ix2 r c) : EReal) = AdamSpec.mean (G (ix3 ⟨r.val / 1376, by omega⟩ ⟨r.val % 1376, by omega⟩ c)) (M (ix3 ⟨r.val / 1376, by omega⟩ ⟨r.val % 1376, by omega⟩ c)) := by
  unfold AdamSpec.mean
  pointwise [Cert.Reference32Ideal.Read.val_main_v25, Cert.Reference32Ideal.Read.val_main_v4, Cert.Reference32Ideal.Read.val_main_v3, Cert.Reference32Ideal.Read.val_main_v2, Cert.Reference32Ideal.Read.val_main_v1, Cert.Reference32Ideal.Read.val_main_v0, Cert.Reference32Ideal.Read.val_main_cst, Cert.Reference32Ideal.Read.val_main_cst_0]

/-- The first moment that a point stores, at an index of its block. -/
theorem mean_out (b1 b2 : FVec Ideal S64x2048 .f32) (j : S64x2048.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference32Ideal.Read.val_main_v25 (F := Ideal) (grad m c) (first m c) := by
  refine (dats m 0 c).arrAt_eq_of_covers 5 _ (by decide +kernel) fun t _ y => ?_
  have ht : t.val < 43 := lt_of_lt_of_eq t.isLt (show cfg0.N = 43 from N_0)
  obtain_idx i : S2752x2048 := [t.val * 64 + (y 0 : ℕ), (y 1 : ℕ)] with hi
  blk_simp
  rw [after0_5]
  refine Eq.trans (b := Cert.Reference32Ideal.Read.val_main_v25 (F := Ideal) (grad m c) (first m c) i) ?_ (congrArg (Cert.Reference32Ideal.Read.val_main_v25 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S2x1376x2048 .f32) (r : Fin 2752) (c : Fin 2048) :
    (Cert.Reference32Ideal.Read.val_main_v26 (F := Ideal) G V (ix2 r c) : EReal) = AdamSpec.square (G (ix3 ⟨r.val / 1376, by omega⟩ ⟨r.val % 1376, by omega⟩ c)) (V (ix3 ⟨r.val / 1376, by omega⟩ ⟨r.val % 1376, by omega⟩ c)) := by
  unfold AdamSpec.square
  pointwise [Cert.Reference32Ideal.Read.val_main_v26, Cert.Reference32Ideal.Read.val_main_v10, Cert.Reference32Ideal.Read.val_main_v9, Cert.Reference32Ideal.Read.val_main_v8, Cert.Reference32Ideal.Read.val_main_v7, Cert.Reference32Ideal.Read.val_main_v6, Cert.Reference32Ideal.Read.val_main_v5, Cert.Reference32Ideal.Read.val_main_cst_1, Cert.Reference32Ideal.Read.val_main_cst_2]

/-- The second moment that a point stores, at an index of its block. -/
theorem square_out (b1 b3 : FVec Ideal S64x2048 .f32) (j : S64x2048.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference32Ideal.Read.val_main_v26 (F := Ideal) (grad m c) (second m c) := by
  refine (dats m 0 c).arrAt_eq_of_covers 6 _ (by decide +kernel) fun t _ y => ?_
  have ht : t.val < 43 := lt_of_lt_of_eq t.isLt (show cfg0.N = 43 from N_0)
  obtain_idx i : S2752x2048 := [t.val * 64 + (y 0 : ℕ), (y 1 : ℕ)] with hi
  blk_simp
  rw [after0_6]
  refine Eq.trans (b := Cert.Reference32Ideal.Read.val_main_v26 (F := Ideal) (grad m c) (second m c) i) ?_ (congrArg (Cert.Reference32Ideal.Read.val_main_v26 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = Cert.Reference32Ideal.Read.val_main_v24 (F := Ideal) (weight m c) (grad m c) (first m c) (second m c)
      ∧ r.2.mem ((c.tc : Thread nD τ).loc main_v4_1) = Cert.Reference32Ideal.Read.val_main_v25 (F := Ideal) (grad m c) (first m c)
      ∧ r.2.mem ((c.tc : Thread nD τ).loc main_v4_2) = Cert.Reference32Ideal.Read.val_main_v26 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel32Ideal.Adam

namespace Cert.Reference32Ideal.Adam

open Cert.Reference32Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S2x1376x2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v24) = Read.val_main_v24 (F := Ideal) (x0 c) (x1 c) (x2 c) (x3 c)
      ∧ r.2.mem ((c.tc : Thread nD τ).loc main_v25) = Read.val_main_v25 (F := Ideal) (x1 c) (x2 c)
      ∧ r.2.mem ((c.tc : Thread nD τ).loc main_v26) = Read.val_main_v26 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference32Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v24_eq _ _ _ _)
  · rw [← e1, ← e2]; exact r1.trans (Read.val_main_v25_eq _ _)
  · rw [← e1, ← e3]; exact r2.trans (Read.val_main_v26_eq _ _)

end Cert.Reference32Ideal.Adam

end
-- ==== Proof.AdamMixIn.lean ====
module

public import proofs.«01_k».proof.Proof.Gen.Kernel33Ideal.Value
public import proofs.«01_k».proof.Proof.Gen.Reference33Ideal.Read
public import Idealize.ShloMosaic.Lib.Pipeline.ValueKit
public import Idealize.ShloMosaic.Lib.Pipeline.ReadBack
public import proofs.«01_k».proof.Proof.AdamSpec
public import proofs.«01_k».proof.Proof.Gen.Reference33Ideal
public import proofs.«01_k».proof.Proof.Gen.Reference33Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel33Ideal.Adam

open Cert.Kernel33Ideal Cert.Kernel33Ideal.Gen

variable (m : (ℓ : Loc nD τ sig) → Buf (Elt Ideal) ℓ)

/-- The blocks of every grid point. -/
theorem idx : ∀ t : Fin cfg0.N, win0_0.index t = ![0, t.val] ∧ win0_1.index t = ![0, t.val] ∧ win0_2.index t = ![0, t.val] ∧ win0_3.index t = ![0, t.val] ∧ win0_4.index t = ![0, t.val] ∧ win0_5.index t = ![0, t.val] ∧ win0_6.index t = ![0, t.val] :=
  (by decide +kernel : ∀ t : Fin grid0.N, _)

/-- The weights. -/
abbrev weight (c : Dev nD) : FVec Ideal S1x2048x3336 .f32 := m ((c : Thread nD τ).loc main_arg0)
/-- Their gradient. -/
abbrev grad (c : Dev nD) : FVec Ideal S1x2048x3336 .f32 := m ((c : Thread nD τ).loc main_arg1)
/-- The first moments. -/
abbrev first (c : Dev nD) : FVec Ideal S1x2048x3336 .f32 := m ((c : Thread nD τ).loc main_arg2)
/-- The second moments. -/
abbrev second (c : Dev nD) : FVec Ideal S1x2048x3336 .f32 := m ((c : Thread nD τ).loc main_arg3)

theorem row_lt (t : Fin cfg0.N) (x : S3336x128.Idx) : (x 0).val < 3336 := by
  have := lt_of_lt_of_eq t.isLt (show cfg0.N = 16 from N_0); have h0 : (x 0).val < 3336 := (x 0).isLt; omega
theorem col_lt (t : Fin cfg0.N) (x : S3336x128.Idx) : t.val * 128 + (x 1).val < 2048 := by
  have := lt_of_lt_of_eq t.isLt (show cfg0.N = 16 from N_0); have h1 : (x 1).val < 128 := (x 1).isLt; omega
/-- The row, and the column, of an index of a point's block. -/
abbrev row (t : Fin cfg0.N) (x : S3336x128.Idx) : Fin 3336 := ⟨(x 0).val, row_lt t x⟩
abbrev col (t : Fin cfg0.N) (x : S3336x128.Idx) : Fin 2048 := ⟨t.val * 128 + (x 1).val, col_lt t x⟩

/-- The weights at an index of a point's block. -/
theorem weight_block (c : Dev nD) (t : Fin cfg0.N) (x : S3336x128.Idx) : (iblk m c 0 t x : EReal) = weight m c (ix3 0 (col t x) (row t x)) := by
  blk_point [iblk, V, idx t]
/-- Their gradient at an index of a point's block. -/
theorem grad_block (c : Dev nD) (t : Fin cfg0.N) (x : S3336x128.Idx) : (iblk m c 1 t x : EReal) = grad m c (ix3 0 (col t x) (row t x)) := by
  blk_point [iblk, V, idx t]
/-- The first moments at an index of a point's block. -/
theorem first_block (c : Dev nD) (t : Fin cfg0.N) (x : S3336x128.Idx) : (iblk m c 2 t x : EReal) = first m c (ix3 0 (col t x) (row t x)) := by
  blk_point [iblk, V, idx t]
/-- The second moments at an index of a point's block. -/
theorem second_block (c : Dev nD) (t : Fin cfg0.N) (x : S3336x128.Idx) : (iblk m c 3 t x : EReal) = second m c (ix3 0 (col t x) (row t x)) := by
  blk_point [iblk, V, idx t]

/-- The reference's weight's change at an index. -/
theorem step_ref (W G M V : FVec Ideal S1x2048x3336 .f32) (r : Fin 3336) (c : Fin 2048) :
    (Cert.Reference33Ideal.Read.val_main_v25 (F := Ideal) W G M V (ix2 r c) : EReal) = AdamSpec.delta (W (ix3 0 c r)) (G (ix3 0 c r)) (M (ix3 0 c r)) (V (ix3 0 c r)) := by
  unfold AdamSpec.delta AdamSpec.mean AdamSpec.square
  pointwise [Cert.Reference33Ideal.Read.val_main_v25, Cert.Reference33Ideal.Read.val_main_v24, Cert.Reference33Ideal.Read.val_main_v23, Cert.Reference33Ideal.Read.val_main_v22, Cert.Reference33Ideal.Read.val_main_v21, Cert.Reference33Ideal.Read.val_main_v20, Cert.Reference33Ideal.Read.val_main_v19, Cert.Reference33Ideal.Read.val_main_v18, Cert.Reference33Ideal.Read.val_main_v17, Cert.Reference33Ideal.Read.val_main_v16, Cert.Reference33Ideal.Read.val_main_v15, Cert.Reference33Ideal.Read.val_main_v14, Cert.Reference33Ideal.Read.val_main_v13, Cert.Reference33Ideal.Read.val_main_v12, Cert.Reference33Ideal.Read.val_main_v11, Cert.Reference33Ideal.Read.val_main_v10, Cert.Reference33Ideal.Read.val_main_v9, Cert.Reference33Ideal.Read.val_main_v8, Cert.Reference33Ideal.Read.val_main_v7, Cert.Reference33Ideal.Read.val_main_v6, Cert.Reference33Ideal.Read.val_main_v5, Cert.Reference33Ideal.Read.val_main_v4, Cert.Reference33Ideal.Read.val_main_v3, Cert.Reference33Ideal.Read.val_main_v2, Cert.Reference33Ideal.Read.val_main_v1, Cert.Reference33Ideal.Read.val_main_v0, Cert.Reference33Ideal.Read.val_main_cst, Cert.Reference33Ideal.Read.val_main_cst_0, Cert.Reference33Ideal.Read.val_main_cst_1, Cert.Reference33Ideal.Read.val_main_cst_2, Cert.Reference33Ideal.Read.val_main_cst_3, Cert.Reference33Ideal.Read.val_main_cst_4, Cert.Reference33Ideal.Read.val_main_cst_5, Cert.Reference33Ideal.Read.val_main_cst_6, Cert.Reference33Ideal.Read.val_main_cst_7]

/-- The weight's change that a point stores, at an index of its block. -/
theorem step_out (b0 b1 b2 b3 : FVec Ideal S3336x128 .f32) (j : S3336x128.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference33Ideal.Read.val_main_v25 (F := Ideal) (weight m c) (grad m c) (first m c) (second m c) := by
  refine (dats m 0 c).arrAt_eq_of_covers 4 _ (by decide +kernel) fun t _ y => ?_
  have ht : t.val < 16 := lt_of_lt_of_eq t.isLt (show cfg0.N = 16 from N_0)
  obtain_idx i : S3336x2048 := [(y 0 : ℕ), t.val * 128 + (y 1 : ℕ)] with hi
  blk_simp
  rw [after0_4]
  refine Eq.trans (b := Cert.Reference33Ideal.Read.val_main_v25 (F := Ideal) (weight m c) (grad m c) (first m c) (second m c) i) ?_ (congrArg (Cert.Reference33Ideal.Read.val_main_v25 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S1x2048x3336 .f32) (r : Fin 3336) (c : Fin 2048) :
    (Cert.Reference33Ideal.Read.val_main_v27 (F := Ideal) G M (ix2 r c) : EReal) = AdamSpec.mean (G (ix3 0 c r)) (M (ix3 0 c r)) := by
  unfold AdamSpec.mean
  pointwise [Cert.Reference33Ideal.Read.val_main_v27, Cert.Reference33Ideal.Read.val_main_v26, Cert.Reference33Ideal.Read.val_main_v4, Cert.Reference33Ideal.Read.val_main_v3, Cert.Reference33Ideal.Read.val_main_v2, Cert.Reference33Ideal.Read.val_main_v1, Cert.Reference33Ideal.Read.val_main_v0, Cert.Reference33Ideal.Read.val_main_cst, Cert.Reference33Ideal.Read.val_main_cst_0]

/-- The first moment that a point stores, at an index of its block. -/
theorem mean_out (b1 b2 : FVec Ideal S3336x128 .f32) (j : S3336x128.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference33Ideal.Read.val_main_v27 (F := Ideal) (grad m c) (first m c) := by
  refine (dats m 0 c).arrAt_eq_of_covers 5 _ (by decide +kernel) fun t _ y => ?_
  have ht : t.val < 16 := lt_of_lt_of_eq t.isLt (show cfg0.N = 16 from N_0)
  obtain_idx i : S3336x2048 := [(y 0 : ℕ), t.val * 128 + (y 1 : ℕ)] with hi
  blk_simp
  rw [after0_5]
  refine Eq.trans (b := Cert.Reference33Ideal.Read.val_main_v27 (F := Ideal) (grad m c) (first m c) i) ?_ (congrArg (Cert.Reference33Ideal.Read.val_main_v27 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S1x2048x3336 .f32) (r : Fin 3336) (c : Fin 2048) :
    (Cert.Reference33Ideal.Read.val_main_v29 (F := Ideal) G V (ix2 r c) : EReal) = AdamSpec.square (G (ix3 0 c r)) (V (ix3 0 c r)) := by
  unfold AdamSpec.square
  pointwise [Cert.Reference33Ideal.Read.val_main_v29, Cert.Reference33Ideal.Read.val_main_v28, Cert.Reference33Ideal.Read.val_main_v10, Cert.Reference33Ideal.Read.val_main_v9, Cert.Reference33Ideal.Read.val_main_v8, Cert.Reference33Ideal.Read.val_main_v7, Cert.Reference33Ideal.Read.val_main_v6, Cert.Reference33Ideal.Read.val_main_v5, Cert.Reference33Ideal.Read.val_main_cst_1, Cert.Reference33Ideal.Read.val_main_cst_2]

/-- The second moment that a point stores, at an index of its block. -/
theorem square_out (b1 b3 : FVec Ideal S3336x128 .f32) (j : S3336x128.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference33Ideal.Read.val_main_v29 (F := Ideal) (grad m c) (second m c) := by
  refine (dats m 0 c).arrAt_eq_of_covers 6 _ (by decide +kernel) fun t _ y => ?_
  have ht : t.val < 16 := lt_of_lt_of_eq t.isLt (show cfg0.N = 16 from N_0)
  obtain_idx i : S3336x2048 := [(y 0 : ℕ), t.val * 128 + (y 1 : ℕ)] with hi
  blk_simp
  rw [after0_6]
  refine Eq.trans (b := Cert.Reference33Ideal.Read.val_main_v29 (F := Ideal) (grad m c) (second m c) i) ?_ (congrArg (Cert.Reference33Ideal.Read.val_main_v29 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v8_0) = Cert.Reference33Ideal.Read.val_main_v25 (F := Ideal) (weight m c) (grad m c) (first m c) (second m c)
      ∧ r.2.mem ((c.tc : Thread nD τ).loc main_v8_1) = Cert.Reference33Ideal.Read.val_main_v27 (F := Ideal) (grad m c) (first m c)
      ∧ r.2.mem ((c.tc : Thread nD τ).loc main_v8_2) = Cert.Reference33Ideal.Read.val_main_v29 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel33Ideal.Adam

namespace Cert.Reference33Ideal.Adam

open Cert.Reference33Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S1x2048x3336 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v25) = Read.val_main_v25 (F := Ideal) (x0 c) (x1 c) (x2 c) (x3 c)
      ∧ r.2.mem ((c.tc : Thread nD τ).loc main_v27) = Read.val_main_v27 (F := Ideal) (x1 c) (x2 c)
      ∧ r.2.mem ((c.tc : Thread nD τ).loc main_v29) = Read.val_main_v29 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference33Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v25_eq _ _ _ _)
  · rw [← e1, ← e2]; exact r1.trans (Read.val_main_v27_eq _ _)
  · rw [← e1, ← e3]; exact r2.trans (Read.val_main_v29_eq _ _)

end Cert.Reference33Ideal.Adam

end
-- ==== Proof.AdamMixOut.lean ====
module

public import proofs.«01_k».proof.Proof.Gen.Kernel34Ideal.Value
public import proofs.«01_k».proof.Proof.Gen.Reference34Ideal.Read
public import Idealize.ShloMosaic.Lib.Pipeline.ValueKit
public import Idealize.ShloMosaic.Lib.Pipeline.ReadBack
public import proofs.«01_k».proof.Proof.AdamSpec
public import proofs.«01_k».proof.Proof.Gen.Reference34Ideal
public import proofs.«01_k».proof.Proof.Gen.Reference34Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel34Ideal.Adam

open Cert.Kernel34Ideal Cert.Kernel34Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S1x1024x2048 .f32 := m ((c : Thread nD τ).loc main_arg0)
/-- Their gradient. -/
abbrev grad (c : Dev nD) : FVec Ideal S1x1024x2048 .f32 := m ((c : Thread nD τ).loc main_arg1)
/-- The first moments. -/
abbrev first (c : Dev nD) : FVec Ideal S1x1024x2048 .f32 := m ((c : Thread nD τ).loc main_arg2)
/-- The second moments. -/
abbrev second (c : Dev nD) : FVec Ideal S1x1024x2048 .f32 := m ((c : Thread nD τ).loc main_arg3)

theorem row_lt (t : Fin cfg0.N) (x : S128x2048.Idx) : t.val * 128 + (x 0).val < 1024 := by
  have := lt_of_lt_of_eq t.isLt (show cfg0.N = 8 from N_0); have h0 : (x 0).val < 128 := (x 0).isLt; omega
theorem col_lt (t : Fin cfg0.N) (x : S128x2048.Idx) : (x 1).val < 2048 := by
  have := lt_of_lt_of_eq t.isLt (show cfg0.N = 8 from N_0); have h1 : (x 1).val < 2048 := (x 1).isLt; omega
/-- The row, and the column, of an index of a point's block. -/
abbrev row (t : Fin cfg0.N) (x : S128x2048.Idx) : Fin 1024 := ⟨t.val * 128 + (x 0).val, row_lt t x⟩
abbrev col (t : Fin cfg0.N) (x : S128x2048.Idx) : Fin 2048 := ⟨(x 1).val, col_lt t x⟩

/-- The weights at an index of a point's block. -/
theorem weight_block (c : Dev nD) (t : Fin cfg0.N) (x : S128x2048.Idx) : (iblk m c 0 t x : EReal) = weight m c (ix3 0 (row t x) (col t x)) := by
  blk_point [iblk, V, idx t]
/-- Their gradient at an index of a point's block. -/
theorem grad_block (c : Dev nD) (t : Fin cfg0.N) (x : S128x2048.Idx) : (iblk m c 1 t x : EReal) = grad m c (ix3 0 (row t x) (col t x)) := by
  blk_point [iblk, V, idx t]
/-- The first moments at an index of a point's block. -/
theorem first_block (c : Dev nD) (t : Fin cfg0.N) (x : S128x2048.Idx) : (iblk m c 2 t x : EReal) = first m c (ix3 0 (row t x) (col t x)) := by
  blk_point [iblk, V, idx t]
/-- The second moments at an index of a point's block. -/
theorem second_block (c : Dev nD) (t : Fin cfg0.N) (x : S128x2048.Idx) : (iblk m c 3 t x : EReal) = second m c (ix3 0 (row t x) (col t x)) := by
  blk_point [iblk, V, idx t]

/-- The reference's weight's change at an index. -/
theorem step_ref (W G M V : FVec Ideal S1x1024x2048 .f32) (r : Fin 1024) (c : Fin 2048) :
    (Cert.Reference34Ideal.Read.val_main_v24 (F := Ideal) W G M V (ix2 r c) : EReal) = AdamSpec.delta (W (ix3 0 r c)) (G (ix3 0 r c)) (M (ix3 0 r c)) (V (ix3 0 r c)) := by
  unfold AdamSpec.delta AdamSpec.mean AdamSpec.square
  pointwise [Cert.Reference34Ideal.Read.val_main_v24, Cert.Reference34Ideal.Read.val_main_v23, Cert.Reference34Ideal.Read.val_main_v22, Cert.Reference34Ideal.Read.val_main_v21, Cert.Reference34Ideal.Read.val_main_v20, Cert.Reference34Ideal.Read.val_main_v19, Cert.Reference34Ideal.Read.val_main_v18, Cert.Reference34Ideal.Read.val_main_v17, Cert.Reference34Ideal.Read.val_main_v16, Cert.Reference34Ideal.Read.val_main_v15, Cert.Reference34Ideal.Read.val_main_v14, Cert.Reference34Ideal.Read.val_main_v13, Cert.Reference34Ideal.Read.val_main_v12, Cert.Reference34Ideal.Read.val_main_v11, Cert.Reference34Ideal.Read.val_main_v10, Cert.Reference34Ideal.Read.val_main_v9, Cert.Reference34Ideal.Read.val_main_v8, Cert.Reference34Ideal.Read.val_main_v7, Cert.Reference34Ideal.Read.val_main_v6, Cert.Reference34Ideal.Read.val_main_v5, Cert.Reference34Ideal.Read.val_main_v4, Cert.Reference34Ideal.Read.val_main_v3, Cert.Reference34Ideal.Read.val_main_v2, Cert.Reference34Ideal.Read.val_main_v1, Cert.Reference34Ideal.Read.val_main_v0, Cert.Reference34Ideal.Read.val_main_cst, Cert.Reference34Ideal.Read.val_main_cst_0, Cert.Reference34Ideal.Read.val_main_cst_1, Cert.Reference34Ideal.Read.val_main_cst_2, Cert.Reference34Ideal.Read.val_main_cst_3, Cert.Reference34Ideal.Read.val_main_cst_4, Cert.Reference34Ideal.Read.val_main_cst_5, Cert.Reference34Ideal.Read.val_main_cst_6, Cert.Reference34Ideal.Read.val_main_cst_7]

/-- The weight's change that a point stores, at an index of its block. -/
theorem step_out (b0 b1 b2 b3 : FVec Ideal S128x2048 .f32) (j : S128x2048.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference34Ideal.Read.val_main_v24 (F := Ideal) (weight m c) (grad m c) (first m c) (second m c) := by
  refine (dats m 0 c).arrAt_eq_of_covers 4 _ (by decide +kernel) fun t _ y => ?_
  have ht : t.val < 8 := lt_of_lt_of_eq t.isLt (show cfg0.N = 8 from N_0)
  obtain_idx i : S1024x2048 := [t.val * 128 + (y 0 : ℕ), (y 1 : ℕ)] with hi
  blk_simp
  rw [after0_4]
  refine Eq.trans (b := Cert.Reference34Ideal.Read.val_main_v24 (F := Ideal) (weight m c) (grad m c) (first m c) (second m c) i) ?_ (congrArg (Cert.Reference34Ideal.Read.val_main_v24 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S1x1024x2048 .f32) (r : Fin 1024) (c : Fin 2048) :
    (Cert.Reference34Ideal.Read.val_main_v25 (F := Ideal) G M (ix2 r c) : EReal) = AdamSpec.mean (G (ix3 0 r c)) (M (ix3 0 r c)) := by
  unfold AdamSpec.mean
  pointwise [Cert.Reference34Ideal.Read.val_main_v25, Cert.Reference34Ideal.Read.val_main_v4, Cert.Reference34Ideal.Read.val_main_v3, Cert.Reference34Ideal.Read.val_main_v2, Cert.Reference34Ideal.Read.val_main_v1, Cert.Reference34Ideal.Read.val_main_v0, Cert.Reference34Ideal.Read.val_main_cst, Cert.Reference34Ideal.Read.val_main_cst_0]

/-- The first moment that a point stores, at an index of its block. -/
theorem mean_out (b1 b2 : FVec Ideal S128x2048 .f32) (j : S128x2048.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference34Ideal.Read.val_main_v25 (F := Ideal) (grad m c) (first m c) := by
  refine (dats m 0 c).arrAt_eq_of_covers 5 _ (by decide +kernel) fun t _ y => ?_
  have ht : t.val < 8 := lt_of_lt_of_eq t.isLt (show cfg0.N = 8 from N_0)
  obtain_idx i : S1024x2048 := [t.val * 128 + (y 0 : ℕ), (y 1 : ℕ)] with hi
  blk_simp
  rw [after0_5]
  refine Eq.trans (b := Cert.Reference34Ideal.Read.val_main_v25 (F := Ideal) (grad m c) (first m c) i) ?_ (congrArg (Cert.Reference34Ideal.Read.val_main_v25 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S1x1024x2048 .f32) (r : Fin 1024) (c : Fin 2048) :
    (Cert.Reference34Ideal.Read.val_main_v26 (F := Ideal) G V (ix2 r c) : EReal) = AdamSpec.square (G (ix3 0 r c)) (V (ix3 0 r c)) := by
  unfold AdamSpec.square
  pointwise [Cert.Reference34Ideal.Read.val_main_v26, Cert.Reference34Ideal.Read.val_main_v10, Cert.Reference34Ideal.Read.val_main_v9, Cert.Reference34Ideal.Read.val_main_v8, Cert.Reference34Ideal.Read.val_main_v7, Cert.Reference34Ideal.Read.val_main_v6, Cert.Reference34Ideal.Read.val_main_v5, Cert.Reference34Ideal.Read.val_main_cst_1, Cert.Reference34Ideal.Read.val_main_cst_2]

/-- The second moment that a point stores, at an index of its block. -/
theorem square_out (b1 b3 : FVec Ideal S128x2048 .f32) (j : S128x2048.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference34Ideal.Read.val_main_v26 (F := Ideal) (grad m c) (second m c) := by
  refine (dats m 0 c).arrAt_eq_of_covers 6 _ (by decide +kernel) fun t _ y => ?_
  have ht : t.val < 8 := lt_of_lt_of_eq t.isLt (show cfg0.N = 8 from N_0)
  obtain_idx i : S1024x2048 := [t.val * 128 + (y 0 : ℕ), (y 1 : ℕ)] with hi
  blk_simp
  rw [after0_6]
  refine Eq.trans (b := Cert.Reference34Ideal.Read.val_main_v26 (F := Ideal) (grad m c) (second m c) i) ?_ (congrArg (Cert.Reference34Ideal.Read.val_main_v26 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = Cert.Reference34Ideal.Read.val_main_v24 (F := Ideal) (weight m c) (grad m c) (first m c) (second m c)
      ∧ r.2.mem ((c.tc : Thread nD τ).loc main_v4_1) = Cert.Reference34Ideal.Read.val_main_v25 (F := Ideal) (grad m c) (first m c)
      ∧ r.2.mem ((c.tc : Thread nD τ).loc main_v4_2) = Cert.Reference34Ideal.Read.val_main_v26 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel34Ideal.Adam

namespace Cert.Reference34Ideal.Adam

open Cert.Reference34Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S1x1024x2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v24) = Read.val_main_v24 (F := Ideal) (x0 c) (x1 c) (x2 c) (x3 c)
      ∧ r.2.mem ((c.tc : Thread nD τ).loc main_v25) = Read.val_main_v25 (F := Ideal) (x1 c) (x2 c)
      ∧ r.2.mem ((c.tc : Thread nD τ).loc main_v26) = Read.val_main_v26 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference34Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v24_eq _ _ _ _)
  · rw [← e1, ← e2]; exact r1.trans (Read.val_main_v25_eq _ _)
  · rw [← e1, ← e3]; exact r2.trans (Read.val_main_v26_eq _ _)

end Cert.Reference34Ideal.Adam

end
-- ==== Proof.AdamFoxIn.lean ====
module

public import proofs.«01_k».proof.Proof.Gen.Kernel35Ideal.Value
public import proofs.«01_k».proof.Proof.Gen.Reference35Ideal.Read
public import Idealize.ShloMosaic.Lib.Pipeline.ValueKit
public import Idealize.ShloMosaic.Lib.Pipeline.ReadBack
public import proofs.«01_k».proof.Proof.AdamSpec
public import proofs.«01_k».proof.Proof.Gen.Reference35Ideal
public import proofs.«01_k».proof.Proof.Gen.Reference35Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel35Ideal.Adam

open Cert.Kernel35Ideal Cert.Kernel35Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S1x2048x1540 .f32 := m ((c : Thread nD τ).loc main_arg0)
/-- Their gradient. -/
abbrev grad (c : Dev nD) : FVec Ideal S1x2048x1540 .f32 := m ((c : Thread nD τ).loc main_arg1)
/-- The first moments. -/
abbrev first (c : Dev nD) : FVec Ideal S1x2048x1540 .f32 := m ((c : Thread nD τ).loc main_arg2)
/-- The second moments. -/
abbrev second (c : Dev nD) : FVec Ideal S1x2048x1540 .f32 := m ((c : Thread nD τ).loc main_arg3)

theorem row_lt (t : Fin cfg0.N) (x : S128x1540.Idx) : t.val * 128 + (x 0).val < 2048 := by
  have := lt_of_lt_of_eq t.isLt (show cfg0.N = 16 from N_0); have h0 : (x 0).val < 128 := (x 0).isLt; omega
theorem col_lt (t : Fin cfg0.N) (x : S128x1540.Idx) : (x 1).val < 1540 := by
  have := lt_of_lt_of_eq t.isLt (show cfg0.N = 16 from N_0); have h1 : (x 1).val < 1540 := (x 1).isLt; omega
/-- The row, and the column, of an index of a point's block. -/
abbrev row (t : Fin cfg0.N) (x : S128x1540.Idx) : Fin 2048 := ⟨t.val * 128 + (x 0).val, row_lt t x⟩
abbrev col (t : Fin cfg0.N) (x : S128x1540.Idx) : Fin 1540 := ⟨(x 1).val, col_lt t x⟩

/-- The weights at an index of a point's block. -/
theorem weight_block (c : Dev nD) (t : Fin cfg0.N) (x : S128x1540.Idx) : (iblk m c 0 t x : EReal) = weight m c (ix3 0 (row t x) (col t x)) := by
  blk_point [iblk, V, idx t]
/-- Their gradient at an index of a point's block. -/
theorem grad_block (c : Dev nD) (t : Fin cfg0.N) (x : S128x1540.Idx) : (iblk m c 1 t x : EReal) = grad m c (ix3 0 (row t x) (col t x)) := by
  blk_point [iblk, V, idx t]
/-- The first moments at an index of a point's block. -/
theorem first_block (c : Dev nD) (t : Fin cfg0.N) (x : S128x1540.Idx) : (iblk m c 2 t x : EReal) = first m c (ix3 0 (row t x) (col t x)) := by
  blk_point [iblk, V, idx t]
/-- The second moments at an index of a point's block. -/
theorem second_block (c : Dev nD) (t : Fin cfg0.N) (x : S128x1540.Idx) : (iblk m c 3 t x : EReal) = second m c (ix3 0 (row t x) (col t x)) := by
  blk_point [iblk, V, idx t]

/-- The reference's weight's change at an index. -/
theorem step_ref (W G M V : FVec Ideal S1x2048x1540 .f32) (r : Fin 2048) (c : Fin 1540) :
    (Cert.Reference35Ideal.Read.val_main_v24 (F := Ideal) W G M V (ix2 r c) : EReal) = AdamSpec.delta (W (ix3 0 r c)) (G (ix3 0 r c)) (M (ix3 0 r c)) (V (ix3 0 r c)) := by
  unfold AdamSpec.delta AdamSpec.mean AdamSpec.square
  pointwise [Cert.Reference35Ideal.Read.val_main_v24, Cert.Reference35Ideal.Read.val_main_v23, Cert.Reference35Ideal.Read.val_main_v22, Cert.Reference35Ideal.Read.val_main_v21, Cert.Reference35Ideal.Read.val_main_v20, Cert.Reference35Ideal.Read.val_main_v19, Cert.Reference35Ideal.Read.val_main_v18, Cert.Reference35Ideal.Read.val_main_v17, Cert.Reference35Ideal.Read.val_main_v16, Cert.Reference35Ideal.Read.val_main_v15, Cert.Reference35Ideal.Read.val_main_v14, Cert.Reference35Ideal.Read.val_main_v13, Cert.Reference35Ideal.Read.val_main_v12, Cert.Reference35Ideal.Read.val_main_v11, Cert.Reference35Ideal.Read.val_main_v10, Cert.Reference35Ideal.Read.val_main_v9, Cert.Reference35Ideal.Read.val_main_v8, Cert.Reference35Ideal.Read.val_main_v7, Cert.Reference35Ideal.Read.val_main_v6, Cert.Reference35Ideal.Read.val_main_v5, Cert.Reference35Ideal.Read.val_main_v4, Cert.Reference35Ideal.Read.val_main_v3, Cert.Reference35Ideal.Read.val_main_v2, Cert.Reference35Ideal.Read.val_main_v1, Cert.Reference35Ideal.Read.val_main_v0, Cert.Reference35Ideal.Read.val_main_cst, Cert.Reference35Ideal.Read.val_main_cst_0, Cert.Reference35Ideal.Read.val_main_cst_1, Cert.Reference35Ideal.Read.val_main_cst_2, Cert.Reference35Ideal.Read.val_main_cst_3, Cert.Reference35Ideal.Read.val_main_cst_4, Cert.Reference35Ideal.Read.val_main_cst_5, Cert.Reference35Ideal.Read.val_main_cst_6, Cert.Reference35Ideal.Read.val_main_cst_7]

/-- The weight's change that a point stores, at an index of its block. -/
theorem step_out (b0 b1 b2 b3 : FVec Ideal S128x1540 .f32) (j : S128x1540.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference35Ideal.Read.val_main_v24 (F := Ideal) (weight m c) (grad m c) (first m c) (second m c) := by
  refine (dats m 0 c).arrAt_eq_of_covers 4 _ (by decide +kernel) fun t _ y => ?_
  have ht : t.val < 16 := lt_of_lt_of_eq t.isLt (show cfg0.N = 16 from N_0)
  obtain_idx i : S2048x1540 := [t.val * 128 + (y 0 : ℕ), (y 1 : ℕ)] with hi
  blk_simp
  rw [after0_4]
  refine Eq.trans (b := Cert.Reference35Ideal.Read.val_main_v24 (F := Ideal) (weight m c) (grad m c) (first m c) (second m c) i) ?_ (congrArg (Cert.Reference35Ideal.Read.val_main_v24 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S1x2048x1540 .f32) (r : Fin 2048) (c : Fin 1540) :
    (Cert.Reference35Ideal.Read.val_main_v25 (F := Ideal) G M (ix2 r c) : EReal) = AdamSpec.mean (G (ix3 0 r c)) (M (ix3 0 r c)) := by
  unfold AdamSpec.mean
  pointwise [Cert.Reference35Ideal.Read.val_main_v25, Cert.Reference35Ideal.Read.val_main_v4, Cert.Reference35Ideal.Read.val_main_v3, Cert.Reference35Ideal.Read.val_main_v2, Cert.Reference35Ideal.Read.val_main_v1, Cert.Reference35Ideal.Read.val_main_v0, Cert.Reference35Ideal.Read.val_main_cst, Cert.Reference35Ideal.Read.val_main_cst_0]

/-- The first moment that a point stores, at an index of its block. -/
theorem mean_out (b1 b2 : FVec Ideal S128x1540 .f32) (j : S128x1540.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference35Ideal.Read.val_main_v25 (F := Ideal) (grad m c) (first m c) := by
  refine (dats m 0 c).arrAt_eq_of_covers 5 _ (by decide +kernel) fun t _ y => ?_
  have ht : t.val < 16 := lt_of_lt_of_eq t.isLt (show cfg0.N = 16 from N_0)
  obtain_idx i : S2048x1540 := [t.val * 128 + (y 0 : ℕ), (y 1 : ℕ)] with hi
  blk_simp
  rw [after0_5]
  refine Eq.trans (b := Cert.Reference35Ideal.Read.val_main_v25 (F := Ideal) (grad m c) (first m c) i) ?_ (congrArg (Cert.Reference35Ideal.Read.val_main_v25 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S1x2048x1540 .f32) (r : Fin 2048) (c : Fin 1540) :
    (Cert.Reference35Ideal.Read.val_main_v26 (F := Ideal) G V (ix2 r c) : EReal) = AdamSpec.square (G (ix3 0 r c)) (V (ix3 0 r c)) := by
  unfold AdamSpec.square
  pointwise [Cert.Reference35Ideal.Read.val_main_v26, Cert.Reference35Ideal.Read.val_main_v10, Cert.Reference35Ideal.Read.val_main_v9, Cert.Reference35Ideal.Read.val_main_v8, Cert.Reference35Ideal.Read.val_main_v7, Cert.Reference35Ideal.Read.val_main_v6, Cert.Reference35Ideal.Read.val_main_v5, Cert.Reference35Ideal.Read.val_main_cst_1, Cert.Reference35Ideal.Read.val_main_cst_2]

/-- The second moment that a point stores, at an index of its block. -/
theorem square_out (b1 b3 : FVec Ideal S128x1540 .f32) (j : S128x1540.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference35Ideal.Read.val_main_v26 (F := Ideal) (grad m c) (second m c) := by
  refine (dats m 0 c).arrAt_eq_of_covers 6 _ (by decide +kernel) fun t _ y => ?_
  have ht : t.val < 16 := lt_of_lt_of_eq t.isLt (show cfg0.N = 16 from N_0)
  obtain_idx i : S2048x1540 := [t.val * 128 + (y 0 : ℕ), (y 1 : ℕ)] with hi
  blk_simp
  rw [after0_6]
  refine Eq.trans (b := Cert.Reference35Ideal.Read.val_main_v26 (F := Ideal) (grad m c) (second m c) i) ?_ (congrArg (Cert.Reference35Ideal.Read.val_main_v26 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = Cert.Reference35Ideal.Read.val_main_v24 (F := Ideal) (weight m c) (grad m c) (first m c) (second m c)
      ∧ r.2.mem ((c.tc : Thread nD τ).loc main_v4_1) = Cert.Reference35Ideal.Read.val_main_v25 (F := Ideal) (grad m c) (first m c)
      ∧ r.2.mem ((c.tc : Thread nD τ).loc main_v4_2) = Cert.Reference35Ideal.Read.val_main_v26 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel35Ideal.Adam

namespace Cert.Reference35Ideal.Adam

open Cert.Reference35Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S1x2048x1540 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v24) = Read.val_main_v24 (F := Ideal) (x0 c) (x1 c) (x2 c) (x3 c)
      ∧ r.2.mem ((c.tc : Thread nD τ).loc main_v25) = Read.val_main_v25 (F := Ideal) (x1 c) (x2 c)
      ∧ r.2.mem ((c.tc : Thread nD τ).loc main_v26) = Read.val_main_v26 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference35Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v24_eq _ _ _ _)
  · rw [← e1, ← e2]; exact r1.trans (Read.val_main_v25_eq _ _)
  · rw [← e1, ← e3]; exact r2.trans (Read.val_main_v26_eq _ _)

end Cert.Reference35Ideal.Adam

end
-- ==== Proof.AdamFoxOut.lean ====
module

public import proofs.«01_k».proof.Proof.Gen.Kernel36Ideal.Value
public import proofs.«01_k».proof.Proof.Gen.Reference36Ideal.Read
public import Idealize.ShloMosaic.Lib.Pipeline.ValueKit
public import Idealize.ShloMosaic.Lib.Pipeline.ReadBack
public import proofs.«01_k».proof.Proof.AdamSpec
public import proofs.«01_k».proof.Proof.Gen.Reference36Ideal
public import proofs.«01_k».proof.Proof.Gen.Reference36Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel36Ideal.Adam

open Cert.Kernel36Ideal Cert.Kernel36Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S1x512x2048 .f32 := m ((c : Thread nD τ).loc main_arg0)
/-- Their gradient. -/
abbrev grad (c : Dev nD) : FVec Ideal S1x512x2048 .f32 := m ((c : Thread nD τ).loc main_arg1)
/-- The first moments. -/
abbrev first (c : Dev nD) : FVec Ideal S1x512x2048 .f32 := m ((c : Thread nD τ).loc main_arg2)
/-- The second moments. -/
abbrev second (c : Dev nD) : FVec Ideal S1x512x2048 .f32 := m ((c : Thread nD τ).loc main_arg3)

theorem row_lt (t : Fin cfg0.N) (x : S128x2048.Idx) : t.val * 128 + (x 0).val < 512 := by
  have := lt_of_lt_of_eq t.isLt (show cfg0.N = 4 from N_0); have h0 : (x 0).val < 128 := (x 0).isLt; omega
theorem col_lt (t : Fin cfg0.N) (x : S128x2048.Idx) : (x 1).val < 2048 := by
  have := lt_of_lt_of_eq t.isLt (show cfg0.N = 4 from N_0); have h1 : (x 1).val < 2048 := (x 1).isLt; omega
/-- The row, and the column, of an index of a point's block. -/
abbrev row (t : Fin cfg0.N) (x : S128x2048.Idx) : Fin 512 := ⟨t.val * 128 + (x 0).val, row_lt t x⟩
abbrev col (t : Fin cfg0.N) (x : S128x2048.Idx) : Fin 2048 := ⟨(x 1).val, col_lt t x⟩

/-- The weights at an index of a point's block. -/
theorem weight_block (c : Dev nD) (t : Fin cfg0.N) (x : S128x2048.Idx) : (iblk m c 0 t x : EReal) = weight m c (ix3 0 (row t x) (col t x)) := by
  blk_point [iblk, V, idx t]
/-- Their gradient at an index of a point's block. -/
theorem grad_block (c : Dev nD) (t : Fin cfg0.N) (x : S128x2048.Idx) : (iblk m c 1 t x : EReal) = grad m c (ix3 0 (row t x) (col t x)) := by
  blk_point [iblk, V, idx t]
/-- The first moments at an index of a point's block. -/
theorem first_block (c : Dev nD) (t : Fin cfg0.N) (x : S128x2048.Idx) : (iblk m c 2 t x : EReal) = first m c (ix3 0 (row t x) (col t x)) := by
  blk_point [iblk, V, idx t]
/-- The second moments at an index of a point's block. -/
theorem second_block (c : Dev nD) (t : Fin cfg0.N) (x : S128x2048.Idx) : (iblk m c 3 t x : EReal) = second m c (ix3 0 (row t x) (col t x)) := by
  blk_point [iblk, V, idx t]

/-- The reference's weight's change at an index. -/
theorem step_ref (W G M V : FVec Ideal S1x512x2048 .f32) (r : Fin 512) (c : Fin 2048) :
    (Cert.Reference36Ideal.Read.val_main_v24 (F := Ideal) W G M V (ix2 r c) : EReal) = AdamSpec.delta (W (ix3 0 r c)) (G (ix3 0 r c)) (M (ix3 0 r c)) (V (ix3 0 r c)) := by
  unfold AdamSpec.delta AdamSpec.mean AdamSpec.square
  pointwise [Cert.Reference36Ideal.Read.val_main_v24, Cert.Reference36Ideal.Read.val_main_v23, Cert.Reference36Ideal.Read.val_main_v22, Cert.Reference36Ideal.Read.val_main_v21, Cert.Reference36Ideal.Read.val_main_v20, Cert.Reference36Ideal.Read.val_main_v19, Cert.Reference36Ideal.Read.val_main_v18, Cert.Reference36Ideal.Read.val_main_v17, Cert.Reference36Ideal.Read.val_main_v16, Cert.Reference36Ideal.Read.val_main_v15, Cert.Reference36Ideal.Read.val_main_v14, Cert.Reference36Ideal.Read.val_main_v13, Cert.Reference36Ideal.Read.val_main_v12, Cert.Reference36Ideal.Read.val_main_v11, Cert.Reference36Ideal.Read.val_main_v10, Cert.Reference36Ideal.Read.val_main_v9, Cert.Reference36Ideal.Read.val_main_v8, Cert.Reference36Ideal.Read.val_main_v7, Cert.Reference36Ideal.Read.val_main_v6, Cert.Reference36Ideal.Read.val_main_v5, Cert.Reference36Ideal.Read.val_main_v4, Cert.Reference36Ideal.Read.val_main_v3, Cert.Reference36Ideal.Read.val_main_v2, Cert.Reference36Ideal.Read.val_main_v1, Cert.Reference36Ideal.Read.val_main_v0, Cert.Reference36Ideal.Read.val_main_cst, Cert.Reference36Ideal.Read.val_main_cst_0, Cert.Reference36Ideal.Read.val_main_cst_1, Cert.Reference36Ideal.Read.val_main_cst_2, Cert.Reference36Ideal.Read.val_main_cst_3, Cert.Reference36Ideal.Read.val_main_cst_4, Cert.Reference36Ideal.Read.val_main_cst_5, Cert.Reference36Ideal.Read.val_main_cst_6, Cert.Reference36Ideal.Read.val_main_cst_7]

/-- The weight's change that a point stores, at an index of its block. -/
theorem step_out (b0 b1 b2 b3 : FVec Ideal S128x2048 .f32) (j : S128x2048.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference36Ideal.Read.val_main_v24 (F := Ideal) (weight m c) (grad m c) (first m c) (second m c) := by
  refine (dats m 0 c).arrAt_eq_of_covers 4 _ (by decide +kernel) fun t _ y => ?_
  have ht : t.val < 4 := lt_of_lt_of_eq t.isLt (show cfg0.N = 4 from N_0)
  obtain_idx i : S512x2048 := [t.val * 128 + (y 0 : ℕ), (y 1 : ℕ)] with hi
  blk_simp
  rw [after0_4]
  refine Eq.trans (b := Cert.Reference36Ideal.Read.val_main_v24 (F := Ideal) (weight m c) (grad m c) (first m c) (second m c) i) ?_ (congrArg (Cert.Reference36Ideal.Read.val_main_v24 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S1x512x2048 .f32) (r : Fin 512) (c : Fin 2048) :
    (Cert.Reference36Ideal.Read.val_main_v25 (F := Ideal) G M (ix2 r c) : EReal) = AdamSpec.mean (G (ix3 0 r c)) (M (ix3 0 r c)) := by
  unfold AdamSpec.mean
  pointwise [Cert.Reference36Ideal.Read.val_main_v25, Cert.Reference36Ideal.Read.val_main_v4, Cert.Reference36Ideal.Read.val_main_v3, Cert.Reference36Ideal.Read.val_main_v2, Cert.Reference36Ideal.Read.val_main_v1, Cert.Reference36Ideal.Read.val_main_v0, Cert.Reference36Ideal.Read.val_main_cst, Cert.Reference36Ideal.Read.val_main_cst_0]

/-- The first moment that a point stores, at an index of its block. -/
theorem mean_out (b1 b2 : FVec Ideal S128x2048 .f32) (j : S128x2048.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference36Ideal.Read.val_main_v25 (F := Ideal) (grad m c) (first m c) := by
  refine (dats m 0 c).arrAt_eq_of_covers 5 _ (by decide +kernel) fun t _ y => ?_
  have ht : t.val < 4 := lt_of_lt_of_eq t.isLt (show cfg0.N = 4 from N_0)
  obtain_idx i : S512x2048 := [t.val * 128 + (y 0 : ℕ), (y 1 : ℕ)] with hi
  blk_simp
  rw [after0_5]
  refine Eq.trans (b := Cert.Reference36Ideal.Read.val_main_v25 (F := Ideal) (grad m c) (first m c) i) ?_ (congrArg (Cert.Reference36Ideal.Read.val_main_v25 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S1x512x2048 .f32) (r : Fin 512) (c : Fin 2048) :
    (Cert.Reference36Ideal.Read.val_main_v26 (F := Ideal) G V (ix2 r c) : EReal) = AdamSpec.square (G (ix3 0 r c)) (V (ix3 0 r c)) := by
  unfold AdamSpec.square
  pointwise [Cert.Reference36Ideal.Read.val_main_v26, Cert.Reference36Ideal.Read.val_main_v10, Cert.Reference36Ideal.Read.val_main_v9, Cert.Reference36Ideal.Read.val_main_v8, Cert.Reference36Ideal.Read.val_main_v7, Cert.Reference36Ideal.Read.val_main_v6, Cert.Reference36Ideal.Read.val_main_v5, Cert.Reference36Ideal.Read.val_main_cst_1, Cert.Reference36Ideal.Read.val_main_cst_2]

/-- The second moment that a point stores, at an index of its block. -/
theorem square_out (b1 b3 : FVec Ideal S128x2048 .f32) (j : S128x2048.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference36Ideal.Read.val_main_v26 (F := Ideal) (grad m c) (second m c) := by
  refine (dats m 0 c).arrAt_eq_of_covers 6 _ (by decide +kernel) fun t _ y => ?_
  have ht : t.val < 4 := lt_of_lt_of_eq t.isLt (show cfg0.N = 4 from N_0)
  obtain_idx i : S512x2048 := [t.val * 128 + (y 0 : ℕ), (y 1 : ℕ)] with hi
  blk_simp
  rw [after0_6]
  refine Eq.trans (b := Cert.Reference36Ideal.Read.val_main_v26 (F := Ideal) (grad m c) (second m c) i) ?_ (congrArg (Cert.Reference36Ideal.Read.val_main_v26 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = Cert.Reference36Ideal.Read.val_main_v24 (F := Ideal) (weight m c) (grad m c) (first m c) (second m c)
      ∧ r.2.mem ((c.tc : Thread nD τ).loc main_v4_1) = Cert.Reference36Ideal.Read.val_main_v25 (F := Ideal) (grad m c) (first m c)
      ∧ r.2.mem ((c.tc : Thread nD τ).loc main_v4_2) = Cert.Reference36Ideal.Read.val_main_v26 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel36Ideal.Adam

namespace Cert.Reference36Ideal.Adam

open Cert.Reference36Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S1x512x2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v24) = Read.val_main_v24 (F := Ideal) (x0 c) (x1 c) (x2 c) (x3 c)
      ∧ r.2.mem ((c.tc : Thread nD τ).loc main_v25) = Read.val_main_v25 (F := Ideal) (x1 c) (x2 c)
      ∧ r.2.mem ((c.tc : Thread nD τ).loc main_v26) = Read.val_main_v26 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference36Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v24_eq _ _ _ _)
  · rw [← e1, ← e2]; exact r1.trans (Read.val_main_v25_eq _ _)
  · rw [← e1, ← e3]; exact r2.trans (Read.val_main_v26_eq _ _)

end Cert.Reference36Ideal.Adam

end
-- ==== Proof.AdamPleGate.lean ====
module

public import proofs.«01_k».proof.Proof.Gen.Kernel37Ideal.Value
public import proofs.«01_k».proof.Proof.Gen.Reference37Ideal.Read
public import Idealize.ShloMosaic.Lib.Pipeline.ValueKit
public import Idealize.ShloMosaic.Lib.Pipeline.ReadBack
public import proofs.«01_k».proof.Proof.AdamSpec
public import proofs.«01_k».proof.Proof.Gen.Reference37Ideal
public import proofs.«01_k».proof.Proof.Gen.Reference37Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel37Ideal.Adam

open Cert.Kernel37Ideal Cert.Kernel37Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S2x512x2048 .f32 := m ((c : Thread nD τ).loc main_arg0)
/-- Their gradient. -/
abbrev grad (c : Dev nD) : FVec Ideal S2x512x2048 .f32 := m ((c : Thread nD τ).loc main_arg1)
/-- The first moments. -/
abbrev first (c : Dev nD) : FVec Ideal S2x512x2048 .f32 := m ((c : Thread nD τ).loc main_arg2)
/-- The second moments. -/
abbrev second (c : Dev nD) : FVec Ideal S2x512x2048 .f32 := m ((c : Thread nD τ).loc main_arg3)

theorem row_lt (t : Fin cfg0.N) (x : S128x2048.Idx) : t.val * 128 + (x 0).val < 1024 := by
  have := lt_of_lt_of_eq t.isLt (show cfg0.N = 8 from N_0); have h0 : (x 0).val < 128 := (x 0).isLt; omega
theorem col_lt (t : Fin cfg0.N) (x : S128x2048.Idx) : (x 1).val < 2048 := by
  have := lt_of_lt_of_eq t.isLt (show cfg0.N = 8 from N_0); have h1 : (x 1).val < 2048 := (x 1).isLt; omega
/-- The row, and the column, of an index of a point's block. -/
abbrev row (t : Fin cfg0.N) (x : S128x2048.Idx) : Fin 1024 := ⟨t.val * 128 + (x 0).val, row_lt t x⟩
abbrev col (t : Fin cfg0.N) (x : S128x2048.Idx) : Fin 2048 := ⟨(x 1).val, col_lt t x⟩

/-- The weights at an index of a point's block. -/
theorem weight_block (c : Dev nD) (t : Fin cfg0.N) (x : S128x2048.Idx) : (iblk m c 0 t x : EReal) = weight m c (ix3 ⟨(row t x).val / 512, by omega⟩ ⟨(row t x).val % 512, by omega⟩ (col t x)) := by
  blk_point [iblk, V, idx t]
/-- Their gradient at an index of a point's block. -/
theorem grad_block (c : Dev nD) (t : Fin cfg0.N) (x : S128x2048.Idx) : (iblk m c 1 t x : EReal) = grad m c (ix3 ⟨(row t x).val / 512, by omega⟩ ⟨(row t x).val % 512, by omega⟩ (col t x)) := by
  blk_point [iblk, V, idx t]
/-- The first moments at an index of a point's block. -/
theorem first_block (c : Dev nD) (t : Fin cfg0.N) (x : S128x2048.Idx) : (iblk m c 2 t x : EReal) = first m c (ix3 ⟨(row t x).val / 512, by omega⟩ ⟨(row t x).val % 512, by omega⟩ (col t x)) := by
  blk_point [iblk, V, idx t]
/-- The second moments at an index of a point's block. -/
theorem second_block (c : Dev nD) (t : Fin cfg0.N) (x : S128x2048.Idx) : (iblk m c 3 t x : EReal) = second m c (ix3 ⟨(row t x).val / 512, by omega⟩ ⟨(row t x).val % 512, by omega⟩ (col t x)) := by
  blk_point [iblk, V, idx t]

/-- The reference's weight's change at an index. -/
theorem step_ref (W G M V : FVec Ideal S2x512x2048 .f32) (r : Fin 1024) (c : Fin 2048) :
    (Cert.Reference37Ideal.Read.val_main_v24 (F := Ideal) W G M V (ix2 r c) : EReal) = AdamSpec.delta (W (ix3 ⟨r.val / 512, by omega⟩ ⟨r.val % 512, by omega⟩ c)) (G (ix3 ⟨r.val / 512, by omega⟩ ⟨r.val % 512, by omega⟩ c)) (M (ix3 ⟨r.val / 512, by omega⟩ ⟨r.val % 512, by omega⟩ c)) (V (ix3 ⟨r.val / 512, by omega⟩ ⟨r.val % 512, by omega⟩ c)) := by
  unfold AdamSpec.delta AdamSpec.mean AdamSpec.square
  pointwise [Cert.Reference37Ideal.Read.val_main_v24, Cert.Reference37Ideal.Read.val_main_v23, Cert.Reference37Ideal.Read.val_main_v22, Cert.Reference37Ideal.Read.val_main_v21, Cert.Reference37Ideal.Read.val_main_v20, Cert.Reference37Ideal.Read.val_main_v19, Cert.Reference37Ideal.Read.val_main_v18, Cert.Reference37Ideal.Read.val_main_v17, Cert.Reference37Ideal.Read.val_main_v16, Cert.Reference37Ideal.Read.val_main_v15, Cert.Reference37Ideal.Read.val_main_v14, Cert.Reference37Ideal.Read.val_main_v13, Cert.Reference37Ideal.Read.val_main_v12, Cert.Reference37Ideal.Read.val_main_v11, Cert.Reference37Ideal.Read.val_main_v10, Cert.Reference37Ideal.Read.val_main_v9, Cert.Reference37Ideal.Read.val_main_v8, Cert.Reference37Ideal.Read.val_main_v7, Cert.Reference37Ideal.Read.val_main_v6, Cert.Reference37Ideal.Read.val_main_v5, Cert.Reference37Ideal.Read.val_main_v4, Cert.Reference37Ideal.Read.val_main_v3, Cert.Reference37Ideal.Read.val_main_v2, Cert.Reference37Ideal.Read.val_main_v1, Cert.Reference37Ideal.Read.val_main_v0, Cert.Reference37Ideal.Read.val_main_cst, Cert.Reference37Ideal.Read.val_main_cst_0, Cert.Reference37Ideal.Read.val_main_cst_1, Cert.Reference37Ideal.Read.val_main_cst_2, Cert.Reference37Ideal.Read.val_main_cst_3, Cert.Reference37Ideal.Read.val_main_cst_4, Cert.Reference37Ideal.Read.val_main_cst_5, Cert.Reference37Ideal.Read.val_main_cst_6, Cert.Reference37Ideal.Read.val_main_cst_7]

/-- The weight's change that a point stores, at an index of its block. -/
theorem step_out (b0 b1 b2 b3 : FVec Ideal S128x2048 .f32) (j : S128x2048.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference37Ideal.Read.val_main_v24 (F := Ideal) (weight m c) (grad m c) (first m c) (second m c) := by
  refine (dats m 0 c).arrAt_eq_of_covers 4 _ (by decide +kernel) fun t _ y => ?_
  have ht : t.val < 8 := lt_of_lt_of_eq t.isLt (show cfg0.N = 8 from N_0)
  obtain_idx i : S1024x2048 := [t.val * 128 + (y 0 : ℕ), (y 1 : ℕ)] with hi
  blk_simp
  rw [after0_4]
  refine Eq.trans (b := Cert.Reference37Ideal.Read.val_main_v24 (F := Ideal) (weight m c) (grad m c) (first m c) (second m c) i) ?_ (congrArg (Cert.Reference37Ideal.Read.val_main_v24 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S2x512x2048 .f32) (r : Fin 1024) (c : Fin 2048) :
    (Cert.Reference37Ideal.Read.val_main_v25 (F := Ideal) G M (ix2 r c) : EReal) = AdamSpec.mean (G (ix3 ⟨r.val / 512, by omega⟩ ⟨r.val % 512, by omega⟩ c)) (M (ix3 ⟨r.val / 512, by omega⟩ ⟨r.val % 512, by omega⟩ c)) := by
  unfold AdamSpec.mean
  pointwise [Cert.Reference37Ideal.Read.val_main_v25, Cert.Reference37Ideal.Read.val_main_v4, Cert.Reference37Ideal.Read.val_main_v3, Cert.Reference37Ideal.Read.val_main_v2, Cert.Reference37Ideal.Read.val_main_v1, Cert.Reference37Ideal.Read.val_main_v0, Cert.Reference37Ideal.Read.val_main_cst, Cert.Reference37Ideal.Read.val_main_cst_0]

/-- The first moment that a point stores, at an index of its block. -/
theorem mean_out (b1 b2 : FVec Ideal S128x2048 .f32) (j : S128x2048.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference37Ideal.Read.val_main_v25 (F := Ideal) (grad m c) (first m c) := by
  refine (dats m 0 c).arrAt_eq_of_covers 5 _ (by decide +kernel) fun t _ y => ?_
  have ht : t.val < 8 := lt_of_lt_of_eq t.isLt (show cfg0.N = 8 from N_0)
  obtain_idx i : S1024x2048 := [t.val * 128 + (y 0 : ℕ), (y 1 : ℕ)] with hi
  blk_simp
  rw [after0_5]
  refine Eq.trans (b := Cert.Reference37Ideal.Read.val_main_v25 (F := Ideal) (grad m c) (first m c) i) ?_ (congrArg (Cert.Reference37Ideal.Read.val_main_v25 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S2x512x2048 .f32) (r : Fin 1024) (c : Fin 2048) :
    (Cert.Reference37Ideal.Read.val_main_v26 (F := Ideal) G V (ix2 r c) : EReal) = AdamSpec.square (G (ix3 ⟨r.val / 512, by omega⟩ ⟨r.val % 512, by omega⟩ c)) (V (ix3 ⟨r.val / 512, by omega⟩ ⟨r.val % 512, by omega⟩ c)) := by
  unfold AdamSpec.square
  pointwise [Cert.Reference37Ideal.Read.val_main_v26, Cert.Reference37Ideal.Read.val_main_v10, Cert.Reference37Ideal.Read.val_main_v9, Cert.Reference37Ideal.Read.val_main_v8, Cert.Reference37Ideal.Read.val_main_v7, Cert.Reference37Ideal.Read.val_main_v6, Cert.Reference37Ideal.Read.val_main_v5, Cert.Reference37Ideal.Read.val_main_cst_1, Cert.Reference37Ideal.Read.val_main_cst_2]

/-- The second moment that a point stores, at an index of its block. -/
theorem square_out (b1 b3 : FVec Ideal S128x2048 .f32) (j : S128x2048.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference37Ideal.Read.val_main_v26 (F := Ideal) (grad m c) (second m c) := by
  refine (dats m 0 c).arrAt_eq_of_covers 6 _ (by decide +kernel) fun t _ y => ?_
  have ht : t.val < 8 := lt_of_lt_of_eq t.isLt (show cfg0.N = 8 from N_0)
  obtain_idx i : S1024x2048 := [t.val * 128 + (y 0 : ℕ), (y 1 : ℕ)] with hi
  blk_simp
  rw [after0_6]
  refine Eq.trans (b := Cert.Reference37Ideal.Read.val_main_v26 (F := Ideal) (grad m c) (second m c) i) ?_ (congrArg (Cert.Reference37Ideal.Read.val_main_v26 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = Cert.Reference37Ideal.Read.val_main_v24 (F := Ideal) (weight m c) (grad m c) (first m c) (second m c)
      ∧ r.2.mem ((c.tc : Thread nD τ).loc main_v4_1) = Cert.Reference37Ideal.Read.val_main_v25 (F := Ideal) (grad m c) (first m c)
      ∧ r.2.mem ((c.tc : Thread nD τ).loc main_v4_2) = Cert.Reference37Ideal.Read.val_main_v26 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel37Ideal.Adam

namespace Cert.Reference37Ideal.Adam

open Cert.Reference37Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S2x512x2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v24) = Read.val_main_v24 (F := Ideal) (x0 c) (x1 c) (x2 c) (x3 c)
      ∧ r.2.mem ((c.tc : Thread nD τ).loc main_v25) = Read.val_main_v25 (F := Ideal) (x1 c) (x2 c)
      ∧ r.2.mem ((c.tc : Thread nD τ).loc main_v26) = Read.val_main_v26 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference37Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v24_eq _ _ _ _)
  · rw [← e1, ← e2]; exact r1.trans (Read.val_main_v25_eq _ _)
  · rw [← e1, ← e3]; exact r2.trans (Read.val_main_v26_eq _ _)

end Cert.Reference37Ideal.Adam

end
-- ==== Proof.AdamPleUp.lean ====
module

public import proofs.«01_k».proof.Proof.Gen.Kernel38Ideal.Value
public import proofs.«01_k».proof.Proof.Gen.Reference38Ideal.Read
public import Idealize.ShloMosaic.Lib.Pipeline.ValueKit
public import Idealize.ShloMosaic.Lib.Pipeline.ReadBack
public import proofs.«01_k».proof.Proof.AdamSpec
public import proofs.«01_k».proof.Proof.Gen.Reference38Ideal
public import proofs.«01_k».proof.Proof.Gen.Reference38Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel38Ideal.Adam

open Cert.Kernel38Ideal Cert.Kernel38Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

/-- The weights. -/
abbrev weight (c : Dev nD) : FVec Ideal S2x256x512 .f32 := m ((c : Thread nD τ).loc main_arg0)
/-- Their gradient. -/
abbrev grad (c : Dev nD) : FVec Ideal S2x256x512 .f32 := m ((c : Thread nD τ).loc main_arg1)
/-- The first moments. -/
abbrev first (c : Dev nD) : FVec Ideal S2x256x512 .f32 := m ((c : Thread nD τ).loc main_arg2)
/-- The second moments. -/
abbrev second (c : Dev nD) : FVec Ideal S2x256x512 .f32 := m ((c : Thread nD τ).loc main_arg3)

theorem row_lt (t : Fin cfg0.N) (x : S256x512.Idx) : t.val * 256 + (x 0).val < 512 := by
  have := lt_of_lt_of_eq t.isLt (show cfg0.N = 2 from N_0); have h0 : (x 0).val < 256 := (x 0).isLt; omega
theorem col_lt (t : Fin cfg0.N) (x : S256x512.Idx) : (x 1).val < 512 := by
  have := lt_of_lt_of_eq t.isLt (show cfg0.N = 2 from N_0); have h1 : (x 1).val < 512 := (x 1).isLt; omega
/-- The row, and the column, of an index of a point's block. -/
abbrev row (t : Fin cfg0.N) (x : S256x512.Idx) : Fin 512 := ⟨t.val * 256 + (x 0).val, row_lt t x⟩
abbrev col (t : Fin cfg0.N) (x : S256x512.Idx) : Fin 512 := ⟨(x 1).val, col_lt t x⟩

/-- The weights at an index of a point's block. -/
theorem weight_block (c : Dev nD) (t : Fin cfg0.N) (x : S256x512.Idx) : (iblk m c 0 t x : EReal) = weight m c (ix3 ⟨(row t x).val / 256, by omega⟩ ⟨(row t x).val % 256, by omega⟩ (col t x)) := by
  blk_point [iblk, V, idx t]
/-- Their gradient at an index of a point's block. -/
theorem grad_block (c : Dev nD) (t : Fin cfg0.N) (x : S256x512.Idx) : (iblk m c 1 t x : EReal) = grad m c (ix3 ⟨(row t x).val / 256, by omega⟩ ⟨(row t x).val % 256, by omega⟩ (col t x)) := by
  blk_point [iblk, V, idx t]
/-- The first moments at an index of a point's block. -/
theorem first_block (c : Dev nD) (t : Fin cfg0.N) (x : S256x512.Idx) : (iblk m c 2 t x : EReal) = first m c (ix3 ⟨(row t x).val / 256, by omega⟩ ⟨(row t x).val % 256, by omega⟩ (col t x)) := by
  blk_point [iblk, V, idx t]
/-- The second moments at an index of a point's block. -/
theorem second_block (c : Dev nD) (t : Fin cfg0.N) (x : S256x512.Idx) : (iblk m c 3 t x : EReal) = second m c (ix3 ⟨(row t x).val / 256, by omega⟩ ⟨(row t x).val % 256, by omega⟩ (col t x)) := by
  blk_point [iblk, V, idx t]

/-- The reference's weight's change at an index. -/
theorem step_ref (W G M V : FVec Ideal S2x256x512 .f32) (r : Fin 512) (c : Fin 512) :
    (Cert.Reference38Ideal.Read.val_main_v24 (F := Ideal) W G M V (ix2 r c) : EReal) = AdamSpec.delta (W (ix3 ⟨r.val / 256, by omega⟩ ⟨r.val % 256, by omega⟩ c)) (G (ix3 ⟨r.val / 256, by omega⟩ ⟨r.val % 256, by omega⟩ c)) (M (ix3 ⟨r.val / 256, by omega⟩ ⟨r.val % 256, by omega⟩ c)) (V (ix3 ⟨r.val / 256, by omega⟩ ⟨r.val % 256, by omega⟩ c)) := by
  unfold AdamSpec.delta AdamSpec.mean AdamSpec.square
  pointwise [Cert.Reference38Ideal.Read.val_main_v24, Cert.Reference38Ideal.Read.val_main_v23, Cert.Reference38Ideal.Read.val_main_v22, Cert.Reference38Ideal.Read.val_main_v21, Cert.Reference38Ideal.Read.val_main_v20, Cert.Reference38Ideal.Read.val_main_v19, Cert.Reference38Ideal.Read.val_main_v18, Cert.Reference38Ideal.Read.val_main_v17, Cert.Reference38Ideal.Read.val_main_v16, Cert.Reference38Ideal.Read.val_main_v15, Cert.Reference38Ideal.Read.val_main_v14, Cert.Reference38Ideal.Read.val_main_v13, Cert.Reference38Ideal.Read.val_main_v12, Cert.Reference38Ideal.Read.val_main_v11, Cert.Reference38Ideal.Read.val_main_v10, Cert.Reference38Ideal.Read.val_main_v9, Cert.Reference38Ideal.Read.val_main_v8, Cert.Reference38Ideal.Read.val_main_v7, Cert.Reference38Ideal.Read.val_main_v6, Cert.Reference38Ideal.Read.val_main_v5, Cert.Reference38Ideal.Read.val_main_v4, Cert.Reference38Ideal.Read.val_main_v3, Cert.Reference38Ideal.Read.val_main_v2, Cert.Reference38Ideal.Read.val_main_v1, Cert.Reference38Ideal.Read.val_main_v0, Cert.Reference38Ideal.Read.val_main_cst, Cert.Reference38Ideal.Read.val_main_cst_0, Cert.Reference38Ideal.Read.val_main_cst_1, Cert.Reference38Ideal.Read.val_main_cst_2, Cert.Reference38Ideal.Read.val_main_cst_3, Cert.Reference38Ideal.Read.val_main_cst_4, Cert.Reference38Ideal.Read.val_main_cst_5, Cert.Reference38Ideal.Read.val_main_cst_6, Cert.Reference38Ideal.Read.val_main_cst_7]

/-- The weight's change that a point stores, at an index of its block. -/
theorem step_out (b0 b1 b2 b3 : FVec Ideal S256x512 .f32) (j : S256x512.Idx) : (k0_pay4 (F := Ideal) b0 b1 b2 b3 j : EReal) = AdamSpec.delta (b0 j) (b1 j) (b2 j) (b3 j) := by
  unfold AdamSpec.delta AdamSpec.mean AdamSpec.square
  pointwise [k0_pay4, k0_pay3, k0_pay2, k0_pay1]

/-- The array of the weight's change after the run is the reference's. -/
theorem step_final (c : Dev nD) : (dats m 0 c).arrAt 4 (cfgs 0).N = Cert.Reference38Ideal.Read.val_main_v24 (F := Ideal) (weight m c) (grad m c) (first m c) (second m c) := by
  refine (dats m 0 c).arrAt_eq_of_covers 4 _ (by decide +kernel) fun t _ y => ?_
  have ht : t.val < 2 := lt_of_lt_of_eq t.isLt (show cfg0.N = 2 from N_0)
  obtain_idx i : S512x512 := [t.val * 256 + (y 0 : ℕ), (y 1 : ℕ)] with hi
  blk_simp
  rw [after0_4]
  refine Eq.trans (b := Cert.Reference38Ideal.Read.val_main_v24 (F := Ideal) (weight m c) (grad m c) (first m c) (second m c) i) ?_ (congrArg (Cert.Reference38Ideal.Read.val_main_v24 (F := Ideal) (weight m c) (grad m c) (first m c) (second m c)) (by blk_ext [idx t]))
  have ei : i = ix2 (row t y) (col t y) := by blk_ext [row, col]
  rw [ei, show out0_4 (iblk m c 0 t) (iblk m c 1 t) (iblk m c 2 t) (iblk m c 3 t) = k0_pay4 (iblk m c 0 t) (iblk m c 1 t) (iblk m c 2 t) (iblk m c 3 t) from by
    unfold out0_4; frame_out]
  refine (step_out _ _ _ _ _).trans (Eq.trans ?_ (step_ref _ _ _ _ _ _).symm)
  exact AdamSpec.delta_congr (weight_block m c t y) (grad_block m c t y) (first_block m c t y) (second_block m c t y)

/-- The reference's first moment at an index. -/
theorem mean_ref (G M : FVec Ideal S2x256x512 .f32) (r : Fin 512) (c : Fin 512) :
    (Cert.Reference38Ideal.Read.val_main_v25 (F := Ideal) G M (ix2 r c) : EReal) = AdamSpec.mean (G (ix3 ⟨r.val / 256, by omega⟩ ⟨r.val % 256, by omega⟩ c)) (M (ix3 ⟨r.val / 256, by omega⟩ ⟨r.val % 256, by omega⟩ c)) := by
  unfold AdamSpec.mean
  pointwise [Cert.Reference38Ideal.Read.val_main_v25, Cert.Reference38Ideal.Read.val_main_v4, Cert.Reference38Ideal.Read.val_main_v3, Cert.Reference38Ideal.Read.val_main_v2, Cert.Reference38Ideal.Read.val_main_v1, Cert.Reference38Ideal.Read.val_main_v0, Cert.Reference38Ideal.Read.val_main_cst, Cert.Reference38Ideal.Read.val_main_cst_0]

/-- The first moment that a point stores, at an index of its block. -/
theorem mean_out (b1 b2 : FVec Ideal S256x512 .f32) (j : S256x512.Idx) : (k0_pay2 (F := Ideal) b1 b2 j : EReal) = AdamSpec.mean (b1 j) (b2 j) := by
  unfold AdamSpec.mean
  pointwise [k0_pay4, k0_pay3, k0_pay2, k0_pay1]

/-- The array of the first moment after the run is the reference's. -/
theorem mean_final (c : Dev nD) : (dats m 0 c).arrAt 5 (cfgs 0).N = Cert.Reference38Ideal.Read.val_main_v25 (F := Ideal) (grad m c) (first m c) := by
  refine (dats m 0 c).arrAt_eq_of_covers 5 _ (by decide +kernel) fun t _ y => ?_
  have ht : t.val < 2 := lt_of_lt_of_eq t.isLt (show cfg0.N = 2 from N_0)
  obtain_idx i : S512x512 := [t.val * 256 + (y 0 : ℕ), (y 1 : ℕ)] with hi
  blk_simp
  rw [after0_5]
  refine Eq.trans (b := Cert.Reference38Ideal.Read.val_main_v25 (F := Ideal) (grad m c) (first m c) i) ?_ (congrArg (Cert.Reference38Ideal.Read.val_main_v25 (F := Ideal) (grad m c) (first m c)) (by blk_ext [idx t]))
  have ei : i = ix2 (row t y) (col t y) := by blk_ext [row, col]
  rw [ei, show out0_5 (iblk m c 0 t) (iblk m c 1 t) (iblk m c 2 t) (iblk m c 3 t) = k0_pay2 (iblk m c 1 t) (iblk m c 2 t) from by
    unfold out0_5; frame_out]
  refine (mean_out _ _ _).trans (Eq.trans ?_ (mean_ref _ _ _ _).symm)
  exact AdamSpec.mean_congr (grad_block m c t y) (first_block m c t y)

/-- The reference's second moment at an index. -/
theorem square_ref (G V : FVec Ideal S2x256x512 .f32) (r : Fin 512) (c : Fin 512) :
    (Cert.Reference38Ideal.Read.val_main_v26 (F := Ideal) G V (ix2 r c) : EReal) = AdamSpec.square (G (ix3 ⟨r.val / 256, by omega⟩ ⟨r.val % 256, by omega⟩ c)) (V (ix3 ⟨r.val / 256, by omega⟩ ⟨r.val % 256, by omega⟩ c)) := by
  unfold AdamSpec.square
  pointwise [Cert.Reference38Ideal.Read.val_main_v26, Cert.Reference38Ideal.Read.val_main_v10, Cert.Reference38Ideal.Read.val_main_v9, Cert.Reference38Ideal.Read.val_main_v8, Cert.Reference38Ideal.Read.val_main_v7, Cert.Reference38Ideal.Read.val_main_v6, Cert.Reference38Ideal.Read.val_main_v5, Cert.Reference38Ideal.Read.val_main_cst_1, Cert.Reference38Ideal.Read.val_main_cst_2]

/-- The second moment that a point stores, at an index of its block. -/
theorem square_out (b1 b3 : FVec Ideal S256x512 .f32) (j : S256x512.Idx) : (k0_pay3 (F := Ideal) b1 b3 j : EReal) = AdamSpec.square (b1 j) (b3 j) := by
  unfold AdamSpec.square
  pointwise [k0_pay4, k0_pay3, k0_pay2, k0_pay1]

/-- The array of the second moment after the run is the reference's. -/
theorem square_final (c : Dev nD) : (dats m 0 c).arrAt 6 (cfgs 0).N = Cert.Reference38Ideal.Read.val_main_v26 (F := Ideal) (grad m c) (second m c) := by
  refine (dats m 0 c).arrAt_eq_of_covers 6 _ (by decide +kernel) fun t _ y => ?_
  have ht : t.val < 2 := lt_of_lt_of_eq t.isLt (show cfg0.N = 2 from N_0)
  obtain_idx i : S512x512 := [t.val * 256 + (y 0 : ℕ), (y 1 : ℕ)] with hi
  blk_simp
  rw [after0_6]
  refine Eq.trans (b := Cert.Reference38Ideal.Read.val_main_v26 (F := Ideal) (grad m c) (second m c) i) ?_ (congrArg (Cert.Reference38Ideal.Read.val_main_v26 (F := Ideal) (grad m c) (second m c)) (by blk_ext [idx t]))
  have ei : i = ix2 (row t y) (col t y) := by blk_ext [row, col]
  rw [ei, show out0_6 (iblk m c 0 t) (iblk m c 1 t) (iblk m c 2 t) (iblk m c 3 t) = k0_pay3 (iblk m c 1 t) (iblk m c 3 t) from by
    unfold out0_6; frame_out]
  refine (square_out _ _ _).trans (Eq.trans ?_ (square_ref _ _ _ _).symm)
  exact AdamSpec.square_congr (grad_block m c t y) (second_block m c t y)

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v4_0) = Cert.Reference38Ideal.Read.val_main_v24 (F := Ideal) (weight m c) (grad m c) (first m c) (second m c)
      ∧ r.2.mem ((c.tc : Thread nD τ).loc main_v4_1) = Cert.Reference38Ideal.Read.val_main_v25 (F := Ideal) (grad m c) (first m c)
      ∧ r.2.mem ((c.tc : Thread nD τ).loc main_v4_2) = Cert.Reference38Ideal.Read.val_main_v26 (F := Ideal) (grad m c) (second m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact step_final m c
  · exact mean_final m c
  · exact square_final m c

end Cert.Kernel38Ideal.Adam

namespace Cert.Reference38Ideal.Adam

open Cert.Reference38Ideal

/-- The three arrays of the reference after its run, as terms in its arguments; the arguments stay as they were. -/
theorem reference_run (m : (ℓ : Loc nD τ sig) → Buf (Elt Ideal) ℓ) (g : Dev nD → PrngReg) (x0 x1 x2 x3 : Dev nD → FVec Ideal S2x256x512 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v24) = Read.val_main_v24 (F := Ideal) (x0 c) (x1 c) (x2 c) (x3 c)
      ∧ r.2.mem ((c.tc : Thread nD τ).loc main_v25) = Read.val_main_v25 (F := Ideal) (x1 c) (x2 c)
      ∧ r.2.mem ((c.tc : Thread nD τ).loc main_v26) = Read.val_main_v26 (F := Ideal) (x1 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference38Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v24_eq _ _ _ _)
  · rw [← e1, ← e2]; exact r1.trans (Read.val_main_v25_eq _ _)
  · rw [← e1, ← e3]; exact r2.trans (Read.val_main_v26_eq _ _)

end Cert.Reference38Ideal.Adam

end
-- ==== Proof.NormSpec.lean ====
module

public import Idealize.ShloMosaic.PureOps.Ideal

@[expose] public section

noncomputable section

open Idealize.ShloMosaic

namespace Cert.NormSpec

/-- The width of a row, as a number. -/
def width : EReal := Ideal.ofBits .f32 0x45000000#32

/-- A width is a positive real number. -/
def IsWidth (w : EReal) : Prop := ∃ c : ℝ, 0 < c ∧ w = (c : EReal)

variable {n : ℕ} (w : EReal)

/-- The argument of a row's inverse root: the mean of the squares and a small positive number. -/
def arg (x : Fin n → EReal) : EReal := Ideal.div (∑ k, x k * x k) w + Ideal.ofBits .f32 0x358637BD#32

/-- The inverse root of a row's mean square. -/
def root (x : Fin n → EReal) : EReal := Ideal.rsqrt (arg w x)

/-- A row of the normalisation, before its weights. -/
def unit (x : Fin n → EReal) (j : Fin n) : EReal := x j * root w x

/-- The gradient of a row, as the kernel computes it from the gradient of the normalised row. -/
def fused (x g : Fin n → EReal) (j : Fin n) : EReal :=
  root w x * (g j - unit w x j * Ideal.div (∑ k, g k * unit w x k) w)

/-- The gradient of a row's mean square, by the chain rule. -/
def slope (x g : Fin n → EReal) : EReal :=
  Ideal.div ((∑ k, x k * g k) * (Ideal.ofBits .f32 0xBF000000#32 * Ideal.div (root w x) (arg w x))) w

/-- The gradient of a row by the chain rule. -/
def chain (x g : Fin n → EReal) (j : Fin n) : EReal := g j * root w x + x j * slope w x g + slope w x g * x j

variable {w}

/-- A square of an extended real is not negative. -/
theorem square_nonneg (x : EReal) : 0 ≤ x * x := by
  induction x with
  | bot => simp
  | top => simp
  | coe r => exact_mod_cast mul_self_nonneg r

theorem width_eq : width = ((2048 : ℝ) : EReal) := by
  unfold width
  simp [Ideal.ofBits, Ideal.ieee, -EReal.coe_mul]; norm_num

theorem half_eq : Ideal.ofBits .f32 0xBF000000#32 = ((-(1 / 2) : ℝ) : EReal) := by
  simp [Ideal.ofBits, Ideal.ieee, -EReal.coe_mul]; norm_num

theorem eps_pos : ∃ e : ℝ, 0 < e ∧ Ideal.ofBits .f32 0x358637BD#32 = (e : EReal) := by
  refine ⟨_, ?_, by simp [Ideal.ofBits, Ideal.ieee, -EReal.coe_mul]; rfl⟩
  positivity

/-- Division by the width is a product with a positive real number. -/
theorem div_width (z : EReal) : Ideal.div z width = z * ((1 / 2048 : ℝ) : EReal) := by
  rw [width_eq, Ideal.div_coe (by norm_num : (2048 : ℝ) ≠ 0)]

/-- The width of a whole row is one. -/
theorem width_ok : IsWidth width := ⟨2048, by norm_num, width_eq⟩

/-- The argument is infinite or a positive real number. -/
theorem arg_cases (hw : IsWidth w) (x : Fin n → EReal) : arg w x = ⊤ ∨ ∃ c : ℝ, 0 < c ∧ arg w x = (c : EReal) := by
  obtain ⟨d, hd0, rfl⟩ := hw
  have hd1 : 0 < 1 / d := by positivity
  obtain ⟨e, he, hb⟩ := eps_pos
  have h : 0 ≤ ∑ k, x k * x k := Finset.sum_nonneg fun k _ => square_nonneg (x k)
  have hd : arg (d : EReal) x = (∑ k, x k * x k) * ((1 / d : ℝ) : EReal) + (e : EReal) := by rw [arg, Ideal.div_coe hd0.ne', hb]
  rw [hd]
  generalize (∑ k, x k * x k) = q at h
  induction q with
  | bot => exact absurd h (by simp)
  | top => left; rw [EReal.top_mul_coe_of_pos hd1]; exact EReal.top_add_coe _
  | coe r =>
    right
    have hr : 0 ≤ r := by exact_mod_cast h
    exact ⟨r * (1 / d) + e, by positivity, by push_cast; rfl⟩

/-- At an infinite argument the root is zero; at a positive real number `c` it is a positive real number whose square is `1 / c`. -/
theorem root_cases (hw : IsWidth w) (x : Fin n → EReal) :
    (arg w x = ⊤ ∧ root w x = 0) ∨ ∃ c r : ℝ, 0 < c ∧ 0 < r ∧ r * r = 1 / c ∧ arg w x = (c : EReal) ∧ root w x = (r : EReal) := by
  rcases arg_cases hw x with ht | ⟨c, hc, hv⟩
  · exact .inl ⟨ht, by rw [root, ht, Ideal.rsqrt_top]⟩
  · refine .inr ⟨c, (Real.sqrt c)⁻¹, hc, by positivity, ?_, hv, ?_⟩
    · rw [← mul_inv, Real.mul_self_sqrt hc.le, one_div]
    · rw [root, hv, Ideal.rsqrt_coe, if_neg (not_lt.2 hc.le), if_neg hc.ne']

/-- A sum of products with a real number that is not negative is the product with the sum. -/
theorem mul_sum {ι : Type*} (s : Finset ι) (r : ℝ) (h : 0 ≤ r) (f : ι → EReal) :
    ∑ k ∈ s, f k * (r : EReal) = (∑ k ∈ s, f k) * (r : EReal) := by
  classical
  induction s using Finset.induction_on with
  | empty => simp
  | insert a s ha ih =>
    rw [Finset.sum_insert ha, Finset.sum_insert ha, ih,
      EReal.right_distrib_of_nonneg_of_ne_top (by exact_mod_cast h) (EReal.coe_ne_top r)]

/-- Twice an extended real. -/
theorem twice (z : EReal) : z + z = z * ((2 : ℝ) : EReal) := by
  induction z with
  | bot => rw [EReal.bot_mul_coe_of_pos (by norm_num)]; rfl
  | top => rw [EReal.top_mul_coe_of_pos (by norm_num)]; rfl
  | coe r => rw [← EReal.coe_add, ← EReal.coe_mul, mul_two]

/-- The kernel's gradient of a row is the chain rule's. -/
theorem fused_eq (hw : IsWidth w) (x g : Fin n → EReal) (j : Fin n) : fused w x g j = chain w x g j := by
  have hw' := hw
  obtain ⟨d, hd0, rfl⟩ := hw'
  have div_d : ∀ z : EReal, Ideal.div z (d : EReal) = z * ((1 / d : ℝ) : EReal) := Ideal.div_coe hd0.ne'
  unfold fused chain slope unit
  rcases root_cases hw x with ⟨hv, hr⟩ | ⟨c, r, hc, hr0, hrc, hv, hr⟩
  · rw [hr, hv, div_d]
    have : Ideal.div 0 (⊤ : EReal) = 0 := by simp [Ideal.div]
    rw [this]
    simp [div_d]
  · rw [hr, hv, div_d, div_d, Ideal.div_coe hc.ne', half_eq]
    have hs : ∑ k, g k * (x k * (r : EReal)) = (∑ k, x k * g k) * (r : EReal) := by
      rw [← mul_sum _ r hr0.le]
      exact Finset.sum_congr rfl fun k _ => by rw [← mul_assoc, mul_comm (g k)]
    rw [hs]
    generalize ∑ k, x k * g k = S
    have e1 : (r : EReal) * (x j * (r : EReal) * (S * (r : EReal) * ((1 / d : ℝ) : EReal))) = x j * S * ((r * r * r * (1 / d) : ℝ) : EReal) := by
      push_cast
      ac_rfl
    have e2 : x j * (S * (((-(1 / 2) : ℝ) : EReal) * ((r : EReal) * ((1 / c : ℝ) : EReal))) * ((1 / d : ℝ) : EReal))
        = x j * S * ((-(1 / 2) * (r * (r * r)) * (1 / d) : ℝ) : EReal) := by
      rw [hrc]
      simp only [EReal.coe_mul]
      ac_rfl
    rw [add_assoc, mul_comm _ (x j), e2, twice, sub_eq_add_neg,
      EReal.left_distrib_of_nonneg_of_ne_top (by exact_mod_cast hr0.le) (EReal.coe_ne_top r), mul_neg, e1, mul_comm (r : EReal) (g j),
      mul_assoc (x j * S), ← EReal.coe_mul, ← mul_neg, ← EReal.coe_neg]
    congr 3
    ring

end Cert.NormSpec

end
-- ==== Proof.NormBwd.lean ====
module

public import proofs.«01_k».proof.Proof.Gen.Kernel39Ideal.Value
public import proofs.«01_k».proof.Proof.Gen.Reference39Ideal.Read
public import Idealize.ShloMosaic.Lib.Pipeline.ValueKit
public import Idealize.ShloMosaic.Lib.Pipeline.ReadBack
public import proofs.«01_k».proof.Proof.NormSpec
public import proofs.«01_k».proof.Proof.Gen.Reference39Ideal
public import proofs.«01_k».proof.Proof.Gen.Reference39Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference39Ideal.Norm

open Cert.Reference39Ideal

/-- The reference's gradient of the input at an index: the incoming gradient of the residual and the chain rule's gradient of the row. -/
theorem dh_ref (H : FVec Ideal S8192x2048 .f32) (W : FVec Ideal S2048 .f32) (G R : FVec Ideal S8192x2048 .f32) (r : Fin 8192) (j : Fin 2048) :
    (Read.val_main_v36 (F := Ideal) H W G R (ix2 r j) : EReal)
      = R (ix2 r j) + NormSpec.chain NormSpec.width (fun k => H (ix2 r k)) (fun k => G (ix2 r k) * W (ix1 k)) j := by
  unfold NormSpec.chain NormSpec.slope NormSpec.root NormSpec.arg NormSpec.width
  pointwise [Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7]
  simp only [Finset.univ_unique, Finset.sum_singleton]

/-- The reference's gradient of the weights at an index: a sum over the tokens. -/
theorem dw_ref (H : FVec Ideal S8192x2048 .f32) (G : FVec Ideal S8192x2048 .f32) (j : Fin 2048) :
    (Read.val_main_v37 (F := Ideal) H G (ix2 0 j) : EReal)
      = ∑ r : Fin 8192, NormSpec.unit NormSpec.width (fun k => H (ix2 r k)) j * G (ix2 r j) := by
  unfold NormSpec.unit NormSpec.root NormSpec.arg NormSpec.width
  pointwise [Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7]
  simp only [Finset.univ_unique, Finset.sum_singleton]

end Cert.Reference39Ideal.Norm

namespace Cert.Kernel39Ideal.Norm

open Cert.Kernel39Ideal Cert.Kernel39Ideal.Gen

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, _)

/-- The input. -/
abbrev input (c : Dev nD) : FVec Ideal S8192x2048 .f32 := m ((c : Thread nD τ).loc main_arg0)
/-- The normalisation's weights. -/
abbrev weight (c : Dev nD) : FVec Ideal S2048 .f32 := m ((c : Thread nD τ).loc main_arg1)
/-- The gradient of the normalised input. -/
abbrev grad (c : Dev nD) : FVec Ideal S8192x2048 .f32 := m ((c : Thread nD τ).loc main_arg2)
/-- The gradient of the residual. -/
abbrev res (c : Dev nD) : FVec Ideal S8192x2048 .f32 := m ((c : Thread nD τ).loc main_arg3)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The input at an index of a point's block. -/
theorem input_block (c : Dev nD) (t : Fin cfg0.N) (p : Fin 256) (q : Fin 2048) : (iblk m c 0 t (ix2 p q) : EReal) = input m c (ix2 (row t p) q) := by
  blk_point [iblk, V, idx t]
/-- The gradient of the normalised input at an index of a point's block. -/
theorem grad_block (c : Dev nD) (t : Fin cfg0.N) (p : Fin 256) (q : Fin 2048) : (iblk m c 1 t (ix2 p q) : EReal) = grad m c (ix2 (row t p) q) := by
  blk_point [iblk, V, idx t]
/-- The gradient of the residual at an index of a point's block. -/
theorem res_block (c : Dev nD) (t : Fin cfg0.N) (p : Fin 256) (q : Fin 2048) : (iblk m c 2 t (ix2 p q) : EReal) = res m c (ix2 (row t p) q) := by
  blk_point [iblk, V, idx t]
/-- The weights at an index of a point's block. -/
theorem weight_block (c : Dev nD) (t : Fin cfg0.N) (q : Fin 2048) : (iblk m c 3 t (ix2 0 q) : EReal) = weight m c (ix1 q) := by
  blk_point [iblk, V, idx t]

/-- The gradient of the input that a point stores, at an index of its block. -/
theorem dh_apply (x g r : FVec Ideal S256x2048 .f32) (w : FVec Ideal S1x2048 .f32) (p : Fin 256) (q : Fin 2048) :
    (k0_pay5 (F := Ideal) x g r w (ix2 p q) : EReal) = r (ix2 p q) + NormSpec.fused NormSpec.width (fun k => x (ix2 p k)) (fun k => g (ix2 p k) * w (ix2 0 k)) q := by
  unfold NormSpec.fused NormSpec.unit NormSpec.root NormSpec.arg NormSpec.width
  pointwise [k0_pay5, k0_pay3, k0_pay2]

/-- What a point adds to the gradient of the weights. -/
theorem dw_apply (x g : FVec Ideal S256x2048 .f32) (q : Fin 2048) :
    (k0_pay4 (F := Ideal) x g (ix2 0 q) : EReal) = ∑ p : Fin 256, g (ix2 p q) * NormSpec.unit NormSpec.width (fun k => x (ix2 p k)) q := by
  unfold NormSpec.unit NormSpec.root NormSpec.arg NormSpec.width
  pointwise [k0_pay4, k0_pay3, k0_pay2]

/-- One more point's part of the gradient of the weights. -/
theorem dw_step (a b : FVec Ideal S1x2048 .f32) (j : S1x2048.Idx) : (k0_pay1 (F := Ideal) a b j : EReal) = b j + a j := by
  pointwise [k0_pay1]

/-- The blocks of a point, as the arrays the body reads. -/
abbrev xB (c : Dev nD) (t : Fin cfg0.N) : FVec Ideal S256x2048 .f32 := iblk m c 0 t
abbrev gB (c : Dev nD) (t : Fin cfg0.N) : FVec Ideal S256x2048 .f32 := iblk m c 1 t
abbrev rB (c : Dev nD) (t : Fin cfg0.N) : FVec Ideal S256x2048 .f32 := iblk m c 2 t
abbrev wB (c : Dev nD) (t : Fin cfg0.N) : FVec Ideal S1x2048 .f32 := iblk m c 3 t

/-- The gradient of the input after a point, as the reference has it. -/
theorem dh_pt (c : Dev nD) (t : Fin cfg0.N) (p : Fin 256) (q : Fin 2048) : ((outsAt0 m c t.val t.isLt).1 (ix2 p q) : EReal)
    = Cert.Reference39Ideal.Read.val_main_v36 (F := Ideal) (input m c) (weight m c) (grad m c) (res m c) (ix2 (row t p) q) := by
  have e : (k0_pay5 (F := Ideal) (xB m c t) (gB m c t) (rB m c t) (wB m c t) (ix2 p q) : EReal)
      = Cert.Reference39Ideal.Read.val_main_v36 (F := Ideal) (input m c) (weight m c) (grad m c) (res m c) (ix2 (row t p) q) := by
    rw [Cert.Reference39Ideal.Norm.dh_ref, dh_apply, NormSpec.fused_eq NormSpec.width_ok]
    simp only [xB, gB, rB, wB, input_block m c t, grad_block m c t, res_block m c t, weight_block m c t]
  have hN := lt_of_lt_of_eq t.isLt (show cfg0.N = 32 from N_0)
  by_cases h : t.val % 32 = 0
  · rw [outsAt0_A m c t h (by omega)]; frame_out; exact e
  · rw [outsAt0_B m c t h (by omega)]; frame_out; exact e

/-- The gradient of the weights after the last point, as the reference has it. -/
theorem dw_pt (c : Dev nD) (t : Fin cfg0.N) (ht : t.val % 32 = 31) (q : Fin 2048) : ((outsAt0 m c t.val t.isLt).2 (ix2 0 q) : EReal)
    = Cert.Reference39Ideal.Read.val_main_v37 (F := Ideal) (input m c) (grad m c) (ix2 0 q) := by
  rw [Cert.Reference39Ideal.Norm.dw_ref]
  have hN := lt_of_lt_of_eq t.isLt (show cfg0.N = 32 from N_0)
  refine (Pipeline.eq_sum_fin_of_reset_step_apply_of_flush (fun n h => (outsAt0 m c n h).2) 32 (fun _ => (0 : EReal))
    (fun s => k0_pay4 (F := Ideal) (xB m c s) (gB m c s))
    (fun t h j => by
      have := lt_of_lt_of_eq t.isLt (show cfg0.N = 32 from N_0)
      rw [outsAt0_A m c t h (by omega)]; frame_out; exact (zero_add _).symm)
    (fun t h j => by rw [outsAt0_B m c t h (by omega)]; frame_out; exact dw_step _ _ j)
    t ht _).trans ?_
  rw [zero_add]
  refine (Finset.sum_congr rfl fun s _ => dw_apply _ _ q).trans ?_
  refine Fin.sum_mul_add_congr fun s k hl => (mul_comm _ _).trans ?_
  simp only [xB, gB, input_block, grad_block]
  have er : row ⟨_, Pipeline.run_point_lt_of_flush t ht s⟩ k = ⟨s.val * 256 + k.val, hl⟩ := Fin.ext (by
    show (32 * (t.val / 32) + s.val) * 256 + k.val = s.val * 256 + k.val
    omega)
  rw [er]

/-- The array of the input's gradient after the run is the reference's. -/
theorem dh_final (c : Dev nD) : (dats m 0 c).arrAt 4 (cfgs 0).N
    = Cert.Reference39Ideal.Read.val_main_v36 (F := Ideal) (input m c) (weight m c) (grad m c) (res m c) := by
  refine (dats m 0 c).arrAt_eq_of_covers 4 _ (by decide +kernel) fun t _ y => ?_
  have ey : y = ix2 (y 0) (y 1) := eq_ix2 y
  blk_simp
  rw [after0_4]
  refine (congrArg _ ey).trans ((dh_pt m c t (y 0) (y 1)).trans (congrArg _ ?_))
  blk_ext [idx t]

/-- The array of the weights' gradient after the run is the reference's. -/
theorem dw_final (c : Dev nD) : (dats m 0 c).arrAt 5 (cfgs 0).N
    = Cert.Reference39Ideal.Read.val_main_v37 (F := Ideal) (input m c) (grad m c) := by
  refine (dats m 0 c).arrAt_eq_of_covers 5 _ (by decide +kernel) fun t hf y => ?_
  have ey : y = ix2 0 (y 1) := by blk_ext
  blk_simp
  rw [after0_5]
  refine (congrArg _ ey).trans ((dw_pt m c t ((flush0_5 t).mp hf) (y 1)).trans (congrArg _ ?_))
  blk_ext [idx t]

set_option maxHeartbeats 4000000

/-- The two arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = Cert.Reference39Ideal.Read.val_main_v36 (F := Ideal) (input m c) (weight m c) (grad m c) (res m c)
      ∧ r.2.mem ((c.tc : Thread nD τ).loc main_v1_1) = Cert.Reference39Ideal.Read.val_main_v37 (F := Ideal) (input m c) (grad m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact dh_final m c
  · exact dw_final m c

end Cert.Kernel39Ideal.Norm

namespace Cert.Reference39Ideal.Norm

/-- The two arrays of the reference after its run, as terms in its arguments; the arguments stay as they were. -/
theorem reference_run (m : (ℓ : Loc nD τ sig) → Buf (Elt Ideal) ℓ) (g : Dev nD → PrngReg) (x0 : Dev nD → FVec Ideal S8192x2048 .f32)
    (x1 : Dev nD → FVec Ideal S2048 .f32) (x2 x3 : Dev nD → FVec Ideal S8192x2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v36) = Read.val_main_v36 (F := Ideal) (x0 c) (x1 c) (x2 c) (x3 c)
      ∧ r.2.mem ((c.tc : Thread nD τ).loc main_v37) = Read.val_main_v37 (F := Ideal) (x0 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference39Ideal.Value.run (F := Ideal) m g)
  obtain ⟨r0, r1, ra⟩ := hr c
  obtain ⟨e0, e1, e2, e3⟩ := h c
  refine ⟨?_, ?_, ra⟩
  · rw [← e0, ← e1, ← e2, ← e3]; exact r0.trans (Read.val_main_v36_eq _ _ _ _)
  · rw [← e0, ← e2]; exact r1.trans (Read.val_main_v37_eq _ _)

end Cert.Reference39Ideal.Norm

end
-- ==== Proof.PleDadd.lean ====
module

public import proofs.«01_k».proof.Proof.Gen.Kernel40Ideal.Value
public import proofs.«01_k».proof.Proof.Gen.Reference40Ideal.Read
public import Idealize.ShloMosaic.Lib.Pipeline.ValueKit
public import Idealize.ShloMosaic.Lib.Pipeline.ReadBack
public import proofs.«01_k».proof.Proof.NormSpec
public import proofs.«01_k».proof.Proof.Gen.Reference40Ideal
public import proofs.«01_k».proof.Proof.Gen.Reference40Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference40Ideal.Norm

open Cert.Reference40Ideal

/-- The gate of the lifted embedding. -/
def gate (s : EReal) : EReal := Ideal.div (Ideal.ofBits .f32 0x3F800000#32) (Ideal.ofBits .f32 0x3F800000#32 + Ideal.exp (-s))

/-- The reference's gradient of the lifted embedding at an index. -/
theorem de_ref (O E S : FVec Ideal S8192x2048 .f32) (W : FVec Ideal S2048 .f32) (r : Fin 8192) (j : Fin 2048) :
    (Read.val_main_v49 (F := Ideal) O E S W (ix2 r j) : EReal)
      = NormSpec.chain NormSpec.width (fun k => E (ix2 r k)) (fun k => O (ix2 r k) * gate (S (ix2 r k)) * W (ix1 k)) j := by
  unfold NormSpec.chain NormSpec.slope NormSpec.root NormSpec.arg NormSpec.width gate
  pointwise [Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10]
  simp only [Finset.univ_unique, Finset.sum_singleton]

/-- The reference's gradient of the gate's argument at an index. -/
theorem ds_ref (O E S : FVec Ideal S8192x2048 .f32) (W : FVec Ideal S2048 .f32) (r : Fin 8192) (j : Fin 2048) :
    (Read.val_main_v50 (F := Ideal) O E S W (ix2 r j) : EReal)
      = NormSpec.unit NormSpec.width (fun k => E (ix2 r k)) j * W (ix1 j) * O (ix2 r j) * (gate (S (ix2 r j)) * (Ideal.ofBits .f32 0x3F800000#32 - gate (S (ix2 r j)))) := by
  unfold NormSpec.unit NormSpec.root NormSpec.arg NormSpec.width gate
  pointwise [Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10]

/-- The reference's gradient of the weights at an index: a sum over the tokens. -/
theorem dw_ref (O E S : FVec Ideal S8192x2048 .f32) (j : Fin 2048) :
    (Read.val_main_v51 (F := Ideal) O E S (ix2 0 j) : EReal)
      = ∑ r : Fin 8192, NormSpec.unit NormSpec.width (fun k => E (ix2 r k)) j * (O (ix2 r j) * gate (S (ix2 r j))) := by
  unfold NormSpec.unit NormSpec.root NormSpec.arg NormSpec.width gate
  pointwise [Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10]
  simp only [Finset.univ_unique, Finset.sum_singleton]

end Cert.Reference40Ideal.Norm

namespace Cert.Kernel40Ideal.Norm

open Cert.Kernel40Ideal Cert.Kernel40Ideal.Gen
open Cert.Reference40Ideal.Norm (gate)

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![t.val, 0] ∧ win0_6.index t = ![0, 0] :=
  (by decide +kernel : ∀ t : Fin grid0.N, _)

/-- The incoming gradient. -/
abbrev grad (c : Dev nD) : FVec Ideal S8192x2048 .f32 := m ((c : Thread nD τ).loc main_arg0)
/-- The lifted embedding. -/
abbrev lifted (c : Dev nD) : FVec Ideal S8192x2048 .f32 := m ((c : Thread nD τ).loc main_arg1)
/-- The gate's argument. -/
abbrev score (c : Dev nD) : FVec Ideal S8192x2048 .f32 := m ((c : Thread nD τ).loc main_arg2)
/-- The normalisation's weights. -/
abbrev weight (c : Dev nD) : FVec Ideal S2048 .f32 := m ((c : Thread nD τ).loc main_arg3)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The blocks of a point, as the arrays the body reads. -/
abbrev oB (c : Dev nD) (t : Fin cfg0.N) : FVec Ideal S256x2048 .f32 := iblk m c 0 t
abbrev eB (c : Dev nD) (t : Fin cfg0.N) : FVec Ideal S256x2048 .f32 := iblk m c 1 t
abbrev sB (c : Dev nD) (t : Fin cfg0.N) : FVec Ideal S256x2048 .f32 := iblk m c 2 t
abbrev wB (c : Dev nD) (t : Fin cfg0.N) : FVec Ideal S1x2048 .f32 := iblk m c 3 t

/-- The incoming gradient at an index of a point's block. -/
theorem grad_block (c : Dev nD) (t : Fin cfg0.N) (p : Fin 256) (q : Fin 2048) : (oB m c t (ix2 p q) : EReal) = grad m c (ix2 (row t p) q) := by
  blk_point [iblk, V, idx t]
/-- The lifted embedding at an index of a point's block. -/
theorem lifted_block (c : Dev nD) (t : Fin cfg0.N) (p : Fin 256) (q : Fin 2048) : (eB m c t (ix2 p q) : EReal) = lifted m c (ix2 (row t p) q) := by
  blk_point [iblk, V, idx t]
/-- The gate's argument at an index of a point's block. -/
theorem score_block (c : Dev nD) (t : Fin cfg0.N) (p : Fin 256) (q : Fin 2048) : (sB m c t (ix2 p q) : EReal) = score m c (ix2 (row t p) q) := by
  blk_point [iblk, V, idx t]
/-- The weights at an index of a point's block. -/
theorem weight_block (c : Dev nD) (t : Fin cfg0.N) (q : Fin 2048) : (wB m c t (ix2 0 q) : EReal) = weight m c (ix1 q) := by
  blk_point [iblk, V, idx t]

/-- The gate that the body computes is the reference's. -/
theorem gate_apply (s : FVec Ideal S256x2048 .f32) (j : S256x2048.Idx) : (k0_pay6 (F := Ideal) s j : EReal) = gate (s j) := by
  unfold gate
  pointwise [k0_pay6]
  simp only [sub_eq_add_neg, zero_add]

/-- The gradient of the lifted embedding that a point stores, at an index of its block. -/
theorem de_apply (o e s : FVec Ideal S256x2048 .f32) (w : FVec Ideal S1x2048 .f32) (p : Fin 256) (q : Fin 2048) :
    (k0_pay2 (F := Ideal) (k0_pay9 e) (k0_pay10 e) (k0_pay11 o s w) (k0_pay12 o e s w) (Scalar.ofBits .f32 0x45000000#32) (ix2 p q) : EReal)
      = NormSpec.fused NormSpec.width (fun k => e (ix2 p k)) (fun k => o (ix2 p k) * gate (s (ix2 p k)) * w (ix2 0 k)) q := by
  unfold NormSpec.fused NormSpec.unit NormSpec.root NormSpec.arg NormSpec.width
  simp only [← gate_apply s]
  pointwise [k0_pay2, k0_pay12, k0_pay11, k0_pay10, k0_pay9, k0_pay8, k0_pay5]

/-- The gradient of the gate's argument that a point stores, at an index of its block. -/
theorem ds_apply (o e s : FVec Ideal S256x2048 .f32) (w : FVec Ideal S1x2048 .f32) (p : Fin 256) (q : Fin 2048) :
    (k0_pay3 (F := Ideal) o (k0_pay6 s) (k0_pay7 e w) (ix2 p q) : EReal)
      = o (ix2 p q) * (NormSpec.unit NormSpec.width (fun k => e (ix2 p k)) q * w (ix2 0 q)) * gate (s (ix2 p q)) * (Ideal.ofBits .f32 0x3F800000#32 - gate (s (ix2 p q))) := by
  unfold NormSpec.unit NormSpec.root NormSpec.arg NormSpec.width
  simp only [← gate_apply s]
  pointwise [k0_pay3, k0_pay7, k0_pay5]

/-- What a point adds to the gradient of the weights. -/
theorem dw_apply (o e s : FVec Ideal S256x2048 .f32) (q : Fin 2048) :
    (k0_pay1 (F := Ideal) (k0_pay8 o s) (k0_pay10 e) (ix2 0 q) : EReal)
      = ∑ p : Fin 256, o (ix2 p q) * gate (s (ix2 p q)) * NormSpec.unit NormSpec.width (fun k => e (ix2 p k)) q := by
  unfold NormSpec.unit NormSpec.root NormSpec.arg NormSpec.width
  simp only [← gate_apply s]
  pointwise [k0_pay1, k0_pay10, k0_pay9, k0_pay8]

/-- One more point's part of the gradient of the weights. -/
theorem dw_step (a b : FVec Ideal S256x2048 .f32) (w : FVec Ideal S1x2048 .f32) (j : S1x2048.Idx) :
    (k0_pay4 (F := Ideal) a b w j : EReal) = w j + k0_pay1 (F := Ideal) a b j := by
  pointwise [k0_pay4]

/-- The gradient of the lifted embedding after a point, as the reference has it. -/
theorem de_pt (c : Dev nD) (t : Fin cfg0.N) (p : Fin 256) (q : Fin 2048) : ((outsAt0 m c t.val t.isLt).1 (ix2 p q) : EReal)
    = Cert.Reference40Ideal.Read.val_main_v49 (F := Ideal) (grad m c) (lifted m c) (score m c) (weight m c) (ix2 (row t p) q) := by
  have e : (k0_pay2 (F := Ideal) (k0_pay9 (eB m c t)) (k0_pay10 (eB m c t)) (k0_pay11 (oB m c t) (sB m c t) (wB m c t))
      (k0_pay12 (oB m c t) (eB m c t) (sB m c t) (wB m c t)) (Scalar.ofBits .f32 0x45000000#32) (ix2 p q) : EReal)
      = Cert.Reference40Ideal.Read.val_main_v49 (F := Ideal) (grad m c) (lifted m c) (score m c) (weight m c) (ix2 (row t p) q) := by
    rw [Cert.Reference40Ideal.Norm.de_ref, de_apply, NormSpec.fused_eq NormSpec.width_ok]
    simp only [grad_block m c t, lifted_block m c t, score_block m c t, weight_block m c t]
  have hN := lt_of_lt_of_eq t.isLt (show cfg0.N = 32 from N_0)
  by_cases h : t.val % 32 = 0
  · rw [outsAt0_A m c t h (by omega)]; frame_out; exact e
  · rw [outsAt0_B m c t h (by omega)]; frame_out; exact e

/-- The gradient of the gate's argument after a point, as the reference has it. -/
theorem ds_pt (c : Dev nD) (t : Fin cfg0.N) (p : Fin 256) (q : Fin 2048) : ((outsAt0 m c t.val t.isLt).2.1 (ix2 p q) : EReal)
    = Cert.Reference40Ideal.Read.val_main_v50 (F := Ideal) (grad m c) (lifted m c) (score m c) (weight m c) (ix2 (row t p) q) := by
  have e : (k0_pay3 (F := Ideal) (oB m c t) (k0_pay6 (sB m c t)) (k0_pay7 (eB m c t) (wB m c t)) (ix2 p q) : EReal)
      = Cert.Reference40Ideal.Read.val_main_v50 (F := Ideal) (grad m c) (lifted m c) (score m c) (weight m c) (ix2 (row t p) q) := by
    rw [Cert.Reference40Ideal.Norm.ds_ref, ds_apply]
    simp only [grad_block m c t, lifted_block m c t, score_block m c t, weight_block m c t]
    rw [mul_assoc, mul_comm (grad m c _)]
  have hN := lt_of_lt_of_eq t.isLt (show cfg0.N = 32 from N_0)
  by_cases h : t.val % 32 = 0
  · rw [outsAt0_A m c t h (by omega)]; frame_out; exact e
  · rw [outsAt0_B m c t h (by omega)]; frame_out; exact e

/-- The gradient of the weights after the last point, as the reference has it. -/
theorem dw_pt (c : Dev nD) (t : Fin cfg0.N) (ht : t.val % 32 = 31) (q : Fin 2048) : ((outsAt0 m c t.val t.isLt).2.2 (ix2 0 q) : EReal)
    = Cert.Reference40Ideal.Read.val_main_v51 (F := Ideal) (grad m c) (lifted m c) (score m c) (ix2 0 q) := by
  rw [Cert.Reference40Ideal.Norm.dw_ref]
  have hN := lt_of_lt_of_eq t.isLt (show cfg0.N = 32 from N_0)
  refine (Pipeline.eq_sum_fin_of_reset_step_apply_of_flush (fun n h => (outsAt0 m c n h).2.2) 32 (fun _ => (0 : EReal))
    (fun s => k0_pay1 (F := Ideal) (k0_pay8 (oB m c s) (sB m c s)) (k0_pay10 (eB m c s)))
    (fun t h j => by
      have := lt_of_lt_of_eq t.isLt (show cfg0.N = 32 from N_0)
      rw [outsAt0_A m c t h (by omega)]; frame_out; exact (zero_add _).symm)
    (fun t h j => by rw [outsAt0_B m c t h (by omega)]; frame_out; exact dw_step _ _ _ j)
    t ht _).trans ?_
  rw [zero_add]
  refine (Finset.sum_congr rfl fun s _ => dw_apply _ _ _ q).trans ?_
  refine Fin.sum_mul_add_congr fun s k hl => (mul_comm _ _).trans ?_
  simp only [grad_block, lifted_block, score_block]
  have er : row ⟨_, Pipeline.run_point_lt_of_flush t ht s⟩ k = ⟨s.val * 256 + k.val, hl⟩ := Fin.ext (by
    show (32 * (t.val / 32) + s.val) * 256 + k.val = s.val * 256 + k.val
    omega)
  rw [er]

/-- The array of the lifted embedding's gradient after the run is the reference's. -/
theorem de_final (c : Dev nD) : (dats m 0 c).arrAt 4 (cfgs 0).N
    = Cert.Reference40Ideal.Read.val_main_v49 (F := Ideal) (grad m c) (lifted m c) (score m c) (weight m c) := by
  refine (dats m 0 c).arrAt_eq_of_covers 4 _ (by decide +kernel) fun t _ y => ?_
  have ey : y = ix2 (y 0) (y 1) := eq_ix2 y
  blk_simp
  rw [after0_4]
  refine (congrArg _ ey).trans ((de_pt m c t (y 0) (y 1)).trans (congrArg _ ?_))
  blk_ext [idx t]

/-- The array of the gradient of the gate's argument after the run is the reference's. -/
theorem ds_final (c : Dev nD) : (dats m 0 c).arrAt 5 (cfgs 0).N
    = Cert.Reference40Ideal.Read.val_main_v50 (F := Ideal) (grad m c) (lifted m c) (score m c) (weight m c) := by
  refine (dats m 0 c).arrAt_eq_of_covers 5 _ (by decide +kernel) fun t _ y => ?_
  have ey : y = ix2 (y 0) (y 1) := eq_ix2 y
  blk_simp
  rw [after0_5]
  refine (congrArg _ ey).trans ((ds_pt m c t (y 0) (y 1)).trans (congrArg _ ?_))
  blk_ext [idx t]

/-- The array of the weights' gradient after the run is the reference's. -/
theorem dw_final (c : Dev nD) : (dats m 0 c).arrAt 6 (cfgs 0).N
    = Cert.Reference40Ideal.Read.val_main_v51 (F := Ideal) (grad m c) (lifted m c) (score m c) := by
  refine (dats m 0 c).arrAt_eq_of_covers 6 _ (by decide +kernel) fun t hf y => ?_
  have ey : y = ix2 0 (y 1) := by blk_ext
  blk_simp
  rw [after0_6]
  refine (congrArg _ ey).trans ((dw_pt m c t ((flush0_6 t).mp hf) (y 1)).trans (congrArg _ ?_))
  blk_ext [idx t]

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = Cert.Reference40Ideal.Read.val_main_v49 (F := Ideal) (grad m c) (lifted m c) (score m c) (weight m c)
      ∧ r.2.mem ((c.tc : Thread nD τ).loc main_v1_1) = Cert.Reference40Ideal.Read.val_main_v50 (F := Ideal) (grad m c) (lifted m c) (score m c) (weight m c)
      ∧ r.2.mem ((c.tc : Thread nD τ).loc main_v1_2) = Cert.Reference40Ideal.Read.val_main_v51 (F := Ideal) (grad m c) (lifted m c) (score m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact de_final m c
  · exact ds_final m c
  · exact dw_final m c

end Cert.Kernel40Ideal.Norm

namespace Cert.Reference40Ideal.Norm

/-- The three arrays of the reference after its run, as terms in its arguments; the arguments stay as they were. -/
theorem reference_run (m : (ℓ : Loc nD τ sig) → Buf (Elt Ideal) ℓ) (g : Dev nD → PrngReg) (x0 : Dev nD → FVec Ideal S8192x2048 .f32) (x1 : Dev nD → FVec Ideal S8192x2048 .f32) (x2 : Dev nD → FVec Ideal S8192x2048 .f32) (x3 : Dev nD → FVec Ideal S2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v49) = Read.val_main_v49 (F := Ideal) (x0 c) (x1 c) (x2 c) (x3 c)
      ∧ r.2.mem ((c.tc : Thread nD τ).loc main_v50) = Read.val_main_v50 (F := Ideal) (x0 c) (x1 c) (x2 c) (x3 c)
      ∧ r.2.mem ((c.tc : Thread nD τ).loc main_v51) = Read.val_main_v51 (F := Ideal) (x0 c) (x1 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference40Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v49_eq ..)
  · rw [← e0, ← e1, ← e2, ← e3]; exact r1.trans (Read.val_main_v50_eq ..)
  · rw [← e0, ← e1, ← e2]; exact r2.trans (Read.val_main_v51_eq ..)

end Cert.Reference40Ideal.Norm

end
-- ==== Proof.LossHead.lean ====
module

public import proofs.«01_k».proof.Proof.Gen.Kernel41Ideal.Value
public import proofs.«01_k».proof.Proof.Gen.Reference41Ideal.Read
public import Idealize.ShloMosaic.Lib.Pipeline.ValueKit
public import Idealize.ShloMosaic.Lib.Pipeline.ReadBack
public import proofs.«01_k».proof.Proof.NormSpec
public import proofs.«01_k».proof.Proof.Gen.Reference41Ideal
public import proofs.«01_k».proof.Proof.Gen.Reference41Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference41Ideal.Norm

open Cert.Reference41Ideal

/-- The error of a token at a column: the normalised output less the target. -/
def err (h w t : Fin 2048 → EReal) (j : Fin 2048) : EReal := NormSpec.unit NormSpec.width h j * w j - t j

/-- The gradient of the loss to an error, by the chain rule. -/
def slope (e : EReal) : EReal :=
  Ideal.div (Ideal.ofBits .f32 0x3F000000#32 * Ideal.ofBits .f32 0x3F800000#32) NormSpec.width * (Ideal.ofBits .f32 0x40000000#32 * e)

theorem half_eq : Ideal.ofBits .f32 0x3F000000#32 = ((1 / 2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem inv_eq : Ideal.ofBits .f32 0x3A000000#32 = ((1 / 2048 : ℝ) : EReal) := by
  simp [Ideal.ofBits, Ideal.ieee, -EReal.coe_mul]; norm_num

/-- The gradient of the loss to an error is the error over the width. -/
theorem slope_eq (e : EReal) : e * Ideal.ofBits .f32 0x3A000000#32 = slope e := by
  rw [slope, NormSpec.div_width, half_eq, one_eq, two_eq, inv_eq, ← mul_assoc, ← EReal.coe_mul, ← EReal.coe_mul, ← EReal.coe_mul, mul_comm e]
  congr 2
  norm_num

/-- The reference's gradient of the step's output at an index. -/
theorem dh_ref (H T : FVec Ideal S8192x2048 .f32) (W : FVec Ideal S2048 .f32) (r : Fin 8192) (j : Fin 2048) :
    (Read.val_main_v50 (F := Ideal) H T W (ix2 r j) : EReal)
      = NormSpec.chain NormSpec.width (fun k => H (ix2 r k))
        (fun k => slope (err (fun k => H (ix2 r k)) (fun k => W (ix1 k)) (fun k => T (ix2 r k)) k) * W (ix1 k)) j := by
  unfold NormSpec.chain NormSpec.slope slope err NormSpec.unit NormSpec.root NormSpec.arg NormSpec.width
  pointwise [Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15]
  simp only [Finset.univ_unique, Finset.sum_singleton]

/-- The reference's gradient of the weights at an index: a sum over the tokens. -/
theorem dw_ref (H T : FVec Ideal S8192x2048 .f32) (W : FVec Ideal S2048 .f32) (j : Fin 2048) :
    (Read.val_main_v51 (F := Ideal) H T W (ix2 0 j) : EReal)
      = ∑ r : Fin 8192, NormSpec.unit NormSpec.width (fun k => H (ix2 r k)) j * slope (err (fun k => H (ix2 r k)) (fun k => W (ix1 k)) (fun k => T (ix2 r k)) j) := by
  unfold slope err NormSpec.unit NormSpec.root NormSpec.arg NormSpec.width
  pointwise [Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15]
  simp only [Finset.univ_unique, Finset.sum_singleton]

/-- The reference's loss: half the sum over the tokens of the mean squared error. -/
theorem loss_ref (H T : FVec Ideal S8192x2048 .f32) (W : FVec Ideal S2048 .f32) (j : Fin 128) :
    (Read.val_main_v52 (F := Ideal) H T W (ix2 0 j) : EReal)
      = Ideal.ofBits .f32 0x3F000000#32 * ∑ r : Fin 8192, Ideal.div (∑ k : Fin 2048,
        err (fun k => H (ix2 r k)) (fun k => W (ix1 k)) (fun k => T (ix2 r k)) k * err (fun k => H (ix2 r k)) (fun k => W (ix1 k)) (fun k => T (ix2 r k)) k) NormSpec.width := by
  unfold err NormSpec.unit NormSpec.root NormSpec.arg NormSpec.width
  pointwise [Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, Read.val_main_cst_15]

end Cert.Reference41Ideal.Norm

namespace Cert.Kernel41Ideal.Norm

open Cert.Kernel41Ideal Cert.Kernel41Ideal.Gen
open Cert.Reference41Ideal.Norm (err slope slope_eq half_eq inv_eq)

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![0, 0] ∧ win0_3.index t = ![t.val, 0] ∧ win0_4.index t = ![0, 0] ∧ win0_5.index t = ![0, 0] :=
  (by decide +kernel : ∀ t : Fin grid0.N, _)

/-- The step's output. -/
abbrev output (c : Dev nD) : FVec Ideal S8192x2048 .f32 := m ((c : Thread nD τ).loc main_arg0)
/-- The target. -/
abbrev target (c : Dev nD) : FVec Ideal S8192x2048 .f32 := m ((c : Thread nD τ).loc main_arg1)
/-- The normalisation's weights. -/
abbrev weight (c : Dev nD) : FVec Ideal S2048 .f32 := m ((c : Thread nD τ).loc main_arg2)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The blocks of a point, as the arrays the body reads. -/
abbrev hB (c : Dev nD) (t : Fin cfg0.N) : FVec Ideal S256x2048 .f32 := iblk m c 0 t
abbrev tB (c : Dev nD) (t : Fin cfg0.N) : FVec Ideal S256x2048 .f32 := iblk m c 1 t
abbrev wB (c : Dev nD) (t : Fin cfg0.N) : FVec Ideal S1x2048 .f32 := iblk m c 2 t

/-- The step's output at an index of a point's block. -/
theorem output_block (c : Dev nD) (t : Fin cfg0.N) (p : Fin 256) (q : Fin 2048) : (hB m c t (ix2 p q) : EReal) = output m c (ix2 (row t p) q) := by
  blk_point [iblk, V, idx t]
/-- The target at an index of a point's block. -/
theorem target_block (c : Dev nD) (t : Fin cfg0.N) (p : Fin 256) (q : Fin 2048) : (tB m c t (ix2 p q) : EReal) = target m c (ix2 (row t p) q) := by
  blk_point [iblk, V, idx t]
/-- The weights at an index of a point's block. -/
theorem weight_block (c : Dev nD) (t : Fin cfg0.N) (q : Fin 2048) : (wB m c t (ix2 0 q) : EReal) = weight m c (ix1 q) := by
  blk_point [iblk, V, idx t]

section Body

variable (h t : FVec Ideal S256x2048 .f32) (w : FVec Ideal S1x2048 .f32)

/-- The error of a row of a block. -/
abbrev errs (p : Fin 256) : Fin 2048 → EReal := err (fun k => h (ix2 p k)) (fun k => w (ix2 0 k)) (fun k => t (ix2 p k))

/-- The error that the body computes. -/
theorem err_apply (p : Fin 256) (q : Fin 2048) : (k0_pay6 (F := Ideal) h t w (ix2 p q) : EReal) = errs h t w p q := by
  unfold errs err NormSpec.unit NormSpec.root NormSpec.arg NormSpec.width
  pointwise [k0_pay6, k0_pay5]

/-- The gradient of the loss to an error that the body computes. -/
theorem slope_apply (p : Fin 256) (q : Fin 2048) : (k0_pay7 (F := Ideal) h t w (ix2 p q) : EReal) = slope (errs h t w p q) := by
  rw [← slope_eq, ← err_apply]
  pointwise [k0_pay7]

/-- The gradient of the step's output that a point stores, at an index of its block. -/
theorem dh_apply (p : Fin 256) (q : Fin 2048) : (k0_pay10 (F := Ideal) h t w (ix2 p q) : EReal)
    = NormSpec.fused NormSpec.width (fun k => h (ix2 p k)) (fun k => slope (errs h t w p k) * w (ix2 0 k)) q := by
  simp only [← slope_apply]
  unfold NormSpec.fused NormSpec.unit NormSpec.root NormSpec.arg NormSpec.width
  pointwise [k0_pay10, k0_pay9, k0_pay8, k0_pay5]

/-- What a point adds to the gradient of the weights. -/
theorem dw_apply (q : Fin 2048) : (k0_pay1 (F := Ideal) (k0_pay11 h t w) (ix2 0 q) : EReal)
    = ∑ p : Fin 256, slope (errs h t w p q) * NormSpec.unit NormSpec.width (fun k => h (ix2 p k)) q := by
  simp only [← slope_apply]
  unfold NormSpec.unit NormSpec.root NormSpec.arg NormSpec.width
  pointwise [k0_pay1, k0_pay11, k0_pay9, k0_pay8]

/-- What a point adds to the loss. -/
theorem loss_apply (q : Fin 128) : (k0_pay2 (F := Ideal) (k0_pay6 h t w) (ix2 0 q) : EReal)
    = Ideal.ofBits .f32 0x3F000000#32 * (∑ p : Fin 256, ∑ k : Fin 2048, errs h t w p k * errs h t w p k) * Ideal.ofBits .f32 0x3A000000#32 := by
  simp only [← err_apply]
  pointwise [k0_pay2]

end Body

/-- One more point's part of the gradient of the weights. -/
theorem dw_step (a : FVec Ideal S2048 .f32) (b : FVec Ideal S1x2048 .f32) (j : S1x2048.Idx) :
    (k0_pay3 (F := Ideal) a b j : EReal) = b j + k0_pay1 (F := Ideal) a j := by
  pointwise [k0_pay3]

/-- One more point's part of the loss. -/
theorem loss_step (a : FVec Ideal S256x2048 .f32) (b : FVec Ideal S1x128 .f32) (j : S1x128.Idx) :
    (k0_pay4 (F := Ideal) a b j : EReal) = b j + k0_pay2 (F := Ideal) a j := by
  pointwise [k0_pay4]

/-- The token of a row of a point of the run. -/
theorem row_run (t : Fin cfg0.N) (s : Fin 32) (k : Fin 256) (h : 32 * (t.val / 32) + s.val < cfg0.N) (hl : s.val * 256 + k.val < 8192) :
    row ⟨32 * (t.val / 32) + s.val, h⟩ k = ⟨s.val * 256 + k.val, hl⟩ := Fin.ext (by
  have hN := lt_of_lt_of_eq t.isLt (show cfg0.N = 32 from N_0)
  show (32 * (t.val / 32) + s.val) * 256 + k.val = s.val * 256 + k.val
  omega)

/-- The errors of a row of a point's block are the errors of its token. -/
theorem errs_eq (c : Dev nD) (t : Fin cfg0.N) (p : Fin 256) : errs (hB m c t) (tB m c t) (wB m c t) p
    = err (fun k => output m c (ix2 (row t p) k)) (fun k => weight m c (ix1 k)) (fun k => target m c (ix2 (row t p) k)) := by
  unfold errs
  simp only [output_block m c t, target_block m c t, weight_block m c t]

/-- The gradient of the step's output after a point, as the reference has it. -/
theorem dh_pt (c : Dev nD) (t : Fin cfg0.N) (p : Fin 256) (q : Fin 2048) : ((outsAt0 m c t.val t.isLt).1 (ix2 p q) : EReal)
    = Cert.Reference41Ideal.Read.val_main_v50 (F := Ideal) (output m c) (target m c) (weight m c) (ix2 (row t p) q) := by
  have e : (k0_pay10 (F := Ideal) (hB m c t) (tB m c t) (wB m c t) (ix2 p q) : EReal)
      = Cert.Reference41Ideal.Read.val_main_v50 (F := Ideal) (output m c) (target m c) (weight m c) (ix2 (row t p) q) := by
    rw [Cert.Reference41Ideal.Norm.dh_ref, dh_apply, NormSpec.fused_eq NormSpec.width_ok, errs_eq]
    simp only [output_block m c t, weight_block m c t]
  have hN := lt_of_lt_of_eq t.isLt (show cfg0.N = 32 from N_0)
  by_cases h : t.val % 32 = 0
  · rw [outsAt0_A m c t h (by omega)]; frame_out; exact e
  · rw [outsAt0_B m c t h (by omega)]; frame_out; exact e

/-- The gradient of the weights after the last point, as the reference has it. -/
theorem dw_pt (c : Dev nD) (t : Fin cfg0.N) (ht : t.val % 32 = 31) (q : Fin 2048) : ((outsAt0 m c t.val t.isLt).2.1 (ix2 0 q) : EReal)
    = Cert.Reference41Ideal.Read.val_main_v51 (F := Ideal) (output m c) (target m c) (weight m c) (ix2 0 q) := by
  rw [Cert.Reference41Ideal.Norm.dw_ref]
  refine (Pipeline.eq_sum_fin_of_reset_step_apply_of_flush (fun n h => (outsAt0 m c n h).2.1) 32 (fun _ => (0 : EReal))
    (fun s => k0_pay1 (F := Ideal) (k0_pay11 (hB m c s) (tB m c s) (wB m c s)))
    (fun t h j => by
      have := lt_of_lt_of_eq t.isLt (show cfg0.N = 32 from N_0)
      rw [outsAt0_A m c t h (by omega)]; frame_out; exact (zero_add _).symm)
    (fun t h j => by rw [outsAt0_B m c t h (by omega)]; frame_out; exact dw_step _ _ j)
    t ht _).trans ?_
  rw [zero_add]
  refine (Finset.sum_congr rfl fun s _ => dw_apply _ _ _ q).trans ?_
  refine Fin.sum_mul_add_congr fun s k hl => (mul_comm _ _).trans ?_
  rw [errs_eq, row_run t s k _ hl]
  simp only [output_block, row_run t s k _ hl]

/-- The loss after the last point, as the reference has it. -/
theorem loss_pt (c : Dev nD) (t : Fin cfg0.N) (ht : t.val % 32 = 31) (q : Fin 128) : ((outsAt0 m c t.val t.isLt).2.2 (ix2 0 q) : EReal)
    = Cert.Reference41Ideal.Read.val_main_v52 (F := Ideal) (output m c) (target m c) (weight m c) (ix2 0 q) := by
  rw [Cert.Reference41Ideal.Norm.loss_ref]
  refine (Pipeline.eq_sum_fin_of_reset_step_apply_of_flush (fun n h => (outsAt0 m c n h).2.2) 32 (fun _ => (0 : EReal))
    (fun s => k0_pay2 (F := Ideal) (k0_pay6 (hB m c s) (tB m c s) (wB m c s)))
    (fun t h j => by
      have := lt_of_lt_of_eq t.isLt (show cfg0.N = 32 from N_0)
      rw [outsAt0_A m c t h (by omega)]; frame_out; exact (zero_add _).symm)
    (fun t h j => by rw [outsAt0_B m c t h (by omega)]; frame_out; exact loss_step _ _ j)
    t ht _).trans ?_
  rw [zero_add]
  refine (Finset.sum_congr rfl fun s _ => loss_apply _ _ _ q).trans ?_
  simp only [NormSpec.div_width, inv_eq]
  rw [NormSpec.mul_sum _ _ (by norm_num), NormSpec.mul_sum _ _ (by norm_num), ← mul_assoc]
  refine congrArg (· * _) ?_
  simp only [half_eq, mul_comm (((1 / 2 : ℝ)) : EReal)]
  rw [NormSpec.mul_sum _ _ (by norm_num)]
  refine congrArg (· * _) ?_
  refine Fin.sum_mul_add_congr fun s k hl => ?_
  rw [errs_eq, row_run t s k _ hl]

/-- The array of the gradient of the step's output after the run is the reference's. -/
theorem dh_final (c : Dev nD) : (dats m 0 c).arrAt 3 (cfgs 0).N
    = Cert.Reference41Ideal.Read.val_main_v50 (F := Ideal) (output m c) (target m c) (weight m c) := by
  refine (dats m 0 c).arrAt_eq_of_covers 3 _ (by decide +kernel) fun t _ y => ?_
  have ey : y = ix2 (y 0) (y 1) := eq_ix2 y
  blk_simp
  rw [after0_3]
  refine (congrArg _ ey).trans ((dh_pt m c t (y 0) (y 1)).trans (congrArg _ ?_))
  blk_ext [idx t]

/-- The array of the weights' gradient after the run is the reference's. -/
theorem dw_final (c : Dev nD) : (dats m 0 c).arrAt 4 (cfgs 0).N
    = Cert.Reference41Ideal.Read.val_main_v51 (F := Ideal) (output m c) (target m c) (weight m c) := by
  refine (dats m 0 c).arrAt_eq_of_covers 4 _ (by decide +kernel) fun t hf y => ?_
  have ey : y = ix2 0 (y 1) := by blk_ext
  blk_simp
  rw [after0_4]
  refine (congrArg _ ey).trans ((dw_pt m c t ((flush0_4 t).mp hf) (y 1)).trans (congrArg _ ?_))
  blk_ext [idx t]

/-- The array of the loss after the run is the reference's. -/
theorem loss_final (c : Dev nD) : (dats m 0 c).arrAt 5 (cfgs 0).N
    = Cert.Reference41Ideal.Read.val_main_v52 (F := Ideal) (output m c) (target m c) (weight m c) := by
  refine (dats m 0 c).arrAt_eq_of_covers 5 _ (by decide +kernel) fun t hf y => ?_
  have ey : y = ix2 0 (y 1) := by blk_ext
  blk_simp
  rw [after0_5]
  refine (congrArg _ ey).trans ((loss_pt m c t ((flush0_5 t).mp hf) (y 1)).trans (congrArg _ ?_))
  blk_ext [idx t]

set_option maxHeartbeats 4000000

/-- The three arrays after a run of the kernel are the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v1_0) = Cert.Reference41Ideal.Read.val_main_v50 (F := Ideal) (output m c) (target m c) (weight m c)
      ∧ r.2.mem ((c.tc : Thread nD τ).loc main_v1_1) = Cert.Reference41Ideal.Read.val_main_v51 (F := Ideal) (output m c) (target m c) (weight m c)
      ∧ r.2.mem ((c.tc : Thread nD τ).loc main_v1_2) = Cert.Reference41Ideal.Read.val_main_v52 (F := Ideal) (output m c) (target m c) (weight m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m g
  · exact dh_final m c
  · exact dw_final m c
  · exact loss_final m c

end Cert.Kernel41Ideal.Norm

namespace Cert.Reference41Ideal.Norm

/-- The three arrays of the reference after its run, as terms in its arguments; the arguments stay as they were. -/
theorem reference_run (m : (ℓ : Loc nD τ sig) → Buf (Elt Ideal) ℓ) (g : Dev nD → PrngReg) (x0 : Dev nD → FVec Ideal S8192x2048 .f32) (x1 : Dev nD → FVec Ideal S8192x2048 .f32) (x2 : Dev nD → FVec Ideal S2048 .f32)
    (h : ∀ c : Dev nD, m ((c.tc : Thread nD τ).loc main_arg0) = x0 c ∧ m ((c.tc : Thread nD τ).loc main_arg1) = x1 c ∧ m ((c.tc : Thread nD τ).loc main_arg2) = x2 c) :
    θ_run (defs (F := Ideal)) (onTc (τ := τ) (main (F := Ideal))) ⟨m, fun _ => 0, g⟩ (fun r => ∀ c : Dev nD,
      r.2.mem ((c.tc : Thread nD τ).loc main_v50) = Read.val_main_v50 (F := Ideal) (x0 c) (x1 c) (x2 c)
      ∧ r.2.mem ((c.tc : Thread nD τ).loc main_v51) = Read.val_main_v51 (F := Ideal) (x0 c) (x1 c) (x2 c)
      ∧ r.2.mem ((c.tc : Thread nD τ).loc main_v52) = Read.val_main_v52 (F := Ideal) (x0 c) (x1 c) (x2 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run (defs (F := Ideal)) _ _).mono (fun r hr c => ?_) (Cert.Reference41Ideal.Value.run (F := Ideal) m g)
  obtain ⟨r0, r1, r2, ra⟩ := hr c
  obtain ⟨e0, e1, e2⟩ := h c
  refine ⟨?_, ?_, ?_, ra⟩
  · rw [← e0, ← e1, ← e2]; exact r0.trans (Read.val_main_v50_eq ..)
  · rw [← e0, ← e1, ← e2]; exact r1.trans (Read.val_main_v51_eq ..)
  · rw [← e0, ← e1, ← e2]; exact r2.trans (Read.val_main_v52_eq ..)

end Cert.Reference41Ideal.Norm

end
-- ==== Proof.NormFwd.lean ====
module

public import proofs.«01_k».proof.Proof.Gen.Kernel42Ideal.Value
public import proofs.«01_k».proof.Proof.Gen.Reference42Ideal.Read
public import Idealize.ShloMosaic.Lib.Pipeline.ValueKit
public import Idealize.ShloMosaic.Lib.Pipeline.ReadBack
public import proofs.«01_k».proof.Proof.NormSpec
public import proofs.«01_k».proof.Proof.Gen.Reference42Ideal
public import proofs.«01_k».proof.Proof.Gen.Reference42Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference42Ideal.Norm

open Cert.Reference42Ideal

/-- The reference's normalised input at an index. -/
theorem norm_ref (H : FVec Ideal S8192x2048 .f32) (W : FVec Ideal S2048 .f32) (r : Fin 8192) (j : Fin 2048) :
    (Read.val_main_v13 (F := Ideal) H W (ix2 r j) : EReal) = NormSpec.unit NormSpec.width (fun k => H (ix2 r k)) j * W (ix1 j) := by
  unfold NormSpec.unit NormSpec.root NormSpec.arg NormSpec.width
  pointwise [Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1]

end Cert.Reference42Ideal.Norm

namespace Cert.Kernel42Ideal.Norm

open Cert.Kernel42Ideal Cert.Kernel42Ideal.Gen

variable (m : (ℓ : Loc nD τ sig) → Buf (Elt Ideal) ℓ)

/-- The blocks of every grid point. -/
theorem idx : ∀ t : Fin cfg0.N, win0_0.index t = ![t.val, 0] ∧ win0_1.index t = ![0, 0] ∧ win0_2.index t = ![t.val, 0] :=
  (by decide +kernel : ∀ t : Fin grid0.N, _)

/-- The input. -/
abbrev input (c : Dev nD) : FVec Ideal S8192x2048 .f32 := m ((c : Thread nD τ).loc main_arg0)
/-- The normalisation's weights. -/
abbrev weight (c : Dev nD) : FVec Ideal S2048 .f32 := m ((c : Thread nD τ).loc main_arg1)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The blocks of a point, as the arrays the body reads. -/
abbrev xB (c : Dev nD) (t : Fin cfg0.N) : FVec Ideal S256x2048 .f32 := iblk m c 0 t
abbrev wB (c : Dev nD) (t : Fin cfg0.N) : FVec Ideal S1x2048 .f32 := iblk m c 1 t

/-- The input at an index of a point's block. -/
theorem input_block (c : Dev nD) (t : Fin cfg0.N) (p : Fin 256) (q : Fin 2048) : (xB m c t (ix2 p q) : EReal) = input m c (ix2 (row t p) q) := by
  blk_point [iblk, V, idx t]
/-- The weights at an index of a point's block. -/
theorem weight_block (c : Dev nD) (t : Fin cfg0.N) (q : Fin 2048) : (wB m c t (ix2 0 q) : EReal) = weight m c (ix1 q) := by
  blk_point [iblk, V, idx t]

/-- What a point stores, at an index of its block. -/
theorem norm_apply (x : FVec Ideal S256x2048 .f32) (w : FVec Ideal S1x2048 .f32) (p : Fin 256) (q : Fin 2048) :
    (k0_pay1 (F := Ideal) x w (ix2 p q) : EReal) = NormSpec.unit NormSpec.width (fun k => x (ix2 p k)) q * w (ix2 0 q) := by
  unfold NormSpec.unit NormSpec.root NormSpec.arg NormSpec.width
  pointwise [k0_pay1]

/-- The normalised input after a point, as the reference has it. -/
theorem norm_pt (c : Dev nD) (t : Fin cfg0.N) (p : Fin 256) (q : Fin 2048) : (out0_2 (F := Ideal) (xB m c t) (wB m c t) (ix2 p q) : EReal)
    = Cert.Reference42Ideal.Read.val_main_v13 (F := Ideal) (input m c) (weight m c) (ix2 (row t p) q) := by
  rw [Cert.Reference42Ideal.Norm.norm_ref]
  unfold out0_2
  frame_out
  refine (norm_apply _ _ p q).trans ?_
  simp only [input_block m c t, weight_block m c t]

/-- The array after the run is the reference's. -/
theorem final (c : Dev nD) : (dats m 0 c).arrAt 2 (cfgs 0).N = Cert.Reference42Ideal.Read.val_main_v13 (F := Ideal) (input m c) (weight m c) := by
  refine (dats m 0 c).arrAt_eq_of_covers 2 _ (by decide +kernel) fun t _ y => ?_
  have ey : y = ix2 (y 0) (y 1) := eq_ix2 y
  blk_simp
  rw [after0_2]
  refine (congrArg _ ey).trans ((norm_pt m c t (y 0) (y 1)).trans (congrArg _ ?_))
  blk_ext [idx t]

end Cert.Kernel42Ideal.Norm

end
-- ==== Proof.PleAdd.lean ====
module

public import proofs.«01_k».proof.Proof.Gen.Kernel43Ideal.Value
public import proofs.«01_k».proof.Proof.Gen.Reference43Ideal.Read
public import Idealize.ShloMosaic.Lib.Pipeline.ValueKit
public import Idealize.ShloMosaic.Lib.Pipeline.ReadBack
public import proofs.«01_k».proof.Proof.NormSpec
public import proofs.«01_k».proof.Proof.Gen.Reference43Ideal
public import proofs.«01_k».proof.Proof.Gen.Reference43Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference43Ideal.Norm

open Cert.Reference43Ideal

/-- The gate of the lifted embedding. -/
def gate (s : EReal) : EReal := Ideal.div (Ideal.ofBits .f32 0x3F800000#32) (Ideal.ofBits .f32 0x3F800000#32 + Ideal.exp (-s))

/-- The reference's sum of the residual and the gated embedding at an index. -/
theorem add_ref (H E S : FVec Ideal S8192x2048 .f32) (W : FVec Ideal S2048 .f32) (r : Fin 8192) (j : Fin 2048) :
    (Read.val_main_v20 (F := Ideal) H E S W (ix2 r j) : EReal)
      = H (ix2 r j) + NormSpec.unit NormSpec.width (fun k => E (ix2 r k)) j * W (ix1 j) * gate (S (ix2 r j)) := by
  unfold NormSpec.unit NormSpec.root NormSpec.arg NormSpec.width gate
  pointwise [Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3]

end Cert.Reference43Ideal.Norm

namespace Cert.Kernel43Ideal.Norm

open Cert.Kernel43Ideal Cert.Kernel43Ideal.Gen
open Cert.Reference43Ideal.Norm (gate)

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] :=
  (by decide +kernel : ∀ t : Fin grid0.N, _)

/-- The residual. -/
abbrev res (c : Dev nD) : FVec Ideal S8192x2048 .f32 := m ((c : Thread nD τ).loc main_arg0)
/-- The lifted embedding. -/
abbrev lifted (c : Dev nD) : FVec Ideal S8192x2048 .f32 := m ((c : Thread nD τ).loc main_arg1)
/-- The gate's argument. -/
abbrev score (c : Dev nD) : FVec Ideal S8192x2048 .f32 := m ((c : Thread nD τ).loc main_arg2)
/-- The normalisation's weights. -/
abbrev weight (c : Dev nD) : FVec Ideal S2048 .f32 := m ((c : Thread nD τ).loc main_arg3)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The blocks of a point, as the arrays the body reads. -/
abbrev hB (c : Dev nD) (t : Fin cfg0.N) : FVec Ideal S256x2048 .f32 := iblk m c 0 t
abbrev eB (c : Dev nD) (t : Fin cfg0.N) : FVec Ideal S256x2048 .f32 := iblk m c 1 t
abbrev sB (c : Dev nD) (t : Fin cfg0.N) : FVec Ideal S256x2048 .f32 := iblk m c 2 t
abbrev wB (c : Dev nD) (t : Fin cfg0.N) : FVec Ideal S1x2048 .f32 := iblk m c 3 t

/-- The residual at an index of a point's block. -/
theorem res_block (c : Dev nD) (t : Fin cfg0.N) (p : Fin 256) (q : Fin 2048) : (hB m c t (ix2 p q) : EReal) = res m c (ix2 (row t p) q) := by
  blk_point [iblk, V, idx t]
/-- The lifted embedding at an index of a point's block. -/
theorem lifted_block (c : Dev nD) (t : Fin cfg0.N) (p : Fin 256) (q : Fin 2048) : (eB m c t (ix2 p q) : EReal) = lifted m c (ix2 (row t p) q) := by
  blk_point [iblk, V, idx t]
/-- The gate's argument at an index of a point's block. -/
theorem score_block (c : Dev nD) (t : Fin cfg0.N) (p : Fin 256) (q : Fin 2048) : (sB m c t (ix2 p q) : EReal) = score m c (ix2 (row t p) q) := by
  blk_point [iblk, V, idx t]
/-- The weights at an index of a point's block. -/
theorem weight_block (c : Dev nD) (t : Fin cfg0.N) (q : Fin 2048) : (wB m c t (ix2 0 q) : EReal) = weight m c (ix1 q) := by
  blk_point [iblk, V, idx t]

/-- What a point stores, at an index of its block. -/
theorem add_apply (h e s : FVec Ideal S256x2048 .f32) (w : FVec Ideal S1x2048 .f32) (p : Fin 256) (q : Fin 2048) :
    (k0_pay1 (F := Ideal) h e s w (ix2 p q) : EReal)
      = h (ix2 p q) + NormSpec.unit NormSpec.width (fun k => e (ix2 p k)) q * w (ix2 0 q) * gate (s (ix2 p q)) := by
  unfold NormSpec.unit NormSpec.root NormSpec.arg NormSpec.width gate
  pointwise [k0_pay1]
  simp only [sub_eq_add_neg, zero_add]

/-- The sum after a point, as the reference has it. -/
theorem add_pt (c : Dev nD) (t : Fin cfg0.N) (p : Fin 256) (q : Fin 2048) : (out0_4 (F := Ideal) (hB m c t) (eB m c t) (sB m c t) (wB m c t) (ix2 p q) : EReal)
    = Cert.Reference43Ideal.Read.val_main_v20 (F := Ideal) (res m c) (lifted m c) (score m c) (weight m c) (ix2 (row t p) q) := by
  rw [Cert.Reference43Ideal.Norm.add_ref]
  unfold out0_4
  frame_out
  refine (add_apply _ _ _ _ p q).trans ?_
  simp only [res_block m c t, lifted_block m c t, score_block m c t, weight_block m c t]

/-- The array after the run is the reference's. -/
theorem final (c : Dev nD) : (dats m 0 c).arrAt 4 (cfgs 0).N
    = Cert.Reference43Ideal.Read.val_main_v20 (F := Ideal) (res m c) (lifted m c) (score m c) (weight m c) := by
  refine (dats m 0 c).arrAt_eq_of_covers 4 _ (by decide +kernel) fun t _ y => ?_
  have ey : y = ix2 (y 0) (y 1) := eq_ix2 y
  blk_simp
  rw [after0_4]
  refine (congrArg _ ey).trans ((add_pt m c t (y 0) (y 1)).trans (congrArg _ ?_))
  blk_ext [idx t]

end Cert.Kernel43Ideal.Norm

end
-- ==== Proof.PleUp.lean ====
module

public import proofs.«01_k».proof.Proof.Gen.Kernel44Ideal.Value
public import proofs.«01_k».proof.Proof.Gen.Reference44Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel44Ideal.Product

open Cert.Kernel44Ideal Cert.Kernel44Ideal.Gen

variable (m : (ℓ : Loc nD τ sig) → Buf (Elt Ideal) ℓ)

/-- What a point stores, at an index: the product of its two blocks. -/
theorem out_apply (x : FVec Ideal S1024x256 .f32) (w : FVec Ideal S256x1024 .bf16) (j : S1024x1024.Idx) :
    (k0_pay2 (F := Ideal) (k0_pay1 (F := Ideal)) x w j : EReal) = ∑ k : Fin 256, x (ix2 (j 0) k) * w (ix2 k (j 1)) := by
  pointwise [k0_pay2, k0_pay1]

/-- The blocks of every grid point. -/
theorem idx : ∀ t : Fin cfg0.N, win0_0.index t = ![t.val / 2, 0] ∧ win0_1.index t = ![0, t.val % 2]
    ∧ win0_2.index t = ![t.val / 2, t.val % 2] := (by decide +kernel : ∀ t : Fin grid0.N, _)

/-- The reference's term: the lifted embedding. -/
abbrev REF (X : FVec Ideal S8192x256 .f32) (W : FVec Ideal S256x2048 .bf16) : FVec Ideal S8192x2048 .f32 :=
  Cert.Reference44Ideal.Read.val_main_v1 (F := Ideal) X W

/-- The reference's term at an index: one sum over the input's columns. -/
theorem ref_apply (X : FVec Ideal S8192x256 .f32) (W : FVec Ideal S256x2048 .bf16) (r : Fin 8192) (q : Fin 2048) :
    (REF X W (ix2 r q) : EReal) = ∑ k : Fin 256, X (ix2 r k) * W (ix2 k q) := by
  pointwise [REF, Cert.Reference44Ideal.Read.val_main_v1, Cert.Reference44Ideal.Read.val_main_v0]

/-- The per-token embedding. -/
abbrev hn (c : Dev nD) : FVec Ideal S8192x256 .f32 := m ((c : Thread nD τ).loc main_arg0)
/-- The projection's weights. -/
abbrev weights (c : Dev nD) : FVec Ideal S256x2048 .bf16 := m ((c : Thread nD τ).loc main_arg1)

theorem row_lt (t : Fin cfg0.N) (r : Fin 1024) : t.val / 2 * 1024 + r.val < 8192 := by
  have := lt_of_lt_of_eq t.isLt (show cfg0.N = 16 from N_0); omega
theorem out_lt (a : ℕ) (q : Fin 1024) : a % 2 * 1024 + q.val < 2048 := by omega

/-- What a point writes back: the product of its two blocks. -/
theorem outs_eq (c : Dev nD) (t : Fin cfg0.N) : outsAt0 m c t = k0_pay2 (F := Ideal) (k0_pay1 (F := Ideal)) (iblk m c 0 t) (iblk m c 1 t) := by
  unfold outsAt0; frame_out

/-- The array after the run is the reference's term. -/
theorem final (c : Dev nD) : (dats m 0 c).arrAt 2 (cfgs 0).N = REF (hn m c) (weights m c) := by
  refine (dats m 0 c).arrAt_eq_of_covers 2 _ (by decide +kernel) fun t _ y => ?_
  blk_simp
  rw [after0_2, outs_eq]
  refine (out_apply _ _ _).trans (((Finset.sum_congr rfl fun k _ => ?_).trans
    (ref_apply _ _ ⟨_, row_lt t (y 0)⟩ ⟨_, out_lt t.val (y 1)⟩).symm).trans (congrArg (REF (hn m c) (weights m c)) ?_))
  · blk_point [iblk, V, idx t]
  · blk_ext [idx t]

end Cert.Kernel44Ideal.Product

end
-- ==== Proof.PleDWup.lean ====
module

public import proofs.«01_k».proof.Proof.Gen.Kernel45Ideal.Value
public import proofs.«01_k».proof.Proof.Gen.Reference45Ideal.Read
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel45Ideal.Product

open Cert.Kernel45Ideal Cert.Kernel45Ideal.Gen

variable (m : (ℓ : Loc nD τ sig) → Buf (Elt Ideal) ℓ)

/-- The fill that starts an accumulation is zero. -/
theorem zero_apply (j : S256x1024.Idx) : k0_pay1 (F := Ideal) j = 0 := by pointwise [k0_pay1]

/-- One step adds the product of the two blocks, contracted over their 2048 tokens. -/
theorem step_apply (acc : FVec Ideal S256x1024 .f32) (a : FVec Ideal S2048x256 .f32) (b : FVec Ideal S2048x1024 .bf16) (j : S256x1024.Idx) :
    k0_pay2 acc a b j = acc j + ∑ k : Fin 2048, a (ix2 k (j 0)) * b (ix2 k (j 1)) := by
  pointwise [k0_pay2]

/-- The blocks of every grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

/-- The reference's term: the gradient of the lifting projection. -/
abbrev REF (A : FVec Ideal S8192x256 .f32) (B : FVec Ideal S8192x2048 .bf16) : FVec Ideal S256x2048 .f32 :=
  Cert.Reference45Ideal.Read.val_main_v4 (F := Ideal) A B

/-- The reference's term at an index: one sum over the tokens. -/
theorem ref_apply (A : FVec Ideal S8192x256 .f32) (B : FVec Ideal S8192x2048 .bf16) (p : Fin 256) (q : Fin 2048) :
    (REF A B (ix2 p q) : EReal) = ∑ k : Fin 8192, B (ix2 k q) * A (ix2 k p) := by
  pointwise [REF, Cert.Reference45Ideal.Read.val_main_v4, Cert.Reference45Ideal.Read.val_main_v3, Cert.Reference45Ideal.Read.val_main_v2, Cert.Reference45Ideal.Read.val_main_v1, Cert.Reference45Ideal.Read.val_main_v0]

/-- The per-token embedding. -/
abbrev lhs (c : Dev nD) : FVec Ideal S8192x256 .f32 := m ((c : Thread nD τ).loc main_arg0)
/-- The gradient of the lifted embedding. -/
abbrev rhs (c : Dev nD) : FVec Ideal S8192x2048 .bf16 := m ((c : Thread nD τ).loc main_arg1)

theorem row_lt (t : Fin cfg0.N) (p : Fin 256) : t.val / 8 * 256 + p.val < 256 := by
  have := lt_of_lt_of_eq t.isLt (show cfg0.N = 8 from N_0); omega
theorem col_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (p : Fin 256) (q : Fin 1024) :
    ((outsAt0 m c t.val t.isLt).2 (ix2 p q) : EReal)
      = ∑ k : Fin 8192, rhs m c (ix2 k ⟨_, col_lt t.val q⟩) * lhs m c (ix2 k ⟨_, row_lt t p⟩) := by
  refine (Pipeline.eq_sum_fin_of_reset_step_apply_of_flush (fun n h => (outsAt0 m c n h).2) 4 (fun _ => (0 : EReal))
    (fun t j => ∑ k : Fin 2048, (show FVec Ideal S2048x256 .f32 from iblk m c 0 t) (ix2 k (j 0)) * (show FVec Ideal S2048x1024 .bf16 from iblk m c 1 t) (ix2 k (j 1)))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => (mul_comm _ _).trans ?_
  blk_point [iblk, V, idx ⟨_, Pipeline.run_point_lt_of_flush t ht s⟩]

/-- The array after the run is the reference's term. -/
theorem final (c : Dev nD) : (dats m 0 c).arrAt 2 (cfgs 0).N = REF (lhs m c) (rhs m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, col_lt t.val (y 1)⟩).symm.trans (congrArg (REF (lhs m c) (rhs m c)) ?_)))
  blk_ext [idx t]

end Cert.Kernel45Ideal.Product

end
-- ==== Proof.ConvSpec.lean ====
module

public import Idealize.ShloMosaic.PureOps.Ideal
public import Idealize.ShloMosaic.Lib.WordCmp

@[expose] public section

noncomputable section

open Idealize.ShloMosaic

namespace Cert.ConvSpec

/-- The entry of a column `s` tokens before token `r`, and zero before the first token. -/
def past (x : Fin 8192 → EReal) (s : ℕ) (r : Fin 8192) : EReal := if h : s ≤ r.val then x ⟨r.val - s, by omega⟩ else 0

/-- The entry of a column `s` tokens after token `r`, and zero after the last token. -/
def next (x : Fin 8192 → EReal) (s : ℕ) (r : Fin 8192) : EReal := if h : r.val + s < 8192 then x ⟨r.val + s, h⟩ else 0

/-- The convolution of a column with four weights, and its bias. -/
def conv (x : Fin 8192 → EReal) (w : Fin 4 → EReal) (b : EReal) (r : Fin 8192) : EReal :=
  past x 3 r * w 0 + past x 2 r * w 1 + past x 1 r * w 2 + x r * w 3 + b

/-- No tokens before a token is the token itself. -/
theorem past_zero (x : Fin 8192 → EReal) (r : Fin 8192) : past x 0 r = x r := by simp [past]

/-- Whether a row of a block is at least `k`, as a choice. -/
theorem select_ge {a b : EReal} (k : ℕ) (hk : k < 256) (p : Fin 256) :
    Scalar.select (IntOp.cmpi .sge (BitVec.ofNat 32 p.val) (BitVec.ofNat 32 k)) a b = if k ≤ p.val then a else b := by
  have hp := p.isLt
  rw [WordCmp.cmpi_sge_of_lt (by rw [BitVec.toNat_ofNat]; omega) (by rw [BitVec.toNat_ofNat]; omega), WordCmp.select_ofBool, BitVec.toNat_ofNat,
    BitVec.toNat_ofNat, Nat.mod_eq_of_lt (by omega), Nat.mod_eq_of_lt (by omega)]
  simp only [decide_eq_true_eq]

/-- Whether a row of a block is below `k`, as a choice. -/
theorem select_lt {a b : EReal} (k : ℕ) (hk : k < 256) (p : Fin 256) :
    Scalar.select (IntOp.cmpi .slt (BitVec.ofNat 32 p.val) (BitVec.ofNat 32 k)) a b = if p.val < k then a else b := by
  have hp := p.isLt
  rw [WordCmp.cmpi_slt_of_lt (by rw [BitVec.toNat_ofNat]; omega) (by rw [BitVec.toNat_ofNat]; omega), WordCmp.select_ofBool, BitVec.toNat_ofNat,
    BitVec.toNat_ofNat, Nat.mod_eq_of_lt (by omega), Nat.mod_eq_of_lt (by omega)]
  simp only [decide_eq_true_eq]

/-- What a block and the block after it hold `s` tokens after a row of the block. -/
theorem next_block (x : Fin 8192 → EReal) (d h : Fin 256 → EReal) (b : ℕ) (hb : b < 32)
    (hd : ∀ p : Fin 256, d p = x ⟨b * 256 + p.val, by omega⟩)
    (hh : ∀ p : Fin 256, h p = if hn : b + 1 < 32 then x ⟨(b + 1) * 256 + p.val, by omega⟩ else 0)
    (k s : ℕ) (hs : k + s = 256) (hk : k < 256) (hk0 : 0 < k) (p : Fin 256) (r : Fin 8192) (hr : r.val = b * 256 + p.val) :
    Scalar.select (IntOp.cmpi .sge (BitVec.ofNat 32 p.val) (BitVec.ofNat 32 k)) (h ⟨(p.val + 256 - k) % 256, Nat.mod_lt _ (by omega)⟩)
      (d ⟨(p.val + 256 - k) % 256, Nat.mod_lt _ (by omega)⟩) = next x s r := by
  have hp := p.isLt
  rw [select_ge k hk, hd, hh]
  unfold next
  by_cases hkp : k ≤ p.val
  · rw [if_pos hkp]
    have e : (p.val + 256 - k) % 256 = p.val - k := by omega
    by_cases hn : b + 1 < 32
    · rw [dif_pos hn, dif_pos (by omega)]
      refine congrArg x (Fin.ext ?_)
      dsimp only
      omega
    · rw [dif_neg hn, dif_neg (by omega)]
  · rw [if_neg hkp, dif_pos (by omega)]
    refine congrArg x (Fin.ext ?_)
    dsimp only
    omega

/-- What a block and the block before it hold `s` tokens before a row of the block. -/
theorem past_block (x : Fin 8192 → EReal) (d h : Fin 256 → EReal) (b : ℕ) (hb : b < 32)
    (hd : ∀ p : Fin 256, d p = x ⟨b * 256 + p.val, by omega⟩)
    (hh : ∀ p : Fin 256, h p = if hn : 1 ≤ b then x ⟨(b - 1) * 256 + p.val, by omega⟩ else 0)
    (s : ℕ) (hs : s < 256) (p : Fin 256) (r : Fin 8192) (hr : r.val = b * 256 + p.val) :
    Scalar.select (IntOp.cmpi .slt (BitVec.ofNat 32 p.val) (BitVec.ofNat 32 s)) (h ⟨(p.val + 256 - s) % 256, Nat.mod_lt _ (by omega)⟩)
      (d ⟨(p.val + 256 - s) % 256, Nat.mod_lt _ (by omega)⟩) = past x s r := by
  have hp := p.isLt
  rw [select_lt s hs, hd, hh]
  unfold past
  by_cases hkp : p.val < s
  · rw [if_pos hkp]
    by_cases hn : 1 ≤ b
    · rw [dif_pos hn, dif_pos (by omega)]
      refine congrArg x (Fin.ext ?_)
      dsimp only
      omega
    · rw [dif_neg hn, dif_neg (by omega)]
  · rw [if_neg hkp, dif_pos (by omega)]
    refine congrArg x (Fin.ext ?_)
    dsimp only
    omega

/-- The convolution with its terms in another order. -/
theorem conv_eq (x : Fin 8192 → EReal) (w : Fin 4 → EReal) (b : EReal) (r : Fin 8192) :
    b + w 3 * x r + w 0 * past x 3 r + w 1 * past x 2 r + w 2 * past x 1 r = conv x w b r := by
  unfold conv
  ac_rfl

end Cert.ConvSpec

end
-- ==== Proof.ConvDx.lean ====
module

public import proofs.«01_k».proof.Proof.Gen.Kernel46Ideal.Value
public import proofs.«01_k».proof.Proof.Gen.Reference46Ideal.Read
public import Idealize.ShloMosaic.Lib.Pipeline.ValueKit
public import Idealize.ShloMosaic.Lib.Pipeline.ReadBack
public import proofs.«01_k».proof.Proof.ConvSpec
public import proofs.«01_k».proof.Proof.Gen.Reference46Ideal
public import proofs.«01_k».proof.Proof.Gen.Reference46Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference46Ideal.Conv

open Cert.Reference46Ideal

/-- The reference's gradient of the convolution's input at an index. -/
theorem dx_ref (D : FVec Ideal S8192x3072 .f32) (w : FVec Ideal S4x3072 .f32) (r : Fin 8192) (j : Fin 3072) :
    (Read.val_main_v54 (F := Ideal) D w (ix2 r j) : EReal)
      = D (ix2 r j) * w (ix2 3 j) + ConvSpec.next (fun r => D (ix2 r j)) 1 r * w (ix2 2 j)
        + ConvSpec.next (fun r => D (ix2 r j)) 2 r * w (ix2 1 j) + ConvSpec.next (fun r => D (ix2 r j)) 3 r * w (ix2 0 j) := by
  unfold ConvSpec.next
  pointwise [Read.val_main_v54, Read.val_main_v53, Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_v38, Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v1, Read.val_main_v0, Read.val_main_cst, Read.val_main_cst_0, Read.val_main_cst_1, Read.val_main_cst_2, Read.val_main_cst_3, Read.val_main_cst_4, Read.val_main_cst_5]
  simp only [dite_mul, zero_mul]
  have hr := r.isLt
  refine congrArg₂ (· + ·) (congrArg₂ (· + ·) (congrArg _ ?_) ?_) ?_
  · by_cases h : r.val + 1 < 8192
    · rw [dif_pos h, dif_pos (by omega)]
      refine congrArg (fun r => D (ix2 r j) * w (ix2 _ j)) (Fin.ext ?_)
      dsimp only
      omega
    · rw [dif_neg h, dif_neg (by omega)]
  · by_cases h : r.val + 2 < 8192
    · rw [dif_pos h, dif_pos (by omega)]
      refine congrArg (fun r => D (ix2 r j) * w (ix2 _ j)) (Fin.ext ?_)
      dsimp only
      omega
    · rw [dif_neg h, dif_neg (by omega)]
  · by_cases h : r.val + 3 < 8192
    · rw [dif_pos h, dif_pos (by omega)]
      refine congrArg (fun r => D (ix2 r j) * w (ix2 _ j)) (Fin.ext ?_)
      dsimp only
      omega
    · rw [dif_neg h, dif_neg (by omega)]

end Cert.Reference46Ideal.Conv

namespace Cert.Kernel46Ideal.Conv

open Cert.Kernel46Ideal Cert.Kernel46Ideal.Gen

variable (m : (ℓ : Loc nD τ sig) → Buf (Elt Ideal) ℓ)

/-- The blocks of every grid point: the last tokens come first. -/
theorem idx : ∀ t : Fin cfg0.N, win0_0.index t = ![31 - t.val, 0] ∧ win0_1.index t = ![0, 0] ∧ win0_2.index t = ![31 - t.val, 0] :=
  (by decide +kernel : ∀ t : Fin grid0.N, _)

/-- The gradient of the convolution. -/
abbrev grad (c : Dev nD) : FVec Ideal S8192x3072 .f32 := m ((c : Thread nD τ).loc main_arg0)
/-- The convolution's weights. -/
abbrev weight (c : Dev nD) : FVec Ideal S4x3072 .f32 := m ((c : Thread nD τ).loc main_arg2)

theorem row_lt (t : Fin cfg0.N) (p : Fin 256) : (31 - t.val) * 256 + p.val < 8192 := by omega
/-- The token of a row of a point's block. -/
abbrev row (t : Fin cfg0.N) (p : Fin 256) : Fin 8192 := ⟨(31 - t.val) * 256 + p.val, row_lt t p⟩

/-- The blocks of a point, as the arrays the body reads. -/
abbrev dB (c : Dev nD) (t : Fin cfg0.N) : FVec Ideal S256x3072 .f32 := iblk m c 0 t
abbrev wB (c : Dev nD) (t : Fin cfg0.N) : FVec Ideal S4x3072 .f32 := iblk m c 1 t

/-- The gradient at an index of a point's block. -/
theorem grad_block (c : Dev nD) (t : Fin cfg0.N) (p : Fin 256) (q : Fin 3072) : (dB m c t (ix2 p q) : EReal) = grad m c (ix2 (row t p) q) := by
  blk_point [iblk, V, idx t]
/-- The weights at an index of a point's block. -/
theorem weight_block (c : Dev nD) (t : Fin cfg0.N) (k : Fin 4) (q : Fin 3072) : (wB m c t (ix2 k q) : EReal) = weight m c (ix2 k q) := by
  blk_point [iblk, V, idx t]

/-- What is carried past a point is its block. -/
theorem carried (c : Dev nD) (t : Fin cfg0.N) : (outsAt0 m c t.val t.isLt).2 = dB m c t := by
  funext j
  have e : (k0_pay2 (F := Ideal) (dB m c t) j : EReal) = dB m c t j := by
    rw [eq_ix2 j]
    pointwise [k0_pay2]
  by_cases h : t.val % 32 = 0
  · rw [outsAt0_A m c t h]; frame_out; exact e
  · rw [outsAt0_B m c t h]; frame_out; exact e

/-- What a point stores, over its block and the carried one, as the reference has it. -/
theorem dx_apply (c : Dev nD) (t : Fin cfg0.N) (h : FVec Ideal S256x3072 .f32)
    (hh : ∀ (p : Fin 256) (q : Fin 3072), (h (ix2 p q) : EReal) = if hn : 31 - t.val + 1 < 32 then grad m c (ix2 ⟨(31 - t.val + 1) * 256 + p.val, by omega⟩ q) else 0)
    (p : Fin 256) (q : Fin 3072) :
    (k0_pay1 (F := Ideal) (k0_pay4 (dB m c t) (wB m c t) h h) (k0_pay5 (wB m c t)) k0_pay6 (k0_pay7 h) (k0_pay8 (dB m c t)) (ix2 p q) : EReal)
      = Cert.Reference46Ideal.Read.val_main_v54 (F := Ideal) (grad m c) (weight m c) (ix2 (row t p) q) := by
  rw [Cert.Reference46Ideal.Conv.dx_ref]
  pointwise [k0_pay8, k0_pay7, k0_pay6, k0_pay5, k0_pay4, k0_pay3, k0_pay2, k0_pay1]
  have e := ConvSpec.next_block (fun r => grad m c (ix2 r q)) (fun p => dB m c t (ix2 p q)) (fun p => h (ix2 p q)) (31 - t.val) (by omega)
    (fun p => grad_block m c t p q) (fun p => hh p q)
  have e3 := e 253 3 rfl (by omega) (by omega) p (row t p) rfl
  have e2 := e 254 2 rfl (by omega) (by omega) p (row t p) rfl
  have e1 := e 255 1 rfl (by omega) (by omega) p (row t p) rfl
  beta_reduce at e1 e2 e3
  rw [e1, e2, e3, weight_block, weight_block, weight_block, weight_block, grad_block]
  simp only [mul_comm (weight m c _)]
  rw [add_right_comm, add_right_comm (_ * _) (ConvSpec.next _ 3 _ * _), add_right_comm (_ + _)]

/-- The gradient after a point, as the reference has it. -/
theorem dx_pt (c : Dev nD) (t : Fin cfg0.N) (p : Fin 256) (q : Fin 3072) : ((outsAt0 m c t.val t.isLt).1 (ix2 p q) : EReal)
    = Cert.Reference46Ideal.Read.val_main_v54 (F := Ideal) (grad m c) (weight m c) (ix2 (row t p) q) := by
  have hN := lt_of_lt_of_eq t.isLt (show cfg0.N = 32 from N_0)
  by_cases h : t.val % 32 = 0
  · rw [outsAt0_A m c t h]; frame_out
    refine dx_apply m c t k0_pay3 (fun p q => ?_) p q
    rw [dif_neg (by omega)]
    pointwise [k0_pay3]
  · rw [outsAt0_B m c t h]; frame_out
    rw [Idealize.ShloMosaic.read_unread_whole]
    refine dx_apply m c t _ (fun p q => ?_) p q
    rw [dif_pos (by omega)]
    refine (congrFun (carried m c ⟨t.val - 1, by omega⟩) _).trans ((grad_block m c _ p q).trans (congrArg _ ?_))
    refine congrArg (fun r => ix2 r q) (Fin.ext ?_)
    show (31 - (t.val - 1)) * 256 + p.val = (31 - t.val + 1) * 256 + p.val
    omega

/-- The array after the run is the reference's. -/
theorem final (c : Dev nD) : (dats m 0 c).arrAt 2 (cfgs 0).N
    = Cert.Reference46Ideal.Read.val_main_v54 (F := Ideal) (grad m c) (weight m c) := by
  refine (dats m 0 c).arrAt_eq_of_covers 2 _ (by decide +kernel) fun t _ y => ?_
  have ey : y = ix2 (y 0) (y 1) := eq_ix2 y
  blk_simp
  rw [after0_2]
  refine (congrArg _ ey).trans ((dx_pt m c t (y 0) (y 1)).trans (congrArg _ ?_))
  blk_ext [idx t]

end Cert.Kernel46Ideal.Conv

end
-- ==== Proof.ConvPre.lean ====
module

public import proofs.«01_k».proof.Proof.Gen.Kernel47Ideal.Value
public import proofs.«01_k».proof.Proof.Gen.Reference47Ideal.Read
public import Idealize.ShloMosaic.Lib.Pipeline.ValueKit
public import Idealize.ShloMosaic.Lib.Pipeline.ReadBack
public import proofs.«01_k».proof.Proof.ConvSpec
public import proofs.«01_k».proof.Proof.Gen.Pre_conv_finite
public import proofs.«01_k».proof.Proof.Gate
public import proofs.«01_k».proof.Proof.Gen.Reference47Ideal
public import proofs.«01_k».proof.Proof.Gen.Reference47Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference47Ideal.Conv

open Cert.Reference47Ideal

/-- The input three tokens back, as the reference reads it. -/
theorem tap3 (x : FVec Ideal S8192x3072 .f32) (r : Fin 8192) (j : Fin 3072) : (Read.val_main_v2 (F := Ideal) x (ix2 r j) : EReal) = ConvSpec.past (fun r => x (ix2 r j)) 3 r := by
  unfold ConvSpec.past
  pointwise [Read.val_main_v2, Read.val_main_v1, Read.val_main_v0, Read.val_main_cst]
  have hr := r.isLt
  by_cases h : 3 ≤ r.val
  · rw [dif_pos h, dif_neg (by omega)]
  · rw [dif_neg h, dif_pos (by omega)]

/-- The input two tokens back, as the reference reads it. -/
theorem tap2 (x : FVec Ideal S8192x3072 .f32) (r : Fin 8192) (j : Fin 3072) : (Read.val_main_v10 (F := Ideal) x (ix2 r j) : EReal) = ConvSpec.past (fun r => x (ix2 r j)) 2 r := by
  unfold ConvSpec.past
  pointwise [Read.val_main_v10, Read.val_main_v1, Read.val_main_v0, Read.val_main_cst]
  have hr := r.isLt
  by_cases h : 2 ≤ r.val
  · rw [dif_pos h, dif_neg (by omega)]
    refine congrArg (fun r => x (ix2 r j)) (Fin.ext ?_)
    dsimp only
    omega
  · rw [dif_neg h, dif_pos (by omega)]

/-- The input one token back, as the reference reads it. -/
theorem tap1 (x : FVec Ideal S8192x3072 .f32) (r : Fin 8192) (j : Fin 3072) : (Read.val_main_v17 (F := Ideal) x (ix2 r j) : EReal) = ConvSpec.past (fun r => x (ix2 r j)) 1 r := by
  unfold ConvSpec.past
  pointwise [Read.val_main_v17, Read.val_main_v1, Read.val_main_v0, Read.val_main_cst]
  have hr := r.isLt
  by_cases h : 1 ≤ r.val
  · rw [dif_pos h, dif_neg (by omega)]
    refine congrArg (fun r => x (ix2 r j)) (Fin.ext ?_)
    dsimp only
    omega
  · rw [dif_neg h, dif_pos (by omega)]

/-- The input itself, as the reference reads it. -/
theorem tap0 (x : FVec Ideal S8192x3072 .f32) (r : Fin 8192) (j : Fin 3072) : (Read.val_main_v24 (F := Ideal) x (ix2 r j) : EReal) = x (ix2 r j) := by
  pointwise [Read.val_main_v24, Read.val_main_v1, Read.val_main_v0, Read.val_main_cst]
  try
    refine (dif_neg (by omega)).trans (congrArg (fun r => x (ix2 r j)) (Fin.ext ?_))
    dsimp only
    omega

/-- The reference's convolution at an index. -/
theorem pre_ref (x : FVec Ideal S8192x3072 .f32) (w : FVec Ideal S4x3072 .f32) (b : FVec Ideal S3072 .f32) (r : Fin 8192) (j : Fin 3072) :
    (Read.val_main_v33 (F := Ideal) x w b (ix2 r j) : EReal)
      = ConvSpec.conv (fun r => x (ix2 r j)) (fun k => w (ix2 k j)) (b (ix1 j)) r := by
  unfold ConvSpec.conv
  pointwise [Read.val_main_v33, Read.val_main_v32, Read.val_main_v31, Read.val_main_v30, Read.val_main_v29, Read.val_main_v28, Read.val_main_v27, Read.val_main_v26, Read.val_main_v25, Read.val_main_v23, Read.val_main_v22, Read.val_main_v21, Read.val_main_v20, Read.val_main_v19, Read.val_main_v18, Read.val_main_v16, Read.val_main_v15, Read.val_main_v14, Read.val_main_v13, Read.val_main_v12, Read.val_main_v11, Read.val_main_v9, Read.val_main_v8, Read.val_main_v7, Read.val_main_v6, Read.val_main_v5, Read.val_main_v4, Read.val_main_v3, Read.val_main_cst_0, tap0, tap1, tap2, tap3]

/-- The reference's gradient of the convolution's sum at an index. -/
theorem dpre_ref (x : FVec Ideal S8192x3072 .f32) (w : FVec Ideal S4x3072 .f32) (b : FVec Ideal S3072 .f32) (d : FVec Ideal S8192x3072 .f32) (r : Fin 8192) (j : Fin 3072) :
    (Read.val_main_v35 (F := Ideal) x w b d (ix2 r j) : EReal)
      = d (ix2 r j) * Cert.Gate.sigm (ConvSpec.conv (fun r => x (ix2 r j)) (fun k => w (ix2 k j)) (b (ix1 j)) r)
        + ConvSpec.conv (fun r => x (ix2 r j)) (fun k => w (ix2 k j)) (b (ix1 j)) r * d (ix2 r j)
          * (Cert.Gate.sigm (ConvSpec.conv (fun r => x (ix2 r j)) (fun k => w (ix2 k j)) (b (ix1 j)) r)
            * (1 - Cert.Gate.sigm (ConvSpec.conv (fun r => x (ix2 r j)) (fun k => w (ix2 k j)) (b (ix1 j)) r))) := by
  unfold Cert.Gate.sigm
  pointwise [Read.val_main_v35, Read.val_main_call1_v2, Read.val_main_call1_v1, Read.val_main_call1_v0, Read.val_main_v34_0, Read.val_main_v34_1, Read.val_main_call0_v7, Read.val_main_call0_v6, Read.val_main_call0_cst_1, Read.val_main_v34_2, Read.val_main_call0_v4, Read.val_main_call0_cst_0, Read.val_main_call0_v3, Read.val_main_call0_v2, Read.val_main_call0_cst, Read.val_main_call0_v1, Read.val_main_call0_v0, pre_ref]

/-- The reference's gradient of the bias at an index: a sum over the tokens. -/
theorem db_ref (x : FVec Ideal S8192x3072 .f32) (w : FVec Ideal S4x3072 .f32) (b : FVec Ideal S3072 .f32) (d : FVec Ideal S8192x3072 .f32) (j : Fin 3072) :
    (Read.val_main_v66 (F := Ideal) x w b d (ix2 0 j) : EReal) = ∑ r : Fin 8192, Read.val_main_v35 (F := Ideal) x w b d (ix2 r j) := by
  pointwise [Read.val_main_v66, Read.val_main_v38, Read.val_main_v37, Read.val_main_v36, Read.val_main_cst_1, Read.val_main_cst_2]
  try simp only [Finset.univ_unique, Finset.sum_singleton]

/-- The reference's gradient of the weights at an index: a sum over the tokens. -/
theorem dw_ref (x : FVec Ideal S8192x3072 .f32) (w : FVec Ideal S4x3072 .f32) (b : FVec Ideal S3072 .f32) (d : FVec Ideal S8192x3072 .f32) (j : Fin 3072) : (k : Fin 4) →
    (Read.val_main_v65 (F := Ideal) x w b d (ix2 k j) : EReal)
      = ∑ r : Fin 8192, Read.val_main_v35 (F := Ideal) x w b d (ix2 r j) * ConvSpec.past (fun r => x (ix2 r j)) (3 - k.val) r := by
  intro k
  pointwise [Read.val_main_v65, Read.val_main_v64, Read.val_main_v63, Read.val_main_v62, Read.val_main_v61, Read.val_main_v60, Read.val_main_v59, Read.val_main_v58, Read.val_main_v57, Read.val_main_v56, Read.val_main_v55, Read.val_main_v54, Read.val_main_v53, Read.val_main_v52, Read.val_main_v51, Read.val_main_v50, Read.val_main_v49, Read.val_main_v48, Read.val_main_v47, Read.val_main_v46, Read.val_main_v45, Read.val_main_v44, Read.val_main_v43, Read.val_main_v42, Read.val_main_v41, Read.val_main_v40, Read.val_main_v39, Read.val_main_cst_3, Read.val_main_cst_4, Read.val_main_cst_5, Read.val_main_cst_6, Read.val_main_cst_7, Read.val_main_cst_8, Read.val_main_cst_9, Read.val_main_cst_10, Read.val_main_cst_11, Read.val_main_cst_12, Read.val_main_cst_13, Read.val_main_cst_14, tap0, tap1, tap2, tap3]
  simp only [Finset.univ_unique, Finset.sum_singleton]
  simp only [mul_comm (Read.val_main_v35 (F := Ideal) x w b d _)]
  fin_cases k <;> simp [ConvSpec.past_zero]

end Cert.Reference47Ideal.Conv

namespace Cert.Kernel47Ideal.Conv

open Cert.Kernel47Ideal Cert.Kernel47Ideal.Gen

variable (m : (ℓ : Loc nD τ sig) → Buf (Elt Ideal) ℓ)

/-- The blocks of every grid point. -/
theorem idx : ∀ t : Fin cfg0.N, win0_0.index t = ![t.val, 0] ∧ win0_1.index t = ![0, 0] ∧ win0_2.index t = ![0, 0] ∧ win0_3.index t = ![t.val, 0]
    ∧ win0_4.index t = ![t.val, 0] ∧ win0_5.index t = ![0, 0] ∧ win0_6.index t = ![0, 0] :=
  (by decide +kernel : ∀ t : Fin grid0.N, _)

/-- The convolution's input. -/
abbrev input (c : Dev nD) : FVec Ideal S8192x3072 .f32 := m ((c : Thread nD τ).loc main_arg0)
/-- The convolution's weights. -/
abbrev weight (c : Dev nD) : FVec Ideal S4x3072 .f32 := m ((c : Thread nD τ).loc main_arg1)
/-- The convolution's bias. -/
abbrev bias (c : Dev nD) : FVec Ideal S3072 .f32 := m ((c : Thread nD τ).loc main_arg2)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The blocks of a point, as the arrays the body reads. -/
abbrev xB (c : Dev nD) (t : Fin cfg0.N) : FVec Ideal S256x3072 .f32 := iblk m c 0 t
abbrev wB (c : Dev nD) (t : Fin cfg0.N) : FVec Ideal S4x3072 .f32 := iblk m c 1 t
abbrev bB (c : Dev nD) (t : Fin cfg0.N) : FVec Ideal S1x3072 .f32 := iblk m c 2 t

/-- The input at an index of a point's block. -/
theorem input_block (c : Dev nD) (t : Fin cfg0.N) (p : Fin 256) (q : Fin 3072) : (xB m c t (ix2 p q) : EReal) = input m c (ix2 (row t p) q) := by
  blk_point [iblk, V, idx t]
/-- The weights at an index of a point's block. -/
theorem weight_block (c : Dev nD) (t : Fin cfg0.N) (k : Fin 4) (q : Fin 3072) : (wB m c t (ix2 k q) : EReal) = weight m c (ix2 k q) := by
  blk_point [iblk, V, idx t]
/-- The bias at an index of a point's block. -/
theorem bias_block (c : Dev nD) (t : Fin cfg0.N) (q : Fin 3072) : (bB m c t (ix2 0 q) : EReal) = bias m c (ix1 q) := by
  blk_point [iblk, V, idx t]

/-- The gradient of the activation. -/
abbrev dact (c : Dev nD) : FVec Ideal S8192x3072 .f32 := m ((c : Thread nD τ).loc main_arg3)
abbrev aB (c : Dev nD) (t : Fin cfg0.N) : FVec Ideal S256x3072 .f32 := iblk m c 3 t
/-- The activation's gradient at an index of a point's block. -/
theorem dact_block (c : Dev nD) (t : Fin cfg0.N) (p : Fin 256) (q : Fin 3072) : (aB m c t (ix2 p q) : EReal) = dact m c (ix2 (row t p) q) := by
  blk_point [iblk, V, idx t]

/-- The precondition: the activation's gradient is finite. -/
theorem dact_finite (h : Cert.Pre_Kernel47Ideal_conv_finite m) (c : Dev nD) (i : S8192x3072.Idx) : ∃ x : ℝ, (dact m c i : EReal) = x :=
  Cert.KernelIdeal.Gate.finite_of _ (congrFun (h c) i)

/-- What is carried past a point is its block. -/
theorem carried (c : Dev nD) (t : Fin cfg0.N) : (outsAt0 m c t.val t.isLt).2.2.2 = xB m c t := by
  have hN := lt_of_lt_of_eq t.isLt (show cfg0.N = 32 from N_0)
  funext j
  have e : (k0_pay5 (F := Ideal) (xB m c t) j : EReal) = xB m c t j := by
    rw [eq_ix2 j]
    pointwise [k0_pay5]
  by_cases h : t.val % 32 = 0
  · rw [outsAt0_A m c t h h (by omega)]; frame_out; exact e
  · rw [outsAt0_B m c t h h (by omega)]; frame_out; exact e

/-- The block before a point's, as the body reads it: zeros at the first point. -/
def halo (c : Dev nD) (t : Fin cfg0.N) : FVec Ideal S256x3072 .f32 :=
  if t.val % 32 = 0 then k0_pay6 (F := Ideal) else (outsAt0 m c (t.val - 1) (Nat.lt_of_le_of_lt (Nat.sub_le _ _) t.isLt)).2.2.2

theorem halo_apply (c : Dev nD) (t : Fin cfg0.N) (p : Fin 256) (q : Fin 3072) : (halo m c t (ix2 p q) : EReal)
    = if hn : 1 ≤ t.val then input m c (ix2 ⟨(t.val - 1) * 256 + p.val, by
      have := lt_of_lt_of_eq t.isLt (show cfg0.N = 32 from N_0); omega⟩ q) else 0 := by
  have hN := lt_of_lt_of_eq t.isLt (show cfg0.N = 32 from N_0)
  unfold halo
  by_cases h : t.val % 32 = 0
  · rw [if_pos h, dif_neg (by omega)]
    pointwise [k0_pay6]
  · rw [if_neg h, dif_pos (by omega)]
    exact (congrFun (carried m c ⟨t.val - 1, by omega⟩) _).trans (input_block m c _ p q)

/-- An entry of the input some tokens back, chosen from a point's block and the one before. -/
theorem shifted (c : Dev nD) (t : Fin cfg0.N) (s : ℕ) (hs : s < 256) (p : Fin 256) (q : Fin 3072) :
    Scalar.select (IntOp.cmpi .slt (BitVec.ofNat 32 p.val) (BitVec.ofNat 32 s)) (halo m c t (ix2 ⟨(p.val + 256 - s) % 256, Nat.mod_lt _ (by omega)⟩ q))
      (xB m c t (ix2 ⟨(p.val + 256 - s) % 256, Nat.mod_lt _ (by omega)⟩ q)) = ConvSpec.past (fun r => input m c (ix2 r q)) s (row t p) :=
  ConvSpec.past_block (fun r => input m c (ix2 r q)) (fun p => xB m c t (ix2 p q)) (fun p => halo m c t (ix2 p q)) t.val
    (lt_of_lt_of_eq t.isLt (show cfg0.N = 32 from N_0)) (fun p => input_block m c t p q) (fun p => halo_apply m c t p q) s hs p (row t p) rfl

/-- The gradient of the convolution's sum that a point stores. -/
abbrev dpreB (c : Dev nD) (t : Fin cfg0.N) : FVec Ideal S256x3072 .f32 :=
  k0_pay10 (F := Ideal) (xB m c t) (halo m c t) (aB m c t) (k0_pay7 (xB m c t) (halo m c t) (wB m c t) (bB m c t)) (k0_pay8 (wB m c t)) k0_pay9 1#32

theorem dpre_apply (c : Dev nD) (hf : ∀ i, ∃ x : ℝ, (dact m c i : EReal) = x) (t : Fin cfg0.N) (p : Fin 256) (q : Fin 3072) :
    (dpreB m c t (ix2 p q) : EReal)
      = Cert.Reference47Ideal.Read.val_main_v35 (F := Ideal) (input m c) (weight m c) (bias m c) (dact m c) (ix2 (row t p) q) := by
  obtain ⟨x, hx⟩ := hf (ix2 (row t p) q)
  rw [Cert.Reference47Ideal.Conv.dpre_ref]
  unfold dpreB
  pointwise [k0_pay10, k0_pay9, k0_pay8, k0_pay7]
  have e3 := shifted m c t 3 (by omega) p q
  have e2 := shifted m c t 2 (by omega) p q
  have e1 := shifted m c t 1 (by omega) p q
  have ec := ConvSpec.conv_eq (fun r => input m c (ix2 r q)) (fun k => weight m c (ix2 k q)) (bias m c (ix1 q)) (row t p)
  beta_reduce at e1 e2 e3 ec
  rw [e1, e2, e3, weight_block, weight_block, weight_block, weight_block, bias_block, input_block, ec, dact_block, hx, ← Cert.Gate.gate_eq]
  unfold Cert.Gate.sigm
  simp only [sub_eq_add_neg, zero_add]

/-- What a point adds to the gradient of the weights. -/
abbrev dwB (c : Dev nD) (t : Fin cfg0.N) : FVec Ideal S4x3072 .f32 :=
  k0_pay1 (F := Ideal) (xB m c t) (halo m c t) (dpreB m c t)
    (k0_pay11 (xB m c t) (halo m c t) (aB m c t) (k0_pay7 (xB m c t) (halo m c t) (wB m c t) (bB m c t)) (k0_pay8 (wB m c t)) k0_pay9 1#32)
    (k0_pay12 (xB m c t) (halo m c t) (aB m c t) (k0_pay7 (xB m c t) (halo m c t) (wB m c t) (bB m c t)) (k0_pay8 (wB m c t)) k0_pay9 1#32) k0_pay13

theorem dw_apply (c : Dev nD) (t : Fin cfg0.N) (q : Fin 3072) : (k : Fin 4) →
    (dwB m c t (ix2 k q) : EReal) = ∑ p : Fin 256, dpreB m c t (ix2 p q) * ConvSpec.past (fun r => input m c (ix2 r q)) (3 - k.val) (row t p)
  | 0 => by
    unfold dwB
    pointwise [k0_pay1, k0_pay11]
    exact Finset.sum_congr rfl fun p _ => congrArg (dpreB m c t (ix2 p q) * ·) (shifted m c t 3 (by omega) p q)
  | 1 => by
    unfold dwB
    pointwise [k0_pay1, k0_pay12]
    exact Finset.sum_congr rfl fun p _ => congrArg (dpreB m c t (ix2 p q) * ·) (shifted m c t 2 (by omega) p q)
  | 2 => by
    unfold dwB
    pointwise [k0_pay1, k0_pay13]
    exact Finset.sum_congr rfl fun p _ => congrArg (dpreB m c t (ix2 p q) * ·) (shifted m c t 1 (by omega) p q)
  | 3 => by
    unfold dwB
    pointwise [k0_pay1]
    exact Finset.sum_congr rfl fun p _ => congrArg (dpreB m c t (ix2 p q) * ·) (input_block m c t p q)

/-- What a point adds to the gradient of the bias. -/
theorem db_apply (d : FVec Ideal S256x3072 .f32) (q : Fin 3072) : (k0_pay2 (F := Ideal) d (ix2 0 q) : EReal) = ∑ p : Fin 256, d (ix2 p q) := by
  pointwise [k0_pay2]

/-- One more point's part of the gradient of the weights. -/
theorem dw_step (x h d : FVec Ideal S256x3072 .f32) (a b : FVec Ideal S1x3072 .f32) (i : IVec S256x3072 1) (o : FVec Ideal S4x3072 .f32) (j : S4x3072.Idx) :
    (k0_pay3 (F := Ideal) x h d a b i o j : EReal) = o j + k0_pay1 (F := Ideal) x h d a b i j := by
  pointwise [k0_pay3]

/-- One more point's part of the gradient of the bias. -/
theorem db_step (d : FVec Ideal S256x3072 .f32) (o : FVec Ideal S1x3072 .f32) (j : S1x3072.Idx) : (k0_pay4 (F := Ideal) d o j : EReal) = o j + k0_pay2 (F := Ideal) d j := by
  pointwise [k0_pay4]

/-- The gradient of the convolution's sum after a point. -/
theorem dpre_pt (c : Dev nD) (t : Fin cfg0.N) (p : Fin 256) (q : Fin 3072) : ((outsAt0 m c t.val t.isLt).1 (ix2 p q) : EReal) = dpreB m c t (ix2 p q) := by
  have hN := lt_of_lt_of_eq t.isLt (show cfg0.N = 32 from N_0)
  unfold dpreB halo
  by_cases h : t.val % 32 = 0
  · rw [outsAt0_A m c t h h (by omega), if_pos h]; frame_out
    try rfl
  · rw [outsAt0_B m c t h h (by omega), if_neg h]; frame_out
    rw [Idealize.ShloMosaic.read_unread_whole]

/-- The gradient of the weights after the last point, as the reference has it. -/
theorem dw_pt (c : Dev nD) (hf : ∀ i, ∃ x : ℝ, (dact m c i : EReal) = x) (t : Fin cfg0.N) (ht : t.val % 32 = 31) (k : Fin 4) (q : Fin 3072) :
    ((outsAt0 m c t.val t.isLt).2.1 (ix2 k q) : EReal)
      = Cert.Reference47Ideal.Read.val_main_v65 (F := Ideal) (input m c) (weight m c) (bias m c) (dact m c) (ix2 k q) := by
  rw [Cert.Reference47Ideal.Conv.dw_ref]
  have hN := lt_of_lt_of_eq t.isLt (show cfg0.N = 32 from N_0)
  refine (Pipeline.eq_sum_fin_of_reset_step_apply_of_flush (fun n h => (outsAt0 m c n h).2.1) 32 (fun _ => (0 : EReal)) (fun s => dwB m c s)
    (fun t h j => by
      have := lt_of_lt_of_eq t.isLt (show cfg0.N = 32 from N_0)
      unfold dwB dpreB halo
      rw [outsAt0_A m c t h h (by omega), if_pos h]; frame_out; exact (zero_add _).symm)
    (fun t h j => by
      have := lt_of_lt_of_eq t.isLt (show cfg0.N = 32 from N_0)
      unfold dwB dpreB halo
      rw [outsAt0_B m c t h h (by omega), if_neg h]; frame_out
      rw [Idealize.ShloMosaic.read_unread_whole]; exact dw_step _ _ _ _ _ _ _ j)
    t ht _).trans ?_
  rw [zero_add]
  refine (Finset.sum_congr rfl fun s _ => dw_apply m c _ q k).trans ?_
  refine Fin.sum_mul_add_congr fun s p hl => ?_
  have er : row ⟨_, Pipeline.run_point_lt_of_flush t ht s⟩ p = ⟨s.val * 256 + p.val, hl⟩ := Fin.ext (by
    show (32 * (t.val / 32) + s.val) * 256 + p.val = s.val * 256 + p.val
    omega)
  rw [dpre_apply m c hf, er]

/-- The gradient of the bias after the last point, as the reference has it. -/
theorem db_pt (c : Dev nD) (hf : ∀ i, ∃ x : ℝ, (dact m c i : EReal) = x) (t : Fin cfg0.N) (ht : t.val % 32 = 31) (q : Fin 3072) :
    ((outsAt0 m c t.val t.isLt).2.2.1 (ix2 0 q) : EReal)
      = Cert.Reference47Ideal.Read.val_main_v66 (F := Ideal) (input m c) (weight m c) (bias m c) (dact m c) (ix2 0 q) := by
  rw [Cert.Reference47Ideal.Conv.db_ref]
  have hN := lt_of_lt_of_eq t.isLt (show cfg0.N = 32 from N_0)
  refine (Pipeline.eq_sum_fin_of_reset_step_apply_of_flush (fun n h => (outsAt0 m c n h).2.2.1) 32 (fun _ => (0 : EReal)) (fun s => k0_pay2 (F := Ideal) (dpreB m c s))
    (fun t h j => by
      have := lt_of_lt_of_eq t.isLt (show cfg0.N = 32 from N_0)
      unfold dpreB halo
      rw [outsAt0_A m c t h h (by omega), if_pos h]; frame_out; exact (zero_add _).symm)
    (fun t h j => by
      have := lt_of_lt_of_eq t.isLt (show cfg0.N = 32 from N_0)
      unfold dpreB halo
      rw [outsAt0_B m c t h h (by omega), if_neg h]; frame_out
      rw [Idealize.ShloMosaic.read_unread_whole]; exact db_step _ _ j)
    t ht _).trans ?_
  rw [zero_add]
  refine (Finset.sum_congr rfl fun s _ => db_apply _ q).trans ?_
  refine Fin.sum_mul_add_congr fun s p hl => ?_
  have er : row ⟨_, Pipeline.run_point_lt_of_flush t ht s⟩ p = ⟨s.val * 256 + p.val, hl⟩ := Fin.ext (by
    show (32 * (t.val / 32) + s.val) * 256 + p.val = s.val * 256 + p.val
    omega)
  rw [dpre_apply m c hf, er]

/-- The array of the sum's gradient after the run is the reference's. -/
theorem dpre_final (c : Dev nD) (hf : ∀ i, ∃ x : ℝ, (dact m c i : EReal) = x) : (dats m 0 c).arrAt 4 (cfgs 0).N
    = Cert.Reference47Ideal.Read.val_main_v35 (F := Ideal) (input m c) (weight m c) (bias m c) (dact m c) := by
  refine (dats m 0 c).arrAt_eq_of_covers 4 _ (by decide +kernel) fun t _ y => ?_
  have ey : y = ix2 (y 0) (y 1) := eq_ix2 y
  blk_simp
  rw [after0_4]
  refine (congrArg _ ey).trans (((dpre_pt m c t (y 0) (y 1)).trans (dpre_apply m c hf t (y 0) (y 1))).trans (congrArg _ ?_))
  blk_ext [idx t]

/-- The array of the weights' gradient after the run is the reference's. -/
theorem dw_final (c : Dev nD) (hf : ∀ i, ∃ x : ℝ, (dact m c i : EReal) = x) : (dats m 0 c).arrAt 5 (cfgs 0).N
    = Cert.Reference47Ideal.Read.val_main_v65 (F := Ideal) (input m c) (weight m c) (bias m c) (dact m c) := by
  refine (dats m 0 c).arrAt_eq_of_covers 5 _ (by decide +kernel) fun t hfl y => ?_
  have ey : y = ix2 (y 0) (y 1) := eq_ix2 y
  blk_simp
  rw [after0_5]
  refine (congrArg _ ey).trans ((dw_pt m c hf t ((flush0_5 t).mp hfl) (y 0) (y 1)).trans (congrArg _ ?_))
  blk_ext [idx t]

/-- The array of the bias's gradient after the run is the reference's. -/
theorem db_final (c : Dev nD) (hf : ∀ i, ∃ x : ℝ, (dact m c i : EReal) = x) : (dats m 0 c).arrAt 6 (cfgs 0).N
    = Cert.Reference47Ideal.Read.val_main_v66 (F := Ideal) (input m c) (weight m c) (bias m c) (dact m c) := by
  refine (dats m 0 c).arrAt_eq_of_covers 6 _ (by decide +kernel) fun t hfl y => ?_
  have ey : y = ix2 0 (y 1) := by blk_ext
  blk_simp
  rw [after0_6]
  refine (congrArg _ ey).trans ((db_pt m c hf t ((flush0_6 t).mp hfl) (y 1)).trans (congrArg _ ?_))
  blk_ext [idx t]

set_option maxHeartbeats 4000000

/-- The three arrays after a run of the kernel are the reference's; the arguments stay as they were. -/
theorem kernel_run (g : Dev nD → PrngReg) (hpre : Cert.Pre_Kernel47Ideal_conv_finite m) :
    θ_run (defs (F := Ideal)) (onTc (τ := τ) (main (F := Ideal))) ⟨m, fun _ => 0, g⟩ (fun r => ∀ c : Dev nD,
      r.2.mem ((c.tc : Thread nD τ).loc main_v1_0) = Cert.Reference47Ideal.Read.val_main_v35 (F := Ideal) (input m c) (weight m c) (bias m c) (dact m c)
      ∧ r.2.mem ((c.tc : Thread nD τ).loc main_v1_1) = Cert.Reference47Ideal.Read.val_main_v65 (F := Ideal) (input m c) (weight m c) (bias m c) (dact m c)
      ∧ r.2.mem ((c.tc : Thread nD τ).loc main_v1_2) = Cert.Reference47Ideal.Read.val_main_v66 (F := Ideal) (input m c) (weight m c) (bias m c) (dact m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  run_from run_main m g
  · exact dpre_final m c (dact_finite m hpre c)
  · exact dw_final m c (dact_finite m hpre c)
  · exact db_final m c (dact_finite m hpre c)

end Cert.Kernel47Ideal.Conv

namespace Cert.Reference47Ideal.Conv

/-- The three arrays of the reference after its run, as terms in its arguments; the arguments stay as they were. -/
theorem reference_run (m : (ℓ : Loc nD τ sig) → Buf (Elt Ideal) ℓ) (g : Dev nD → PrngReg) (x0 : Dev nD → FVec Ideal S8192x3072 .f32) (x1 : Dev nD → FVec Ideal S4x3072 .f32) (x2 : Dev nD → FVec Ideal S3072 .f32) (x3 : Dev nD → FVec Ideal S8192x3072 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c) :
    θ_run (defs (F := Ideal)) (onTc (τ := τ) (main (F := Ideal))) ⟨m, fun _ => 0, g⟩ (fun r => ∀ c : Dev nD,
      r.2.mem ((c.tc : Thread nD τ).loc main_v35) = Read.val_main_v35 (F := Ideal) (x0 c) (x1 c) (x2 c) (x3 c)
      ∧ r.2.mem ((c.tc : Thread nD τ).loc main_v65) = Read.val_main_v65 (F := Ideal) (x0 c) (x1 c) (x2 c) (x3 c)
      ∧ r.2.mem ((c.tc : Thread nD τ).loc main_v66) = Read.val_main_v66 (F := Ideal) (x0 c) (x1 c) (x2 c) (x3 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run (defs (F := Ideal)) _ _).mono (fun r hr c => ?_) (Cert.Reference47Ideal.Value.run (F := Ideal) m g)
  obtain ⟨r0, r1, r2, ra⟩ := hr c
  obtain ⟨e0, e1, e2, e3⟩ := h c
  refine ⟨?_, ?_, ?_, ra⟩
  · rw [← e0, ← e1, ← e2, ← e3]; exact r0.trans (Read.val_main_v35_eq ..)
  · rw [← e0, ← e1, ← e2, ← e3]; exact r1.trans (Read.val_main_v65_eq ..)
  · rw [← e0, ← e1, ← e2, ← e3]; exact r2.trans (Read.val_main_v66_eq ..)

end Cert.Reference47Ideal.Conv

end
-- ==== Proof.Conv.lean ====
module

public import proofs.«01_k».proof.Proof.Gen.Kernel48Ideal.Value
public import proofs.«01_k».proof.Proof.Gen.Reference48Ideal.Read
public import Idealize.ShloMosaic.Lib.Pipeline.ValueKit
public import Idealize.ShloMosaic.Lib.Pipeline.ReadBack
public import proofs.«01_k».proof.Proof.ConvSpec
public import proofs.«01_k».proof.Proof.Gate
public import proofs.«01_k».proof.Proof.Gen.Reference48Ideal
public import proofs.«01_k».proof.Proof.Gen.Reference48Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference48Ideal.Conv

open Cert.Reference48Ideal

/-- The input three tokens back, as the reference reads it. -/
theorem tap3 (x : FVec Ideal S8192x3072 .f32) (r : Fin 8192) (j : Fin 3072) : (Read.val_main_v2 (F := Ideal) x (ix2 r j) : EReal) = ConvSpec.past (fun r => x (ix2 r j)) 3 r := by
  unfold ConvSpec.past
  pointwise [Read.val_main_v2, Read.val_main_v1, Read.val_main_v0, Read.val_main_cst]
  have hr := r.isLt
  by_cases h : 3 ≤ r.val
  · rw [dif_pos h, dif_neg (by omega)]
  · rw [dif_neg h, dif_pos (by omega)]

/-- The input two tokens back, as the reference reads it. -/
theorem tap2 (x : FVec Ideal S8192x3072 .f32) (r : Fin 8192) (j : Fin 3072) : (Read.val_main_v10 (F := Ideal) x (ix2 r j) : EReal) = ConvSpec.past (fun r => x (ix2 r j)) 2 r := by
  unfold ConvSpec.past
  pointwise [Read.val_main_v10, Read.val_main_v1, Read.val_main_v0, Read.val_main_cst]
  have hr := r.isLt
  by_cases h : 2 ≤ r.val
  · rw [dif_pos h, dif_neg (by omega)]
    refine congrArg (fun r => x (ix2 r j)) (Fin.ext ?_)
    dsimp only
    omega
  · rw [dif_neg h, dif_pos (by omega)]

/-- The input one token back, as the reference reads it. -/
theorem tap1 (x : FVec Ideal S8192x3072 .f32) (r : Fin 8192) (j : Fin 3072) : (Read.val_main_v17 (F := Ideal) x (ix2 r j) : EReal) = ConvSpec.past (fun r => x (ix2 r j)) 1 r := by
  unfold ConvSpec.past
  pointwise [Read.val_main_v17, Read.val_main_v1, Read.val_main_v0, Read.val_main_cst]
  have hr := r.isLt
  by_cases h : 1 ≤ r.val
  · rw [dif_pos h, dif_neg (by omega)]
    refine congrArg (fun r => x (ix2 r j)) (Fin.ext ?_)
    dsimp only
    omega
  · rw [dif_neg h, dif_pos (by omega)]

/-- The input itself, as the reference reads it. -/
theorem tap0 (x : FVec Ideal S8192x3072 .f32) (r : Fin 8192) (j : Fin 3072) : (Read.val_main_v24 (F := Ideal) x (ix2 r j) : EReal) = x (ix2 r j) := by
  pointwise [Read.val_main_v24, Read.val_main_v1, Read.val_main_v0, Read.val_main_cst]
  try
    refine (dif_neg (by omega)).trans (congrArg (fun r => x (ix2 r j)) (Fin.ext ?_))
    dsimp only
    omega

/-- The reference's convolution at an index. -/
theorem pre_ref (x : FVec Ideal S8192x3072 .f32) (w : FVec Ideal S4x3072 .f32) (b : FVec Ideal S3072 .f32) (r : Fin 8192) (j : Fin 3072) :
    (Read.val_main_v33 (F := Ideal) x w b (ix2 r j) : EReal)
      = ConvSpec.conv (fun r => x (ix2 r j)) (fun k => w (ix2 k j)) (b (ix1 j)) r := by
  unfold ConvSpec.conv
  pointwise [Read.val_main_v33, Read.val_main_v32, Read.val_main_v31, Read.val_main_v30, Read.val_main_v29, Read.val_main_v28, Read.val_main_v27, Read.val_main_v26, Read.val_main_v25, Read.val_main_v23, Read.val_main_v22, Read.val_main_v21, Read.val_main_v20, Read.val_main_v19, Read.val_main_v18, Read.val_main_v16, Read.val_main_v15, Read.val_main_v14, Read.val_main_v13, Read.val_main_v12, Read.val_main_v11, Read.val_main_v9, Read.val_main_v8, Read.val_main_v7, Read.val_main_v6, Read.val_main_v5, Read.val_main_v4, Read.val_main_v3, Read.val_main_cst_0, tap0, tap1, tap2, tap3]

/-- The activation. -/
def act (s : EReal) : EReal := s * Ideal.div (Ideal.ofBits .f32 0x3F800000#32) (Ideal.ofBits .f32 0x3F800000#32 + Ideal.exp (-s))

/-- The reference's result at an index. -/
theorem act_ref (x : FVec Ideal S8192x3072 .f32) (w : FVec Ideal S4x3072 .f32) (b : FVec Ideal S3072 .f32) (r : Fin 8192) (j : Fin 3072) :
    (Read.val_main_v34 (F := Ideal) x w b (ix2 r j) : EReal)
      = act (ConvSpec.conv (fun r => x (ix2 r j)) (fun k => w (ix2 k j)) (b (ix1 j)) r) := by
  unfold act
  pointwise [Read.val_main_v34, Read.val_main_call0_v5, Read.val_main_call0_v4, Read.val_main_call0_cst_0, Read.val_main_call0_v3, Read.val_main_call0_v2, Read.val_main_call0_cst, Read.val_main_call0_v1, Read.val_main_call0_v0, pre_ref]

end Cert.Reference48Ideal.Conv

namespace Cert.Kernel48Ideal.Conv

open Cert.Kernel48Ideal Cert.Kernel48Ideal.Gen
open Cert.Reference48Ideal.Conv (act)

variable (m : (ℓ : Loc nD τ sig) → Buf (Elt Ideal) ℓ)

/-- The blocks of every grid point. -/
theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

/-- The convolution's input. -/
abbrev input (c : Dev nD) : FVec Ideal S8192x3072 .f32 := m ((c : Thread nD τ).loc main_arg0)
/-- The convolution's weights. -/
abbrev weight (c : Dev nD) : FVec Ideal S4x3072 .f32 := m ((c : Thread nD τ).loc main_arg1)
/-- The convolution's bias. -/
abbrev bias (c : Dev nD) : FVec Ideal S3072 .f32 := m ((c : Thread nD τ).loc main_arg2)

theorem row_lt (t : Fin cfg0.N) (p : Fin 256) : t.val * 256 + p.val < 8192 := by
  have := lt_of_lt_of_eq t.isLt (show cfg0.N = 32 from N_0); omega
/-- The token of a row of a point's block. -/
abbrev row (t : Fin cfg0.N) (p : Fin 256) : Fin 8192 := ⟨t.val * 256 + p.val, row_lt t p⟩

/-- The blocks of a point, as the arrays the body reads. -/
abbrev xB (c : Dev nD) (t : Fin cfg0.N) : FVec Ideal S256x3072 .f32 := iblk m c 0 t
abbrev wB (c : Dev nD) (t : Fin cfg0.N) : FVec Ideal S4x3072 .f32 := iblk m c 1 t
abbrev bB (c : Dev nD) (t : Fin cfg0.N) : FVec Ideal S1x3072 .f32 := iblk m c 2 t

/-- The input at an index of a point's block. -/
theorem input_block (c : Dev nD) (t : Fin cfg0.N) (p : Fin 256) (q : Fin 3072) : (xB m c t (ix2 p q) : EReal) = input m c (ix2 (row t p) q) := by
  blk_point [iblk, V, idx t]
/-- The weights at an index of a point's block. -/
theorem weight_block (c : Dev nD) (t : Fin cfg0.N) (k : Fin 4) (q : Fin 3072) : (wB m c t (ix2 k q) : EReal) = weight m c (ix2 k q) := by
  blk_point [iblk, V, idx t]
/-- The bias at an index of a point's block. -/
theorem bias_block (c : Dev nD) (t : Fin cfg0.N) (q : Fin 3072) : (bB m c t (ix2 0 q) : EReal) = bias m c (ix1 q) := by
  blk_point [iblk, V, idx t]

/-- What is carried past a point is its block. -/
theorem carried (c : Dev nD) (t : Fin cfg0.N) : (outsAt0 m c t.val t.isLt).2 = xB m c t := by
  funext j
  have e : (k0_pay2 (F := Ideal) (xB m c t) j : EReal) = xB m c t j := by
    rw [eq_ix2 j]
    pointwise [k0_pay2]
  by_cases h : t.val % 32 = 0
  · rw [outsAt0_A m c t h]; frame_out; exact e
  · rw [outsAt0_B m c t h]; frame_out; exact e

/-- What a point stores, over its block and the carried one, as the reference has it. -/
theorem act_apply (c : Dev nD) (t : Fin cfg0.N) (h : FVec Ideal S256x3072 .f32)
    (hh : ∀ (p : Fin 256) (q : Fin 3072), (h (ix2 p q) : EReal) = if hn : 1 ≤ t.val then input m c (ix2 ⟨(t.val - 1) * 256 + p.val, by
      have := lt_of_lt_of_eq t.isLt (show cfg0.N = 32 from N_0); omega⟩ q) else 0)
    (p : Fin 256) (q : Fin 3072) :
    (k0_pay1 (F := Ideal) (k0_pay4 (xB m c t) h (wB m c t) (bB m c t)) (k0_pay5 (wB m c t)) k0_pay6 (k0_pay7 h) (k0_pay8 (xB m c t)) (ix2 p q) : EReal)
      = Cert.Reference48Ideal.Read.val_main_v34 (F := Ideal) (input m c) (weight m c) (bias m c) (ix2 (row t p) q) := by
  have hN := lt_of_lt_of_eq t.isLt (show cfg0.N = 32 from N_0)
  rw [Cert.Reference48Ideal.Conv.act_ref]
  unfold act
  pointwise [k0_pay8, k0_pay7, k0_pay6, k0_pay5, k0_pay4, k0_pay3, k0_pay2, k0_pay1]
  have e := ConvSpec.past_block (fun r => input m c (ix2 r q)) (fun p => xB m c t (ix2 p q)) (fun p => h (ix2 p q)) t.val (by omega)
    (fun p => input_block m c t p q) (fun p => hh p q)
  have e3 := e 3 (by omega) p (row t p) rfl
  have e2 := e 2 (by omega) p (row t p) rfl
  have e1 := e 1 (by omega) p (row t p) rfl
  have ec := ConvSpec.conv_eq (fun r => input m c (ix2 r q)) (fun k => weight m c (ix2 k q)) (bias m c (ix1 q)) (row t p)
  beta_reduce at e1 e2 e3 ec
  rw [e1, e2, e3, weight_block, weight_block, weight_block, weight_block, bias_block, input_block, ec]
  simp only [sub_eq_add_neg, zero_add]

/-- The result after a point, as the reference has it. -/
theorem act_pt (c : Dev nD) (t : Fin cfg0.N) (p : Fin 256) (q : Fin 3072) : ((outsAt0 m c t.val t.isLt).1 (ix2 p q) : EReal)
    = Cert.Reference48Ideal.Read.val_main_v34 (F := Ideal) (input m c) (weight m c) (bias m c) (ix2 (row t p) q) := by
  have hN := lt_of_lt_of_eq t.isLt (show cfg0.N = 32 from N_0)
  by_cases h : t.val % 32 = 0
  · rw [outsAt0_A m c t h]; frame_out
    refine act_apply m c t k0_pay3 (fun p q => ?_) p q
    rw [dif_neg (by omega)]
    pointwise [k0_pay3]
  · rw [outsAt0_B m c t h]; frame_out
    rw [Idealize.ShloMosaic.read_unread_whole]
    refine act_apply m c t _ (fun p q => ?_) p q
    rw [dif_pos (by omega)]
    exact (congrFun (carried m c ⟨t.val - 1, by omega⟩) _).trans (input_block m c _ p q)

/-- The array after the run is the reference's. -/
theorem final (c : Dev nD) : (dats m 0 c).arrAt 3 (cfgs 0).N
    = Cert.Reference48Ideal.Read.val_main_v34 (F := Ideal) (input m c) (weight m c) (bias m c) := by
  refine (dats m 0 c).arrAt_eq_of_covers 3 _ (by decide +kernel) fun t _ y => ?_
  have ey : y = ix2 (y 0) (y 1) := eq_ix2 y
  blk_simp
  rw [after0_3]
  refine (congrArg _ ey).trans ((act_pt m c t (y 0) (y 1)).trans (congrArg _ ?_))
  blk_ext [idx t]

end Cert.Kernel48Ideal.Conv

end
-- ==== Proof.GroupSpec.lean ====
module

public import proofs.«01_k».proof.Proof.NormSpec

@[expose] public section

noncomputable section

open Idealize.ShloMosaic

namespace Cert.GroupSpec

/-- An entry of a row lies in one of its groups of `n`. -/
theorem part_lt {n : ℕ} (hn : n ∣ 2048) (q : Fin 2048) (i : Fin n) : q.val / n * n + i.val < 2048 := by
  obtain ⟨k, hk⟩ := hn
  have hi := i.isLt
  have hq : q.val / n < k := Nat.div_lt_of_lt_mul (by have := q.isLt; omega)
  have : (q.val / n + 1) * n ≤ k * n := Nat.mul_le_mul_right n hq
  rw [add_mul, one_mul, mul_comm k] at this
  omega

/-- The group of `n` entries of a row that an entry lies in. -/
def part {n : ℕ} (hn : n ∣ 2048) (x : Fin 2048 → EReal) (q : Fin 2048) : Fin n → EReal := fun i => x ⟨q.val / n * n + i.val, part_lt hn q i⟩

/-- A row normalised in groups, before its weights. -/
def unit {n : ℕ} (hn : n ∣ 2048) (w : EReal) (x : Fin 2048 → EReal) (q : Fin 2048) : EReal := x q * NormSpec.root w (part hn x q)

/-- An entry of the normalised row from the places of its group. -/
theorem unit_eq {n : ℕ} (hn : n ∣ 2048) (w : EReal) (x v : Fin 2048 → EReal) (q a b : Fin 2048) (f g : Fin n → Fin 2048)
    (ha : a.val = q.val) (hb : b.val = q.val) (hf : ∀ i, (f i).val = q.val / n * n + i.val) (hg : ∀ i, (g i).val = q.val / n * n + i.val) :
    x a * Ideal.rsqrt (Ideal.div (∑ i, x (f i) * x (g i)) w + Ideal.ofBits .f32 0x358637BD#32) * v b = unit hn w x q * v q := by
  obtain rfl : a = q := Fin.ext ha
  obtain rfl : b = a := Fin.ext hb
  obtain rfl : f = fun i => ⟨b.val / n * n + i.val, part_lt hn b i⟩ := funext fun i => Fin.ext (hf i)
  obtain rfl : g = fun i => ⟨b.val / n * n + i.val, part_lt hn b i⟩ := funext fun i => Fin.ext (hg i)
  rfl

end Cert.GroupSpec

end
-- ==== Proof.MixGate.lean ====
module

public import proofs.«01_k».proof.Proof.Gen.Kernel49Ideal.Value
public import proofs.«01_k».proof.Proof.Gen.Reference49Ideal.Read
public import Idealize.ShloMosaic.Lib.Pipeline.ValueKit
public import Idealize.ShloMosaic.Lib.Pipeline.ReadBack
public import proofs.«01_k».proof.Proof.GroupSpec
public import proofs.«01_k».proof.Proof.Gen.Reference49Ideal
public import proofs.«01_k».proof.Proof.Gen.Reference49Ideal.Run
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Reference49Ideal.Norm

open Cert.Reference49Ideal

/-- The activation of a gate. -/
def act (s : EReal) : EReal := s * Ideal.div (Ideal.ofBits .f32 0x3F800000#32) (Ideal.ofBits .f32 0x3F800000#32 + Ideal.exp (-s))

theorem dvd_a : 512 ∣ 2048 := ⟨4, rfl⟩
theorem dvd_b : 128 ∣ 2048 := ⟨16, rfl⟩

/-- The first half, normalised in groups of 512: the state-space output times its gate. -/
def halfA (y z w : Fin 2048 → EReal) (q : Fin 2048) : EReal :=
  GroupSpec.unit dvd_a (Ideal.ofBits .f32 0x44000000#32) (fun k => y k * act (z k)) q * w q

/-- The second half, normalised in groups of 128, times its gate. -/
def halfB (o g w : Fin 2048 → EReal) (q : Fin 2048) : EReal :=
  GroupSpec.unit dvd_b (Ideal.ofBits .f32 0x43000000#32) o q * w q * act (g q)

/-- The reference's first half at an index. -/
theorem a_ref (yd yo z : FVec Ideal S8192x2048 .f32) (W : FVec Ideal S2048 .f32) (r : Fin 8192) (q : Fin 2048) :
    (Read.val_main_v19 (F := Ideal) yd yo z W (ix2 r q) : EReal)
      = halfA (fun k => yd (ix2 r k) + yo (ix2 r k)) (fun k => z (ix2 r k)) (fun k => W (ix1 k)) q := by
  unfold halfA GroupSpec.unit GroupSpec.part NormSpec.root NormSpec.arg act
  pointwise [Read.val_main_v19, Read.val_main_v18, Read.val_main_v17, Read.val_main_v16, Read.val_main_v15, Read.val_main_v14, Read.val_main_v13, Read.val_main_v12, Read.val_main_v11, Read.val_main_v10, Read.val_main_v9, Read.val_main_v8, Read.val_main_v7, Read.val_main_v6, Read.val_main_v5, Read.val_main_v4, Read.val_main_v3, Read.val_main_v2, Read.val_main_v0, Read.val_main_call1_v5, Read.val_main_call1_v4, Read.val_main_call1_cst_0, Read.val_main_call1_v3, Read.val_main_call1_v2, Read.val_main_call1_cst, Read.val_main_call1_v1, Read.val_main_call1_v0, Read.val_main_call0_v5, Read.val_main_call0_v4, Read.val_main_call0_cst_0, Read.val_main_call0_v3, Read.val_main_call0_v2, Read.val_main_call0_cst, Read.val_main_call0_v1, Read.val_main_call0_v0, Read.val_main_cst, Read.val_main_cst_0, Read.val_main_cst_1]

/-- The reference's second half at an index. -/
theorem b_ref (o : FVec Ideal S8192x2048 .f32) (g : FVec Ideal S8192x8192 .f32) (W : FVec Ideal S2048 .f32) (r : Fin 8192) (q : Fin 2048) :
    (Read.val_main_v37 (F := Ideal) o g W (ix2 r q) : EReal)
      = halfB (fun k => o (ix2 r k)) (fun k => g (ix2 r ⟨6144 + k.val, by omega⟩)) (fun k => W (ix1 k)) q := by
  unfold halfB GroupSpec.unit GroupSpec.part NormSpec.root NormSpec.arg act
  pointwise [Read.val_main_v37, Read.val_main_v36, Read.val_main_v35, Read.val_main_v34, Read.val_main_v33, Read.val_main_v32, Read.val_main_v31, Read.val_main_v30, Read.val_main_v29, Read.val_main_v28, Read.val_main_v27, Read.val_main_v26, Read.val_main_v25, Read.val_main_v24, Read.val_main_v23, Read.val_main_v22, Read.val_main_v21, Read.val_main_v20, Read.val_main_v1, Read.val_main_call1_v5, Read.val_main_call1_v4, Read.val_main_call1_cst_0, Read.val_main_call1_v3, Read.val_main_call1_v2, Read.val_main_call1_cst, Read.val_main_call1_v1, Read.val_main_call1_v0, Read.val_main_call0_v5, Read.val_main_call0_v4, Read.val_main_call0_cst_0, Read.val_main_call0_v3, Read.val_main_call0_v2, Read.val_main_call0_cst, Read.val_main_call0_v1, Read.val_main_call0_v0, Read.val_main_cst_2, Read.val_main_cst_3, Read.val_main_cst_4]

end Cert.Reference49Ideal.Norm

namespace Cert.Kernel49Ideal.Norm

open Cert.Kernel49Ideal Cert.Kernel49Ideal.Gen
open Cert.Reference49Ideal.Norm (act halfA halfB dvd_a dvd_b)

/-- What the body multiplies before the first norm. -/
theorem x_apply (yd yo z : FVec Ideal S128x2048 .f32) (j : S128x2048.Idx) : (k0_pay5 (F := Ideal) yd yo z j : EReal) = (yd j + yo j) * act (z j) := by
  unfold act
  pointwise [k0_pay5]
  simp only [sub_eq_add_neg, zero_add]

/-- The first half that a point stores, at an index of its block. -/
theorem a_apply (yd yo z : FVec Ideal S128x2048 .f32) (w : FVec Ideal S1x2048 .f32) (p : Fin 128) (q : Fin 2048) :
    (k0_pay10 (F := Ideal) (k0_pay3 w) (k0_pay5 yd yo z) (k0_pay6 yd yo z w) (k0_pay7 yd yo z) (k0_pay8 w) (k0_pay9 yd yo z) (ix2 p q) : EReal)
      = halfA (fun k => yd (ix2 p k) + yo (ix2 p k)) (fun k => z (ix2 p k)) (fun k => w (ix2 0 k)) q := by
  have hq := q.isLt
  unfold halfA
  simp only [← x_apply]
  pointwise [k0_pay10, k0_pay9, k0_pay8, k0_pay7, k0_pay6, k0_pay3]
  split_ifs
  all_goals
    refine GroupSpec.unit_eq dvd_a _ (fun k => k0_pay5 (F := Ideal) yd yo z (ix2 p k)) (fun k => w (ix2 0 k)) q _ _ _ _ ?_ ?_ (fun i => ?_) (fun i => ?_) <;>
      dsimp only <;> omega

/-- A block read whole is itself. -/
theorem ld_block (x : S128x2048.Idx → Elt Ideal .f32) : View.ld (Val := Elt Ideal) x r0_0 = x :=
  View.ld_unit_zero (Val := Elt Ideal) (show (![0, 0] : Fin S128x2048.rank → Nat) = fun _ => 0 from funext fun a => by fin_cases a <;> rfl) inb_S128x2048_S128x2048_0_0 x

/-- A row of weights read whole is itself. -/
theorem ld_weight (x : S1x2048.Idx → Elt Ideal .f32) : View.ld (Val := Elt Ideal) x r0_1 = x :=
  View.ld_unit_zero (Val := Elt Ideal) (show (![0, 0] : Fin S1x2048.rank → Nat) = fun _ => 0 from funext fun a => by fin_cases a <;> rfl) inb_S1x2048_S1x2048_0_0 x

/-- The sixteen groups that the body normalises one by one. -/
def pieces (o : FVec Ideal S128x2048 .f32) (k : FVec Ideal S1x2048 .f32) : Fin 16 → S128x128.Idx → EReal :=
  ![k0_pay14 (F := Ideal) (k0_pay11 o) (k0_pay12 k) (k0_pay13 o),
    k0_pay15 o k,
    k0_pay16 o k,
    k0_pay17 o k,
    k0_pay21 (k0_pay18 o) (k0_pay19 k) (k0_pay20 o),
    k0_pay22 o k,
    k0_pay23 o k,
    k0_pay26 (k0_pay24 k) (k0_pay25 o),
    k0_pay27 o k,
    k0_pay28 o k,
    k0_pay29 o k,
    k0_pay33 (k0_pay30 o) (k0_pay31 k) (k0_pay32 o) (Scalar.ofBits (F := Ideal) .f32 0x43000000#32),
    k0_pay34 o k,
    k0_pay35 o k,
    mulf (k0_pay36 o) (k0_pay37 k),
    k0_pay1 o k]

/-- The groups side by side. -/
def groups (o : FVec Ideal S128x2048 .f32) (k : FVec Ideal S1x2048 .f32) : FVec Ideal S128x2048 .f32 :=
  concatenate S128x2048 1 (List.ofFn fun n : Fin 16 => (⟨S128x128, pieces o k n⟩ : (s : Shape) × (s.Idx → EReal)))
    concatenates_S128x128_S128x128_S128x128_S128x128_S128x128_S128x128_S128x128_S128x128_S128x128_S128x128_S128x128_S128x128_S128x128_S128x128_S128x128_S128x128_S128x2048_d1

/-- What a point stores, from the arrays it reads. -/
theorem out_apply (x0 x1 x2 x3 x4 : FVec Ideal S128x2048 .f32) (x5 x6 : FVec Ideal S1x2048 .f32) (j : S128x4096.Idx) :
    (out0_7 (F := Ideal) x0 x1 x2 x3 x4 x5 x6 j : EReal)
      = k0_pay2 (F := Ideal) x4 (k0_pay10 (k0_pay3 x5) (k0_pay5 x0 x1 x2) (k0_pay6 x0 x1 x2 x5) (k0_pay7 x0 x1 x2) (k0_pay8 x5) (k0_pay9 x0 x1 x2)) (groups x3 (k0_pay4 x6)) j := by
  unfold out0_7
  frame_out
  change k0_pay2 (F := Ideal) x4 _ (groups (View.ld (Val := Elt Ideal) (e' := .f32) x3 r0_0) (k0_pay38 x0 x1 x2 x3 x4 x5 x6)) j = _
  rw [ld_block, k0_pay38, ld_weight]

/-- The stored block's first half is the first norm's. -/
theorem left (g A B : FVec Ideal S128x2048 .f32) (p : Fin 128) (q : Fin 4096) (hq : q.val < 2048) :
    (k0_pay2 (F := Ideal) g A B (ix2 p q) : EReal) = A (ix2 p ⟨q.val, hq⟩) := by
  pointwise [k0_pay2]
  rw [dif_pos hq]

/-- Its second half is the second norm's times the gate. -/
theorem right (g A B : FVec Ideal S128x2048 .f32) (p : Fin 128) (q : Fin 4096) (hq : ¬ q.val < 2048) :
    (k0_pay2 (F := Ideal) g A B (ix2 p q) : EReal) = B (ix2 p ⟨q.val - 2048, by omega⟩) * act (g (ix2 p ⟨q.val - 2048, by omega⟩)) := by
  unfold act
  pointwise [k0_pay2]
  rw [dif_neg hq]
  simp only [sub_eq_add_neg, zero_add]

set_option maxHeartbeats 2000000 in
/-- A group at an index of its block. -/
theorem piece_apply (o : FVec Ideal S128x2048 .f32) (w : FVec Ideal S1x2048 .f32) (n : Fin 16) (p j : Fin 128) :
    (pieces o (k0_pay4 (F := Ideal) w) n (ix2 p j) : EReal)
      = GroupSpec.unit dvd_b (Ideal.ofBits .f32 0x43000000#32) (fun k => o (ix2 p k)) ⟨n.val * 128 + j.val, by omega⟩ * w (ix2 0 ⟨n.val * 128 + j.val, by omega⟩) := by
  have hj := j.isLt
  fin_cases n
  all_goals
    dsimp only [pieces, Fin.reduceFinMk, Matrix.cons_val]
    pointwise [k0_pay1, k0_pay37, k0_pay36, k0_pay35, k0_pay34, k0_pay33, k0_pay32, k0_pay31, k0_pay30, k0_pay29, k0_pay28, k0_pay27, k0_pay26, k0_pay25, k0_pay24, k0_pay23, k0_pay22, k0_pay21, k0_pay20, k0_pay19, k0_pay18, k0_pay17, k0_pay16, k0_pay15, k0_pay14, k0_pay13, k0_pay12, k0_pay11, k0_pay4]
    refine GroupSpec.unit_eq dvd_b _ (fun k => o (ix2 p k)) (fun k => w (ix2 0 k)) _ _ _ _ _ ?_ ?_ (fun i => ?_) (fun i => ?_) <;>
      dsimp only <;> omega

/-- The groups at an index of their block. -/
theorem groups_apply (o : FVec Ideal S128x2048 .f32) (w : FVec Ideal S1x2048 .f32) (p : Fin 128) (q : Fin 2048) :
    (groups o (k0_pay4 (F := Ideal) w) (ix2 p q) : EReal)
      = GroupSpec.unit dvd_b (Ideal.ofBits .f32 0x43000000#32) (fun k => o (ix2 p k)) q * w (ix2 0 q) := by
  have eq : (⟨q.val / 128 * 128 + q.val % 128, by omega⟩ : Fin 2048) = q := Fin.ext (by dsimp only; omega)
  refine (concatenate_ofFn_apply (s₁ := S128x128) (t := S128x2048) 1 _ _ rfl 128 rfl _ ⟨q.val / 128, by omega⟩ rfl (ix2 p ⟨q.val % 128, by omega⟩) rfl fun b hb => ?_).trans ?_
  · match b, hb with
    | 0, _ => rfl
    | 1, hb => exact absurd rfl hb
  · rw [piece_apply]
    dsimp only
    rw [eq]

variable (m : (ℓ : Loc nD τ sig) → Buf (Elt Ideal) ℓ)

/-- The blocks of every grid point. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 3] ∧ win0_5.index t = ![0, 0] ∧ win0_6.index t = ![0, 0] ∧ win0_7.index t = ![t.val, 0] :=
  (by decide +kernel : ∀ t : Fin grid0.N, _)

/-- The state-space mixer's output within a chunk. -/
abbrev diag (c : Dev nD) : FVec Ideal S8192x2048 .f32 := m ((c : Thread nD τ).loc main_arg0)
/-- The state-space mixer's output from the chunks before. -/
abbrev off (c : Dev nD) : FVec Ideal S8192x2048 .f32 := m ((c : Thread nD τ).loc main_arg1)
/-- The first half's gate. -/
abbrev gateA (c : Dev nD) : FVec Ideal S8192x2048 .f32 := m ((c : Thread nD τ).loc main_arg2)
/-- The recurrence's output. -/
abbrev out (c : Dev nD) : FVec Ideal S8192x2048 .f32 := m ((c : Thread nD τ).loc main_arg3)
/-- The projections that the second half's gate is the last quarter of. -/
abbrev qfvg (c : Dev nD) : FVec Ideal S8192x8192 .f32 := m ((c : Thread nD τ).loc main_arg4)
/-- The first norm's weights. -/
abbrev weightA (c : Dev nD) : FVec Ideal S2048 .f32 := m ((c : Thread nD τ).loc main_arg5)
/-- The second norm's weights. -/
abbrev weightB (c : Dev nD) : FVec Ideal S2048 .f32 := m ((c : Thread nD τ).loc main_arg6)

theorem row_lt (t : Fin cfg0.N) (p : Fin 128) : t.val * 128 + p.val < 8192 := by
  have := lt_of_lt_of_eq t.isLt (show cfg0.N = 64 from N_0); omega
/-- The token of a row of a point's block. -/
abbrev row (t : Fin cfg0.N) (p : Fin 128) : Fin 8192 := ⟨t.val * 128 + p.val, row_lt t p⟩

/-- The blocks of a point, as the arrays the body reads. -/
abbrev b0 (c : Dev nD) (t : Fin cfg0.N) : FVec Ideal S128x2048 .f32 := iblk m c 0 t
abbrev b1 (c : Dev nD) (t : Fin cfg0.N) : FVec Ideal S128x2048 .f32 := iblk m c 1 t
abbrev b2 (c : Dev nD) (t : Fin cfg0.N) : FVec Ideal S128x2048 .f32 := iblk m c 2 t
abbrev b3 (c : Dev nD) (t : Fin cfg0.N) : FVec Ideal S128x2048 .f32 := iblk m c 3 t
abbrev b4 (c : Dev nD) (t : Fin cfg0.N) : FVec Ideal S128x2048 .f32 := iblk m c 4 t
abbrev b5 (c : Dev nD) (t : Fin cfg0.N) : FVec Ideal S1x2048 .f32 := iblk m c 5 t
abbrev b6 (c : Dev nD) (t : Fin cfg0.N) : FVec Ideal S1x2048 .f32 := iblk m c 6 t

/-- The arrays at an index of a point's block. -/
theorem diag_block (c : Dev nD) (t : Fin cfg0.N) (p : Fin 128) (q : Fin 2048) : (b0 m c t (ix2 p q) : EReal) = diag m c (ix2 (row t p) q) := by
  blk_point [iblk, V, idx t]
theorem off_block (c : Dev nD) (t : Fin cfg0.N) (p : Fin 128) (q : Fin 2048) : (b1 m c t (ix2 p q) : EReal) = off m c (ix2 (row t p) q) := by
  blk_point [iblk, V, idx t]
theorem gateA_block (c : Dev nD) (t : Fin cfg0.N) (p : Fin 128) (q : Fin 2048) : (b2 m c t (ix2 p q) : EReal) = gateA m c (ix2 (row t p) q) := by
  blk_point [iblk, V, idx t]
theorem out_block (c : Dev nD) (t : Fin cfg0.N) (p : Fin 128) (q : Fin 2048) : (b3 m c t (ix2 p q) : EReal) = out m c (ix2 (row t p) q) := by
  blk_point [iblk, V, idx t]
theorem qfvg_block (c : Dev nD) (t : Fin cfg0.N) (p : Fin 128) (q : Fin 2048) : (b4 m c t (ix2 p q) : EReal) = qfvg m c (ix2 (row t p) ⟨6144 + q.val, by omega⟩) := by
  blk_point [iblk, V, idx t]
theorem weightA_block (c : Dev nD) (t : Fin cfg0.N) (q : Fin 2048) : (b5 m c t (ix2 0 q) : EReal) = weightA m c (ix1 q) := by
  blk_point [iblk, V, idx t]
theorem weightB_block (c : Dev nD) (t : Fin cfg0.N) (q : Fin 2048) : (b6 m c t (ix2 0 q) : EReal) = weightB m c (ix1 q) := by
  blk_point [iblk, V, idx t]

/-- What a point stores at an index of its block, as the reference has it. -/
theorem mix_pt (c : Dev nD) (t : Fin cfg0.N) (p : Fin 128) (q : Fin 4096) :
    (out0_7 (F := Ideal) (b0 m c t) (b1 m c t) (b2 m c t) (b3 m c t) (b4 m c t) (b5 m c t) (b6 m c t) (ix2 p q) : EReal)
      = Cert.Reference49Ideal.Read.val_main_v39 (F := Ideal) (diag m c) (off m c) (gateA m c) (out m c) (qfvg m c) (weightA m c) (weightB m c) (ix2 (row t p) q) := by
  rw [out_apply]
  by_cases hq : q.val < 2048
  · have er : (Cert.Reference49Ideal.Read.val_main_v39 (F := Ideal) (diag m c) (off m c) (gateA m c) (out m c) (qfvg m c) (weightA m c) (weightB m c) (ix2 (row t p) q) : EReal)
        = Cert.Reference49Ideal.Read.val_main_v19 (F := Ideal) (diag m c) (off m c) (gateA m c) (weightA m c) (ix2 (row t p) ⟨q.val, hq⟩) := by
      pointwise [Cert.Reference49Ideal.Read.val_main_v39, Cert.Reference49Ideal.Read.val_main_v38]
      rw [dif_pos hq]
    rw [er, Cert.Reference49Ideal.Norm.a_ref]
    rw [left _ _ _ p q hq]
    refine (a_apply (b0 m c t) (b1 m c t) (b2 m c t) (b5 m c t) p ⟨q.val, hq⟩).trans ?_
    simp only [diag_block, off_block, gateA_block, weightA_block]
  · have er : (Cert.Reference49Ideal.Read.val_main_v39 (F := Ideal) (diag m c) (off m c) (gateA m c) (out m c) (qfvg m c) (weightA m c) (weightB m c) (ix2 (row t p) q) : EReal)
        = Cert.Reference49Ideal.Read.val_main_v37 (F := Ideal) (out m c) (qfvg m c) (weightB m c) (ix2 (row t p) ⟨q.val - 2048, by omega⟩) := by
      pointwise [Cert.Reference49Ideal.Read.val_main_v39, Cert.Reference49Ideal.Read.val_main_v38]
      rw [dif_neg hq]
    rw [er, Cert.Reference49Ideal.Norm.b_ref]
    rw [right _ _ _ p q hq, groups_apply]
    unfold halfB
    simp only [out_block, qfvg_block, weightB_block]

/-- The array after the run is the reference's. -/
theorem final (c : Dev nD) : (dats m 0 c).arrAt 7 (cfgs 0).N
    = Cert.Reference49Ideal.Read.val_main_v39 (F := Ideal) (diag m c) (off m c) (gateA m c) (out m c) (qfvg m c) (weightA m c) (weightB m c) := by
  refine (dats m 0 c).arrAt_eq_of_covers 7 _ (by decide +kernel) fun t _ y => ?_
  have ey : y = ix2 (y 0) (y 1) := eq_ix2 y
  blk_simp
  rw [after0_7]
  refine (congrArg _ ey).trans ((mix_pt m c t (y 0) (y 1)).trans (congrArg _ ?_))
  blk_ext [idx t]

set_option maxHeartbeats 4000000

/-- The array after a run of the kernel is the reference's; the arguments stay as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v2) = Cert.Reference49Ideal.Read.val_main_v39 (F := Ideal) (diag m c) (off m c) (gateA m c) (out m c) (qfvg m c) (weightA m c) (weightB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  run_from run_main m g
  · exact final m c

end Cert.Kernel49Ideal.Norm

namespace Cert.Reference49Ideal.Norm

/-- The array of the reference after its run, as a term in its arguments; the arguments stay as they were. -/
theorem reference_run (m : (ℓ : Loc nD τ sig) → Buf (Elt Ideal) ℓ) (g : Dev nD → PrngReg) (x0 : Dev nD → FVec Ideal S8192x2048 .f32) (x1 : Dev nD → FVec Ideal S8192x2048 .f32) (x2 : Dev nD → FVec Ideal S8192x2048 .f32) (x3 : Dev nD → FVec Ideal S8192x2048 .f32) (x4 : Dev nD → FVec Ideal S8192x8192 .f32) (x5 : Dev nD → FVec Ideal S2048 .f32) (x6 : Dev nD → FVec Ideal S2048 .f32)
    (h : ∀ c : Dev nD, m ((c.tc : Thread nD τ).loc main_arg0) = x0 c ∧ m ((c.tc : Thread nD τ).loc main_arg1) = x1 c ∧ m ((c.tc : Thread nD τ).loc main_arg2) = x2 c ∧ m ((c.tc : Thread nD τ).loc main_arg3) = x3 c ∧ m ((c.tc : Thread nD τ).loc main_arg4) = x4 c ∧ m ((c.tc : Thread nD τ).loc main_arg5) = x5 c ∧ m ((c.tc : Thread nD τ).loc main_arg6) = x6 c) :
    θ_run (defs (F := Ideal)) (onTc (τ := τ) (main (F := Ideal))) ⟨m, fun _ => 0, g⟩ (fun r => ∀ c : Dev nD,
      r.2.mem ((c.tc : Thread nD τ).loc main_v39) = Read.val_main_v39 (F := Ideal) (x0 c) (x1 c) (x2 c) (x3 c) (x4 c) (x5 c) (x6 c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run (defs (F := Ideal)) _ _).mono (fun r hr c => ?_) (Cert.Reference49Ideal.Value.run (F := Ideal) m g)
  obtain ⟨r0, ra⟩ := hr c
  obtain ⟨e0, e1, e2, e3, e4, e5, e6⟩ := h c
  refine ⟨?_, ra⟩
  · rw [← e0, ← e1, ← e2, ← e3, ← e4, ← e5, ← e6]; exact r0.trans (Read.val_main_v39_eq ..)

end Cert.Reference49Ideal.Norm

end
-- ==== Proof.Half.lean ====
/- The factor one half of the half-blocks: its value, and its passage over a finite sum of extended reals. -/
module

public import Idealize.ShloMosaic.PureOps.Ideal.Laws
public import Mathlib.Data.EReal.Operations

@[expose] public section

noncomputable section

open Idealize.ShloMosaic
open scoped BigOperators

namespace Cert.Half

/-- The word of the literal `0.5` is the real number one half. -/
theorem ofBits_half : Ideal.ofBits .f32 0x3F000000#32 = (((1 : ℝ) / 2 : ℝ) : EReal) := by
  simp [Ideal.ofBits, Ideal.ieee, -EReal.coe_mul]; norm_num

/-- A nonnegative finite factor passes over a finite sum, whatever its terms are. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction with
  | empty => simp
  | insert a s ha ih => rw [Finset.sum_insert ha, Finset.sum_insert ha, EReal.left_distrib_of_nonneg_of_ne_top h0 ht, ih]

/-- Half a sum of products is the sum of the products with the left factors halved. -/
theorem sum_mul_half {n : ℕ} (x y : Fin n → EReal) :
    (∑ k, x k * y k) * Ideal.ofBits .f32 0x3F000000#32 = ∑ k, Ideal.ofBits .f32 0x3F000000#32 * x k * y k := by
  rw [mul_comm, mul_sum _ _ (by rw [ofBits_half]; exact EReal.coe_nonneg.mpr (by norm_num)) (by rw [ofBits_half]; exact EReal.coe_ne_top _)]
  exact Finset.sum_congr rfl fun k _ => (mul_assoc _ _ _).symm

end Cert.Half

end
-- ==== Proof.Da.lean ====
module

public import proofs.«01_k».proof.Proof.Gen.Kernel2Ideal.Value
public import proofs.«01_k».proof.Proof.Gen.Reference2Ideal.Read
public import proofs.«01_k».proof.Proof.Half
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.Product

open Cert.Kernel2Ideal Cert.Kernel2Ideal.Gen

variable (m : (ℓ : Loc nD τ sig) → Buf (Elt Ideal) ℓ)

/-- The fill that starts an accumulation is zero. -/
theorem zero_apply (j : S1024x2752.Idx) : k0_pay1 (F := Ideal) j = 0 := by pointwise [k0_pay1]

/-- One step adds the product of the two blocks. -/
theorem step_apply (acc : FVec Ideal S1024x2752 .f32) (x : FVec Ideal S1024x1024 .f32) (w : FVec Ideal S1x1x2752x1024 .bf16) (j : S1024x2752.Idx) :
    k0_pay2 acc x w j = acc j + ∑ k : Fin 1024, x (ix2 (j 0) k) * w (ix4 0 0 (j 1) k) := by
  pointwise [k0_pay2]

/-- What is written back is the accumulated block, scaled. -/
theorem scale_apply (acc : FVec Ideal S1024x2752 .f32) (j : S1x1024x2752.Idx) :
    (k0_pay3 (F := Ideal) acc j : EReal) = acc (ix2 (j 1) (j 2)) * Ideal.ofBits .f32 0x3F000000#32 := by
  pointwise [k0_pay3]

theorem idx : ∀ t : Fin cfg0.N, win0_0.index t = ![t.val / 4, t.val % 2] ∧ win0_1.index t = ![0, t.val / 2 % 2, 0, t.val % 2]
    ∧ win0_2.index t = ![t.val / 2 % 2, t.val / 4, 0] := (by decide +kernel : ∀ t : Fin grid0.N, _)

/-- The reference's term, over the gradient that comes back and the stacked weights. -/
abbrev REF (X : FVec Ideal S8192x2048 .f32) (W : FVec Ideal S2x5504x2048 .bf16) : FVec Ideal S2x8192x2752 .bf16 :=
  Cert.Reference2Ideal.Read.val_main_v12 (F := Ideal) X W

/-- The reference's term at an index: one sum over the model's axis. -/
theorem ref_apply (X : FVec Ideal S8192x2048 .f32) (W : FVec Ideal S2x5504x2048 .bf16) (s : Fin 2) (r : Fin 8192) (n : Fin 2752)
    (h : s.val * 2752 + n.val < 5504) :
    (REF X W (ix3 s r n) : EReal) = ∑ k : Fin 2048, Ideal.ofBits .f32 0x3F000000#32 * X (ix2 r k) * W (ix3 0 ⟨s.val * 2752 + n.val, h⟩ k) := by
  pointwise [REF, Cert.Reference2Ideal.Read.val_main_v12, Cert.Reference2Ideal.Read.val_main_v11, Cert.Reference2Ideal.Read.val_main_v10,
    Cert.Reference2Ideal.Read.val_main_v9, Cert.Reference2Ideal.Read.val_main_v8, Cert.Reference2Ideal.Read.val_main_v7,
    Cert.Reference2Ideal.Read.val_main_cst_0, Cert.Reference2Ideal.Read.val_main_v2, Cert.Reference2Ideal.Read.val_main_v1, Cert.Reference2Ideal.Read.val_main_v0]

/-- The gradient that comes back to the half-block. -/
abbrev dout (c : Dev nD) : FVec Ideal S8192x2048 .f32 := m ((c : Thread nD τ).loc main_arg0)
/-- The stacked down-projections. -/
abbrev wOut (c : Dev nD) : FVec Ideal S2x5504x2048 .bf16 := m ((c : Thread nD τ).loc main_arg2)

theorem row_lt (t : Fin cfg0.N) (r : Fin 1024) : t.val / 4 * 1024 + r.val < 8192 := by
  have := lt_of_lt_of_eq t.isLt (show cfg0.N = 32 from N_0); omega
theorem col_lt (a : ℕ) (n : Fin 2752) : a / 2 % 2 * 2752 + n.val < 5504 := by omega

/-- What a point that writes back leaves in the accumulator: the two products of its run, added. -/
theorem acc_eq (c : Dev nD) (t : Fin cfg0.N) (ht : t.val % 2 = 1) (r : Fin 1024) (n : Fin 2752) :
    ((outsAt0 m c t.val t.isLt).2 (ix2 r n) : EReal) = ∑ k : Fin 2048, dout m c (ix2 ⟨_, row_lt t r⟩ k) * wOut m c (ix3 0 ⟨_, col_lt t.val n⟩ k) := by
  refine (Pipeline.eq_sum_fin_of_reset_step_apply_of_flush (fun n h => (outsAt0 m c n h).2) 2 (fun _ => (0 : EReal)) _
    (fun t h j => by rw [outsAt0_A m c t h (by omega)]; frame_out; rw [step_apply, zero_apply])
    (fun t h j => by rw [outsAt0_B m c t h (by omega)]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

theorem final (c : Dev nD) : (dats m 0 c).arrAt 2 (cfgs 0).N = REF (dout m c) (wOut m c) := by
  refine (dats m 0 c).arrAt_eq_of_covers 2 _ (by decide +kernel) fun t hf y => ?_
  have ht := (flush0_2 t).mp hf
  blk_simp
  rw [after0_2, show (outsAt0 m c t.val t.isLt).1 = k0_pay3 (outsAt0 m c t.val t.isLt).2 from by
    rw [outsAt0_B m c t (by omega) ht]; frame_out]
  refine ((scale_apply _ _).trans (congrArg (· * Ideal.ofBits .f32 0x3F000000#32) (acc_eq m c t ht (y 1) (y 2)))).trans
    ((Cert.Half.sum_mul_half _ _).trans ((ref_apply _ _ ⟨t.val / 2 % 2, by omega⟩ ⟨_, row_lt t (y 1)⟩ (y 2) (col_lt t.val (y 2))).symm.trans (congrArg (REF (dout m c) (wOut m c)) ?_)))
  blk_ext [idx t]

end Cert.Kernel2Ideal.Product

end
-- ==== Proof.DWout.lean ====
module

public import proofs.«01_k».proof.Proof.Gen.Kernel3Ideal.Value
public import proofs.«01_k».proof.Proof.Gen.Reference3Ideal.Read
public import proofs.«01_k».proof.Proof.Half
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel3Ideal.Product

open Cert.Kernel3Ideal Cert.Kernel3Ideal.Gen

variable (m : (ℓ : Loc nD τ sig) → Buf (Elt Ideal) ℓ)

/-- The fill that starts an accumulation is zero. -/
theorem zero_apply (j : S2752x512.Idx) : k0_pay1 (F := Ideal) j = 0 := by pointwise [k0_pay1]

/-- One step adds the product of the two blocks, contracted over their rows. -/
theorem step_apply (acc : FVec Ideal S2752x512 .f32) (a : FVec Ideal S1x1024x2752 .bf16) (x : FVec Ideal S1024x512 .f32) (j : S2752x512.Idx) :
    k0_pay2 acc a x j = acc j + ∑ k : Fin 1024, a (ix3 0 k (j 0)) * x (ix2 k (j 1)) := by
  pointwise [k0_pay2]

/-- What is written back is the accumulated block, scaled. -/
theorem scale_apply (acc : FVec Ideal S2752x512 .f32) (j : S1x2752x512.Idx) :
    (k0_pay3 (F := Ideal) acc j : EReal) = acc (ix2 (j 1) (j 2)) * Ideal.ofBits .f32 0x3F000000#32 := by
  pointwise [k0_pay3]

/-- The blocks of every grid point. -/
theorem idx : ∀ t : Fin cfg0.N, win0_0.index t = ![t.val / 32, t.val % 8, 0] ∧ win0_1.index t = ![t.val % 8, t.val / 8 % 4]
    ∧ win0_2.index t = ![t.val / 32, 0, t.val / 8 % 4] := (by decide +kernel : ∀ t : Fin grid0.N, _)

/-- The reference's term, over the saved activation and the gradient that comes back. -/
abbrev REF (A : FVec Ideal S8192x5504 .bf16) (X : FVec Ideal S8192x2048 .f32) : FVec Ideal S2x2752x2048 .f32 :=
  Cert.Reference3Ideal.Read.val_main_v11 (F := Ideal) A X

/-- The reference's term at an index: one sum over the tokens. -/
theorem ref_apply (A : FVec Ideal S8192x5504 .bf16) (X : FVec Ideal S8192x2048 .f32) (s : Fin 2) (n : Fin 2752) (q : Fin 2048)
    (h : s.val * 2752 + n.val < 5504) :
    (REF A X (ix3 s n q) : EReal) = ∑ k : Fin 8192, Ideal.ofBits .f32 0x3F000000#32 * X (ix2 k q) * A (ix2 k ⟨s.val * 2752 + n.val, h⟩) := by
  pointwise [REF, Cert.Reference3Ideal.Read.val_main_v11, Cert.Reference3Ideal.Read.val_main_v10, Cert.Reference3Ideal.Read.val_main_v9,
    Cert.Reference3Ideal.Read.val_main_v8, Cert.Reference3Ideal.Read.val_main_v7, Cert.Reference3Ideal.Read.val_main_cst_0,
    Cert.Reference3Ideal.Read.val_main_v0]

/-- The saved activation. -/
abbrev act (c : Dev nD) : FVec Ideal S8192x5504 .bf16 := m ((c : Thread nD τ).loc main_arg0)
/-- The gradient that comes back to the half-block. -/
abbrev dout (c : Dev nD) : FVec Ideal S8192x2048 .f32 := m ((c : Thread nD τ).loc main_arg1)

theorem col_lt (t : Fin cfg0.N) (n : Fin 2752) : t.val / 32 * 2752 + n.val < 5504 := by
  have := lt_of_lt_of_eq t.isLt (show cfg0.N = 64 from N_0); omega
theorem out_lt (a : ℕ) (q : Fin 512) : a / 8 % 4 * 512 + q.val < 2048 := by omega

/-- What a point that writes back leaves in the accumulator: the eight products of its run, added. -/
theorem acc_eq (c : Dev nD) (t : Fin cfg0.N) (ht : t.val % 8 = 7) (n : Fin 2752) (q : Fin 512) :
    ((outsAt0 m c t.val t.isLt).2 (ix2 n q) : EReal)
      = ∑ k : Fin 8192, dout m c (ix2 k ⟨_, out_lt t.val q⟩) * act m c (ix2 k ⟨_, col_lt t n⟩) := by
  refine (Pipeline.eq_sum_fin_of_reset_step_apply_of_flush (fun n h => (outsAt0 m c n h).2) 8 (fun _ => (0 : EReal))
    (fun t j => ∑ k : Fin 1024, (show FVec Ideal S1x1024x2752 .bf16 from iblk m c 0 t) (ix3 0 k (j 0)) * (show FVec Ideal S1024x512 .f32 from iblk m c 1 t) (ix2 k (j 1)))
    (fun t h j => by rw [outsAt0_A m c t h (by omega)]; frame_out; rw [step_apply, zero_apply])
    (fun t h j => by
      by_cases h1 : t.val % 8 = 7
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => ?_
  refine (mul_comm _ _).trans ?_
  blk_point [iblk, V, idx ⟨_, Pipeline.run_point_lt_of_flush t ht s⟩]

/-- The array after the run is the reference's term. -/
theorem final (c : Dev nD) : (dats m 0 c).arrAt 2 (cfgs 0).N = REF (act m c) (dout m c) := by
  refine (dats m 0 c).arrAt_eq_of_covers 2 _ (by decide +kernel) fun t hf y => ?_
  have ht := (flush0_2 t).mp hf
  blk_simp
  rw [after0_2, show (outsAt0 m c t.val t.isLt).1 = k0_pay3 (outsAt0 m c t.val t.isLt).2 from by
    rw [outsAt0_C m c t (by omega) ht]; frame_out]
  refine ((scale_apply _ _).trans (congrArg (· * Ideal.ofBits .f32 0x3F000000#32) (acc_eq m c t ht (y 1) (y 2)))).trans
    ((Cert.Half.sum_mul_half _ _).trans ((ref_apply _ _ ⟨t.val / 32, by have := lt_of_lt_of_eq t.isLt (show cfg0.N = 64 from N_0); omega⟩ (y 1)
      ⟨_, out_lt t.val (y 2)⟩ (col_lt t (y 1))).symm.trans (congrArg (REF (act m c) (dout m c)) ?_)))
  blk_ext [idx t]

end Cert.Kernel3Ideal.Product

end
-- ==== Proof.Dhn.lean ====
module

public import proofs.«01_k».proof.Proof.Gen.Kernel4Ideal.Value
public import proofs.«01_k».proof.Proof.Gen.Reference4Ideal.Read
public import proofs.«01_k».proof.Proof.Half
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel4Ideal.Product

open Cert.Kernel4Ideal Cert.Kernel4Ideal.Gen

variable (m : (ℓ : Loc nD τ sig) → Buf (Elt Ideal) ℓ)

/-- The fill that starts an accumulation is zero. -/
theorem zero_apply (j : S1024x1024.Idx) : k0_pay1 (F := Ideal) j = 0 := by pointwise [k0_pay1]

/-- One step adds the product of the two blocks, contracted over their columns. -/
theorem step_apply (acc : FVec Ideal S1024x1024 .f32) (u : FVec Ideal S1x1024x2752 .bf16) (w : FVec Ideal S1x1x1024x2752 .bf16) (j : S1024x1024.Idx) :
    k0_pay2 acc u w j = acc j + ∑ k : Fin 2752, u (ix3 0 (j 0) k) * w (ix4 0 0 (j 1) k) := by
  pointwise [k0_pay2]

/-- The blocks of every grid point. -/
theorem idx : ∀ t : Fin cfg0.N, win0_0.index t = ![t.val % 4, t.val / 8, 0] ∧ win0_1.index t = ![0, t.val % 4, t.val / 4 % 2, 0]
    ∧ win0_2.index t = ![t.val / 8, t.val / 4 % 2] := (by decide +kernel : ∀ t : Fin grid0.N, _)

/-- The reference's term, over the gradient of the projected input and the stacked weights. -/
abbrev REF (U : FVec Ideal S8192x11008 .bf16) (W : FVec Ideal S2x2048x11008 .bf16) : FVec Ideal S8192x2048 .f32 :=
  Cert.Reference4Ideal.Read.val_main_v6 (F := Ideal) U W

/-- The reference's term at an index: one sum over the gate's and the up-projection's columns. -/
theorem ref_apply (U : FVec Ideal S8192x11008 .bf16) (W : FVec Ideal S2x2048x11008 .bf16) (r : Fin 8192) (q : Fin 2048) :
    (REF U W (ix2 r q) : EReal) = ∑ k : Fin 11008, U (ix2 r k) * W (ix3 0 q k) := by
  pointwise [REF, Cert.Reference4Ideal.Read.val_main_v6, Cert.Reference4Ideal.Read.val_main_v5, Cert.Reference4Ideal.Read.val_main_v2,
    Cert.Reference4Ideal.Read.val_main_v1, Cert.Reference4Ideal.Read.val_main_v0]

/-- The gradient of the projected input. -/
abbrev du (c : Dev nD) : FVec Ideal S8192x11008 .bf16 := m ((c : Thread nD τ).loc main_arg0)
/-- The stacked up-projections. -/
abbrev wIn (c : Dev nD) : FVec Ideal S2x2048x11008 .bf16 := m ((c : Thread nD τ).loc main_arg2)

theorem row_lt (t : Fin cfg0.N) (r : Fin 1024) : t.val / 8 * 1024 + r.val < 8192 := by
  have := lt_of_lt_of_eq t.isLt (show cfg0.N = 64 from N_0); omega
theorem out_lt (a : ℕ) (q : Fin 1024) : a / 4 % 2 * 1024 + q.val < 2048 := by omega

/-- What a point that writes back leaves in the accumulator: the four products of its run, added. -/
theorem acc_eq (c : Dev nD) (t : Fin cfg0.N) (ht : t.val % 4 = 3) (r : Fin 1024) (q : Fin 1024) :
    ((outsAt0 m c t.val t.isLt).2 (ix2 r q) : EReal)
      = ∑ k : Fin 11008, du m c (ix2 ⟨_, row_lt t r⟩ k) * wIn m c (ix3 0 ⟨_, out_lt t.val q⟩ k) := by
  refine (Pipeline.eq_sum_fin_of_reset_step_apply_of_flush (fun n h => (outsAt0 m c n h).2) 4 (fun _ => (0 : EReal))
    (fun t j => ∑ k : Fin 2752, (show FVec Ideal S1x1024x2752 .bf16 from iblk m c 0 t) (ix3 0 (j 0) k) * (show FVec Ideal S1x1x1024x2752 .bf16 from iblk m c 1 t) (ix4 0 0 (j 1) k))
    (fun t h j => by rw [outsAt0_A m c t h (by omega)]; frame_out; rw [step_apply, zero_apply])
    (fun t h j => by
      by_cases h1 : t.val % 4 = 3
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => ?_
  blk_point [iblk, V, idx ⟨_, Pipeline.run_point_lt_of_flush t ht s⟩]

/-- The array after the run is the reference's term. -/
theorem final (c : Dev nD) : (dats m 0 c).arrAt 2 (cfgs 0).N = REF (du m c) (wIn m c) := by
  refine (dats m 0 c).arrAt_eq_of_covers 2 _ (by decide +kernel) fun t hf y => ?_
  have ht := (flush0_2 t).mp hf
  blk_simp
  rw [after0_2, show (outsAt0 m c t.val t.isLt).1 = (outsAt0 m c t.val t.isLt).2 from by
    rw [outsAt0_C m c t (by omega) ht]; frame_out]
  refine (congrArg (outsAt0 m c t.val t.isLt).2 (eq_ix2 y)).trans ((acc_eq m c t ht (y 0) (y 1)).trans
    ((ref_apply _ _ ⟨_, row_lt t (y 0)⟩ ⟨_, out_lt t.val (y 1)⟩).symm.trans (congrArg (REF (du m c) (wIn m c)) ?_)))
  blk_ext [idx t]

end Cert.Kernel4Ideal.Product

end
-- ==== Proof.DWin.lean ====
module

public import proofs.«01_k».proof.Proof.Gen.Kernel5Ideal.Value
public import proofs.«01_k».proof.Proof.Gen.Reference5Ideal.Read
public import proofs.«01_k».proof.Proof.Half
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel5Ideal.Product

open Cert.Kernel5Ideal Cert.Kernel5Ideal.Gen

variable (m : (ℓ : Loc nD τ sig) → Buf (Elt Ideal) ℓ)

/-- The fill that starts an accumulation is zero. -/
theorem zero_apply (j : S512x2752.Idx) : k0_pay1 (F := Ideal) j = 0 := by pointwise [k0_pay1]

/-- One step adds the product of the two blocks, contracted over their rows. -/
theorem step_apply (acc : FVec Ideal S512x2752 .f32) (x : FVec Ideal S1024x512 .bf16) (u : FVec Ideal S1x1024x2752 .bf16) (j : S512x2752.Idx) :
    k0_pay2 acc x u j = acc j + ∑ k : Fin 1024, x (ix2 k (j 0)) * u (ix3 0 k (j 1)) := by
  pointwise [k0_pay2]

/-- What is written back is the accumulated block. -/
theorem out_apply (acc : FVec Ideal S512x2752 .f32) (j : S1x512x2752.Idx) :
    (k0_pay3 (F := Ideal) acc j : EReal) = acc (ix2 (j 1) (j 2)) := by
  pointwise [k0_pay3]

/-- The blocks of every grid point. -/
theorem idx : ∀ t : Fin cfg0.N, win0_0.index t = ![t.val % 8, t.val / 32] ∧ win0_1.index t = ![t.val / 8 % 4, t.val % 8, 0]
    ∧ win0_2.index t = ![t.val / 8 % 4, t.val / 32, 0] := (by decide +kernel : ∀ t : Fin grid0.N, _)

/-- The reference's term, over the normalised input and the gradient of the projected input. -/
abbrev REF (X : FVec Ideal S8192x2048 .bf16) (U : FVec Ideal S8192x11008 .bf16) : FVec Ideal S4x2048x2752 .f32 :=
  Cert.Reference5Ideal.Read.val_main_v9 (F := Ideal) X U

/-- The reference's term at an index: one sum over the tokens. -/
theorem ref_apply (X : FVec Ideal S8192x2048 .bf16) (U : FVec Ideal S8192x11008 .bf16) (s : Fin 4) (q : Fin 2048) (n : Fin 2752)
    (h : s.val * 2752 + n.val < 11008) :
    (REF X U (ix3 s q n) : EReal) = ∑ k : Fin 8192, U (ix2 k ⟨s.val * 2752 + n.val, h⟩) * X (ix2 k q) := by
  pointwise [REF, Cert.Reference5Ideal.Read.val_main_v9, Cert.Reference5Ideal.Read.val_main_v8, Cert.Reference5Ideal.Read.val_main_v7,
    Cert.Reference5Ideal.Read.val_main_v6, Cert.Reference5Ideal.Read.val_main_v5, Cert.Reference5Ideal.Read.val_main_v0]

/-- The normalised input of the half-block. -/
abbrev hn (c : Dev nD) : FVec Ideal S8192x2048 .bf16 := m ((c : Thread nD τ).loc main_arg0)
/-- The gradient of the projected input. -/
abbrev du (c : Dev nD) : FVec Ideal S8192x11008 .bf16 := m ((c : Thread nD τ).loc main_arg1)

theorem row_lt (t : Fin cfg0.N) (q : Fin 512) : t.val / 32 * 512 + q.val < 2048 := by
  have := lt_of_lt_of_eq t.isLt (show cfg0.N = 128 from N_0); omega
theorem col_lt (a : ℕ) (n : Fin 2752) : a / 8 % 4 * 2752 + n.val < 11008 := by omega

/-- What a point that writes back leaves in the accumulator: the eight products of its run, added. -/
theorem acc_eq (c : Dev nD) (t : Fin cfg0.N) (ht : t.val % 8 = 7) (q : Fin 512) (n : Fin 2752) :
    ((outsAt0 m c t.val t.isLt).2 (ix2 q n) : EReal)
      = ∑ k : Fin 8192, du m c (ix2 k ⟨_, col_lt t.val n⟩) * hn m c (ix2 k ⟨_, row_lt t q⟩) := by
  refine (Pipeline.eq_sum_fin_of_reset_step_apply_of_flush (fun n h => (outsAt0 m c n h).2) 8 (fun _ => (0 : EReal))
    (fun t j => ∑ k : Fin 1024, (show FVec Ideal S1024x512 .bf16 from iblk m c 0 t) (ix2 k (j 0)) * (show FVec Ideal S1x1024x2752 .bf16 from iblk m c 1 t) (ix3 0 k (j 1)))
    (fun t h j => by rw [outsAt0_A m c t h (by omega)]; frame_out; rw [step_apply, zero_apply])
    (fun t h j => by
      by_cases h1 : t.val % 8 = 7
      · rw [outsAt0_C m c t h h1]; frame_out; rw [Idealize.ShloMosaic.read_unread_whole, step_apply]
      · rw [outsAt0_B m c t h h1]; frame_out; rw [Idealize.ShloMosaic.read_unread_whole, step_apply])
    t ht _).trans ?_
  rw [zero_add]
  refine Fin.sum_mul_add_congr fun s k hl => ?_
  refine (mul_comm _ _).trans ?_
  blk_point [iblk, V, idx ⟨_, Pipeline.run_point_lt_of_flush t ht s⟩]

/-- The array after the run is the reference's term. -/
theorem final (c : Dev nD) : (dats m 0 c).arrAt 2 (cfgs 0).N = REF (hn m c) (du m c) := by
  refine (dats m 0 c).arrAt_eq_of_covers 2 _ (by decide +kernel) fun t hf y => ?_
  have ht := (flush0_2 t).mp hf
  blk_simp
  rw [after0_2, show (outsAt0 m c t.val t.isLt).1 = k0_pay3 (outsAt0 m c t.val t.isLt).2 from by
    rw [outsAt0_C m c t (by omega) ht]; frame_out]
  refine (out_apply _ _).trans ((acc_eq m c t ht (y 1) (y 2)).trans
    ((ref_apply _ _ ⟨t.val / 8 % 4, by omega⟩ ⟨_, row_lt t (y 1)⟩ (y 2) (col_lt t.val (y 2))).symm.trans (congrArg (REF (hn m c) (du m c)) ?_)))
  blk_ext [idx t]

end Cert.Kernel5Ideal.Product

end
-- ==== Proof.lean ====
/-
The gradient of the feed-forward half-block, call by call: every program runs to a quiescent end with its arguments unchanged, and
the five calls return what the derivative of the plain forward lines returns, over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_precondition
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Pre_ssd_finite
public import proofs.«01_k».proof.Proof.Gen.Pre_conv_finite
public import proofs.«01_k».proof.Proof.SsdRun
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.FfnIn
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.FfnAct
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.FfnOut
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.FoxDhn
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.FoxDWqkv
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.FoxDo
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.FoxDWout
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.MixDcat
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.MixDWout
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.MixDhnZ
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.MixDWz
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.MixDhnXbc
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.MixDWxbc
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.MixDhnQfvg
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.MixDWqfvg
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.PleDhn
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.PleDWgate
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.FoxQkv
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.FoxOut
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.MixZ
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.MixXbc
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.MixQfvg
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.MixOut
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.PleGate
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.AdamFfnIn
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.AdamFfnOut
public import proofs.«01_k».proof.Proof.Gen.Kernel33
public import proofs.«01_k».proof.Proof.Gen.Kernel33.Skeleton
public import proofs.«01_k».proof.Proof.Gen.Kernel33.Launch
public import proofs.«01_k».proof.Proof.Gen.Kernel33.Points
public import proofs.«01_k».proof.Proof.Gen.Kernel33.Frame
public import proofs.«01_k».proof.Proof.Gen.Kernel33Ideal
public import proofs.«01_k».proof.Proof.Gen.Kernel33Ideal.Skeleton
public import proofs.«01_k».proof.Proof.Gen.Kernel33Ideal.Launch
public import proofs.«01_k».proof.Proof.Gen.Kernel33Ideal.Points
public import proofs.«01_k».proof.Proof.Gen.Kernel33Ideal.Frame
public import proofs.«01_k».proof.Proof.Gen.Kernel33Ideal.Value
public import proofs.«01_k».proof.Proof.Gen.Reference33Ideal
public import proofs.«01_k».proof.Proof.Gen.Reference33Ideal.Run
public import proofs.«01_k».proof.Proof.Gen.Reference33Ideal.Read
public import proofs.«01_k».proof.Proof.AdamMixIn
public import proofs.«01_k».proof.Proof.Gen.Kernel34
public import proofs.«01_k».proof.Proof.Gen.Kernel34.Skeleton
public import proofs.«01_k».proof.Proof.Gen.Kernel34.Launch
public import proofs.«01_k».proof.Proof.Gen.Kernel34.Points
public import proofs.«01_k».proof.Proof.Gen.Kernel34.Frame
public import proofs.«01_k».proof.Proof.Gen.Kernel34Ideal
public import proofs.«01_k».proof.Proof.Gen.Kernel34Ideal.Skeleton
public import proofs.«01_k».proof.Proof.Gen.Kernel34Ideal.Launch
public import proofs.«01_k».proof.Proof.Gen.Kernel34Ideal.Points
public import proofs.«01_k».proof.Proof.Gen.Kernel34Ideal.Frame
public import proofs.«01_k».proof.Proof.Gen.Kernel34Ideal.Value
public import proofs.«01_k».proof.Proof.Gen.Reference34Ideal
public import proofs.«01_k».proof.Proof.Gen.Reference34Ideal.Run
public import proofs.«01_k».proof.Proof.Gen.Reference34Ideal.Read
public import proofs.«01_k».proof.Proof.AdamMixOut
public import proofs.«01_k».proof.Proof.Gen.Kernel35
public import proofs.«01_k».proof.Proof.Gen.Kernel35.Skeleton
public import proofs.«01_k».proof.Proof.Gen.Kernel35.Launch
public import proofs.«01_k».proof.Proof.Gen.Kernel35.Points
public import proofs.«01_k».proof.Proof.Gen.Kernel35.Frame
public import proofs.«01_k».proof.Proof.Gen.Kernel35Ideal
public import proofs.«01_k».proof.Proof.Gen.Kernel35Ideal.Skeleton
public import proofs.«01_k».proof.Proof.Gen.Kernel35Ideal.Launch
public import proofs.«01_k».proof.Proof.Gen.Kernel35Ideal.Points
public import proofs.«01_k».proof.Proof.Gen.Kernel35Ideal.Frame
public import proofs.«01_k».proof.Proof.Gen.Kernel35Ideal.Value
public import proofs.«01_k».proof.Proof.Gen.Reference35Ideal
public import proofs.«01_k».proof.Proof.Gen.Reference35Ideal.Run
public import proofs.«01_k».proof.Proof.Gen.Reference35Ideal.Read
public import proofs.«01_k».proof.Proof.AdamFoxIn
public import proofs.«01_k».proof.Proof.Gen.Kernel36
public import proofs.«01_k».proof.Proof.Gen.Kernel36.Skeleton
public import proofs.«01_k».proof.Proof.Gen.Kernel36.Launch
public import proofs.«01_k».proof.Proof.Gen.Kernel36.Points
public import proofs.«01_k».proof.Proof.Gen.Kernel36.Frame
public import proofs.«01_k».proof.Proof.Gen.Kernel36Ideal
public import proofs.«01_k».proof.Proof.Gen.Kernel36Ideal.Skeleton
public import proofs.«01_k».proof.Proof.Gen.Kernel36Ideal.Launch
public import proofs.«01_k».proof.Proof.Gen.Kernel36Ideal.Points
public import proofs.«01_k».proof.Proof.Gen.Kernel36Ideal.Frame
public import proofs.«01_k».proof.Proof.Gen.Kernel36Ideal.Value
public import proofs.«01_k».proof.Proof.Gen.Reference36Ideal
public import proofs.«01_k».proof.Proof.Gen.Reference36Ideal.Run
public import proofs.«01_k».proof.Proof.Gen.Reference36Ideal.Read
public import proofs.«01_k».proof.Proof.AdamFoxOut
public import proofs.«01_k».proof.Proof.Gen.Kernel37
public import proofs.«01_k».proof.Proof.Gen.Kernel37.Skeleton
public import proofs.«01_k».proof.Proof.Gen.Kernel37.Launch
public import proofs.«01_k».proof.Proof.Gen.Kernel37.Points
public import proofs.«01_k».proof.Proof.Gen.Kernel37.Frame
public import proofs.«01_k».proof.Proof.Gen.Kernel37Ideal
public import proofs.«01_k».proof.Proof.Gen.Kernel37Ideal.Skeleton
public import proofs.«01_k».proof.Proof.Gen.Kernel37Ideal.Launch
public import proofs.«01_k».proof.Proof.Gen.Kernel37Ideal.Points
public import proofs.«01_k».proof.Proof.Gen.Kernel37Ideal.Frame
public import proofs.«01_k».proof.Proof.Gen.Kernel37Ideal.Value
public import proofs.«01_k».proof.Proof.Gen.Reference37Ideal
public import proofs.«01_k».proof.Proof.Gen.Reference37Ideal.Run
public import proofs.«01_k».proof.Proof.Gen.Reference37Ideal.Read
public import proofs.«01_k».proof.Proof.AdamPleGate
public import proofs.«01_k».proof.Proof.Gen.Kernel38
public import proofs.«01_k».proof.Proof.Gen.Kernel38.Skeleton
public import proofs.«01_k».proof.Proof.Gen.Kernel38.Launch
public import proofs.«01_k».proof.Proof.Gen.Kernel38.Points
public import proofs.«01_k».proof.Proof.Gen.Kernel38.Frame
public import proofs.«01_k».proof.Proof.Gen.Kernel38Ideal
public import proofs.«01_k».proof.Proof.Gen.Kernel38Ideal.Skeleton
public import proofs.«01_k».proof.Proof.Gen.Kernel38Ideal.Launch
public import proofs.«01_k».proof.Proof.Gen.Kernel38Ideal.Points
public import proofs.«01_k».proof.Proof.Gen.Kernel38Ideal.Frame
public import proofs.«01_k».proof.Proof.Gen.Kernel38Ideal.Value
public import proofs.«01_k».proof.Proof.Gen.Reference38Ideal
public import proofs.«01_k».proof.Proof.Gen.Reference38Ideal.Run
public import proofs.«01_k».proof.Proof.Gen.Reference38Ideal.Read
public import proofs.«01_k».proof.Proof.AdamPleUp
public import proofs.«01_k».proof.Proof.Gen.Kernel39
public import proofs.«01_k».proof.Proof.Gen.Kernel39.Skeleton
public import proofs.«01_k».proof.Proof.Gen.Kernel39.Launch
public import proofs.«01_k».proof.Proof.Gen.Kernel39.Points
public import proofs.«01_k».proof.Proof.Gen.Kernel39.Frame
public import proofs.«01_k».proof.Proof.Gen.Kernel39Ideal
public import proofs.«01_k».proof.Proof.Gen.Kernel39Ideal.Skeleton
public import proofs.«01_k».proof.Proof.Gen.Kernel39Ideal.Launch
public import proofs.«01_k».proof.Proof.Gen.Kernel39Ideal.Points
public import proofs.«01_k».proof.Proof.Gen.Kernel39Ideal.Frame
public import proofs.«01_k».proof.Proof.Gen.Kernel39Ideal.Value
public import proofs.«01_k».proof.Proof.Gen.Reference39Ideal
public import proofs.«01_k».proof.Proof.Gen.Reference39Ideal.Run
public import proofs.«01_k».proof.Proof.Gen.Reference39Ideal.Read
public import proofs.«01_k».proof.Proof.NormBwd
public import proofs.«01_k».proof.Proof.Gen.Kernel40
public import proofs.«01_k».proof.Proof.Gen.Kernel40.Skeleton
public import proofs.«01_k».proof.Proof.Gen.Kernel40.Launch
public import proofs.«01_k».proof.Proof.Gen.Kernel40.Points
public import proofs.«01_k».proof.Proof.Gen.Kernel40.Frame
public import proofs.«01_k».proof.Proof.Gen.Kernel40Ideal
public import proofs.«01_k».proof.Proof.Gen.Kernel40Ideal.Skeleton
public import proofs.«01_k».proof.Proof.Gen.Kernel40Ideal.Launch
public import proofs.«01_k».proof.Proof.Gen.Kernel40Ideal.Points
public import proofs.«01_k».proof.Proof.Gen.Kernel40Ideal.Frame
public import proofs.«01_k».proof.Proof.Gen.Kernel40Ideal.Value
public import proofs.«01_k».proof.Proof.Gen.Reference40Ideal
public import proofs.«01_k».proof.Proof.Gen.Reference40Ideal.Run
public import proofs.«01_k».proof.Proof.Gen.Reference40Ideal.Read
public import proofs.«01_k».proof.Proof.PleDadd
public import proofs.«01_k».proof.Proof.Gen.Kernel41
public import proofs.«01_k».proof.Proof.Gen.Kernel41.Skeleton
public import proofs.«01_k».proof.Proof.Gen.Kernel41.Launch
public import proofs.«01_k».proof.Proof.Gen.Kernel41.Points
public import proofs.«01_k».proof.Proof.Gen.Kernel41.Frame
public import proofs.«01_k».proof.Proof.Gen.Kernel41Ideal
public import proofs.«01_k».proof.Proof.Gen.Kernel41Ideal.Skeleton
public import proofs.«01_k».proof.Proof.Gen.Kernel41Ideal.Launch
public import proofs.«01_k».proof.Proof.Gen.Kernel41Ideal.Points
public import proofs.«01_k».proof.Proof.Gen.Kernel41Ideal.Frame
public import proofs.«01_k».proof.Proof.Gen.Kernel41Ideal.Value
public import proofs.«01_k».proof.Proof.Gen.Reference41Ideal
public import proofs.«01_k».proof.Proof.Gen.Reference41Ideal.Run
public import proofs.«01_k».proof.Proof.Gen.Reference41Ideal.Read
public import proofs.«01_k».proof.Proof.LossHead
public import proofs.«01_k».proof.Proof.Gen.Kernel42
public import proofs.«01_k».proof.Proof.Gen.Kernel42.Skeleton
public import proofs.«01_k».proof.Proof.Gen.Kernel42.Launch
public import proofs.«01_k».proof.Proof.Gen.Kernel42.Points
public import proofs.«01_k».proof.Proof.Gen.Kernel42.Frame
public import proofs.«01_k».proof.Proof.Gen.Kernel42Ideal
public import proofs.«01_k».proof.Proof.Gen.Kernel42Ideal.Skeleton
public import proofs.«01_k».proof.Proof.Gen.Kernel42Ideal.Launch
public import proofs.«01_k».proof.Proof.Gen.Kernel42Ideal.Points
public import proofs.«01_k».proof.Proof.Gen.Kernel42Ideal.Frame
public import proofs.«01_k».proof.Proof.Gen.Kernel42Ideal.Value
public import proofs.«01_k».proof.Proof.Gen.Reference42Ideal
public import proofs.«01_k».proof.Proof.Gen.Reference42Ideal.Run
public import proofs.«01_k».proof.Proof.Gen.Reference42Ideal.Read
public import proofs.«01_k».proof.Proof.NormFwd
public import proofs.«01_k».proof.Proof.Gen.Kernel43
public import proofs.«01_k».proof.Proof.Gen.Kernel43.Skeleton
public import proofs.«01_k».proof.Proof.Gen.Kernel43.Launch
public import proofs.«01_k».proof.Proof.Gen.Kernel43.Points
public import proofs.«01_k».proof.Proof.Gen.Kernel43.Frame
public import proofs.«01_k».proof.Proof.Gen.Kernel43Ideal
public import proofs.«01_k».proof.Proof.Gen.Kernel43Ideal.Skeleton
public import proofs.«01_k».proof.Proof.Gen.Kernel43Ideal.Launch
public import proofs.«01_k».proof.Proof.Gen.Kernel43Ideal.Points
public import proofs.«01_k».proof.Proof.Gen.Kernel43Ideal.Frame
public import proofs.«01_k».proof.Proof.Gen.Kernel43Ideal.Value
public import proofs.«01_k».proof.Proof.Gen.Reference43Ideal
public import proofs.«01_k».proof.Proof.Gen.Reference43Ideal.Run
public import proofs.«01_k».proof.Proof.Gen.Reference43Ideal.Read
public import proofs.«01_k».proof.Proof.PleAdd
public import proofs.«01_k».proof.Proof.Gen.Kernel44
public import proofs.«01_k».proof.Proof.Gen.Kernel44.Skeleton
public import proofs.«01_k».proof.Proof.Gen.Kernel44.Launch
public import proofs.«01_k».proof.Proof.Gen.Kernel44.Points
public import proofs.«01_k».proof.Proof.Gen.Kernel44.Frame
public import proofs.«01_k».proof.Proof.Gen.Kernel44Ideal
public import proofs.«01_k».proof.Proof.Gen.Kernel44Ideal.Skeleton
public import proofs.«01_k».proof.Proof.Gen.Kernel44Ideal.Launch
public import proofs.«01_k».proof.Proof.Gen.Kernel44Ideal.Points
public import proofs.«01_k».proof.Proof.Gen.Kernel44Ideal.Frame
public import proofs.«01_k».proof.Proof.Gen.Kernel44Ideal.Value
public import proofs.«01_k».proof.Proof.Gen.Reference44Ideal
public import proofs.«01_k».proof.Proof.Gen.Reference44Ideal.Run
public import proofs.«01_k».proof.Proof.Gen.Reference44Ideal.Read
public import proofs.«01_k».proof.Proof.PleUp
public import proofs.«01_k».proof.Proof.Gen.Kernel45
public import proofs.«01_k».proof.Proof.Gen.Kernel45.Skeleton
public import proofs.«01_k».proof.Proof.Gen.Kernel45.Launch
public import proofs.«01_k».proof.Proof.Gen.Kernel45.Points
public import proofs.«01_k».proof.Proof.Gen.Kernel45.Frame
public import proofs.«01_k».proof.Proof.Gen.Kernel45Ideal
public import proofs.«01_k».proof.Proof.Gen.Kernel45Ideal.Skeleton
public import proofs.«01_k».proof.Proof.Gen.Kernel45Ideal.Launch
public import proofs.«01_k».proof.Proof.Gen.Kernel45Ideal.Points
public import proofs.«01_k».proof.Proof.Gen.Kernel45Ideal.Frame
public import proofs.«01_k».proof.Proof.Gen.Kernel45Ideal.Value
public import proofs.«01_k».proof.Proof.Gen.Reference45Ideal
public import proofs.«01_k».proof.Proof.Gen.Reference45Ideal.Run
public import proofs.«01_k».proof.Proof.Gen.Reference45Ideal.Read
public import proofs.«01_k».proof.Proof.PleDWup
public import proofs.«01_k».proof.Proof.Gen.Kernel46
public import proofs.«01_k».proof.Proof.Gen.Kernel46.Skeleton
public import proofs.«01_k».proof.Proof.Gen.Kernel46.Launch
public import proofs.«01_k».proof.Proof.Gen.Kernel46.Points
public import proofs.«01_k».proof.Proof.Gen.Kernel46.Frame
public import proofs.«01_k».proof.Proof.Gen.Kernel46Ideal
public import proofs.«01_k».proof.Proof.Gen.Kernel46Ideal.Skeleton
public import proofs.«01_k».proof.Proof.Gen.Kernel46Ideal.Launch
public import proofs.«01_k».proof.Proof.Gen.Kernel46Ideal.Points
public import proofs.«01_k».proof.Proof.Gen.Kernel46Ideal.Frame
public import proofs.«01_k».proof.Proof.Gen.Kernel46Ideal.Value
public import proofs.«01_k».proof.Proof.Gen.Reference46Ideal
public import proofs.«01_k».proof.Proof.Gen.Reference46Ideal.Run
public import proofs.«01_k».proof.Proof.Gen.Reference46Ideal.Read
public import proofs.«01_k».proof.Proof.ConvDx
public import proofs.«01_k».proof.Proof.Gen.Kernel47
public import proofs.«01_k».proof.Proof.Gen.Kernel47.Skeleton
public import proofs.«01_k».proof.Proof.Gen.Kernel47.Launch
public import proofs.«01_k».proof.Proof.Gen.Kernel47.Points
public import proofs.«01_k».proof.Proof.Gen.Kernel47.Frame
public import proofs.«01_k».proof.Proof.Gen.Kernel47Ideal
public import proofs.«01_k».proof.Proof.Gen.Kernel47Ideal.Skeleton
public import proofs.«01_k».proof.Proof.Gen.Kernel47Ideal.Launch
public import proofs.«01_k».proof.Proof.Gen.Kernel47Ideal.Points
public import proofs.«01_k».proof.Proof.Gen.Kernel47Ideal.Frame
public import proofs.«01_k».proof.Proof.Gen.Kernel47Ideal.Value
public import proofs.«01_k».proof.Proof.Gen.Reference47Ideal
public import proofs.«01_k».proof.Proof.Gen.Reference47Ideal.Run
public import proofs.«01_k».proof.Proof.Gen.Reference47Ideal.Read
public import proofs.«01_k».proof.Proof.ConvPre
public import proofs.«01_k».proof.Proof.Gen.Kernel48
public import proofs.«01_k».proof.Proof.Gen.Kernel48.Skeleton
public import proofs.«01_k».proof.Proof.Gen.Kernel48.Launch
public import proofs.«01_k».proof.Proof.Gen.Kernel48.Points
public import proofs.«01_k».proof.Proof.Gen.Kernel48.Frame
public import proofs.«01_k».proof.Proof.Gen.Kernel48Ideal
public import proofs.«01_k».proof.Proof.Gen.Kernel48Ideal.Skeleton
public import proofs.«01_k».proof.Proof.Gen.Kernel48Ideal.Launch
public import proofs.«01_k».proof.Proof.Gen.Kernel48Ideal.Points
public import proofs.«01_k».proof.Proof.Gen.Kernel48Ideal.Frame
public import proofs.«01_k».proof.Proof.Gen.Kernel48Ideal.Value
public import proofs.«01_k».proof.Proof.Gen.Reference48Ideal
public import proofs.«01_k».proof.Proof.Gen.Reference48Ideal.Run
public import proofs.«01_k».proof.Proof.Gen.Reference48Ideal.Read
public import proofs.«01_k».proof.Proof.Conv
public import proofs.«01_k».proof.Proof.Gen.Kernel49
public import proofs.«01_k».proof.Proof.Gen.Kernel49.Skeleton
public import proofs.«01_k».proof.Proof.Gen.Kernel49.Launch
public import proofs.«01_k».proof.Proof.Gen.Kernel49.Points
public import proofs.«01_k».proof.Proof.Gen.Kernel49.Frame
public import proofs.«01_k».proof.Proof.Gen.Kernel49Ideal
public import proofs.«01_k».proof.Proof.Gen.Kernel49Ideal.Skeleton
public import proofs.«01_k».proof.Proof.Gen.Kernel49Ideal.Launch
public import proofs.«01_k».proof.Proof.Gen.Kernel49Ideal.Points
public import proofs.«01_k».proof.Proof.Gen.Kernel49Ideal.Frame
public import proofs.«01_k».proof.Proof.Gen.Kernel49Ideal.Value
public import proofs.«01_k».proof.Proof.Gen.Reference49Ideal
public import proofs.«01_k».proof.Proof.Gen.Reference49Ideal.Run
public import proofs.«01_k».proof.Proof.Gen.Reference49Ideal.Read
public import proofs.«01_k».proof.Proof.MixGate
public import proofs.«01_k».proof.Proof.Gate
public import proofs.«01_k».proof.Proof.Da
public import proofs.«01_k».proof.Proof.DWout
public import proofs.«01_k».proof.Proof.Dhn
public import proofs.«01_k».proof.Proof.DWin
public import Idealize.ShloMosaic.Lib.Claim
public import Idealize.ShloMosaic.Adequacy
public import Idealize.ShloMosaic.Init

@[expose] public section

noncomputable section

namespace Cert.Proof

open Idealize.ShloMosaic Idealize.SL.Sem

/-- The gate's gradient: the kernel returns the derivative of `silu(gate) * up`, where the incoming gradient and the up-projection are finite. -/
theorem algebraic_gate : Cert.algebraic_KernelIdeal_ReferenceIdeal_pre_precondition := by
  pair_intro
  · run_from Cert.KernelIdeal.Gen.run_main m g
  · hlo_run
    exact (Cert.KernelIdeal.Gate.final m c (Cert.KernelIdeal.Gate.da_finite m hpre c) (Cert.KernelIdeal.Gate.u4_finite m hpre c)).symm

/-- The gradient with respect to the activation is the derivative's product. -/
theorem algebraic_2 : Cert.algebraic_Kernel2Ideal_Reference2Ideal := by
  pair_intro
  · run_from Cert.Kernel2Ideal.Gen.run_main m g
  · hlo_run
    exact (Cert.Kernel2Ideal.Product.final m c).symm

/-- The gradient with respect to the down-projection's weights is the derivative's product. -/
theorem algebraic_3 : Cert.algebraic_Kernel3Ideal_Reference3Ideal := by
  pair_intro
  · run_from Cert.Kernel3Ideal.Gen.run_main m g
  · hlo_run
    exact (Cert.Kernel3Ideal.Product.final m c).symm

/-- The gradient with respect to the normalised input is the derivative's product. -/
theorem algebraic_4 : Cert.algebraic_Kernel4Ideal_Reference4Ideal := by
  pair_intro
  · run_from Cert.Kernel4Ideal.Gen.run_main m g
  · hlo_run
    exact (Cert.Kernel4Ideal.Product.final m c).symm

/-- The gradient with respect to the up-projection's weights is the derivative's product. -/
theorem algebraic_5 : Cert.algebraic_Kernel5Ideal_Reference5Ideal := by
  pair_intro
  · run_from Cert.Kernel5Ideal.Gen.run_main m g
  · hlo_run
    exact (Cert.Kernel5Ideal.Product.final m c).symm

/-- The gradients of the state-space mixer within a chunk, where the arguments are finite. -/
theorem algebraic_6 : Cert.algebraic_Kernel6Ideal_Reference6Ideal_pre_ssd_finite := by
  intro m g m' g' hpre hagree
  exact ⟨_, _, _, _, _, _, Cert.Kernel6Ideal.Ssd.kernel_run m g hpre, Cert.Reference6Ideal.Ssd.reference_run m' g' _ _ _ _ _ hagree⟩

/-- The up-projections of the normalised input. -/
theorem algebraic_7 : Cert.algebraic_Kernel7Ideal_Reference7Ideal := by
  pair_intro
  · run_from Cert.Kernel7Ideal.Gen.run_main m g
  · hlo_run
    exact (Cert.Kernel7Ideal.Product.final m c).symm

/-- The gated activation. -/
theorem algebraic_8 : Cert.algebraic_Kernel8Ideal_Reference8Ideal := by
  pair_intro
  · run_from Cert.Kernel8Ideal.Gen.run_main m g
  · hlo_run
    exact (Cert.Kernel8Ideal.Act.final m c).symm

/-- The half-block's output: the residual and half the down-projection. -/
theorem algebraic_9 : Cert.algebraic_Kernel9Ideal_Reference9Ideal := by
  pair_intro
  · run_from Cert.Kernel9Ideal.Gen.run_main m g
  · hlo_run
    exact (Cert.Kernel9Ideal.Product.final m c).symm

/-- The gradient of the attention's input through q, k and v. -/
theorem algebraic_10 : Cert.algebraic_Kernel10Ideal_Reference10Ideal := by
  pair_intro
  · run_from Cert.Kernel10Ideal.Gen.run_main m g
  · hlo_run
    exact (Cert.Kernel10Ideal.Product.final m c).symm

/-- The gradient of the attention's projections to q, k and v. -/
theorem algebraic_11 : Cert.algebraic_Kernel11Ideal_Reference11Ideal := by
  pair_intro
  · run_from Cert.Kernel11Ideal.Gen.run_main m g
  · hlo_run
    exact (Cert.Kernel11Ideal.Product.final m c).symm

/-- The gradient of the attention's heads. -/
theorem algebraic_12 : Cert.algebraic_Kernel12Ideal_Reference12Ideal := by
  pair_intro
  · run_from Cert.Kernel12Ideal.Gen.run_main m g
  · hlo_run
    exact (Cert.Kernel12Ideal.Product.final m c).symm

/-- The gradient of the attention's output projection. -/
theorem algebraic_13 : Cert.algebraic_Kernel13Ideal_Reference13Ideal := by
  pair_intro
  · run_from Cert.Kernel13Ideal.Gen.run_main m g
  · hlo_run
    exact (Cert.Kernel13Ideal.Product.final m c).symm

/-- The gradient of the mixer's two halves, side by side. -/
theorem algebraic_14 : Cert.algebraic_Kernel14Ideal_Reference14Ideal := by
  pair_intro
  · run_from Cert.Kernel14Ideal.Gen.run_main m g
  · hlo_run
    exact (Cert.Kernel14Ideal.Product.final m c).symm

/-- The gradient of the mixer's output projection. -/
theorem algebraic_15 : Cert.algebraic_Kernel15Ideal_Reference15Ideal := by
  pair_intro
  · run_from Cert.Kernel15Ideal.Gen.run_main m g
  · hlo_run
    exact (Cert.Kernel15Ideal.Product.final m c).symm

/-- The gradient of the mixer's input through the gate z. -/
theorem algebraic_16 : Cert.algebraic_Kernel16Ideal_Reference16Ideal := by
  pair_intro
  · run_from Cert.Kernel16Ideal.Gen.run_main m g
  · hlo_run
    exact (Cert.Kernel16Ideal.Product.final m c).symm

/-- The gradient of the mixer's projection to the gate z. -/
theorem algebraic_17 : Cert.algebraic_Kernel17Ideal_Reference17Ideal := by
  pair_intro
  · run_from Cert.Kernel17Ideal.Gen.run_main m g
  · hlo_run
    exact (Cert.Kernel17Ideal.Product.final m c).symm

/-- The gradient of the mixer's input through the convolution's columns. -/
theorem algebraic_18 : Cert.algebraic_Kernel18Ideal_Reference18Ideal := by
  pair_intro
  · run_from Cert.Kernel18Ideal.Gen.run_main m g
  · hlo_run
    exact (Cert.Kernel18Ideal.Product.final m c).symm

/-- The gradient of the mixer's projection to the convolution's columns. -/
theorem algebraic_19 : Cert.algebraic_Kernel19Ideal_Reference19Ideal := by
  pair_intro
  · run_from Cert.Kernel19Ideal.Gen.run_main m g
  · hlo_run
    exact (Cert.Kernel19Ideal.Product.final m c).symm

/-- The gradient of the mixer's input through the gated recurrence's columns. -/
theorem algebraic_20 : Cert.algebraic_Kernel20Ideal_Reference20Ideal := by
  pair_intro
  · run_from Cert.Kernel20Ideal.Gen.run_main m g
  · hlo_run
    exact (Cert.Kernel20Ideal.Product.final m c).symm

/-- The gradient of the mixer's projection to the gated recurrence's columns. -/
theorem algebraic_21 : Cert.algebraic_Kernel21Ideal_Reference21Ideal := by
  pair_intro
  · run_from Cert.Kernel21Ideal.Gen.run_main m g
  · hlo_run
    exact (Cert.Kernel21Ideal.Product.final m c).symm

/-- The gradient of the per-layer embedding's normalised input. -/
theorem algebraic_22 : Cert.algebraic_Kernel22Ideal_Reference22Ideal := by
  pair_intro
  · run_from Cert.Kernel22Ideal.Gen.run_main m g
  · hlo_run
    exact (Cert.Kernel22Ideal.Product.final m c).symm

/-- The gradient of the per-layer embedding's gate projection. -/
theorem algebraic_23 : Cert.algebraic_Kernel23Ideal_Reference23Ideal := by
  pair_intro
  · run_from Cert.Kernel23Ideal.Gen.run_main m g
  · hlo_run
    exact (Cert.Kernel23Ideal.Product.final m c).symm

/-- The projections to q, k and v. -/
theorem algebraic_24 : Cert.algebraic_Kernel24Ideal_Reference24Ideal := by
  pair_intro
  · run_from Cert.Kernel24Ideal.Gen.run_main m g
  · hlo_run
    exact (Cert.Kernel24Ideal.Product.final m c).symm

/-- The attention's output projection, added to the residual. -/
theorem algebraic_25 : Cert.algebraic_Kernel25Ideal_Reference25Ideal := by
  pair_intro
  · run_from Cert.Kernel25Ideal.Gen.run_main m g
  · hlo_run
    exact (Cert.Kernel25Ideal.Product.final m c).symm

/-- The mixer's projection to the gate z. -/
theorem algebraic_26 : Cert.algebraic_Kernel26Ideal_Reference26Ideal := by
  pair_intro
  · run_from Cert.Kernel26Ideal.Gen.run_main m g
  · hlo_run
    exact (Cert.Kernel26Ideal.Product.final m c).symm

/-- The mixer's projection to the convolution's input. -/
theorem algebraic_27 : Cert.algebraic_Kernel27Ideal_Reference27Ideal := by
  pair_intro
  · run_from Cert.Kernel27Ideal.Gen.run_main m g
  · hlo_run
    exact (Cert.Kernel27Ideal.Product.final m c).symm

/-- The mixer's projections to q, f, v and g. -/
theorem algebraic_28 : Cert.algebraic_Kernel28Ideal_Reference28Ideal := by
  pair_intro
  · run_from Cert.Kernel28Ideal.Gen.run_main m g
  · hlo_run
    exact (Cert.Kernel28Ideal.Product.final m c).symm

/-- The mixer's output projection, added to the residual. -/
theorem algebraic_29 : Cert.algebraic_Kernel29Ideal_Reference29Ideal := by
  pair_intro
  · run_from Cert.Kernel29Ideal.Gen.run_main m g
  · hlo_run
    exact (Cert.Kernel29Ideal.Product.final m c).symm

/-- The per-layer embedding's gate projection. -/
theorem algebraic_30 : Cert.algebraic_Kernel30Ideal_Reference30Ideal := by
  pair_intro
  · run_from Cert.Kernel30Ideal.Gen.run_main m g
  · hlo_run
    exact (Cert.Kernel30Ideal.Product.final m c).symm

/-- The optimiser's step of `w_in` of the half-blocks. -/
theorem algebraic_31 : Cert.algebraic_Kernel31Ideal_Reference31Ideal := by
  intro m g m' g' _ hagree
  exact ⟨_, _, _, Cert.Kernel31Ideal.Adam.kernel_run m g, Cert.Reference31Ideal.Adam.reference_run m' g' _ _ _ _ hagree⟩

/-- The optimiser's step of `w_out` of the half-blocks. -/
theorem algebraic_32 : Cert.algebraic_Kernel32Ideal_Reference32Ideal := by
  intro m g m' g' _ hagree
  exact ⟨_, _, _, Cert.Kernel32Ideal.Adam.kernel_run m g, Cert.Reference32Ideal.Adam.reference_run m' g' _ _ _ _ hagree⟩

/-- The optimiser's step of the mixer's `w_in`. -/
theorem algebraic_33 : Cert.algebraic_Kernel33Ideal_Reference33Ideal := by
  intro m g m' g' _ hagree
  exact ⟨_, _, _, Cert.Kernel33Ideal.Adam.kernel_run m g, Cert.Reference33Ideal.Adam.reference_run m' g' _ _ _ _ hagree⟩

/-- The optimiser's step of the mixer's `w_out`. -/
theorem algebraic_34 : Cert.algebraic_Kernel34Ideal_Reference34Ideal := by
  intro m g m' g' _ hagree
  exact ⟨_, _, _, Cert.Kernel34Ideal.Adam.kernel_run m g, Cert.Reference34Ideal.Adam.reference_run m' g' _ _ _ _ hagree⟩

/-- The optimiser's step of the attention's `w_in`. -/
theorem algebraic_35 : Cert.algebraic_Kernel35Ideal_Reference35Ideal := by
  intro m g m' g' _ hagree
  exact ⟨_, _, _, Cert.Kernel35Ideal.Adam.kernel_run m g, Cert.Reference35Ideal.Adam.reference_run m' g' _ _ _ _ hagree⟩

/-- The optimiser's step of the attention's `w_out`. -/
theorem algebraic_36 : Cert.algebraic_Kernel36Ideal_Reference36Ideal := by
  intro m g m' g' _ hagree
  exact ⟨_, _, _, Cert.Kernel36Ideal.Adam.kernel_run m g, Cert.Reference36Ideal.Adam.reference_run m' g' _ _ _ _ hagree⟩

/-- The optimiser's step of the per-layer embeddings' gate projection. -/
theorem algebraic_37 : Cert.algebraic_Kernel37Ideal_Reference37Ideal := by
  intro m g m' g' _ hagree
  exact ⟨_, _, _, Cert.Kernel37Ideal.Adam.kernel_run m g, Cert.Reference37Ideal.Adam.reference_run m' g' _ _ _ _ hagree⟩

/-- The optimiser's step of the per-layer embeddings' up-projection. -/
theorem algebraic_38 : Cert.algebraic_Kernel38Ideal_Reference38Ideal := by
  intro m g m' g' _ hagree
  exact ⟨_, _, _, Cert.Kernel38Ideal.Adam.kernel_run m g, Cert.Reference38Ideal.Adam.reference_run m' g' _ _ _ _ hagree⟩

/-- The gradients of a normalised half-block's input and of its norm's weights. -/
theorem algebraic_39 : Cert.algebraic_Kernel39Ideal_Reference39Ideal := by
  intro m g m' g' _ hagree
  exact ⟨_, _, Cert.Kernel39Ideal.Norm.kernel_run m g, Cert.Reference39Ideal.Norm.reference_run m' g' _ _ _ _ hagree⟩

/-- The gradients of the embedding, of its gate's argument and of its norm's weights. -/
theorem algebraic_40 : Cert.algebraic_Kernel40Ideal_Reference40Ideal := by
  intro m g m' g' _ hagree
  exact ⟨_, _, _, Cert.Kernel40Ideal.Norm.kernel_run m g, Cert.Reference40Ideal.Norm.reference_run m' g' _ _ _ _ hagree⟩

/-- The gradients of the last norm's input and weights, and the loss. -/
theorem algebraic_41 : Cert.algebraic_Kernel41Ideal_Reference41Ideal := by
  intro m g m' g' _ hagree
  exact ⟨_, _, _, Cert.Kernel41Ideal.Norm.kernel_run m g, Cert.Reference41Ideal.Norm.reference_run m' g' _ _ _ hagree⟩

/-- The normalised input. -/
theorem algebraic_42 : Cert.algebraic_Kernel42Ideal_Reference42Ideal := by
  pair_intro
  · run_from Cert.Kernel42Ideal.Gen.run_main m g
  · hlo_run
    exact (Cert.Kernel42Ideal.Norm.final m c).symm

/-- The per-layer embedding, gated and added to the residual. -/
theorem algebraic_43 : Cert.algebraic_Kernel43Ideal_Reference43Ideal := by
  pair_intro
  · run_from Cert.Kernel43Ideal.Gen.run_main m g
  · hlo_run
    exact (Cert.Kernel43Ideal.Norm.final m c).symm

/-- The per-layer embedding's projection. -/
theorem algebraic_44 : Cert.algebraic_Kernel44Ideal_Reference44Ideal := by
  pair_intro
  · run_from Cert.Kernel44Ideal.Gen.run_main m g
  · hlo_run
    exact (Cert.Kernel44Ideal.Product.final m c).symm

/-- The gradient of the per-layer embedding's projection. -/
theorem algebraic_45 : Cert.algebraic_Kernel45Ideal_Reference45Ideal := by
  pair_intro
  · run_from Cert.Kernel45Ideal.Gen.run_main m g
  · hlo_run
    exact (Cert.Kernel45Ideal.Product.final m c).symm

/-- The gradient of the convolution's input. -/
theorem algebraic_46 : Cert.algebraic_Kernel46Ideal_Reference46Ideal := by
  pair_intro
  · run_from Cert.Kernel46Ideal.Gen.run_main m g
  · hlo_run
    exact (Cert.Kernel46Ideal.Conv.final m c).symm

/-- The gradients of the convolution's sum, weights and bias. -/
theorem algebraic_47 : Cert.algebraic_Kernel47Ideal_Reference47Ideal_pre_conv_finite := by
  intro m g m' g' hpre hagree
  exact ⟨_, _, _, Cert.Kernel47Ideal.Conv.kernel_run m g hpre, Cert.Reference47Ideal.Conv.reference_run m' g' _ _ _ _ hagree⟩

/-- The convolution and its activation. -/
theorem algebraic_48 : Cert.algebraic_Kernel48Ideal_Reference48Ideal := by
  pair_intro
  · run_from Cert.Kernel48Ideal.Gen.run_main m g
  · hlo_run
    exact (Cert.Kernel48Ideal.Conv.final m c).symm

/-- The mixer's two halves, normalised in groups and gated. -/
theorem algebraic_49 : Cert.algebraic_Kernel49Ideal_Reference49Ideal := by
  intro m g m' g' _ hagree
  exact ⟨_, Cert.Kernel49Ideal.Norm.kernel_run m g, Cert.Reference49Ideal.Norm.reference_run m' g' _ _ _ _ _ _ _ hagree⟩

/-- The reference runs to a quiescent end with its arguments unchanged. -/
theorem frame_ReferenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference runs to a quiescent end with its arguments unchanged. -/
theorem frame_Reference2Ideal : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- The reference runs to a quiescent end with its arguments unchanged. -/
theorem frame_Reference3Ideal : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The reference runs to a quiescent end with its arguments unchanged. -/
theorem frame_Reference4Ideal : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- The reference runs to a quiescent end with its arguments unchanged. -/
theorem frame_Reference5Ideal : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- The reference runs to a quiescent end with its arguments unchanged. -/
theorem frame_Reference6Ideal : Cert.quiescent_Reference6Ideal := fun m ρ _ =>
  (θ_run Cert.Reference6Ideal.defs _ _).mono (fun r h => ⟨fun c => (h c).2.2.2.2.2.2, Idealize.ShloMosaic.sem_eq_zero_of_no_sems (by decide) r.2⟩)
    (Cert.Reference6Ideal.Value.run (F := Ideal) m ρ)

/-- The reference runs to a quiescent end with its arguments unchanged. -/
theorem frame_Reference7Ideal : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- The reference runs to a quiescent end with its arguments unchanged. -/
theorem frame_Reference8Ideal : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- The reference runs to a quiescent end with its arguments unchanged. -/
theorem frame_Reference9Ideal : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- The reference runs to a quiescent end with its arguments unchanged. -/
theorem frame_Reference10Ideal : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The reference runs to a quiescent end with its arguments unchanged. -/
theorem frame_Reference11Ideal : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The reference runs to a quiescent end with its arguments unchanged. -/
theorem frame_Reference12Ideal : Cert.quiescent_Reference12Ideal := fun m ρ _ =>
  (θ_run Cert.Reference12Ideal.defs _ _).mono (fun r h => ⟨fun c => (h c).2, Idealize.ShloMosaic.sem_eq_zero_of_no_sems (by decide) r.2⟩)
    (Cert.Reference12Ideal.Value.run (F := Ideal) m ρ)

/-- The reference runs to a quiescent end with its arguments unchanged. -/
theorem frame_Reference13Ideal : Cert.quiescent_Reference13Ideal := fun m ρ _ =>
  (θ_run Cert.Reference13Ideal.defs _ _).mono (fun r h => ⟨fun c => (h c).2, Idealize.ShloMosaic.sem_eq_zero_of_no_sems (by decide) r.2⟩)
    (Cert.Reference13Ideal.Value.run (F := Ideal) m ρ)

/-- The reference runs to a quiescent end with its arguments unchanged. -/
theorem frame_Reference14Ideal : Cert.quiescent_Reference14Ideal := fun m ρ _ =>
  (θ_run Cert.Reference14Ideal.defs _ _).mono (fun r h => ⟨fun c => (h c).2, Idealize.ShloMosaic.sem_eq_zero_of_no_sems (by decide) r.2⟩)
    (Cert.Reference14Ideal.Value.run (F := Ideal) m ρ)

/-- The reference runs to a quiescent end with its arguments unchanged. -/
theorem frame_Reference15Ideal : Cert.quiescent_Reference15Ideal := fun m ρ _ =>
  (θ_run Cert.Reference15Ideal.defs _ _).mono (fun r h => ⟨fun c => (h c).2, Idealize.ShloMosaic.sem_eq_zero_of_no_sems (by decide) r.2⟩)
    (Cert.Reference15Ideal.Value.run (F := Ideal) m ρ)

/-- The reference runs to a quiescent end with its arguments unchanged. -/
theorem frame_Reference16Ideal : Cert.quiescent_Reference16Ideal := fun m ρ _ =>
  (θ_run Cert.Reference16Ideal.defs _ _).mono (fun r h => ⟨fun c => (h c).2, Idealize.ShloMosaic.sem_eq_zero_of_no_sems (by decide) r.2⟩)
    (Cert.Reference16Ideal.Value.run (F := Ideal) m ρ)

/-- The reference runs to a quiescent end with its arguments unchanged. -/
theorem frame_Reference17Ideal : Cert.quiescent_Reference17Ideal := fun m ρ _ =>
  (θ_run Cert.Reference17Ideal.defs _ _).mono (fun r h => ⟨fun c => (h c).2, Idealize.ShloMosaic.sem_eq_zero_of_no_sems (by decide) r.2⟩)
    (Cert.Reference17Ideal.Value.run (F := Ideal) m ρ)

/-- The reference runs to a quiescent end with its arguments unchanged. -/
theorem frame_Reference18Ideal : Cert.quiescent_Reference18Ideal := fun m ρ _ =>
  (θ_run Cert.Reference18Ideal.defs _ _).mono (fun r h => ⟨fun c => (h c).2, Idealize.ShloMosaic.sem_eq_zero_of_no_sems (by decide) r.2⟩)
    (Cert.Reference18Ideal.Value.run (F := Ideal) m ρ)

/-- The reference runs to a quiescent end with its arguments unchanged. -/
theorem frame_Reference19Ideal : Cert.quiescent_Reference19Ideal := fun m ρ _ =>
  (θ_run Cert.Reference19Ideal.defs _ _).mono (fun r h => ⟨fun c => (h c).2, Idealize.ShloMosaic.sem_eq_zero_of_no_sems (by decide) r.2⟩)
    (Cert.Reference19Ideal.Value.run (F := Ideal) m ρ)

/-- The reference runs to a quiescent end with its arguments unchanged. -/
theorem frame_Reference20Ideal : Cert.quiescent_Reference20Ideal := fun m ρ _ =>
  (θ_run Cert.Reference20Ideal.defs _ _).mono (fun r h => ⟨fun c => (h c).2, Idealize.ShloMosaic.sem_eq_zero_of_no_sems (by decide) r.2⟩)
    (Cert.Reference20Ideal.Value.run (F := Ideal) m ρ)

/-- The reference runs to a quiescent end with its arguments unchanged. -/
theorem frame_Reference21Ideal : Cert.quiescent_Reference21Ideal := fun m ρ _ =>
  (θ_run Cert.Reference21Ideal.defs _ _).mono (fun r h => ⟨fun c => (h c).2, Idealize.ShloMosaic.sem_eq_zero_of_no_sems (by decide) r.2⟩)
    (Cert.Reference21Ideal.Value.run (F := Ideal) m ρ)

/-- The reference runs to a quiescent end with its arguments unchanged. -/
theorem frame_Reference22Ideal : Cert.quiescent_Reference22Ideal := fun m ρ _ =>
  (θ_run Cert.Reference22Ideal.defs _ _).mono (fun r h => ⟨fun c => (h c).2, Idealize.ShloMosaic.sem_eq_zero_of_no_sems (by decide) r.2⟩)
    (Cert.Reference22Ideal.Value.run (F := Ideal) m ρ)

/-- The reference runs to a quiescent end with its arguments unchanged. -/
theorem frame_Reference23Ideal : Cert.quiescent_Reference23Ideal := fun m ρ _ =>
  (θ_run Cert.Reference23Ideal.defs _ _).mono (fun r h => ⟨fun c => (h c).2, Idealize.ShloMosaic.sem_eq_zero_of_no_sems (by decide) r.2⟩)
    (Cert.Reference23Ideal.Value.run (F := Ideal) m ρ)

/-- The reference runs to a quiescent end with its arguments unchanged. -/
theorem frame_Reference24Ideal : Cert.quiescent_Reference24Ideal := fun m ρ _ =>
  (θ_run Cert.Reference24Ideal.defs _ _).mono (fun r h => ⟨fun c => (h c).2, Idealize.ShloMosaic.sem_eq_zero_of_no_sems (by decide) r.2⟩)
    (Cert.Reference24Ideal.Value.run (F := Ideal) m ρ)

/-- The reference runs to a quiescent end with its arguments unchanged. -/
theorem frame_Reference25Ideal : Cert.quiescent_Reference25Ideal := fun m ρ _ =>
  (θ_run Cert.Reference25Ideal.defs _ _).mono (fun r h => ⟨fun c => (h c).2, Idealize.ShloMosaic.sem_eq_zero_of_no_sems (by decide) r.2⟩)
    (Cert.Reference25Ideal.Value.run (F := Ideal) m ρ)

/-- The reference runs to a quiescent end with its arguments unchanged. -/
theorem frame_Reference26Ideal : Cert.quiescent_Reference26Ideal := fun m ρ _ =>
  (θ_run Cert.Reference26Ideal.defs _ _).mono (fun r h => ⟨fun c => (h c).2, Idealize.ShloMosaic.sem_eq_zero_of_no_sems (by decide) r.2⟩)
    (Cert.Reference26Ideal.Value.run (F := Ideal) m ρ)

/-- The reference runs to a quiescent end with its arguments unchanged. -/
theorem frame_Reference27Ideal : Cert.quiescent_Reference27Ideal := fun m ρ _ =>
  (θ_run Cert.Reference27Ideal.defs _ _).mono (fun r h => ⟨fun c => (h c).2, Idealize.ShloMosaic.sem_eq_zero_of_no_sems (by decide) r.2⟩)
    (Cert.Reference27Ideal.Value.run (F := Ideal) m ρ)

/-- The reference runs to a quiescent end with its arguments unchanged. -/
theorem frame_Reference28Ideal : Cert.quiescent_Reference28Ideal := fun m ρ _ =>
  (θ_run Cert.Reference28Ideal.defs _ _).mono (fun r h => ⟨fun c => (h c).2, Idealize.ShloMosaic.sem_eq_zero_of_no_sems (by decide) r.2⟩)
    (Cert.Reference28Ideal.Value.run (F := Ideal) m ρ)

/-- The reference runs to a quiescent end with its arguments unchanged. -/
theorem frame_Reference29Ideal : Cert.quiescent_Reference29Ideal := fun m ρ _ =>
  (θ_run Cert.Reference29Ideal.defs _ _).mono (fun r h => ⟨fun c => (h c).2, Idealize.ShloMosaic.sem_eq_zero_of_no_sems (by decide) r.2⟩)
    (Cert.Reference29Ideal.Value.run (F := Ideal) m ρ)

/-- The reference runs to a quiescent end with its arguments unchanged. -/
theorem frame_Reference30Ideal : Cert.quiescent_Reference30Ideal := fun m ρ _ =>
  (θ_run Cert.Reference30Ideal.defs _ _).mono (fun r h => ⟨fun c => (h c).2, Idealize.ShloMosaic.sem_eq_zero_of_no_sems (by decide) r.2⟩)
    (Cert.Reference30Ideal.Value.run (F := Ideal) m ρ)

/-- The reference runs to a quiescent end with its arguments unchanged. -/
theorem frame_Reference31Ideal : Cert.quiescent_Reference31Ideal := fun m ρ _ =>
  (θ_run Cert.Reference31Ideal.defs _ _).mono (fun r h => ⟨fun c => (h c).2.2.2, Idealize.ShloMosaic.sem_eq_zero_of_no_sems (by decide) r.2⟩)
    (Cert.Reference31Ideal.Value.run (F := Ideal) m ρ)

/-- The reference runs to a quiescent end with its arguments unchanged. -/
theorem frame_Reference32Ideal : Cert.quiescent_Reference32Ideal := fun m ρ _ =>
  (θ_run Cert.Reference32Ideal.defs _ _).mono (fun r h => ⟨fun c => (h c).2.2.2, Idealize.ShloMosaic.sem_eq_zero_of_no_sems (by decide) r.2⟩)
    (Cert.Reference32Ideal.Value.run (F := Ideal) m ρ)

/-- The reference runs to a quiescent end with its arguments unchanged. -/
theorem frame_Reference33Ideal : Cert.quiescent_Reference33Ideal := fun m ρ _ =>
  (θ_run Cert.Reference33Ideal.defs _ _).mono (fun r h => ⟨fun c => (h c).2.2.2, Idealize.ShloMosaic.sem_eq_zero_of_no_sems (by decide) r.2⟩)
    (Cert.Reference33Ideal.Value.run (F := Ideal) m ρ)

/-- The reference runs to a quiescent end with its arguments unchanged. -/
theorem frame_Reference34Ideal : Cert.quiescent_Reference34Ideal := fun m ρ _ =>
  (θ_run Cert.Reference34Ideal.defs _ _).mono (fun r h => ⟨fun c => (h c).2.2.2, Idealize.ShloMosaic.sem_eq_zero_of_no_sems (by decide) r.2⟩)
    (Cert.Reference34Ideal.Value.run (F := Ideal) m ρ)

/-- The reference runs to a quiescent end with its arguments unchanged. -/
theorem frame_Reference35Ideal : Cert.quiescent_Reference35Ideal := fun m ρ _ =>
  (θ_run Cert.Reference35Ideal.defs _ _).mono (fun r h => ⟨fun c => (h c).2.2.2, Idealize.ShloMosaic.sem_eq_zero_of_no_sems (by decide) r.2⟩)
    (Cert.Reference35Ideal.Value.run (F := Ideal) m ρ)

/-- The reference runs to a quiescent end with its arguments unchanged. -/
theorem frame_Reference36Ideal : Cert.quiescent_Reference36Ideal := fun m ρ _ =>
  (θ_run Cert.Reference36Ideal.defs _ _).mono (fun r h => ⟨fun c => (h c).2.2.2, Idealize.ShloMosaic.sem_eq_zero_of_no_sems (by decide) r.2⟩)
    (Cert.Reference36Ideal.Value.run (F := Ideal) m ρ)

/-- The reference runs to a quiescent end with its arguments unchanged. -/
theorem frame_Reference37Ideal : Cert.quiescent_Reference37Ideal := fun m ρ _ =>
  (θ_run Cert.Reference37Ideal.defs _ _).mono (fun r h => ⟨fun c => (h c).2.2.2, Idealize.ShloMosaic.sem_eq_zero_of_no_sems (by decide) r.2⟩)
    (Cert.Reference37Ideal.Value.run (F := Ideal) m ρ)

/-- The reference runs to a quiescent end with its arguments unchanged. -/
theorem frame_Reference38Ideal : Cert.quiescent_Reference38Ideal := fun m ρ _ =>
  (θ_run Cert.Reference38Ideal.defs _ _).mono (fun r h => ⟨fun c => (h c).2.2.2, Idealize.ShloMosaic.sem_eq_zero_of_no_sems (by decide) r.2⟩)
    (Cert.Reference38Ideal.Value.run (F := Ideal) m ρ)

/-- The reference runs to a quiescent end with its arguments unchanged. -/
theorem frame_Reference39Ideal : Cert.quiescent_Reference39Ideal := fun m ρ _ =>
  (θ_run Cert.Reference39Ideal.defs _ _).mono (fun r h => ⟨fun c => (h c).2.2, Idealize.ShloMosaic.sem_eq_zero_of_no_sems (by decide) r.2⟩)
    (Cert.Reference39Ideal.Value.run (F := Ideal) m ρ)

/-- The reference runs to a quiescent end with its arguments unchanged. -/
theorem frame_Reference40Ideal : Cert.quiescent_Reference40Ideal := fun m ρ _ =>
  (θ_run Cert.Reference40Ideal.defs _ _).mono (fun r h => ⟨fun c => (h c).2.2.2, Idealize.ShloMosaic.sem_eq_zero_of_no_sems (by decide) r.2⟩)
    (Cert.Reference40Ideal.Value.run (F := Ideal) m ρ)

/-- The reference runs to a quiescent end with its arguments unchanged. -/
theorem frame_Reference41Ideal : Cert.quiescent_Reference41Ideal := fun m ρ _ =>
  (θ_run Cert.Reference41Ideal.defs _ _).mono (fun r h => ⟨fun c => (h c).2.2.2, Idealize.ShloMosaic.sem_eq_zero_of_no_sems (by decide) r.2⟩)
    (Cert.Reference41Ideal.Value.run (F := Ideal) m ρ)

/-- The reference runs to a quiescent end with its arguments unchanged. -/
theorem frame_Reference42Ideal : Cert.quiescent_Reference42Ideal := fun m ρ _ =>
  (θ_run Cert.Reference42Ideal.defs _ _).mono (fun r h => ⟨fun c => (h c).2, Idealize.ShloMosaic.sem_eq_zero_of_no_sems (by decide) r.2⟩)
    (Cert.Reference42Ideal.Value.run (F := Ideal) m ρ)

/-- The reference runs to a quiescent end with its arguments unchanged. -/
theorem frame_Reference43Ideal : Cert.quiescent_Reference43Ideal := fun m ρ _ =>
  (θ_run Cert.Reference43Ideal.defs _ _).mono (fun r h => ⟨fun c => (h c).2, Idealize.ShloMosaic.sem_eq_zero_of_no_sems (by decide) r.2⟩)
    (Cert.Reference43Ideal.Value.run (F := Ideal) m ρ)

/-- The reference runs to a quiescent end with its arguments unchanged. -/
theorem frame_Reference44Ideal : Cert.quiescent_Reference44Ideal := fun m ρ _ =>
  (θ_run Cert.Reference44Ideal.defs _ _).mono (fun r h => ⟨fun c => (h c).2, Idealize.ShloMosaic.sem_eq_zero_of_no_sems (by decide) r.2⟩)
    (Cert.Reference44Ideal.Value.run (F := Ideal) m ρ)

/-- The reference runs to a quiescent end with its arguments unchanged. -/
theorem frame_Reference45Ideal : Cert.quiescent_Reference45Ideal := fun m ρ _ =>
  (θ_run Cert.Reference45Ideal.defs _ _).mono (fun r h => ⟨fun c => (h c).2, Idealize.ShloMosaic.sem_eq_zero_of_no_sems (by decide) r.2⟩)
    (Cert.Reference45Ideal.Value.run (F := Ideal) m ρ)

/-- The reference runs to a quiescent end with its arguments unchanged. -/
theorem frame_Reference46Ideal : Cert.quiescent_Reference46Ideal := fun m ρ _ =>
  (θ_run Cert.Reference46Ideal.defs _ _).mono (fun r h => ⟨fun c => (h c).2, Idealize.ShloMosaic.sem_eq_zero_of_no_sems (by decide) r.2⟩)
    (Cert.Reference46Ideal.Value.run (F := Ideal) m ρ)

/-- The reference runs to a quiescent end with its arguments unchanged. -/
theorem frame_Reference47Ideal : Cert.quiescent_Reference47Ideal := fun m ρ _ =>
  (θ_run Cert.Reference47Ideal.defs _ _).mono (fun r h => ⟨fun c => (h c).2.2.2, Idealize.ShloMosaic.sem_eq_zero_of_no_sems (by decide) r.2⟩)
    (Cert.Reference47Ideal.Value.run (F := Ideal) m ρ)

/-- The reference runs to a quiescent end with its arguments unchanged. -/
theorem frame_Reference48Ideal : Cert.quiescent_Reference48Ideal := fun m ρ _ =>
  (θ_run Cert.Reference48Ideal.defs _ _).mono (fun r h => ⟨fun c => (h c).2, Idealize.ShloMosaic.sem_eq_zero_of_no_sems (by decide) r.2⟩)
    (Cert.Reference48Ideal.Value.run (F := Ideal) m ρ)

/-- The reference runs to a quiescent end with its arguments unchanged. -/
theorem frame_Reference49Ideal : Cert.quiescent_Reference49Ideal := fun m ρ _ =>
  (θ_run Cert.Reference49Ideal.defs _ _).mono (fun r h => ⟨fun c => (h c).2, Idealize.ShloMosaic.sem_eq_zero_of_no_sems (by decide) r.2⟩)
    (Cert.Reference49Ideal.Value.run (F := Ideal) m ρ)

/-- All claims. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, Cert.Kernel29.Gen.facts, Cert.Kernel29Ideal.Gen.facts, Cert.Reference29Ideal.Gen.facts, Cert.Kernel30.Gen.facts, Cert.Kernel30Ideal.Gen.facts, Cert.Reference30Ideal.Gen.facts, Cert.Kernel31.Gen.facts, Cert.Kernel31Ideal.Gen.facts, Cert.Reference31Ideal.Gen.facts, Cert.Kernel32.Gen.facts, Cert.Kernel32Ideal.Gen.facts, Cert.Reference32Ideal.Gen.facts, Cert.Kernel33.Gen.facts, Cert.Kernel33Ideal.Gen.facts, Cert.Reference33Ideal.Gen.facts, Cert.Kernel34.Gen.facts, Cert.Kernel34Ideal.Gen.facts, Cert.Reference34Ideal.Gen.facts, Cert.Kernel35.Gen.facts, Cert.Kernel35Ideal.Gen.facts, Cert.Reference35Ideal.Gen.facts, Cert.Kernel36.Gen.facts, Cert.Kernel36Ideal.Gen.facts, Cert.Reference36Ideal.Gen.facts, Cert.Kernel37.Gen.facts, Cert.Kernel37Ideal.Gen.facts, Cert.Reference37Ideal.Gen.facts, Cert.Kernel38.Gen.facts, Cert.Kernel38Ideal.Gen.facts, Cert.Reference38Ideal.Gen.facts, Cert.Kernel39.Gen.facts, Cert.Kernel39Ideal.Gen.facts, Cert.Reference39Ideal.Gen.facts, Cert.Kernel40.Gen.facts, Cert.Kernel40Ideal.Gen.facts, Cert.Reference40Ideal.Gen.facts, Cert.Kernel41.Gen.facts, Cert.Kernel41Ideal.Gen.facts, Cert.Reference41Ideal.Gen.facts, Cert.Kernel42.Gen.facts, Cert.Kernel42Ideal.Gen.facts, Cert.Reference42Ideal.Gen.facts, Cert.Kernel43.Gen.facts, Cert.Kernel43Ideal.Gen.facts, Cert.Reference43Ideal.Gen.facts, Cert.Kernel44.Gen.facts, Cert.Kernel44Ideal.Gen.facts, Cert.Reference44Ideal.Gen.facts, Cert.Kernel45.Gen.facts, Cert.Kernel45Ideal.Gen.facts, Cert.Reference45Ideal.Gen.facts, Cert.Kernel46.Gen.facts, Cert.Kernel46Ideal.Gen.facts, Cert.Reference46Ideal.Gen.facts, Cert.Kernel47.Gen.facts, Cert.Kernel47Ideal.Gen.facts, Cert.Reference47Ideal.Gen.facts, Cert.Kernel48.Gen.facts, Cert.Kernel48Ideal.Gen.facts, Cert.Reference48Ideal.Gen.facts, Cert.Kernel49.Gen.facts, Cert.Kernel49Ideal.Gen.facts, Cert.Reference49Ideal.Gen.facts, Cert.Pre_precondition.Gen.facts, Cert.Pre_ssd_finite.Gen.facts, Cert.Pre_conv_finite.Gen.facts,
  fun m ρ _ => Cert.Kernel.Gen.frame m ρ,
  fun m ρ _ => Cert.KernelIdeal.Gen.frame m ρ,
  fun m ρ _ => Cert.KernelIdeal.Gen.frame m ρ,
  frame_ReferenceIdeal,
  fun m ρ _ => frame_ReferenceIdeal m ρ trivial,
  fun m ρ _ => Cert.Kernel2.Gen.frame m ρ,
  fun m ρ _ => Cert.Kernel2Ideal.Gen.frame m ρ,
  frame_Reference2Ideal,
  fun m ρ _ => Cert.Kernel3.Gen.frame m ρ,
  fun m ρ _ => Cert.Kernel3Ideal.Gen.frame m ρ,
  frame_Reference3Ideal,
  fun m ρ _ => Cert.Kernel4.Gen.frame m ρ,
  fun m ρ _ => Cert.Kernel4Ideal.Gen.frame m ρ,
  frame_Reference4Ideal,
  fun m ρ _ => Cert.Kernel5.Gen.frame m ρ,
  fun m ρ _ => Cert.Kernel5Ideal.Gen.frame m ρ,
  frame_Reference5Ideal,
  fun m ρ _ => Cert.Kernel6.Gen.frame m ρ,
  fun m ρ _ => Cert.Kernel6Ideal.Gen.frame m ρ,
  fun m ρ _ => Cert.Kernel6Ideal.Gen.frame m ρ,
  frame_Reference6Ideal,
  fun m ρ _ => frame_Reference6Ideal m ρ trivial,
  fun m ρ _ => Cert.Kernel7.Gen.frame m ρ,
  fun m ρ _ => Cert.Kernel7Ideal.Gen.frame m ρ,
  frame_Reference7Ideal,
  fun m ρ _ => Cert.Kernel8.Gen.frame m ρ,
  fun m ρ _ => Cert.Kernel8Ideal.Gen.frame m ρ,
  frame_Reference8Ideal,
  fun m ρ _ => Cert.Kernel9.Gen.frame m ρ,
  fun m ρ _ => Cert.Kernel9Ideal.Gen.frame m ρ,
  frame_Reference9Ideal,
  fun m ρ _ => Cert.Kernel10.Gen.frame m ρ,
  fun m ρ _ => Cert.Kernel10Ideal.Gen.frame m ρ,
  frame_Reference10Ideal,
  fun m ρ _ => Cert.Kernel11.Gen.frame m ρ,
  fun m ρ _ => Cert.Kernel11Ideal.Gen.frame m ρ,
  frame_Reference11Ideal,
  fun m ρ _ => Cert.Kernel12.Gen.frame m ρ,
  fun m ρ _ => Cert.Kernel12Ideal.Gen.frame m ρ,
  frame_Reference12Ideal,
  fun m ρ _ => Cert.Kernel13.Gen.frame m ρ,
  fun m ρ _ => Cert.Kernel13Ideal.Gen.frame m ρ,
  frame_Reference13Ideal,
  fun m ρ _ => Cert.Kernel14.Gen.frame m ρ,
  fun m ρ _ => Cert.Kernel14Ideal.Gen.frame m ρ,
  frame_Reference14Ideal,
  fun m ρ _ => Cert.Kernel15.Gen.frame m ρ,
  fun m ρ _ => Cert.Kernel15Ideal.Gen.frame m ρ,
  frame_Reference15Ideal,
  fun m ρ _ => Cert.Kernel16.Gen.frame m ρ,
  fun m ρ _ => Cert.Kernel16Ideal.Gen.frame m ρ,
  frame_Reference16Ideal,
  fun m ρ _ => Cert.Kernel17.Gen.frame m ρ,
  fun m ρ _ => Cert.Kernel17Ideal.Gen.frame m ρ,
  frame_Reference17Ideal,
  fun m ρ _ => Cert.Kernel18.Gen.frame m ρ,
  fun m ρ _ => Cert.Kernel18Ideal.Gen.frame m ρ,
  frame_Reference18Ideal,
  fun m ρ _ => Cert.Kernel19.Gen.frame m ρ,
  fun m ρ _ => Cert.Kernel19Ideal.Gen.frame m ρ,
  frame_Reference19Ideal,
  fun m ρ _ => Cert.Kernel20.Gen.frame m ρ,
  fun m ρ _ => Cert.Kernel20Ideal.Gen.frame m ρ,
  frame_Reference20Ideal,
  fun m ρ _ => Cert.Kernel21.Gen.frame m ρ,
  fun m ρ _ => Cert.Kernel21Ideal.Gen.frame m ρ,
  frame_Reference21Ideal,
  fun m ρ _ => Cert.Kernel22.Gen.frame m ρ,
  fun m ρ _ => Cert.Kernel22Ideal.Gen.frame m ρ,
  frame_Reference22Ideal,
  fun m ρ _ => Cert.Kernel23.Gen.frame m ρ,
  fun m ρ _ => Cert.Kernel23Ideal.Gen.frame m ρ,
  frame_Reference23Ideal,
  fun m ρ _ => Cert.Kernel24.Gen.frame m ρ,
  fun m ρ _ => Cert.Kernel24Ideal.Gen.frame m ρ,
  frame_Reference24Ideal,
  fun m ρ _ => Cert.Kernel25.Gen.frame m ρ,
  fun m ρ _ => Cert.Kernel25Ideal.Gen.frame m ρ,
  frame_Reference25Ideal,
  fun m ρ _ => Cert.Kernel26.Gen.frame m ρ,
  fun m ρ _ => Cert.Kernel26Ideal.Gen.frame m ρ,
  frame_Reference26Ideal,
  fun m ρ _ => Cert.Kernel27.Gen.frame m ρ,
  fun m ρ _ => Cert.Kernel27Ideal.Gen.frame m ρ,
  frame_Reference27Ideal,
  fun m ρ _ => Cert.Kernel28.Gen.frame m ρ,
  fun m ρ _ => Cert.Kernel28Ideal.Gen.frame m ρ,
  frame_Reference28Ideal,
  fun m ρ _ => Cert.Kernel29.Gen.frame m ρ,
  fun m ρ _ => Cert.Kernel29Ideal.Gen.frame m ρ,
  frame_Reference29Ideal,
  fun m ρ _ => Cert.Kernel30.Gen.frame m ρ,
  fun m ρ _ => Cert.Kernel30Ideal.Gen.frame m ρ,
  frame_Reference30Ideal,
  fun m ρ _ => Cert.Kernel31.Gen.frame m ρ,
  fun m ρ _ => Cert.Kernel31Ideal.Gen.frame m ρ,
  frame_Reference31Ideal,
  fun m ρ _ => Cert.Kernel32.Gen.frame m ρ,
  fun m ρ _ => Cert.Kernel32Ideal.Gen.frame m ρ,
  frame_Reference32Ideal,
  fun m ρ _ => Cert.Kernel33.Gen.frame m ρ,
  fun m ρ _ => Cert.Kernel33Ideal.Gen.frame m ρ,
  frame_Reference33Ideal,
  fun m ρ _ => Cert.Kernel34.Gen.frame m ρ,
  fun m ρ _ => Cert.Kernel34Ideal.Gen.frame m ρ,
  frame_Reference34Ideal,
  fun m ρ _ => Cert.Kernel35.Gen.frame m ρ,
  fun m ρ _ => Cert.Kernel35Ideal.Gen.frame m ρ,
  frame_Reference35Ideal,
  fun m ρ _ => Cert.Kernel36.Gen.frame m ρ,
  fun m ρ _ => Cert.Kernel36Ideal.Gen.frame m ρ,
  frame_Reference36Ideal,
  fun m ρ _ => Cert.Kernel37.Gen.frame m ρ,
  fun m ρ _ => Cert.Kernel37Ideal.Gen.frame m ρ,
  frame_Reference37Ideal,
  fun m ρ _ => Cert.Kernel38.Gen.frame m ρ,
  fun m ρ _ => Cert.Kernel38Ideal.Gen.frame m ρ,
  frame_Reference38Ideal,
  fun m ρ _ => Cert.Kernel39.Gen.frame m ρ,
  fun m ρ _ => Cert.Kernel39Ideal.Gen.frame m ρ,
  frame_Reference39Ideal,
  fun m ρ _ => Cert.Kernel40.Gen.frame m ρ,
  fun m ρ _ => Cert.Kernel40Ideal.Gen.frame m ρ,
  frame_Reference40Ideal,
  fun m ρ _ => Cert.Kernel41.Gen.frame m ρ,
  fun m ρ _ => Cert.Kernel41Ideal.Gen.frame m ρ,
  frame_Reference41Ideal,
  fun m ρ _ => Cert.Kernel42.Gen.frame m ρ,
  fun m ρ _ => Cert.Kernel42Ideal.Gen.frame m ρ,
  frame_Reference42Ideal,
  fun m ρ _ => Cert.Kernel43.Gen.frame m ρ,
  fun m ρ _ => Cert.Kernel43Ideal.Gen.frame m ρ,
  frame_Reference43Ideal,
  fun m ρ _ => Cert.Kernel44.Gen.frame m ρ,
  fun m ρ _ => Cert.Kernel44Ideal.Gen.frame m ρ,
  frame_Reference44Ideal,
  fun m ρ _ => Cert.Kernel45.Gen.frame m ρ,
  fun m ρ _ => Cert.Kernel45Ideal.Gen.frame m ρ,
  frame_Reference45Ideal,
  fun m ρ _ => Cert.Kernel46.Gen.frame m ρ,
  fun m ρ _ => Cert.Kernel46Ideal.Gen.frame m ρ,
  frame_Reference46Ideal,
  fun m ρ _ => Cert.Kernel47.Gen.frame m ρ,
  fun m ρ _ => Cert.Kernel47Ideal.Gen.frame m ρ,
  fun m ρ _ => Cert.Kernel47Ideal.Gen.frame m ρ,
  frame_Reference47Ideal,
  fun m ρ _ => frame_Reference47Ideal m ρ trivial,
  fun m ρ _ => Cert.Kernel48.Gen.frame m ρ,
  fun m ρ _ => Cert.Kernel48Ideal.Gen.frame m ρ,
  frame_Reference48Ideal,
  fun m ρ _ => Cert.Kernel49.Gen.frame m ρ,
  fun m ρ _ => Cert.Kernel49Ideal.Gen.frame m ρ,
  frame_Reference49Ideal,
  trivial, algebraic_gate, trivial, algebraic_2, trivial, algebraic_3, trivial, algebraic_4, trivial, algebraic_5, trivial, algebraic_6, trivial, algebraic_7, trivial, algebraic_8, trivial, algebraic_9, trivial, algebraic_10, trivial, algebraic_11, trivial, algebraic_12, trivial, algebraic_13, trivial, algebraic_14, trivial, algebraic_15, trivial, algebraic_16, trivial, algebraic_17, trivial, algebraic_18, trivial, algebraic_19, trivial, algebraic_20, trivial, algebraic_21, trivial, algebraic_22, trivial, algebraic_23, trivial, algebraic_24, trivial, algebraic_25, trivial, algebraic_26, trivial, algebraic_27, trivial, algebraic_28, trivial, algebraic_29, trivial, algebraic_30, trivial, algebraic_31, trivial, algebraic_32, trivial, algebraic_33, trivial, algebraic_34, trivial, algebraic_35, trivial, algebraic_36, trivial, algebraic_37, trivial, algebraic_38, trivial, algebraic_39, trivial, algebraic_40, trivial, algebraic_41, trivial, algebraic_42, trivial, algebraic_43, trivial, algebraic_44, trivial, algebraic_45, trivial, algebraic_46, trivial, algebraic_47, trivial, algebraic_48, trivial, algebraic_49⟩

end Cert.Proof

end
